-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2.2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2.2.2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.2.2.1 = (fun _ => 1#1)
    ∧ (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.2.2.2 = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.2.2.1 = (fun _ => 1#1)
    ∧ (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4))).2.2.2.2 = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite14 [hPre_finite14 : Cert.Pre_finite14.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.2.2.1 = (fun _ => 1#1)
    ∧ (Cert.Pre_finite14.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4))).2.2.2.2 = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite14 [hPre_finite14 : Cert.Pre_finite14.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.2.2.1 = (fun _ => 1#1)
    ∧ (Cert.Pre_finite14.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4))).2.2.2.2 = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9)
      ∧ r.2.mem ((c.tc : Thread Cert.Kernel7.nD Cert.Kernel7.τ).loc Cert.Kernel7.main_arg10) = m ((c.tc : Thread Cert.Kernel7.nD Cert.Kernel7.τ).loc Cert.Kernel7.main_arg10)
      ∧ r.2.mem ((c.tc : Thread Cert.Kernel7.nD Cert.Kernel7.τ).loc Cert.Kernel7.main_arg11) = m ((c.tc : Thread Cert.Kernel7.nD Cert.Kernel7.τ).loc Cert.Kernel7.main_arg11)
      ∧ r.2.mem ((c.tc : Thread Cert.Kernel7.nD Cert.Kernel7.τ).loc Cert.Kernel7.main_arg12) = m ((c.tc : Thread Cert.Kernel7.nD Cert.Kernel7.τ).loc Cert.Kernel7.main_arg12)
      ∧ r.2.mem ((c.tc : Thread Cert.Kernel7.nD Cert.Kernel7.τ).loc Cert.Kernel7.main_arg13) = m ((c.tc : Thread Cert.Kernel7.nD Cert.Kernel7.τ).loc Cert.Kernel7.main_arg13)
      ∧ r.2.mem ((c.tc : Thread Cert.Kernel7.nD Cert.Kernel7.τ).loc Cert.Kernel7.main_arg14) = m ((c.tc : Thread Cert.Kernel7.nD Cert.Kernel7.τ).loc Cert.Kernel7.main_arg14)
      ∧ r.2.mem ((c.tc : Thread Cert.Kernel7.nD Cert.Kernel7.τ).loc Cert.Kernel7.main_arg15) = m ((c.tc : Thread Cert.Kernel7.nD Cert.Kernel7.τ).loc Cert.Kernel7.main_arg15))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
      ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
      ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
      ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
      ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
      ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
      ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8)
      ∧ r.2.mem ((c.tc : Thread Cert.Reference7Ideal.nD Cert.Reference7Ideal.τ).loc Cert.Reference7Ideal.main_arg9) = m ((c.tc : Thread Cert.Reference7Ideal.nD Cert.Reference7Ideal.τ).loc Cert.Reference7Ideal.main_arg9)
      ∧ r.2.mem ((c.tc : Thread Cert.Reference7Ideal.nD Cert.Reference7Ideal.τ).loc Cert.Reference7Ideal.main_arg10) = m ((c.tc : Thread Cert.Reference7Ideal.nD Cert.Reference7Ideal.τ).loc Cert.Reference7Ideal.main_arg10)
      ∧ r.2.mem ((c.tc : Thread Cert.Reference7Ideal.nD Cert.Reference7Ideal.τ).loc Cert.Reference7Ideal.main_arg11) = m ((c.tc : Thread Cert.Reference7Ideal.nD Cert.Reference7Ideal.τ).loc Cert.Reference7Ideal.main_arg11)
      ∧ r.2.mem ((c.tc : Thread Cert.Reference7Ideal.nD Cert.Reference7Ideal.τ).loc Cert.Reference7Ideal.main_arg12) = m ((c.tc : Thread Cert.Reference7Ideal.nD Cert.Reference7Ideal.τ).loc Cert.Reference7Ideal.main_arg12)
      ∧ r.2.mem ((c.tc : Thread Cert.Reference7Ideal.nD Cert.Reference7Ideal.τ).loc Cert.Reference7Ideal.main_arg13) = m ((c.tc : Thread Cert.Reference7Ideal.nD Cert.Reference7Ideal.τ).loc Cert.Reference7Ideal.main_arg13)
      ∧ r.2.mem ((c.tc : Thread Cert.Reference7Ideal.nD Cert.Reference7Ideal.τ).loc Cert.Reference7Ideal.main_arg14) = m ((c.tc : Thread Cert.Reference7Ideal.nD Cert.Reference7Ideal.τ).loc Cert.Reference7Ideal.main_arg14)
      ∧ r.2.mem ((c.tc : Thread Cert.Reference7Ideal.nD Cert.Reference7Ideal.τ).loc Cert.Reference7Ideal.main_arg15) = m ((c.tc : Thread Cert.Reference7Ideal.nD Cert.Reference7Ideal.τ).loc Cert.Reference7Ideal.main_arg15))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Kernel14Ideal_pre_finite14 [hKernel14Ideal : Cert.Kernel14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite14 m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Reference14Ideal_pre_finite14 [hReference14Ideal : Cert.Reference14Ideal.Facts] [hPre_finite14 : Cert.Pre_finite14.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite14 m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4)
      ∧ r.2.mem ((c.tc : Thread Cert.Kernel28.nD Cert.Kernel28.τ).loc Cert.Kernel28.main_arg5) = m ((c.tc : Thread Cert.Kernel28.nD Cert.Kernel28.τ).loc Cert.Kernel28.main_arg5)
      ∧ r.2.mem ((c.tc : Thread Cert.Kernel28.nD Cert.Kernel28.τ).loc Cert.Kernel28.main_arg6) = m ((c.tc : Thread Cert.Kernel28.nD Cert.Kernel28.τ).loc Cert.Kernel28.main_arg6)
      ∧ r.2.mem ((c.tc : Thread Cert.Kernel28.nD Cert.Kernel28.τ).loc Cert.Kernel28.main_arg7) = m ((c.tc : Thread Cert.Kernel28.nD Cert.Kernel28.τ).loc Cert.Kernel28.main_arg7)
      ∧ r.2.mem ((c.tc : Thread Cert.Kernel28.nD Cert.Kernel28.τ).loc Cert.Kernel28.main_arg8) = m ((c.tc : Thread Cert.Kernel28.nD Cert.Kernel28.τ).loc Cert.Kernel28.main_arg8))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
      ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6)
      ∧ r.2.mem ((c.tc : Thread Cert.Kernel28Ideal.nD Cert.Kernel28Ideal.τ).loc Cert.Kernel28Ideal.main_arg7) = m ((c.tc : Thread Cert.Kernel28Ideal.nD Cert.Kernel28Ideal.τ).loc Cert.Kernel28Ideal.main_arg7)
      ∧ r.2.mem ((c.tc : Thread Cert.Kernel28Ideal.nD Cert.Kernel28Ideal.τ).loc Cert.Kernel28Ideal.main_arg8) = m ((c.tc : Thread Cert.Kernel28Ideal.nD Cert.Kernel28Ideal.τ).loc Cert.Kernel28Ideal.main_arg8))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5)
      ∧ r.2.mem ((c.tc : Thread Cert.Reference28Ideal.nD Cert.Reference28Ideal.τ).loc Cert.Reference28Ideal.main_arg6) = m ((c.tc : Thread Cert.Reference28Ideal.nD Cert.Reference28Ideal.τ).loc Cert.Reference28Ideal.main_arg6)
      ∧ r.2.mem ((c.tc : Thread Cert.Reference28Ideal.nD Cert.Reference28Ideal.τ).loc Cert.Reference28Ideal.main_arg7) = m ((c.tc : Thread Cert.Reference28Ideal.nD Cert.Reference28Ideal.τ).loc Cert.Reference28Ideal.main_arg7)
      ∧ r.2.mem ((c.tc : Thread Cert.Reference28Ideal.nD Cert.Reference28Ideal.τ).loc Cert.Reference28Ideal.main_arg8) = m ((c.tc : Thread Cert.Reference28Ideal.nD Cert.Reference28Ideal.τ).loc Cert.Reference28Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v47) = v0 c
          ∧ r.2.mem ((c.tc : Thread Cert.Reference4Ideal.nD Cert.Reference4Ideal.τ).loc Cert.Reference4Ideal.main_v48) = v1 c
          ∧ r.2.mem ((c.tc : Thread Cert.Reference4Ideal.nD Cert.Reference4Ideal.τ).loc Cert.Reference4Ideal.main_v30) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_v9) = v1 c
          ∧ r.2.mem ((c.tc : Thread Cert.Reference5Ideal.nD Cert.Reference5Ideal.τ).loc Cert.Reference5Ideal.main_v12) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_v18) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)
      ∧ m' ((c.tc : Thread Cert.Reference7Ideal.nD Cert.Reference7Ideal.τ).loc Cert.Reference7Ideal.main_arg9) = m ((c.tc : Thread Cert.Kernel7Ideal.nD Cert.Kernel7Ideal.τ).loc Cert.Kernel7Ideal.main_arg9)
      ∧ m' ((c.tc : Thread Cert.Reference7Ideal.nD Cert.Reference7Ideal.τ).loc Cert.Reference7Ideal.main_arg10) = m ((c.tc : Thread Cert.Kernel7Ideal.nD Cert.Kernel7Ideal.τ).loc Cert.Kernel7Ideal.main_arg10)
      ∧ m' ((c.tc : Thread Cert.Reference7Ideal.nD Cert.Reference7Ideal.τ).loc Cert.Reference7Ideal.main_arg11) = m ((c.tc : Thread Cert.Kernel7Ideal.nD Cert.Kernel7Ideal.τ).loc Cert.Kernel7Ideal.main_arg11)
      ∧ m' ((c.tc : Thread Cert.Reference7Ideal.nD Cert.Reference7Ideal.τ).loc Cert.Reference7Ideal.main_arg12) = m ((c.tc : Thread Cert.Kernel7Ideal.nD Cert.Kernel7Ideal.τ).loc Cert.Kernel7Ideal.main_arg12)
      ∧ m' ((c.tc : Thread Cert.Reference7Ideal.nD Cert.Reference7Ideal.τ).loc Cert.Reference7Ideal.main_arg13) = m ((c.tc : Thread Cert.Kernel7Ideal.nD Cert.Kernel7Ideal.τ).loc Cert.Kernel7Ideal.main_arg13)
      ∧ m' ((c.tc : Thread Cert.Reference7Ideal.nD Cert.Reference7Ideal.τ).loc Cert.Reference7Ideal.main_arg14) = m ((c.tc : Thread Cert.Kernel7Ideal.nD Cert.Kernel7Ideal.τ).loc Cert.Kernel7Ideal.main_arg14)
      ∧ m' ((c.tc : Thread Cert.Reference7Ideal.nD Cert.Reference7Ideal.τ).loc Cert.Reference7Ideal.main_arg15) = m ((c.tc : Thread Cert.Kernel7Ideal.nD Cert.Kernel7Ideal.τ).loc Cert.Kernel7Ideal.main_arg15)) →
    ∃ (v0 : (c : Dev Cert.Kernel7Ideal.nD) → Buf (Elt Ideal) ((c.tc : Thread Cert.Kernel7Ideal.nD Cert.Kernel7Ideal.τ).loc Cert.Kernel7Ideal.main_v0_1)) (v1 : (c : Dev Cert.Kernel7Ideal.nD) → Buf (Elt Ideal) ((c.tc : Thread Cert.Kernel7Ideal.nD Cert.Kernel7Ideal.τ).loc Cert.Kernel7Ideal.main_v0_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_1) = v0 c
          ∧ r.2.mem ((c.tc : Thread Cert.Kernel7Ideal.nD Cert.Kernel7Ideal.τ).loc Cert.Kernel7Ideal.main_v0_2) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
          ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9)
          ∧ r.2.mem ((c.tc : Thread Cert.Kernel7Ideal.nD Cert.Kernel7Ideal.τ).loc Cert.Kernel7Ideal.main_arg10) = m ((c.tc : Thread Cert.Kernel7Ideal.nD Cert.Kernel7Ideal.τ).loc Cert.Kernel7Ideal.main_arg10)
          ∧ r.2.mem ((c.tc : Thread Cert.Kernel7Ideal.nD Cert.Kernel7Ideal.τ).loc Cert.Kernel7Ideal.main_arg11) = m ((c.tc : Thread Cert.Kernel7Ideal.nD Cert.Kernel7Ideal.τ).loc Cert.Kernel7Ideal.main_arg11)
          ∧ r.2.mem ((c.tc : Thread Cert.Kernel7Ideal.nD Cert.Kernel7Ideal.τ).loc Cert.Kernel7Ideal.main_arg12) = m ((c.tc : Thread Cert.Kernel7Ideal.nD Cert.Kernel7Ideal.τ).loc Cert.Kernel7Ideal.main_arg12)
          ∧ r.2.mem ((c.tc : Thread Cert.Kernel7Ideal.nD Cert.Kernel7Ideal.τ).loc Cert.Kernel7Ideal.main_arg13) = m ((c.tc : Thread Cert.Kernel7Ideal.nD Cert.Kernel7Ideal.τ).loc Cert.Kernel7Ideal.main_arg13)
          ∧ r.2.mem ((c.tc : Thread Cert.Kernel7Ideal.nD Cert.Kernel7Ideal.τ).loc Cert.Kernel7Ideal.main_arg14) = m ((c.tc : Thread Cert.Kernel7Ideal.nD Cert.Kernel7Ideal.τ).loc Cert.Kernel7Ideal.main_arg14)
          ∧ r.2.mem ((c.tc : Thread Cert.Kernel7Ideal.nD Cert.Kernel7Ideal.τ).loc Cert.Kernel7Ideal.main_arg15) = m ((c.tc : Thread Cert.Kernel7Ideal.nD Cert.Kernel7Ideal.τ).loc Cert.Kernel7Ideal.main_arg15))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v34) = v0 c
          ∧ r.2.mem ((c.tc : Thread Cert.Reference7Ideal.nD Cert.Reference7Ideal.τ).loc Cert.Reference7Ideal.main_v32) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8)
          ∧ r.2.mem ((c.tc : Thread Cert.Reference7Ideal.nD Cert.Reference7Ideal.τ).loc Cert.Reference7Ideal.main_arg9) = m' ((c.tc : Thread Cert.Reference7Ideal.nD Cert.Reference7Ideal.τ).loc Cert.Reference7Ideal.main_arg9)
          ∧ r.2.mem ((c.tc : Thread Cert.Reference7Ideal.nD Cert.Reference7Ideal.τ).loc Cert.Reference7Ideal.main_arg10) = m' ((c.tc : Thread Cert.Reference7Ideal.nD Cert.Reference7Ideal.τ).loc Cert.Reference7Ideal.main_arg10)
          ∧ r.2.mem ((c.tc : Thread Cert.Reference7Ideal.nD Cert.Reference7Ideal.τ).loc Cert.Reference7Ideal.main_arg11) = m' ((c.tc : Thread Cert.Reference7Ideal.nD Cert.Reference7Ideal.τ).loc Cert.Reference7Ideal.main_arg11)
          ∧ r.2.mem ((c.tc : Thread Cert.Reference7Ideal.nD Cert.Reference7Ideal.τ).loc Cert.Reference7Ideal.main_arg12) = m' ((c.tc : Thread Cert.Reference7Ideal.nD Cert.Reference7Ideal.τ).loc Cert.Reference7Ideal.main_arg12)
          ∧ r.2.mem ((c.tc : Thread Cert.Reference7Ideal.nD Cert.Reference7Ideal.τ).loc Cert.Reference7Ideal.main_arg13) = m' ((c.tc : Thread Cert.Reference7Ideal.nD Cert.Reference7Ideal.τ).loc Cert.Reference7Ideal.main_arg13)
          ∧ r.2.mem ((c.tc : Thread Cert.Reference7Ideal.nD Cert.Reference7Ideal.τ).loc Cert.Reference7Ideal.main_arg14) = m' ((c.tc : Thread Cert.Reference7Ideal.nD Cert.Reference7Ideal.τ).loc Cert.Reference7Ideal.main_arg14)
          ∧ r.2.mem ((c.tc : Thread Cert.Reference7Ideal.nD Cert.Reference7Ideal.τ).loc Cert.Reference7Ideal.main_arg15) = m' ((c.tc : Thread Cert.Reference7Ideal.nD Cert.Reference7Ideal.τ).loc Cert.Reference7Ideal.main_arg15))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v8) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v40) = v0 c
          ∧ r.2.mem ((c.tc : Thread Cert.Reference11Ideal.nD Cert.Reference11Ideal.τ).loc Cert.Reference11Ideal.main_v41) = v1 c
          ∧ r.2.mem ((c.tc : Thread Cert.Reference11Ideal.nD Cert.Reference11Ideal.τ).loc Cert.Reference11Ideal.main_v23) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_v16) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal_pre_finite14 [hKernel14Ideal : Cert.Kernel14Ideal.Facts] [hReference14Ideal : Cert.Reference14Ideal.Facts] [hPre_finite14 : Cert.Pre_finite14.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite14 m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v54) = v0 c
          ∧ r.2.mem ((c.tc : Thread Cert.Reference14Ideal.nD Cert.Reference14Ideal.τ).loc Cert.Reference14Ideal.main_v55) = v1 c
          ∧ r.2.mem ((c.tc : Thread Cert.Reference14Ideal.nD Cert.Reference14Ideal.τ).loc Cert.Reference14Ideal.main_v56) = v2 c
          ∧ r.2.mem ((c.tc : Thread Cert.Reference14Ideal.nD Cert.Reference14Ideal.τ).loc Cert.Reference14Ideal.main_v38) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_arg1) = v0 c
          ∧ r.2.mem ((c.tc : Thread Cert.Reference15Ideal.nD Cert.Reference15Ideal.τ).loc Cert.Reference15Ideal.main_v23) = v1 c
          ∧ r.2.mem ((c.tc : Thread Cert.Reference15Ideal.nD Cert.Reference15Ideal.τ).loc Cert.Reference15Ideal.main_v4) = v2 c
          ∧ r.2.mem ((c.tc : Thread Cert.Reference15Ideal.nD Cert.Reference15Ideal.τ).loc Cert.Reference15Ideal.main_v10) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_arg1) = v0 c
          ∧ r.2.mem ((c.tc : Thread Cert.Reference16Ideal.nD Cert.Reference16Ideal.τ).loc Cert.Reference16Ideal.main_v23) = v1 c
          ∧ r.2.mem ((c.tc : Thread Cert.Reference16Ideal.nD Cert.Reference16Ideal.τ).loc Cert.Reference16Ideal.main_v4) = v2 c
          ∧ r.2.mem ((c.tc : Thread Cert.Reference16Ideal.nD Cert.Reference16Ideal.τ).loc Cert.Reference16Ideal.main_v10) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_arg1) = v0 c
          ∧ r.2.mem ((c.tc : Thread Cert.Reference17Ideal.nD Cert.Reference17Ideal.τ).loc Cert.Reference17Ideal.main_v23) = v1 c
          ∧ r.2.mem ((c.tc : Thread Cert.Reference17Ideal.nD Cert.Reference17Ideal.τ).loc Cert.Reference17Ideal.main_v4) = v2 c
          ∧ r.2.mem ((c.tc : Thread Cert.Reference17Ideal.nD Cert.Reference17Ideal.τ).loc Cert.Reference17Ideal.main_v10) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_arg1) = v0 c
          ∧ r.2.mem ((c.tc : Thread Cert.Reference18Ideal.nD Cert.Reference18Ideal.τ).loc Cert.Reference18Ideal.main_v23) = v1 c
          ∧ r.2.mem ((c.tc : Thread Cert.Reference18Ideal.nD Cert.Reference18Ideal.τ).loc Cert.Reference18Ideal.main_v4) = v2 c
          ∧ r.2.mem ((c.tc : Thread Cert.Reference18Ideal.nD Cert.Reference18Ideal.τ).loc Cert.Reference18Ideal.main_v10) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v24) = v1 c
          ∧ r.2.mem ((c.tc : Thread Cert.Reference19Ideal.nD Cert.Reference19Ideal.τ).loc Cert.Reference19Ideal.main_v5) = v2 c
          ∧ r.2.mem ((c.tc : Thread Cert.Reference19Ideal.nD Cert.Reference19Ideal.τ).loc Cert.Reference19Ideal.main_v11) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v1) = v0 c
          ∧ r.2.mem ((c.tc : Thread Cert.Reference20Ideal.nD Cert.Reference20Ideal.τ).loc Cert.Reference20Ideal.main_v25) = v1 c
          ∧ r.2.mem ((c.tc : Thread Cert.Reference20Ideal.nD Cert.Reference20Ideal.τ).loc Cert.Reference20Ideal.main_v6) = v2 c
          ∧ r.2.mem ((c.tc : Thread Cert.Reference20Ideal.nD Cert.Reference20Ideal.τ).loc Cert.Reference20Ideal.main_v12) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v12) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)) (v4 : (c : Dev Cert.Kernel22Ideal.nD) → Buf (Elt Ideal) ((c.tc : Thread Cert.Kernel22Ideal.nD Cert.Kernel22Ideal.τ).loc Cert.Kernel22Ideal.main_v0_4)) (v5 : (c : Dev Cert.Kernel22Ideal.nD) → Buf (Elt Ideal) ((c.tc : Thread Cert.Kernel22Ideal.nD Cert.Kernel22Ideal.τ).loc Cert.Kernel22Ideal.main_v0_5)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_v0_4) = v4 c
          ∧ r.2.mem ((c.tc : Thread Cert.Kernel22Ideal.nD Cert.Kernel22Ideal.τ).loc Cert.Kernel22Ideal.main_v0_5) = v5 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v5) = v0 c
          ∧ r.2.mem ((c.tc : Thread Cert.Reference22Ideal.nD Cert.Reference22Ideal.τ).loc Cert.Reference22Ideal.main_v8) = v1 c
          ∧ r.2.mem ((c.tc : Thread Cert.Reference22Ideal.nD Cert.Reference22Ideal.τ).loc Cert.Reference22Ideal.main_v32) = v2 c
          ∧ r.2.mem ((c.tc : Thread Cert.Reference22Ideal.nD Cert.Reference22Ideal.τ).loc Cert.Reference22Ideal.main_v33) = v3 c
          ∧ r.2.mem ((c.tc : Thread Cert.Reference22Ideal.nD Cert.Reference22Ideal.τ).loc Cert.Reference22Ideal.main_v34) = v4 c
          ∧ r.2.mem ((c.tc : Thread Cert.Reference22Ideal.nD Cert.Reference22Ideal.τ).loc Cert.Reference22Ideal.main_v35) = v5 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v1) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v1) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v1) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v1) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v0) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)
      ∧ m' ((c.tc : Thread Cert.Reference28Ideal.nD Cert.Reference28Ideal.τ).loc Cert.Reference28Ideal.main_arg5) = m ((c.tc : Thread Cert.Kernel28Ideal.nD Cert.Kernel28Ideal.τ).loc Cert.Kernel28Ideal.main_arg5)
      ∧ m' ((c.tc : Thread Cert.Reference28Ideal.nD Cert.Reference28Ideal.τ).loc Cert.Reference28Ideal.main_arg6) = m ((c.tc : Thread Cert.Kernel28Ideal.nD Cert.Kernel28Ideal.τ).loc Cert.Kernel28Ideal.main_arg6)
      ∧ m' ((c.tc : Thread Cert.Reference28Ideal.nD Cert.Reference28Ideal.τ).loc Cert.Reference28Ideal.main_arg7) = m ((c.tc : Thread Cert.Kernel28Ideal.nD Cert.Kernel28Ideal.τ).loc Cert.Kernel28Ideal.main_arg7)
      ∧ m' ((c.tc : Thread Cert.Reference28Ideal.nD Cert.Reference28Ideal.τ).loc Cert.Reference28Ideal.main_arg8) = m ((c.tc : Thread Cert.Kernel28Ideal.nD Cert.Kernel28Ideal.τ).loc Cert.Kernel28Ideal.main_arg8)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)) (v4 : (c : Dev Cert.Kernel28Ideal.nD) → Buf (Elt Ideal) ((c.tc : Thread Cert.Kernel28Ideal.nD Cert.Kernel28Ideal.τ).loc Cert.Kernel28Ideal.main_v0_4)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_v0_4) = v4 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
          ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
          ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6)
          ∧ r.2.mem ((c.tc : Thread Cert.Kernel28Ideal.nD Cert.Kernel28Ideal.τ).loc Cert.Kernel28Ideal.main_arg7) = m ((c.tc : Thread Cert.Kernel28Ideal.nD Cert.Kernel28Ideal.τ).loc Cert.Kernel28Ideal.main_arg7)
          ∧ r.2.mem ((c.tc : Thread Cert.Kernel28Ideal.nD Cert.Kernel28Ideal.τ).loc Cert.Kernel28Ideal.main_arg8) = m ((c.tc : Thread Cert.Kernel28Ideal.nD Cert.Kernel28Ideal.τ).loc Cert.Kernel28Ideal.main_arg8))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v119) = v0 c
          ∧ r.2.mem ((c.tc : Thread Cert.Reference28Ideal.nD Cert.Reference28Ideal.τ).loc Cert.Reference28Ideal.main_v114) = v1 c
          ∧ r.2.mem ((c.tc : Thread Cert.Reference28Ideal.nD Cert.Reference28Ideal.τ).loc Cert.Reference28Ideal.main_v120) = v2 c
          ∧ r.2.mem ((c.tc : Thread Cert.Reference28Ideal.nD Cert.Reference28Ideal.τ).loc Cert.Reference28Ideal.main_v63) = v3 c
          ∧ r.2.mem ((c.tc : Thread Cert.Reference28Ideal.nD Cert.Reference28Ideal.τ).loc Cert.Reference28Ideal.main_v56) = v4 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4)
          ∧ r.2.mem ((c.tc : Thread Cert.Reference28Ideal.nD Cert.Reference28Ideal.τ).loc Cert.Reference28Ideal.main_arg5) = m' ((c.tc : Thread Cert.Reference28Ideal.nD Cert.Reference28Ideal.τ).loc Cert.Reference28Ideal.main_arg5)
          ∧ r.2.mem ((c.tc : Thread Cert.Reference28Ideal.nD Cert.Reference28Ideal.τ).loc Cert.Reference28Ideal.main_arg6) = m' ((c.tc : Thread Cert.Reference28Ideal.nD Cert.Reference28Ideal.τ).loc Cert.Reference28Ideal.main_arg6)
          ∧ r.2.mem ((c.tc : Thread Cert.Reference28Ideal.nD Cert.Reference28Ideal.τ).loc Cert.Reference28Ideal.main_arg7) = m' ((c.tc : Thread Cert.Reference28Ideal.nD Cert.Reference28Ideal.τ).loc Cert.Reference28Ideal.main_arg7)
          ∧ r.2.mem ((c.tc : Thread Cert.Reference28Ideal.nD Cert.Reference28Ideal.τ).loc Cert.Reference28Ideal.main_arg8) = m' ((c.tc : Thread Cert.Reference28Ideal.nD Cert.Reference28Ideal.τ).loc Cert.Reference28Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hPre_finite : Cert.Pre_finite.Facts) (hPre_finite4 : Cert.Pre_finite4.Facts) (hPre_finite11 : Cert.Pre_finite11.Facts) (hPre_finite14 : Cert.Pre_finite14.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite14 (hKernel14Ideal := hKernel14Ideal) (hPre_finite14 := hPre_finite14)
    ∧ quiescent_Reference14Ideal (hReference14Ideal := hReference14Ideal)
    ∧ quiescent_Reference14Ideal_pre_finite14 (hReference14Ideal := hReference14Ideal) (hPre_finite14 := hPre_finite14)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal_pre_finite11 (hKernel11Ideal := hKernel11Ideal) (hReference11Ideal := hReference11Ideal) (hPre_finite11 := hPre_finite11)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite14 (hKernel14Ideal := hKernel14Ideal) (hReference14Ideal := hReference14Ideal) (hPre_finite14 := hPre_finite14)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
-- ==== Pre_finite.lean ====
abbrev S4096x1024 : Shape := ⟨2, ![4096, 1024]⟩
abbrev S4x704x1024 : Shape := ⟨3, ![4, 704, 1024]⟩
abbrev S4x4096x704 : Shape := ⟨3, ![4, 4096, 704]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S4x704x1024 : S_.BroadcastsInDim S4x704x1024 (![] : Fin 0 → Fin S4x704x1024.rank)
  bcast_S_S4x4096x704 : S_.BroadcastsInDim S4x4096x704 (![] : Fin 0 → Fin S4x4096x704.rank)

variable [Facts]

def fn {F : FTy → Type} [FloatOps F] (main_arg0 : FVec F S4096x1024 .bf16) (main_arg1 : FVec F S4x704x1024 .bf16) (main_arg2 : FVec F S4x4096x704 .bf16) (main_arg3 : FVec F S4x4096x704 .bf16) : IVec S4096x1024 1 × IVec S4x704x1024 1 × IVec S4x4096x704 1 × IVec S4x4096x704 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S4x704x1024 .f32 := (extf .f32 · bitsLt_bf16_f32) main_arg1
  let main_v5 : FVec F S4x704x1024 .f32 := Host.absf main_v4
  let main_cst_0 : FVec F S_ .f32 := constant S_ .f32 0x7F800000#32
  let main_v6 : FVec F S4x704x1024 .f32 := broadcastInDim S4x704x1024 ![] bcast_S_S4x704x1024 main_cst_0
  let main_v7 : IVec S4x704x1024 1 := cmpf .olt main_v5 main_v6
  let main_v8 : FVec F S4x4096x704 .f32 := (extf .f32 · bitsLt_bf16_f32) main_arg2
  let main_v9 : FVec F S4x4096x704 .f32 := Host.absf main_v8
  let main_cst_1 : FVec F S_ .f32 := constant S_ .f32 0x7F800000#32
  let main_v10 : FVec F S4x4096x704 .f32 := broadcastInDim S4x4096x704 ![] bcast_S_S4x4096x704 main_cst_1
  let main_v11 : IVec S4x4096x704 1 := cmpf .olt main_v9 main_v10
  let main_v12 : FVec F S4x4096x704 .f32 := (extf .f32 · bitsLt_bf16_f32) main_arg3
  let main_v13 : FVec F S4x4096x704 .f32 := Host.absf main_v12
  let main_cst_2 : FVec F S_ .f32 := constant S_ .f32 0x7F800000#32
  let main_v14 : FVec F S4x4096x704 .f32 := broadcastInDim S4x4096x704 ![] bcast_S_S4x4096x704 main_cst_2
  let main_v15 : IVec S4x4096x704 1 := cmpf .olt main_v13 main_v14
  (main_v3, main_v7, main_v11, main_v15)
-- ==== Pre_finite11.lean ====
abbrev S4096x1536 : Shape := ⟨2, ![4096, 1536]⟩
abbrev S4x1024x384 : Shape := ⟨3, ![4, 1024, 384]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x1536 : S_.BroadcastsInDim S4096x1536 (![] : Fin 0 → Fin S4096x1536.rank)
  bcast_S_S4x1024x384 : S_.BroadcastsInDim S4x1024x384 (![] : Fin 0 → Fin S4x1024x384.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x1536 .bf16) (main_arg1 : FVec F S4x1024x384 .bf16) (main_arg2 : FVec F S4096x1024 .f32) (main_arg3 : FVec F S1x1024 .f32) (main_arg4 : FVec F S4096x1024 .f32) : IVec S4096x1536 1 × IVec S4x1024x384 1 × IVec S4096x1024 1 × IVec S1x1024 1 × IVec S4096x1024 1 :=
  let main_v0 : FVec F S4096x1536 .f32 := (extf .f32 · bitsLt_bf16_f32) main_arg0
  let main_v1 : FVec F S4096x1536 .f32 := Host.absf main_v0
  let main_cst : FVec F S_ .f32 := constant S_ .f32 0x7F800000#32
  let main_v2 : FVec F S4096x1536 .f32 := broadcastInDim S4096x1536 ![] bcast_S_S4096x1536 main_cst
  let main_v3 : IVec S4096x1536 1 := cmpf .olt main_v1 main_v2
  let main_v4 : FVec F S4x1024x384 .f32 := (extf .f32 · bitsLt_bf16_f32) main_arg1
  let main_v5 : FVec F S4x1024x384 .f32 := Host.absf main_v4
  let main_cst_0 : FVec F S_ .f32 := constant S_ .f32 0x7F800000#32
  let main_v6 : FVec F S4x1024x384 .f32 := broadcastInDim S4x1024x384 ![] bcast_S_S4x1024x384 main_cst_0
  let main_v7 : IVec S4x1024x384 1 := cmpf .olt main_v5 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S4096x1024 .f32 := Host.absf main_arg4
  let main_cst_3 : FVec F S_ .f32 := constant S_ .f32 0x7F800000#32
  let main_v15 : FVec F S4096x1024 .f32 := broadcastInDim S4096x1024 ![] bcast_S_S4096x1024 main_cst_3
  let main_v16 : IVec S4096x1024 1 := cmpf .olt main_v14 main_v15
  (main_v3, main_v7, main_v10, main_v13, main_v16)
-- ==== Pre_finite14.lean ====
abbrev S4x4096x704 : Shape := ⟨3, ![4, 4096, 704]⟩
abbrev S4x704x1024 : Shape := ⟨3, ![4, 704, 1024]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4x4096x704 : S_.BroadcastsInDim S4x4096x704 (![] : Fin 0 → Fin S4x4096x704.rank)
  bcast_S_S4x704x1024 : S_.BroadcastsInDim S4x704x1024 (![] : Fin 0 → Fin S4x704x1024.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4x4096x704 .bf16) (main_arg1 : FVec F S4x704x1024 .bf16) (main_arg2 : FVec F S4096x1024 .f32) (main_arg3 : FVec F S1x1024 .f32) (main_arg4 : FVec F S4096x1024 .f32) : IVec S4x4096x704 1 × IVec S4x704x1024 1 × IVec S4096x1024 1 × IVec S1x1024 1 × IVec S4096x1024 1 :=
  let main_v0 : FVec F S4x4096x704 .f32 := (extf .f32 · bitsLt_bf16_f32) main_arg0
  let main_v1 : FVec F S4x4096x704 .f32 := Host.absf main_v0
  let main_cst : FVec F S_ .f32 := constant S_ .f32 0x7F800000#32
  let main_v2 : FVec F S4x4096x704 .f32 := broadcastInDim S4x4096x704 ![] bcast_S_S4x4096x704 main_cst
  let main_v3 : IVec S4x4096x704 1 := cmpf .olt main_v1 main_v2
  let main_v4 : FVec F S4x704x1024 .f32 := (extf .f32 · bitsLt_bf16_f32) main_arg1
  let main_v5 : FVec F S4x704x1024 .f32 := Host.absf main_v4
  let main_cst_0 : FVec F S_ .f32 := constant S_ .f32 0x7F800000#32
  let main_v6 : FVec F S4x704x1024 .f32 := broadcastInDim S4x704x1024 ![] bcast_S_S4x704x1024 main_cst_0
  let main_v7 : IVec S4x704x1024 1 := cmpf .olt main_v5 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  let main_v14 : FVec F S4096x1024 .f32 := Host.absf main_arg4
  let main_cst_3 : FVec F S_ .f32 := constant S_ .f32 0x7F800000#32
  let main_v15 : FVec F S4096x1024 .f32 := broadcastInDim S4096x1024 ![] bcast_S_S4096x1024 main_cst_3
  let main_v16 : IVec S4096x1024 1 := cmpf .olt main_v14 main_v15
  (main_v3, main_v7, main_v10, main_v13, main_v16)
-- ==== Pre_finite4.lean ====
abbrev S4x4096x704 : Shape := ⟨3, ![4, 4096, 704]⟩
abbrev S4x704x1024 : Shape := ⟨3, ![4, 704, 1024]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4x4096x704 : S_.BroadcastsInDim S4x4096x704 (![] : Fin 0 → Fin S4x4096x704.rank)
  bcast_S_S4x704x1024 : S_.BroadcastsInDim S4x704x1024 (![] : Fin 0 → Fin S4x704x1024.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn_part1 {F : FTy → Type} [FloatOps F] (main_arg5 : FVec F S1x1024 .f32) (main_arg6 : FVec F S4096x1024 .f32) (main_v3 : IVec S4x4096x704 1) (main_v7 : IVec S4x4096x704 1) (main_v11 : IVec S4x704x1024 1) (main_v15 : IVec S4x704x1024 1) (main_v18 : IVec S4096x1024 1) : IVec S4x4096x704 1 × IVec S4x4096x704 1 × IVec S4x704x1024 1 × IVec S4x704x1024 1 × IVec S4096x1024 1 × IVec S1x1024 1 × IVec S4096x1024 1 :=
  let main_v19 : FVec F S1x1024 .f32 := Host.absf main_arg5
  let main_cst_4 : FVec F S_ .f32 := constant S_ .f32 0x7F800000#32
  let main_v20 : FVec F S1x1024 .f32 := broadcastInDim S1x1024 ![] bcast_S_S1x1024 main_cst_4
  let main_v21 : IVec S1x1024 1 := cmpf .olt main_v19 main_v20
  let main_v22 : FVec F S4096x1024 .f32 := Host.absf main_arg6
  let main_cst_5 : FVec F S_ .f32 := constant S_ .f32 0x7F800000#32
  let main_v23 : FVec F S4096x1024 .f32 := broadcastInDim S4096x1024 ![] bcast_S_S4096x1024 main_cst_5
  let main_v24 : IVec S4096x1024 1 := cmpf .olt main_v22 main_v23
  (main_v3, main_v7, main_v11, main_v15, main_v18, main_v21, main_v24)

def fn {F : FTy → Type} [FloatOps F] (main_arg0 : FVec F S4x4096x704 .bf16) (main_arg1 : FVec F S4x4096x704 .bf16) (main_arg2 : FVec F S4x704x1024 .bf16) (main_arg3 : FVec F S4x704x1024 .bf16) (main_arg4 : FVec F S4096x1024 .f32) (main_arg5 : FVec F S1x1024 .f32) (main_arg6 : FVec F S4096x1024 .f32) : IVec S4x4096x704 1 × IVec S4x4096x704 1 × IVec S4x704x1024 1 × IVec S4x704x1024 1 × IVec S4096x1024 1 × IVec S1x1024 1 × IVec S4096x1024 1 :=
  let main_v0 : FVec F S4x4096x704 .f32 := (extf .f32 · bitsLt_bf16_f32) main_arg0
  let main_v1 : FVec F S4x4096x704 .f32 := Host.absf main_v0
  let main_cst : FVec F S_ .f32 := constant S_ .f32 0x7F800000#32
  let main_v2 : FVec F S4x4096x704 .f32 := broadcastInDim S4x4096x704 ![] bcast_S_S4x4096x704 main_cst
  let main_v3 : IVec S4x4096x704 1 := cmpf .olt main_v1 main_v2
  let main_v4 : FVec F S4x4096x704 .f32 := (extf .f32 · bitsLt_bf16_f32) main_arg1
  let main_v5 : FVec F S4x4096x704 .f32 := Host.absf main_v4
  let main_cst_0 : FVec F S_ .f32 := constant S_ .f32 0x7F800000#32
  let main_v6 : FVec F S4x4096x704 .f32 := broadcastInDim S4x4096x704 ![] bcast_S_S4x4096x704 main_cst_0
  let main_v7 : IVec S4x4096x704 1 := cmpf .olt main_v5 main_v6
  let main_v8 : FVec F S4x704x1024 .f32 := (extf .f32 · bitsLt_bf16_f32) main_arg2
  let main_v9 : FVec F S4x704x1024 .f32 := Host.absf main_v8
  let main_cst_1 : FVec F S_ .f32 := constant S_ .f32 0x7F800000#32
  let main_v10 : FVec F S4x704x1024 .f32 := broadcastInDim S4x704x1024 ![] bcast_S_S4x704x1024 main_cst_1
  let main_v11 : IVec S4x704x1024 1 := cmpf .olt main_v9 main_v10
  let main_v12 : FVec F S4x704x1024 .f32 := (extf .f32 · bitsLt_bf16_f32) main_arg3
  let main_v13 : FVec F S4x704x1024 .f32 := Host.absf main_v12
  let main_cst_2 : FVec F S_ .f32 := constant S_ .f32 0x7F800000#32
  let main_v14 : FVec F S4x704x1024 .f32 := broadcastInDim S4x704x1024 ![] bcast_S_S4x704x1024 main_cst_2
  let main_v15 : IVec S4x704x1024 1 := cmpf .olt main_v13 main_v14
  let main_v16 : FVec F S4096x1024 .f32 := Host.absf main_arg4
  let main_cst_3 : FVec F S_ .f32 := constant S_ .f32 0x7F800000#32
  let main_v17 : FVec F S4096x1024 .f32 := broadcastInDim S4096x1024 ![] bcast_S_S4096x1024 main_cst_3
  let main_v18 : IVec S4096x1024 1 := cmpf .olt main_v16 main_v17
  fn_part1 (F := F) main_arg5 main_arg6 main_v3 main_v7 main_v11 main_v15 main_v18
-- ==== Kernel.lean ====
abbrev S4096x1024 : Shape := ⟨2, ![4096, 1024]⟩
abbrev S4x704x1024 : Shape := ⟨3, ![4, 704, 1024]⟩
abbrev S4x4096x704 : Shape := ⟨3, ![4, 4096, 704]⟩
abbrev S1024x1024 : Shape := ⟨2, ![1024, 1024]⟩
abbrev S1x1024x704 : Shape := ⟨3, ![1, 1024, 704]⟩
abbrev S1x704x1024 : Shape := ⟨3, ![1, 704, 1024]⟩
abbrev S704x1024 : Shape := ⟨2, ![704, 1024]⟩
abbrev S1024x704 : Shape := ⟨2, ![1024, 704]⟩

abbrev nBuf : Space → Nat
  | .hbm => 6
  | .vmem => 11
  | .smem => 0
  | _ => 0

abbrev bufTy : (tb : Table) → Fin (tcTables nBuf tb) → BufTy
  | .hbm, ⟨0, _⟩ => ⟨S4096x1024, .bf16⟩
  | .hbm, ⟨1, _⟩ => ⟨S4x704x1024, .bf16⟩
  | .hbm, ⟨2, _⟩ => ⟨S4x4096x704, .bf16⟩
  | .hbm, ⟨3, _⟩ => ⟨S4x4096x704, .bf16⟩
  | .hbm, ⟨4, _⟩ => ⟨S4x4096x704, .bf16⟩
  | .hbm, ⟨5, _⟩ => ⟨S4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S4x704x1024, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 4], ![false, false]⟩

def k0_off1 (i : grid0.Coords) : Fin 3 → Nat :=
  let arg1 : BitVec 32 := BitVec.ofNat 32 (i 1).val
  let v1 : Index := Scalar.indexCast arg1
  let c0_1 : Index := 0#32
  let c0_2 : Index := 0#32
  ![v1.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4096x1024 : Shape := ⟨2, ![4096, 1024]⟩
abbrev S4x704x1024 : Shape := ⟨3, ![4, 704, 1024]⟩
abbrev S4x4096x704 : Shape := ⟨3, ![4, 4096, 704]⟩
abbrev S_ : Shape := ⟨0, ![]⟩
abbrev S4096x4x704 : Shape := ⟨3, ![4096, 4, 704]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x704x1024, .bf16⟩
  | .hbm, ⟨2, _⟩ => ⟨S4x4096x704, .bf16⟩
  | .hbm, ⟨3, _⟩ => ⟨S4x4096x704, .bf16⟩
  | .hbm, ⟨4, _⟩ => ⟨S4x4096x704, .f32⟩
  | .hbm, ⟨5, _⟩ => ⟨S4x4096x704, .f32⟩
  | .hbm, ⟨6, _⟩ => ⟨S4x4096x704, .f32⟩
  | .hbm, ⟨7, _⟩ => ⟨S4x4096x704, .f32⟩
  | .hbm, ⟨8, _⟩ => ⟨S_, .f32⟩
  | .hbm, ⟨9, _⟩ => ⟨S4x4096x704, .f32⟩
  | .hbm, ⟨10, _⟩ => ⟨S4x4096x704, .f32⟩
  | .hbm, ⟨11, _⟩ => ⟨S_, .f32⟩
  | .hbm, ⟨12, _⟩ => ⟨S4x4096x704, .f32⟩
  | .hbm, ⟨13, _⟩ => ⟨S4x4096x704, .f32⟩
  | .hbm, ⟨14, _⟩ => ⟨S_, .f32⟩
  | .hbm, ⟨15, _⟩ => ⟨S4x4096x704, .f32⟩
  | .hbm, ⟨16, _⟩ => ⟨S4x4096x704, .f32⟩
  | .hbm, ⟨17, _⟩ => ⟨S4x4096x704, .f32⟩
  | .hbm, ⟨18, _⟩ => ⟨S4x4096x704, .f32⟩
  | .hbm, ⟨19, _⟩ => ⟨S4x4096x704, .f32⟩
  | .hbm, ⟨20, _⟩ => ⟨S4x704x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x4x704, .f32⟩
  | .hbm, ⟨30, _⟩ => ⟨S4x4096x704, .f32⟩
  | .hbm, ⟨31, _⟩ => ⟨S4x4096x704, .f32⟩
  | .hbm, ⟨32, _⟩ => ⟨S4x4096x704, .f32⟩
  | .hbm, ⟨33, _⟩ => ⟨S4x4096x704, .f32⟩
  | .hbm, ⟨34, _⟩ => ⟨S4x4096x704, .f32⟩
  | .hbm, ⟨35, _⟩ => ⟨S4x4096x704, .f32⟩
  | .hbm, ⟨36, _⟩ => ⟨S4x4096x704, .f32⟩
  | .hbm, ⟨37, _⟩ => ⟨S4x4096x704, .bf16⟩
  | .hbm, ⟨38, _⟩ => ⟨S4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩

abbrev nD : Nat := 1
abbrev τ : Topo := Topo.v7x

variable {F : FTy → Type} [FloatOps F]
-- ==== Kernel2.lean ====
abbrev S4x4096x704 : Shape := ⟨3, ![4, 4096, 704]⟩
abbrev S4096x1024 : Shape := ⟨2, ![4096, 1024]⟩
abbrev S1x4096x1024 : Shape := ⟨3, ![1, 4096, 1024]⟩
abbrev S4x704x1024 : Shape := ⟨3, ![4, 704, 1024]⟩
abbrev S1x2048x704 : Shape := ⟨3, ![1, 2048, 704]⟩
abbrev S1x2048x1024 : Shape := ⟨3, ![1, 2048, 1024]⟩
abbrev S1x704x1024 : Shape := ⟨3, ![1, 704, 1024]⟩
abbrev S704x1024 : Shape := ⟨2, ![704, 1024]⟩
abbrev S2048x704 : Shape := ⟨2, ![2048, 704]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S1x4096x1024, .bf16⟩
  | .hbm, ⟨3, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S4x4096x704 : Shape := ⟨3, ![4, 4096, 704]⟩
abbrev S4096x1024 : Shape := ⟨2, ![4096, 1024]⟩
abbrev S_ : Shape := ⟨0, ![]⟩
abbrev S4x704x1024 : Shape := ⟨3, ![4, 704, 1024]⟩
abbrev S1024x4x704 : Shape := ⟨3, ![1024, 4, 704]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S_, .f32⟩
  | .hbm, ⟨3, _⟩ => ⟨S4x704x1024, .f32⟩
  | .hbm, ⟨4, _⟩ => ⟨S4x4096x704, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S1024x4x704, .f32⟩
  | .hbm, ⟨14, _⟩ => ⟨S4x704x1024, .f32⟩
  | .hbm, ⟨15, _⟩ => ⟨S4x704x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel3.lean ====
abbrev S4x4096x704 : Shape := ⟨3, ![4, 4096, 704]⟩
abbrev S4096x1024 : Shape := ⟨2, ![4096, 1024]⟩
abbrev S1x4096x1024 : Shape := ⟨3, ![1, 4096, 1024]⟩
abbrev S4x704x1024 : Shape := ⟨3, ![4, 704, 1024]⟩
abbrev S1x2048x704 : Shape := ⟨3, ![1, 2048, 704]⟩
abbrev S1x2048x1024 : Shape := ⟨3, ![1, 2048, 1024]⟩
abbrev S1x704x1024 : Shape := ⟨3, ![1, 704, 1024]⟩
abbrev S704x1024 : Shape := ⟨2, ![704, 1024]⟩
abbrev S2048x704 : Shape := ⟨2, ![2048, 704]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S1x4096x1024, .bf16⟩
  | .hbm, ⟨3, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S704x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4x4096x704 : Shape := ⟨3, ![4, 4096, 704]⟩
abbrev S4096x1024 : Shape := ⟨2, ![4096, 1024]⟩
abbrev S_ : Shape := ⟨0, ![]⟩
abbrev S4x704x1024 : Shape := ⟨3, ![4, 704, 1024]⟩
abbrev S4x704x4096 : Shape := ⟨3, ![4, 704, 4096]⟩

abbrev nBuf : Space → Nat
  | .hbm => 11
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4096x1024, .bf16⟩
  | .hbm, ⟨2, _⟩ => ⟨S_, .f32⟩
  | .hbm, ⟨3, _⟩ => ⟨S4x704x1024, .f32⟩
  | .hbm, ⟨4, _⟩ => ⟨S4096x1024, .f32⟩
  | .hbm, ⟨5, _⟩ => ⟨S4x704x4096, .f32⟩
  | .hbm, ⟨6, _⟩ => ⟨S4x4096x704, .f32⟩
  | .hbm, ⟨7, _⟩ => ⟨S4x4096x704, .f32⟩
  | .hbm, ⟨8, _⟩ => ⟨S4x704x4096, .f32⟩
  | .hbm, ⟨9, _⟩ => ⟨S4x704x1024, .f32⟩
  | .hbm, ⟨10, _⟩ => ⟨S4x704x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4x4096x704 : Shape := ⟨3, ![4, 4096, 704]⟩
abbrev S4x704x1024 : Shape := ⟨3, ![4, 704, 1024]⟩
abbrev S4096x1024 : Shape := ⟨2, ![4096, 1024]⟩
abbrev S1x1024 : Shape := ⟨2, ![1, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S4x4096x704, .bf16⟩
  | .hbm, ⟨1, _⟩ => ⟨S4x4096x704, .bf16⟩
  | .hbm, ⟨2, _⟩ => ⟨S4x704x1024, .bf16⟩
  | .hbm, ⟨3, _⟩ => ⟨S4x704x1024, .bf16⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S4x704x1024, .bf16⟩
  | .local _ .vmem, ⟨5, _⟩ => ⟨S4x704x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v58 : BitVec 1 := Scalar.cmpi .eq arg0 c0_i32
  let v62 : BitVec 32 := Scalar.extui v58
  let c0_i32_57 : BitVec 32 := 0#32
  let v63 : BitVec 1 := Scalar.cmpi .ne v62 c0_i32_57
  v63

def k0_cond2 (i : grid0.Coords) : BitVec 1 :=
  let arg0 : BitVec 32 := BitVec.ofNat 32 (i 0).val
  let c0_i32 : BitVec 32 := 0#32
  let v58 : BitVec 1 := Scalar.cmpi .eq arg0 c0_i32
  let v_true : BitVec 1 := 1#1
  let v64 : BitVec 1 := Scalar.xori v58 v_true
  let v65 : BitVec 32 := Scalar.extui v64
  let c0_i32_58 : BitVec 32 := 0#32
  let v66 : BitVec 1 := Scalar.cmpi .ne v65 c0_i32_58
  v66

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S4x4096x704 : Shape := ⟨3, ![4, 4096, 704]⟩
abbrev S4x704x1024 : Shape := ⟨3, ![4, 704, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4x704x4096 : Shape := ⟨3, ![4, 704, 4096]⟩
abbrev S1024 : Shape := ⟨1, ![1024]⟩

abbrev nBuf : Space → Nat
  | .hbm => 64
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x4096x704, .bf16⟩
  | .hbm, ⟨2, _⟩ => ⟨S4x704x1024, .bf16⟩
  | .hbm, ⟨3, _⟩ => ⟨S4x704x1024, .bf16⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4x704x1024, .f32⟩
  | .hbm, ⟨27, _⟩ => ⟨S4x704x4096, .f32⟩
  | .hbm, ⟨28, _⟩ => ⟨S4x4096x704, .f32⟩
  | .hbm, ⟨29, _⟩ => ⟨S4x704x1024, .f32⟩
  | .hbm, ⟨30, _⟩ => ⟨S4x704x4096, .f32⟩
  | .hbm, ⟨31, _⟩ => ⟨S4x4096x704, .f32⟩
  | .hbm, ⟨32, _⟩ => ⟨S4x4096x704, .f32⟩
  | .hbm, ⟨33, _⟩ => ⟨S4x4096x704, .f32⟩
  | .hbm, ⟨34, _⟩ => ⟨S4x704x4096, .f32⟩
  | .hbm, ⟨35, _⟩ => ⟨S4096x1024, .f32⟩
  | .hbm, ⟨36, _⟩ => ⟨S4x704x4096, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096, .f32⟩
  | .hbm, ⟨48, _⟩ => ⟨S4096x1, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S_, .f32⟩
  | .hbm, ⟨57, _⟩ => ⟨S4096, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩

abbrev nD : Nat := 1
abbrev τ : Topo := Topo.v7x

variable {F : FTy → Type} [FloatOps F]
-- ==== Kernel5.lean ====
abbrev S4096x1024 : Shape := ⟨2, ![4096, 1024]⟩
abbrev S4x704x1024 : Shape := ⟨3, ![4, 704, 1024]⟩
abbrev S4x4096x704 : Shape := ⟨3, ![4, 4096, 704]⟩
abbrev S1024x1024 : Shape := ⟨2, ![1024, 1024]⟩
abbrev S1x1024x704 : Shape := ⟨3, ![1, 1024, 704]⟩
abbrev S1x704x1024 : Shape := ⟨3, ![1, 704, 1024]⟩
abbrev S704x1024 : Shape := ⟨2, ![704, 1024]⟩
abbrev S1024x704 : Shape := ⟨2, ![1024, 704]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S4x704x1024, .bf16⟩
  | .hbm, ⟨2, _⟩ => ⟨S4x704x1024, .bf16⟩
  | .hbm, ⟨3, _⟩ => ⟨S4x4096x704, .bf16⟩
  | .hbm, ⟨4, _⟩ => ⟨S4x4096x704, .bf16⟩
  | .hbm, ⟨5, _⟩ => ⟨S4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S4x704x1024, .bf16⟩
  | .local _ .vmem, ⟨3, _⟩ => ⟨S4x704x1024, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 4], ![false, false]⟩

def k0_off1 (i : grid0.Coords) : Fin 3 → Nat :=
  let arg1 : BitVec 32 := BitVec.ofNat 32 (i 1).val
  let v1 : Index := Scalar.indexCast arg1
  let c0_1 : Index := 0#32
  let c0_2 : Index := 0#32
  ![v1.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S4096x1024 : Shape := ⟨2, ![4096, 1024]⟩
abbrev S4x704x1024 : Shape := ⟨3, ![4, 704, 1024]⟩
abbrev S4x704x4096 : Shape := ⟨3, ![4, 704, 4096]⟩
abbrev S4x4096x704 : Shape := ⟨3, ![4, 4096, 704]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x704x1024, .bf16⟩
  | .hbm, ⟨2, _⟩ => ⟨S4x704x1024, .bf16⟩
  | .hbm, ⟨3, _⟩ => ⟨S4096x1024, .f32⟩
  | .hbm, ⟨4, _⟩ => ⟨S4x704x1024, .f32⟩
  | .hbm, ⟨5, _⟩ => ⟨S4x704x4096, .f32⟩
  | .hbm, ⟨6, _⟩ => ⟨S4x4096x704, .f32⟩
  | .hbm, ⟨7, _⟩ => ⟨S4096x1024, .f32⟩
  | .hbm, ⟨8, _⟩ => ⟨S4x704x1024, .f32⟩
  | .hbm, ⟨9, _⟩ => ⟨S4x704x4096, .f32⟩
  | .hbm, ⟨10, _⟩ => ⟨S4x4096x704, .f32⟩
  | .hbm, ⟨11, _⟩ => ⟨S4x4096x704, .bf16⟩
  | .hbm, ⟨12, _⟩ => ⟨S4x4096x704, .bf16⟩
  | .hbm, ⟨13, _⟩ => ⟨S4x4096x704, .f32⟩
  | .hbm, ⟨14, _⟩ => ⟨S4x4096x704, .f32⟩
  | .hbm, ⟨15, _⟩ => ⟨S_, .f32⟩
  | .hbm, ⟨16, _⟩ => ⟨S4x4096x704, .f32⟩
  | .hbm, ⟨17, _⟩ => ⟨S4x4096x704, .f32⟩
  | .hbm, ⟨18, _⟩ => ⟨S_, .f32⟩
  | .hbm, ⟨19, _⟩ => ⟨S4x4096x704, .f32⟩
  | .hbm, ⟨20, _⟩ => ⟨S4x4096x704, .f32⟩
  | .hbm, ⟨21, _⟩ => ⟨S4x4096x704, .f32⟩
  | .hbm, ⟨22, _⟩ => ⟨S4x4096x704, .f32⟩
  | .hbm, ⟨23, _⟩ => ⟨S4x4096x704, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Kernel6.lean ====
abbrev S4x4096x704 : Shape := ⟨3, ![4, 4096, 704]⟩
abbrev S4x704x1024 : Shape := ⟨3, ![4, 704, 1024]⟩
abbrev S4096x1024 : Shape := ⟨2, ![4096, 1024]⟩
abbrev S1x1024 : Shape := ⟨2, ![1, 1024]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S4x4096x704 : Shape := ⟨3, ![4, 4096, 704]⟩
abbrev S4x704x1024 : Shape := ⟨3, ![4, 704, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S1x1024, .f32⟩
  | .hbm, ⟨4, _⟩ => ⟨S4x4096x704, .f32⟩
  | .hbm, ⟨5, _⟩ => ⟨S4x704x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel7.lean ====
abbrev S4096x1024 : Shape := ⟨2, ![4096, 1024]⟩
abbrev S4096x512 : Shape := ⟨2, ![4096, 512]⟩
abbrev S4096x1536 : Shape := ⟨2, ![4096, 1536]⟩
abbrev S32768x128 : Shape := ⟨2, ![32768, 128]⟩
abbrev S16x128 : Shape := ⟨2, ![16, 128]⟩
abbrev S128x2048 : Shape := ⟨2, ![128, 2048]⟩
abbrev S2048x128 : Shape := ⟨2, ![2048, 128]⟩
abbrev S1x512 : Shape := ⟨2, ![1, 512]⟩
abbrev S512x512 : Shape := ⟨2, ![512, 512]⟩
abbrev S256x512 : Shape := ⟨2, ![256, 512]⟩
abbrev S8x128 : Shape := ⟨2, ![8, 128]⟩
abbrev S512 : Shape := ⟨1, ![512]⟩
abbrev S256x128 : Shape := ⟨2, ![256, 128]⟩
abbrev S512x128 : Shape := ⟨2, ![512, 128]⟩
abbrev S2040x128 : Shape := ⟨2, ![2040, 128]⟩
abbrev S255x8x128 : Shape := ⟨3, ![255, 8, 128]⟩
abbrev S1x128 : Shape := ⟨2, ![1, 128]⟩
abbrev S128x512 : Shape := ⟨2, ![128, 512]⟩

abbrev nBuf : Space → Nat
  | .hbm => 26
  | .vmem => 48
  | .smem => 0
  | _ => 0

abbrev bufTy : (tb : Table) → Fin (tcTables nBuf tb) → BufTy
  | .hbm, ⟨0, _⟩ => ⟨S4096x1024, .bf16⟩
  | .hbm, ⟨1, _⟩ => ⟨S4096x512, .f32⟩
  | .hbm, ⟨2, _⟩ => ⟨S4096x1536, .f32⟩
  | .hbm, ⟨3, _⟩ => ⟨S32768x128, .f32⟩
  | .hbm, ⟨4, _⟩ => ⟨S32768x128, .f32⟩
  | .hbm, ⟨5, _⟩ => ⟨S32768x128, .f32⟩
  | .hbm, ⟨6, _⟩ => ⟨S32768x128, .f32⟩
  | .hbm, ⟨7, _⟩ => ⟨S16x128, .f32⟩
  | .hbm, ⟨8, _⟩ => ⟨S16x128, .f32⟩
  | .hbm, ⟨9, _⟩ => ⟨S128x2048, .bf16⟩
  | .hbm, ⟨10, _⟩ => ⟨S128x2048, .bf16⟩
  | .hbm, ⟨11, _⟩ => ⟨S2048x128, .bf16⟩
  | .hbm, ⟨12, _⟩ => ⟨S2048x128, .bf16⟩
  | .hbm, ⟨13, _⟩ => ⟨S1x512, .f32⟩
  | .hbm, ⟨14, _⟩ => ⟨S512x512, .bf16⟩
  | .hbm, ⟨15, _⟩ => ⟨S1x512, .f32⟩
  | .hbm, ⟨16, _⟩ => ⟨S4096x512, .bf16⟩
  | .hbm, ⟨17, _⟩ => ⟨S512x512, .f32⟩
  | .hbm, ⟨18, _⟩ => ⟨S1x512, .f32⟩
  | .hbm, ⟨19, _⟩ => ⟨S1x512, .f32⟩
  | .hbm, ⟨20, _⟩ => ⟨S2048x128, .f32⟩
  | .hbm, ⟨21, _⟩ => ⟨S2048x128, .f32⟩
  | .hbm, ⟨22, _⟩ => ⟨S128x2048, .f32⟩
  | .hbm, ⟨23, _⟩ => ⟨S128x2048, .f32⟩
  | .hbm, ⟨24, _⟩ => ⟨S16x128, .f32⟩
  | .hbm, ⟨25, _⟩ => ⟨S16x128, .f32⟩
  | .local _ .vmem, ⟨0, _⟩ => ⟨S256x512, .bf16⟩
  | .local _ .vmem, ⟨1, _⟩ => ⟨S256x512, .bf16⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S8x128, .f32⟩
  | .local _ .vmem, ⟨15, _⟩ => ⟨S8x128, .f32⟩
  | .local _ .vmem, ⟨16, _⟩ => ⟨S8x128, .f32⟩
  | .local _ .vmem, ⟨17, _⟩ => ⟨S8x128, .f32⟩
  | .local _ .vmem, ⟨18, _⟩ => ⟨S8x128, .f32⟩
  | .local _ .vmem, ⟨19, _⟩ => ⟨S8x128, .f32⟩
  | .local _ .vmem, ⟨20, _⟩ => ⟨S8x128, .f32⟩
  | .local _ .vmem, ⟨21, _⟩ => ⟨S8x128, .f32⟩
  | .local _ .vmem, ⟨22, _⟩ => ⟨S16x128, .f32⟩
  | .local _ .vmem, ⟨23, _⟩ => ⟨S16x128, .f32⟩
  | .local _ .vmem, ⟨24, _⟩ => ⟨S128x2048, .bf16⟩
  | .local _ .vmem, ⟨25, _⟩ => ⟨S128x2048, .bf16⟩
  | .local _ .vmem, ⟨26, _⟩ => ⟨S2048x128, .bf16⟩
  | .local _ .vmem, ⟨27, _⟩ => ⟨S2048x128, .bf16⟩
  | .local _ .vmem, ⟨28, _⟩ => ⟨S1x512, .f32⟩
  | .local _ .vmem, ⟨29, _⟩ => ⟨S512x512, .bf16⟩
  | .local _ .vmem, ⟨30, _⟩ => ⟨S1x512, .f32⟩
  | .local _ .vmem, ⟨31, _⟩ => ⟨S256x512, .bf16⟩
  | .local _ .vmem, ⟨32, _⟩ => ⟨S256x512, .bf16⟩
  | .local _ .vmem, ⟨33, _⟩ => ⟨S512x512, .f32⟩
  | .local _ .vmem, ⟨34, _⟩ => ⟨S1x512, .f32⟩
  | .local _ .vmem, ⟨35, _⟩ => ⟨S1x512, .f32⟩
  | .local _ .vmem, ⟨36, _⟩ => ⟨S2048x128, .f32⟩
  | .local _ .vmem, ⟨37, _⟩ => ⟨S2048x128, .f32⟩
  | .local _ .vmem, ⟨38, _⟩ => ⟨S128x2048, .f32⟩
  | .local _ .vmem, ⟨39, _⟩ => ⟨S128x2048, .f32⟩
  | .local _ .vmem, ⟨40, _⟩ => ⟨S16x128, .f32⟩
  | .local _ .vmem, ⟨41, _⟩ => ⟨S16x128, .f32⟩
  | .local _ .vmem, ⟨42, _⟩ => ⟨S2048x128, .f32⟩
  | .local _ .vmem, ⟨43, _⟩ => ⟨S2048x128, .f32⟩
  | .local _ .vmem, ⟨44, _⟩ => ⟨S2048x128, .f32⟩
  | .local _ .vmem, ⟨45, _⟩ => ⟨S2048x128, .f32⟩
  | .local _ .vmem, ⟨46, _⟩ => ⟨S16x128, .f32⟩
  | .local _ .vmem, ⟨47, _⟩ => ⟨S16x128, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0_0 : Ref sig .tc := ⟨.hbm, 16, rfl⟩
abbrev main_v0_1 : Ref sig .tc := ⟨.hbm, 17, rfl⟩
abbrev main_v0_2 : Ref sig .tc := ⟨.hbm, 18, rfl⟩
abbrev main_v0_3 : Ref sig .tc := ⟨.hbm, 19, rfl⟩
abbrev main_v0_4 : Ref sig .tc := ⟨.hbm, 20, rfl⟩
abbrev main_v0_5 : Ref sig .tc := ⟨.hbm, 21, rfl⟩
abbrev main_v0_6 : Ref sig .tc := ⟨.hbm, 22, rfl⟩
abbrev main_v0_7 : Ref sig .tc := ⟨.hbm, 23, rfl⟩
abbrev main_v0_8 : Ref sig .tc := ⟨.hbm, 24, rfl⟩
abbrev main_v0_9 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg15_0 : Ref sig .tc := ⟨.vmem, 26, rfl⟩
abbrev cc0_stg16_0 : Ref sig .tc := ⟨.vmem, 27, rfl⟩
abbrev cc0_stg17_0 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_stg20_1 : Ref sig .tc := ⟨.vmem, 32, rfl⟩
abbrev cc0_stg21_0 : Ref sig .tc := ⟨.vmem, 33, rfl⟩
abbrev cc0_stg22_0 : Ref sig .tc := ⟨.vmem, 34, rfl⟩
abbrev cc0_stg23_0 : Ref sig .tc := ⟨.vmem, 35, rfl⟩
abbrev cc0_stg24_0 : Ref sig .tc := ⟨.vmem, 36, rfl⟩
abbrev cc0_stg25_0 : Ref sig .tc := ⟨.vmem, 37, rfl⟩
abbrev cc0_stg26_0 : Ref sig .tc := ⟨.vmem, 38, rfl⟩
abbrev cc0_stg27_0 : Ref sig .tc := ⟨.vmem, 39, rfl⟩
abbrev cc0_stg28_0 : Ref sig .tc := ⟨.vmem, 40, rfl⟩
abbrev cc0_stg29_0 : Ref sig .tc := ⟨.vmem, 41, rfl⟩
abbrev cc0_scratch0 : Ref sig .tc := ⟨.vmem, 42, rfl⟩
abbrev cc0_scratch1 : Ref sig .tc := ⟨.vmem, 43, rfl⟩
abbrev cc0_scratch2 : Ref sig .tc := ⟨.vmem, 44, rfl⟩
abbrev cc0_scratch3 : Ref sig .tc := ⟨.vmem, 45, rfl⟩
abbrev cc0_scratch4 : Ref sig .tc := ⟨.vmem, 46, rfl⟩
abbrev cc0_scratch5 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem15_0 : DmaSem sig := 26
abbrev cc0_sem16_0 : DmaSem sig := 27
abbrev cc0_sem17_0 : DmaSem sig := 28
abbrev cc0_sem18_0 : DmaSem sig := 29
abbrev cc0_sem19_0 : DmaSem sig := 30
abbrev cc0_sem20_0 : DmaSem sig := 31
abbrev cc0_sem20_1 : DmaSem sig := 32
abbrev cc0_sem21_0 : DmaSem sig := 33
abbrev cc0_sem22_0 : DmaSem sig := 34
abbrev cc0_sem23_0 : DmaSem sig := 35
abbrev cc0_sem24_0 : DmaSem sig := 36
abbrev cc0_sem25_0 : DmaSem sig := 37
abbrev cc0_sem26_0 : DmaSem sig := 38
abbrev cc0_sem27_0 : DmaSem sig := 39
abbrev cc0_sem28_0 : DmaSem sig := 40
abbrev cc0_sem29_0 : DmaSem sig := 41

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_240 : BitVec 32 := 0#32
  let c256_i32 : BitVec 32 := 256#32
  let v362 : BitVec 32 := Scalar.addi c0_i32_240 c256_i32
  let c1_i32 : BitVec 32 := 1#32
  ⟨c0_i32_240, v362, c1_i32⟩
def k0_mult1 (k0_t1 : Fin k0_t1_loop.trips) : BitVec 32 :=
  let c255_i32 : BitVec 32 := 255#32
  let c0_i32_240 : BitVec 32 := 0#32
  let c1_i32 : BitVec 32 := 1#32
  let arg37 : BitVec 32 := Scf.iv c0_i32_240 c1_i32 k0_t1
  let v612 : BitVec 32 := Scalar.subi c255_i32 arg37
  let c8_i32 : BitVec 32 := 8#32
  let v613 : BitVec 32 := Scalar.muli v612 c8_i32
  v613
def k0_off1 (k0_t1 : Fin k0_t1_loop.trips) : Fin 2 → Nat :=
  let c255_i32 : BitVec 32 := 255#32
  let c0_i32_240 : BitVec 32 := 0#32
  let c1_i32 : BitVec 32 := 1#32
  let arg37 : BitVec 32 := Scf.iv c0_i32_240 c1_i32 k0_t1
  let v612 : BitVec 32 := Scalar.subi c255_i32 arg37
  let c8_i32 : BitVec 32 := 8#32
  let v613 : BitVec 32 := Scalar.muli v612 c8_i32
  let v614 : BitVec 32 := v613
  let v615 : Index := Scalar.indexCast v614
  let c0_435 : Index := 0#32
  ![v615.toNat, 0]
def k0_mult2 (k0_t1 : Fin k0_t1_loop.trips) : BitVec 32 :=
  let c255_i32_439 : BitVec 32 := 255#32
  let c0_i32_240 : BitVec 32 := 0#32
  let c1_i32 : BitVec 32 := 1#32
  let arg37 : BitVec 32 := Scf.iv c0_i32_240 c1_i32 k0_t1
  let v635 : BitVec 32 := Scalar.subi c255_i32_439 arg37
  let c8_i32_440 : BitVec 32 := 8#32
  let v636 : BitVec 32 := Scalar.muli v635 c8_i32_440
  v636
def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v63 : BitVec 32 := Scalar.extui v0
  let c0_i32_29 : BitVec 32 := 0#32
  let v64 : BitVec 1 := Scalar.cmpi .ne v63 c0_i32_29
  v64

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v65 : BitVec 1 := Scalar.xori v0 v_true
  let v66 : BitVec 32 := Scalar.extui v65
  let c0_i32_30 : BitVec 32 := 0#32
  let v67 : BitVec 1 := Scalar.cmpi .ne v66 c0_i32_30
  v67

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let v70 : BitVec 32 := Scalar.extui v0
  let c0_i32_32 : BitVec 32 := 0#32
  let v71 : BitVec 1 := Scalar.cmpi .ne v70 c0_i32_32
  v71

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let true_33 : BitVec 1 := 1#1
  let v72 : BitVec 1 := Scalar.xori v0 true_33
  let v73 : BitVec 32 := Scalar.extui v72
  let c0_i32_34 : BitVec 32 := 0#32
  let v74 : BitVec 1 := Scalar.cmpi .ne v73 c0_i32_34
  v74

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let v79 : BitVec 32 := Scalar.extui v0
  let c0_i32_36 : BitVec 32 := 0#32
  let v80 : BitVec 1 := Scalar.cmpi .ne v79 c0_i32_36
  v80

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let true_37 : BitVec 1 := 1#1
  let v81 : BitVec 1 := Scalar.xori v0 true_37
  let v82 : BitVec 32 := Scalar.extui v81
  let c0_i32_38 : BitVec 32 := 0#32
  let v83 : BitVec 1 := Scalar.cmpi .ne v82 c0_i32_38
  v83

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let v405 : BitVec 32 := Scalar.extui v0
  let c0_i32_268 : BitVec 32 := 0#32
  let v406 : BitVec 1 := Scalar.cmpi .ne v405 c0_i32_268
  v406

def k0_cond9 (i : grid0.Coords) : BitVec 1 :=
  let arg0 : BitVec 32 := BitVec.ofNat 32 (i 0).val
  let c0_i32 : BitVec 32 := 0#32
  let v0 : BitVec 1 := Scalar.cmpi .eq arg0 c0_i32
  let true_269 : BitVec 1 := 1#1
  let v407 : BitVec 1 := Scalar.xori v0 true_269
  let v408 : BitVec 32 := Scalar.extui v407
  let c0_i32_270 : BitVec 32 := 0#32
  let v409 : BitVec 1 := Scalar.cmpi .ne v408 c0_i32_270
  v409

def k0_cond10 (i : grid0.Coords) : BitVec 1 :=
  let arg0 : BitVec 32 := BitVec.ofNat 32 (i 0).val
  let c0_i32 : BitVec 32 := 0#32
  let v0 : BitVec 1 := Scalar.cmpi .eq arg0 c0_i32
  let v448 : BitVec 32 := Scalar.extui v0
  let c0_i32_297 : BitVec 32 := 0#32
  let v449 : BitVec 1 := Scalar.cmpi .ne v448 c0_i32_297
  v449

def k0_cond11 (i : grid0.Coords) : BitVec 1 :=
  let arg0 : BitVec 32 := BitVec.ofNat 32 (i 0).val
  let c0_i32 : BitVec 32 := 0#32
  let v0 : BitVec 1 := Scalar.cmpi .eq arg0 c0_i32
  let true_298 : BitVec 1 := 1#1
  let v450 : BitVec 1 := Scalar.xori v0 true_298
  let v451 : BitVec 32 := Scalar.extui v450
  let c0_i32_299 : BitVec 32 := 0#32
  let v452 : BitVec 1 := Scalar.cmpi .ne v451 c0_i32_299
  v452

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c256_i32 : BitVec 32 := 256#32
  let v1 : BitVec 32 := Scalar.muli v0 c256_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c256_i32 : BitVec 32 := 256#32
  let v1 : BitVec 32 := Scalar.muli v0 c256_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c256_i32 : BitVec 32 := 256#32
  let v1 : BitVec 32 := Scalar.muli v0 c256_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c256_i32 : BitVec 32 := 256#32
  let v1 : BitVec 32 := Scalar.muli v0 c256_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S16x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S2048x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S2048x128 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S512x512 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S256x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S512x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x512 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S2048x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S2048x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S128x2048 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S128x2048 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S16x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S16x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]
-- ==== Reference7Ideal.lean ====
abbrev S4096x1024 : Shape := ⟨2, ![4096, 1024]⟩
abbrev S4096x512 : Shape := ⟨2, ![4096, 512]⟩
abbrev S4096x1536 : Shape := ⟨2, ![4096, 1536]⟩
abbrev S32768x128 : Shape := ⟨2, ![32768, 128]⟩
abbrev S16x128 : Shape := ⟨2, ![16, 128]⟩
abbrev S128x2048 : Shape := ⟨2, ![128, 2048]⟩
abbrev S2048x128 : Shape := ⟨2, ![2048, 128]⟩
abbrev S1x512 : Shape := ⟨2, ![1, 512]⟩
abbrev S512x512 : Shape := ⟨2, ![512, 512]⟩
abbrev S_ : Shape := ⟨0, ![]⟩
abbrev S512 : Shape := ⟨1, ![512]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .f32⟩
  | .hbm, ⟨2, _⟩ => ⟨S4096x1536, .f32⟩
  | .hbm, ⟨3, _⟩ => ⟨S32768x128, .f32⟩
  | .hbm, ⟨4, _⟩ => ⟨S32768x128, .f32⟩
  | .hbm, ⟨5, _⟩ => ⟨S32768x128, .f32⟩
  | .hbm, ⟨6, _⟩ => ⟨S32768x128, .f32⟩
  | .hbm, ⟨7, _⟩ => ⟨S16x128, .f32⟩
  | .hbm, ⟨8, _⟩ => ⟨S16x128, .f32⟩
  | .hbm, ⟨9, _⟩ => ⟨S128x2048, .bf16⟩
  | .hbm, ⟨10, _⟩ => ⟨S128x2048, .bf16⟩
  | .hbm, ⟨11, _⟩ => ⟨S2048x128, .bf16⟩
  | .hbm, ⟨12, _⟩ => ⟨S2048x128, .bf16⟩
  | .hbm, ⟨13, _⟩ => ⟨S1x512, .f32⟩
  | .hbm, ⟨14, _⟩ => ⟨S512x512, .bf16⟩
  | .hbm, ⟨15, _⟩ => ⟨S1x512, .f32⟩
  | .hbm, ⟨16, _⟩ => ⟨S512x512, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S4096x512, .f32⟩
  | .hbm, ⟨21, _⟩ => ⟨S4096x512, .f32⟩
  | .hbm, ⟨22, _⟩ => ⟨S4096x512, .f32⟩
  | .hbm, ⟨23, _⟩ => ⟨S_, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S_, .f32⟩
  | .hbm, ⟨28, _⟩ => ⟨S4096x512, .f32⟩
  | .hbm, ⟨29, _⟩ => ⟨S4096x512, .f32⟩
  | .hbm, ⟨30, _⟩ => ⟨S_, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .f32⟩
  | .hbm, ⟨35, _⟩ => ⟨S4096x512, .f32⟩
  | .hbm, ⟨36, _⟩ => ⟨S4096x512, .f32⟩
  | .hbm, ⟨37, _⟩ => ⟨S4096x512, .f32⟩
  | .hbm, ⟨38, _⟩ => ⟨S4096x512, .f32⟩
  | .hbm, ⟨39, _⟩ => ⟨S_, .f32⟩
  | .hbm, ⟨40, _⟩ => ⟨S4096x512, .f32⟩
  | .hbm, ⟨41, _⟩ => ⟨S4096x512, .f32⟩
  | .hbm, ⟨42, _⟩ => ⟨S_, .f32⟩
  | .hbm, ⟨43, _⟩ => ⟨S4096x512, .f32⟩
  | .hbm, ⟨44, _⟩ => ⟨S4096x512, .f32⟩
  | .hbm, ⟨45, _⟩ => ⟨S_, .f32⟩
  | .hbm, ⟨46, _⟩ => ⟨S4096x512, .f32⟩
  | .hbm, ⟨47, _⟩ => ⟨S4096x512, .f32⟩
  | .hbm, ⟨48, _⟩ => ⟨S4096x512, .f32⟩
  | .hbm, ⟨49, _⟩ => ⟨S4096x512, .f32⟩
  | .hbm, ⟨50, _⟩ => ⟨S4096x512, .bf16⟩
  | .hbm, ⟨51, _⟩ => ⟨S4096x512, .f32⟩
  | .hbm, ⟨52, _⟩ => ⟨S4096x512, .f32⟩
  | .hbm, ⟨53, _⟩ => ⟨S4096x512, .f32⟩
  | .hbm, ⟨54, _⟩ => ⟨S_, .f32⟩
  | .hbm, ⟨55, _⟩ => ⟨S512, .f32⟩
  | .hbm, ⟨56, _⟩ => ⟨S1x512, .f32⟩
  | .hbm, ⟨57, _⟩ => ⟨S512x512, .f32⟩
  | .hbm, ⟨58, _⟩ => ⟨S512x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_3 : Ref sig .tc := ⟨.hbm, 39, rfl⟩
abbrev main_v19 : Ref sig .tc := ⟨.hbm, 40, rfl⟩
abbrev main_v20 : Ref sig .tc := ⟨.hbm, 41, rfl⟩
abbrev main_cst_4 : Ref sig .tc := ⟨.hbm, 42, rfl⟩
abbrev main_v21 : Ref sig .tc := ⟨.hbm, 43, rfl⟩
abbrev main_v22 : Ref sig .tc := ⟨.hbm, 44, rfl⟩
abbrev main_cst_5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S4096x1024 : Shape := ⟨2, ![4096, 1024]⟩
abbrev S1x4096x1024 : Shape := ⟨3, ![1, 4096, 1024]⟩
abbrev S1x1024x1024 : Shape := ⟨3, ![1, 1024, 1024]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1x4096x1024, .bf16⟩
  | .hbm, ⟨3, _⟩ => ⟨S1x4096x1024, .bf16⟩
  | .hbm, ⟨4, _⟩ => ⟨S1x1024x1024, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1x1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond3 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Reference9Ideal.lean ====
abbrev S4096x1024 : Shape := ⟨2, ![4096, 1024]⟩
abbrev S_ : Shape := ⟨0, ![]⟩
abbrev S1x1024x1024 : Shape := ⟨3, ![1, 1024, 1024]⟩
abbrev S1024x1024 : Shape := ⟨2, ![1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1x1024x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S1024x1024, .f32⟩
  | .hbm, ⟨9, _⟩ => ⟨S1024x1024, .f32⟩
  | .hbm, ⟨10, _⟩ => ⟨S1x1024x1024, .f32⟩
  | .hbm, ⟨11, _⟩ => ⟨S1x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel10.lean ====
abbrev S4096x1024 : Shape := ⟨2, ![4096, 1024]⟩
abbrev S4096x1536 : Shape := ⟨2, ![4096, 1536]⟩
abbrev S1x4096x1024 : Shape := ⟨3, ![1, 4096, 1024]⟩
abbrev S4x1024x384 : Shape := ⟨3, ![4, 1024, 384]⟩
abbrev S1x2048x1024 : Shape := ⟨3, ![1, 2048, 1024]⟩
abbrev S2048x384 : Shape := ⟨2, ![2048, 384]⟩
abbrev S1x1024x384 : Shape := ⟨3, ![1, 1024, 384]⟩
abbrev S1024x384 : Shape := ⟨2, ![1024, 384]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S1x4096x1024, .bf16⟩
  | .hbm, ⟨3, _⟩ => ⟨S4x1024x384, .bf16⟩
  | .local _ .vmem, ⟨0, _⟩ => ⟨S1x2048x1024, .bf16⟩
  | .local _ .vmem, ⟨1, _⟩ => ⟨S1x2048x1024, .bf16⟩
  | .local _ .vmem, ⟨2, _⟩ => ⟨S2048x384, .bf16⟩
  | .local _ .vmem, ⟨3, _⟩ => ⟨S2048x384, .bf16⟩
  | .local _ .vmem, ⟨4, _⟩ => ⟨S1x1024x384, .bf16⟩
  | .local _ .vmem, ⟨5, _⟩ => ⟨S1x1024x384, .bf16⟩
  | .local _ .vmem, ⟨6, _⟩ => ⟨S1024x384, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_6 : BitVec 32 := 0#32
  let v12 : BitVec 1 := Scalar.cmpi .ne v11 c0_i32_6
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference10Ideal.lean ====
abbrev S4096x1024 : Shape := ⟨2, ![4096, 1024]⟩
abbrev S4096x1536 : Shape := ⟨2, ![4096, 1536]⟩
abbrev S_ : Shape := ⟨0, ![]⟩
abbrev S4x1024x384 : Shape := ⟨3, ![4, 1024, 384]⟩
abbrev S4096x4x384 : Shape := ⟨3, ![4096, 4, 384]⟩
abbrev S4x384x1024 : Shape := ⟨3, ![4, 384, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1536, .bf16⟩
  | .hbm, ⟨2, _⟩ => ⟨S_, .f32⟩
  | .hbm, ⟨3, _⟩ => ⟨S4x1024x384, .f32⟩
  | .hbm, ⟨4, _⟩ => ⟨S4096x1024, .f32⟩
  | .hbm, ⟨5, _⟩ => ⟨S4096x4x384, .f32⟩
  | .hbm, ⟨6, _⟩ => ⟨S4096x1536, .f32⟩
  | .hbm, ⟨7, _⟩ => ⟨S4096x1536, .f32⟩
  | .hbm, ⟨8, _⟩ => ⟨S4096x4x384, .f32⟩
  | .hbm, ⟨9, _⟩ => ⟨S4x384x1024, .f32⟩
  | .hbm, ⟨10, _⟩ => ⟨S4x1024x384, .f32⟩
  | .hbm, ⟨11, _⟩ => ⟨S4x1024x384, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel11.lean ====
abbrev S4096x1536 : Shape := ⟨2, ![4096, 1536]⟩
abbrev S4x1024x384 : Shape := ⟨3, ![4, 1024, 384]⟩
abbrev S4096x1024 : Shape := ⟨2, ![4096, 1024]⟩
abbrev S1x1024 : Shape := ⟨2, ![1, 1024]⟩
abbrev S512x1536 : Shape := ⟨2, ![512, 1536]⟩
abbrev S512x1024 : Shape := ⟨2, ![512, 1024]⟩
abbrev S512x384 : Shape := ⟨2, ![512, 384]⟩
abbrev S1x1024x384 : Shape := ⟨3, ![1, 1024, 384]⟩
abbrev S1024x384 : Shape := ⟨2, ![1024, 384]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x1536, .bf16⟩
  | .hbm, ⟨1, _⟩ => ⟨S4x1024x384, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S4x1024x384, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v30 : BitVec 1 := Scalar.cmpi .eq arg0 c0_i32
  let v34 : BitVec 32 := Scalar.extui v30
  let c0_i32_22 : BitVec 32 := 0#32
  let v35 : BitVec 1 := Scalar.cmpi .ne v34 c0_i32_22
  v35

def k0_cond2 (i : grid0.Coords) : BitVec 1 :=
  let arg0 : BitVec 32 := BitVec.ofNat 32 (i 0).val
  let c0_i32 : BitVec 32 := 0#32
  let v30 : BitVec 1 := Scalar.cmpi .eq arg0 c0_i32
  let v_true : BitVec 1 := 1#1
  let v36 : BitVec 1 := Scalar.xori v30 v_true
  let v37 : BitVec 32 := Scalar.extui v36
  let c0_i32_23 : BitVec 32 := 0#32
  let v38 : BitVec 1 := Scalar.cmpi .ne v37 c0_i32_23
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference11Ideal.lean ====
abbrev S4096x1536 : Shape := ⟨2, ![4096, 1536]⟩
abbrev S4x1024x384 : Shape := ⟨3, ![4, 1024, 384]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x4x384 : Shape := ⟨3, ![4096, 4, 384]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4x1024x384, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4x1024x384, .f32⟩
  | .hbm, ⟨25, _⟩ => ⟨S4096x4x384, .f32⟩
  | .hbm, ⟨26, _⟩ => ⟨S4096x1536, .f32⟩
  | .hbm, ⟨27, _⟩ => ⟨S4096x1536, .f32⟩
  | .hbm, ⟨28, _⟩ => ⟨S4096x4x384, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S_, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .bf16⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Kernel12.lean ====
abbrev S4096x1024 : Shape := ⟨2, ![4096, 1024]⟩
abbrev S4x1024x384 : Shape := ⟨3, ![4, 1024, 384]⟩
abbrev S4096x1536 : Shape := ⟨2, ![4096, 1536]⟩
abbrev S1024x1024 : Shape := ⟨2, ![1024, 1024]⟩
abbrev S1024x384 : Shape := ⟨2, ![1024, 384]⟩
abbrev S1x1024x384 : Shape := ⟨3, ![1, 1024, 384]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4x1024x384, .bf16⟩
  | .hbm, ⟨2, _⟩ => ⟨S4096x1536, .f32⟩
  | .local _ .vmem, ⟨0, _⟩ => ⟨S1024x1024, .bf16⟩
  | .local _ .vmem, ⟨1, _⟩ => ⟨S1024x1024, .bf16⟩
  | .local _ .vmem, ⟨2, _⟩ => ⟨S4x1024x384, .bf16⟩
  | .local _ .vmem, ⟨3, _⟩ => ⟨S1024x384, .f32⟩
  | .local _ .vmem, ⟨4, _⟩ => ⟨S1024x384, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 4], ![false, false]⟩

def k0_off1 (i : grid0.Coords) : Fin 3 → Nat :=
  let arg1 : BitVec 32 := BitVec.ofNat 32 (i 1).val
  let v1 : Index := Scalar.indexCast arg1
  let c0_1 : Index := 0#32
  let c0_2 : Index := 0#32
  ![v1.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4x1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S4096x1024 : Shape := ⟨2, ![4096, 1024]⟩
abbrev S4x1024x384 : Shape := ⟨3, ![4, 1024, 384]⟩
abbrev S4096x4x384 : Shape := ⟨3, ![4096, 4, 384]⟩
abbrev S4096x1536 : Shape := ⟨2, ![4096, 1536]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x384, .bf16⟩
  | .hbm, ⟨2, _⟩ => ⟨S4096x1024, .f32⟩
  | .hbm, ⟨3, _⟩ => ⟨S4x1024x384, .f32⟩
  | .hbm, ⟨4, _⟩ => ⟨S4096x4x384, .f32⟩
  | .hbm, ⟨5, _⟩ => ⟨S4096x1536, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference13Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel14.lean ====
abbrev S4x4096x704 : Shape := ⟨3, ![4, 4096, 704]⟩
abbrev S4x704x1024 : Shape := ⟨3, ![4, 704, 1024]⟩
abbrev S4096x1024 : Shape := ⟨2, ![4096, 1024]⟩
abbrev S1x1024 : Shape := ⟨2, ![1, 1024]⟩
abbrev S1x128 : Shape := ⟨2, ![1, 128]⟩
abbrev S4x512x704 : Shape := ⟨3, ![4, 512, 704]⟩
abbrev S512x1024 : Shape := ⟨2, ![512, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 9
  | .vmem => 14
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x128, .f32⟩
  | .hbm, ⟨8, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x128, .f32⟩
  | .local _ .vmem, ⟨13, _⟩ => ⟨S1x1024, .f32⟩
  | _, _ => ⟨S4x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v53 : BitVec 1 := Scalar.cmpi .eq arg0 c0_i32
  let v56 : BitVec 32 := Scalar.extui v53
  let c0_i32_38 : BitVec 32 := 0#32
  let v57 : BitVec 1 := Scalar.cmpi .ne v56 c0_i32_38
  v57

def k0_cond2 (i : grid0.Coords) : BitVec 1 :=
  let arg0 : BitVec 32 := BitVec.ofNat 32 (i 0).val
  let c0_i32 : BitVec 32 := 0#32
  let v53 : BitVec 1 := Scalar.cmpi .eq arg0 c0_i32
  let v_true : BitVec 1 := 1#1
  let v58 : BitVec 1 := Scalar.xori v53 v_true
  let v59 : BitVec 32 := Scalar.extui v58
  let c0_i32_39 : BitVec 32 := 0#32
  let v60 : BitVec 1 := Scalar.cmpi .ne v59 c0_i32_39
  v60

def k0_cond3 (i : grid0.Coords) : BitVec 1 :=
  let arg0 : BitVec 32 := BitVec.ofNat 32 (i 0).val
  let c0_i32_40 : BitVec 32 := 0#32
  let v61 : BitVec 1 := Scalar.cmpi .eq arg0 c0_i32_40
  let v65 : BitVec 32 := Scalar.extui v61
  let c0_i32_42 : BitVec 32 := 0#32
  let v66 : BitVec 1 := Scalar.cmpi .ne v65 c0_i32_42
  v66

def k0_cond4 (i : grid0.Coords) : BitVec 1 :=
  let arg0 : BitVec 32 := BitVec.ofNat 32 (i 0).val
  let c0_i32_40 : BitVec 32 := 0#32
  let v61 : BitVec 1 := Scalar.cmpi .eq arg0 c0_i32_40
  let true_43 : BitVec 1 := 1#1
  let v67 : BitVec 1 := Scalar.xori v61 true_43
  let v68 : BitVec 32 := Scalar.extui v67
  let c0_i32_44 : BitVec 32 := 0#32
  let v69 : BitVec 1 := Scalar.cmpi .ne v68 c0_i32_44
  v69

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference14Ideal.lean ====
abbrev S4x4096x704 : Shape := ⟨3, ![4, 4096, 704]⟩
abbrev S4x704x1024 : Shape := ⟨3, ![4, 704, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S4x4096x704, .bf16⟩
  | .hbm, ⟨1, _⟩ => ⟨S4x704x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4x4096x704, .f32⟩
  | .hbm, ⟨6, _⟩ => ⟨S4x704x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .bf16⟩
  | .hbm, ⟨78, _⟩ => ⟨S1x128, .f32⟩
  | _, _ => ⟨S4x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_cst_9 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_cst_11 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_12 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Kernel15.lean ====
abbrev S704x1024 : Shape := ⟨2, ![704, 1024]⟩
abbrev S176x1024 : Shape := ⟨2, ![176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference15Ideal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel16.lean ====
abbrev S1024x384 : Shape := ⟨2, ![1024, 384]⟩
abbrev S512x384 : Shape := ⟨2, ![512, 384]⟩

abbrev nBuf : Space → Nat
  | .hbm => 8
  | .vmem => 16
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S1024x384, .f32⟩
  | .hbm, ⟨5, _⟩ => ⟨S1024x384, .f32⟩
  | .hbm, ⟨6, _⟩ => ⟨S1024x384, .f32⟩
  | .hbm, ⟨7, _⟩ => ⟨S1024x384, .f32⟩
  | .local _ .vmem, ⟨0, _⟩ => ⟨S512x384, .f32⟩
  | .local _ .vmem, ⟨1, _⟩ => ⟨S512x384, .f32⟩
  | .local _ .vmem, ⟨2, _⟩ => ⟨S512x384, .f32⟩
  | .local _ .vmem, ⟨3, _⟩ => ⟨S512x384, .f32⟩
  | .local _ .vmem, ⟨4, _⟩ => ⟨S512x384, .f32⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S512x384, .f32⟩
  | .local _ .vmem, ⟨10, _⟩ => ⟨S512x384, .f32⟩
  | .local _ .vmem, ⟨11, _⟩ => ⟨S512x384, .f32⟩
  | .local _ .vmem, ⟨12, _⟩ => ⟨S512x384, .f32⟩
  | .local _ .vmem, ⟨13, _⟩ => ⟨S512x384, .f32⟩
  | .local _ .vmem, ⟨14, _⟩ => ⟨S512x384, .f32⟩
  | .local _ .vmem, ⟨15, _⟩ => ⟨S512x384, .f32⟩
  | _, _ => ⟨S1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference16Ideal.lean ====
abbrev S1024x384 : Shape := ⟨2, ![1024, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S1024x384, .f32⟩
  | .hbm, ⟨3, _⟩ => ⟨S1024x384, .f32⟩
  | .hbm, ⟨4, _⟩ => ⟨S_, .f32⟩
  | .hbm, ⟨5, _⟩ => ⟨S1024x384, .f32⟩
  | .hbm, ⟨6, _⟩ => ⟨S1024x384, .f32⟩
  | .hbm, ⟨7, _⟩ => ⟨S_, .f32⟩
  | .hbm, ⟨8, _⟩ => ⟨S1024x384, .f32⟩
  | .hbm, ⟨9, _⟩ => ⟨S1024x384, .f32⟩
  | .hbm, ⟨10, _⟩ => ⟨S1024x384, .f32⟩
  | .hbm, ⟨11, _⟩ => ⟨S_, .f32⟩
  | .hbm, ⟨12, _⟩ => ⟨S1024x384, .f32⟩
  | .hbm, ⟨13, _⟩ => ⟨S1024x384, .f32⟩
  | .hbm, ⟨14, _⟩ => ⟨S1024x384, .f32⟩
  | .hbm, ⟨15, _⟩ => ⟨S_, .f32⟩
  | .hbm, ⟨16, _⟩ => ⟨S1024x384, .f32⟩
  | .hbm, ⟨17, _⟩ => ⟨S1024x384, .f32⟩
  | .hbm, ⟨18, _⟩ => ⟨S1024x384, .f32⟩
  | .hbm, ⟨19, _⟩ => ⟨S_, .f32⟩
  | .hbm, ⟨20, _⟩ => ⟨S1024x384, .f32⟩
  | .hbm, ⟨21, _⟩ => ⟨S1024x384, .f32⟩
  | .hbm, ⟨22, _⟩ => ⟨S_, .f32⟩
  | .hbm, ⟨23, _⟩ => ⟨S1024x384, .f32⟩
  | .hbm, ⟨24, _⟩ => ⟨S1024x384, .f32⟩
  | .hbm, ⟨25, _⟩ => ⟨S1024x384, .f32⟩
  | .hbm, ⟨26, _⟩ => ⟨S_, .f32⟩
  | .hbm, ⟨27, _⟩ => ⟨S1024x384, .f32⟩
  | .hbm, ⟨28, _⟩ => ⟨S1024x384, .f32⟩
  | .hbm, ⟨29, _⟩ => ⟨S1024x384, .f32⟩
  | .hbm, ⟨30, _⟩ => ⟨S_, .f32⟩
  | .hbm, ⟨31, _⟩ => ⟨S1024x384, .f32⟩
  | .hbm, ⟨32, _⟩ => ⟨S1024x384, .f32⟩
  | .hbm, ⟨33, _⟩ => ⟨S1024x384, .f32⟩
  | .hbm, ⟨34, _⟩ => ⟨S_, .f32⟩
  | .hbm, ⟨35, _⟩ => ⟨S1024x384, .f32⟩
  | .hbm, ⟨36, _⟩ => ⟨S1024x384, .f32⟩
  | _, _ => ⟨S1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel17.lean ====
abbrev S128x512 : Shape := ⟨2, ![128, 512]⟩

abbrev nBuf : Space → Nat
  | .hbm => 8
  | .vmem => 8
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S128x512, .f32⟩
  | .hbm, ⟨7, _⟩ => ⟨S128x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference17Ideal.lean ====
abbrev S128x512 : Shape := ⟨2, ![128, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S_, .f32⟩
  | .hbm, ⟨5, _⟩ => ⟨S128x512, .f32⟩
  | .hbm, ⟨6, _⟩ => ⟨S128x512, .f32⟩
  | .hbm, ⟨7, _⟩ => ⟨S_, .f32⟩
  | .hbm, ⟨8, _⟩ => ⟨S128x512, .f32⟩
  | .hbm, ⟨9, _⟩ => ⟨S128x512, .f32⟩
  | .hbm, ⟨10, _⟩ => ⟨S128x512, .f32⟩
  | .hbm, ⟨11, _⟩ => ⟨S_, .f32⟩
  | .hbm, ⟨12, _⟩ => ⟨S128x512, .f32⟩
  | .hbm, ⟨13, _⟩ => ⟨S128x512, .f32⟩
  | .hbm, ⟨14, _⟩ => ⟨S128x512, .f32⟩
  | .hbm, ⟨15, _⟩ => ⟨S_, .f32⟩
  | .hbm, ⟨16, _⟩ => ⟨S128x512, .f32⟩
  | .hbm, ⟨17, _⟩ => ⟨S128x512, .f32⟩
  | .hbm, ⟨18, _⟩ => ⟨S128x512, .f32⟩
  | .hbm, ⟨19, _⟩ => ⟨S_, .f32⟩
  | .hbm, ⟨20, _⟩ => ⟨S128x512, .f32⟩
  | .hbm, ⟨21, _⟩ => ⟨S128x512, .f32⟩
  | .hbm, ⟨22, _⟩ => ⟨S_, .f32⟩
  | .hbm, ⟨23, _⟩ => ⟨S128x512, .f32⟩
  | .hbm, ⟨24, _⟩ => ⟨S128x512, .f32⟩
  | .hbm, ⟨25, _⟩ => ⟨S128x512, .f32⟩
  | .hbm, ⟨26, _⟩ => ⟨S_, .f32⟩
  | .hbm, ⟨27, _⟩ => ⟨S128x512, .f32⟩
  | .hbm, ⟨28, _⟩ => ⟨S128x512, .f32⟩
  | .hbm, ⟨29, _⟩ => ⟨S128x512, .f32⟩
  | .hbm, ⟨30, _⟩ => ⟨S_, .f32⟩
  | .hbm, ⟨31, _⟩ => ⟨S128x512, .f32⟩
  | .hbm, ⟨32, _⟩ => ⟨S128x512, .f32⟩
  | .hbm, ⟨33, _⟩ => ⟨S128x512, .f32⟩
  | .hbm, ⟨34, _⟩ => ⟨S_, .f32⟩
  | .hbm, ⟨35, _⟩ => ⟨S128x512, .f32⟩
  | .hbm, ⟨36, _⟩ => ⟨S128x512, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference18Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel19.lean ====
abbrev S31x128 : Shape := ⟨2, ![31, 128]⟩

abbrev nBuf : Space → Nat
  | .hbm => 9
  | .vmem => 9
  | .smem => 0
  | _ => 0

abbrev bufTy : (tb : Table) → Fin (tcTables nBuf tb) → BufTy
  | .hbm, ⟨0, _⟩ => ⟨S31x128, .f32⟩
  | .hbm, ⟨1, _⟩ => ⟨S31x128, .f32⟩
  | .hbm, ⟨2, _⟩ => ⟨S31x128, .f32⟩
  | .hbm, ⟨3, _⟩ => ⟨S31x128, .f32⟩
  | .hbm, ⟨4, _⟩ => ⟨S31x128, .f32⟩
  | .hbm, ⟨5, _⟩ => ⟨S31x128, .f32⟩
  | .hbm, ⟨6, _⟩ => ⟨S31x128, .f32⟩
  | .hbm, ⟨7, _⟩ => ⟨S31x128, .f32⟩
  | .hbm, ⟨8, _⟩ => ⟨S31x128, .f32⟩
  | .local _ .vmem, ⟨0, _⟩ => ⟨S31x128, .f32⟩
  | .local _ .vmem, ⟨1, _⟩ => ⟨S31x128, .f32⟩
  | .local _ .vmem, ⟨2, _⟩ => ⟨S31x128, .f32⟩
  | .local _ .vmem, ⟨3, _⟩ => ⟨S31x128, .f32⟩
  | .local _ .vmem, ⟨4, _⟩ => ⟨S31x128, .f32⟩
  | .local _ .vmem, ⟨5, _⟩ => ⟨S31x128, .f32⟩
  | .local _ .vmem, ⟨6, _⟩ => ⟨S31x128, .f32⟩
  | .local _ .vmem, ⟨7, _⟩ => ⟨S31x128, .f32⟩
  | .local _ .vmem, ⟨8, _⟩ => ⟨S31x128, .f32⟩
  | _, _ => ⟨S31x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S31x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S31x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S31x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference19Ideal.lean ====
abbrev S31x128 : Shape := ⟨2, ![31, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S31x128, .f32⟩
  | .hbm, ⟨1, _⟩ => ⟨S31x128, .f32⟩
  | .hbm, ⟨2, _⟩ => ⟨S31x128, .f32⟩
  | .hbm, ⟨3, _⟩ => ⟨S31x128, .f32⟩
  | .hbm, ⟨4, _⟩ => ⟨S31x128, .f32⟩
  | .hbm, ⟨5, _⟩ => ⟨S31x128, .f32⟩
  | .hbm, ⟨6, _⟩ => ⟨S_, .f32⟩
  | .hbm, ⟨7, _⟩ => ⟨S31x128, .f32⟩
  | .hbm, ⟨8, _⟩ => ⟨S31x128, .f32⟩
  | .hbm, ⟨9, _⟩ => ⟨S_, .f32⟩
  | .hbm, ⟨10, _⟩ => ⟨S31x128, .f32⟩
  | .hbm, ⟨11, _⟩ => ⟨S31x128, .f32⟩
  | .hbm, ⟨12, _⟩ => ⟨S31x128, .f32⟩
  | .hbm, ⟨13, _⟩ => ⟨S_, .f32⟩
  | .hbm, ⟨14, _⟩ => ⟨S31x128, .f32⟩
  | .hbm, ⟨15, _⟩ => ⟨S31x128, .f32⟩
  | .hbm, ⟨16, _⟩ => ⟨S31x128, .f32⟩
  | .hbm, ⟨17, _⟩ => ⟨S_, .f32⟩
  | .hbm, ⟨18, _⟩ => ⟨S31x128, .f32⟩
  | .hbm, ⟨19, _⟩ => ⟨S31x128, .f32⟩
  | .hbm, ⟨20, _⟩ => ⟨S31x128, .f32⟩
  | .hbm, ⟨21, _⟩ => ⟨S_, .f32⟩
  | .hbm, ⟨22, _⟩ => ⟨S31x128, .f32⟩
  | .hbm, ⟨23, _⟩ => ⟨S31x128, .f32⟩
  | .hbm, ⟨24, _⟩ => ⟨S_, .f32⟩
  | .hbm, ⟨25, _⟩ => ⟨S31x128, .f32⟩
  | .hbm, ⟨26, _⟩ => ⟨S31x128, .f32⟩
  | .hbm, ⟨27, _⟩ => ⟨S31x128, .f32⟩
  | .hbm, ⟨28, _⟩ => ⟨S_, .f32⟩
  | .hbm, ⟨29, _⟩ => ⟨S31x128, .f32⟩
  | .hbm, ⟨30, _⟩ => ⟨S31x128, .f32⟩
  | .hbm, ⟨31, _⟩ => ⟨S31x128, .f32⟩
  | .hbm, ⟨32, _⟩ => ⟨S_, .f32⟩
  | .hbm, ⟨33, _⟩ => ⟨S31x128, .f32⟩
  | .hbm, ⟨34, _⟩ => ⟨S31x128, .f32⟩
  | .hbm, ⟨35, _⟩ => ⟨S31x128, .f32⟩
  | .hbm, ⟨36, _⟩ => ⟨S_, .f32⟩
  | .hbm, ⟨37, _⟩ => ⟨S31x128, .f32⟩
  | .hbm, ⟨38, _⟩ => ⟨S31x128, .f32⟩
  | _, _ => ⟨S31x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel20.lean ====
abbrev S1144x128 : Shape := ⟨2, ![1144, 128]⟩
abbrev S9152x128 : Shape := ⟨2, ![9152, 128]⟩

abbrev nBuf : Space → Nat
  | .hbm => 8
  | .vmem => 8
  | .smem => 0
  | _ => 0

abbrev bufTy : (tb : Table) → Fin (tcTables nBuf tb) → BufTy
  | .hbm, ⟨0, _⟩ => ⟨S1144x128, .f32⟩
  | .hbm, ⟨1, _⟩ => ⟨S9152x128, .f32⟩
  | .hbm, ⟨2, _⟩ => ⟨S1144x128, .f32⟩
  | .hbm, ⟨3, _⟩ => ⟨S1144x128, .f32⟩
  | .hbm, ⟨4, _⟩ => ⟨S1144x128, .f32⟩
  | .hbm, ⟨5, _⟩ => ⟨S1144x128, .f32⟩
  | .hbm, ⟨6, _⟩ => ⟨S1144x128, .f32⟩
  | .hbm, ⟨7, _⟩ => ⟨S1144x128, .f32⟩
  | .local _ .vmem, ⟨0, _⟩ => ⟨S1144x128, .f32⟩
  | .local _ .vmem, ⟨1, _⟩ => ⟨S9152x128, .f32⟩
  | .local _ .vmem, ⟨2, _⟩ => ⟨S1144x128, .f32⟩
  | .local _ .vmem, ⟨3, _⟩ => ⟨S1144x128, .f32⟩
  | .local _ .vmem, ⟨4, _⟩ => ⟨S1144x128, .f32⟩
  | .local _ .vmem, ⟨5, _⟩ => ⟨S1144x128, .f32⟩
  | .local _ .vmem, ⟨6, _⟩ => ⟨S1144x128, .f32⟩
  | .local _ .vmem, ⟨7, _⟩ => ⟨S1144x128, .f32⟩
  | _, _ => ⟨S1144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1144x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9152x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1144x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1144x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1144x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1144x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1144x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1144x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference20Ideal.lean ====
abbrev S1144x128 : Shape := ⟨2, ![1144, 128]⟩
abbrev S9152x128 : Shape := ⟨2, ![9152, 128]⟩
abbrev S8x1144x128 : Shape := ⟨3, ![8, 1144, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1144x128, .f32⟩
  | .hbm, ⟨1, _⟩ => ⟨S9152x128, .f32⟩
  | .hbm, ⟨2, _⟩ => ⟨S1144x128, .f32⟩
  | .hbm, ⟨3, _⟩ => ⟨S1144x128, .f32⟩
  | .hbm, ⟨4, _⟩ => ⟨S8x1144x128, .f32⟩
  | .hbm, ⟨5, _⟩ => ⟨S_, .f32⟩
  | .hbm, ⟨6, _⟩ => ⟨S1144x128, .f32⟩
  | .hbm, ⟨7, _⟩ => ⟨S_, .f32⟩
  | .hbm, ⟨8, _⟩ => ⟨S1144x128, .f32⟩
  | .hbm, ⟨9, _⟩ => ⟨S1144x128, .f32⟩
  | .hbm, ⟨10, _⟩ => ⟨S_, .f32⟩
  | .hbm, ⟨11, _⟩ => ⟨S1144x128, .f32⟩
  | .hbm, ⟨12, _⟩ => ⟨S1144x128, .f32⟩
  | .hbm, ⟨13, _⟩ => ⟨S1144x128, .f32⟩
  | .hbm, ⟨14, _⟩ => ⟨S_, .f32⟩
  | .hbm, ⟨15, _⟩ => ⟨S1144x128, .f32⟩
  | .hbm, ⟨16, _⟩ => ⟨S1144x128, .f32⟩
  | .hbm, ⟨17, _⟩ => ⟨S1144x128, .f32⟩
  | .hbm, ⟨18, _⟩ => ⟨S_, .f32⟩
  | .hbm, ⟨19, _⟩ => ⟨S1144x128, .f32⟩
  | .hbm, ⟨20, _⟩ => ⟨S1144x128, .f32⟩
  | .hbm, ⟨21, _⟩ => ⟨S1144x128, .f32⟩
  | .hbm, ⟨22, _⟩ => ⟨S_, .f32⟩
  | .hbm, ⟨23, _⟩ => ⟨S1144x128, .f32⟩
  | .hbm, ⟨24, _⟩ => ⟨S1144x128, .f32⟩
  | .hbm, ⟨25, _⟩ => ⟨S_, .f32⟩
  | .hbm, ⟨26, _⟩ => ⟨S1144x128, .f32⟩
  | .hbm, ⟨27, _⟩ => ⟨S1144x128, .f32⟩
  | .hbm, ⟨28, _⟩ => ⟨S1144x128, .f32⟩
  | .hbm, ⟨29, _⟩ => ⟨S_, .f32⟩
  | .hbm, ⟨30, _⟩ => ⟨S1144x128, .f32⟩
  | .hbm, ⟨31, _⟩ => ⟨S1144x128, .f32⟩
  | .hbm, ⟨32, _⟩ => ⟨S1144x128, .f32⟩
  | .hbm, ⟨33, _⟩ => ⟨S_, .f32⟩
  | .hbm, ⟨34, _⟩ => ⟨S1144x128, .f32⟩
  | .hbm, ⟨35, _⟩ => ⟨S1144x128, .f32⟩
  | .hbm, ⟨36, _⟩ => ⟨S1144x128, .f32⟩
  | .hbm, ⟨37, _⟩ => ⟨S_, .f32⟩
  | .hbm, ⟨38, _⟩ => ⟨S1144x128, .f32⟩
  | .hbm, ⟨39, _⟩ => ⟨S1144x128, .f32⟩
  | _, _ => ⟨S1144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel21.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference21Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel22.lean ====
abbrev S1x2048 : Shape := ⟨2, ![1, 2048]⟩
abbrev S128x2048 : Shape := ⟨2, ![128, 2048]⟩
abbrev S2048x128 : Shape := ⟨2, ![2048, 128]⟩

abbrev nBuf : Space → Nat
  | .hbm => 13
  | .vmem => 13
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S128x2048, .f32⟩
  | .hbm, ⟨4, _⟩ => ⟨S128x2048, .f32⟩
  | .hbm, ⟨5, _⟩ => ⟨S2048x128, .f32⟩
  | .hbm, ⟨6, _⟩ => ⟨S2048x128, .f32⟩
  | .hbm, ⟨7, _⟩ => ⟨S1x2048, .f32⟩
  | .hbm, ⟨8, _⟩ => ⟨S1x2048, .f32⟩
  | .hbm, ⟨9, _⟩ => ⟨S128x2048, .bf16⟩
  | .hbm, ⟨10, _⟩ => ⟨S128x2048, .bf16⟩
  | .hbm, ⟨11, _⟩ => ⟨S2048x128, .bf16⟩
  | .hbm, ⟨12, _⟩ => ⟨S2048x128, .bf16⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S128x2048, .f32⟩
  | .local _ .vmem, ⟨4, _⟩ => ⟨S128x2048, .f32⟩
  | .local _ .vmem, ⟨5, _⟩ => ⟨S2048x128, .f32⟩
  | .local _ .vmem, ⟨6, _⟩ => ⟨S2048x128, .f32⟩
  | .local _ .vmem, ⟨7, _⟩ => ⟨S1x2048, .f32⟩
  | .local _ .vmem, ⟨8, _⟩ => ⟨S1x2048, .f32⟩
  | .local _ .vmem, ⟨9, _⟩ => ⟨S128x2048, .bf16⟩
  | .local _ .vmem, ⟨10, _⟩ => ⟨S128x2048, .bf16⟩
  | .local _ .vmem, ⟨11, _⟩ => ⟨S2048x128, .bf16⟩
  | .local _ .vmem, ⟨12, _⟩ => ⟨S2048x128, .bf16⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2048x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2048x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Reference22Ideal.lean ====
abbrev S1x2048 : Shape := ⟨2, ![1, 2048]⟩
abbrev S128x2048 : Shape := ⟨2, ![128, 2048]⟩
abbrev S2048x128 : Shape := ⟨2, ![2048, 128]⟩
abbrev S_ : Shape := ⟨0, ![]⟩

abbrev nBuf : Space → Nat
  | .hbm => 44
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S128x2048, .f32⟩
  | .hbm, ⟨4, _⟩ => ⟨S128x2048, .f32⟩
  | .hbm, ⟨5, _⟩ => ⟨S2048x128, .f32⟩
  | .hbm, ⟨6, _⟩ => ⟨S2048x128, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S128x2048, .f32⟩
  | .hbm, ⟨31, _⟩ => ⟨S128x2048, .f32⟩
  | .hbm, ⟨32, _⟩ => ⟨S128x2048, .f32⟩
  | .hbm, ⟨33, _⟩ => ⟨S128x2048, .f32⟩
  | .hbm, ⟨34, _⟩ => ⟨S128x2048, .f32⟩
  | .hbm, ⟨35, _⟩ => ⟨S128x2048, .f32⟩
  | .hbm, ⟨36, _⟩ => ⟨S128x2048, .f32⟩
  | .hbm, ⟨37, _⟩ => ⟨S128x2048, .f32⟩
  | .hbm, ⟨38, _⟩ => ⟨S128x2048, .f32⟩
  | .hbm, ⟨39, _⟩ => ⟨S128x2048, .f32⟩
  | .hbm, ⟨40, _⟩ => ⟨S128x2048, .bf16⟩
  | .hbm, ⟨41, _⟩ => ⟨S128x2048, .bf16⟩
  | .hbm, ⟨42, _⟩ => ⟨S2048x128, .bf16⟩
  | .hbm, ⟨43, _⟩ => ⟨S2048x128, .bf16⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩

abbrev nD : Nat := 1
abbrev τ : Topo := Topo.v7x

variable {F : FTy → Type} [FloatOps F]
-- ==== Kernel23.lean ====
abbrev S4x352x1024 : Shape := ⟨3, ![4, 352, 1024]⟩
abbrev S352x1024 : Shape := ⟨2, ![352, 1024]⟩
abbrev S4x176x1024 : Shape := ⟨3, ![4, 176, 1024]⟩
abbrev S176x1024 : Shape := ⟨2, ![176, 1024]⟩
abbrev S1x176x1024 : Shape := ⟨3, ![1, 176, 1024]⟩

abbrev nBuf : Space → Nat
  | .hbm => 2
  | .vmem => 4
  | .smem => 0
  | _ => 0

abbrev bufTy : (tb : Table) → Fin (tcTables nBuf tb) → BufTy
  | .hbm, ⟨0, _⟩ => ⟨S4x352x1024, .bf16⟩
  | .hbm, ⟨1, _⟩ => ⟨S352x1024, .f32⟩
  | .local _ .vmem, ⟨0, _⟩ => ⟨S4x176x1024, .bf16⟩
  | .local _ .vmem, ⟨1, _⟩ => ⟨S4x176x1024, .bf16⟩
  | .local _ .vmem, ⟨2, _⟩ => ⟨S176x1024, .f32⟩
  | .local _ .vmem, ⟨3, _⟩ => ⟨S176x1024, .f32⟩
  | _, _ => ⟨S4x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference23Ideal.lean ====
abbrev S4x352x1024 : Shape := ⟨3, ![4, 352, 1024]⟩
abbrev S_ : Shape := ⟨0, ![]⟩
abbrev S352x1024 : Shape := ⟨2, ![352, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x352x1024, .bf16⟩
  | .hbm, ⟨1, _⟩ => ⟨S4x352x1024, .f32⟩
  | .hbm, ⟨2, _⟩ => ⟨S_, .f32⟩
  | .hbm, ⟨3, _⟩ => ⟨S352x1024, .f32⟩
  | _, _ => ⟨S4x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel24.lean ====
abbrev S4x512x384 : Shape := ⟨3, ![4, 512, 384]⟩
abbrev S512x384 : Shape := ⟨2, ![512, 384]⟩
abbrev S1x512x384 : Shape := ⟨3, ![1, 512, 384]⟩

abbrev nBuf : Space → Nat
  | .hbm => 2
  | .vmem => 2
  | .smem => 0
  | _ => 0

abbrev bufTy : (tb : Table) → Fin (tcTables nBuf tb) → BufTy
  | .hbm, ⟨0, _⟩ => ⟨S4x512x384, .bf16⟩
  | .hbm, ⟨1, _⟩ => ⟨S512x384, .f32⟩
  | .local _ .vmem, ⟨0, _⟩ => ⟨S4x512x384, .bf16⟩
  | .local _ .vmem, ⟨1, _⟩ => ⟨S512x384, .f32⟩
  | _, _ => ⟨S4x512x384, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x512x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference24Ideal.lean ====
abbrev S4x512x384 : Shape := ⟨3, ![4, 512, 384]⟩
abbrev S_ : Shape := ⟨0, ![]⟩
abbrev S512x384 : Shape := ⟨2, ![512, 384]⟩

abbrev nBuf : Space → Nat
  | .hbm => 4
  | .vmem => 0
  | .smem => 0
  | _ => 0

abbrev bufTy : (tb : Table) → Fin (tcTables nBuf tb) → BufTy
  | .hbm, ⟨0, _⟩ => ⟨S4x512x384, .bf16⟩
  | .hbm, ⟨1, _⟩ => ⟨S4x512x384, .f32⟩
  | .hbm, ⟨2, _⟩ => ⟨S_, .f32⟩
  | .hbm, ⟨3, _⟩ => ⟨S512x384, .f32⟩
  | _, _ => ⟨S4x512x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel25.lean ====
abbrev S4x64x512 : Shape := ⟨3, ![4, 64, 512]⟩
abbrev S64x512 : Shape := ⟨2, ![64, 512]⟩
abbrev S1x64x512 : Shape := ⟨3, ![1, 64, 512]⟩

abbrev nBuf : Space → Nat
  | .hbm => 2
  | .vmem => 2
  | .smem => 0
  | _ => 0

abbrev bufTy : (tb : Table) → Fin (tcTables nBuf tb) → BufTy
  | .hbm, ⟨0, _⟩ => ⟨S4x64x512, .bf16⟩
  | .hbm, ⟨1, _⟩ => ⟨S64x512, .f32⟩
  | .local _ .vmem, ⟨0, _⟩ => ⟨S4x64x512, .bf16⟩
  | .local _ .vmem, ⟨1, _⟩ => ⟨S64x512, .f32⟩
  | _, _ => ⟨S4x64x512, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x64x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference25Ideal.lean ====
abbrev S4x64x512 : Shape := ⟨3, ![4, 64, 512]⟩
abbrev S_ : Shape := ⟨0, ![]⟩
abbrev S64x512 : Shape := ⟨2, ![64, 512]⟩

abbrev nBuf : Space → Nat
  | .hbm => 4
  | .vmem => 0
  | .smem => 0
  | _ => 0

abbrev bufTy : (tb : Table) → Fin (tcTables nBuf tb) → BufTy
  | .hbm, ⟨0, _⟩ => ⟨S4x64x512, .bf16⟩
  | .hbm, ⟨1, _⟩ => ⟨S4x64x512, .f32⟩
  | .hbm, ⟨2, _⟩ => ⟨S_, .f32⟩
  | .hbm, ⟨3, _⟩ => ⟨S64x512, .f32⟩
  | _, _ => ⟨S4x64x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel26.lean ====
abbrev S4x128x1024 : Shape := ⟨3, ![4, 128, 1024]⟩
abbrev S128x1024 : Shape := ⟨2, ![128, 1024]⟩
abbrev S1x128x1024 : Shape := ⟨3, ![1, 128, 1024]⟩

abbrev nBuf : Space → Nat
  | .hbm => 2
  | .vmem => 2
  | .smem => 0
  | _ => 0

abbrev bufTy : (tb : Table) → Fin (tcTables nBuf tb) → BufTy
  | .hbm, ⟨0, _⟩ => ⟨S4x128x1024, .bf16⟩
  | .hbm, ⟨1, _⟩ => ⟨S128x1024, .f32⟩
  | .local _ .vmem, ⟨0, _⟩ => ⟨S4x128x1024, .bf16⟩
  | .local _ .vmem, ⟨1, _⟩ => ⟨S128x1024, .f32⟩
  | _, _ => ⟨S4x128x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference26Ideal.lean ====
abbrev S4x128x1024 : Shape := ⟨3, ![4, 128, 1024]⟩
abbrev S_ : Shape := ⟨0, ![]⟩
abbrev S128x1024 : Shape := ⟨2, ![128, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S4x128x1024, .f32⟩
  | .hbm, ⟨2, _⟩ => ⟨S_, .f32⟩
  | .hbm, ⟨3, _⟩ => ⟨S128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel27.lean ====
abbrev S4x31x128 : Shape := ⟨3, ![4, 31, 128]⟩
abbrev S31x128 : Shape := ⟨2, ![31, 128]⟩
abbrev S1x31x128 : Shape := ⟨3, ![1, 31, 128]⟩

abbrev nBuf : Space → Nat
  | .hbm => 2
  | .vmem => 2
  | .smem => 0
  | _ => 0

abbrev bufTy : (tb : Table) → Fin (tcTables nBuf tb) → BufTy
  | .hbm, ⟨0, _⟩ => ⟨S4x31x128, .f32⟩
  | .hbm, ⟨1, _⟩ => ⟨S31x128, .f32⟩
  | .local _ .vmem, ⟨0, _⟩ => ⟨S4x31x128, .f32⟩
  | .local _ .vmem, ⟨1, _⟩ => ⟨S31x128, .f32⟩
  | _, _ => ⟨S4x31x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x31x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== Reference27Ideal.lean ====
abbrev S4x31x128 : Shape := ⟨3, ![4, 31, 128]⟩
abbrev S_ : Shape := ⟨0, ![]⟩
abbrev S31x128 : Shape := ⟨2, ![31, 128]⟩

abbrev nBuf : Space → Nat
  | .hbm => 3
  | .vmem => 0
  | .smem => 0
  | _ => 0

abbrev bufTy : (tb : Table) → Fin (tcTables nBuf tb) → BufTy
  | .hbm, ⟨0, _⟩ => ⟨S4x31x128, .f32⟩
  | .hbm, ⟨1, _⟩ => ⟨S_, .f32⟩
  | .hbm, ⟨2, _⟩ => ⟨S31x128, .f32⟩
  | _, _ => ⟨S4x31x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel28.lean ====
abbrev S1x2048 : Shape := ⟨2, ![1, 2048]⟩
abbrev S128x2048 : Shape := ⟨2, ![128, 2048]⟩
abbrev S2048 : Shape := ⟨1, ![2048]⟩

abbrev nBuf : Space → Nat
  | .hbm => 14
  | .vmem => 14
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S128x2048, .f32⟩
  | .hbm, ⟨4, _⟩ => ⟨S128x2048, .f32⟩
  | .hbm, ⟨5, _⟩ => ⟨S1x2048, .f32⟩
  | .hbm, ⟨6, _⟩ => ⟨S1x2048, .f32⟩
  | .hbm, ⟨7, _⟩ => ⟨S128x2048, .f32⟩
  | .hbm, ⟨8, _⟩ => ⟨S128x2048, .f32⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S128x2048, .f32⟩
  | .hbm, ⟨13, _⟩ => ⟨S128x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S128x2048, .f32⟩
  | .local _ .vmem, ⟨4, _⟩ => ⟨S128x2048, .f32⟩
  | .local _ .vmem, ⟨5, _⟩ => ⟨S1x2048, .f32⟩
  | .local _ .vmem, ⟨6, _⟩ => ⟨S1x2048, .f32⟩
  | .local _ .vmem, ⟨7, _⟩ => ⟨S128x2048, .f32⟩
  | .local _ .vmem, ⟨8, _⟩ => ⟨S128x2048, .f32⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S128x2048, .f32⟩
  | .local _ .vmem, ⟨13, _⟩ => ⟨S128x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S128x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Reference28Ideal.lean ====
abbrev S1x2048 : Shape := ⟨2, ![1, 2048]⟩
abbrev S128x2048 : Shape := ⟨2, ![128, 2048]⟩
abbrev S_ : Shape := ⟨0, ![]⟩
abbrev S2048 : Shape := ⟨1, ![2048]⟩

abbrev nBuf : Space → Nat
  | .hbm => 137
  | .vmem => 0
  | .smem => 0
  | _ => 0

abbrev hbmTy0_0 (i : Nat) : BufTy := match i % 128 with
  | 0 => ⟨S1x2048, .f32⟩
  | 1 => ⟨S1x2048, .f32⟩
  | 2 => ⟨S1x2048, .f32⟩
  | 3 => ⟨S128x2048, .f32⟩
  | 4 => ⟨S128x2048, .f32⟩
  | 5 => ⟨S1x2048, .f32⟩
  | 6 => ⟨S1x2048, .f32⟩
  | 7 => ⟨S128x2048, .f32⟩
  | 8 => ⟨S128x2048, .f32⟩
  | 9 => ⟨S1x2048, .f32⟩
  | 10 => ⟨S1x2048, .f32⟩
  | 11 => ⟨S1x2048, .f32⟩
  | 12 => ⟨S1x2048, .f32⟩
  | 13 => ⟨S1x2048, .f32⟩
  | 14 => ⟨S1x2048, .f32⟩
  | 15 => ⟨S1x2048, .f32⟩
  | 16 => ⟨S1x2048, .f32⟩
  | 17 => ⟨S1x2048, .f32⟩
  | 18 => ⟨S1x2048, .f32⟩
  | 19 => ⟨S1x2048, .f32⟩
  | 20 => ⟨S1x2048, .f32⟩
  | 21 => ⟨S1x2048, .f32⟩
  | 22 => ⟨S1x2048, .f32⟩
  | 23 => ⟨S_, .f32⟩
  | 24 => ⟨S1x2048, .f32⟩
  | 25 => ⟨S1x2048, .f32⟩
  | 26 => ⟨S1x2048, .f32⟩
  | 27 => ⟨S1x2048, .f32⟩
  | 28 => ⟨S1x2048, .f32⟩
  | 29 => ⟨S1x2048, .f32⟩
  | 30 => ⟨S1x2048, .f32⟩
  | 31 => ⟨S_, .f32⟩
  | 32 => ⟨S1x2048, .f32⟩
  | 33 => ⟨S1x2048, .f32⟩
  | 34 => ⟨S1x2048, .f32⟩
  | 35 => ⟨S1x2048, .f32⟩
  | 36 => ⟨S1x2048, .f32⟩
  | 37 => ⟨S1x2048, .f32⟩
  | 38 => ⟨S1x2048, .f32⟩
  | 39 => ⟨S_, .f32⟩
  | 40 => ⟨S1x2048, .f32⟩
  | 41 => ⟨S1x2048, .f32⟩
  | 42 => ⟨S128x2048, .f32⟩
  | 43 => ⟨S128x2048, .f32⟩
  | 44 => ⟨S128x2048, .f32⟩
  | 45 => ⟨S128x2048, .f32⟩
  | 46 => ⟨S128x2048, .f32⟩
  | 47 => ⟨S128x2048, .f32⟩
  | 48 => ⟨S128x2048, .f32⟩
  | 49 => ⟨S128x2048, .f32⟩
  | 50 => ⟨S128x2048, .f32⟩
  | 51 => ⟨S128x2048, .f32⟩
  | 52 => ⟨S128x2048, .f32⟩
  | 53 => ⟨S128x2048, .f32⟩
  | 54 => ⟨S128x2048, .f32⟩
  | 55 => ⟨S128x2048, .f32⟩
  | 56 => ⟨S128x2048, .f32⟩
  | 57 => ⟨S_, .f32⟩
  | 58 => ⟨S2048, .f32⟩
  | 59 => ⟨S1x2048, .f32⟩
  | 60 => ⟨S128x2048, .f32⟩
  | 61 => ⟨S128x2048, .f32⟩
  | 62 => ⟨S128x2048, .f32⟩
  | 63 => ⟨S_, .f32⟩
  | 64 => ⟨S2048, .f32⟩
  | 65 => ⟨S1x2048, .f32⟩
  | 66 => ⟨S128x2048, .f32⟩
  | 67 => ⟨S128x2048, .f32⟩
  | 68 => ⟨S128x2048, .f32⟩
  | 69 => ⟨S128x2048, .f32⟩
  | 70 => ⟨S128x2048, .f32⟩
  | 71 => ⟨S128x2048, .f32⟩
  | 72 => ⟨S_, .f32⟩
  | 73 => ⟨S2048, .f32⟩
  | 74 => ⟨S1x2048, .f32⟩
  | 75 => ⟨S1x2048, .f32⟩
  | 76 => ⟨S128x2048, .f32⟩
  | 77 => ⟨S128x2048, .f32⟩
  | 78 => ⟨S128x2048, .f32⟩
  | 79 => ⟨S128x2048, .f32⟩
  | 80 => ⟨S_, .f32⟩
  | 81 => ⟨S2048, .f32⟩
  | 82 => ⟨S1x2048, .f32⟩
  | 83 => ⟨S1x2048, .f32⟩
  | 84 => ⟨S1x2048, .f32⟩
  | 85 => ⟨S1x2048, .f32⟩
  | 86 => ⟨S1x2048, .f32⟩
  | 87 => ⟨S1x2048, .f32⟩
  | 88 => ⟨S1x2048, .f32⟩
  | 89 => ⟨S1x2048, .f32⟩
  | 90 => ⟨S1x2048, .f32⟩
  | 91 => ⟨S1x2048, .f32⟩
  | 92 => ⟨S1x2048, .f32⟩
  | 93 => ⟨S1x2048, .f32⟩
  | 94 => ⟨S1x2048, .f32⟩
  | 95 => ⟨S1x2048, .f32⟩
  | 96 => ⟨S1x2048, .f32⟩
  | 97 => ⟨S1x2048, .f32⟩
  | 98 => ⟨S1x2048, .f32⟩
  | 99 => ⟨S1x2048, .f32⟩
  | 100 => ⟨S1x2048, .f32⟩
  | 101 => ⟨S1x2048, .f32⟩
  | 102 => ⟨S1x2048, .f32⟩
  | 103 => ⟨S1x2048, .f32⟩
  | 104 => ⟨S1x2048, .f32⟩
  | 105 => ⟨S1x2048, .f32⟩
  | 106 => ⟨S1x2048, .f32⟩
  | 107 => ⟨S1x2048, .f32⟩
  | 108 => ⟨S1x2048, .f32⟩
  | 109 => ⟨S1x2048, .f32⟩
  | 110 => ⟨S1x2048, .f32⟩
  | 111 => ⟨S1x2048, .f32⟩
  | 112 => ⟨S1x2048, .f32⟩
  | 113 => ⟨S1x2048, .f32⟩
  | 114 => ⟨S1x2048, .f32⟩
  | 115 => ⟨S1x2048, .f32⟩
  | 116 => ⟨S1x2048, .f32⟩
  | 117 => ⟨S1x2048, .f32⟩
  | 118 => ⟨S1x2048, .f32⟩
  | 119 => ⟨S1x2048, .f32⟩
  | 120 => ⟨S1x2048, .f32⟩
  | 121 => ⟨S1x2048, .f32⟩
  | 122 => ⟨S1x2048, .f32⟩
  | 123 => ⟨S1x2048, .f32⟩
  | 124 => ⟨S1x2048, .f32⟩
  | 125 => ⟨S1x2048, .f32⟩
  | 126 => ⟨S1x2048, .f32⟩
  | 127 => ⟨S1x2048, .f32⟩
  | _ => ⟨S1x2048, .f32⟩

abbrev hbmTy0_1 (i : Nat) : BufTy := match i % 128 with
  | 0 => ⟨S1x2048, .f32⟩
  | 1 => ⟨S1x2048, .f32⟩
  | 2 => ⟨S1x2048, .f32⟩
  | 3 => ⟨S1x2048, .f32⟩
  | 4 => ⟨S1x2048, .f32⟩
  | 5 => ⟨S1x2048, .f32⟩
  | 6 => ⟨S1x2048, .f32⟩
  | 7 => ⟨S1x2048, .f32⟩
  | 8 => ⟨S1x2048, .f32⟩
  | _ => ⟨S1x2048, .f32⟩

abbrev hbmTy (i : Nat) : BufTy := match i / 128 with
  | 0 => hbmTy0_0 i
  | 1 => hbmTy0_1 i
  | _ => ⟨S1x2048, .f32⟩

abbrev bufTy : (tb : Table) → Fin (tcTables nBuf tb) → BufTy
  | .hbm, ⟨i, _⟩ => hbmTy i
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_2 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_3 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_4 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_cst_5 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩

abbrev nD : Nat := 1
abbrev τ : Topo := Topo.v7x

variable {F : FTy → Type} [FloatOps F]
-- ==== Proof.Reals.lean ====
/-
  Extended reals that are real numbers.

  The gradients compared here differ from their references by identities of the real numbers (the derivative of a
  product written factored, or expanded), which fail at infinities. So a value proof first shows that every quantity is a
  real number (`IsReal`), then computes there. Also here: what the precondition "every element is finite" says of an
  element, and the float constants as real numbers.
-/
module

public import Idealize.ShloMosaic.Lib.Pointwise
public import Idealize.ShloMosaic.Lib.IdealHost

@[expose] public section

namespace Cert.Hand

open Idealize.ShloMosaic

/-- `x` is a real number: neither infinity. -/
def IsReal (x : EReal) : Prop := ∃ r : ℝ, x = (r : EReal)

namespace IsReal

variable {x y : EReal}

theorem coe (r : ℝ) : IsReal (r : EReal) := ⟨r, rfl⟩
theorem zero : IsReal 0 := ⟨0, by simp⟩
theorem one : IsReal 1 := ⟨1, by simp⟩
theorem add (hx : IsReal x) (hy : IsReal y) : IsReal (x + y) := by
  obtain ⟨a, rfl⟩ := hx; obtain ⟨b, rfl⟩ := hy; exact ⟨a + b, by push_cast; rfl⟩
theorem sub (hx : IsReal x) (hy : IsReal y) : IsReal (x - y) := by
  obtain ⟨a, rfl⟩ := hx; obtain ⟨b, rfl⟩ := hy; exact ⟨a - b, by push_cast; rfl⟩
theorem mul (hx : IsReal x) (hy : IsReal y) : IsReal (x * y) := by
  obtain ⟨a, rfl⟩ := hx; obtain ⟨b, rfl⟩ := hy; exact ⟨a * b, by push_cast; rfl⟩
theorem neg (hx : IsReal x) : IsReal (-x) := by
  obtain ⟨a, rfl⟩ := hx; exact ⟨-a, by push_cast; rfl⟩
theorem sum {ι : Type*} (s : Finset ι) {f : ι → EReal} (h : ∀ k ∈ s, IsReal (f k)) : IsReal (∑ k ∈ s, f k) := by
  classical
  induction s using Finset.induction_on with
  | empty => simpa using zero
  | insert a s ha ih =>
    rw [Finset.sum_insert ha]
    exact (h a (Finset.mem_insert_self a s)).add (ih fun k hk => h k (Finset.mem_insert_of_mem hk))

end IsReal

/-- An extended real strictly between the infinities is a real number. -/
theorem isReal_of_abs_lt_top {x : EReal} (h : max x (-x) < ⊤) : IsReal x := by
  induction x with
  | bot => simp at h
  | top => simp at h
  | coe r => exact ⟨r, rfl⟩

theorem ofBits_inf : Ideal.ofBits .f32 0x7F800000#32 = ⊤ := by simp [Ideal.ofBits, Ideal.ieee]

theorem ofBits_half : Ideal.ofBits .f32 0x3F000000#32 = ((1 / 2 : ℝ) : EReal) := by
  simp [Ideal.ofBits, Ideal.ieee, -EReal.coe_mul]; norm_num

theorem ofBits_one : Ideal.ofBits .f32 0x3F800000#32 = 1 := by
  rw [show Ideal.ofBits .f32 0x3F800000#32 = ((1 : ℝ) : EReal) by simp [Ideal.ofBits, Ideal.ieee, -EReal.coe_mul]; norm_num]
  exact EReal.coe_one

/-- A half distributes over every sum of extended reals. -/
theorem half_mul_add (x y : EReal) : Ideal.ofBits .f32 0x3F000000#32 * (x + y) = Ideal.ofBits .f32 0x3F000000#32 * x + Ideal.ofBits .f32 0x3F000000#32 * y := by
  rw [ofBits_half]
  exact EReal.left_distrib_of_nonneg_of_ne_top (by exact_mod_cast (by norm_num : (0 : ℝ) ≤ 1 / 2)) (EReal.coe_ne_top _) x y

theorem half_mul_sum {ι : Type*} (s : Finset ι) (f : ι → EReal) :
    Ideal.ofBits .f32 0x3F000000#32 * ∑ k ∈ s, f k = ∑ k ∈ s, Ideal.ofBits .f32 0x3F000000#32 * f k := by
  classical
  induction s using Finset.induction_on with
  | empty => simp
  | insert a s ha ih => rw [Finset.sum_insert ha, Finset.sum_insert ha, half_mul_add, ih]

/-- The element test of "every element is finite". -/
theorem isReal_of_cmp {x : EReal} (h : Ideal.cmp .olt (max x (-x)) ⊤ = 1#1) : IsReal x := by
  apply isReal_of_abs_lt_top
  by_contra hc
  simp [Ideal.cmp, hc] at h

/-- A sum of products with a real factor drawn out in front. -/
theorem real_mul_sum {ι : Type*} (s : Finset ι) (c : ℝ) (f : ι → EReal) (h : ∀ k ∈ s, IsReal (f k)) :
    (c : EReal) * ∑ k ∈ s, f k = ∑ k ∈ s, (c : EReal) * f k := by
  classical
  induction s using Finset.induction_on with
  | empty => simp
  | insert a s ha ih =>
    have h1 := h a (Finset.mem_insert_self a s)
    have h2 : IsReal (∑ k ∈ s, f k) := IsReal.sum s fun k hk => h k (Finset.mem_insert_of_mem hk)
    rw [Finset.sum_insert ha, Finset.sum_insert ha, ← ih fun k hk => h k (Finset.mem_insert_of_mem hk)]
    obtain ⟨u, hu⟩ := h1
    obtain ⟨v, hv⟩ := h2
    rw [hu, hv]
    norm_cast
    ring

/-- The logistic function of a real number, as both programs spell it. -/
theorem logistic_real (a : ℝ) :
    Ideal.div 1 (1 + Ideal.exp (-(a : EReal))) = ((1 / (1 + Real.exp (-a)) : ℝ) : EReal) := by
  have hp : (1 + Real.exp (-a)) ≠ 0 := by positivity
  rw [show (-(a : EReal)) = ((-a : ℝ) : EReal) by push_cast; rfl, Ideal.exp_coe,
    show (1 : EReal) + ((Real.exp (-a) : ℝ) : EReal) = ((1 + Real.exp (-a) : ℝ) : EReal) by push_cast; rfl,
    Ideal.div_coe hp, one_mul]

theorem logistic_isReal {x : EReal} (h : IsReal x) : IsReal (Ideal.div 1 (1 + Ideal.exp (-x))) := by
  obtain ⟨a, rfl⟩ := h
  exact ⟨_, logistic_real a⟩

end Cert.Hand
end
-- ==== Proof.Act.lean ====
/-
  The gradient of SwiGLU's two branches: the value of the pipelined kernel.

  Grid point `t` takes row block `t / 4` and hidden shard `t % 4`. Its block of either result is the payload of its
  input blocks (`out4`, `out5`); read at an index, that is one formula of the arguments at the array's own index
  (`dgateAt`, `dupAt`), and the sixteen blocks tile the two arrays, so the arrays end holding the formulas.
-/
module

public import proofs.«01_k».proof.Proof.Gen.KernelIdeal.Value
public import Idealize.ShloMosaic.Lib.Pointwise
public import Idealize.ShloMosaic.Lib.VecWindow
public import proofs.«01_k».proof.Proof.Reals

@[expose] public section

set_option maxRecDepth 16384

noncomputable section

namespace Cert.KernelIdeal.Act

open Cert.KernelIdeal Cert.KernelIdeal.Gen Idealize.ShloMosaic Idealize.ShloMosaic.TcCoe Idealize.SL.Sem
open Cert.Hand

/-! ## The formulas -/

/-- The gradient of the hidden layer `silu gate * up`: half of `dx · w_downᵀ`. -/
def dhidden (dx : FVec Ideal S4096x1024 .bf16) (w : FVec Ideal S4x704x1024 .bf16) (g : Fin 4) (l : Fin 4096) (f : Fin 704) : EReal :=
  Ideal.ofBits .f32 0x3F000000#32 * ∑ k : Fin 1024, dx (ix2 l k) * w (ix3 g f k)

/-- The logistic function. -/
def sg (x : EReal) : EReal := Ideal.div 1 (1 + Ideal.exp (0 - x))

/-- The gradient of the gate branch, as the kernel writes it. -/
def dgateAt (dx : FVec Ideal S4096x1024 .bf16) (w : FVec Ideal S4x704x1024 .bf16) (a b : FVec Ideal S4x4096x704 .bf16)
    (g : Fin 4) (l : Fin 4096) (f : Fin 704) : EReal :=
  dhidden dx w g l f * b (ix3 g l f) * sg (a (ix3 g l f)) * (1 + a (ix3 g l f) * (1 - sg (a (ix3 g l f))))

/-- The gradient of the up branch, as the kernel writes it. -/
def dupAt (dx : FVec Ideal S4096x1024 .bf16) (w : FVec Ideal S4x704x1024 .bf16) (a : FVec Ideal S4x4096x704 .bf16)
    (g : Fin 4) (l : Fin 4096) (f : Fin 704) : EReal :=
  dhidden dx w g l f * a (ix3 g l f) * sg (a (ix3 g l f))

def dgate (dx : FVec Ideal S4096x1024 .bf16) (w : FVec Ideal S4x704x1024 .bf16) (a b : FVec Ideal S4x4096x704 .bf16) : FVec Ideal S4x4096x704 .bf16 :=
  fun i => dgateAt dx w a b (i 0) (i 1) (i 2)
def dup (dx : FVec Ideal S4096x1024 .bf16) (w : FVec Ideal S4x704x1024 .bf16) (a : FVec Ideal S4x4096x704 .bf16) : FVec Ideal S4x4096x704 .bf16 :=
  fun i => dupAt dx w a (i 0) (i 1) (i 2)

/-! ## The payloads at an index -/

theorem pay5_apply (v0 : Vec Ideal S1024x1024 .bf16) (v2 : Vec Ideal S1x704x1024 .bf16) (v7 v10 : Vec Ideal S1x1024x704 .bf16)
    (r : Fin 1024) (f : Fin 704) : k0_pay5 v0 v2 v7 v10 (ix3 0 r f)
      = (Ideal.ofBits .f32 0x3F000000#32 * ∑ k : Fin 1024, v0 (ix2 r k) * v2 (ix3 0 f k)) * v10 (ix3 0 r f) * sg (v7 (ix3 0 r f))
        * (1 + v7 (ix3 0 r f) * (1 - sg (v7 (ix3 0 r f)))) := by
  pointwise [k0_pay5, k0_pay4, k0_pay3, k0_pay2]
  rfl

theorem pay1_apply (v0 : Vec Ideal S1024x1024 .bf16) (v2 : Vec Ideal S1x704x1024 .bf16) (v7 : Vec Ideal S1x1024x704 .bf16)
    (r : Fin 1024) (f : Fin 704) : k0_pay1 (k0_pay6 v0 v2 v7) (ix3 0 r f)
      = (Ideal.ofBits .f32 0x3F000000#32 * ∑ k : Fin 1024, v0 (ix2 r k) * v2 (ix3 0 f k)) * v7 (ix3 0 r f) * sg (v7 (ix3 0 r f)) := by
  pointwise [k0_pay1, k0_pay6, k0_pay4, k0_pay3, k0_pay2]
  rfl

/-! ## The blocks -/

section
variable {F : FTy → Type} [FloatOps F]
variable (m : (ℓ : Loc nD τ sig) → Buf (Elt F) ℓ)

theorem idx0 : ∀ t : Fin cfg0.N, win0_0.index t 0 * win0_0.size 0 = 1024 * (t.val / 4) ∧ win0_0.index t 1 * win0_0.size 1 = 0 :=
  (by decide +kernel : ∀ t : Fin grid0.N, win0_0.index t 0 * win0_0.size 0 = 1024 * (t.val / 4) ∧ win0_0.index t 1 * win0_0.size 1 = 0)
theorem idx1 : ∀ t : Fin cfg0.N, win0_1.index t 0 * win0_1.size 0 = 0 ∧ win0_1.index t 1 * win0_1.size 1 = 0 ∧ win0_1.index t 2 * win0_1.size 2 = 0 :=
  (by decide +kernel : ∀ t : Fin grid0.N, win0_1.index t 0 * win0_1.size 0 = 0 ∧ win0_1.index t 1 * win0_1.size 1 = 0 ∧ win0_1.index t 2 * win0_1.size 2 = 0)
theorem idx2 : ∀ t : Fin cfg0.N, win0_2.index t 0 * win0_2.size 0 = t.val % 4 ∧ win0_2.index t 1 * win0_2.size 1 = 1024 * (t.val / 4) ∧ win0_2.index t 2 * win0_2.size 2 = 0 :=
  (by decide +kernel : ∀ t : Fin grid0.N, win0_2.index t 0 * win0_2.size 0 = t.val % 4 ∧ win0_2.index t 1 * win0_2.size 1 = 1024 * (t.val / 4) ∧ win0_2.index t 2 * win0_2.size 2 = 0)
theorem idx3 : ∀ t : Fin cfg0.N, win0_3.index t 0 * win0_3.size 0 = t.val % 4 ∧ win0_3.index t 1 * win0_3.size 1 = 1024 * (t.val / 4) ∧ win0_3.index t 2 * win0_3.size 2 = 0 :=
  (by decide +kernel : ∀ t : Fin grid0.N, win0_3.index t 0 * win0_3.size 0 = t.val % 4 ∧ win0_3.index t 1 * win0_3.size 1 = 1024 * (t.val / 4) ∧ win0_3.index t 2 * win0_3.size 2 = 0)
/-- The shard the body reads at point `t`. -/
theorem off1 : ∀ t : Fin cfg0.N, k0_off1 (grid0.coords t) 0 = t.val % 4 ∧ k0_off1 (grid0.coords t) 1 = 0 ∧ k0_off1 (grid0.coords t) 2 = 0 :=
  (by decide +kernel : ∀ t : Fin grid0.N, k0_off1 (grid0.coords t) 0 = t.val % 4 ∧ k0_off1 (grid0.coords t) 1 = 0 ∧ k0_off1 (grid0.coords t) 2 = 0)

theorem iblk0 (c : Dev nD) (t : Fin cfg0.N) (r k : Fin 1024) (l : Fin 4096) (hl : l.val = 1024 * (t.val / 4) + r.val) :
    iblk m c 0 t (ix2 r k) = m ((c : Thread nD τ).loc main_arg0) (ix2 l k) := by
  unfold iblk
  rw [View.read_apply]
  refine congrArg (m ((c : Thread nD τ).loc main_arg0)) (funext fun a => Fin.ext ?_)
  match a with
  | ⟨0, _⟩ => show win0_0.index t 0 * win0_0.size 0 + 1 * r.val = l.val; rw [(idx0 t).1, hl]; omega
  | ⟨1, _⟩ => show win0_0.index t 1 * win0_0.size 1 + 1 * k.val = k.val; rw [(idx0 t).2]; omega

theorem iblk2 (c : Dev nD) (t : Fin cfg0.N) (r : Fin 1024) (f : Fin 704) (g : Fin 4) (l : Fin 4096)
    (hg : g.val = t.val % 4) (hl : l.val = 1024 * (t.val / 4) + r.val) :
    iblk m c 2 t (ix3 0 r f) = m ((c : Thread nD τ).loc main_arg2) (ix3 g l f) := by
  unfold iblk
  rw [View.read_apply]
  refine congrArg (m ((c : Thread nD τ).loc main_arg2)) (funext fun a => Fin.ext ?_)
  match a with
  | ⟨0, _⟩ => show win0_2.index t 0 * win0_2.size 0 + 1 * 0 = g.val; rw [(idx2 t).1, hg]; omega
  | ⟨1, _⟩ => show win0_2.index t 1 * win0_2.size 1 + 1 * r.val = l.val; rw [(idx2 t).2.1, hl]; omega
  | ⟨2, _⟩ => show win0_2.index t 2 * win0_2.size 2 + 1 * f.val = f.val; rw [(idx2 t).2.2]; omega

theorem iblk3 (c : Dev nD) (t : Fin cfg0.N) (r : Fin 1024) (f : Fin 704) (g : Fin 4) (l : Fin 4096)
    (hg : g.val = t.val % 4) (hl : l.val = 1024 * (t.val / 4) + r.val) :
    iblk m c 3 t (ix3 0 r f) = m ((c : Thread nD τ).loc main_arg3) (ix3 g l f) := by
  unfold iblk
  rw [View.read_apply]
  refine congrArg (m ((c : Thread nD τ).loc main_arg3)) (funext fun a => Fin.ext ?_)
  match a with
  | ⟨0, _⟩ => show win0_3.index t 0 * win0_3.size 0 + 1 * 0 = g.val; rw [(idx3 t).1, hg]; omega
  | ⟨1, _⟩ => show win0_3.index t 1 * win0_3.size 1 + 1 * r.val = l.val; rw [(idx3 t).2.1, hl]; omega
  | ⟨2, _⟩ => show win0_3.index t 2 * win0_3.size 2 + 1 * f.val = f.val; rw [(idx3 t).2.2]; omega

/-- The shard of the down projection that point `t` loads. -/
def wblk (c : Dev nD) (t : Fin cfg0.N) : Vec F S1x704x1024 .bf16 :=
  View.ld (S := S4x704x1024) (iblk m c 1 t) (Rect.unit (s := S4x704x1024) (k0_off1 (grid0.coords t)) S1x704x1024.size (k0_off1_inb (grid0.coords t)))

theorem wblk_apply (c : Dev nD) (t : Fin cfg0.N) (f : Fin 704) (k : Fin 1024) (g : Fin 4) (hg : g.val = t.val % 4) :
    wblk m c t (ix3 0 f k) = m ((c : Thread nD τ).loc main_arg1) (ix3 g f k) := by
  unfold wblk
  show iblk m c 1 t ((Rect.unit (s := S4x704x1024) (k0_off1 (grid0.coords t)) S1x704x1024.size (k0_off1_inb (grid0.coords t))).emb (ix3 0 f k)) = _
  unfold iblk
  rw [View.read_apply]
  refine congrArg (m ((c : Thread nD τ).loc main_arg1)) (funext fun a => Fin.ext ?_)
  match a with
  | ⟨0, _⟩ => show win0_1.index t 0 * win0_1.size 0 + 1 * (k0_off1 (grid0.coords t) 0 + 1 * 0) = g.val; rw [(idx1 t).1, (off1 t).1, hg]; omega
  | ⟨1, _⟩ => show win0_1.index t 1 * win0_1.size 1 + 1 * (k0_off1 (grid0.coords t) 1 + 1 * f.val) = f.val; rw [(idx1 t).2.1, (off1 t).2.1]; omega
  | ⟨2, _⟩ => show win0_1.index t 2 * win0_1.size 2 + 1 * (k0_off1 (grid0.coords t) 2 + 1 * k.val) = k.val; rw [(idx1 t).2.2, (off1 t).2.2]; omega

theorem hz2 : (![0, 0] : Fin 2 → Nat) = fun _ => 0 := funext fun a => by fin_cases a <;> rfl
theorem hz3 : (![0, 0, 0] : Fin 3 → Nat) = fun _ => 0 := funext fun a => by fin_cases a <;> rfl

/-- What point `t` leaves in the gate result's buffer: the payload of its blocks. -/
theorem out4 (c : Dev nD) (t : Fin cfg0.N) :
    (outsAt0 m c t).1 = k0_pay5 (iblk m c 0 t) (wblk m c t) (iblk m c 2 t) (iblk m c 3 t) := by
  unfold outsAt0 out0_A_4
  dsimp only
  unfold kernelRun0_A
  dsimp only
  sl_unfold_words
  rw [View.read_writes_full]
  simp only [View.readAt_eq_ld, (hs0_0 t).read_unread, (hs0_1 t).read_unread, (hs0_2 t).read_unread, (hs0_3 t).read_unread]
  exact congr (congr (congr (congrArg k0_pay5 (View.ld_unit_zero (S := S1024x1024) hz2 _ _)) rfl)
    (View.ld_unit_zero (S := S1x1024x704) hz3 _ _)) (View.ld_unit_zero (S := S1x1024x704) hz3 _ _)

/-- and in the up result's. -/
theorem out5 (c : Dev nD) (t : Fin cfg0.N) :
    (outsAt0 m c t).2 = k0_pay1 (k0_pay6 (iblk m c 0 t) (wblk m c t) (iblk m c 2 t)) := by
  unfold outsAt0 out0_A_5
  dsimp only
  unfold kernelRun0_A
  dsimp only
  sl_unfold_words
  rw [View.read_writes_full]
  simp only [View.readAt_eq_ld, (hs0_0 t).read_unread, (hs0_1 t).read_unread, (hs0_2 t).read_unread, (hs0_3 t).read_unread]
  exact congrArg k0_pay1 (congr (congr (congrArg k0_pay6 (View.ld_unit_zero (S := S1024x1024) hz2 _ _)) rfl)
    (View.ld_unit_zero (S := S1x1024x704) hz3 _ _))

end

/-! ## The result arrays -/

section
variable (m : (ℓ : Loc nD τ sig) → Buf (Elt Ideal) ℓ) (ρ : Dev nD → PrngReg)

theorem idx4 : ∀ t : Fin cfg0.N, win0_4.index t 0 * win0_4.size 0 = t.val % 4 ∧ win0_4.index t 1 * win0_4.size 1 = 1024 * (t.val / 4) ∧ win0_4.index t 2 * win0_4.size 2 = 0 :=
  (by decide +kernel : ∀ t : Fin grid0.N, win0_4.index t 0 * win0_4.size 0 = t.val % 4 ∧ win0_4.index t 1 * win0_4.size 1 = 1024 * (t.val / 4) ∧ win0_4.index t 2 * win0_4.size 2 = 0)
theorem idx5 : ∀ t : Fin cfg0.N, win0_5.index t 0 * win0_5.size 0 = t.val % 4 ∧ win0_5.index t 1 * win0_5.size 1 = 1024 * (t.val / 4) ∧ win0_5.index t 2 * win0_5.size 2 = 0 :=
  (by decide +kernel : ∀ t : Fin grid0.N, win0_5.index t 0 * win0_5.size 0 = t.val % 4 ∧ win0_5.index t 1 * win0_5.size 1 = 1024 * (t.val / 4) ∧ win0_5.index t 2 * win0_5.size 2 = 0)

theorem lt_N (t : Fin cfg0.N) : t.val < 16 := lt_of_lt_of_eq t.isLt N_0

/-- The device's arguments, by name. -/
abbrev aDx (c : Dev nD) : FVec Ideal S4096x1024 .bf16 := m ((c : Thread nD τ).loc main_arg0)
abbrev aW (c : Dev nD) : FVec Ideal S4x704x1024 .bf16 := m ((c : Thread nD τ).loc main_arg1)
abbrev aGate (c : Dev nD) : FVec Ideal S4x4096x704 .bf16 := m ((c : Thread nD τ).loc main_arg2)
abbrev aUp (c : Dev nD) : FVec Ideal S4x4096x704 .bf16 := m ((c : Thread nD τ).loc main_arg3)

/-- The array index that block index `(0, r, f)` of point `t` is. -/
theorem emb4 (t : Fin cfg0.N) (r : Fin 1024) (f : Fin 704) (g : Fin 4) (l : Fin 4096)
    (hg : g.val = t.val % 4) (hl : l.val = 1024 * (t.val / 4) + r.val) :
    (win0_4.blk t).view.emb (ix3 0 r f) = (ix3 g l f : S4x4096x704.Idx) := by
  refine funext fun a => Fin.ext ?_
  match a with
  | ⟨0, _⟩ => show win0_4.index t 0 * win0_4.size 0 + 1 * 0 = g.val; rw [(idx4 t).1, hg]; omega
  | ⟨1, _⟩ => show win0_4.index t 1 * win0_4.size 1 + 1 * r.val = l.val; rw [(idx4 t).2.1, hl]; omega
  | ⟨2, _⟩ => show win0_4.index t 2 * win0_4.size 2 + 1 * f.val = f.val; rw [(idx4 t).2.2]; omega
theorem emb5 (t : Fin cfg0.N) (r : Fin 1024) (f : Fin 704) (g : Fin 4) (l : Fin 4096)
    (hg : g.val = t.val % 4) (hl : l.val = 1024 * (t.val / 4) + r.val) :
    (win0_5.blk t).view.emb (ix3 0 r f) = (ix3 g l f : S4x4096x704.Idx) := by
  refine funext fun a => Fin.ext ?_
  match a with
  | ⟨0, _⟩ => show win0_5.index t 0 * win0_5.size 0 + 1 * 0 = g.val; rw [(idx5 t).1, hg]; omega
  | ⟨1, _⟩ => show win0_5.index t 1 * win0_5.size 1 + 1 * r.val = l.val; rw [(idx5 t).2.1, hl]; omega
  | ⟨2, _⟩ => show win0_5.index t 2 * win0_5.size 2 + 1 * f.val = f.val; rw [(idx5 t).2.2]; omega

theorem flushed4 (c : Dev nD) (t : Fin cfg0.N) :
    (dats m 0 c).flushed 4 t = (win0_4.blk t).view.read (Elt Ideal) (dgate (aDx m c) (aW m c) (aGate m c) (aUp m c)) := by
  rw [Value.flushed4, out4]
  funext y
  obtain ⟨z, r, f, rfl⟩ : ∃ (z : Fin 1) (r : Fin 1024) (f : Fin 704), y = ix3 z r f :=
    ⟨y 0, y 1, y 2, by funext a; match a with | ⟨0, _⟩ => rfl | ⟨1, _⟩ => rfl | ⟨2, _⟩ => rfl⟩
  obtain rfl : z = 0 := Subsingleton.elim _ _
  have ht := lt_N t
  have hg : (⟨t.val % 4, by omega⟩ : Fin 4).val = t.val % 4 := rfl
  have hl : (⟨1024 * (t.val / 4) + r.val, by omega⟩ : Fin 4096).val = 1024 * (t.val / 4) + r.val := rfl
  rw [View.read_apply]
  refine Eq.trans ?_ (congrArg (dgate (aDx m c) (aW m c) (aGate m c) (aUp m c)) (emb4 t r f _ _ hg hl).symm)
  show k0_pay5 _ _ _ _ (ix3 0 r f) = _
  rw [pay5_apply, iblk2 m c t r f _ _ hg hl, iblk3 m c t r f _ _ hg hl]
  simp only [iblk0 m c t r _ _ hl, wblk_apply m c t f _ _ hg]
  rfl

theorem flushed5 (c : Dev nD) (t : Fin cfg0.N) :
    (dats m 0 c).flushed 5 t = (win0_5.blk t).view.read (Elt Ideal) (dup (aDx m c) (aW m c) (aGate m c)) := by
  rw [Value.flushed5, out5]
  funext y
  obtain ⟨z, r, f, rfl⟩ : ∃ (z : Fin 1) (r : Fin 1024) (f : Fin 704), y = ix3 z r f :=
    ⟨y 0, y 1, y 2, by funext a; match a with | ⟨0, _⟩ => rfl | ⟨1, _⟩ => rfl | ⟨2, _⟩ => rfl⟩
  obtain rfl : z = 0 := Subsingleton.elim _ _
  have ht := lt_N t
  have hg : (⟨t.val % 4, by omega⟩ : Fin 4).val = t.val % 4 := rfl
  have hl : (⟨1024 * (t.val / 4) + r.val, by omega⟩ : Fin 4096).val = 1024 * (t.val / 4) + r.val := rfl
  rw [View.read_apply]
  refine Eq.trans ?_ (congrArg (dup (aDx m c) (aW m c) (aGate m c)) (emb5 t r f _ _ hg hl).symm)
  show k0_pay1 _ (ix3 0 r f) = _
  rw [pay1_apply, iblk2 m c t r f _ _ hg hl]
  simp only [iblk0 m c t r _ _ hl, wblk_apply m c t f _ _ hg]
  rfl

/-- Every index of a result array lies in the block of the point of its row block and shard. -/
theorem cover4 (i : S4x4096x704.Idx) : ∃ t : Fin cfg0.N, (cfg0.win 4).flush t = true ∧ i ∈ ((cfg0.win 4).blk t).view.set := by
  have h0 : (i 0 : Nat) < 4 := (i 0).isLt
  have h1 : (i 1 : Nat) < 4096 := (i 1).isLt
  have hN : cfg0.N = 16 := N_0
  have ht : 4 * ((i 1 : Nat) / 1024) + (i 0 : Nat) < cfg0.N := by omega
  refine ⟨⟨_, ht⟩, flush0_4 _, ?_⟩
  have e : (win0_4.blk ⟨_, ht⟩).view.emb (ix3 0 ⟨(i 1 : Nat) % 1024, by omega⟩ (i 2)) = i :=
    (emb4 ⟨_, ht⟩ ⟨(i 1 : Nat) % 1024, by omega⟩ (i 2) (i 0) (i 1) (by dsimp only; omega) (by dsimp only; omega)).trans
      (by funext a; match a with | ⟨0, _⟩ => rfl | ⟨1, _⟩ => rfl | ⟨2, _⟩ => rfl)
  exact (congrArg (fun j => j ∈ ((cfg0.win 4).blk ⟨_, ht⟩).view.set) e).mp (Finset.mem_map_of_mem _ (Finset.mem_univ _))
theorem cover5 (i : S4x4096x704.Idx) : ∃ t : Fin cfg0.N, (cfg0.win 5).flush t = true ∧ i ∈ ((cfg0.win 5).blk t).view.set := by
  have h0 : (i 0 : Nat) < 4 := (i 0).isLt
  have h1 : (i 1 : Nat) < 4096 := (i 1).isLt
  have hN : cfg0.N = 16 := N_0
  have ht : 4 * ((i 1 : Nat) / 1024) + (i 0 : Nat) < cfg0.N := by omega
  refine ⟨⟨_, ht⟩, flush0_5 _, ?_⟩
  have e : (win0_5.blk ⟨_, ht⟩).view.emb (ix3 0 ⟨(i 1 : Nat) % 1024, by omega⟩ (i 2)) = i :=
    (emb5 ⟨_, ht⟩ ⟨(i 1 : Nat) % 1024, by omega⟩ (i 2) (i 0) (i 1) (by dsimp only; omega) (by dsimp only; omega)).trans
      (by funext a; match a with | ⟨0, _⟩ => rfl | ⟨1, _⟩ => rfl | ⟨2, _⟩ => rfl)
  exact (congrArg (fun j => j ∈ ((cfg0.win 5).blk ⟨_, ht⟩).view.set) e).mp (Finset.mem_map_of_mem _ (Finset.mem_univ _))

theorem final4 (c : Dev nD) : (dats m 0 c).arrAt 4 cfg0.N = dgate (aDx m c) (aW m c) (aGate m c) (aUp m c) :=
  (dats m 0 c).arrAt_eq_of_cover 4 _ (fun t _ => flushed4 m c t) cover4
theorem final5 (c : Dev nD) : (dats m 0 c).arrAt 5 cfg0.N = dup (aDx m c) (aW m c) (aGate m c) :=
  (dats m 0 c).arrAt_eq_of_cover 5 _ (fun t _ => flushed5 m c t) cover5

end

end Cert.KernelIdeal.Act
end
-- ==== Proof.ActClaim.lean ====
/-
  The gradient of SwiGLU's two branches: the value of the reference, and the comparison.

  The reference's two results, read at an index, are the derivative of `0.5 * ((silu gate * up) @ w_down)` as automatic
  differentiation writes it: the product rule of `gate * logistic gate`, expanded. The kernel writes it factored. On real
  numbers the two are equal.
-/
module

public import proofs.«01_k».proof.Proof.Act
public import proofs.«01_k».proof.Proof.Gen.ReferenceIdeal.Run
public import proofs.«01_k».proof.Defs
public import proofs.«01_k».proof.Proof.Gen.Pre_finite
public import Idealize.ShloMosaic.Lib.Quiescent

@[expose] public section

set_option maxRecDepth 16384

noncomputable section

namespace Cert.ReferenceIdeal.Act

open Cert.ReferenceIdeal Cert.ReferenceIdeal.Gen Idealize.ShloMosaic Idealize.ShloMosaic.TcCoe Idealize.SL.Sem
open Cert.Hand

variable (dx : FVec Ideal S4096x1024 .bf16) (w : FVec Ideal S4x704x1024 .bf16) (a b : FVec Ideal S4x4096x704 .bf16)

/-- The reference's first result, of its arguments. -/
def dgate : FVec Ideal S4x4096x704 .bf16 :=
  truncf .bf16 (addf (mulf (mulf (transpose S4x4096x704 [1, 0, 2] (Host.dotGeneral dot_S4096x1024_S4x704x1024_S4096x4x704_1_2_0_01_n_n none (mulf (broadcastInDim S4096x1024 ![] bcast_S_S4096x1024 (constant S_ .f32 0x3F000000#32)) (extf .f32 dx bitsLt_bf16_f32)) (extf .f32 w bitsLt_bf16_f32)) transposes_S4096x4x704_S4x4096x704_1_0_2) (extf .f32 b bitsLt_bf16_f32)) (Host.divf (broadcastInDim S4x4096x704 ![] bcast_S_S4x4096x704 (constant S_ .f32 0x3F800000#32)) (addf (broadcastInDim S4x4096x704 ![] bcast_S_S4x4096x704 (constant S_ .f32 0x3F800000#32)) (Host.exp (Host.negf (extf .f32 a bitsLt_bf16_f32)))))) (mulf (mulf (extf .f32 a bitsLt_bf16_f32) (mulf (transpose S4x4096x704 [1, 0, 2] (Host.dotGeneral dot_S4096x1024_S4x704x1024_S4096x4x704_1_2_0_01_n_n none (mulf (broadcastInDim S4096x1024 ![] bcast_S_S4096x1024 (constant S_ .f32 0x3F000000#32)) (extf .f32 dx bitsLt_bf16_f32)) (extf .f32 w bitsLt_bf16_f32)) transposes_S4096x4x704_S4x4096x704_1_0_2) (extf .f32 b bitsLt_bf16_f32))) (mulf (Host.divf (broadcastInDim S4x4096x704 ![] bcast_S_S4x4096x704 (constant S_ .f32 0x3F800000#32)) (addf (broadcastInDim S4x4096x704 ![] bcast_S_S4x4096x704 (constant S_ .f32 0x3F800000#32)) (Host.exp (Host.negf (extf .f32 a bitsLt_bf16_f32))))) (subf (broadcastInDim S4x4096x704 ![] bcast_S_S4x4096x704 (constant S_ .f32 0x3F800000#32)) (Host.divf (broadcastInDim S4x4096x704 ![] bcast_S_S4x4096x704 (constant S_ .f32 0x3F800000#32)) (addf (broadcastInDim S4x4096x704 ![] bcast_S_S4x4096x704 (constant S_ .f32 0x3F800000#32)) (Host.exp (Host.negf (extf .f32 a bitsLt_bf16_f32))))))))) bitsLt_bf16_f32

/-- The reference's second result. -/
def dup : FVec Ideal S4x4096x704 .bf16 :=
  truncf .bf16 (mulf (mulf (extf .f32 a bitsLt_bf16_f32) (Host.divf (broadcastInDim S4x4096x704 ![] bcast_S_S4x4096x704 (constant S_ .f32 0x3F800000#32)) (addf (broadcastInDim S4x4096x704 ![] bcast_S_S4x4096x704 (constant S_ .f32 0x3F800000#32)) (Host.exp (Host.negf (extf .f32 a bitsLt_bf16_f32)))))) (transpose S4x4096x704 [1, 0, 2] (Host.dotGeneral dot_S4096x1024_S4x704x1024_S4096x4x704_1_2_0_01_n_n none (mulf (broadcastInDim S4096x1024 ![] bcast_S_S4096x1024 (constant S_ .f32 0x3F000000#32)) (extf .f32 dx bitsLt_bf16_f32)) (extf .f32 w bitsLt_bf16_f32)) transposes_S4096x4x704_S4x4096x704_1_0_2)) bitsLt_bf16_f32

/-- The hidden gradient as the reference sums it: the half inside the sum. -/
def dhidden (g : Fin 4) (l : Fin 4096) (f : Fin 704) : EReal :=
  ∑ k : Fin 1024, Ideal.ofBits .f32 0x3F000000#32 * dx (ix2 l k) * w (ix3 g f k)

/-- The logistic function. -/
def sg (x : EReal) : EReal := Ideal.div 1 (1 + Ideal.exp (-x))

theorem dgate_apply (g : Fin 4) (l : Fin 4096) (f : Fin 704) :
    dgate dx w a b (ix3 g l f) = dhidden dx w g l f * b (ix3 g l f) * sg (a (ix3 g l f))
      + a (ix3 g l f) * (dhidden dx w g l f * b (ix3 g l f)) * (sg (a (ix3 g l f)) * (1 - sg (a (ix3 g l f)))) := by
  pointwise [dgate]
  rfl

theorem dup_apply (g : Fin 4) (l : Fin 4096) (f : Fin 704) :
    dup dx w a (ix3 g l f) = a (ix3 g l f) * sg (a (ix3 g l f)) * dhidden dx w g l f := by
  pointwise [dup]
  rfl

variable (hdx : ∀ i, IsReal (dx i)) (hw : ∀ i, IsReal (w i)) (ha : ∀ i, IsReal (a i)) (hb : ∀ i, IsReal (b i))

include hdx hw in
/-- The half in front of the sum or inside it: the same real number. -/
theorem dhidden_eq (g : Fin 4) (l : Fin 4096) (f : Fin 704) :
    Cert.KernelIdeal.Act.dhidden dx w g l f = dhidden dx w g l f := by
  unfold Cert.KernelIdeal.Act.dhidden dhidden
  rw [ofBits_half, real_mul_sum _ _ _ fun k _ => (hdx _).mul (hw _)]
  exact Finset.sum_congr rfl fun k _ => (mul_assoc _ _ _).symm

include hdx hw in
theorem dhidden_real (g : Fin 4) (l : Fin 4096) (f : Fin 704) : IsReal (dhidden dx w g l f) := by
  unfold dhidden
  rw [ofBits_half]
  exact IsReal.sum _ fun k _ => ((IsReal.coe _).mul (hdx _)).mul (hw _)

theorem sg_eq (x : EReal) : Cert.KernelIdeal.Act.sg x = sg x := by
  unfold Cert.KernelIdeal.Act.sg sg
  rw [zero_sub]

include hdx hw ha hb in
theorem dgate_eq : Cert.KernelIdeal.Act.dgate dx w a b = dgate dx w a b := by
  funext i
  obtain ⟨g, l, f, rfl⟩ : ∃ (g : Fin 4) (l : Fin 4096) (f : Fin 704), i = ix3 g l f :=
    ⟨i 0, i 1, i 2, by funext x; match x with | ⟨0, _⟩ => rfl | ⟨1, _⟩ => rfl | ⟨2, _⟩ => rfl⟩
  rw [dgate_apply]
  show Cert.KernelIdeal.Act.dgateAt dx w a b g l f = _
  unfold Cert.KernelIdeal.Act.dgateAt
  rw [dhidden_eq dx w hdx hw, sg_eq]
  obtain ⟨p, hp⟩ := dhidden_real dx w hdx hw g l f
  obtain ⟨q, hq⟩ := hb (ix3 g l f)
  obtain ⟨r, hr⟩ := ha (ix3 g l f)
  obtain ⟨s, hs⟩ : IsReal (sg (a (ix3 g l f))) := logistic_isReal (ha _)
  rw [hp, hs, hq, hr]
  norm_cast
  ring

include hdx hw in
theorem dup_eq : Cert.KernelIdeal.Act.dup dx w a = dup dx w a := by
  funext i
  obtain ⟨g, l, f, rfl⟩ : ∃ (g : Fin 4) (l : Fin 4096) (f : Fin 704), i = ix3 g l f :=
    ⟨i 0, i 1, i 2, by funext x; match x with | ⟨0, _⟩ => rfl | ⟨1, _⟩ => rfl | ⟨2, _⟩ => rfl⟩
  rw [dup_apply]
  show Cert.KernelIdeal.Act.dupAt dx w a g l f = _
  unfold Cert.KernelIdeal.Act.dupAt
  rw [dhidden_eq dx w hdx hw, sg_eq, mul_assoc, mul_comm]

end Cert.ReferenceIdeal.Act

namespace Cert.Proof.Act

open Idealize.ShloMosaic Idealize.ShloMosaic.TcCoe Idealize.SL.Sem
open Cert.Hand

/-- What the precondition says: every element of every argument is a real number. -/
theorem isReal_of_pre (m : (ℓ : Loc Cert.KernelIdeal.nD Cert.KernelIdeal.τ Cert.KernelIdeal.sig) → Buf (Elt Ideal) ℓ)
    (h : Cert.Pre_KernelIdeal_finite m) (c : Dev Cert.KernelIdeal.nD) :
    (∀ i, IsReal (Cert.KernelIdeal.Act.aDx m c i)) ∧ (∀ i, IsReal (Cert.KernelIdeal.Act.aW m c i))
      ∧ (∀ i, IsReal (Cert.KernelIdeal.Act.aGate m c i)) ∧ (∀ i, IsReal (Cert.KernelIdeal.Act.aUp m c i)) := by
  obtain ⟨h0, h1, h2, h3⟩ := h c
  refine ⟨fun i => ?_, fun i => ?_, fun i => ?_, fun i => ?_⟩
  · exact isReal_of_cmp (by rw [← ofBits_inf]; exact congrFun h0 i)
  · exact isReal_of_cmp (by rw [← ofBits_inf]; exact congrFun h1 i)
  · exact isReal_of_cmp (by rw [← ofBits_inf]; exact congrFun h2 i)
  · exact isReal_of_cmp (by rw [← ofBits_inf]; exact congrFun h3 i)

theorem frame_reference : Cert.quiescent_ReferenceIdeal := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

theorem algebraic : Cert.algebraic_KernelIdeal_ReferenceIdeal_pre_finite := by
  intro m ρ m' ρ' hpre hagree
  refine ⟨fun c => Cert.KernelIdeal.Act.dgate (Cert.KernelIdeal.Act.aDx m c) (Cert.KernelIdeal.Act.aW m c) (Cert.KernelIdeal.Act.aGate m c) (Cert.KernelIdeal.Act.aUp m c),
    fun c => Cert.KernelIdeal.Act.dup (Cert.KernelIdeal.Act.aDx m c) (Cert.KernelIdeal.Act.aW m c) (Cert.KernelIdeal.Act.aGate m c), ?_, ?_⟩
  · exact (θ_run Cert.KernelIdeal.defs _ _).mono
      (fun _ h c => ⟨(h c).1.trans (Cert.KernelIdeal.Act.final4 m c), (h c).2.1.trans (Cert.KernelIdeal.Act.final5 m c), (h c).2.2⟩)
      (Cert.KernelIdeal.Value.run_blocks (F := Ideal) m ρ)
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3⟩ := isReal_of_pre m hpre c
    rw [(hagree c).1, (hagree c).2.1, (hagree c).2.2.1, (hagree c).2.2.2]
    exact (Cert.ReferenceIdeal.Act.dgate_eq _ _ _ _ h0 h1 h2 h3).symm
  · obtain ⟨h0, h1, h2, h3⟩ := isReal_of_pre m hpre c
    rw [(hagree c).1, (hagree c).2.1, (hagree c).2.2.1]
    exact (Cert.ReferenceIdeal.Act.dup_eq _ _ _ h0 h1).symm

end Cert.Proof.Act
end
-- ==== Proof.S5Conds.lean ====
/-
  The gradient of the state space mixer: which branches of the kernel run at which grid point, and the buffers it runs on.
-/
module

public import proofs.«01_k».proof.Proof.Gen.Kernel7Ideal.Frame
public import proofs.«01_k».proof.Proof.Gen.Kernel7Ideal.Skeleton
public import proofs.«01_k».proof.Proof.Gen.Kernel7Ideal.Loops
public import Idealize.ShloMosaic.Lib.Pipeline.TableIdle
public import Idealize.ShloMosaic.Lib.Claim

@[expose] public section

set_option maxRecDepth 16384

noncomputable section

namespace Cert.Kernel7Ideal.S5

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates (the skeleton's scalar chain substituted). -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The condition of the body's `scf.if` 1 (`k0_h2`), from the grid coordinates (the skeleton's scalar chain substituted). -/
abbrev cond0_1 (i : grid0.Coords) : Prop := k0_cond2 i = 1#1
/-- It holds at the first point only. -/
theorem hcond0_1 : ∀ t : Fin cfg0.N, cond0_1 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_1, k0_cond2, e0]
    word_cmp
   : ∀ t : Fin grid0.N, cond0_1 (grid0.coords t) ↔ t.val % 16 = 0)

/-- The condition of the body's `scf.if` 2 (`k0_h3`), from the grid coordinates (the skeleton's scalar chain substituted). -/
abbrev cond0_2 (i : grid0.Coords) : Prop := k0_cond3 i = 1#1
/-- It holds at the points from point 1 on. -/
theorem hcond0_2 : ∀ t : Fin cfg0.N, cond0_2 (grid0.coords t) ↔ 1 ≤ t.val :=
  (by decide +kernel : ∀ t : Fin grid0.N, cond0_2 (grid0.coords t) ↔ 1 ≤ t.val)

/-- The condition of the body's `scf.if` 3 (`k0_h4`), from the grid coordinates (the skeleton's scalar chain substituted). -/
abbrev cond0_3 (i : grid0.Coords) : Prop := k0_cond4 i = 1#1
/-- It holds at the first point only. -/
theorem hcond0_3 : ∀ t : Fin cfg0.N, cond0_3 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_3, k0_cond4, e0]
    word_cmp
   : ∀ t : Fin grid0.N, cond0_3 (grid0.coords t) ↔ t.val % 16 = 0)

/-- The condition of the body's `scf.if` 4 (`k0_h5`), from the grid coordinates (the skeleton's scalar chain substituted). -/
abbrev cond0_4 (i : grid0.Coords) : Prop := k0_cond5 i = 1#1
/-- It holds at the points from point 1 on. -/
theorem hcond0_4 : ∀ t : Fin cfg0.N, cond0_4 (grid0.coords t) ↔ 1 ≤ t.val :=
  (by decide +kernel : ∀ t : Fin grid0.N, cond0_4 (grid0.coords t) ↔ 1 ≤ t.val)

/-- The condition of the body's `scf.if` 5 (`k0_h6`), from the grid coordinates (the skeleton's scalar chain substituted). -/
abbrev cond0_5 (i : grid0.Coords) : Prop := k0_cond6 i = 1#1
/-- It holds at the first point only. -/
theorem hcond0_5 : ∀ t : Fin cfg0.N, cond0_5 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_5, k0_cond6, e0]
    word_cmp
   : ∀ t : Fin grid0.N, cond0_5 (grid0.coords t) ↔ t.val % 16 = 0)

/-- The condition of the body's `scf.if` 6 (`k0_h7`), from the grid coordinates (the skeleton's scalar chain substituted). -/
abbrev cond0_6 (i : grid0.Coords) : Prop := k0_cond7 i = 1#1
/-- It holds at the points from point 1 on. -/
theorem hcond0_6 : ∀ t : Fin cfg0.N, cond0_6 (grid0.coords t) ↔ 1 ≤ t.val :=
  (by decide +kernel : ∀ t : Fin grid0.N, cond0_6 (grid0.coords t) ↔ 1 ≤ t.val)

/-- The condition of the body's `scf.if` 7 (`k0_h8`), from the grid coordinates (the skeleton's scalar chain substituted). -/
abbrev cond0_7 (i : grid0.Coords) : Prop := k0_cond8 i = 1#1
/-- It holds at the first point only. -/
theorem hcond0_7 : ∀ t : Fin cfg0.N, cond0_7 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_7, k0_cond8, e0]
    word_cmp
   : ∀ t : Fin grid0.N, cond0_7 (grid0.coords t) ↔ t.val % 16 = 0)

/-- The condition of the body's `scf.if` 8 (`k0_h9`), from the grid coordinates (the skeleton's scalar chain substituted). -/
abbrev cond0_8 (i : grid0.Coords) : Prop := k0_cond9 i = 1#1
/-- It holds at the points from point 1 on. -/
theorem hcond0_8 : ∀ t : Fin cfg0.N, cond0_8 (grid0.coords t) ↔ 1 ≤ t.val :=
  (by decide +kernel : ∀ t : Fin grid0.N, cond0_8 (grid0.coords t) ↔ 1 ≤ t.val)

/-- The condition of the body's `scf.if` 9 (`k0_h10`), from the grid coordinates (the skeleton's scalar chain substituted). -/
abbrev cond0_9 (i : grid0.Coords) : Prop := k0_cond10 i = 1#1
/-- It holds at the first point only. -/
theorem hcond0_9 : ∀ t : Fin cfg0.N, cond0_9 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_9, k0_cond10, e0]
    word_cmp
   : ∀ t : Fin grid0.N, cond0_9 (grid0.coords t) ↔ t.val % 16 = 0)

/-- The condition of the body's `scf.if` 10 (`k0_h11`), from the grid coordinates (the skeleton's scalar chain substituted). -/
abbrev cond0_10 (i : grid0.Coords) : Prop := k0_cond11 i = 1#1
/-- It holds at the points from point 1 on. -/
theorem hcond0_10 : ∀ t : Fin cfg0.N, cond0_10 (grid0.coords t) ↔ 1 ≤ t.val :=
  (by decide +kernel : ∀ t : Fin grid0.N, cond0_10 (grid0.coords t) ↔ 1 ≤ t.val)

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-- Window 10 is never idle (an input). -/
theorem liveAt0_10 : ∀ t : Fin cfg0.N, cfg0.idle 10 (grid0.coords t) = false := fun _ => rfl
/-- Window 11 is never idle (an input). -/
theorem liveAt0_11 : ∀ t : Fin cfg0.N, cfg0.idle 11 (grid0.coords t) = false := fun _ => rfl
/-- Window 12 is never idle (an input). -/
theorem liveAt0_12 : ∀ t : Fin cfg0.N, cfg0.idle 12 (grid0.coords t) = false := fun _ => rfl
/-- Window 13 is never idle (an input). -/
theorem liveAt0_13 : ∀ t : Fin cfg0.N, cfg0.idle 13 (grid0.coords t) = false := fun _ => rfl
/-- Window 14 is never idle (an input). -/
theorem liveAt0_14 : ∀ t : Fin cfg0.N, cfg0.idle 14 (grid0.coords t) = false := fun _ => rfl
/-- Window 15 is never idle (an input). -/
theorem liveAt0_15 : ∀ t : Fin cfg0.N, cfg0.idle 15 (grid0.coords t) = false := fun _ => rfl
/-- Window 16 is never idle (an input). -/
theorem liveAt0_16 : ∀ t : Fin cfg0.N, cfg0.idle 16 (grid0.coords t) = false := fun _ => rfl
/-- Window 17 is never idle (an input). -/
theorem liveAt0_17 : ∀ t : Fin cfg0.N, cfg0.idle 17 (grid0.coords t) = false := fun _ => rfl
/-- Window 18 is never idle (an input). -/
theorem liveAt0_18 : ∀ t : Fin cfg0.N, cfg0.idle 18 (grid0.coords t) = false := fun _ => rfl
/-- Window 19 is never idle (an input). -/
theorem liveAt0_19 : ∀ t : Fin cfg0.N, cfg0.idle 19 (grid0.coords t) = false := fun _ => rfl
/-- Window 20 is never idle (an output stored at every point, under no condition). -/
theorem liveAt0_20 : ∀ t : Fin cfg0.N, cfg0.idle 20 (grid0.coords t) = false := fun _ => rfl
/-- Window 24 is never idle (an output stored at every point, under no condition). -/
theorem liveAt0_24 : ∀ t : Fin cfg0.N, cfg0.idle 24 (grid0.coords t) = false := fun _ => rfl
/-- Window 25 is never idle (an output stored at every point, under no condition). -/
theorem liveAt0_25 : ∀ t : Fin cfg0.N, cfg0.idle 25 (grid0.coords t) = false := fun _ => rfl
/-- Window 26 is never idle (an output stored at every point, under no condition). -/
theorem liveAt0_26 : ∀ t : Fin cfg0.N, cfg0.idle 26 (grid0.coords t) = false := fun _ => rfl
/-- Window 27 is never idle (an output stored at every point, under no condition). -/
theorem liveAt0_27 : ∀ t : Fin cfg0.N, cfg0.idle 27 (grid0.coords t) = false := fun _ => rfl

/-- Whether output 21's buffer is FRESH at each position `1 ‥ N`. -/
def freshTab0_21 : ℕ → Bool
  | 0 => true
  | n + 1 => (0x8000 : ℕ).testBit n
theorem freshTab0_21_step : ∀ t : Fin cfg0.N,
    freshTab0_21 (t.val + 1) = ((cfg0.win 21).flush t || (cfg0.idle 21 (cfg0.grid.coords t) && freshTab0_21 t.val)) := by decide +kernel
theorem fresh0_21_eq (t : Fin cfg0.N) : cfg0.fresh 21 t.val = freshTab0_21 t.val :=
  Pipeline.Cfg.fresh_tab cfg0 21 freshTab0_21 rfl freshTab0_21_step t.val (Nat.le_of_lt t.isLt)
theorem liveAt0_21 : ∀ t : Fin cfg0.N, cfg0.idle 21 (grid0.coords t) = false := by decide +kernel
/-- After the first point output 21's buffer holds what the body stored. -/
theorem notFresh0_21 : ∀ t : Fin cfg0.N, t.val ≠ 0 → cfg0.fresh 21 t.val = false := by
  intro t; rw [fresh0_21_eq t]; revert t; decide +kernel
/-- Whether output 22's buffer is FRESH at each position `1 ‥ N`. -/
def freshTab0_22 : ℕ → Bool
  | 0 => true
  | n + 1 => (0x8000 : ℕ).testBit n
theorem freshTab0_22_step : ∀ t : Fin cfg0.N,
    freshTab0_22 (t.val + 1) = ((cfg0.win 22).flush t || (cfg0.idle 22 (cfg0.grid.coords t) && freshTab0_22 t.val)) := by decide +kernel
theorem fresh0_22_eq (t : Fin cfg0.N) : cfg0.fresh 22 t.val = freshTab0_22 t.val :=
  Pipeline.Cfg.fresh_tab cfg0 22 freshTab0_22 rfl freshTab0_22_step t.val (Nat.le_of_lt t.isLt)
theorem liveAt0_22 : ∀ t : Fin cfg0.N, cfg0.idle 22 (grid0.coords t) = false := by decide +kernel
/-- After the first point output 22's buffer holds what the body stored. -/
theorem notFresh0_22 : ∀ t : Fin cfg0.N, t.val ≠ 0 → cfg0.fresh 22 t.val = false := by
  intro t; rw [fresh0_22_eq t]; revert t; decide +kernel
/-- Whether output 23's buffer is FRESH at each position `1 ‥ N`. -/
def freshTab0_23 : ℕ → Bool
  | 0 => true
  | n + 1 => (0x8000 : ℕ).testBit n
theorem freshTab0_23_step : ∀ t : Fin cfg0.N,
    freshTab0_23 (t.val + 1) = ((cfg0.win 23).flush t || (cfg0.idle 23 (cfg0.grid.coords t) && freshTab0_23 t.val)) := by decide +kernel
theorem fresh0_23_eq (t : Fin cfg0.N) : cfg0.fresh 23 t.val = freshTab0_23 t.val :=
  Pipeline.Cfg.fresh_tab cfg0 23 freshTab0_23 rfl freshTab0_23_step t.val (Nat.le_of_lt t.isLt)
theorem liveAt0_23 : ∀ t : Fin cfg0.N, cfg0.idle 23 (grid0.coords t) = false := by decide +kernel
/-- After the first point output 23's buffer holds what the body stored. -/
theorem notFresh0_23 : ∀ t : Fin cfg0.N, t.val ≠ 0 → cfg0.fresh 23 t.val = false := by
  intro t; rw [fresh0_23_eq t]; revert t; decide +kernel
/-- Whether output 28's buffer is FRESH at each position `1 ‥ N`. -/
def freshTab0_28 : ℕ → Bool
  | 0 => true
  | n + 1 => (0x8000 : ℕ).testBit n
theorem freshTab0_28_step : ∀ t : Fin cfg0.N,
    freshTab0_28 (t.val + 1) = ((cfg0.win 28).flush t || (cfg0.idle 28 (cfg0.grid.coords t) && freshTab0_28 t.val)) := by decide +kernel
theorem fresh0_28_eq (t : Fin cfg0.N) : cfg0.fresh 28 t.val = freshTab0_28 t.val :=
  Pipeline.Cfg.fresh_tab cfg0 28 freshTab0_28 rfl freshTab0_28_step t.val (Nat.le_of_lt t.isLt)
theorem liveAt0_28 : ∀ t : Fin cfg0.N, cfg0.idle 28 (grid0.coords t) = false := by decide +kernel
/-- After the first point output 28's buffer holds what the body stored. -/
theorem notFresh0_28 : ∀ t : Fin cfg0.N, t.val ≠ 0 → cfg0.fresh 28 t.val = false := by
  intro t; rw [fresh0_28_eq t]; revert t; decide +kernel
/-- Whether output 29's buffer is FRESH at each position `1 ‥ N`. -/
def freshTab0_29 : ℕ → Bool
  | 0 => true
  | n + 1 => (0x8000 : ℕ).testBit n
theorem freshTab0_29_step : ∀ t : Fin cfg0.N,
    freshTab0_29 (t.val + 1) = ((cfg0.win 29).flush t || (cfg0.idle 29 (cfg0.grid.coords t) && freshTab0_29 t.val)) := by decide +kernel
theorem fresh0_29_eq (t : Fin cfg0.N) : cfg0.fresh 29 t.val = freshTab0_29 t.val :=
  Pipeline.Cfg.fresh_tab cfg0 29 freshTab0_29 rfl freshTab0_29_step t.val (Nat.le_of_lt t.isLt)
theorem liveAt0_29 : ∀ t : Fin cfg0.N, cfg0.idle 29 (grid0.coords t) = false := by decide +kernel
/-- After the first point output 29's buffer holds what the body stored. -/
theorem notFresh0_29 : ∀ t : Fin cfg0.N, t.val ≠ 0 → cfg0.fresh 29 t.val = false := by
  intro t; rw [fresh0_29_eq t]; revert t; decide +kernel

/-- One staging buffer of output window 20, through which its contents are stated (`View.read_writes_of_cover`: the choice does not matter). -/
abbrev VO0_20 : View sig .tc .vmem S256x512 .bf16 := (Memref.whole cc0_stg20_0 : Memref sig .tc .vmem S256x512 .bf16).view
/-- One staging buffer of output window 21, through which its contents are stated (`View.read_writes_of_cover`: the choice does not matter). -/
abbrev VO0_21 : View sig .tc .vmem S512x512 .f32 := (Memref.whole cc0_stg21_0 : Memref sig .tc .vmem S512x512 .f32).view
/-- One staging buffer of output window 22, through which its contents are stated (`View.read_writes_of_cover`: the choice does not matter). -/
abbrev VO0_22 : View sig .tc .vmem S1x512 .f32 := (Memref.whole cc0_stg22_0 : Memref sig .tc .vmem S1x512 .f32).view
/-- One staging buffer of output window 23, through which its contents are stated (`View.read_writes_of_cover`: the choice does not matter). -/
abbrev VO0_23 : View sig .tc .vmem S1x512 .f32 := (Memref.whole cc0_stg23_0 : Memref sig .tc .vmem S1x512 .f32).view
/-- One staging buffer of output window 24, through which its contents are stated (`View.read_writes_of_cover`: the choice does not matter). -/
abbrev VO0_24 : View sig .tc .vmem S2048x128 .f32 := (Memref.whole cc0_stg24_0 : Memref sig .tc .vmem S2048x128 .f32).view
/-- One staging buffer of output window 25, through which its contents are stated (`View.read_writes_of_cover`: the choice does not matter). -/
abbrev VO0_25 : View sig .tc .vmem S2048x128 .f32 := (Memref.whole cc0_stg25_0 : Memref sig .tc .vmem S2048x128 .f32).view
/-- One staging buffer of output window 26, through which its contents are stated (`View.read_writes_of_cover`: the choice does not matter). -/
abbrev VO0_26 : View sig .tc .vmem S128x2048 .f32 := (Memref.whole cc0_stg26_0 : Memref sig .tc .vmem S128x2048 .f32).view
/-- One staging buffer of output window 27, through which its contents are stated (`View.read_writes_of_cover`: the choice does not matter). -/
abbrev VO0_27 : View sig .tc .vmem S128x2048 .f32 := (Memref.whole cc0_stg27_0 : Memref sig .tc .vmem S128x2048 .f32).view
/-- One staging buffer of output window 28, through which its contents are stated (`View.read_writes_of_cover`: the choice does not matter). -/
abbrev VO0_28 : View sig .tc .vmem S16x128 .f32 := (Memref.whole cc0_stg28_0 : Memref sig .tc .vmem S16x128 .f32).view
/-- One staging buffer of output window 29, through which its contents are stated (`View.read_writes_of_cover`: the choice does not matter). -/
abbrev VO0_29 : View sig .tc .vmem S16x128 .f32 := (Memref.whole cc0_stg29_0 : Memref sig .tc .vmem S16x128 .f32).view
/-- Each window's current staging memref at point `t`, spelled as the pipeline passes it (`bodyAt0`), and its wholeness. -/
abbrev ms0_0 (t : Fin cfg0.N) : Memref sig .tc .vmem S256x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2048x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S8x128 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S8x128 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S8x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S16x128 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S16x128 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S128x2048 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S128x2048 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S2048x128 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S2048x128 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x512 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S512x512 .bf16 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x512 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S256x512 .bf16 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S512x512 .f32 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S1x512 .f32 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S1x512 .f32 := win0_23.stage (cfg0.slots t 23)
abbrev hs0_23 (t : Fin cfg0.N) : (ms0_23 t).IsWhole := hstage0_23 ((cfg0.slots t 23).cast nbuf0_23)
abbrev ms0_24 (t : Fin cfg0.N) : Memref sig .tc .vmem S2048x128 .f32 := win0_24.stage (cfg0.slots t 24)
abbrev hs0_24 (t : Fin cfg0.N) : (ms0_24 t).IsWhole := hstage0_24 ((cfg0.slots t 24).cast nbuf0_24)
abbrev ms0_25 (t : Fin cfg0.N) : Memref sig .tc .vmem S2048x128 .f32 := win0_25.stage (cfg0.slots t 25)
abbrev hs0_25 (t : Fin cfg0.N) : (ms0_25 t).IsWhole := hstage0_25 ((cfg0.slots t 25).cast nbuf0_25)
abbrev ms0_26 (t : Fin cfg0.N) : Memref sig .tc .vmem S128x2048 .f32 := win0_26.stage (cfg0.slots t 26)
abbrev hs0_26 (t : Fin cfg0.N) : (ms0_26 t).IsWhole := hstage0_26 ((cfg0.slots t 26).cast nbuf0_26)
abbrev ms0_27 (t : Fin cfg0.N) : Memref sig .tc .vmem S128x2048 .f32 := win0_27.stage (cfg0.slots t 27)
abbrev hs0_27 (t : Fin cfg0.N) : (ms0_27 t).IsWhole := hstage0_27 ((cfg0.slots t 27).cast nbuf0_27)
abbrev ms0_28 (t : Fin cfg0.N) : Memref sig .tc .vmem S16x128 .f32 := win0_28.stage (cfg0.slots t 28)
abbrev hs0_28 (t : Fin cfg0.N) : (ms0_28 t).IsWhole := hstage0_28 ((cfg0.slots t 28).cast nbuf0_28)
abbrev ms0_29 (t : Fin cfg0.N) : Memref sig .tc .vmem S16x128 .f32 := win0_29.stage (cfg0.slots t 29)
abbrev hs0_29 (t : Fin cfg0.N) : (ms0_29 t).IsWhole := hstage0_29 ((cfg0.slots t 29).cast nbuf0_29)
/-- The scratch operands: whole scoped buffers of the kernel's own, passed beside the windows. -/
abbrev scM0_0 : Memref sig .tc .vmem S2048x128 .f32 := Memref.whole cc0_scratch0
abbrev scM0_1 : Memref sig .tc .vmem S2048x128 .f32 := Memref.whole cc0_scratch1
abbrev scM0_2 : Memref sig .tc .vmem S2048x128 .f32 := Memref.whole cc0_scratch2
abbrev scM0_3 : Memref sig .tc .vmem S2048x128 .f32 := Memref.whole cc0_scratch3
abbrev scM0_4 : Memref sig .tc .vmem S16x128 .f32 := Memref.whole cc0_scratch4
abbrev scM0_5 : Memref sig .tc .vmem S16x128 .f32 := Memref.whole cc0_scratch5
/-- The scratch `arg35` the kernel carries between points, as a view: what it holds is stated through it. -/
abbrev VS0_4 : View sig .tc .vmem S16x128 .f32 := scM0_4.view
/-- The scratch `arg36` the kernel carries between points, as a view: what it holds is stated through it. -/
abbrev VS0_5 : View sig .tc .vmem S16x128 .f32 := scM0_5.view

/-- The frame kit's invariant with the scratch operands as memrefs owned at some contents (`Gen.scopedRest0_eq`, Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- At the first point the branches that start the sums run. -/
theorem isA (t : Fin cfg0.N) (h : t.val = 0) : cond0_0 (grid0.coords t) ∧ cond0_1 (grid0.coords t) ∧ ¬cond0_2 (grid0.coords t) ∧ cond0_3 (grid0.coords t) ∧ ¬cond0_4 (grid0.coords t) ∧ cond0_5 (grid0.coords t) ∧ ¬cond0_6 (grid0.coords t) ∧ cond0_7 (grid0.coords t) ∧ ¬cond0_8 (grid0.coords t) ∧ cond0_9 (grid0.coords t) ∧ ¬cond0_10 (grid0.coords t) :=
  ⟨(hcond0_0 t).mpr (by omega), (hcond0_1 t).mpr (by omega), fun q => absurd ((hcond0_2 t).mp q) (by omega), (hcond0_3 t).mpr (by omega), fun q => absurd ((hcond0_4 t).mp q) (by omega), (hcond0_5 t).mpr (by omega), fun q => absurd ((hcond0_6 t).mp q) (by omega), (hcond0_7 t).mpr (by omega), fun q => absurd ((hcond0_8 t).mp q) (by omega), (hcond0_9 t).mpr (by omega), fun q => absurd ((hcond0_10 t).mp q) (by omega)⟩

/-- At a later point the branches that add to the sums run. -/
theorem isB (t : Fin cfg0.N) (h : t.val ≠ 0) : ¬cond0_0 (grid0.coords t) ∧ ¬cond0_1 (grid0.coords t) ∧ cond0_2 (grid0.coords t) ∧ ¬cond0_3 (grid0.coords t) ∧ cond0_4 (grid0.coords t) ∧ ¬cond0_5 (grid0.coords t) ∧ cond0_6 (grid0.coords t) ∧ ¬cond0_7 (grid0.coords t) ∧ cond0_8 (grid0.coords t) ∧ ¬cond0_9 (grid0.coords t) ∧ cond0_10 (grid0.coords t) := by
  have hN : t.val < 16 := lt_of_lt_of_eq t.isLt (show cfg0.N = 16 from N_0)
  exact ⟨fun q => absurd ((hcond0_0 t).mp q) (by omega), fun q => absurd ((hcond0_1 t).mp q) (by omega), (hcond0_2 t).mpr (by omega), fun q => absurd ((hcond0_3 t).mp q) (by omega), (hcond0_4 t).mpr (by omega), fun q => absurd ((hcond0_5 t).mp q) (by omega), (hcond0_6 t).mpr (by omega), fun q => absurd ((hcond0_7 t).mp q) (by omega), (hcond0_8 t).mpr (by omega), fun q => absurd ((hcond0_9 t).mp q) (by omega), (hcond0_10 t).mpr (by omega)⟩

end Cert.Kernel7Ideal.S5

end
-- ==== Proof.S5RunA.lean ====
/-
  The gradient of the state space mixer: one run of the kernel's body, at the first grid point.
-/
module

public import proofs.«01_k».proof.Proof.S5Conds

@[expose] public section

set_option maxRecDepth 16384

noncomputable section

namespace Cert.Kernel7Ideal.S5

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 40000000 in set_option sl_exec.stridedRows true in
/-- What the body's stores leave in each output's staging memref, as pieces (last first) IN CASE A (`scf.if` 0 taken, `scf.if` 1 taken, `scf.if` 2 not taken, `scf.if` 3 taken, `scf.if` 4 not taken, `scf.if` 5 taken, `scf.if` 6 not taken, `scf.if` 7 taken, `scf.if` 8 not taken, `scf.if` 9 taken, `scf.if` 10 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S256x512 .bf16) (harg1 : arg1.IsWhole) (arg2 : Memref sig .tc .vmem S256x512 .f32) (harg2 : arg2.IsWhole) (arg3 : Memref sig .tc .vmem S256x512 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S16x128 .f32) (harg12 : arg12.IsWhole) (arg13 : Memref sig .tc .vmem S16x128 .f32) (harg13 : arg13.IsWhole) (arg14 : Memref sig .tc .vmem S128x2048 .bf16) (harg14 : arg14.IsWhole) (arg15 : Memref sig .tc .vmem S128x2048 .bf16) (harg15 : arg15.IsWhole) (arg16 : Memref sig .tc .vmem S2048x128 .bf16) (harg16 : arg16.IsWhole) (arg17 : Memref sig .tc .vmem S2048x128 .bf16) (harg17 : arg17.IsWhole) (arg18 : Memref sig .tc .vmem S1x512 .f32) (harg18 : arg18.IsWhole) (arg19 : Memref sig .tc .vmem S512x512 .bf16) (harg19 : arg19.IsWhole) (arg20 : Memref sig .tc .vmem S1x512 .f32) (harg20 : arg20.IsWhole) (arg21 : Memref sig .tc .vmem S256x512 .bf16) (harg21 : arg21.IsWhole) (arg22 : Memref sig .tc .vmem S512x512 .f32) (harg22 : arg22.IsWhole) (arg23 : Memref sig .tc .vmem S1x512 .f32) (harg23 : arg23.IsWhole) (arg24 : Memref sig .tc .vmem S1x512 .f32) (harg24 : arg24.IsWhole) (arg25 : Memref sig .tc .vmem S2048x128 .f32) (harg25 : arg25.IsWhole) (arg26 : Memref sig .tc .vmem S2048x128 .f32) (harg26 : arg26.IsWhole) (arg27 : Memref sig .tc .vmem S128x2048 .f32) (harg27 : arg27.IsWhole) (arg28 : Memref sig .tc .vmem S128x2048 .f32) (harg28 : arg28.IsWhole) (arg29 : Memref sig .tc .vmem S16x128 .f32) (harg29 : arg29.IsWhole) (arg30 : Memref sig .tc .vmem S16x128 .f32) (harg30 : arg30.IsWhole) (arg31 : Memref sig .tc .vmem S2048x128 .f32) (harg31 : arg31.IsWhole) (arg32 : Memref sig .tc .vmem S2048x128 .f32) (harg32 : arg32.IsWhole) (arg33 : Memref sig .tc .vmem S2048x128 .f32) (harg33 : arg33.IsWhole) (arg34 : Memref sig .tc .vmem S2048x128 .f32) (harg34 : arg34.IsWhole) (arg35 : Memref sig .tc .vmem S16x128 .f32) (harg35 : arg35.IsWhole) (arg36 : Memref sig .tc .vmem S16x128 .f32) (harg36 : arg36.IsWhole) (hc0 : cond0_0 i) (hc1 : cond0_1 i) (hc2 : ¬cond0_2 i) (hc3 : cond0_3 i) (hc4 : ¬cond0_4 i) (hc5 : cond0_5 i) (hc6 : ¬cond0_6 i) (hc7 : cond0_7 i) (hc8 : ¬cond0_8 i) (hc9 : cond0_9 i) (hc10 : ¬cond0_10 i)
    (x0 : Vec F S256x512 .bf16) (x1 : Vec F S256x512 .f32) (x2 : Vec F S256x512 .f32) (x3 : Vec F S2048x128 .f32) (x4 : Vec F S2048x128 .f32) (x5 : Vec F S2048x128 .f32) (x6 : Vec F S2048x128 .f32) (x7 : Vec F S8x128 .f32) (x8 : Vec F S8x128 .f32) (x9 : Vec F S8x128 .f32) (x10 : Vec F S8x128 .f32) (x11 : Vec F S16x128 .f32) (x12 : Vec F S16x128 .f32) (x13 : Vec F S128x2048 .bf16) (x14 : Vec F S128x2048 .bf16) (x15 : Vec F S2048x128 .bf16) (x16 : Vec F S2048x128 .bf16) (x17 : Vec F S1x512 .f32) (x18 : Vec F S512x512 .bf16) (x19 : Vec F S1x512 .f32) :
    Σ' (L20 : List (View.Piece (Elt F) S256x512 .bf16)), Σ' (L21 : List (View.Piece (Elt F) S512x512 .f32)), Σ' (L22 : List (View.Piece (Elt F) S1x512 .f32)), Σ' (L23 : List (View.Piece (Elt F) S1x512 .f32)), Σ' (L24 : List (View.Piece (Elt F) S2048x128 .f32)), Σ' (L25 : List (View.Piece (Elt F) S2048x128 .f32)), Σ' (L26 : List (View.Piece (Elt F) S128x2048 .f32)), Σ' (L27 : List (View.Piece (Elt F) S128x2048 .f32)), Σ' (L28 : List (View.Piece (Elt F) S16x128 .f32)), Σ' (L29 : List (View.Piece (Elt F) S16x128 .f32)), Σ' (LS4 : List (View.Piece (Elt F) S16x128 .f32)), { LS5 : List (View.Piece (Elt F) S16x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28) ∗ (∃ f, arg30.view.loc (c : Thread nD τ) ↦[arg30.view.set]{fullShare} arg30.view.writes (Elt F) f L29) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ f, arg35.view.loc (c : Thread nD τ) ↦[arg35.view.set]{fullShare} arg35.view.writes (Elt F) f LS4) ∗ (∃ f, arg36.view.loc (c : Thread nD τ) ↦[arg36.view.set]{fullShare} arg36.view.writes (Elt F) f LS5)) -∗ K ⟨⟩))
          ⊢ wp frame (wpE (defs₀ (F := F)) Variants.none c none) E (cc0_s5_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K } := by
  refine ⟨?_, ?_, ?_, ?_, ?_, ?_, ?_, ?_, ?_, ?_, ?_, ?_, fun E K => ?run⟩
  case run =>
    simp only [cc0_s5_bwd_eq_skeleton]; unfold cc0_s5_bwd_skel
    simp only [k0_part20_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19
    sl_exec (disch := first | sl_exact hc0 | sl_exact hc1 | sl_exact hc2 | sl_exact hc3 | sl_exact hc4 | sl_exact hc5 | sl_exact hc6 | sl_exact hc7 | sl_exact hc8 | sl_exact hc9 | sl_exact hc10)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]; · iexists _; iexact HS4
    iexists _; iexact HS5

end Cert.Kernel7Ideal.S5

end
-- ==== Proof.S5RunB.lean ====
/-
  The gradient of the state space mixer: one run of the kernel's body, at a later grid point.
-/
module

public import proofs.«01_k».proof.Proof.S5Conds

@[expose] public section

set_option maxRecDepth 16384

noncomputable section

namespace Cert.Kernel7Ideal.S5

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 40000000 in set_option sl_exec.stridedRows true in
/-- What the body's stores leave in each output's staging memref, as pieces (last first) IN CASE B (`scf.if` 0 not taken, `scf.if` 1 not taken, `scf.if` 2 taken, `scf.if` 3 not taken, `scf.if` 4 taken, `scf.if` 5 not taken, `scf.if` 6 taken, `scf.if` 7 not taken, `scf.if` 8 taken, `scf.if` 9 not taken, `scf.if` 10 taken: points 1, 2, … 15: 15 of 16), WITH the
    proof that on whole staging memrefs — the inputs' at their contents, the outputs it reads before covering (21, 22, 23, 24, 25, 26, 27, 28, 29) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S256x512 .bf16) (harg1 : arg1.IsWhole) (arg2 : Memref sig .tc .vmem S256x512 .f32) (harg2 : arg2.IsWhole) (arg3 : Memref sig .tc .vmem S256x512 .f32) (harg3 : arg3.IsWhole) (arg4 : Memref sig .tc .vmem S2048x128 .f32) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S8x128 .f32) (harg8 : arg8.IsWhole) (arg9 : Memref sig .tc .vmem S8x128 .f32) (harg9 : arg9.IsWhole) (arg10 : Memref sig .tc .vmem S8x128 .f32) (harg10 : arg10.IsWhole) (arg11 : Memref sig .tc .vmem S8x128 .f32) (harg11 : arg11.IsWhole) (arg12 : Memref sig .tc .vmem S16x128 .f32) (harg12 : arg12.IsWhole) (arg13 : Memref sig .tc .vmem S16x128 .f32) (harg13 : arg13.IsWhole) (arg14 : Memref sig .tc .vmem S128x2048 .bf16) (harg14 : arg14.IsWhole) (arg15 : Memref sig .tc .vmem S128x2048 .bf16) (harg15 : arg15.IsWhole) (arg16 : Memref sig .tc .vmem S2048x128 .bf16) (harg16 : arg16.IsWhole) (arg17 : Memref sig .tc .vmem S2048x128 .bf16) (harg17 : arg17.IsWhole) (arg18 : Memref sig .tc .vmem S1x512 .f32) (harg18 : arg18.IsWhole) (arg19 : Memref sig .tc .vmem S512x512 .bf16) (harg19 : arg19.IsWhole) (arg20 : Memref sig .tc .vmem S1x512 .f32) (harg20 : arg20.IsWhole) (arg21 : Memref sig .tc .vmem S256x512 .bf16) (harg21 : arg21.IsWhole) (arg22 : Memref sig .tc .vmem S512x512 .f32) (harg22 : arg22.IsWhole) (arg23 : Memref sig .tc .vmem S1x512 .f32) (harg23 : arg23.IsWhole) (arg24 : Memref sig .tc .vmem S1x512 .f32) (harg24 : arg24.IsWhole) (arg25 : Memref sig .tc .vmem S2048x128 .f32) (harg25 : arg25.IsWhole) (arg26 : Memref sig .tc .vmem S2048x128 .f32) (harg26 : arg26.IsWhole) (arg27 : Memref sig .tc .vmem S128x2048 .f32) (harg27 : arg27.IsWhole) (arg28 : Memref sig .tc .vmem S128x2048 .f32) (harg28 : arg28.IsWhole) (arg29 : Memref sig .tc .vmem S16x128 .f32) (harg29 : arg29.IsWhole) (arg30 : Memref sig .tc .vmem S16x128 .f32) (harg30 : arg30.IsWhole) (arg31 : Memref sig .tc .vmem S2048x128 .f32) (harg31 : arg31.IsWhole) (arg32 : Memref sig .tc .vmem S2048x128 .f32) (harg32 : arg32.IsWhole) (arg33 : Memref sig .tc .vmem S2048x128 .f32) (harg33 : arg33.IsWhole) (arg34 : Memref sig .tc .vmem S2048x128 .f32) (harg34 : arg34.IsWhole) (arg35 : Memref sig .tc .vmem S16x128 .f32) (harg35 : arg35.IsWhole) (arg36 : Memref sig .tc .vmem S16x128 .f32) (harg36 : arg36.IsWhole) (hc0 : ¬cond0_0 i) (hc1 : ¬cond0_1 i) (hc2 : cond0_2 i) (hc3 : ¬cond0_3 i) (hc4 : cond0_4 i) (hc5 : ¬cond0_5 i) (hc6 : cond0_6 i) (hc7 : ¬cond0_7 i) (hc8 : cond0_8 i) (hc9 : ¬cond0_9 i) (hc10 : cond0_10 i)
    (x0 : Vec F S256x512 .bf16) (x1 : Vec F S256x512 .f32) (x2 : Vec F S256x512 .f32) (x3 : Vec F S2048x128 .f32) (x4 : Vec F S2048x128 .f32) (x5 : Vec F S2048x128 .f32) (x6 : Vec F S2048x128 .f32) (x7 : Vec F S8x128 .f32) (x8 : Vec F S8x128 .f32) (x9 : Vec F S8x128 .f32) (x10 : Vec F S8x128 .f32) (x11 : Vec F S16x128 .f32) (x12 : Vec F S16x128 .f32) (x13 : Vec F S128x2048 .bf16) (x14 : Vec F S128x2048 .bf16) (x15 : Vec F S2048x128 .bf16) (x16 : Vec F S2048x128 .bf16) (x17 : Vec F S1x512 .f32) (x18 : Vec F S512x512 .bf16) (x19 : Vec F S1x512 .f32) (xo21 : Vec F S512x512 .f32) (xo22 : Vec F S1x512 .f32) (xo23 : Vec F S1x512 .f32) (xo24 : Vec F S2048x128 .f32) (xo25 : Vec F S2048x128 .f32) (xo26 : Vec F S128x2048 .f32) (xo27 : Vec F S128x2048 .f32) (xo28 : Vec F S16x128 .f32) (xo29 : Vec F S16x128 .f32) (xs4 : Vec F S16x128 .f32) (xs5 : Vec F S16x128 .f32) :
    Σ' (L20 : List (View.Piece (Elt F) S256x512 .bf16)), Σ' (L21 : List (View.Piece (Elt F) S512x512 .f32)), Σ' (L22 : List (View.Piece (Elt F) S1x512 .f32)), Σ' (L23 : List (View.Piece (Elt F) S1x512 .f32)), Σ' (L24 : List (View.Piece (Elt F) S2048x128 .f32)), Σ' (L25 : List (View.Piece (Elt F) S2048x128 .f32)), Σ' (L26 : List (View.Piece (Elt F) S128x2048 .f32)), Σ' (L27 : List (View.Piece (Elt F) S128x2048 .f32)), Σ' (L28 : List (View.Piece (Elt F) S16x128 .f32)), Σ' (L29 : List (View.Piece (Elt F) S16x128 .f32)), Σ' (LS4 : List (View.Piece (Elt F) S16x128 .f32)), { LS5 : List (View.Piece (Elt F) S16x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ d, owns (c : Thread nD τ) arg21 fullShare d) ∗ owns (c : Thread nD τ) arg22 fullShare xo21 ∗ owns (c : Thread nD τ) arg23 fullShare xo22 ∗ owns (c : Thread nD τ) arg24 fullShare xo23 ∗ owns (c : Thread nD τ) arg25 fullShare xo24 ∗ owns (c : Thread nD τ) arg26 fullShare xo25 ∗ owns (c : Thread nD τ) arg27 fullShare xo26 ∗ owns (c : Thread nD τ) arg28 fullShare xo27 ∗ owns (c : Thread nD τ) arg29 fullShare xo28 ∗ owns (c : Thread nD τ) arg30 fullShare xo29 ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ owns (c : Thread nD τ) arg35 fullShare xs4 ∗ owns (c : Thread nD τ) arg36 fullShare xs5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28) ∗ (∃ f, arg30.view.loc (c : Thread nD τ) ↦[arg30.view.set]{fullShare} arg30.view.writes (Elt F) f L29) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ f, arg35.view.loc (c : Thread nD τ) ↦[arg35.view.set]{fullShare} arg35.view.writes (Elt F) f LS4) ∗ (∃ f, arg36.view.loc (c : Thread nD τ) ↦[arg36.view.set]{fullShare} arg36.view.writes (Elt F) f LS5)) -∗ K ⟨⟩))
          ⊢ wp frame (wpE (defs₀ (F := F)) Variants.none c none) E (cc0_s5_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36) K } := by
  refine ⟨?_, ?_, ?_, ?_, ?_, ?_, ?_, ?_, ?_, ?_, ?_, ?_, fun E K => ?run⟩
  case run =>
    simp only [cc0_s5_bwd_eq_skeleton]; unfold cc0_s5_bwd_skel
    simp only [k0_part20_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%ds0, %fs0, -, HS0⟩, ⟨%ds1, %fs1, -, HS1⟩, ⟨%ds2, %fs2, -, HS2⟩, ⟨%ds3, %fs3, -, HS3⟩, ⟨%fs4, %hfs4, HS4⟩, ⟨%fs5, %hfs5, HS5⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg22.eq_unread hf21; obtain rfl := harg23.eq_unread hf22; obtain rfl := harg24.eq_unread hf23; obtain rfl := harg25.eq_unread hf24; obtain rfl := harg26.eq_unread hf25; obtain rfl := harg27.eq_unread hf26; obtain rfl := harg28.eq_unread hf27; obtain rfl := harg29.eq_unread hf28; obtain rfl := harg30.eq_unread hf29; obtain rfl := harg35.eq_unread hfs4; obtain rfl := harg36.eq_unread hfs5
    sl_exec (disch := first | sl_exact hc0 | sl_exact hc1 | sl_exact hc2 | sl_exact hc3 | sl_exact hc4 | sl_exact hc5 | sl_exact hc6 | sl_exact hc7 | sl_exact hc8 | sl_exact hc9 | sl_exact hc10)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]; · iexists _; iexact HS4
    iexists _; iexact HS5

end Cert.Kernel7Ideal.S5

end
-- ==== Proof.S5Frame.lean ====
/-
  The gradient of the state space mixer: what every grid point leaves, and that the whole kernel runs to its end.
-/
module

public import proofs.«01_k».proof.Proof.S5RunA
public import proofs.«01_k».proof.Proof.S5RunB

@[expose] public section

set_option maxRecDepth 16384

noncomputable section

namespace Cert.Kernel7Ideal.S5

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point leaves: the ten results' buffers and the two carried scratch buffers. -/
abbrev Outs (F : FTy → Type) : Type :=
  Vec F S256x512 .bf16 × Vec F S512x512 .f32 × Vec F S1x512 .f32 × Vec F S1x512 .f32 × Vec F S2048x128 .f32 × Vec F S2048x128 .f32 × Vec F S128x2048 .f32 × Vec F S128x2048 .f32 × Vec F S16x128 .f32 × Vec F S16x128 .f32 × Vec F S16x128 .f32 × Vec F S16x128 .f32

/-- The body's run at the first point. -/
def atA (c : Dev nD) (t : Fin cfg0.N) (h : t.val = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) scM0_3 (Memref.isWhole_whole _) scM0_4 (Memref.isWhole_whole _) scM0_5 (Memref.isWhole_whole _) (isA t h).1 (isA t h).2.1 (isA t h).2.2.1 (isA t h).2.2.2.1 (isA t h).2.2.2.2.1 (isA t h).2.2.2.2.2.1 (isA t h).2.2.2.2.2.2.1 (isA t h).2.2.2.2.2.2.2.1 (isA t h).2.2.2.2.2.2.2.2.1 (isA t h).2.2.2.2.2.2.2.2.2.1 (isA t h).2.2.2.2.2.2.2.2.2.2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)

/-- The body's run at a later point, where the point before left `p`. -/
def atB (c : Dev nD) (t : Fin cfg0.N) (h : t.val ≠ 0) (p : Outs F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) scM0_0 (Memref.isWhole_whole _) scM0_1 (Memref.isWhole_whole _) scM0_2 (Memref.isWhole_whole _) scM0_3 (Memref.isWhole_whole _) scM0_4 (Memref.isWhole_whole _) scM0_5 (Memref.isWhole_whole _) (isB t h).1 (isB t h).2.1 (isB t h).2.2.1 (isB t h).2.2.2.1 (isB t h).2.2.2.2.1 (isB t h).2.2.2.2.2.1 (isB t h).2.2.2.2.2.2.1 (isB t h).2.2.2.2.2.2.2.1 (isB t h).2.2.2.2.2.2.2.2.1 (isB t h).2.2.2.2.2.2.2.2.2.1 (isB t h).2.2.2.2.2.2.2.2.2.2 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p.2.1 p.2.2.1 p.2.2.2.1 p.2.2.2.2.1 p.2.2.2.2.2.1 p.2.2.2.2.2.2.1 p.2.2.2.2.2.2.2.1 p.2.2.2.2.2.2.2.2.1 p.2.2.2.2.2.2.2.2.2.1 p.2.2.2.2.2.2.2.2.2.2.1 p.2.2.2.2.2.2.2.2.2.2.2

theorem coverA_20 (c : Dev nD) (t : Fin cfg0.N) (h : t.val = 0) (y : S256x512.Idx) :
    ∃ pc ∈ (atA m c t h).1, y ∈ pc.1.set :=
  View.cover_of_tiledL (atA m c t h).1 S256x512.size (by sl_kernel_rfl) y

theorem coverA_21 (c : Dev nD) (t : Fin cfg0.N) (h : t.val = 0) (y : S512x512.Idx) :
    ∃ pc ∈ (atA m c t h).2.1, y ∈ pc.1.set :=
  View.cover_of_tiledL (atA m c t h).2.1 S512x512.size (by sl_kernel_rfl) y

theorem coverA_22 (c : Dev nD) (t : Fin cfg0.N) (h : t.val = 0) (y : S1x512.Idx) :
    ∃ pc ∈ (atA m c t h).2.2.1, y ∈ pc.1.set :=
  View.cover_of_tiledL (atA m c t h).2.2.1 S1x512.size (by sl_kernel_rfl) y

theorem coverA_23 (c : Dev nD) (t : Fin cfg0.N) (h : t.val = 0) (y : S1x512.Idx) :
    ∃ pc ∈ (atA m c t h).2.2.2.1, y ∈ pc.1.set :=
  View.cover_of_tiledL (atA m c t h).2.2.2.1 S1x512.size (by sl_kernel_rfl) y

theorem coverA_24 (c : Dev nD) (t : Fin cfg0.N) (h : t.val = 0) (y : S2048x128.Idx) :
    ∃ pc ∈ (atA m c t h).2.2.2.2.1, y ∈ pc.1.set :=
  View.cover_of_tiledBy (atA m c t h).2.2.2.2.1 ![512, 128] (by sl_kernel_rfl) y

theorem coverA_25 (c : Dev nD) (t : Fin cfg0.N) (h : t.val = 0) (y : S2048x128.Idx) :
    ∃ pc ∈ (atA m c t h).2.2.2.2.2.1, y ∈ pc.1.set :=
  View.cover_of_tiledBy (atA m c t h).2.2.2.2.2.1 ![512, 128] (by sl_kernel_rfl) y

theorem coverA_26 (c : Dev nD) (t : Fin cfg0.N) (h : t.val = 0) (y : S128x2048.Idx) :
    ∃ pc ∈ (atA m c t h).2.2.2.2.2.2.1, y ∈ pc.1.set :=
  View.cover_of_tiledBy (atA m c t h).2.2.2.2.2.2.1 ![128, 512] (by sl_kernel_rfl) y

theorem coverA_27 (c : Dev nD) (t : Fin cfg0.N) (h : t.val = 0) (y : S128x2048.Idx) :
    ∃ pc ∈ (atA m c t h).2.2.2.2.2.2.2.1, y ∈ pc.1.set :=
  View.cover_of_tiledBy (atA m c t h).2.2.2.2.2.2.2.1 ![128, 512] (by sl_kernel_rfl) y

theorem coverA_28 (c : Dev nD) (t : Fin cfg0.N) (h : t.val = 0) (y : S16x128.Idx) :
    ∃ pc ∈ (atA m c t h).2.2.2.2.2.2.2.2.1, y ∈ pc.1.set :=
  View.cover_of_tiledL (atA m c t h).2.2.2.2.2.2.2.2.1 S8x128.size (by sl_kernel_rfl) y

theorem coverA_29 (c : Dev nD) (t : Fin cfg0.N) (h : t.val = 0) (y : S16x128.Idx) :
    ∃ pc ∈ (atA m c t h).2.2.2.2.2.2.2.2.2.1, y ∈ pc.1.set :=
  View.cover_of_tiledL (atA m c t h).2.2.2.2.2.2.2.2.2.1 S8x128.size (by sl_kernel_rfl) y

theorem coverA_s4 (c : Dev nD) (t : Fin cfg0.N) (h : t.val = 0) (y : S16x128.Idx) :
    ∃ pc ∈ (atA m c t h).2.2.2.2.2.2.2.2.2.2.1, y ∈ pc.1.set :=
  View.cover_of_wholeMem (atA m c t h).2.2.2.2.2.2.2.2.2.2.1 (by sl_whole_mem) y

theorem coverA_s5 (c : Dev nD) (t : Fin cfg0.N) (h : t.val = 0) (y : S16x128.Idx) :
    ∃ pc ∈ (atA m c t h).2.2.2.2.2.2.2.2.2.2.2.1, y ∈ pc.1.set :=
  View.cover_of_wholeMem (atA m c t h).2.2.2.2.2.2.2.2.2.2.2.1 (by sl_whole_mem) y

/-- What the run leaves at the first point. -/
def outA (c : Dev nD) (t : Fin cfg0.N) (h : t.val = 0) : Outs F :=
  (VO0_20.read (Elt F) (VO0_20.writes (Elt F) VO0_20.junk (atA m c t h).1),
   VO0_21.read (Elt F) (VO0_21.writes (Elt F) VO0_21.junk (atA m c t h).2.1),
   VO0_22.read (Elt F) (VO0_22.writes (Elt F) VO0_22.junk (atA m c t h).2.2.1),
   VO0_23.read (Elt F) (VO0_23.writes (Elt F) VO0_23.junk (atA m c t h).2.2.2.1),
   VO0_24.read (Elt F) (VO0_24.writes (Elt F) VO0_24.junk (atA m c t h).2.2.2.2.1),
   VO0_25.read (Elt F) (VO0_25.writes (Elt F) VO0_25.junk (atA m c t h).2.2.2.2.2.1),
   VO0_26.read (Elt F) (VO0_26.writes (Elt F) VO0_26.junk (atA m c t h).2.2.2.2.2.2.1),
   VO0_27.read (Elt F) (VO0_27.writes (Elt F) VO0_27.junk (atA m c t h).2.2.2.2.2.2.2.1),
   VO0_28.read (Elt F) (VO0_28.writes (Elt F) VO0_28.junk (atA m c t h).2.2.2.2.2.2.2.2.1),
   VO0_29.read (Elt F) (VO0_29.writes (Elt F) VO0_29.junk (atA m c t h).2.2.2.2.2.2.2.2.2.1),
   VS0_4.read (Elt F) (VS0_4.writes (Elt F) VS0_4.junk (atA m c t h).2.2.2.2.2.2.2.2.2.2.1),
   VS0_5.read (Elt F) (VS0_5.writes (Elt F) VS0_5.junk (atA m c t h).2.2.2.2.2.2.2.2.2.2.2.1))

theorem coverB_20 (c : Dev nD) (t : Fin cfg0.N) (h : t.val ≠ 0) (p : Outs F) (y : S256x512.Idx) :
    ∃ pc ∈ (atB m c t h p).1, y ∈ pc.1.set :=
  View.cover_of_tiledL (atB m c t h p).1 S256x512.size (by sl_kernel_rfl) y

theorem coverB_21 (c : Dev nD) (t : Fin cfg0.N) (h : t.val ≠ 0) (p : Outs F) (y : S512x512.Idx) :
    ∃ pc ∈ (atB m c t h p).2.1, y ∈ pc.1.set :=
  View.cover_of_tiledL (atB m c t h p).2.1 S512x512.size (by sl_kernel_rfl) y

theorem coverB_22 (c : Dev nD) (t : Fin cfg0.N) (h : t.val ≠ 0) (p : Outs F) (y : S1x512.Idx) :
    ∃ pc ∈ (atB m c t h p).2.2.1, y ∈ pc.1.set :=
  View.cover_of_tiledL (atB m c t h p).2.2.1 S1x512.size (by sl_kernel_rfl) y

theorem coverB_23 (c : Dev nD) (t : Fin cfg0.N) (h : t.val ≠ 0) (p : Outs F) (y : S1x512.Idx) :
    ∃ pc ∈ (atB m c t h p).2.2.2.1, y ∈ pc.1.set :=
  View.cover_of_tiledL (atB m c t h p).2.2.2.1 S1x512.size (by sl_kernel_rfl) y

theorem coverB_24 (c : Dev nD) (t : Fin cfg0.N) (h : t.val ≠ 0) (p : Outs F) (y : S2048x128.Idx) :
    ∃ pc ∈ (atB m c t h p).2.2.2.2.1, y ∈ pc.1.set :=
  View.cover_of_tiledL (atB m c t h p).2.2.2.2.1 S512x128.size (by sl_kernel_rfl) y

theorem coverB_25 (c : Dev nD) (t : Fin cfg0.N) (h : t.val ≠ 0) (p : Outs F) (y : S2048x128.Idx) :
    ∃ pc ∈ (atB m c t h p).2.2.2.2.2.1, y ∈ pc.1.set :=
  View.cover_of_tiledL (atB m c t h p).2.2.2.2.2.1 S512x128.size (by sl_kernel_rfl) y

theorem coverB_26 (c : Dev nD) (t : Fin cfg0.N) (h : t.val ≠ 0) (p : Outs F) (y : S128x2048.Idx) :
    ∃ pc ∈ (atB m c t h p).2.2.2.2.2.2.1, y ∈ pc.1.set :=
  View.cover_of_tiledL (atB m c t h p).2.2.2.2.2.2.1 S128x512.size (by sl_kernel_rfl) y

theorem coverB_27 (c : Dev nD) (t : Fin cfg0.N) (h : t.val ≠ 0) (p : Outs F) (y : S128x2048.Idx) :
    ∃ pc ∈ (atB m c t h p).2.2.2.2.2.2.2.1, y ∈ pc.1.set :=
  View.cover_of_tiledL (atB m c t h p).2.2.2.2.2.2.2.1 S128x512.size (by sl_kernel_rfl) y

theorem coverB_28 (c : Dev nD) (t : Fin cfg0.N) (h : t.val ≠ 0) (p : Outs F) (y : S16x128.Idx) :
    ∃ pc ∈ (atB m c t h p).2.2.2.2.2.2.2.2.1, y ∈ pc.1.set :=
  View.cover_of_tiledL (atB m c t h p).2.2.2.2.2.2.2.2.1 S8x128.size (by sl_kernel_rfl) y

theorem coverB_29 (c : Dev nD) (t : Fin cfg0.N) (h : t.val ≠ 0) (p : Outs F) (y : S16x128.Idx) :
    ∃ pc ∈ (atB m c t h p).2.2.2.2.2.2.2.2.2.1, y ∈ pc.1.set :=
  View.cover_of_tiledL (atB m c t h p).2.2.2.2.2.2.2.2.2.1 S8x128.size (by sl_kernel_rfl) y

theorem coverB_s4 (c : Dev nD) (t : Fin cfg0.N) (h : t.val ≠ 0) (p : Outs F) (y : S16x128.Idx) :
    ∃ pc ∈ (atB m c t h p).2.2.2.2.2.2.2.2.2.2.1, y ∈ pc.1.set :=
  View.cover_of_tiledL (atB m c t h p).2.2.2.2.2.2.2.2.2.2.1 S8x128.size (by sl_kernel_rfl) y

theorem coverB_s5 (c : Dev nD) (t : Fin cfg0.N) (h : t.val ≠ 0) (p : Outs F) (y : S16x128.Idx) :
    ∃ pc ∈ (atB m c t h p).2.2.2.2.2.2.2.2.2.2.2.1, y ∈ pc.1.set :=
  View.cover_of_tiledL (atB m c t h p).2.2.2.2.2.2.2.2.2.2.2.1 S8x128.size (by sl_kernel_rfl) y

/-- What the run leaves at a later point. -/
def outB (c : Dev nD) (t : Fin cfg0.N) (h : t.val ≠ 0) (p : Outs F) : Outs F :=
  (VO0_20.read (Elt F) (VO0_20.writes (Elt F) VO0_20.junk (atB m c t h p).1),
   VO0_21.read (Elt F) (VO0_21.writes (Elt F) VO0_21.junk (atB m c t h p).2.1),
   VO0_22.read (Elt F) (VO0_22.writes (Elt F) VO0_22.junk (atB m c t h p).2.2.1),
   VO0_23.read (Elt F) (VO0_23.writes (Elt F) VO0_23.junk (atB m c t h p).2.2.2.1),
   VO0_24.read (Elt F) (VO0_24.writes (Elt F) VO0_24.junk (atB m c t h p).2.2.2.2.1),
   VO0_25.read (Elt F) (VO0_25.writes (Elt F) VO0_25.junk (atB m c t h p).2.2.2.2.2.1),
   VO0_26.read (Elt F) (VO0_26.writes (Elt F) VO0_26.junk (atB m c t h p).2.2.2.2.2.2.1),
   VO0_27.read (Elt F) (VO0_27.writes (Elt F) VO0_27.junk (atB m c t h p).2.2.2.2.2.2.2.1),
   VO0_28.read (Elt F) (VO0_28.writes (Elt F) VO0_28.junk (atB m c t h p).2.2.2.2.2.2.2.2.1),
   VO0_29.read (Elt F) (VO0_29.writes (Elt F) VO0_29.junk (atB m c t h p).2.2.2.2.2.2.2.2.2.1),
   VS0_4.read (Elt F) (VS0_4.writes (Elt F) VS0_4.junk (atB m c t h p).2.2.2.2.2.2.2.2.2.2.1),
   VS0_5.read (Elt F) (VS0_5.writes (Elt F) VS0_5.junk (atB m c t h p).2.2.2.2.2.2.2.2.2.2.2.1))

/-- What each point leaves, by recursion on the points. -/
def outsAt0 (c : Dev nD) : (n : ℕ) → n < cfg0.N → Outs F
  | 0, hn => outA m c ⟨0, hn⟩ rfl
  | n + 1, hn => outB m c ⟨n + 1, hn⟩ (Nat.succ_ne_zero n) (outsAt0 c n (Nat.lt_of_succ_lt hn))

/-- What the point before `t` leaves. -/
abbrev prev (c : Dev nD) (t : Fin cfg0.N) : Outs F :=
  outsAt0 m c (t.val - 1) (Nat.lt_of_le_of_lt (Nat.sub_le _ _) t.isLt)

theorem outsAt0_A (c : Dev nD) (t : Fin cfg0.N) (h : t.val = 0) :
    outsAt0 m c t.val t.isLt = outA m c t h := by
  obtain ⟨n, hn⟩ := t
  cases n with
  | zero => rfl
  | succ n => exact absurd h (Nat.succ_ne_zero n)

theorem outsAt0_B (c : Dev nD) (t : Fin cfg0.N) (h : t.val ≠ 0) :
    outsAt0 m c t.val t.isLt = outB m c t h (prev m c t) := by
  obtain ⟨n, hn⟩ := t
  cases n with
  | zero => exact absurd rfl h
  | succ n => rfl

/-- What the scratch buffers hold between points: before the first point anything; afterwards the carried two hold what
    the point before left. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m c n hn).2.2.2.2.2.2.2.2.2.2.1) ∗ owns (c : Thread nD τ) scM0_5 fullShare ((outsAt0 m c n hn).2.2.2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m c n hn).2.2.2.2.2.2.2.2.2.2.1) ∗ owns (c : Thread nD τ) scM0_5 fullShare ((outsAt0 m c n hn).2.2.2.2.2.2.2.2.2.2.2)) ∗ (∃ r, prngReg c r)) := rfl

theorem PhiS_pos (c : Dev nD) (n : ℕ) (h : n ≤ cfg0.N) (hz : n ≠ 0) :
    PhiS m c n h = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ owns (c : Thread nD τ) scM0_4 fullShare ((outsAt0 m c (n - 1) (by omega)).2.2.2.2.2.2.2.2.2.2.1) ∗ owns (c : Thread nD τ) scM0_5 fullShare ((outsAt0 m c (n - 1) (by omega)).2.2.2.2.2.2.2.2.2.2.2)) ∗ (∃ r, prngReg c r)) := by
  cases n with
  | zero => exact absurd rfl hz
  | succ n => rfl

/-- The proof data of the kernel's one pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => (outsAt0 m c t.val t.isLt).1
    | ⟨21, _⟩ => (outsAt0 m c t.val t.isLt).2.1
    | ⟨22, _⟩ => (outsAt0 m c t.val t.isLt).2.2.1
    | ⟨23, _⟩ => (outsAt0 m c t.val t.isLt).2.2.2.1
    | ⟨24, _⟩ => (outsAt0 m c t.val t.isLt).2.2.2.2.1
    | ⟨25, _⟩ => (outsAt0 m c t.val t.isLt).2.2.2.2.2.1
    | ⟨26, _⟩ => (outsAt0 m c t.val t.isLt).2.2.2.2.2.2.1
    | ⟨27, _⟩ => (outsAt0 m c t.val t.isLt).2.2.2.2.2.2.2.1
    | ⟨28, _⟩ => (outsAt0 m c t.val t.isLt).2.2.2.2.2.2.2.2.1
    | ⟨29, _⟩ => (outsAt0 m c t.val t.isLt).2.2.2.2.2.2.2.2.2.1
    | ⟨_ + 30, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = (outsAt0 m c t.val t.isLt).1 := by dsimp only [dats]
theorem after0_21 (c : Dev nD) (t : Fin cfg0.N) : (dats m 0 c).after 21 t = (outsAt0 m c t.val t.isLt).2.1 := by dsimp only [dats]
theorem after0_22 (c : Dev nD) (t : Fin cfg0.N) : (dats m 0 c).after 22 t = (outsAt0 m c t.val t.isLt).2.2.1 := by dsimp only [dats]
theorem after0_23 (c : Dev nD) (t : Fin cfg0.N) : (dats m 0 c).after 23 t = (outsAt0 m c t.val t.isLt).2.2.2.1 := by dsimp only [dats]
theorem after0_24 (c : Dev nD) (t : Fin cfg0.N) : (dats m 0 c).after 24 t = (outsAt0 m c t.val t.isLt).2.2.2.2.1 := by dsimp only [dats]
theorem after0_25 (c : Dev nD) (t : Fin cfg0.N) : (dats m 0 c).after 25 t = (outsAt0 m c t.val t.isLt).2.2.2.2.2.1 := by dsimp only [dats]
theorem after0_26 (c : Dev nD) (t : Fin cfg0.N) : (dats m 0 c).after 26 t = (outsAt0 m c t.val t.isLt).2.2.2.2.2.2.1 := by dsimp only [dats]
theorem after0_27 (c : Dev nD) (t : Fin cfg0.N) : (dats m 0 c).after 27 t = (outsAt0 m c t.val t.isLt).2.2.2.2.2.2.2.1 := by dsimp only [dats]
theorem after0_28 (c : Dev nD) (t : Fin cfg0.N) : (dats m 0 c).after 28 t = (outsAt0 m c t.val t.isLt).2.2.2.2.2.2.2.2.1 := by dsimp only [dats]
theorem after0_29 (c : Dev nD) (t : Fin cfg0.N) : (dats m 0 c).after 29 t = (outsAt0 m c t.val t.isLt).2.2.2.2.2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d

theorem before0_21 (c : Dev nD) (t : Fin cfg0.N) (h : t.val ≠ 0) (d) :
    (dats m 0 c).before 21 t d = (prev m c t).2.1 := by
  rw [Dat.before_out_traj _ 21 rfl (fun _ _ => rfl)
      (fun t _ hi _ => by rw [liveAt0_21 t] at hi; exact absurd hi Bool.false_ne_true) t.val t rfl d,
    if_neg (by rw [notFresh0_21 t h]; exact Bool.false_ne_true)]
  dsimp only [dats]

theorem before0_22 (c : Dev nD) (t : Fin cfg0.N) (h : t.val ≠ 0) (d) :
    (dats m 0 c).before 22 t d = (prev m c t).2.2.1 := by
  rw [Dat.before_out_traj _ 22 rfl (fun _ _ => rfl)
      (fun t _ hi _ => by rw [liveAt0_22 t] at hi; exact absurd hi Bool.false_ne_true) t.val t rfl d,
    if_neg (by rw [notFresh0_22 t h]; exact Bool.false_ne_true)]
  dsimp only [dats]

theorem before0_23 (c : Dev nD) (t : Fin cfg0.N) (h : t.val ≠ 0) (d) :
    (dats m 0 c).before 23 t d = (prev m c t).2.2.2.1 := by
  rw [Dat.before_out_traj _ 23 rfl (fun _ _ => rfl)
      (fun t _ hi _ => by rw [liveAt0_23 t] at hi; exact absurd hi Bool.false_ne_true) t.val t rfl d,
    if_neg (by rw [notFresh0_23 t h]; exact Bool.false_ne_true)]
  dsimp only [dats]

theorem before0_24 (c : Dev nD) (t : Fin cfg0.N) (h : t.val ≠ 0) (d) :
    (dats m 0 c).before 24 t d = (prev m c t).2.2.2.2.1 := by
  have hN : t.val < 16 := lt_of_lt_of_eq t.isLt (show cfg0.N = 16 from N_0)
  rw [Dat.before_out_kept _ 24 rfl t h (Bool.eq_false_iff.mpr fun h => by have := (flush0_24 _).mp h; dsimp only at this; omega)
    (fun _ => rfl) (fun _ _ => rfl)]
  dsimp only [dats]

theorem before0_25 (c : Dev nD) (t : Fin cfg0.N) (h : t.val ≠ 0) (d) :
    (dats m 0 c).before 25 t d = (prev m c t).2.2.2.2.2.1 := by
  have hN : t.val < 16 := lt_of_lt_of_eq t.isLt (show cfg0.N = 16 from N_0)
  rw [Dat.before_out_kept _ 25 rfl t h (Bool.eq_false_iff.mpr fun h => by have := (flush0_25 _).mp h; dsimp only at this; omega)
    (fun _ => rfl) (fun _ _ => rfl)]
  dsimp only [dats]

theorem before0_26 (c : Dev nD) (t : Fin cfg0.N) (h : t.val ≠ 0) (d) :
    (dats m 0 c).before 26 t d = (prev m c t).2.2.2.2.2.2.1 := by
  have hN : t.val < 16 := lt_of_lt_of_eq t.isLt (show cfg0.N = 16 from N_0)
  rw [Dat.before_out_kept _ 26 rfl t h (Bool.eq_false_iff.mpr fun h => by have := (flush0_26 _).mp h; dsimp only at this; omega)
    (fun _ => rfl) (fun _ _ => rfl)]
  dsimp only [dats]

theorem before0_27 (c : Dev nD) (t : Fin cfg0.N) (h : t.val ≠ 0) (d) :
    (dats m 0 c).before 27 t d = (prev m c t).2.2.2.2.2.2.2.1 := by
  have hN : t.val < 16 := lt_of_lt_of_eq t.isLt (show cfg0.N = 16 from N_0)
  rw [Dat.before_out_kept _ 27 rfl t h (Bool.eq_false_iff.mpr fun h => by have := (flush0_27 _).mp h; dsimp only at this; omega)
    (fun _ => rfl) (fun _ _ => rfl)]
  dsimp only [dats]

theorem before0_28 (c : Dev nD) (t : Fin cfg0.N) (h : t.val ≠ 0) (d) :
    (dats m 0 c).before 28 t d = (prev m c t).2.2.2.2.2.2.2.2.1 := by
  rw [Dat.before_out_traj _ 28 rfl (fun _ _ => rfl)
      (fun t _ hi _ => by rw [liveAt0_28 t] at hi; exact absurd hi Bool.false_ne_true) t.val t rfl d,
    if_neg (by rw [notFresh0_28 t h]; exact Bool.false_ne_true)]
  dsimp only [dats]

theorem before0_29 (c : Dev nD) (t : Fin cfg0.N) (h : t.val ≠ 0) (d) :
    (dats m 0 c).before 29 t d = (prev m c t).2.2.2.2.2.2.2.2.2.1 := by
  rw [Dat.before_out_traj _ 29 rfl (fun _ _ => rfl)
      (fun t _ hi _ => by rw [liveAt0_29 t] at hi; exact absurd hi Bool.false_ne_true) t.val t rfl d,
    if_neg (by rw [notFresh0_29 t h]; exact Bool.false_ne_true)]
  dsimp only [dats]

/-- What a point's body is given. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d)))

/-- What a point's body gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t
    ∗ (dats m 0 c).leavesExact 27 t
    ∗ (dats m 0 c).leavesExact 28 t
    ∗ (dats m 0 c).leavesExact 29 t)

theorem leaves0_0 (c : Dev nD) (t : Fin cfg0.N) : (dats m 0 c).leavesExact 0 t
    = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t
    = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t
    = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t
    = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t
    = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t
    = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t
    = owns (c : Thread nD τ) (ms0_6 t) fullShare (iblk m c 6 t) := by
  unfold Dat.leavesExact; rw [liveAt0_6 t, after0_6]
theorem leaves0_7 (c : Dev nD) (t : Fin cfg0.N) : (dats m 0 c).leavesExact 7 t
    = owns (c : Thread nD τ) (ms0_7 t) fullShare (iblk m c 7 t) := by
  unfold Dat.leavesExact; rw [liveAt0_7 t, after0_7]
theorem leaves0_8 (c : Dev nD) (t : Fin cfg0.N) : (dats m 0 c).leavesExact 8 t
    = owns (c : Thread nD τ) (ms0_8 t) fullShare (iblk m c 8 t) := by
  unfold Dat.leavesExact; rw [liveAt0_8 t, after0_8]
theorem leaves0_9 (c : Dev nD) (t : Fin cfg0.N) : (dats m 0 c).leavesExact 9 t
    = owns (c : Thread nD τ) (ms0_9 t) fullShare (iblk m c 9 t) := by
  unfold Dat.leavesExact; rw [liveAt0_9 t, after0_9]
theorem leaves0_10 (c : Dev nD) (t : Fin cfg0.N) : (dats m 0 c).leavesExact 10 t
    = owns (c : Thread nD τ) (ms0_10 t) fullShare (iblk m c 10 t) := by
  unfold Dat.leavesExact; rw [liveAt0_10 t, after0_10]
theorem leaves0_11 (c : Dev nD) (t : Fin cfg0.N) : (dats m 0 c).leavesExact 11 t
    = owns (c : Thread nD τ) (ms0_11 t) fullShare (iblk m c 11 t) := by
  unfold Dat.leavesExact; rw [liveAt0_11 t, after0_11]
theorem leaves0_12 (c : Dev nD) (t : Fin cfg0.N) : (dats m 0 c).leavesExact 12 t
    = owns (c : Thread nD τ) (ms0_12 t) fullShare (iblk m c 12 t) := by
  unfold Dat.leavesExact; rw [liveAt0_12 t, after0_12]
theorem leaves0_13 (c : Dev nD) (t : Fin cfg0.N) : (dats m 0 c).leavesExact 13 t
    = owns (c : Thread nD τ) (ms0_13 t) fullShare (iblk m c 13 t) := by
  unfold Dat.leavesExact; rw [liveAt0_13 t, after0_13]
theorem leaves0_14 (c : Dev nD) (t : Fin cfg0.N) : (dats m 0 c).leavesExact 14 t
    = owns (c : Thread nD τ) (ms0_14 t) fullShare (iblk m c 14 t) := by
  unfold Dat.leavesExact; rw [liveAt0_14 t, after0_14]
theorem leaves0_15 (c : Dev nD) (t : Fin cfg0.N) : (dats m 0 c).leavesExact 15 t
    = owns (c : Thread nD τ) (ms0_15 t) fullShare (iblk m c 15 t) := by
  unfold Dat.leavesExact; rw [liveAt0_15 t, after0_15]
theorem leaves0_16 (c : Dev nD) (t : Fin cfg0.N) : (dats m 0 c).leavesExact 16 t
    = owns (c : Thread nD τ) (ms0_16 t) fullShare (iblk m c 16 t) := by
  unfold Dat.leavesExact; rw [liveAt0_16 t, after0_16]
theorem leaves0_17 (c : Dev nD) (t : Fin cfg0.N) : (dats m 0 c).leavesExact 17 t
    = owns (c : Thread nD τ) (ms0_17 t) fullShare (iblk m c 17 t) := by
  unfold Dat.leavesExact; rw [liveAt0_17 t, after0_17]
theorem leaves0_18 (c : Dev nD) (t : Fin cfg0.N) : (dats m 0 c).leavesExact 18 t
    = owns (c : Thread nD τ) (ms0_18 t) fullShare (iblk m c 18 t) := by
  unfold Dat.leavesExact; rw [liveAt0_18 t, after0_18]
theorem leaves0_19 (c : Dev nD) (t : Fin cfg0.N) : (dats m 0 c).leavesExact 19 t
    = owns (c : Thread nD τ) (ms0_19 t) fullShare (iblk m c 19 t) := by
  unfold Dat.leavesExact; rw [liveAt0_19 t, after0_19]
theorem leaves0_20 (c : Dev nD) (t : Fin cfg0.N) : (dats m 0 c).leavesExact 20 t
    = owns (c : Thread nD τ) (ms0_20 t) fullShare ((outsAt0 m c t.val t.isLt).1) := by
  unfold Dat.leavesExact; rw [liveAt0_20 t, after0_20]
theorem leaves0_21 (c : Dev nD) (t : Fin cfg0.N) : (dats m 0 c).leavesExact 21 t
    = owns (c : Thread nD τ) (ms0_21 t) fullShare ((outsAt0 m c t.val t.isLt).2.1) := by
  unfold Dat.leavesExact; rw [liveAt0_21 t, after0_21]
theorem leaves0_22 (c : Dev nD) (t : Fin cfg0.N) : (dats m 0 c).leavesExact 22 t
    = owns (c : Thread nD τ) (ms0_22 t) fullShare ((outsAt0 m c t.val t.isLt).2.2.1) := by
  unfold Dat.leavesExact; rw [liveAt0_22 t, after0_22]
theorem leaves0_23 (c : Dev nD) (t : Fin cfg0.N) : (dats m 0 c).leavesExact 23 t
    = owns (c : Thread nD τ) (ms0_23 t) fullShare ((outsAt0 m c t.val t.isLt).2.2.2.1) := by
  unfold Dat.leavesExact; rw [liveAt0_23 t, after0_23]
theorem leaves0_24 (c : Dev nD) (t : Fin cfg0.N) : (dats m 0 c).leavesExact 24 t
    = owns (c : Thread nD τ) (ms0_24 t) fullShare ((outsAt0 m c t.val t.isLt).2.2.2.2.1) := by
  unfold Dat.leavesExact; rw [liveAt0_24 t, after0_24]
theorem leaves0_25 (c : Dev nD) (t : Fin cfg0.N) : (dats m 0 c).leavesExact 25 t
    = owns (c : Thread nD τ) (ms0_25 t) fullShare ((outsAt0 m c t.val t.isLt).2.2.2.2.2.1) := by
  unfold Dat.leavesExact; rw [liveAt0_25 t, after0_25]
theorem leaves0_26 (c : Dev nD) (t : Fin cfg0.N) : (dats m 0 c).leavesExact 26 t
    = owns (c : Thread nD τ) (ms0_26 t) fullShare ((outsAt0 m c t.val t.isLt).2.2.2.2.2.2.1) := by
  unfold Dat.leavesExact; rw [liveAt0_26 t, after0_26]
theorem leaves0_27 (c : Dev nD) (t : Fin cfg0.N) : (dats m 0 c).leavesExact 27 t
    = owns (c : Thread nD τ) (ms0_27 t) fullShare ((outsAt0 m c t.val t.isLt).2.2.2.2.2.2.2.1) := by
  unfold Dat.leavesExact; rw [liveAt0_27 t, after0_27]
theorem leaves0_28 (c : Dev nD) (t : Fin cfg0.N) : (dats m 0 c).leavesExact 28 t
    = owns (c : Thread nD τ) (ms0_28 t) fullShare ((outsAt0 m c t.val t.isLt).2.2.2.2.2.2.2.2.1) := by
  unfold Dat.leavesExact; rw [liveAt0_28 t, after0_28]
theorem leaves0_29 (c : Dev nD) (t : Fin cfg0.N) : (dats m 0 c).leavesExact 29 t
    = owns (c : Thread nD τ) (ms0_29 t) fullShare ((outsAt0 m c t.val t.isLt).2.2.2.2.2.2.2.2.2.1) := by
  unfold Dat.leavesExact; rw [liveAt0_29 t, after0_29]

set_option maxHeartbeats 28800000 in
/-- The body at the first point. -/
theorem sound_body_A (c : Dev nD) (t : Fin cfg0.N) (h : t.val = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18, leaves0_19, leaves0_20, leaves0_21, leaves0_22, leaves0_23, leaves0_24, leaves0_25, leaves0_26, leaves0_27, leaves0_28, leaves0_29]
  rw [PhiS_castSucc m c t, PhiS_zero m c _ _ h, PhiA0_eq, outsAt0_A m c t h]
  unfold outA; (try dsimp only)
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply ((atA m c t h).2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, H16, H17, H18, H19, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, HS0, HS1, HS2, HS3, ⟨%es4, HS4⟩, ⟨%es5, HS5⟩⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]
      · unfold owns; iexists _; isplitr
        swap; · iexact HS4
        ipureintro; exact View.read_writes_of_cover _ _ _ _ _ (coverA_s4 m c t h)
      unfold owns; iexists _; isplitr
      swap; · iexact HS5
      ipureintro; exact View.read_writes_of_cover _ _ _ _ _ (coverA_s5 m c t h)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]
  · unfold owns; iexists _; isplitr
    swap; · iexact H20
    ipureintro; exact View.read_writes_of_cover _ _ _ _ _ (coverA_20 m c t h)
  isplitl [H21]
  · unfold owns; iexists _; isplitr
    swap; · iexact H21
    ipureintro; exact View.read_writes_of_cover _ _ _ _ _ (coverA_21 m c t h)
  isplitl [H22]
  · unfold owns; iexists _; isplitr
    swap; · iexact H22
    ipureintro; exact View.read_writes_of_cover _ _ _ _ _ (coverA_22 m c t h)
  isplitl [H23]
  · unfold owns; iexists _; isplitr
    swap; · iexact H23
    ipureintro; exact View.read_writes_of_cover _ _ _ _ _ (coverA_23 m c t h)
  isplitl [H24]
  · unfold owns; iexists _; isplitr
    swap; · iexact H24
    ipureintro; exact View.read_writes_of_cover _ _ _ _ _ (coverA_24 m c t h)
  isplitl [H25]
  · unfold owns; iexists _; isplitr
    swap; · iexact H25
    ipureintro; exact View.read_writes_of_cover _ _ _ _ _ (coverA_25 m c t h)
  isplitl [H26]
  · unfold owns; iexists _; isplitr
    swap; · iexact H26
    ipureintro; exact View.read_writes_of_cover _ _ _ _ _ (coverA_26 m c t h)
  isplitl [H27]
  · unfold owns; iexists _; isplitr
    swap; · iexact H27
    ipureintro; exact View.read_writes_of_cover _ _ _ _ _ (coverA_27 m c t h)
  isplitl [H28]
  · unfold owns; iexists _; isplitr
    swap; · iexact H28
    ipureintro; exact View.read_writes_of_cover _ _ _ _ _ (coverA_28 m c t h)
  unfold owns; iexists _; isplitr
  swap; · iexact H29
  ipureintro; exact View.read_writes_of_cover _ _ _ _ _ (coverA_29 m c t h)

set_option maxHeartbeats 28800000 in
/-- The body at a later point. -/
theorem sound_body_B (c : Dev nD) (t : Fin cfg0.N) (h : t.val ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8, leaves0_9, leaves0_10, leaves0_11, leaves0_12, leaves0_13, leaves0_14, leaves0_15, leaves0_16, leaves0_17, leaves0_18, leaves0_19, leaves0_20, leaves0_21, leaves0_22, leaves0_23, leaves0_24, leaves0_25, leaves0_26, leaves0_27, leaves0_28, leaves0_29]
  simp only [before0_21 m c t h, before0_22 m c t h, before0_23 m c t h, before0_24 m c t h, before0_25 m c t h, before0_26 m c t h, before0_27 m c t h, before0_28 m c t h, before0_29 m c t h]
  rw [PhiS_castSucc m c t, PhiS_pos m c _ _ h, outsAt0_B m c t h]
  unfold outB; (try dsimp only)
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩⟩
  iapply ((atB m c t h (prev m c t)).2.2.2.2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexists _; iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, H9, H10, H11, H12, H13, H14, H15, H16, H17, H18, H19, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, HS0, HS1, HS2, HS3, ⟨%es4, HS4⟩, ⟨%es5, HS5⟩⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]
      · unfold owns; iexists _; isplitr
        swap; · iexact HS4
        ipureintro; exact View.read_writes_of_cover _ _ _ _ _ (coverB_s4 m c t h (prev m c t))
      unfold owns; iexists _; isplitr
      swap; · iexact HS5
      ipureintro; exact View.read_writes_of_cover _ _ _ _ _ (coverB_s5 m c t h (prev m c t))
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]
  · unfold owns; iexists _; isplitr
    swap; · iexact H20
    ipureintro; exact View.read_writes_of_cover _ _ _ _ _ (coverB_20 m c t h (prev m c t))
  isplitl [H21]
  · unfold owns; iexists _; isplitr
    swap; · iexact H21
    ipureintro; exact View.read_writes_of_cover _ _ _ _ _ (coverB_21 m c t h (prev m c t))
  isplitl [H22]
  · unfold owns; iexists _; isplitr
    swap; · iexact H22
    ipureintro; exact View.read_writes_of_cover _ _ _ _ _ (coverB_22 m c t h (prev m c t))
  isplitl [H23]
  · unfold owns; iexists _; isplitr
    swap; · iexact H23
    ipureintro; exact View.read_writes_of_cover _ _ _ _ _ (coverB_23 m c t h (prev m c t))
  isplitl [H24]
  · unfold owns; iexists _; isplitr
    swap; · iexact H24
    ipureintro; exact View.read_writes_of_cover _ _ _ _ _ (coverB_24 m c t h (prev m c t))
  isplitl [H25]
  · unfold owns; iexists _; isplitr
    swap; · iexact H25
    ipureintro; exact View.read_writes_of_cover _ _ _ _ _ (coverB_25 m c t h (prev m c t))
  isplitl [H26]
  · unfold owns; iexists _; isplitr
    swap; · iexact H26
    ipureintro; exact View.read_writes_of_cover _ _ _ _ _ (coverB_26 m c t h (prev m c t))
  isplitl [H27]
  · unfold owns; iexists _; isplitr
    swap; · iexact H27
    ipureintro; exact View.read_writes_of_cover _ _ _ _ _ (coverB_27 m c t h (prev m c t))
  isplitl [H28]
  · unfold owns; iexists _; isplitr
    swap; · iexact H28
    ipureintro; exact View.read_writes_of_cover _ _ _ _ _ (coverB_28 m c t h (prev m c t))
  unfold owns; iexists _; isplitr
  swap; · iexact H29
  ipureintro; exact View.read_writes_of_cover _ _ _ _ _ (coverB_29 m c t h (prev m c t))

/-- The body at any point. -/
theorem sound_body (c : Dev nD) (t : Fin cfg0.N) :
    bodyPre m c t ⊢ wp frame (wpE (defs₀ (F := F)) Variants.none c none) Set.univ (bodyAt0 t) (fun _ => bodyPost m c t) := by
  by_cases h : t.val = 0
  · exact sound_body_A m c t h
  · exact sound_body_B m c t h
/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5⟩, Hg⟩
  isplitl [HS0 HS1 HS2 HS3 HS4 HS5]
  · isplitl [HS0]
    · iexact HS0
    isplitl [HS1]
    · iexact HS1
    isplitl [HS2]
    · iexact HS2
    isplitl [HS3]
    · iexact HS3
    isplitl [HS4]
    · iexists _; iexact HS4
    iexists _; iexact HS5
  iexact Hg

/-- The same after the last point. -/
theorem hout (c : Dev nD) : (dats m 0 c).Φ (Fin.last cfg0.N) ⊢ Pipeline.ΦA spec0 c :=
  Phi_out m c _ (by rw [Fin.val_last]; have : cfg0.N = 16 := N_0; omega)

set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the TensorCores terminates, and every final state has every array of the pipeline at what the library computes from the proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  frame_of m ρ (dats m) (A_eq m) (run_main m ρ)

/-- The kernel ends, leaves its arguments as they were, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  θ_run_and (unchanged m ρ) ((θ_run defs _ _).mono (fun _ h => h.2) (run_main_quiescent m ρ))

end Cert.Kernel7Ideal.S5

end
-- ==== Proof.S5Gate.lean ====
/-
  The gradient of the state space mixer's output gate: the value of the kernel.

  Grid point `t` takes rows `256 (15 - t)` to `256 (15 - t) + 255`: the points go backward in time. Each adds its rows'
  share to the gradients of the gate's weight and bias, which stay in their buffers over all points and are written back
  after the last.
-/
module

public import proofs.«01_k».proof.Proof.S5Frame
public import Idealize.ShloMosaic.Lib.Pointwise
public import Idealize.ShloMosaic.Lib.VecWindow
public import proofs.«01_k».proof.Proof.Reals

@[expose] public section

set_option maxRecDepth 16384

noncomputable section

namespace Cert.Kernel7Ideal.S5

open Cert.Kernel7Ideal Cert.Kernel7Ideal.Gen Idealize.ShloMosaic Idealize.ShloMosaic.TcCoe Idealize.ShloMosaic.Tactic Idealize.SL.Sem
open Cert.Hand

/-! ## The formulas -/

/-- The activation: the tanh form of gelu. -/
def ge (y : EReal) : EReal :=
  Ideal.ofBits .f32 0x3F000000#32 * y * (1
    + Ideal.tanh (Ideal.ofBits .f32 0x3F4C422A#32 * (y + Ideal.ofBits .f32 0x3D372713#32 * y * y * y)))

/-- The logistic function. -/
def sg (x : EReal) : EReal := Ideal.div 1 (1 + Ideal.exp (0 - x))

/-- The gate of a row `y` at channel `j`. -/
def gateAt (y : Fin 512 → EReal) (w : FVec Ideal S512x512 .bf16) (b : FVec Ideal S1x512 .f32) (j : Fin 512) : EReal :=
  sg ((∑ k : Fin 512, ge (y k) * w (ix2 k j)) + b (ix2 0 j))

/-- The gradient of the gate's argument, where `d` arrives at the row's output. -/
def dgpAt (y d : Fin 512 → EReal) (w : FVec Ideal S512x512 .bf16) (b : FVec Ideal S1x512 .f32) (j : Fin 512) : EReal :=
  d j * ge (y j) * gateAt y w b j * (1 - gateAt y w b j)

/-! ## The payloads at an index -/

theorem pay17_apply (x : Vec Ideal S256x512 .f32) (r : Fin 256) (j : Fin 512) : k0_pay17 x (ix2 r j) = ge (x (ix2 r j)) := by
  pointwise [k0_pay17, k0_pay16]
  rfl

theorem pay19_apply (x : Vec Ideal S256x512 .f32) (r : Fin 256) (j : Fin 512) : k0_pay19 x (ix2 r j) = ge (x (ix2 r j)) := by
  pointwise [k0_pay19, pay17_apply]

theorem pay20_apply (x : Vec Ideal S256x512 .f32) (w : Vec Ideal S512x512 .bf16) (b : Vec Ideal S1x512 .f32) (r : Fin 256) (j : Fin 512) :
    k0_pay20 (k0_pay19 x) w b (ix2 r j) = gateAt (fun k => x (ix2 r k)) w b j := by
  pointwise [k0_pay20, pay19_apply]
  rfl

theorem pay22_apply (x : Vec Ideal S256x512 .f32) (w : Vec Ideal S512x512 .bf16) (b : Vec Ideal S1x512 .f32) (d : Vec Ideal S256x512 .bf16)
    (r : Fin 256) (j : Fin 512) : k0_pay22 (k0_pay17 x) (k0_pay19 x) w b d (ix2 r j) = dgpAt (fun k => x (ix2 r k)) (fun k => d (ix2 r k)) w b j := by
  pointwise [k0_pay22, k0_pay21, pay17_apply, pay20_apply]
  rfl

theorem pay25_apply (x : Vec Ideal S256x512 .f32) (w : Vec Ideal S512x512 .bf16) (b : Vec Ideal S1x512 .f32) (d : Vec Ideal S256x512 .bf16)
    (i j : Fin 512) : k0_pay25 (k0_pay17 x) (k0_pay19 x) w b d (ix2 i j)
      = ∑ r : Fin 256, ge (x (ix2 r i)) * dgpAt (fun k => x (ix2 r k)) (fun k => d (ix2 r k)) w b j := by
  pointwise [k0_pay25, k0_pay23, pay19_apply, pay22_apply]

theorem pay26_apply (x : Vec Ideal S256x512 .f32) (w : Vec Ideal S512x512 .bf16) (b : Vec Ideal S1x512 .f32) (d : Vec Ideal S256x512 .bf16)
    (o : Vec Ideal S512x512 .f32) (i j : Fin 512) : k0_pay26 (k0_pay17 x) (k0_pay19 x) w b d o (ix2 i j)
      = o (ix2 i j) + ∑ r : Fin 256, ge (x (ix2 r i)) * dgpAt (fun k => x (ix2 r k)) (fun k => d (ix2 r k)) w b j := by
  pointwise [k0_pay26, pay25_apply]

theorem pay27_apply (x : Vec Ideal S256x512 .f32) (w : Vec Ideal S512x512 .bf16) (b : Vec Ideal S1x512 .f32) (d : Vec Ideal S256x512 .bf16)
    (j : Fin 512) : k0_pay27 (k0_pay17 x) (k0_pay19 x) w b d (ix2 0 j)
      = ∑ r : Fin 256, dgpAt (fun k => x (ix2 r k)) (fun k => d (ix2 r k)) w b j := by
  pointwise [k0_pay27, pay22_apply]

theorem pay28_apply (x : Vec Ideal S256x512 .f32) (w : Vec Ideal S512x512 .bf16) (b : Vec Ideal S1x512 .f32) (d : Vec Ideal S256x512 .bf16)
    (o : Vec Ideal S1x512 .f32) (j : Fin 512) : k0_pay28 (k0_pay17 x) (k0_pay19 x) w b d o (ix2 0 j)
      = o (ix2 0 j) + ∑ r : Fin 256, dgpAt (fun k => x (ix2 r k)) (fun k => d (ix2 r k)) w b j := by
  pointwise [k0_pay28, pay27_apply]

/-! ## The blocks -/

section
variable {F : FTy → Type} [FloatOps F]
variable (m : (ℓ : Loc nD τ sig) → Buf (Elt F) ℓ)

theorem idx0 : ∀ t : Fin cfg0.N, win0_0.index t 0 * win0_0.size 0 = 256 * (15 - t.val) ∧ win0_0.index t 1 * win0_0.size 1 = 0 :=
  (by decide +kernel : ∀ t : Fin grid0.N, win0_0.index t 0 * win0_0.size 0 = 256 * (15 - t.val) ∧ win0_0.index t 1 * win0_0.size 1 = 0)
theorem idx1 : ∀ t : Fin cfg0.N, win0_1.index t 0 * win0_1.size 0 = 256 * (15 - t.val) ∧ win0_1.index t 1 * win0_1.size 1 = 0 :=
  (by decide +kernel : ∀ t : Fin grid0.N, win0_1.index t 0 * win0_1.size 0 = 256 * (15 - t.val) ∧ win0_1.index t 1 * win0_1.size 1 = 0)
theorem idx18 : ∀ t : Fin cfg0.N, win0_18.index t 0 * win0_18.size 0 = 0 ∧ win0_18.index t 1 * win0_18.size 1 = 0 :=
  (by decide +kernel : ∀ t : Fin grid0.N, win0_18.index t 0 * win0_18.size 0 = 0 ∧ win0_18.index t 1 * win0_18.size 1 = 0)
theorem idx19 : ∀ t : Fin cfg0.N, win0_19.index t 0 * win0_19.size 0 = 0 ∧ win0_19.index t 1 * win0_19.size 1 = 0 :=
  (by decide +kernel : ∀ t : Fin grid0.N, win0_19.index t 0 * win0_19.size 0 = 0 ∧ win0_19.index t 1 * win0_19.size 1 = 0)
theorem idx21 : ∀ t : Fin cfg0.N, win0_21.index t 0 * win0_21.size 0 = 0 ∧ win0_21.index t 1 * win0_21.size 1 = 0 :=
  (by decide +kernel : ∀ t : Fin grid0.N, win0_21.index t 0 * win0_21.size 0 = 0 ∧ win0_21.index t 1 * win0_21.size 1 = 0)
theorem idx22 : ∀ t : Fin cfg0.N, win0_22.index t 0 * win0_22.size 0 = 0 ∧ win0_22.index t 1 * win0_22.size 1 = 0 :=
  (by decide +kernel : ∀ t : Fin grid0.N, win0_22.index t 0 * win0_22.size 0 = 0 ∧ win0_22.index t 1 * win0_22.size 1 = 0)
theorem iblk0 (c : Dev nD) (t : Fin cfg0.N) (r : Fin 256) (j : Fin 512) (l : Fin 4096) (k : Fin 1024) (hl : l.val = 256 * (15 - t.val) + r.val) (hk : k.val = j.val) :
    iblk m c 0 t (ix2 r j) = m ((c : Thread nD τ).loc main_arg0) (ix2 l k) := by
  unfold iblk
  rw [View.read_apply]
  refine congrArg (m ((c : Thread nD τ).loc main_arg0)) (funext fun a => Fin.ext ?_)
  match a with
  | ⟨0, _⟩ => show win0_0.index t 0 * win0_0.size 0 + 1 * r.val = l.val; rw [(idx0 t).1, hl]; omega
  | ⟨1, _⟩ => show win0_0.index t 1 * win0_0.size 1 + 1 * j.val = k.val; rw [(idx0 t).2, hk]; omega
theorem iblk1 (c : Dev nD) (t : Fin cfg0.N) (r : Fin 256) (j : Fin 512) (l : Fin 4096) (hl : l.val = 256 * (15 - t.val) + r.val) :
    iblk m c 1 t (ix2 r j) = m ((c : Thread nD τ).loc main_arg1) (ix2 l j) := by
  unfold iblk
  rw [View.read_apply]
  refine congrArg (m ((c : Thread nD τ).loc main_arg1)) (funext fun a => Fin.ext ?_)
  match a with
  | ⟨0, _⟩ => show win0_1.index t 0 * win0_1.size 0 + 1 * r.val = l.val; rw [(idx1 t).1, hl]; omega
  | ⟨1, _⟩ => show win0_1.index t 1 * win0_1.size 1 + 1 * j.val = j.val; rw [(idx1 t).2]; omega
theorem iblk18 (c : Dev nD) (t : Fin cfg0.N) (i j : Fin 512)  :
    iblk m c 18 t (ix2 i j) = m ((c : Thread nD τ).loc main_arg14) (ix2 i j) := by
  unfold iblk
  rw [View.read_apply]
  refine congrArg (m ((c : Thread nD τ).loc main_arg14)) (funext fun a => Fin.ext ?_)
  match a with
  | ⟨0, _⟩ => show win0_18.index t 0 * win0_18.size 0 + 1 * i.val = i.val; rw [(idx18 t).1]; omega
  | ⟨1, _⟩ => show win0_18.index t 1 * win0_18.size 1 + 1 * j.val = j.val; rw [(idx18 t).2]; omega
theorem iblk19 (c : Dev nD) (t : Fin cfg0.N) (j : Fin 512)  :
    iblk m c 19 t (ix2 0 j) = m ((c : Thread nD τ).loc main_arg15) (ix2 0 j) := by
  unfold iblk
  rw [View.read_apply]
  refine congrArg (m ((c : Thread nD τ).loc main_arg15)) (funext fun a => Fin.ext ?_)
  match a with
  | ⟨0, _⟩ => show win0_19.index t 0 * win0_19.size 0 + 1 * 0 = 0; rw [(idx19 t).1]
  | ⟨1, _⟩ => show win0_19.index t 1 * win0_19.size 1 + 1 * j.val = j.val; rw [(idx19 t).2]; omega
theorem emb21 (t : Fin cfg0.N) (i j : Fin 512)  :
    (win0_21.blk t).view.emb (ix2 i j) = (ix2 i j : S512x512.Idx) := by
  refine funext fun a => Fin.ext ?_
  match a with
  | ⟨0, _⟩ => show win0_21.index t 0 * win0_21.size 0 + 1 * i.val = i.val; rw [(idx21 t).1]; omega
  | ⟨1, _⟩ => show win0_21.index t 1 * win0_21.size 1 + 1 * j.val = j.val; rw [(idx21 t).2]; omega
theorem emb22 (t : Fin cfg0.N) (j : Fin 512)  :
    (win0_22.blk t).view.emb (ix2 0 j) = (ix2 0 j : S1x512.Idx) := by
  refine funext fun a => Fin.ext ?_
  match a with
  | ⟨0, _⟩ => show win0_22.index t 0 * win0_22.size 0 + 1 * 0 = 0; rw [(idx22 t).1]
  | ⟨1, _⟩ => show win0_22.index t 1 * win0_22.size 1 + 1 * j.val = j.val; rw [(idx22 t).2]; omega

theorem hz2 : (![0, 0] : Fin 2 → Nat) = fun _ => 0 := funext fun a => by fin_cases a <;> rfl

theorem outA21 (c : Dev nD) (t : Fin cfg0.N) (h : t.val = 0) :
    (outsAt0 m c t.val t.isLt).2.1 = k0_pay25 (k0_pay17 (iblk m c 1 t)) (k0_pay19 (iblk m c 1 t)) (iblk m c 18 t) (iblk m c 19 t) (iblk m c 0 t) := by
  rw [outsAt0_A m c t h]
  unfold outA
  dsimp only
  unfold atA kernelRun0_A
  dsimp only
  sl_unfold_words
  rw [View.read_writes_full]
  simp only [View.readAt_eq_ld, (hs0_0 t).read_unread, (hs0_1 t).read_unread, (hs0_18 t).read_unread, (hs0_19 t).read_unread]
  exact congr (congr (congr (congr (congrArg k0_pay25 (congrArg k0_pay17 (View.ld_unit_zero (S := S256x512) hz2 _ _))) (congrArg k0_pay19 (View.ld_unit_zero (S := S256x512) hz2 _ _))) (View.ld_unit_zero (S := S512x512) hz2 _ _)) (View.ld_unit_zero (S := S1x512) hz2 _ _)) (View.ld_unit_zero (S := S256x512) hz2 _ _)
theorem outB21 (c : Dev nD) (t : Fin cfg0.N) (h : t.val ≠ 0) :
    (outsAt0 m c t.val t.isLt).2.1 = k0_pay26 (k0_pay17 (iblk m c 1 t)) (k0_pay19 (iblk m c 1 t)) (iblk m c 18 t) (iblk m c 19 t) (iblk m c 0 t) (prev m c t).2.1 := by
  rw [outsAt0_B m c t h]
  unfold outB
  dsimp only
  unfold atB kernelRun0_B
  dsimp only
  sl_unfold_words
  rw [View.read_writes_full]
  simp only [View.readAt_eq_ld, (hs0_0 t).read_unread, (hs0_1 t).read_unread, (hs0_18 t).read_unread, (hs0_19 t).read_unread]
  exact congr (congr (congr (congr (congr (congrArg k0_pay26 (congrArg k0_pay17 (View.ld_unit_zero (S := S256x512) hz2 _ _))) (congrArg k0_pay19 (View.ld_unit_zero (S := S256x512) hz2 _ _))) (View.ld_unit_zero (S := S512x512) hz2 _ _)) (View.ld_unit_zero (S := S1x512) hz2 _ _)) (View.ld_unit_zero (S := S256x512) hz2 _ _)) ((View.ld_unit_zero (S := S512x512) hz2 _ _).trans ((hs0_21 t).read_unread _))
theorem outA22 (c : Dev nD) (t : Fin cfg0.N) (h : t.val = 0) :
    (outsAt0 m c t.val t.isLt).2.2.1 = k0_pay27 (k0_pay17 (iblk m c 1 t)) (k0_pay19 (iblk m c 1 t)) (iblk m c 18 t) (iblk m c 19 t) (iblk m c 0 t) := by
  rw [outsAt0_A m c t h]
  unfold outA
  dsimp only
  unfold atA kernelRun0_A
  dsimp only
  sl_unfold_words
  rw [View.read_writes_full]
  simp only [View.readAt_eq_ld, (hs0_0 t).read_unread, (hs0_1 t).read_unread, (hs0_18 t).read_unread, (hs0_19 t).read_unread]
  exact congr (congr (congr (congr (congrArg k0_pay27 (congrArg k0_pay17 (View.ld_unit_zero (S := S256x512) hz2 _ _))) (congrArg k0_pay19 (View.ld_unit_zero (S := S256x512) hz2 _ _))) (View.ld_unit_zero (S := S512x512) hz2 _ _)) (View.ld_unit_zero (S := S1x512) hz2 _ _)) (View.ld_unit_zero (S := S256x512) hz2 _ _)
theorem outB22 (c : Dev nD) (t : Fin cfg0.N) (h : t.val ≠ 0) :
    (outsAt0 m c t.val t.isLt).2.2.1 = k0_pay28 (k0_pay17 (iblk m c 1 t)) (k0_pay19 (iblk m c 1 t)) (iblk m c 18 t) (iblk m c 19 t) (iblk m c 0 t) (prev m c t).2.2.1 := by
  rw [outsAt0_B m c t h]
  unfold outB
  dsimp only
  unfold atB kernelRun0_B
  dsimp only
  sl_unfold_words
  rw [View.read_writes_full]
  simp only [View.readAt_eq_ld, (hs0_0 t).read_unread, (hs0_1 t).read_unread, (hs0_18 t).read_unread, (hs0_19 t).read_unread]
  exact congr (congr (congr (congr (congr (congrArg k0_pay28 (congrArg k0_pay17 (View.ld_unit_zero (S := S256x512) hz2 _ _))) (congrArg k0_pay19 (View.ld_unit_zero (S := S256x512) hz2 _ _))) (View.ld_unit_zero (S := S512x512) hz2 _ _)) (View.ld_unit_zero (S := S1x512) hz2 _ _)) (View.ld_unit_zero (S := S256x512) hz2 _ _)) ((View.ld_unit_zero (S := S1x512) hz2 _ _).trans ((hs0_22 t).read_unread _))

end

/-! ## The sums over the rows -/

section
variable (m : (ℓ : Loc nD τ sig) → Buf (Elt Ideal) ℓ)

/-- The gradient of the mixer's output, the activation's argument, the gate's weight and its bias. -/
abbrev aDm (c : Dev nD) : FVec Ideal S4096x1024 .bf16 := m ((c.tc : Thread nD τ).loc main_arg0)
abbrev aY (c : Dev nD) : FVec Ideal S4096x512 .f32 := m ((c.tc : Thread nD τ).loc main_arg1)
abbrev aW (c : Dev nD) : FVec Ideal S512x512 .bf16 := m ((c.tc : Thread nD τ).loc main_arg14)
abbrev aB (c : Dev nD) : FVec Ideal S1x512 .f32 := m ((c.tc : Thread nD τ).loc main_arg15)

/-- The left half's columns among all. -/
abbrev left (j : Fin 512) : Fin 1024 := ⟨j.val, by omega⟩

/-- Row `l`'s gradient of the gate's argument. -/
def dgpRow (dm : FVec Ideal S4096x1024 .bf16) (y : FVec Ideal S4096x512 .f32) (w : FVec Ideal S512x512 .bf16) (b : FVec Ideal S1x512 .f32)
    (l : Fin 4096) (j : Fin 512) : EReal :=
  dgpAt (fun k => y (ix2 l k)) (fun k => dm (ix2 l (left k))) w b j

/-- The gradient of the gate's weight. -/
def dwgAll (dm : FVec Ideal S4096x1024 .bf16) (y : FVec Ideal S4096x512 .f32) (w : FVec Ideal S512x512 .bf16) (b : FVec Ideal S1x512 .f32) :
    FVec Ideal S512x512 .f32 :=
  fun i => ∑ l : Fin 4096, ge (y (ix2 l (i 0))) * dgpRow dm y w b l (i 1)

/-- The gradient of the gate's bias. -/
def dbgAll (dm : FVec Ideal S4096x1024 .bf16) (y : FVec Ideal S4096x512 .f32) (w : FVec Ideal S512x512 .bf16) (b : FVec Ideal S1x512 .f32) :
    FVec Ideal S1x512 .f32 :=
  fun i => ∑ l : Fin 4096, dgpRow dm y w b l (i 1)

/-- A function of the rows, nothing past the last row. -/
def rowsOf (f : Fin 4096 → EReal) (l : ℕ) : EReal := if h : l < 4096 then f ⟨l, h⟩ else 0

theorem rowsOf_of (f : Fin 4096 → EReal) (l : ℕ) (h : l < 4096) : rowsOf f l = f ⟨l, h⟩ := dif_pos h

theorem sum_stretches (g : ℕ → EReal) : ∀ n : ℕ, ∑ k ∈ Finset.range n, ∑ r : Fin 256, g (256 * k + r.val) = ∑ l ∈ Finset.range (256 * n), g l
  | 0 => by simp
  | n + 1 => by
    rw [Finset.sum_range_succ, sum_stretches g n, show 256 * (n + 1) = 256 * n + 256 by ring, Finset.sum_range_add,
      Finset.sum_range (fun r => g (256 * n + r))]

/-- The sixteen stretches taken backward add up to the sum over all rows. -/
theorem sum_backward (f : Fin 4096 → EReal) :
    ∑ k ∈ Finset.range 16, ∑ r : Fin 256, rowsOf f (256 * (15 - k) + r.val) = ∑ l : Fin 4096, f l := by
  refine (Finset.sum_range_reflect (fun k => ∑ r : Fin 256, rowsOf f (256 * k + r.val)) 16).trans ?_
  rw [sum_stretches, Finset.sum_range]
  exact Finset.sum_congr rfl fun l _ => rowsOf_of f l.val l.isLt

theorem lt_N (t : Fin cfg0.N) : t.val < 16 := lt_of_lt_of_eq t.isLt N_0

/-- Row `r` of point `t` is row `256 (15 - t) + r` of the whole. -/
theorem dgp_row (c : Dev nD) (t : Fin cfg0.N) (r : Fin 256) (l : Fin 4096) (h : l.val = 256 * (15 - t.val) + r.val) (j : Fin 512) :
    dgpAt (fun k => iblk m c 1 t (ix2 r k)) (fun k => iblk m c 0 t (ix2 r k)) (iblk m c 18 t) (iblk m c 19 t) j
      = dgpRow (aDm m c) (aY m c) (aW m c) (aB m c) l j := by
  have e1 : (fun k : Fin 512 => iblk m c 1 t (ix2 r k)) = fun k => aY m c (ix2 l k) := funext fun k => iblk1 m c t r k l h
  have e0 : (fun k : Fin 512 => iblk m c 0 t (ix2 r k)) = fun k => aDm m c (ix2 l (left k)) := funext fun k => iblk0 m c t r k l (left k) h rfl
  have ew : (iblk m c 18 t : Vec Ideal S512x512 .bf16) = aW m c := by
    funext i
    obtain ⟨i, j, rfl⟩ : ∃ (a : Fin 512) (b : Fin 512), i = ix2 a b :=
      ⟨i 0, i 1, by funext x; match x with | ⟨0, _⟩ => rfl | ⟨1, _⟩ => rfl⟩
    exact iblk18 m c t i j
  have eb : (iblk m c 19 t : Vec Ideal S1x512 .f32) = aB m c := by
    funext i
    obtain ⟨z, j, rfl⟩ : ∃ (a : Fin 1) (b : Fin 512), i = ix2 a b :=
      ⟨i 0, i 1, by funext x; match x with | ⟨0, _⟩ => rfl | ⟨1, _⟩ => rfl⟩
    obtain rfl : z = 0 := Subsingleton.elim _ _
    exact iblk19 m c t j
  unfold dgpRow
  exact congr (congr (congr (congr (congrArg dgpAt e1) e0) ew) eb) rfl

/-- A point's share of the gradient of the weight. -/
theorem point21 (c : Dev nD) (t : Fin cfg0.N) (i j : Fin 512) :
    (∑ r : Fin 256, ge (iblk m c 1 t (ix2 r i)) * dgpAt (fun k => iblk m c 1 t (ix2 r k)) (fun k => iblk m c 0 t (ix2 r k)) (iblk m c 18 t) (iblk m c 19 t) j)
      = ∑ r : Fin 256, rowsOf (fun l => ge (aY m c (ix2 l i)) * dgpRow (aDm m c) (aY m c) (aW m c) (aB m c) l j) (256 * (15 - t.val) + r.val) := by
  refine Finset.sum_congr rfl fun r _ => ?_
  have ht := lt_N t
  have h : 256 * (15 - t.val) + r.val < 4096 := by omega
  rw [rowsOf_of _ _ h]
  exact congrArg₂ (fun a b : EReal => a * b) (congrArg ge (iblk1 m c t r i ⟨_, h⟩ rfl)) (dgp_row m c t r ⟨_, h⟩ rfl j)

/-- A point's share of the gradient of the bias. -/
theorem point22 (c : Dev nD) (t : Fin cfg0.N) (j : Fin 512) :
    (∑ r : Fin 256, dgpAt (fun k => iblk m c 1 t (ix2 r k)) (fun k => iblk m c 0 t (ix2 r k)) (iblk m c 18 t) (iblk m c 19 t) j)
      = ∑ r : Fin 256, rowsOf (fun l => dgpRow (aDm m c) (aY m c) (aW m c) (aB m c) l j) (256 * (15 - t.val) + r.val) := by
  refine Finset.sum_congr rfl fun r _ => ?_
  have ht := lt_N t
  have h : 256 * (15 - t.val) + r.val < 4096 := by omega
  rw [rowsOf_of _ _ h]
  exact dgp_row m c t r ⟨_, h⟩ rfl j

/-- After point `n` the buffer holds the shares of the points so far. -/
theorem acc21 (c : Dev nD) (i j : Fin 512) : ∀ (n : ℕ) (hn : n < cfg0.N),
    (outsAt0 m c n hn).2.1 (ix2 i j) = ∑ k ∈ Finset.range (n + 1), ∑ r : Fin 256,
      rowsOf (fun l => ge (aY m c (ix2 l i)) * dgpRow (aDm m c) (aY m c) (aW m c) (aB m c) l j) (256 * (15 - k) + r.val)
  | 0, hn => by
    refine (congrFun (outA21 m c ⟨0, hn⟩ rfl) (ix2 i j)).trans ((pay25_apply _ _ _ _ i j).trans ((point21 m c ⟨0, hn⟩ i j).trans ?_))
    rw [Finset.sum_range_one]
  | n + 1, hn => by
    refine (congrFun (outB21 m c ⟨n + 1, hn⟩ (Nat.succ_ne_zero n)) (ix2 i j)).trans ((pay26_apply _ _ _ _ _ i j).trans ?_)
    rw [Finset.sum_range_succ]
    exact congrArg₂ (fun a b : EReal => a + b) (acc21 c i j n (by omega)) (point21 m c ⟨n + 1, hn⟩ i j)

theorem acc22 (c : Dev nD) (j : Fin 512) : ∀ (n : ℕ) (hn : n < cfg0.N),
    (outsAt0 m c n hn).2.2.1 (ix2 0 j) = ∑ k ∈ Finset.range (n + 1), ∑ r : Fin 256,
      rowsOf (fun l => dgpRow (aDm m c) (aY m c) (aW m c) (aB m c) l j) (256 * (15 - k) + r.val)
  | 0, hn => by
    refine (congrFun (outA22 m c ⟨0, hn⟩ rfl) (ix2 0 j)).trans ((pay27_apply _ _ _ _ j).trans ((point22 m c ⟨0, hn⟩ j).trans ?_))
    rw [Finset.sum_range_one]
  | n + 1, hn => by
    refine (congrFun (outB22 m c ⟨n + 1, hn⟩ (Nat.succ_ne_zero n)) (ix2 0 j)).trans ((pay28_apply _ _ _ _ _ j).trans ?_)
    rw [Finset.sum_range_succ]
    exact congrArg₂ (fun a b : EReal => a + b) (acc22 c j n (by omega)) (point22 m c ⟨n + 1, hn⟩ j)

/-! ## From blocks to the whole arrays -/

theorem flushed21 (c : Dev nD) (t : Fin cfg0.N) (hf : (cfg0.win 21).flush t = true) :
    (dats m 0 c).flushed 21 t = (win0_21.blk t).view.read (Elt Ideal) (dwgAll (aDm m c) (aY m c) (aW m c) (aB m c)) := by
  show (cfg0.win 21).cut (grid0.coords t) ((dats m 0 c).after 21 t) = _
  rw [after0_21]
  funext y
  obtain ⟨i, j, rfl⟩ : ∃ (a : Fin 512) (b : Fin 512), y = ix2 a b :=
    ⟨y 0, y 1, by funext a; match a with | ⟨0, _⟩ => rfl | ⟨1, _⟩ => rfl⟩
  have ht := lt_N t
  have h15 : t.val % 16 = 15 := (flush0_21 t).mp hf
  rw [View.read_apply]
  refine Eq.trans ?_ (congrArg (dwgAll (aDm m c) (aY m c) (aW m c) (aB m c)) (emb21 t i j).symm)
  refine (acc21 m c i j t.val t.isLt).trans ?_
  rw [show t.val + 1 = 16 by omega]
  exact sum_backward _

theorem flushed22 (c : Dev nD) (t : Fin cfg0.N) (hf : (cfg0.win 22).flush t = true) :
    (dats m 0 c).flushed 22 t = (win0_22.blk t).view.read (Elt Ideal) (dbgAll (aDm m c) (aY m c) (aW m c) (aB m c)) := by
  show (cfg0.win 22).cut (grid0.coords t) ((dats m 0 c).after 22 t) = _
  rw [after0_22]
  funext y
  obtain ⟨z, j, rfl⟩ : ∃ (a : Fin 1) (b : Fin 512), y = ix2 a b :=
    ⟨y 0, y 1, by funext a; match a with | ⟨0, _⟩ => rfl | ⟨1, _⟩ => rfl⟩
  obtain rfl : z = 0 := Subsingleton.elim _ _
  have ht := lt_N t
  have h15 : t.val % 16 = 15 := (flush0_22 t).mp hf
  rw [View.read_apply]
  refine Eq.trans ?_ (congrArg (dbgAll (aDm m c) (aY m c) (aW m c) (aB m c)) (emb22 t j).symm)
  refine (acc22 m c j t.val t.isLt).trans ?_
  rw [show t.val + 1 = 16 by omega]
  exact sum_backward _

theorem cover21 (i : S512x512.Idx) : ∃ t : Fin cfg0.N, (cfg0.win 21).flush t = true ∧ i ∈ ((cfg0.win 21).blk t).view.set := by
  have hN : cfg0.N = 16 := N_0
  have ht : 15 < cfg0.N := by omega
  refine ⟨⟨15, ht⟩, (flush0_21 _).mpr rfl, ?_⟩
  have e : (win0_21.blk ⟨15, ht⟩).view.emb (ix2 (i 0) (i 1)) = i :=
    (emb21 ⟨15, ht⟩ (i 0) (i 1)).trans (by funext a; match a with | ⟨0, _⟩ => rfl | ⟨1, _⟩ => rfl)
  exact (congrArg (fun j => j ∈ ((cfg0.win 21).blk ⟨15, ht⟩).view.set) e).mp (Finset.mem_map_of_mem _ (Finset.mem_univ _))

theorem cover22 (i : S1x512.Idx) : ∃ t : Fin cfg0.N, (cfg0.win 22).flush t = true ∧ i ∈ ((cfg0.win 22).blk t).view.set := by
  have hN : cfg0.N = 16 := N_0
  have ht : 15 < cfg0.N := by omega
  refine ⟨⟨15, ht⟩, (flush0_22 _).mpr rfl, ?_⟩
  have e : (win0_22.blk ⟨15, ht⟩).view.emb (ix2 0 (i 1)) = i :=
    (emb22 ⟨15, ht⟩ (i 1)).trans (by funext a; match a with | ⟨0, _⟩ => exact Subsingleton.elim (α := Fin 1) _ _ | ⟨1, _⟩ => rfl)
  exact (congrArg (fun j => j ∈ ((cfg0.win 22).blk ⟨15, ht⟩).view.set) e).mp (Finset.mem_map_of_mem _ (Finset.mem_univ _))

theorem final21 (c : Dev nD) : (dats m 0 c).arrAt 21 cfg0.N = dwgAll (aDm m c) (aY m c) (aW m c) (aB m c) :=
  (dats m 0 c).arrAt_eq_of_cover 21 _ (fun t hf => flushed21 m c t hf) cover21

theorem final22 (c : Dev nD) : (dats m 0 c).arrAt 22 cfg0.N = dbgAll (aDm m c) (aY m c) (aW m c) (aB m c) :=
  (dats m 0 c).arrAt_eq_of_cover 22 _ (fun t hf => flushed22 m c t hf) cover22

end
end Cert.Kernel7Ideal.S5
-- ==== Proof.S5GateClaim.lean ====
/-
  The gradient of the state space mixer's output gate: the value of the reference, and the comparison.

  Kernel and reference differ in how they bracket their products, and in that the kernel adds up the rows in sixteen
  stretches, the last first. Neither matters to extended reals, so no precondition is needed.
-/
module

public import proofs.«01_k».proof.Proof.S5Gate
public import proofs.«01_k».proof.Proof.Gen.Reference7Ideal.Run
public import proofs.«01_k».proof.Proof.Gen.Kernel7
public import proofs.«01_k».proof.Defs
public import Idealize.ShloMosaic.Lib.Quiescent

@[expose] public section

set_option maxRecDepth 16384

noncomputable section

namespace Cert.Reference7Ideal.S5

open Cert.Reference7Ideal Cert.Reference7Ideal.Gen Idealize.ShloMosaic Idealize.ShloMosaic.TcCoe Idealize.SL.Sem
open Cert.Hand
open Cert.Kernel7Ideal.S5 (ge sg gateAt dgpAt dgpRow dwgAll dbgAll left)

variable (dm : FVec Ideal S4096x1024 .bf16) (y : FVec Ideal S4096x512 .f32) (w : FVec Ideal S512x512 .bf16) (b : FVec Ideal S1x512 .f32)

/-- The activation. -/
def act : FVec Ideal S4096x512 .f32 :=
  mulf y (mulf (broadcastInDim S4096x512 ![] bcast_S_S4096x512 (constant S_ .f32 0x3F000000#32)) (addf (broadcastInDim S4096x512 ![] bcast_S_S4096x512 (constant S_ .f32 0x3F800000#32)) (Host.tanh (mulf (broadcastInDim S4096x512 ![] bcast_S_S4096x512 (constant S_ .f32 0x3F4C422A#32)) (addf y (mulf (broadcastInDim S4096x512 ![] bcast_S_S4096x512 (constant S_ .f32 0x3D372713#32)) (mulf (mulf y y) y)))))))

/-- The gate. -/
def gate : FVec Ideal S4096x512 .f32 :=
  Host.divf (broadcastInDim S4096x512 ![] bcast_S_S4096x512 (constant S_ .f32 0x3F800000#32)) (addf (broadcastInDim S4096x512 ![] bcast_S_S4096x512 (constant S_ .f32 0x3F800000#32)) (Host.exp (Host.negf (addf (Host.dotGeneral dot_S4096x512_S512x512_S4096x512_1_0_0_1_n_n none (act y) (extf .f32 w bitsLt_bf16_f32)) (broadcastInDim S4096x512 ![0, 1] bcast_S1x512_S4096x512_0_1 b)))))

/-- The gradient of the gate's argument. -/
def dgp : FVec Ideal S4096x512 .f32 :=
  mulf (mulf (act y) (extf .f32 (extractStridedSlice S4096x512 ![0, 0] dm slices_S4096x1024_S4096x512_0_0) bitsLt_bf16_f32)) (mulf (gate y w b) (subf (broadcastInDim S4096x512 ![] bcast_S_S4096x512 (constant S_ .f32 0x3F800000#32)) (gate y w b)))

theorem act_apply (l : Fin 4096) (j : Fin 512) : act y (ix2 l j) = ge (y (ix2 l j)) := by
  pointwise [act]
  unfold ge
  generalize y (ix2 l j) = v
  rw [show Ideal.ofBits .f32 0x3D372713#32 * v * v * v = Ideal.ofBits .f32 0x3D372713#32 * (v * v * v) by simp only [mul_assoc],
    ← mul_assoc, mul_comm v]

theorem gate_apply (l : Fin 4096) (j : Fin 512) : gate y w b (ix2 l j) = gateAt (fun k => y (ix2 l k)) w b j := by
  pointwise [gate, act_apply]
  unfold gateAt sg
  rw [zero_sub]

theorem dgp_apply (l : Fin 4096) (j : Fin 512) : dgp dm y w b (ix2 l j) = dgpRow dm y w b l j := by
  pointwise [dgp, act_apply, gate_apply]
  unfold dgpRow dgpAt
  rw [← mul_assoc, mul_comm (ge (y (ix2 l j)))]

theorem dwg_eq : transpose S512x512 [1, 0] (Host.dotGeneral dot_S4096x512_S4096x512_S512x512_0_0_1_1_n_n none (dgp dm y w b) (act y)) transposes_S512x512_S512x512_1_0
    = dwgAll dm y w b := by
  funext i
  obtain ⟨i, j, rfl⟩ : ∃ (p : Fin 512) (q : Fin 512), i = ix2 p q :=
    ⟨i 0, i 1, by funext x; match x with | ⟨0, _⟩ => rfl | ⟨1, _⟩ => rfl⟩
  pointwise [act_apply, dgp_apply]
  exact Finset.sum_congr rfl fun l _ => mul_comm _ _

theorem dbg_eq : (shapeCast S1x512 (Host.reduceAdd (dgp dm y w b) (constant S_ .f32 0x00000000#32) reducesTo_S4096x512_S512_d0 h_S_) shapeCasts_S512_S1x512 : FVec Ideal S1x512 .f32)
    = dbgAll dm y w b := by
  funext i
  obtain ⟨z, j, rfl⟩ : ∃ (p : Fin 1) (q : Fin 512), i = ix2 p q :=
    ⟨i 0, i 1, by funext x; match x with | ⟨0, _⟩ => rfl | ⟨1, _⟩ => rfl⟩
  obtain rfl : z = 0 := Subsingleton.elim _ _
  pointwise [dgp_apply]
  rfl

end Cert.Reference7Ideal.S5

namespace Cert.Proof.S5

open Idealize.ShloMosaic Idealize.ShloMosaic.TcCoe Idealize.SL.Sem
open Cert.Hand
open Cert.Kernel7Ideal.S5 (aDm aY aW aB dwgAll dbgAll)

set_option maxHeartbeats 40000000 in
/-- The program and its reading over extended reals have one text: on the same float values their bodies are the same. -/
theorem body_eq {F : FTy → Type} [FloatOps F] (t : Fin Cert.Kernel7.grid0.N) (s : (w : Fin 30) → Fin (Cert.Kernel7.win0 w).nbuf) :
    Cert.Kernel7.defs₀ (F := F) .tc 0 (t, s) = Cert.Kernel7Ideal.defs₀ (F := F) .tc 0 (t, s) := rfl

set_option maxHeartbeats 4000000 in
theorem defs_eq {F : FTy → Type} [FloatOps F] : Cert.Kernel7.defs (F := F) = Cert.Kernel7Ideal.defs (F := F) := by
  have e : Cert.Kernel7.defs₀ (F := F) = Cert.Kernel7Ideal.defs₀ (F := F) := by
    have h : ∀ (ℓ : Cert.Kernel7.Λ₀.Label) (a : Cert.Kernel7.Λ₀.Args ℓ),
        Cert.Kernel7.defs₀ (F := F) .tc ℓ a = Cert.Kernel7Ideal.defs₀ (F := F) .tc ℓ a := by
      intro ℓ a
      match ℓ, a with
      | ⟨0, _⟩, (t, s) => exact body_eq t s
      | ⟨n + 1, h⟩, _ => exact absurd h (Nat.not_lt.2 (Nat.le_add_left _ _))
    unfold Cert.Kernel7.defs₀ Cert.Kernel7Ideal.defs₀ at h ⊢
    exact congrArg Defs.onTc (funext fun ℓ => funext fun a => h ℓ a)
  exact congrArg (Pipeline.defs Cert.Kernel7Ideal.pcfgs) e

set_option maxHeartbeats 4000000 in
theorem frame_kernel : Cert.quiescent_Kernel7 := by
  intro m ρ _
  rw [defs_eq]
  exact (θ_run Cert.Kernel7Ideal.defs _ _).mono (fun _ h => h) (Cert.Kernel7Ideal.S5.frame (F := Bits) m ρ)

theorem frame_ideal : Cert.quiescent_Kernel7Ideal := fun m ρ _ => Cert.Kernel7Ideal.S5.frame (F := Ideal) m ρ

theorem frame_reference : Cert.quiescent_Reference7Ideal := fun m ρ _ =>
  (θ_run Cert.Reference7Ideal.defs _ _).mono (fun r h => ⟨fun c => (h c).2.2,
      Idealize.ShloMosaic.sem_eq_zero_of_no_sems (by decide) r.2⟩)
    (Cert.Reference7Ideal.Value.run (F := Ideal) m ρ)

theorem algebraic : Cert.algebraic_Kernel7Ideal_Reference7Ideal := by
  intro m ρ m' ρ' _ hagree
  refine ⟨fun c => dwgAll (aDm m c) (aY m c) (aW m c) (aB m c), fun c => dbgAll (aDm m c) (aY m c) (aW m c) (aB m c), ?_, ?_⟩
  · exact (θ_run Cert.Kernel7Ideal.defs _ _).mono
      (fun _ h c => ⟨((h.1 c).1 21).trans (Cert.Kernel7Ideal.S5.final21 m c), ((h.1 c).1 22).trans (Cert.Kernel7Ideal.S5.final22 m c), h.2 c⟩)
      (θ_run_and (Cert.Kernel7Ideal.S5.run_main (F := Ideal) m ρ) (Cert.Kernel7Ideal.S5.unchanged (F := Ideal) m ρ))
  refine (θ_run Cert.Reference7Ideal.defs _ _).mono (fun _ h c => ⟨(h c).1.trans ?_, (h c).2.1.trans ?_, (h c).2.2⟩)
    (Cert.Reference7Ideal.Value.run (F := Ideal) m' ρ')
  · obtain ⟨e0, e1, e2, e3, e4, e5, e6, e7, e8, e9, e10, e11, e12, e13, e14, e15⟩ := hagree c
    rw [e0, e1, e14, e15]
    exact Cert.Reference7Ideal.S5.dwg_eq _ _ _ _
  · obtain ⟨e0, e1, e2, e3, e4, e5, e6, e7, e8, e9, e10, e11, e12, e13, e14, e15⟩ := hagree c
    rw [e0, e1, e14, e15]
    exact Cert.Reference7Ideal.S5.dbg_eq _ _ _ _

end Cert.Proof.S5
end
-- ==== Proof.MixBwd.lean ====
/-
  The gradient of the mixers' joint output: the value of the pipelined kernel.

  Grid point `t` takes rows `1024 t` to `1024 t + 1023` of the cotangent and multiplies them by the transposed output
  projection; the four blocks tile the result.
-/
module

public import proofs.«01_k».proof.Proof.Gen.Kernel8Ideal.Value
public import Idealize.ShloMosaic.Lib.Pointwise
public import Idealize.ShloMosaic.Lib.VecWindow
public import proofs.«01_k».proof.Proof.Reals

@[expose] public section

set_option maxRecDepth 16384

noncomputable section

namespace Cert.Kernel8Ideal.MixBwd

open Cert.Kernel8Ideal Cert.Kernel8Ideal.Gen Idealize.ShloMosaic Idealize.ShloMosaic.TcCoe Idealize.SL.Sem
open Cert.Hand

def dcatAt (dx : FVec Ideal S4096x1024 .bf16) (w : FVec Ideal S1024x1024 .bf16) (l : Fin 4096) (e : Fin 1024) : EReal :=
  ∑ d : Fin 1024, dx (ix2 l d) * w (ix2 e d)
/-- The gradient: the cotangent times the transposed projection. -/
def dcat (dx : FVec Ideal S4096x1024 .bf16) (w : FVec Ideal S1024x1024 .bf16) : FVec Ideal S4096x1024 .bf16 :=
  fun i => dcatAt dx w (i 0) (i 1)

theorem pay1_apply (v0 v1 : Vec Ideal S1024x1024 .bf16) (r e : Fin 1024) :
    k0_pay1 v0 v1 (ix2 r e) = ∑ d : Fin 1024, v0 (ix2 r d) * v1 (ix2 e d) := by
  pointwise [k0_pay1]

section
variable {F : FTy → Type} [FloatOps F]
variable (m : (ℓ : Loc nD τ sig) → Buf (Elt F) ℓ)

theorem idx0 : ∀ t : Fin cfg0.N, win0_0.index t 0 * win0_0.size 0 = 1024 * t.val ∧ win0_0.index t 1 * win0_0.size 1 = 0 :=
  (by decide +kernel : ∀ t : Fin grid0.N, win0_0.index t 0 * win0_0.size 0 = 1024 * t.val ∧ win0_0.index t 1 * win0_0.size 1 = 0)
theorem idx1 : ∀ t : Fin cfg0.N, win0_1.index t 0 * win0_1.size 0 = 0 ∧ win0_1.index t 1 * win0_1.size 1 = 0 :=
  (by decide +kernel : ∀ t : Fin grid0.N, win0_1.index t 0 * win0_1.size 0 = 0 ∧ win0_1.index t 1 * win0_1.size 1 = 0)
theorem idx2 : ∀ t : Fin cfg0.N, win0_2.index t 0 * win0_2.size 0 = 1024 * t.val ∧ win0_2.index t 1 * win0_2.size 1 = 0 :=
  (by decide +kernel : ∀ t : Fin grid0.N, win0_2.index t 0 * win0_2.size 0 = 1024 * t.val ∧ win0_2.index t 1 * win0_2.size 1 = 0)
theorem iblk0 (c : Dev nD) (t : Fin cfg0.N) (r : Fin 1024) (d : Fin 1024) (l : Fin 4096) (hl : l.val = 1024 * t.val + r.val) :
    iblk m c 0 t (ix2 r d) = m ((c : Thread nD τ).loc main_arg0) (ix2 l d) := by
  unfold iblk
  rw [View.read_apply]
  refine congrArg (m ((c : Thread nD τ).loc main_arg0)) (funext fun a => Fin.ext ?_)
  match a with
  | ⟨0, _⟩ => show win0_0.index t 0 * win0_0.size 0 + 1 * r.val = l.val; rw [(idx0 t).1, hl]; omega
  | ⟨1, _⟩ => show win0_0.index t 1 * win0_0.size 1 + 1 * d.val = d.val; rw [(idx0 t).2]; omega
theorem iblk1 (c : Dev nD) (t : Fin cfg0.N) (e : Fin 1024) (d : Fin 1024)  :
    iblk m c 1 t (ix2 e d) = m ((c : Thread nD τ).loc main_arg1) (ix2 e d) := by
  unfold iblk
  rw [View.read_apply]
  refine congrArg (m ((c : Thread nD τ).loc main_arg1)) (funext fun a => Fin.ext ?_)
  match a with
  | ⟨0, _⟩ => show win0_1.index t 0 * win0_1.size 0 + 1 * e.val = e.val; rw [(idx1 t).1]; omega
  | ⟨1, _⟩ => show win0_1.index t 1 * win0_1.size 1 + 1 * d.val = d.val; rw [(idx1 t).2]; omega
theorem emb2 (t : Fin cfg0.N) (r : Fin 1024) (d : Fin 1024) (l : Fin 4096) (hl : l.val = 1024 * t.val + r.val) :
    (win0_2.blk t).view.emb (ix2 r d) = (ix2 l d : S4096x1024.Idx) := by
  refine funext fun a => Fin.ext ?_
  match a with
  | ⟨0, _⟩ => show win0_2.index t 0 * win0_2.size 0 + 1 * r.val = l.val; rw [(idx2 t).1, hl]; omega
  | ⟨1, _⟩ => show win0_2.index t 1 * win0_2.size 1 + 1 * d.val = d.val; rw [(idx2 t).2]; omega
theorem hz2 : (![0, 0] : Fin 2 → Nat) = fun _ => 0 := funext fun a => by fin_cases a <;> rfl

theorem out2 (x0 x1 : Vec F S1024x1024 .bf16) : out0_2 x0 x1 = k0_pay1 x0 x1 := by
  unfold out0_2
  exact (View.canon_cons_unit_zero (S := S1024x1024) hz2 _ _ _).trans
    (congr (congrArg k0_pay1 (View.ld_unit_zero (S := S1024x1024) hz2 _ _)) (View.ld_unit_zero (S := S1024x1024) hz2 _ _))

end

section
variable (m : (ℓ : Loc nD τ sig) → Buf (Elt Ideal) ℓ)

theorem lt_N (t : Fin cfg0.N) : t.val < 4 := lt_of_lt_of_eq t.isLt N_0

/-- The device's arguments, by name. -/
abbrev aDx (c : Dev nD) : FVec Ideal S4096x1024 .bf16 := m ((c : Thread nD τ).loc main_arg0)
abbrev aW (c : Dev nD) : FVec Ideal S1024x1024 .bf16 := m ((c : Thread nD τ).loc main_arg1)

theorem flushed2 (c : Dev nD) (t : Fin cfg0.N) :
    (dats m 0 c).flushed 2 t = (win0_2.blk t).view.read (Elt Ideal) (dcat (aDx m c) (aW m c)) := by
  rw [Value.flushed2, out2]
  funext y
  obtain ⟨r, d, rfl⟩ : ∃ (r : Fin 1024) (d : Fin 1024), y = ix2 r d :=
    ⟨y 0, y 1, by funext a; match a with | ⟨0, _⟩ => rfl | ⟨1, _⟩ => rfl⟩
  have ht := lt_N t
  have hl : (⟨1024 * t.val + r.val, by omega⟩ : Fin 4096).val = 1024 * t.val + r.val := rfl
  rw [View.read_apply]
  refine Eq.trans ?_ (congrArg (dcat (aDx m c) (aW m c)) (emb2 t r d _ hl).symm)
  refine (pay1_apply _ _ r d).trans ?_
  show _ = ∑ k : Fin 1024, aDx m c (ix2 _ k) * aW m c (ix2 d k)
  exact Finset.sum_congr rfl fun k _ => congr (congrArg _ (iblk0 m c t r k _ hl)) (iblk1 m c t d k)

/-- Every index of the result lies in the block of the point of its row block. -/
theorem cover2 (i : S4096x1024.Idx) : ∃ t : Fin cfg0.N, (cfg0.win 2).flush t = true ∧ i ∈ ((cfg0.win 2).blk t).view.set := by
  have h0 : (i 0 : Nat) < 4096 := (i 0).isLt
  have hN : cfg0.N = 4 := N_0
  have ht : (i 0 : Nat) / 1024 < cfg0.N := by omega
  refine ⟨⟨_, ht⟩, flush0_2 _, ?_⟩
  have e : (win0_2.blk ⟨_, ht⟩).view.emb (ix2 ⟨(i 0 : Nat) % 1024, by omega⟩ (i 1)) = i :=
    (emb2 ⟨_, ht⟩ ⟨(i 0 : Nat) % 1024, by omega⟩ (i 1) (i 0) (by dsimp only; omega)).trans
      (by funext a; match a with | ⟨0, _⟩ => rfl | ⟨1, _⟩ => rfl)
  exact (congrArg (fun j => j ∈ ((cfg0.win 2).blk ⟨_, ht⟩).view.set) e).mp (Finset.mem_map_of_mem _ (Finset.mem_univ _))

theorem final2 (c : Dev nD) : (dats m 0 c).arrAt 2 cfg0.N = dcat (aDx m c) (aW m c) :=
  (dats m 0 c).arrAt_eq_of_cover 2 _ (fun t _ => flushed2 m c t) cover2

end
end Cert.Kernel8Ideal.MixBwd
end
-- ==== Proof.MixBwdClaim.lean ====
/-
  The gradient of the mixers' joint output: the value of the reference, and the comparison.
-/
module

public import proofs.«01_k».proof.Proof.MixBwd
public import proofs.«01_k».proof.Proof.Gen.Reference8Ideal.Run
public import proofs.«01_k».proof.Defs
public import Idealize.ShloMosaic.Lib.Quiescent

@[expose] public section

set_option maxRecDepth 16384

noncomputable section

namespace Cert.Reference8Ideal.MixBwd

open Cert.Reference8Ideal Cert.Reference8Ideal.Gen Idealize.ShloMosaic Idealize.ShloMosaic.TcCoe Idealize.SL.Sem
open Cert.Hand

variable (dx : FVec Ideal S4096x1024 .bf16) (w : FVec Ideal S1024x1024 .bf16)

/-- The reference's result, of its arguments. -/
def dcat : FVec Ideal S4096x1024 .bf16 :=
  truncf .bf16 (Host.dotGeneral dot_S4096x1024_S1024x1024_S4096x1024_1_1_0_0_n_n none (extf .f32 dx bitsLt_bf16_f32) (extf .f32 w bitsLt_bf16_f32)) bitsLt_bf16_f32

theorem dcat_apply (l : Fin 4096) (e : Fin 1024) : dcat dx w (ix2 l e) = ∑ d : Fin 1024, dx (ix2 l d) * w (ix2 e d) := by
  pointwise [dcat]

theorem dcat_eq : Cert.Kernel8Ideal.MixBwd.dcat dx w = dcat dx w := by
  funext i
  obtain ⟨l, d, rfl⟩ : ∃ (l : Fin 4096) (d : Fin 1024), i = ix2 l d :=
    ⟨i 0, i 1, by funext x; match x with | ⟨0, _⟩ => rfl | ⟨1, _⟩ => rfl⟩
  rw [dcat_apply]
  rfl

end Cert.Reference8Ideal.MixBwd

namespace Cert.Proof.MixBwd

open Idealize.ShloMosaic Idealize.ShloMosaic.TcCoe Idealize.SL.Sem
open Cert.Kernel8Ideal.MixBwd

theorem frame_reference : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

theorem algebraic : Cert.algebraic_Kernel8Ideal_Reference8Ideal := by
  intro m ρ m' ρ' _ hagree
  refine ⟨fun c => Cert.Kernel8Ideal.MixBwd.dcat (aDx m c) (aW m c), ?_, ?_⟩
  · exact (θ_run Cert.Kernel8Ideal.defs _ _).mono
      (fun _ h c => ⟨(h c).1.trans (Cert.Kernel8Ideal.MixBwd.final2 m c), (h c).2⟩)
      (Cert.Kernel8Ideal.Value.run_blocks (F := Ideal) m ρ)
  refine (θ_run Cert.Reference8Ideal.defs _ _).mono (fun _ h c => ⟨(h c).1.trans ?_, (h c).2⟩)
    (Cert.Reference8Ideal.Value.run (F := Ideal) m' ρ')
  rw [(hagree c).1, (hagree c).2]
  exact (Cert.Reference8Ideal.MixBwd.dcat_eq _ _).symm

end Cert.Proof.MixBwd
end
-- ==== Proof.DwOut.lean ====
/-
  The gradient of the output projection: the value of the pipelined kernel.

  Grid point `t` takes half `t` of the rows. The first half's product goes into the scratch accumulator, the second
  half's is added to it, and the sum is the gradient: at every index the sum over all rows.
-/
module

public import proofs.«01_k».proof.Proof.Gen.Kernel9Ideal.Value
public import Idealize.ShloMosaic.Lib.Pointwise
public import Idealize.ShloMosaic.Lib.VecWindow
public import Idealize.ShloMosaic.Lib.StableHlo.ReadAt
public import proofs.«01_k».proof.Proof.Reals

@[expose] public section

set_option maxRecDepth 16384

noncomputable section

namespace Cert.Kernel9Ideal.DwOut

open Cert.Kernel9Ideal Cert.Kernel9Ideal.Gen Idealize.ShloMosaic Idealize.ShloMosaic.TcCoe Idealize.SL.Sem
open Cert.Hand

/-! ## The payloads at an index -/

theorem pay2_apply (v0 : Vec Ideal S1x2048x1024 .bf16) (v2 : Vec Ideal S1x2048x1024 .bf16) (e : Fin 1024) (f : Fin 1024) :
    k0_pay2 v0 v2 (ix2 e f) = ∑ k : Fin 2048, v0 (ix3 0 k e) * v2 (ix3 0 k f) := by
  pointwise [k0_pay2, k0_pay1]

theorem pay3_apply (v0 : Vec Ideal S1x2048x1024 .bf16) (v2 : Vec Ideal S1x2048x1024 .bf16) (acc : Vec Ideal S1024x1024 .f32) (e : Fin 1024) (f : Fin 1024) :
    k0_pay3 v0 v2 acc (ix2 e f) = acc (ix2 e f) + ∑ k : Fin 2048, v0 (ix3 0 k e) * v2 (ix3 0 k f) := by
  pointwise [k0_pay3, k0_pay1]

theorem pay4_apply (acc : Vec Ideal S1024x1024 .f32) (e : Fin 1024) (f : Fin 1024) :
    k0_pay4 acc (ix3 0 e f) = acc (ix2 e f) := by
  refine Eq.trans (b := acc (ix2 e f) * Ideal.ofBits .f32 0x3F800000#32) ?_ (by rw [ofBits_one, mul_one])
  pointwise [k0_pay4]

/-! ## The blocks -/

section
variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator after a first half. -/
theorem accA (c : Dev nD) (t : Fin cfg0.N) (h0 : t.val % 2 = 0) (h1 : ¬t.val % 2 = 1) :
    (outsAt0 m c t.val t.isLt).2 = k0_pay2 (iblk m c 0 t) (iblk m c 1 t) := by
  rw [outsAt0_A m c t h0 h1 h1]
  unfold sout0_A_0
  dsimp only
  unfold kernelRun0_A
  dsimp only
  sl_unfold_words
  rw [View.read_writes_full]
  simp only [View.readAt_eq_ld, (hs0_0 t).read_unread, (hs0_1 t).read_unread]
  exact congr (congrArg k0_pay2 (View.ld_unit_zero (S := S1x2048x1024) hz3 _ _)) (View.ld_unit_zero (S := S1x2048x1024) hz3 _ _)

/-- The result's buffer after a second half. -/
theorem outB (c : Dev nD) (t : Fin cfg0.N) (h0 : ¬t.val % 2 = 0) (h1 : t.val % 2 = 1) :
    (outsAt0 m c t.val t.isLt).1 = k0_pay4 (k0_pay3 (iblk m c 0 t) (iblk m c 1 t) (outsAt0 m c (t.val - 1) (Nat.lt_of_le_of_lt (Nat.sub_le _ _) t.isLt)).2) := by
  rw [outsAt0_B m c t h0 h1 h1]
  unfold out0_B_2
  dsimp only
  unfold kernelRun0_B
  dsimp only
  sl_unfold_words
  rw [View.read_writes_full]
  simp only [View.readAt_eq_ld, (hs0_0 t).read_unread, (hs0_1 t).read_unread]
  rw [View.readCov_full]
  exact congrArg k0_pay4 (congr (congr (congrArg k0_pay3 (View.ld_unit_zero (S := S1x2048x1024) hz3 _ _)) (View.ld_unit_zero (S := S1x2048x1024) hz3 _ _))
    ((View.ld_unit_zero (S := S1024x1024) hz2 _ _).trans ((Memref.isWhole_whole _).read_unread _)))

theorem idx0 : ∀ t : Fin cfg0.N, win0_0.index t 0 * win0_0.size 0 = 0 ∧ win0_0.index t 1 * win0_0.size 1 = 2048 * (t.val % 2) ∧ win0_0.index t 2 * win0_0.size 2 = 0 :=
  (by decide +kernel : ∀ t : Fin grid0.N, win0_0.index t 0 * win0_0.size 0 = 0 ∧ win0_0.index t 1 * win0_0.size 1 = 2048 * (t.val % 2) ∧ win0_0.index t 2 * win0_0.size 2 = 0)
theorem idx1 : ∀ t : Fin cfg0.N, win0_1.index t 0 * win0_1.size 0 = 0 ∧ win0_1.index t 1 * win0_1.size 1 = 2048 * (t.val % 2) ∧ win0_1.index t 2 * win0_1.size 2 = 0 :=
  (by decide +kernel : ∀ t : Fin grid0.N, win0_1.index t 0 * win0_1.size 0 = 0 ∧ win0_1.index t 1 * win0_1.size 1 = 2048 * (t.val % 2) ∧ win0_1.index t 2 * win0_1.size 2 = 0)
theorem idx2 : ∀ t : Fin cfg0.N, win0_2.index t 0 * win0_2.size 0 = t.val / 2 ∧ win0_2.index t 1 * win0_2.size 1 = 0 ∧ win0_2.index t 2 * win0_2.size 2 = 0 :=
  (by decide +kernel : ∀ t : Fin grid0.N, win0_2.index t 0 * win0_2.size 0 = t.val / 2 ∧ win0_2.index t 1 * win0_2.size 1 = 0 ∧ win0_2.index t 2 * win0_2.size 2 = 0)

/-- The one-matrix stack that the kernel's operand is. -/
theorem stack0 (c : Dev nD) (l : Fin 4096) (d : Fin 1024) :
    V m c main_v0 (ix3 0 l d) = m ((c : Thread nD τ).loc main_arg0) (ix2 l d) := by
  unfold V
  after_reads_at

theorem iblk0 (c : Dev nD) (t : Fin cfg0.N) (k : Fin 2048) (d : Fin 1024) (l : Fin 4096) (hl : l.val = 2048 * (t.val % 2) + k.val) :
    iblk m c 0 t (ix3 0 k d) = m ((c : Thread nD τ).loc main_arg0) (ix2 l d) := by
  refine Eq.trans ?_ (stack0 m c l d)
  unfold iblk
  rw [View.read_apply]
  refine congrArg (V m c main_v0) (funext fun a => Fin.ext ?_)
  match a with
  | ⟨0, _⟩ => show win0_0.index t 0 * win0_0.size 0 + 1 * 0 = 0; rw [(idx0 t).1]
  | ⟨1, _⟩ => show win0_0.index t 1 * win0_0.size 1 + 1 * k.val = l.val; rw [(idx0 t).2.1, hl]; omega
  | ⟨2, _⟩ => show win0_0.index t 2 * win0_0.size 2 + 1 * d.val = d.val; rw [(idx0 t).2.2]; omega

/-- The one-matrix stack that the kernel's operand is. -/
theorem stack1 (c : Dev nD) (l : Fin 4096) (d : Fin 1024) :
    V m c main_v1 (ix3 0 l d) = m ((c : Thread nD τ).loc main_arg1) (ix2 l d) := by
  unfold V
  after_reads_at

theorem iblk1 (c : Dev nD) (t : Fin cfg0.N) (k : Fin 2048) (d : Fin 1024) (l : Fin 4096) (hl : l.val = 2048 * (t.val % 2) + k.val) :
    iblk m c 1 t (ix3 0 k d) = m ((c : Thread nD τ).loc main_arg1) (ix2 l d) := by
  refine Eq.trans ?_ (stack1 m c l d)
  unfold iblk
  rw [View.read_apply]
  refine congrArg (V m c main_v1) (funext fun a => Fin.ext ?_)
  match a with
  | ⟨0, _⟩ => show win0_1.index t 0 * win0_1.size 0 + 1 * 0 = 0; rw [(idx1 t).1]
  | ⟨1, _⟩ => show win0_1.index t 1 * win0_1.size 1 + 1 * k.val = l.val; rw [(idx1 t).2.1, hl]; omega
  | ⟨2, _⟩ => show win0_1.index t 2 * win0_1.size 2 + 1 * d.val = d.val; rw [(idx1 t).2.2]; omega

end

section
variable (m : (ℓ : Loc nD τ sig) → Buf (Elt Ideal) ℓ)

theorem lt_N (t : Fin cfg0.N) : t.val < 2 := lt_of_lt_of_eq t.isLt N_0

/-- The device's arguments, by name. -/
abbrev aX (c : Dev nD) : FVec Ideal S4096x1024 .bf16 := m ((c : Thread nD τ).loc main_arg0)
abbrev aDy (c : Dev nD) : FVec Ideal S4096x1024 .bf16 := m ((c : Thread nD τ).loc main_arg1)

/-- The gradient: the product over all rows. -/
def dwAt (x : FVec Ideal S4096x1024 .bf16) (dy : FVec Ideal S4096x1024 .bf16) (g : Fin 1) (e : Fin 1024) (f : Fin 1024) : EReal :=
  ∑ l : Fin 4096, x (ix2 l e) * dy (ix2 l f)
def dw (x : FVec Ideal S4096x1024 .bf16) (dy : FVec Ideal S4096x1024 .bf16) : FVec Ideal S1x1024x1024 .bf16 :=
  fun i => dwAt x dy (i 0) (i 1) (i 2)

/-- What a second half leaves in the result's buffer, at an index. -/
theorem out_apply (c : Dev nD) (t : Fin cfg0.N) (h1 : t.val % 2 = 1) (e : Fin 1024) (f : Fin 1024) (g : Fin 1) (hg : g.val = t.val / 2) :
    (outsAt0 m c t.val t.isLt).1 (ix3 0 e f) = dwAt (aX m c) (aDy m c) g e f := by
  have ht := lt_N t
  have hN : cfg0.N = 2 := N_0
  have hp : t.val - 1 < cfg0.N := by omega
  rw [outB m c t (by omega) h1, pay4_apply, pay3_apply]
  have hA : (outsAt0 m c (t.val - 1) (Nat.lt_of_le_of_lt (Nat.sub_le _ _) t.isLt)).2
      = k0_pay2 (iblk m c 0 ⟨t.val - 1, hp⟩) (iblk m c 1 ⟨t.val - 1, hp⟩) :=
    accA m c ⟨t.val - 1, hp⟩ (by dsimp only; omega) (by dsimp only; omega)
  rw [hA, pay2_apply]
  unfold dwAt
  rw [show (∑ l : Fin 4096, aX m c (ix2 l e) * aDy m c (ix2 l f)) = _ from
    Fin.sum_univ_add (a := 2048) (b := 2048) fun l => aX m c (ix2 l e) * aDy m c (ix2 l f)]
  refine congr (congrArg _ (Finset.sum_congr rfl fun k _ => ?_)) (Finset.sum_congr rfl fun k _ => ?_)
  · rw [iblk0 m c ⟨t.val - 1, hp⟩ k e (Fin.castAdd 2048 k) (by simp only [Fin.val_castAdd]; omega),
      iblk1 m c ⟨t.val - 1, hp⟩ k f (Fin.castAdd 2048 k) (by simp only [Fin.val_castAdd]; omega)]
  · rw [iblk0 m c t k e (Fin.natAdd 2048 k) (by simp only [Fin.val_natAdd]; omega),
      iblk1 m c t k f (Fin.natAdd 2048 k) (by simp only [Fin.val_natAdd]; omega)]

/-- The array index that block index `(0, e, f)` of point `t` is. -/
theorem emb2 (t : Fin cfg0.N) (e : Fin 1024) (f : Fin 1024) (g : Fin 1) (hg : g.val = t.val / 2) :
    (win0_2.blk t).view.emb (ix3 0 e f) = (ix3 g e f : S1x1024x1024.Idx) := by
  refine funext fun a => Fin.ext ?_
  match a with
  | ⟨0, _⟩ => show win0_2.index t 0 * win0_2.size 0 + 1 * 0 = g.val; rw [(idx2 t).1, hg]; omega
  | ⟨1, _⟩ => show win0_2.index t 1 * win0_2.size 1 + 1 * e.val = e.val; rw [(idx2 t).2.1]; omega
  | ⟨2, _⟩ => show win0_2.index t 2 * win0_2.size 2 + 1 * f.val = f.val; rw [(idx2 t).2.2]; omega

theorem flushed2 (c : Dev nD) (t : Fin cfg0.N) (hf : (cfg0.win 2).flush t = true) :
    (dats m 0 c).flushed 2 t = (win0_2.blk t).view.read (Elt Ideal) (dw (aX m c) (aDy m c)) := by
  rw [Value.flushed2]
  funext y
  obtain ⟨z, e, f, rfl⟩ : ∃ (z : Fin 1) (e : Fin 1024) (f : Fin 1024), y = ix3 z e f :=
    ⟨y 0, y 1, y 2, by funext a; match a with | ⟨0, _⟩ => rfl | ⟨1, _⟩ => rfl | ⟨2, _⟩ => rfl⟩
  obtain rfl : z = 0 := Subsingleton.elim _ _
  have ht := lt_N t
  have hg : (⟨t.val / 2, by omega⟩ : Fin 1).val = t.val / 2 := rfl
  rw [View.read_apply]
  refine Eq.trans ?_ (congrArg (dw (aX m c) (aDy m c)) (emb2 t e f _ hg).symm)
  exact out_apply m c t ((flush0_2 t).mp hf) e f _ hg

/-- Every index of the result lies in the block written after its second half. -/
theorem cover2 (i : S1x1024x1024.Idx) : ∃ t : Fin cfg0.N, (cfg0.win 2).flush t = true ∧ i ∈ ((cfg0.win 2).blk t).view.set := by
  have h0 : (i 0 : Nat) < 1 := (i 0).isLt
  have hN : cfg0.N = 2 := N_0
  have ht : 2 * (i 0 : Nat) + 1 < cfg0.N := by omega
  refine ⟨⟨_, ht⟩, (flush0_2 _).mpr (by dsimp only; omega), ?_⟩
  have e : (win0_2.blk ⟨_, ht⟩).view.emb (ix3 0 (i 1) (i 2)) = i :=
    (emb2 ⟨_, ht⟩ (i 1) (i 2) (i 0) (by dsimp only; omega)).trans
      (by funext a; match a with | ⟨0, _⟩ => rfl | ⟨1, _⟩ => rfl | ⟨2, _⟩ => rfl)
  exact (congrArg (fun j => j ∈ ((cfg0.win 2).blk ⟨_, ht⟩).view.set) e).mp (Finset.mem_map_of_mem _ (Finset.mem_univ _))

theorem final2 (c : Dev nD) : (dats m 0 c).arrAt 2 cfg0.N = dw (aX m c) (aDy m c) :=
  (dats m 0 c).arrAt_eq_of_cover 2 _ (fun t hf => flushed2 m c t hf) cover2

end
end Cert.Kernel9Ideal.DwOut
end
-- ==== Proof.DwOutClaim.lean ====
/-
  The gradient of the output projection: the value of the reference, and the comparison.
-/
module

public import proofs.«01_k».proof.Proof.DwOut
public import proofs.«01_k».proof.Proof.Gen.Reference9Ideal.Run
public import proofs.«01_k».proof.Defs
public import Idealize.ShloMosaic.Lib.Quiescent

@[expose] public section

set_option maxRecDepth 16384

noncomputable section

namespace Cert.Reference9Ideal.DwOut

open Cert.Reference9Ideal Cert.Reference9Ideal.Gen Idealize.ShloMosaic Idealize.ShloMosaic.TcCoe Idealize.SL.Sem
open Cert.Hand

variable (x : FVec Ideal S4096x1024 .bf16) (dy : FVec Ideal S4096x1024 .bf16)

/-- The reference's result, of its arguments. -/
def dw : FVec Ideal S1x1024x1024 .bf16 :=
  truncf .bf16 (broadcastInDim S1x1024x1024 ![1, 2] bcast_S1024x1024_S1x1024x1024_1_2 (transpose S1024x1024 [1, 0] (Host.dotGeneral dot_S4096x1024_S4096x1024_S1024x1024_0_0_1_1_n_n none (extf .f32 dy bitsLt_bf16_f32) (extf .f32 x bitsLt_bf16_f32)) transposes_S1024x1024_S1024x1024_1_0)) bitsLt_bf16_f32

theorem dw_apply (g : Fin 1) (e : Fin 1024) (f : Fin 1024) : dw x dy (ix3 g e f) = ∑ l : Fin 4096, dy (ix2 l f) * x (ix2 l e) := by
  pointwise [dw]

theorem dw_eq : Cert.Kernel9Ideal.DwOut.dw x dy = dw x dy := by
  funext i
  obtain ⟨g, e, f, rfl⟩ : ∃ (g : Fin 1) (e : Fin 1024) (f : Fin 1024), i = ix3 g e f :=
    ⟨i 0, i 1, i 2, by funext x; match x with | ⟨0, _⟩ => rfl | ⟨1, _⟩ => rfl | ⟨2, _⟩ => rfl⟩
  rw [dw_apply]
  show ∑ l : Fin 4096, x (ix2 l e) * dy (ix2 l f) = _
  exact Finset.sum_congr rfl fun l _ => mul_comm _ _

end Cert.Reference9Ideal.DwOut

namespace Cert.Proof.DwOut

open Idealize.ShloMosaic Idealize.ShloMosaic.TcCoe Idealize.SL.Sem
open Cert.Kernel9Ideal.DwOut

theorem frame_reference : Cert.quiescent_Reference9Ideal := fun m ρ _ =>
  (θ_run Cert.Reference9Ideal.defs _ _).mono (fun r h => ⟨fun c => (h c).2,
      Idealize.ShloMosaic.sem_eq_zero_of_no_sems (by decide) r.2⟩)
    (Cert.Reference9Ideal.Value.run (F := Ideal) m ρ)

theorem algebraic : Cert.algebraic_Kernel9Ideal_Reference9Ideal := by
  intro m ρ m' ρ' _ hagree
  refine ⟨fun c => Cert.Kernel9Ideal.DwOut.dw (aX m c) (aDy m c), ?_, ?_⟩
  · exact (θ_run Cert.Kernel9Ideal.defs _ _).mono
      (fun _ h c => ⟨(h c).1.trans (Cert.Kernel9Ideal.DwOut.final2 m c), (h c).2⟩)
      (Cert.Kernel9Ideal.Value.run_blocks (F := Ideal) m ρ)
  refine (θ_run Cert.Reference9Ideal.defs _ _).mono (fun _ h c => ⟨(h c).1.trans ?_, (h c).2⟩)
    (Cert.Reference9Ideal.Value.run (F := Ideal) m' ρ')
  rw [(hagree c).1, (hagree c).2]
  exact (Cert.Reference9Ideal.DwOut.dw_eq _ _).symm

end Cert.Proof.DwOut
end
-- ==== Proof.DwIn.lean ====
/-
  The gradient of the input projection: the value of the pipelined kernel.

  Grid point `t` takes column block `t / 2` of the cotangent and half `t % 2` of the rows. The first half's product goes
  into the scratch accumulator, the second half's is added to it, and the sum is that block's gradient: at every index
  the sum over all rows.
-/
module

public import proofs.«01_k».proof.Proof.Gen.Kernel10Ideal.Value
public import Idealize.ShloMosaic.Lib.Pointwise
public import Idealize.ShloMosaic.Lib.VecWindow
public import Idealize.ShloMosaic.Lib.StableHlo.ReadAt
public import proofs.«01_k».proof.Proof.Reals

@[expose] public section

set_option maxRecDepth 16384

noncomputable section

namespace Cert.Kernel10Ideal.DwIn

open Cert.Kernel10Ideal Cert.Kernel10Ideal.Gen Idealize.ShloMosaic Idealize.ShloMosaic.TcCoe Idealize.SL.Sem
open Cert.Hand

/-! ## The payloads at an index -/

theorem pay2_apply (v0 : Vec Ideal S1x2048x1024 .bf16) (v2 : Vec Ideal S2048x384 .bf16) (e : Fin 1024) (f : Fin 384) :
    k0_pay2 v0 v2 (ix2 e f) = ∑ k : Fin 2048, v0 (ix3 0 k e) * v2 (ix2 k f) := by
  pointwise [k0_pay2, k0_pay1]

theorem pay3_apply (v0 : Vec Ideal S1x2048x1024 .bf16) (v2 : Vec Ideal S2048x384 .bf16) (acc : Vec Ideal S1024x384 .f32) (e : Fin 1024) (f : Fin 384) :
    k0_pay3 v0 v2 acc (ix2 e f) = acc (ix2 e f) + ∑ k : Fin 2048, v0 (ix3 0 k e) * v2 (ix2 k f) := by
  pointwise [k0_pay3, k0_pay1]

theorem pay4_apply (acc : Vec Ideal S1024x384 .f32) (e : Fin 1024) (f : Fin 384) :
    k0_pay4 acc (ix3 0 e f) = acc (ix2 e f) := by
  refine Eq.trans (b := acc (ix2 e f) * Ideal.ofBits .f32 0x3F800000#32) ?_ (by rw [ofBits_one, mul_one])
  pointwise [k0_pay4]

/-! ## The blocks -/

section
variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator after a first half. -/
theorem accA (c : Dev nD) (t : Fin cfg0.N) (h0 : t.val % 2 = 0) (h1 : ¬t.val % 2 = 1) :
    (outsAt0 m c t.val t.isLt).2 = k0_pay2 (iblk m c 0 t) (iblk m c 1 t) := by
  rw [outsAt0_A m c t h0 h1 h1]
  unfold sout0_A_0
  dsimp only
  unfold kernelRun0_A
  dsimp only
  sl_unfold_words
  rw [View.read_writes_full]
  simp only [View.readAt_eq_ld, (hs0_0 t).read_unread, (hs0_1 t).read_unread]
  exact congr (congrArg k0_pay2 (View.ld_unit_zero (S := S1x2048x1024) hz3 _ _)) (View.ld_unit_zero (S := S2048x384) hz2 _ _)

/-- The result's buffer after a second half. -/
theorem outB (c : Dev nD) (t : Fin cfg0.N) (h0 : ¬t.val % 2 = 0) (h1 : t.val % 2 = 1) :
    (outsAt0 m c t.val t.isLt).1 = k0_pay4 (k0_pay3 (iblk m c 0 t) (iblk m c 1 t) (outsAt0 m c (t.val - 1) (Nat.lt_of_le_of_lt (Nat.sub_le _ _) t.isLt)).2) := by
  rw [outsAt0_B m c t h0 h1 h1]
  unfold out0_B_2
  dsimp only
  unfold kernelRun0_B
  dsimp only
  sl_unfold_words
  rw [View.read_writes_full]
  simp only [View.readAt_eq_ld, (hs0_0 t).read_unread, (hs0_1 t).read_unread]
  rw [View.readCov_full]
  exact congrArg k0_pay4 (congr (congr (congrArg k0_pay3 (View.ld_unit_zero (S := S1x2048x1024) hz3 _ _)) (View.ld_unit_zero (S := S2048x384) hz2 _ _))
    ((View.ld_unit_zero (S := S1024x384) hz2 _ _).trans ((Memref.isWhole_whole _).read_unread _)))

theorem idx0 : ∀ t : Fin cfg0.N, win0_0.index t 0 * win0_0.size 0 = 0 ∧ win0_0.index t 1 * win0_0.size 1 = 2048 * (t.val % 2) ∧ win0_0.index t 2 * win0_0.size 2 = 0 :=
  (by decide +kernel : ∀ t : Fin grid0.N, win0_0.index t 0 * win0_0.size 0 = 0 ∧ win0_0.index t 1 * win0_0.size 1 = 2048 * (t.val % 2) ∧ win0_0.index t 2 * win0_0.size 2 = 0)
theorem idx1 : ∀ t : Fin cfg0.N, win0_1.index t 0 * win0_1.size 0 = 2048 * (t.val % 2) ∧ win0_1.index t 1 * win0_1.size 1 = 384 * (t.val / 2) :=
  (by decide +kernel : ∀ t : Fin grid0.N, win0_1.index t 0 * win0_1.size 0 = 2048 * (t.val % 2) ∧ win0_1.index t 1 * win0_1.size 1 = 384 * (t.val / 2))
theorem idx2 : ∀ t : Fin cfg0.N, win0_2.index t 0 * win0_2.size 0 = t.val / 2 ∧ win0_2.index t 1 * win0_2.size 1 = 0 ∧ win0_2.index t 2 * win0_2.size 2 = 0 :=
  (by decide +kernel : ∀ t : Fin grid0.N, win0_2.index t 0 * win0_2.size 0 = t.val / 2 ∧ win0_2.index t 1 * win0_2.size 1 = 0 ∧ win0_2.index t 2 * win0_2.size 2 = 0)

/-- The one-matrix stack that the kernel's operand is. -/
theorem stack0 (c : Dev nD) (l : Fin 4096) (d : Fin 1024) :
    V m c main_v0 (ix3 0 l d) = m ((c : Thread nD τ).loc main_arg0) (ix2 l d) := by
  unfold V
  after_reads_at

theorem iblk0 (c : Dev nD) (t : Fin cfg0.N) (k : Fin 2048) (d : Fin 1024) (l : Fin 4096) (hl : l.val = 2048 * (t.val % 2) + k.val) :
    iblk m c 0 t (ix3 0 k d) = m ((c : Thread nD τ).loc main_arg0) (ix2 l d) := by
  refine Eq.trans ?_ (stack0 m c l d)
  unfold iblk
  rw [View.read_apply]
  refine congrArg (V m c main_v0) (funext fun a => Fin.ext ?_)
  match a with
  | ⟨0, _⟩ => show win0_0.index t 0 * win0_0.size 0 + 1 * 0 = 0; rw [(idx0 t).1]
  | ⟨1, _⟩ => show win0_0.index t 1 * win0_0.size 1 + 1 * k.val = l.val; rw [(idx0 t).2.1, hl]; omega
  | ⟨2, _⟩ => show win0_0.index t 2 * win0_0.size 2 + 1 * d.val = d.val; rw [(idx0 t).2.2]; omega
theorem iblk1 (c : Dev nD) (t : Fin cfg0.N) (k : Fin 2048) (f : Fin 384) (l : Fin 4096) (q : Fin 1536) (hl : l.val = 2048 * (t.val % 2) + k.val) (hq : q.val = 384 * (t.val / 2) + f.val) :
    iblk m c 1 t (ix2 k f) = m ((c : Thread nD τ).loc main_arg1) (ix2 l q) := by
  unfold iblk
  rw [View.read_apply]
  refine congrArg (m ((c : Thread nD τ).loc main_arg1)) (funext fun a => Fin.ext ?_)
  match a with
  | ⟨0, _⟩ => show win0_1.index t 0 * win0_1.size 0 + 1 * k.val = l.val; rw [(idx1 t).1, hl]; omega
  | ⟨1, _⟩ => show win0_1.index t 1 * win0_1.size 1 + 1 * f.val = q.val; rw [(idx1 t).2, hq]; omega

end

section
variable (m : (ℓ : Loc nD τ sig) → Buf (Elt Ideal) ℓ)

theorem lt_N (t : Fin cfg0.N) : t.val < 8 := lt_of_lt_of_eq t.isLt N_0

/-- The device's arguments, by name. -/
abbrev aX (c : Dev nD) : FVec Ideal S4096x1024 .bf16 := m ((c : Thread nD τ).loc main_arg0)
abbrev aDy (c : Dev nD) : FVec Ideal S4096x1536 .bf16 := m ((c : Thread nD τ).loc main_arg1)

/-- Column `f` of column block `g`. -/
def col (g : Fin 4) (f : Fin 384) : Fin 1536 := ⟨384 * g.val + f.val, by omega⟩

/-- The gradient: the product over all rows. -/
def dwAt (x : FVec Ideal S4096x1024 .bf16) (dy : FVec Ideal S4096x1536 .bf16) (g : Fin 4) (e : Fin 1024) (f : Fin 384) : EReal :=
  ∑ l : Fin 4096, x (ix2 l e) * dy (ix2 l (col g f))
def dw (x : FVec Ideal S4096x1024 .bf16) (dy : FVec Ideal S4096x1536 .bf16) : FVec Ideal S4x1024x384 .bf16 :=
  fun i => dwAt x dy (i 0) (i 1) (i 2)

/-- What a second half leaves in the result's buffer, at an index. -/
theorem out_apply (c : Dev nD) (t : Fin cfg0.N) (h1 : t.val % 2 = 1) (e : Fin 1024) (f : Fin 384) (g : Fin 4) (hg : g.val = t.val / 2) :
    (outsAt0 m c t.val t.isLt).1 (ix3 0 e f) = dwAt (aX m c) (aDy m c) g e f := by
  have ht := lt_N t
  have hN : cfg0.N = 8 := N_0
  have hp : t.val - 1 < cfg0.N := by omega
  rw [outB m c t (by omega) h1, pay4_apply, pay3_apply]
  have hA : (outsAt0 m c (t.val - 1) (Nat.lt_of_le_of_lt (Nat.sub_le _ _) t.isLt)).2
      = k0_pay2 (iblk m c 0 ⟨t.val - 1, hp⟩) (iblk m c 1 ⟨t.val - 1, hp⟩) :=
    accA m c ⟨t.val - 1, hp⟩ (by dsimp only; omega) (by dsimp only; omega)
  rw [hA, pay2_apply]
  unfold dwAt
  rw [show (∑ l : Fin 4096, aX m c (ix2 l e) * aDy m c (ix2 l (col g f))) = _ from
    Fin.sum_univ_add (a := 2048) (b := 2048) fun l => aX m c (ix2 l e) * aDy m c (ix2 l (col g f))]
  refine congr (congrArg _ (Finset.sum_congr rfl fun k _ => ?_)) (Finset.sum_congr rfl fun k _ => ?_)
  · rw [iblk0 m c ⟨t.val - 1, hp⟩ k e (Fin.castAdd 2048 k) (by simp only [Fin.val_castAdd]; omega),
      iblk1 m c ⟨t.val - 1, hp⟩ k f (Fin.castAdd 2048 k) (col g f) (by simp only [Fin.val_castAdd]; omega) (by show 384 * g.val + f.val = _; dsimp only; omega)]
  · rw [iblk0 m c t k e (Fin.natAdd 2048 k) (by simp only [Fin.val_natAdd]; omega),
      iblk1 m c t k f (Fin.natAdd 2048 k) (col g f) (by simp only [Fin.val_natAdd]; omega) (by show 384 * g.val + f.val = _; omega)]

/-- The array index that block index `(0, e, f)` of point `t` is. -/
theorem emb2 (t : Fin cfg0.N) (e : Fin 1024) (f : Fin 384) (g : Fin 4) (hg : g.val = t.val / 2) :
    (win0_2.blk t).view.emb (ix3 0 e f) = (ix3 g e f : S4x1024x384.Idx) := by
  refine funext fun a => Fin.ext ?_
  match a with
  | ⟨0, _⟩ => show win0_2.index t 0 * win0_2.size 0 + 1 * 0 = g.val; rw [(idx2 t).1, hg]; omega
  | ⟨1, _⟩ => show win0_2.index t 1 * win0_2.size 1 + 1 * e.val = e.val; rw [(idx2 t).2.1]; omega
  | ⟨2, _⟩ => show win0_2.index t 2 * win0_2.size 2 + 1 * f.val = f.val; rw [(idx2 t).2.2]; omega

theorem flushed2 (c : Dev nD) (t : Fin cfg0.N) (hf : (cfg0.win 2).flush t = true) :
    (dats m 0 c).flushed 2 t = (win0_2.blk t).view.read (Elt Ideal) (dw (aX m c) (aDy m c)) := by
  rw [Value.flushed2]
  funext y
  obtain ⟨z, e, f, rfl⟩ : ∃ (z : Fin 1) (e : Fin 1024) (f : Fin 384), y = ix3 z e f :=
    ⟨y 0, y 1, y 2, by funext a; match a with | ⟨0, _⟩ => rfl | ⟨1, _⟩ => rfl | ⟨2, _⟩ => rfl⟩
  obtain rfl : z = 0 := Subsingleton.elim _ _
  have ht := lt_N t
  have hg : (⟨t.val / 2, by omega⟩ : Fin 4).val = t.val / 2 := rfl
  rw [View.read_apply]
  refine Eq.trans ?_ (congrArg (dw (aX m c) (aDy m c)) (emb2 t e f _ hg).symm)
  exact out_apply m c t ((flush0_2 t).mp hf) e f _ hg

/-- Every index of the result lies in the block written after its second half. -/
theorem cover2 (i : S4x1024x384.Idx) : ∃ t : Fin cfg0.N, (cfg0.win 2).flush t = true ∧ i ∈ ((cfg0.win 2).blk t).view.set := by
  have h0 : (i 0 : Nat) < 4 := (i 0).isLt
  have hN : cfg0.N = 8 := N_0
  have ht : 2 * (i 0 : Nat) + 1 < cfg0.N := by omega
  refine ⟨⟨_, ht⟩, (flush0_2 _).mpr (by dsimp only; omega), ?_⟩
  have e : (win0_2.blk ⟨_, ht⟩).view.emb (ix3 0 (i 1) (i 2)) = i :=
    (emb2 ⟨_, ht⟩ (i 1) (i 2) (i 0) (by dsimp only; omega)).trans
      (by funext a; match a with | ⟨0, _⟩ => rfl | ⟨1, _⟩ => rfl | ⟨2, _⟩ => rfl)
  exact (congrArg (fun j => j ∈ ((cfg0.win 2).blk ⟨_, ht⟩).view.set) e).mp (Finset.mem_map_of_mem _ (Finset.mem_univ _))

theorem final2 (c : Dev nD) : (dats m 0 c).arrAt 2 cfg0.N = dw (aX m c) (aDy m c) :=
  (dats m 0 c).arrAt_eq_of_cover 2 _ (fun t hf => flushed2 m c t hf) cover2

end
end Cert.Kernel10Ideal.DwIn
end
-- ==== Proof.DwInClaim.lean ====
/-
  The gradient of the input projection: the value of the reference, and the comparison.
-/
module

public import proofs.«01_k».proof.Proof.DwIn
public import proofs.«01_k».proof.Proof.Gen.Reference10Ideal.Run
public import proofs.«01_k».proof.Defs
public import Idealize.ShloMosaic.Lib.Quiescent

@[expose] public section

set_option maxRecDepth 16384

noncomputable section

namespace Cert.Reference10Ideal.DwIn

open Cert.Reference10Ideal Cert.Reference10Ideal.Gen Idealize.ShloMosaic Idealize.ShloMosaic.TcCoe Idealize.SL.Sem
open Cert.Hand

variable (x : FVec Ideal S4096x1024 .bf16) (dy : FVec Ideal S4096x1536 .bf16)

/-- The reference's result, of its arguments. -/
def dw : FVec Ideal S4x1024x384 .bf16 :=
  truncf .bf16 (transpose S4x1024x384 [0, 2, 1] (Host.dotGeneral dot_S4096x4x384_S4096x1024_S4x384x1024_0_0_12_1_n_n none (shapeCast S4096x4x384 (extf .f32 dy bitsLt_bf16_f32) shapeCasts_S4096x1536_S4096x4x384) (extf .f32 x bitsLt_bf16_f32)) transposes_S4x384x1024_S4x1024x384_0_2_1) bitsLt_bf16_f32

theorem dw_apply (g : Fin 4) (e : Fin 1024) (f : Fin 384) : dw x dy (ix3 g e f) = ∑ l : Fin 4096, dy (ix2 l (Cert.Kernel10Ideal.DwIn.col g f)) * x (ix2 l e) := by
  pointwise [dw]
  refine Finset.sum_congr rfl fun l _ => ?_
  rw [show (⟨g.val * 384 + f.val, _⟩ : Fin 1536) = Cert.Kernel10Ideal.DwIn.col g f from Fin.ext (by show g.val * 384 + f.val = 384 * g.val + f.val; rw [Nat.mul_comm])]

theorem dw_eq : Cert.Kernel10Ideal.DwIn.dw x dy = dw x dy := by
  funext i
  obtain ⟨g, e, f, rfl⟩ : ∃ (g : Fin 4) (e : Fin 1024) (f : Fin 384), i = ix3 g e f :=
    ⟨i 0, i 1, i 2, by funext x; match x with | ⟨0, _⟩ => rfl | ⟨1, _⟩ => rfl | ⟨2, _⟩ => rfl⟩
  rw [dw_apply]
  show ∑ l : Fin 4096, x (ix2 l e) * dy (ix2 l (Cert.Kernel10Ideal.DwIn.col g f)) = _
  exact Finset.sum_congr rfl fun l _ => mul_comm _ _

end Cert.Reference10Ideal.DwIn

namespace Cert.Proof.DwIn

open Idealize.ShloMosaic Idealize.ShloMosaic.TcCoe Idealize.SL.Sem
open Cert.Kernel10Ideal.DwIn

theorem frame_reference : Cert.quiescent_Reference10Ideal := fun m ρ _ =>
  (θ_run Cert.Reference10Ideal.defs _ _).mono (fun r h => ⟨fun c => (h c).2,
      Idealize.ShloMosaic.sem_eq_zero_of_no_sems (by decide) r.2⟩)
    (Cert.Reference10Ideal.Value.run (F := Ideal) m ρ)

theorem algebraic : Cert.algebraic_Kernel10Ideal_Reference10Ideal := by
  intro m ρ m' ρ' _ hagree
  refine ⟨fun c => Cert.Kernel10Ideal.DwIn.dw (aX m c) (aDy m c), ?_, ?_⟩
  · exact (θ_run Cert.Kernel10Ideal.defs _ _).mono
      (fun _ h c => ⟨(h c).1.trans (Cert.Kernel10Ideal.DwIn.final2 m c), (h c).2⟩)
      (Cert.Kernel10Ideal.Value.run_blocks (F := Ideal) m ρ)
  refine (θ_run Cert.Reference10Ideal.defs _ _).mono (fun _ h c => ⟨(h c).1.trans ?_, (h c).2⟩)
    (Cert.Reference10Ideal.Value.run (F := Ideal) m' ρ')
  rw [(hagree c).1, (hagree c).2]
  exact (Cert.Reference10Ideal.DwIn.dw_eq _ _).symm

end Cert.Proof.DwIn
end
-- ==== Proof.Rms.lean ====
/-
  The gradient through the two projections of a gated block and the norm before them: the value of the pipelined kernel.

  Grid point `t` takes rows `512 t` to `512 t + 511`. It forms the gradient of the normed input as eight shard products,
  from it the gradient of the block's input row by row, and adds its rows' share to the gradient of the gain, which
  stays in its buffer over all points and is written back after the last.
-/
module

public import proofs.«01_k».proof.Proof.Gen.Kernel4Ideal.Value
public import Idealize.ShloMosaic.Lib.Pointwise
public import Idealize.ShloMosaic.Lib.VecWindow
public import proofs.«01_k».proof.Proof.Reals

@[expose] public section

set_option maxRecDepth 16384

noncomputable section

namespace Cert.Kernel4Ideal.Rms

open Cert.Kernel4Ideal Cert.Kernel4Ideal.Gen Idealize.ShloMosaic Idealize.ShloMosaic.TcCoe Idealize.SL.Sem
open Cert.Hand

/-! ## The formulas -/

/-- The gradient of the normed input: both projections' products with their weights. -/
def dhAt (dg du : FVec Ideal S4x4096x704 .bf16) (wg wu : FVec Ideal S4x704x1024 .bf16) (l : Fin 4096) (d : Fin 1024) : EReal :=
  (∑ g : Fin 4, ∑ f : Fin 704, dg (ix3 g l f) * wg (ix3 g f d)) + ∑ g : Fin 4, ∑ f : Fin 704, du (ix3 g l f) * wu (ix3 g f d)

/-- One over the root mean square of a row. -/
def rr (x : Fin 1024 → EReal) : EReal :=
  Ideal.rsqrt (Ideal.div (∑ k : Fin 1024, x k * x k) (Ideal.ofBits .f32 0x44800000#32) + Ideal.ofBits .f32 0x358637BD#32)

/-- The gradient of a row's input at column `d`: of the row `x`, the gradient `h` of its normed form, the gain `g` and the
    gradient `y` that arrives past the block. -/
def rowAt (h x g y : Fin 1024 → EReal) (d : Fin 1024) : EReal :=
  y d + rr x * (h d * g d - x d * rr x * Ideal.div (∑ k : Fin 1024, h k * g k * (x k * rr x)) (Ideal.ofBits .f32 0x44800000#32))

/-- A row's share of the gradient of the gain. -/
def gainAt (h x : Fin 1024 → EReal) (d : Fin 1024) : EReal := h d * (x d * rr x)

/-! ## The payloads at an index -/

theorem pay5_apply (v0 v5 v11 v17 : Vec Ideal S1x512x704 .bf16) (v2 v7 v13 v19 : Vec Ideal S1x704x1024 .bf16)
    (r : Fin 512) (d : Fin 1024) : k0_pay5 v0 v2 v5 v7 v11 v13 v17 v19 (ix2 r d)
      = (∑ f : Fin 704, v0 (ix3 0 r f) * v2 (ix3 0 f d)) + (∑ f : Fin 704, v5 (ix3 0 r f) * v7 (ix3 0 f d))
        + (∑ f : Fin 704, v11 (ix3 0 r f) * v13 (ix3 0 f d)) + (∑ f : Fin 704, v17 (ix3 0 r f) * v19 (ix3 0 f d)) := by
  pointwise [k0_pay5]

theorem pay7_apply (a : FVec Ideal S512x1024 .f32) (v0 v5 v11 v17 : Vec Ideal S1x512x704 .bf16) (v2 v7 v13 v19 : Vec Ideal S1x704x1024 .bf16)
    (r : Fin 512) (d : Fin 1024) : k0_pay7 a (k0_pay6 v0) v2 v5 v7 v11 v13 v17 v19 (ix2 r d)
      = a (ix2 r d) + (∑ f : Fin 704, v0 (ix3 0 r f) * v2 (ix3 0 f d)) + (∑ f : Fin 704, v5 (ix3 0 r f) * v7 (ix3 0 f d))
        + (∑ f : Fin 704, v11 (ix3 0 r f) * v13 (ix3 0 f d)) + (∑ f : Fin 704, v17 (ix3 0 r f) * v19 (ix3 0 f d)) := by
  pointwise [k0_pay7, k0_pay6]

theorem pay8_apply (x : Vec Ideal S512x1024 .f32) (r : Fin 512) : k0_pay8 x (ix2 r 0) = rr fun k => x (ix2 r k) := by
  pointwise [k0_pay8]
  rfl

theorem pay9_apply (x : Vec Ideal S512x1024 .f32) (r : Fin 512) (d : Fin 1024) : k0_pay9 x (ix2 r d) = x (ix2 r d) * rr fun k => x (ix2 r k) := by
  pointwise [k0_pay9, pay8_apply]

theorem pay3_apply (h : FVec Ideal S512x1024 .f32) (x : Vec Ideal S512x1024 .f32) (g : Vec Ideal S1x1024 .f32) (y : Vec Ideal S512x1024 .f32)
    (r : Fin 512) (d : Fin 1024) : k0_pay3 h (k0_pay8 x) (k0_pay9 x) g y (ix2 r d)
      = rowAt (fun k => h (ix2 r k)) (fun k => x (ix2 r k)) (fun k => g (ix2 0 k)) (fun k => y (ix2 r k)) d := by
  pointwise [k0_pay3, pay8_apply, pay9_apply]
  rfl

theorem pay4_apply (h : FVec Ideal S512x1024 .f32) (x : Vec Ideal S512x1024 .f32) (g : Vec Ideal S1x1024 .f32) (y : Vec Ideal S512x1024 .f32)
    (r : Fin 512) (d : Fin 1024) : k0_pay4 h (k0_pay8 x) (k0_pay9 x) g y (ix2 r d)
      = rowAt (fun k => h (ix2 r k)) (fun k => x (ix2 r k)) (fun k => g (ix2 0 k)) (fun k => y (ix2 r k)) d := by
  pointwise [k0_pay4, pay3_apply]

theorem pay1_apply (h : FVec Ideal S512x1024 .f32) (x : Vec Ideal S512x1024 .f32) (d : Fin 1024) :
    k0_pay1 h (k0_pay9 x) (ix2 0 d) = ∑ r : Fin 512, gainAt (fun k => h (ix2 r k)) (fun k => x (ix2 r k)) d := by
  pointwise [k0_pay1, pay9_apply]
  rfl

theorem pay2_apply (h : FVec Ideal S512x1024 .f32) (x : Vec Ideal S512x1024 .f32) (o : Vec Ideal S1x1024 .f32) (d : Fin 1024) :
    k0_pay2 h (k0_pay9 x) o (ix2 0 d) = o (ix2 0 d) + ∑ r : Fin 512, gainAt (fun k => h (ix2 r k)) (fun k => x (ix2 r k)) d := by
  pointwise [k0_pay2, pay1_apply]

/-! ## The blocks -/

section
variable {F : FTy → Type} [FloatOps F]
variable (m : (ℓ : Loc nD τ sig) → Buf (Elt F) ℓ)

theorem idx0 : ∀ t : Fin cfg0.N, win0_0.index t 0 * win0_0.size 0 = 0 ∧ win0_0.index t 1 * win0_0.size 1 = 512 * t.val ∧ win0_0.index t 2 * win0_0.size 2 = 0 :=
  (by decide +kernel : ∀ t : Fin grid0.N, win0_0.index t 0 * win0_0.size 0 = 0 ∧ win0_0.index t 1 * win0_0.size 1 = 512 * t.val ∧ win0_0.index t 2 * win0_0.size 2 = 0)
theorem idx1 : ∀ t : Fin cfg0.N, win0_1.index t 0 * win0_1.size 0 = 0 ∧ win0_1.index t 1 * win0_1.size 1 = 512 * t.val ∧ win0_1.index t 2 * win0_1.size 2 = 0 :=
  (by decide +kernel : ∀ t : Fin grid0.N, win0_1.index t 0 * win0_1.size 0 = 0 ∧ win0_1.index t 1 * win0_1.size 1 = 512 * t.val ∧ win0_1.index t 2 * win0_1.size 2 = 0)
theorem idx2 : ∀ t : Fin cfg0.N, win0_2.index t 0 * win0_2.size 0 = 0 ∧ win0_2.index t 1 * win0_2.size 1 = 0 ∧ win0_2.index t 2 * win0_2.size 2 = 0 :=
  (by decide +kernel : ∀ t : Fin grid0.N, win0_2.index t 0 * win0_2.size 0 = 0 ∧ win0_2.index t 1 * win0_2.size 1 = 0 ∧ win0_2.index t 2 * win0_2.size 2 = 0)
theorem idx3 : ∀ t : Fin cfg0.N, win0_3.index t 0 * win0_3.size 0 = 0 ∧ win0_3.index t 1 * win0_3.size 1 = 0 ∧ win0_3.index t 2 * win0_3.size 2 = 0 :=
  (by decide +kernel : ∀ t : Fin grid0.N, win0_3.index t 0 * win0_3.size 0 = 0 ∧ win0_3.index t 1 * win0_3.size 1 = 0 ∧ win0_3.index t 2 * win0_3.size 2 = 0)
theorem idx4 : ∀ t : Fin cfg0.N, win0_4.index t 0 * win0_4.size 0 = 512 * t.val ∧ win0_4.index t 1 * win0_4.size 1 = 0 :=
  (by decide +kernel : ∀ t : Fin grid0.N, win0_4.index t 0 * win0_4.size 0 = 512 * t.val ∧ win0_4.index t 1 * win0_4.size 1 = 0)
theorem idx5 : ∀ t : Fin cfg0.N, win0_5.index t 0 * win0_5.size 0 = 0 ∧ win0_5.index t 1 * win0_5.size 1 = 0 :=
  (by decide +kernel : ∀ t : Fin grid0.N, win0_5.index t 0 * win0_5.size 0 = 0 ∧ win0_5.index t 1 * win0_5.size 1 = 0)
theorem idx6 : ∀ t : Fin cfg0.N, win0_6.index t 0 * win0_6.size 0 = 512 * t.val ∧ win0_6.index t 1 * win0_6.size 1 = 0 :=
  (by decide +kernel : ∀ t : Fin grid0.N, win0_6.index t 0 * win0_6.size 0 = 512 * t.val ∧ win0_6.index t 1 * win0_6.size 1 = 0)
theorem iblk0 (c : Dev nD) (t : Fin cfg0.N) (r : Fin 512) (f : Fin 704) (g : Fin 4) (l : Fin 4096) (hl : l.val = 512 * t.val + r.val) :
    iblk m c 0 t (ix3 g r f) = m ((c : Thread nD τ).loc main_arg0) (ix3 g l f) := by
  unfold iblk
  rw [View.read_apply]
  refine congrArg (m ((c : Thread nD τ).loc main_arg0)) (funext fun a => Fin.ext ?_)
  match a with
  | ⟨0, _⟩ => show win0_0.index t 0 * win0_0.size 0 + 1 * g.val = g.val; rw [(idx0 t).1]; omega
  | ⟨1, _⟩ => show win0_0.index t 1 * win0_0.size 1 + 1 * r.val = l.val; rw [(idx0 t).2.1, hl]; omega
  | ⟨2, _⟩ => show win0_0.index t 2 * win0_0.size 2 + 1 * f.val = f.val; rw [(idx0 t).2.2]; omega
theorem iblk1 (c : Dev nD) (t : Fin cfg0.N) (r : Fin 512) (f : Fin 704) (g : Fin 4) (l : Fin 4096) (hl : l.val = 512 * t.val + r.val) :
    iblk m c 1 t (ix3 g r f) = m ((c : Thread nD τ).loc main_arg1) (ix3 g l f) := by
  unfold iblk
  rw [View.read_apply]
  refine congrArg (m ((c : Thread nD τ).loc main_arg1)) (funext fun a => Fin.ext ?_)
  match a with
  | ⟨0, _⟩ => show win0_1.index t 0 * win0_1.size 0 + 1 * g.val = g.val; rw [(idx1 t).1]; omega
  | ⟨1, _⟩ => show win0_1.index t 1 * win0_1.size 1 + 1 * r.val = l.val; rw [(idx1 t).2.1, hl]; omega
  | ⟨2, _⟩ => show win0_1.index t 2 * win0_1.size 2 + 1 * f.val = f.val; rw [(idx1 t).2.2]; omega
theorem iblk2 (c : Dev nD) (t : Fin cfg0.N) (g : Fin 4) (f : Fin 704) (d : Fin 1024)  :
    iblk m c 2 t (ix3 g f d) = m ((c : Thread nD τ).loc main_arg2) (ix3 g f d) := by
  unfold iblk
  rw [View.read_apply]
  refine congrArg (m ((c : Thread nD τ).loc main_arg2)) (funext fun a => Fin.ext ?_)
  match a with
  | ⟨0, _⟩ => show win0_2.index t 0 * win0_2.size 0 + 1 * g.val = g.val; rw [(idx2 t).1]; omega
  | ⟨1, _⟩ => show win0_2.index t 1 * win0_2.size 1 + 1 * f.val = f.val; rw [(idx2 t).2.1]; omega
  | ⟨2, _⟩ => show win0_2.index t 2 * win0_2.size 2 + 1 * d.val = d.val; rw [(idx2 t).2.2]; omega
theorem iblk3 (c : Dev nD) (t : Fin cfg0.N) (g : Fin 4) (f : Fin 704) (d : Fin 1024)  :
    iblk m c 3 t (ix3 g f d) = m ((c : Thread nD τ).loc main_arg3) (ix3 g f d) := by
  unfold iblk
  rw [View.read_apply]
  refine congrArg (m ((c : Thread nD τ).loc main_arg3)) (funext fun a => Fin.ext ?_)
  match a with
  | ⟨0, _⟩ => show win0_3.index t 0 * win0_3.size 0 + 1 * g.val = g.val; rw [(idx3 t).1]; omega
  | ⟨1, _⟩ => show win0_3.index t 1 * win0_3.size 1 + 1 * f.val = f.val; rw [(idx3 t).2.1]; omega
  | ⟨2, _⟩ => show win0_3.index t 2 * win0_3.size 2 + 1 * d.val = d.val; rw [(idx3 t).2.2]; omega
theorem iblk4 (c : Dev nD) (t : Fin cfg0.N) (r : Fin 512) (d : Fin 1024) (l : Fin 4096) (hl : l.val = 512 * t.val + r.val) :
    iblk m c 4 t (ix2 r d) = m ((c : Thread nD τ).loc main_arg4) (ix2 l d) := by
  unfold iblk
  rw [View.read_apply]
  refine congrArg (m ((c : Thread nD τ).loc main_arg4)) (funext fun a => Fin.ext ?_)
  match a with
  | ⟨0, _⟩ => show win0_4.index t 0 * win0_4.size 0 + 1 * r.val = l.val; rw [(idx4 t).1, hl]; omega
  | ⟨1, _⟩ => show win0_4.index t 1 * win0_4.size 1 + 1 * d.val = d.val; rw [(idx4 t).2]; omega
theorem iblk6 (c : Dev nD) (t : Fin cfg0.N) (r : Fin 512) (d : Fin 1024) (l : Fin 4096) (hl : l.val = 512 * t.val + r.val) :
    iblk m c 6 t (ix2 r d) = m ((c : Thread nD τ).loc main_arg6) (ix2 l d) := by
  unfold iblk
  rw [View.read_apply]
  refine congrArg (m ((c : Thread nD τ).loc main_arg6)) (funext fun a => Fin.ext ?_)
  match a with
  | ⟨0, _⟩ => show win0_6.index t 0 * win0_6.size 0 + 1 * r.val = l.val; rw [(idx6 t).1, hl]; omega
  | ⟨1, _⟩ => show win0_6.index t 1 * win0_6.size 1 + 1 * d.val = d.val; rw [(idx6 t).2]; omega
theorem iblk5 (c : Dev nD) (t : Fin cfg0.N) (d : Fin 1024)  :
    iblk m c 5 t (ix2 0 d) = m ((c : Thread nD τ).loc main_arg5) (ix2 0 d) := by
  unfold iblk
  rw [View.read_apply]
  refine congrArg (m ((c : Thread nD τ).loc main_arg5)) (funext fun a => Fin.ext ?_)
  match a with
  | ⟨0, _⟩ => show win0_5.index t 0 * win0_5.size 0 + 1 * 0 = 0; rw [(idx5 t).1]
  | ⟨1, _⟩ => show win0_5.index t 1 * win0_5.size 1 + 1 * d.val = d.val; rw [(idx5 t).2]; omega

theorem hz2 : (![0, 0] : Fin 2 → Nat) = fun _ => 0 := funext fun a => by fin_cases a <;> rfl

/-- A load of one shard of a stack of rows, at an index. -/
theorem ld_rows (x : Vec F S4x512x704 .bf16) (o : Fin 3 → Nat) (inb) (g : Fin 4) (r : Fin 512) (f : Fin 704) (h0 : o 0 = g.val) (h1 : o 1 = 0) (h2 : o 2 = 0) :
    View.ld x (Rect.unit (s := S4x512x704) o S1x512x704.size inb) (ix3 0 r f) = x (ix3 g r f) := by
  refine congrArg x (funext fun a => Fin.ext ?_)
  match a with
  | ⟨0, _⟩ => show o 0 + 1 * 0 = g.val; omega
  | ⟨1, _⟩ => show o 1 + 1 * r.val = r.val; omega
  | ⟨2, _⟩ => show o 2 + 1 * f.val = f.val; omega
/-- and of a stack of weights. -/
theorem ld_weights (x : Vec F S4x704x1024 .bf16) (o : Fin 3 → Nat) (inb) (g : Fin 4) (f : Fin 704) (d : Fin 1024) (h0 : o 0 = g.val) (h1 : o 1 = 0) (h2 : o 2 = 0) :
    View.ld x (Rect.unit (s := S4x704x1024) o S1x704x1024.size inb) (ix3 0 f d) = x (ix3 g f d) := by
  refine congrArg x (funext fun a => Fin.ext ?_)
  match a with
  | ⟨0, _⟩ => show o 0 + 1 * 0 = g.val; omega
  | ⟨1, _⟩ => show o 1 + 1 * f.val = f.val; omega
  | ⟨2, _⟩ => show o 2 + 1 * d.val = d.val; omega

/-- The gradient of the normed input that the body forms of its four blocks. -/
def dhb (x0 x1 : Vec F S4x512x704 .bf16) (x2 x3 : Vec F S4x704x1024 .bf16) : FVec F S512x1024 .f32 :=
  k0_pay7 (k0_pay5 (View.ld x0 (Rect.unit (s := S4x512x704) ![0, 0, 0] S1x512x704.size inb_S4x512x704_S1x512x704_0_0_0)) (View.ld x2 (Rect.unit (s := S4x704x1024) ![0, 0, 0] S1x704x1024.size inb_S4x704x1024_S1x704x1024_0_0_0))
    (View.ld x0 (Rect.unit (s := S4x512x704) ![1, 0, 0] S1x512x704.size inb_S4x512x704_S1x512x704_1_0_0)) (View.ld x2 (Rect.unit (s := S4x704x1024) ![1, 0, 0] S1x704x1024.size inb_S4x704x1024_S1x704x1024_1_0_0))
    (View.ld x0 (Rect.unit (s := S4x512x704) ![2, 0, 0] S1x512x704.size inb_S4x512x704_S1x512x704_2_0_0)) (View.ld x2 (Rect.unit (s := S4x704x1024) ![2, 0, 0] S1x704x1024.size inb_S4x704x1024_S1x704x1024_2_0_0))
    (View.ld x0 (Rect.unit (s := S4x512x704) ![3, 0, 0] S1x512x704.size inb_S4x512x704_S1x512x704_3_0_0)) (View.ld x2 (Rect.unit (s := S4x704x1024) ![3, 0, 0] S1x704x1024.size inb_S4x704x1024_S1x704x1024_3_0_0)))
    (k0_pay6 (View.ld x1 (Rect.unit (s := S4x512x704) ![0, 0, 0] S1x512x704.size inb_S4x512x704_S1x512x704_0_0_0))) (View.ld x3 (Rect.unit (s := S4x704x1024) ![0, 0, 0] S1x704x1024.size inb_S4x704x1024_S1x704x1024_0_0_0)) (View.ld x1 (Rect.unit (s := S4x512x704) ![1, 0, 0] S1x512x704.size inb_S4x512x704_S1x512x704_1_0_0)) (View.ld x3 (Rect.unit (s := S4x704x1024) ![1, 0, 0] S1x704x1024.size inb_S4x704x1024_S1x704x1024_1_0_0))
    (View.ld x1 (Rect.unit (s := S4x512x704) ![2, 0, 0] S1x512x704.size inb_S4x512x704_S1x512x704_2_0_0)) (View.ld x3 (Rect.unit (s := S4x704x1024) ![2, 0, 0] S1x704x1024.size inb_S4x704x1024_S1x704x1024_2_0_0))
    (View.ld x1 (Rect.unit (s := S4x512x704) ![3, 0, 0] S1x512x704.size inb_S4x512x704_S1x512x704_3_0_0)) (View.ld x3 (Rect.unit (s := S4x704x1024) ![3, 0, 0] S1x704x1024.size inb_S4x704x1024_S1x704x1024_3_0_0))

theorem outA7 (c : Dev nD) (t : Fin cfg0.N) (h0 : t.val % 8 = 0) (h1 : ¬1 ≤ t.val) :
    (outsAt0 m c t.val t.isLt).1 = k0_pay3 (dhb (iblk m c 0 t) (iblk m c 1 t) (iblk m c 2 t) (iblk m c 3 t)) (k0_pay8 (iblk m c 4 t)) (k0_pay9 (iblk m c 4 t)) (iblk m c 5 t) (iblk m c 6 t) := by
  rw [outsAt0_A m c t h0 h1]
  unfold out0_A_7
  dsimp only
  unfold kernelRun0_A
  dsimp only
  sl_unfold_words
  rw [View.read_writes_full]
  simp only [View.readAt_eq_ld, (hs0_0 t).read_unread, (hs0_1 t).read_unread, (hs0_2 t).read_unread, (hs0_3 t).read_unread, (hs0_4 t).read_unread, (hs0_5 t).read_unread, (hs0_6 t).read_unread]
  exact congr (congr (congr (congr (congrArg k0_pay3 rfl) (congrArg k0_pay8 (View.ld_unit_zero (S := S512x1024) hz2 _ _))) (congrArg k0_pay9 (View.ld_unit_zero (S := S512x1024) hz2 _ _))) (View.ld_unit_zero (S := S1x1024) hz2 _ _)) (View.ld_unit_zero (S := S512x1024) hz2 _ _)
theorem outA8 (c : Dev nD) (t : Fin cfg0.N) (h0 : t.val % 8 = 0) (h1 : ¬1 ≤ t.val) :
    (outsAt0 m c t.val t.isLt).2.1 = k0_pay4 (dhb (iblk m c 0 t) (iblk m c 1 t) (iblk m c 2 t) (iblk m c 3 t)) (k0_pay8 (iblk m c 4 t)) (k0_pay9 (iblk m c 4 t)) (iblk m c 5 t) (iblk m c 6 t) := by
  rw [outsAt0_A m c t h0 h1]
  unfold out0_A_8
  dsimp only
  unfold kernelRun0_A
  dsimp only
  sl_unfold_words
  rw [View.read_writes_full]
  simp only [View.readAt_eq_ld, (hs0_0 t).read_unread, (hs0_1 t).read_unread, (hs0_2 t).read_unread, (hs0_3 t).read_unread, (hs0_4 t).read_unread, (hs0_5 t).read_unread, (hs0_6 t).read_unread]
  exact congr (congr (congr (congr (congrArg k0_pay4 rfl) (congrArg k0_pay8 (View.ld_unit_zero (S := S512x1024) hz2 _ _))) (congrArg k0_pay9 (View.ld_unit_zero (S := S512x1024) hz2 _ _))) (View.ld_unit_zero (S := S1x1024) hz2 _ _)) (View.ld_unit_zero (S := S512x1024) hz2 _ _)
theorem outA9 (c : Dev nD) (t : Fin cfg0.N) (h0 : t.val % 8 = 0) (h1 : ¬1 ≤ t.val) :
    (outsAt0 m c t.val t.isLt).2.2 = k0_pay1 (dhb (iblk m c 0 t) (iblk m c 1 t) (iblk m c 2 t) (iblk m c 3 t)) (k0_pay9 (iblk m c 4 t)) := by
  rw [outsAt0_A m c t h0 h1]
  unfold out0_A_9
  dsimp only
  unfold kernelRun0_A
  dsimp only
  sl_unfold_words
  rw [View.read_writes_full]
  simp only [View.readAt_eq_ld, (hs0_0 t).read_unread, (hs0_1 t).read_unread, (hs0_2 t).read_unread, (hs0_3 t).read_unread, (hs0_4 t).read_unread, (hs0_5 t).read_unread, (hs0_6 t).read_unread]
  exact congr (congrArg k0_pay1 rfl) (congrArg k0_pay9 (View.ld_unit_zero (S := S512x1024) hz2 _ _))
theorem outB7 (c : Dev nD) (t : Fin cfg0.N) (h0 : ¬t.val % 8 = 0) (h1 : 1 ≤ t.val) :
    (outsAt0 m c t.val t.isLt).1 = k0_pay3 (dhb (iblk m c 0 t) (iblk m c 1 t) (iblk m c 2 t) (iblk m c 3 t)) (k0_pay8 (iblk m c 4 t)) (k0_pay9 (iblk m c 4 t)) (iblk m c 5 t) (iblk m c 6 t) := by
  rw [outsAt0_B m c t h0 h1]
  unfold out0_B_7
  dsimp only
  unfold kernelRun0_B
  dsimp only
  sl_unfold_words
  rw [View.read_writes_full]
  simp only [View.readAt_eq_ld, (hs0_0 t).read_unread, (hs0_1 t).read_unread, (hs0_2 t).read_unread, (hs0_3 t).read_unread, (hs0_4 t).read_unread, (hs0_5 t).read_unread, (hs0_6 t).read_unread]
  exact congr (congr (congr (congr (congrArg k0_pay3 rfl) (congrArg k0_pay8 (View.ld_unit_zero (S := S512x1024) hz2 _ _))) (congrArg k0_pay9 (View.ld_unit_zero (S := S512x1024) hz2 _ _))) (View.ld_unit_zero (S := S1x1024) hz2 _ _)) (View.ld_unit_zero (S := S512x1024) hz2 _ _)
theorem outB8 (c : Dev nD) (t : Fin cfg0.N) (h0 : ¬t.val % 8 = 0) (h1 : 1 ≤ t.val) :
    (outsAt0 m c t.val t.isLt).2.1 = k0_pay4 (dhb (iblk m c 0 t) (iblk m c 1 t) (iblk m c 2 t) (iblk m c 3 t)) (k0_pay8 (iblk m c 4 t)) (k0_pay9 (iblk m c 4 t)) (iblk m c 5 t) (iblk m c 6 t) := by
  rw [outsAt0_B m c t h0 h1]
  unfold out0_B_8
  dsimp only
  unfold kernelRun0_B
  dsimp only
  sl_unfold_words
  rw [View.read_writes_full]
  simp only [View.readAt_eq_ld, (hs0_0 t).read_unread, (hs0_1 t).read_unread, (hs0_2 t).read_unread, (hs0_3 t).read_unread, (hs0_4 t).read_unread, (hs0_5 t).read_unread, (hs0_6 t).read_unread]
  exact congr (congr (congr (congr (congrArg k0_pay4 rfl) (congrArg k0_pay8 (View.ld_unit_zero (S := S512x1024) hz2 _ _))) (congrArg k0_pay9 (View.ld_unit_zero (S := S512x1024) hz2 _ _))) (View.ld_unit_zero (S := S1x1024) hz2 _ _)) (View.ld_unit_zero (S := S512x1024) hz2 _ _)
theorem outB9 (c : Dev nD) (t : Fin cfg0.N) (h0 : ¬t.val % 8 = 0) (h1 : 1 ≤ t.val) :
    (outsAt0 m c t.val t.isLt).2.2 = k0_pay2 (dhb (iblk m c 0 t) (iblk m c 1 t) (iblk m c 2 t) (iblk m c 3 t)) (k0_pay9 (iblk m c 4 t)) (outsAt0 m c (t.val - 1) (Nat.lt_of_le_of_lt (Nat.sub_le _ _) t.isLt)).2.2 := by
  rw [outsAt0_B m c t h0 h1]
  unfold out0_B_9
  dsimp only
  unfold kernelRun0_B
  dsimp only
  sl_unfold_words
  rw [View.read_writes_full]
  simp only [View.readAt_eq_ld, (hs0_0 t).read_unread, (hs0_1 t).read_unread, (hs0_2 t).read_unread, (hs0_3 t).read_unread, (hs0_4 t).read_unread, (hs0_5 t).read_unread, (hs0_6 t).read_unread]
  exact congr (congr (congrArg k0_pay2 rfl) (congrArg k0_pay9 (View.ld_unit_zero (S := S512x1024) hz2 _ _))) ((View.ld_unit_zero (S := S1x1024) hz2 _ _).trans ((hs0_9 t).read_unread _))

/-- What every point leaves in the two row results' buffers. -/
theorem out7 (c : Dev nD) (t : Fin cfg0.N) : (outsAt0 m c t.val t.isLt).1 = k0_pay3 (dhb (iblk m c 0 t) (iblk m c 1 t) (iblk m c 2 t) (iblk m c 3 t)) (k0_pay8 (iblk m c 4 t)) (k0_pay9 (iblk m c 4 t)) (iblk m c 5 t) (iblk m c 6 t) := by
  have hN : t.val < 8 := lt_of_lt_of_eq t.isLt N_0
  by_cases h : t.val = 0
  · exact outA7 m c t (by omega) (by omega)
  · exact outB7 m c t (by omega) (by omega)
theorem out8 (c : Dev nD) (t : Fin cfg0.N) : (outsAt0 m c t.val t.isLt).2.1 = k0_pay4 (dhb (iblk m c 0 t) (iblk m c 1 t) (iblk m c 2 t) (iblk m c 3 t)) (k0_pay8 (iblk m c 4 t)) (k0_pay9 (iblk m c 4 t)) (iblk m c 5 t) (iblk m c 6 t) := by
  have hN : t.val < 8 := lt_of_lt_of_eq t.isLt N_0
  by_cases h : t.val = 0
  · exact outA8 m c t (by omega) (by omega)
  · exact outB8 m c t (by omega) (by omega)

end

/-! ## The result arrays -/

section
variable (m : (ℓ : Loc nD τ sig) → Buf (Elt Ideal) ℓ)

theorem lt_N (t : Fin cfg0.N) : t.val < 8 := lt_of_lt_of_eq t.isLt N_0

/-- The device's arguments, by name. -/
abbrev aDg (c : Dev nD) : FVec Ideal S4x4096x704 .bf16 := m ((c : Thread nD τ).loc main_arg0)
abbrev aDu (c : Dev nD) : FVec Ideal S4x4096x704 .bf16 := m ((c : Thread nD τ).loc main_arg1)
abbrev aWg (c : Dev nD) : FVec Ideal S4x704x1024 .bf16 := m ((c : Thread nD τ).loc main_arg2)
abbrev aWu (c : Dev nD) : FVec Ideal S4x704x1024 .bf16 := m ((c : Thread nD τ).loc main_arg3)
abbrev aX (c : Dev nD) : FVec Ideal S4096x1024 .f32 := m ((c : Thread nD τ).loc main_arg4)
abbrev aGain (c : Dev nD) : FVec Ideal S1x1024 .f32 := m ((c : Thread nD τ).loc main_arg5)
abbrev aY (c : Dev nD) : FVec Ideal S4096x1024 .f32 := m ((c : Thread nD τ).loc main_arg6)

/-- The gradient of the block's input, of the gradient of its normed form. -/
def dx (h x : Fin 4096 → Fin 1024 → EReal) (gain : FVec Ideal S1x1024 .f32) (y : Fin 4096 → Fin 1024 → EReal) : FVec Ideal S4096x1024 .f32 :=
  fun i => rowAt (h (i 0)) (x (i 0)) (fun k => gain (ix2 0 k)) (y (i 0)) (i 1)
/-- The same, in half the width. -/
def dxb (h x : Fin 4096 → Fin 1024 → EReal) (gain : FVec Ideal S1x1024 .f32) (y : Fin 4096 → Fin 1024 → EReal) : FVec Ideal S4096x1024 .bf16 :=
  fun i => rowAt (h (i 0)) (x (i 0)) (fun k => gain (ix2 0 k)) (y (i 0)) (i 1)
/-- The gradient of the gain. -/
def dgain (h x : Fin 4096 → Fin 1024 → EReal) : FVec Ideal S1x1024 .f32 :=
  fun i => ∑ l : Fin 4096, gainAt (h l) (x l) (i 1)

/-- One shard's product of the block, of the whole arrays. -/
theorem shard_sum (x0 : Vec Ideal S4x512x704 .bf16) (x1 : Vec Ideal S4x704x1024 .bf16) (hd : FVec Ideal S4x4096x704 .bf16) (w : FVec Ideal S4x704x1024 .bf16)
    (r : Fin 512) (d : Fin 1024) (l : Fin 4096) (h0 : ∀ f g, x0 (ix3 g r f) = hd (ix3 g l f)) (h1 : ∀ f g, x1 (ix3 g f d) = w (ix3 g f d))
    (o : Fin 3 → Nat) (i0) (i1) (g : Fin 4) (e0 : o 0 = g.val) (e1 : o 1 = 0) (e2 : o 2 = 0) :
    (∑ f : Fin 704, (show Vec Ideal S1x512x704 .bf16 from View.ld x0 (Rect.unit (s := S4x512x704) o S1x512x704.size i0)) (ix3 0 r f)
      * (show Vec Ideal S1x704x1024 .bf16 from View.ld x1 (Rect.unit (s := S4x704x1024) o S1x704x1024.size i1)) (ix3 0 f d))
      = ∑ f : Fin 704, hd (ix3 g l f) * w (ix3 g f d) :=
  Finset.sum_congr rfl fun f _ => congr (congrArg _ ((ld_rows x0 o i0 g r f e0 e1 e2).trans (h0 f g)))
    ((ld_weights x1 o i1 g f d e0 e1 e2).trans (h1 f g))

/-- The device's gradient of the normed input. -/
abbrev dhc (c : Dev nD) : Fin 4096 → Fin 1024 → EReal := dhAt (aDg m c) (aDu m c) (aWg m c) (aWu m c)
abbrev xc (c : Dev nD) : Fin 4096 → Fin 1024 → EReal := fun l k => aX m c (ix2 l k)
abbrev yc (c : Dev nD) : Fin 4096 → Fin 1024 → EReal := fun l k => aY m c (ix2 l k)

theorem dhb_apply (c : Dev nD) (t : Fin cfg0.N) (r : Fin 512) (d : Fin 1024) (l : Fin 4096) (hl : l.val = 512 * t.val + r.val) :
    dhb (iblk m c 0 t) (iblk m c 1 t) (iblk m c 2 t) (iblk m c 3 t) (ix2 r d) = dhc m c l d := by
  unfold dhb
  rw [pay7_apply, pay5_apply]
  unfold dhc dhAt
  rw [Fin.sum_univ_four, Fin.sum_univ_four]
  have e := shard_sum (iblk m c 0 t) (iblk m c 2 t) (aDg m c) (aWg m c) r d l (fun f g => iblk0 m c t r f g l hl) (fun f g => iblk2 m c t g f d)
  have e' := shard_sum (iblk m c 1 t) (iblk m c 3 t) (aDu m c) (aWu m c) r d l (fun f g => iblk1 m c t r f g l hl) (fun f g => iblk3 m c t g f d)
  have a0 := e _ inb_S4x512x704_S1x512x704_0_0_0 inb_S4x704x1024_S1x704x1024_0_0_0 0 rfl rfl rfl
  have a1 := e _ inb_S4x512x704_S1x512x704_1_0_0 inb_S4x704x1024_S1x704x1024_1_0_0 1 rfl rfl rfl
  have a2 := e _ inb_S4x512x704_S1x512x704_2_0_0 inb_S4x704x1024_S1x704x1024_2_0_0 2 rfl rfl rfl
  have a3 := e _ inb_S4x512x704_S1x512x704_3_0_0 inb_S4x704x1024_S1x704x1024_3_0_0 3 rfl rfl rfl
  have b0 := e' _ inb_S4x512x704_S1x512x704_0_0_0 inb_S4x704x1024_S1x704x1024_0_0_0 0 rfl rfl rfl
  have b1 := e' _ inb_S4x512x704_S1x512x704_1_0_0 inb_S4x704x1024_S1x704x1024_1_0_0 1 rfl rfl rfl
  have b2 := e' _ inb_S4x512x704_S1x512x704_2_0_0 inb_S4x704x1024_S1x704x1024_2_0_0 2 rfl rfl rfl
  have b3 := e' _ inb_S4x512x704_S1x512x704_3_0_0 inb_S4x704x1024_S1x704x1024_3_0_0 3 rfl rfl rfl
  rw [← a0, ← a1, ← a2, ← a3, ← b0, ← b1, ← b2, ← b3]
  simp only [add_assoc]

/-- The rows that point `t` computes with, as functions of the column. -/
theorem dh_row (c : Dev nD) (t : Fin cfg0.N) (r : Fin 512) (l : Fin 4096) (hl : l.val = 512 * t.val + r.val) :
    (fun k : Fin 1024 => dhb (iblk m c 0 t) (iblk m c 1 t) (iblk m c 2 t) (iblk m c 3 t) (ix2 r k)) = dhc m c l :=
  funext fun k => dhb_apply m c t r k l hl
theorem x_row (c : Dev nD) (t : Fin cfg0.N) (r : Fin 512) (l : Fin 4096) (hl : l.val = 512 * t.val + r.val) :
    (fun k : Fin 1024 => iblk m c 4 t (ix2 r k)) = xc m c l := funext fun k => iblk4 m c t r k l hl
theorem y_row (c : Dev nD) (t : Fin cfg0.N) (r : Fin 512) (l : Fin 4096) (hl : l.val = 512 * t.val + r.val) :
    (fun k : Fin 1024 => iblk m c 6 t (ix2 r k)) = yc m c l := funext fun k => iblk6 m c t r k l hl
theorem g_row (c : Dev nD) (t : Fin cfg0.N) :
    (fun k : Fin 1024 => iblk m c 5 t (ix2 0 k)) = fun k => aGain m c (ix2 0 k) := funext fun k => iblk5 m c t k

theorem idx7 : ∀ t : Fin cfg0.N, win0_7.index t 0 * win0_7.size 0 = 512 * t.val ∧ win0_7.index t 1 * win0_7.size 1 = 0 :=
  (by decide +kernel : ∀ t : Fin grid0.N, win0_7.index t 0 * win0_7.size 0 = 512 * t.val ∧ win0_7.index t 1 * win0_7.size 1 = 0)
theorem idx8 : ∀ t : Fin cfg0.N, win0_8.index t 0 * win0_8.size 0 = 512 * t.val ∧ win0_8.index t 1 * win0_8.size 1 = 0 :=
  (by decide +kernel : ∀ t : Fin grid0.N, win0_8.index t 0 * win0_8.size 0 = 512 * t.val ∧ win0_8.index t 1 * win0_8.size 1 = 0)
theorem idx9 : ∀ t : Fin cfg0.N, win0_9.index t 0 * win0_9.size 0 = 0 ∧ win0_9.index t 1 * win0_9.size 1 = 0 :=
  (by decide +kernel : ∀ t : Fin grid0.N, win0_9.index t 0 * win0_9.size 0 = 0 ∧ win0_9.index t 1 * win0_9.size 1 = 0)
theorem emb7 (t : Fin cfg0.N) (r : Fin 512) (d : Fin 1024) (l : Fin 4096) (hl : l.val = 512 * t.val + r.val) :
    (win0_7.blk t).view.emb (ix2 r d) = (ix2 l d : S4096x1024.Idx) := by
  refine funext fun a => Fin.ext ?_
  match a with
  | ⟨0, _⟩ => show win0_7.index t 0 * win0_7.size 0 + 1 * r.val = l.val; rw [(idx7 t).1, hl]; omega
  | ⟨1, _⟩ => show win0_7.index t 1 * win0_7.size 1 + 1 * d.val = d.val; rw [(idx7 t).2]; omega
theorem emb8 (t : Fin cfg0.N) (r : Fin 512) (d : Fin 1024) (l : Fin 4096) (hl : l.val = 512 * t.val + r.val) :
    (win0_8.blk t).view.emb (ix2 r d) = (ix2 l d : S4096x1024.Idx) := by
  refine funext fun a => Fin.ext ?_
  match a with
  | ⟨0, _⟩ => show win0_8.index t 0 * win0_8.size 0 + 1 * r.val = l.val; rw [(idx8 t).1, hl]; omega
  | ⟨1, _⟩ => show win0_8.index t 1 * win0_8.size 1 + 1 * d.val = d.val; rw [(idx8 t).2]; omega
theorem emb9 (t : Fin cfg0.N) (d : Fin 1024)  :
    (win0_9.blk t).view.emb (ix2 0 d) = (ix2 0 d : S1x1024.Idx) := by
  refine funext fun a => Fin.ext ?_
  match a with
  | ⟨0, _⟩ => show win0_9.index t 0 * win0_9.size 0 + 1 * 0 = 0; rw [(idx9 t).1]
  | ⟨1, _⟩ => show win0_9.index t 1 * win0_9.size 1 + 1 * d.val = d.val; rw [(idx9 t).2]; omega

theorem flushed7 (c : Dev nD) (t : Fin cfg0.N) :
    (dats m 0 c).flushed 7 t = (win0_7.blk t).view.read (Elt Ideal) (dx (dhc m c) (xc m c) (aGain m c) (yc m c)) := by
  rw [Value.flushed7]
  funext y
  obtain ⟨r, d, rfl⟩ : ∃ (r : Fin 512) (d : Fin 1024), y = ix2 r d :=
    ⟨y 0, y 1, by funext a; match a with | ⟨0, _⟩ => rfl | ⟨1, _⟩ => rfl⟩
  have ht := lt_N t
  have hl : (⟨512 * t.val + r.val, by omega⟩ : Fin 4096).val = 512 * t.val + r.val := rfl
  rw [View.read_apply]
  refine Eq.trans ?_ (congrArg (dx (dhc m c) (xc m c) (aGain m c) (yc m c)) (emb7 t r d _ hl).symm)
  refine (congrFun (out7 m c t) (ix2 r d)).trans ((pay3_apply _ _ _ _ r d).trans ?_)
  exact congrFun (congr (congr (congr (congrArg rowAt (dh_row m c t r _ hl)) (x_row m c t r _ hl)) (g_row m c t)) (y_row m c t r _ hl)) d

/-- Every index of the result lies in the block of the point of its row block. -/
theorem cover7 (i : S4096x1024.Idx) : ∃ t : Fin cfg0.N, (cfg0.win 7).flush t = true ∧ i ∈ ((cfg0.win 7).blk t).view.set := by
  have h0 : (i 0 : Nat) < 4096 := (i 0).isLt
  have hN : cfg0.N = 8 := N_0
  have ht : (i 0 : Nat) / 512 < cfg0.N := by omega
  refine ⟨⟨_, ht⟩, flush0_7 _, ?_⟩
  have e : (win0_7.blk ⟨_, ht⟩).view.emb (ix2 ⟨(i 0 : Nat) % 512, by omega⟩ (i 1)) = i :=
    (emb7 ⟨_, ht⟩ ⟨(i 0 : Nat) % 512, by omega⟩ (i 1) (i 0) (by dsimp only; omega)).trans
      (by funext a; match a with | ⟨0, _⟩ => rfl | ⟨1, _⟩ => rfl)
  exact (congrArg (fun j => j ∈ ((cfg0.win 7).blk ⟨_, ht⟩).view.set) e).mp (Finset.mem_map_of_mem _ (Finset.mem_univ _))

theorem final7 (c : Dev nD) : (dats m 0 c).arrAt 7 cfg0.N = dx (dhc m c) (xc m c) (aGain m c) (yc m c) :=
  (dats m 0 c).arrAt_eq_of_cover 7 _ (fun t _ => flushed7 m c t) cover7

theorem flushed8 (c : Dev nD) (t : Fin cfg0.N) :
    (dats m 0 c).flushed 8 t = (win0_8.blk t).view.read (Elt Ideal) (dxb (dhc m c) (xc m c) (aGain m c) (yc m c)) := by
  rw [Value.flushed8]
  funext y
  obtain ⟨r, d, rfl⟩ : ∃ (r : Fin 512) (d : Fin 1024), y = ix2 r d :=
    ⟨y 0, y 1, by funext a; match a with | ⟨0, _⟩ => rfl | ⟨1, _⟩ => rfl⟩
  have ht := lt_N t
  have hl : (⟨512 * t.val + r.val, by omega⟩ : Fin 4096).val = 512 * t.val + r.val := rfl
  rw [View.read_apply]
  refine Eq.trans ?_ (congrArg (dxb (dhc m c) (xc m c) (aGain m c) (yc m c)) (emb8 t r d _ hl).symm)
  refine (congrFun (out8 m c t) (ix2 r d)).trans ((pay4_apply _ _ _ _ r d).trans ?_)
  exact congrFun (congr (congr (congr (congrArg rowAt (dh_row m c t r _ hl)) (x_row m c t r _ hl)) (g_row m c t)) (y_row m c t r _ hl)) d

/-- Every index of the result lies in the block of the point of its row block. -/
theorem cover8 (i : S4096x1024.Idx) : ∃ t : Fin cfg0.N, (cfg0.win 8).flush t = true ∧ i ∈ ((cfg0.win 8).blk t).view.set := by
  have h0 : (i 0 : Nat) < 4096 := (i 0).isLt
  have hN : cfg0.N = 8 := N_0
  have ht : (i 0 : Nat) / 512 < cfg0.N := by omega
  refine ⟨⟨_, ht⟩, flush0_8 _, ?_⟩
  have e : (win0_8.blk ⟨_, ht⟩).view.emb (ix2 ⟨(i 0 : Nat) % 512, by omega⟩ (i 1)) = i :=
    (emb8 ⟨_, ht⟩ ⟨(i 0 : Nat) % 512, by omega⟩ (i 1) (i 0) (by dsimp only; omega)).trans
      (by funext a; match a with | ⟨0, _⟩ => rfl | ⟨1, _⟩ => rfl)
  exact (congrArg (fun j => j ∈ ((cfg0.win 8).blk ⟨_, ht⟩).view.set) e).mp (Finset.mem_map_of_mem _ (Finset.mem_univ _))

theorem final8 (c : Dev nD) : (dats m 0 c).arrAt 8 cfg0.N = dxb (dhc m c) (xc m c) (aGain m c) (yc m c) :=
  (dats m 0 c).arrAt_eq_of_cover 8 _ (fun t _ => flushed8 m c t) cover8

/-! ## The gradient of the gain -/

/-- Row `l`'s share at column `d`; nothing past the last row. -/
def share (c : Dev nD) (d : Fin 1024) (l : ℕ) : EReal :=
  if h : l < 4096 then gainAt (dhc m c ⟨l, h⟩) (xc m c ⟨l, h⟩) d else 0

/-- A point's rows add up to their stretch of the shares. -/
theorem point_sum (c : Dev nD) (t : Fin cfg0.N) (d : Fin 1024) :
    (∑ r : Fin 512, gainAt (fun k : Fin 1024 => dhb (iblk m c 0 t) (iblk m c 1 t) (iblk m c 2 t) (iblk m c 3 t) (ix2 r k)) (fun k : Fin 1024 => iblk m c 4 t (ix2 r k)) d)
      = ∑ r ∈ Finset.range 512, share m c d (512 * t.val + r) := by
  have ht := lt_N t
  rw [Finset.sum_range]
  refine Finset.sum_congr rfl fun r _ => ?_
  have h : 512 * t.val + r.val < 4096 := by omega
  rw [dh_row m c t r ⟨_, h⟩ rfl, x_row m c t r ⟨_, h⟩ rfl]
  unfold share
  rw [dif_pos h]

/-- After point `n` the buffer holds the shares of all rows so far. -/
theorem acc_apply (c : Dev nD) (d : Fin 1024) : ∀ (n : ℕ) (hn : n < cfg0.N),
    (outsAt0 m c n hn).2.2 (ix2 0 d) = ∑ l ∈ Finset.range (512 * (n + 1)), share m c d l
  | 0, hn => by
    refine (congrFun (outA9 m c ⟨0, hn⟩ rfl (by dsimp only; omega)) (ix2 0 d)).trans ((pay1_apply _ _ d).trans ?_)
    rw [point_sum m c ⟨0, hn⟩ d]
    simp only [Nat.mul_zero, Nat.zero_add, Nat.mul_one]
  | n + 1, hn => by
    have h8 : n + 1 < 8 := lt_of_lt_of_eq hn N_0
    refine (congrFun (outB9 m c ⟨n + 1, hn⟩ (by dsimp only; omega) (by dsimp only; omega)) (ix2 0 d)).trans ((pay2_apply _ _ _ d).trans ?_)
    rw [point_sum m c ⟨n + 1, hn⟩ d]
    have e := acc_apply c d n (by omega)
    rw [show 512 * (n + 1 + 1) = 512 * (n + 1) + 512 by ring, Finset.sum_range_add]
    exact congrArg (· + _) e

theorem dgain_eq (c : Dev nD) (d : Fin 1024) :
    (∑ l ∈ Finset.range 4096, share m c d l) = ∑ l : Fin 4096, gainAt (dhc m c l) (xc m c l) d := by
  rw [Finset.sum_range]
  refine Finset.sum_congr rfl fun l _ => ?_
  unfold share
  rw [dif_pos l.isLt]

theorem flushed9 (c : Dev nD) (t : Fin cfg0.N) (hf : (cfg0.win 9).flush t = true) :
    (dats m 0 c).flushed 9 t = (win0_9.blk t).view.read (Elt Ideal) (dgain (dhc m c) (xc m c)) := by
  rw [Value.flushed9]
  funext y
  obtain ⟨z, d, rfl⟩ : ∃ (z : Fin 1) (d : Fin 1024), y = ix2 z d :=
    ⟨y 0, y 1, by funext a; match a with | ⟨0, _⟩ => rfl | ⟨1, _⟩ => rfl⟩
  obtain rfl : z = 0 := Subsingleton.elim _ _
  have ht := lt_N t
  have h7 : t.val % 8 = 7 := (flush0_9 t).mp hf
  rw [View.read_apply]
  refine Eq.trans ?_ (congrArg (dgain (dhc m c) (xc m c)) (emb9 t d).symm)
  refine (acc_apply m c d t.val t.isLt).trans ?_
  rw [show 512 * (t.val + 1) = 4096 by omega]
  exact dgain_eq m c d

theorem cover9 (i : S1x1024.Idx) : ∃ t : Fin cfg0.N, (cfg0.win 9).flush t = true ∧ i ∈ ((cfg0.win 9).blk t).view.set := by
  have hN : cfg0.N = 8 := N_0
  have ht : 7 < cfg0.N := by omega
  refine ⟨⟨7, ht⟩, (flush0_9 _).mpr rfl, ?_⟩
  have e : (win0_9.blk ⟨7, ht⟩).view.emb (ix2 0 (i 1)) = i :=
    (emb9 ⟨7, ht⟩ (i 1)).trans (by funext a; match a with | ⟨0, _⟩ => exact Subsingleton.elim (α := Fin 1) _ _ | ⟨1, _⟩ => rfl)
  exact (congrArg (fun j => j ∈ ((cfg0.win 9).blk ⟨7, ht⟩).view.set) e).mp (Finset.mem_map_of_mem _ (Finset.mem_univ _))

theorem final9 (c : Dev nD) : (dats m 0 c).arrAt 9 cfg0.N = dgain (dhc m c) (xc m c) :=
  (dats m 0 c).arrAt_eq_of_cover 9 _ (fun t hf => flushed9 m c t hf) cover9

end
end Cert.Kernel4Ideal.Rms
end
-- ==== Proof.InProjBwd.lean ====
/-
  The gradient through the mixers' input projection and the norm before it: the value of the pipelined kernel.

  Grid point `t` takes rows `512 t` to `512 t + 511`. It forms the gradient of the normed input as four products, one for
  each column block of 384, from it the gradient of the block's input row by row, and adds its rows' share to the gradient
  of the gain, which stays in its buffer over all points and is written back after the last. The formulas of a row are
  those of the gated block (`Rms`).
-/
module

public import proofs.«01_k».proof.Proof.Gen.Kernel11Ideal.Value
public import Idealize.ShloMosaic.Lib.Pointwise
public import Idealize.ShloMosaic.Lib.VecWindow
public import proofs.«01_k».proof.Proof.Rms

@[expose] public section

set_option maxRecDepth 16384

noncomputable section

namespace Cert.Kernel11Ideal.InProjBwd

open Cert.Kernel11Ideal Cert.Kernel11Ideal.Gen Idealize.ShloMosaic Idealize.ShloMosaic.TcCoe Idealize.SL.Sem
open Cert.Hand
open Cert.Kernel4Ideal.Rms (rr rowAt gainAt dx dxb dgain)

/-! ## The formulas -/

/-- Column `f` of column block `g`. -/
def col (g : Fin 4) (f : Fin 384) : Fin 1536 := ⟨384 * g.val + f.val, by omega⟩

/-- The gradient of the normed input: the products with the four column blocks' weights. -/
def dhAt (du : FVec Ideal S4096x1536 .bf16) (w : FVec Ideal S4x1024x384 .bf16) (l : Fin 4096) (d : Fin 1024) : EReal :=
  ∑ g : Fin 4, ∑ f : Fin 384, du (ix2 l (col g f)) * w (ix3 g d f)

/-! ## The payloads at an index -/

theorem pay5_apply (v0 v4 v9 v14 : Vec Ideal S512x384 .bf16) (v1 v5 v10 v15 : Vec Ideal S1x1024x384 .bf16)
    (r : Fin 512) (d : Fin 1024) : k0_pay5 v0 v1 v4 v5 v9 v10 v14 v15 (ix2 r d)
      = (∑ f : Fin 384, v0 (ix2 r f) * v1 (ix3 0 d f)) + (∑ f : Fin 384, v4 (ix2 r f) * v5 (ix3 0 d f))
        + (∑ f : Fin 384, v9 (ix2 r f) * v10 (ix3 0 d f)) + (∑ f : Fin 384, v14 (ix2 r f) * v15 (ix3 0 d f)) := by
  pointwise [k0_pay5]

theorem pay6_apply (x : Vec Ideal S512x1024 .f32) (r : Fin 512) : k0_pay6 x (ix2 r 0) = rr fun k => x (ix2 r k) := by
  pointwise [k0_pay6]
  rfl

theorem pay7_apply (x : Vec Ideal S512x1024 .f32) (r : Fin 512) (d : Fin 1024) : k0_pay7 x (ix2 r d) = x (ix2 r d) * rr fun k => x (ix2 r k) := by
  pointwise [k0_pay7, pay6_apply]

theorem pay3_apply (h : FVec Ideal S512x1024 .f32) (x : Vec Ideal S512x1024 .f32) (g : Vec Ideal S1x1024 .f32) (y : Vec Ideal S512x1024 .f32)
    (r : Fin 512) (d : Fin 1024) : k0_pay3 h (k0_pay6 x) (k0_pay7 x) g y (ix2 r d)
      = rowAt (fun k => h (ix2 r k)) (fun k => x (ix2 r k)) (fun k => g (ix2 0 k)) (fun k => y (ix2 r k)) d := by
  pointwise [k0_pay3, pay6_apply, pay7_apply]
  rfl

theorem pay4_apply (h : FVec Ideal S512x1024 .f32) (x : Vec Ideal S512x1024 .f32) (g : Vec Ideal S1x1024 .f32) (y : Vec Ideal S512x1024 .f32)
    (r : Fin 512) (d : Fin 1024) : k0_pay4 h (k0_pay6 x) (k0_pay7 x) g y (ix2 r d)
      = rowAt (fun k => h (ix2 r k)) (fun k => x (ix2 r k)) (fun k => g (ix2 0 k)) (fun k => y (ix2 r k)) d := by
  pointwise [k0_pay4, pay3_apply]

theorem pay1_apply (h : FVec Ideal S512x1024 .f32) (x : Vec Ideal S512x1024 .f32) (d : Fin 1024) :
    k0_pay1 h (k0_pay7 x) (ix2 0 d) = ∑ r : Fin 512, gainAt (fun k => h (ix2 r k)) (fun k => x (ix2 r k)) d := by
  pointwise [k0_pay1, pay7_apply]
  rfl

theorem pay2_apply (h : FVec Ideal S512x1024 .f32) (x : Vec Ideal S512x1024 .f32) (o : Vec Ideal S1x1024 .f32) (d : Fin 1024) :
    k0_pay2 h (k0_pay7 x) o (ix2 0 d) = o (ix2 0 d) + ∑ r : Fin 512, gainAt (fun k => h (ix2 r k)) (fun k => x (ix2 r k)) d := by
  pointwise [k0_pay2, pay1_apply]

/-! ## The blocks -/

section
variable {F : FTy → Type} [FloatOps F]
variable (m : (ℓ : Loc nD τ sig) → Buf (Elt F) ℓ)

theorem idx0 : ∀ t : Fin cfg0.N, win0_0.index t 0 * win0_0.size 0 = 512 * t.val ∧ win0_0.index t 1 * win0_0.size 1 = 0 :=
  (by decide +kernel : ∀ t : Fin grid0.N, win0_0.index t 0 * win0_0.size 0 = 512 * t.val ∧ win0_0.index t 1 * win0_0.size 1 = 0)
theorem idx1 : ∀ t : Fin cfg0.N, win0_1.index t 0 * win0_1.size 0 = 0 ∧ win0_1.index t 1 * win0_1.size 1 = 0 ∧ win0_1.index t 2 * win0_1.size 2 = 0 :=
  (by decide +kernel : ∀ t : Fin grid0.N, win0_1.index t 0 * win0_1.size 0 = 0 ∧ win0_1.index t 1 * win0_1.size 1 = 0 ∧ win0_1.index t 2 * win0_1.size 2 = 0)
theorem idx2 : ∀ t : Fin cfg0.N, win0_2.index t 0 * win0_2.size 0 = 512 * t.val ∧ win0_2.index t 1 * win0_2.size 1 = 0 :=
  (by decide +kernel : ∀ t : Fin grid0.N, win0_2.index t 0 * win0_2.size 0 = 512 * t.val ∧ win0_2.index t 1 * win0_2.size 1 = 0)
theorem idx3 : ∀ t : Fin cfg0.N, win0_3.index t 0 * win0_3.size 0 = 0 ∧ win0_3.index t 1 * win0_3.size 1 = 0 :=
  (by decide +kernel : ∀ t : Fin grid0.N, win0_3.index t 0 * win0_3.size 0 = 0 ∧ win0_3.index t 1 * win0_3.size 1 = 0)
theorem idx4 : ∀ t : Fin cfg0.N, win0_4.index t 0 * win0_4.size 0 = 512 * t.val ∧ win0_4.index t 1 * win0_4.size 1 = 0 :=
  (by decide +kernel : ∀ t : Fin grid0.N, win0_4.index t 0 * win0_4.size 0 = 512 * t.val ∧ win0_4.index t 1 * win0_4.size 1 = 0)
theorem iblk0 (c : Dev nD) (t : Fin cfg0.N) (r : Fin 512) (k : Fin 1536) (l : Fin 4096) (hl : l.val = 512 * t.val + r.val) :
    iblk m c 0 t (ix2 r k) = m ((c : Thread nD τ).loc main_arg0) (ix2 l k) := by
  unfold iblk
  rw [View.read_apply]
  refine congrArg (m ((c : Thread nD τ).loc main_arg0)) (funext fun a => Fin.ext ?_)
  match a with
  | ⟨0, _⟩ => show win0_0.index t 0 * win0_0.size 0 + 1 * r.val = l.val; rw [(idx0 t).1, hl]; omega
  | ⟨1, _⟩ => show win0_0.index t 1 * win0_0.size 1 + 1 * k.val = k.val; rw [(idx0 t).2]; omega
theorem iblk1 (c : Dev nD) (t : Fin cfg0.N) (g : Fin 4) (d : Fin 1024) (f : Fin 384) :
    iblk m c 1 t (ix3 g d f) = m ((c : Thread nD τ).loc main_arg1) (ix3 g d f) := by
  unfold iblk
  rw [View.read_apply]
  refine congrArg (m ((c : Thread nD τ).loc main_arg1)) (funext fun a => Fin.ext ?_)
  match a with
  | ⟨0, _⟩ => show win0_1.index t 0 * win0_1.size 0 + 1 * g.val = g.val; rw [(idx1 t).1]; omega
  | ⟨1, _⟩ => show win0_1.index t 1 * win0_1.size 1 + 1 * d.val = d.val; rw [(idx1 t).2.1]; omega
  | ⟨2, _⟩ => show win0_1.index t 2 * win0_1.size 2 + 1 * f.val = f.val; rw [(idx1 t).2.2]; omega
theorem iblk2 (c : Dev nD) (t : Fin cfg0.N) (r : Fin 512) (d : Fin 1024) (l : Fin 4096) (hl : l.val = 512 * t.val + r.val) :
    iblk m c 2 t (ix2 r d) = m ((c : Thread nD τ).loc main_arg2) (ix2 l d) := by
  unfold iblk
  rw [View.read_apply]
  refine congrArg (m ((c : Thread nD τ).loc main_arg2)) (funext fun a => Fin.ext ?_)
  match a with
  | ⟨0, _⟩ => show win0_2.index t 0 * win0_2.size 0 + 1 * r.val = l.val; rw [(idx2 t).1, hl]; omega
  | ⟨1, _⟩ => show win0_2.index t 1 * win0_2.size 1 + 1 * d.val = d.val; rw [(idx2 t).2]; omega
theorem iblk4 (c : Dev nD) (t : Fin cfg0.N) (r : Fin 512) (d : Fin 1024) (l : Fin 4096) (hl : l.val = 512 * t.val + r.val) :
    iblk m c 4 t (ix2 r d) = m ((c : Thread nD τ).loc main_arg4) (ix2 l d) := by
  unfold iblk
  rw [View.read_apply]
  refine congrArg (m ((c : Thread nD τ).loc main_arg4)) (funext fun a => Fin.ext ?_)
  match a with
  | ⟨0, _⟩ => show win0_4.index t 0 * win0_4.size 0 + 1 * r.val = l.val; rw [(idx4 t).1, hl]; omega
  | ⟨1, _⟩ => show win0_4.index t 1 * win0_4.size 1 + 1 * d.val = d.val; rw [(idx4 t).2]; omega
theorem iblk3 (c : Dev nD) (t : Fin cfg0.N) (d : Fin 1024)  :
    iblk m c 3 t (ix2 0 d) = m ((c : Thread nD τ).loc main_arg3) (ix2 0 d) := by
  unfold iblk
  rw [View.read_apply]
  refine congrArg (m ((c : Thread nD τ).loc main_arg3)) (funext fun a => Fin.ext ?_)
  match a with
  | ⟨0, _⟩ => show win0_3.index t 0 * win0_3.size 0 + 1 * 0 = 0; rw [(idx3 t).1]
  | ⟨1, _⟩ => show win0_3.index t 1 * win0_3.size 1 + 1 * d.val = d.val; rw [(idx3 t).2]; omega

theorem hz2 : (![0, 0] : Fin 2 → Nat) = fun _ => 0 := funext fun a => by fin_cases a <;> rfl

/-- A load of one column block, at an index. -/
theorem ld_cols (x : Vec F S512x1536 .bf16) (o : Fin 2 → Nat) (inb) (g : Fin 4) (r : Fin 512) (f : Fin 384) (h0 : o 0 = 0) (h1 : o 1 = 384 * g.val) :
    View.ld x (Rect.unit (s := S512x1536) o S512x384.size inb) (ix2 r f) = x (ix2 r (col g f)) := by
  refine congrArg x (funext fun a => Fin.ext ?_)
  match a with
  | ⟨0, _⟩ => show o 0 + 1 * r.val = r.val; omega
  | ⟨1, _⟩ => show o 1 + 1 * f.val = 384 * g.val + f.val; omega
/-- and of one matrix of a stack. -/
theorem ld_weights (x : Vec F S4x1024x384 .bf16) (o : Fin 3 → Nat) (inb) (g : Fin 4) (d : Fin 1024) (f : Fin 384) (h0 : o 0 = g.val) (h1 : o 1 = 0) (h2 : o 2 = 0) :
    View.ld x (Rect.unit (s := S4x1024x384) o S1x1024x384.size inb) (ix3 0 d f) = x (ix3 g d f) := by
  refine congrArg x (funext fun a => Fin.ext ?_)
  match a with
  | ⟨0, _⟩ => show o 0 + 1 * 0 = g.val; omega
  | ⟨1, _⟩ => show o 1 + 1 * d.val = d.val; omega
  | ⟨2, _⟩ => show o 2 + 1 * f.val = f.val; omega

/-- The gradient of the normed input that the body forms of its two blocks. -/
def dhb (x0 : Vec F S512x1536 .bf16) (x1 : Vec F S4x1024x384 .bf16) : FVec F S512x1024 .f32 :=
  k0_pay5 (View.ld x0 (Rect.unit (s := S512x1536) ![0, 0] S512x384.size inb_S512x1536_S512x384_0_0)) (View.ld x1 (Rect.unit (s := S4x1024x384) ![0, 0, 0] S1x1024x384.size inb_S4x1024x384_S1x1024x384_0_0_0))
    (View.ld x0 (Rect.unit (s := S512x1536) ![0, 384] S512x384.size inb_S512x1536_S512x384_0_384)) (View.ld x1 (Rect.unit (s := S4x1024x384) ![1, 0, 0] S1x1024x384.size inb_S4x1024x384_S1x1024x384_1_0_0))
    (View.ld x0 (Rect.unit (s := S512x1536) ![0, 768] S512x384.size inb_S512x1536_S512x384_0_768)) (View.ld x1 (Rect.unit (s := S4x1024x384) ![2, 0, 0] S1x1024x384.size inb_S4x1024x384_S1x1024x384_2_0_0))
    (View.ld x0 (Rect.unit (s := S512x1536) ![0, 1152] S512x384.size inb_S512x1536_S512x384_0_1152)) (View.ld x1 (Rect.unit (s := S4x1024x384) ![3, 0, 0] S1x1024x384.size inb_S4x1024x384_S1x1024x384_3_0_0))

theorem outA5 (c : Dev nD) (t : Fin cfg0.N) (h0 : t.val % 8 = 0) (h1 : ¬1 ≤ t.val) :
    (outsAt0 m c t.val t.isLt).1 = k0_pay3 (dhb (iblk m c 0 t) (iblk m c 1 t)) (k0_pay6 (iblk m c 2 t)) (k0_pay7 (iblk m c 2 t)) (iblk m c 3 t) (iblk m c 4 t) := by
  rw [outsAt0_A m c t h0 h1]
  unfold out0_A_5
  dsimp only
  unfold kernelRun0_A
  dsimp only
  sl_unfold_words
  rw [View.read_writes_full]
  simp only [View.readAt_eq_ld, (hs0_0 t).read_unread, (hs0_1 t).read_unread, (hs0_2 t).read_unread, (hs0_3 t).read_unread, (hs0_4 t).read_unread]
  exact congr (congr (congr (congr (congrArg k0_pay3 rfl) (congrArg k0_pay6 (View.ld_unit_zero (S := S512x1024) hz2 _ _))) (congrArg k0_pay7 (View.ld_unit_zero (S := S512x1024) hz2 _ _))) (View.ld_unit_zero (S := S1x1024) hz2 _ _)) (View.ld_unit_zero (S := S512x1024) hz2 _ _)
theorem outA6 (c : Dev nD) (t : Fin cfg0.N) (h0 : t.val % 8 = 0) (h1 : ¬1 ≤ t.val) :
    (outsAt0 m c t.val t.isLt).2.1 = k0_pay4 (dhb (iblk m c 0 t) (iblk m c 1 t)) (k0_pay6 (iblk m c 2 t)) (k0_pay7 (iblk m c 2 t)) (iblk m c 3 t) (iblk m c 4 t) := by
  rw [outsAt0_A m c t h0 h1]
  unfold out0_A_6
  dsimp only
  unfold kernelRun0_A
  dsimp only
  sl_unfold_words
  rw [View.read_writes_full]
  simp only [View.readAt_eq_ld, (hs0_0 t).read_unread, (hs0_1 t).read_unread, (hs0_2 t).read_unread, (hs0_3 t).read_unread, (hs0_4 t).read_unread]
  exact congr (congr (congr (congr (congrArg k0_pay4 rfl) (congrArg k0_pay6 (View.ld_unit_zero (S := S512x1024) hz2 _ _))) (congrArg k0_pay7 (View.ld_unit_zero (S := S512x1024) hz2 _ _))) (View.ld_unit_zero (S := S1x1024) hz2 _ _)) (View.ld_unit_zero (S := S512x1024) hz2 _ _)
theorem outA7 (c : Dev nD) (t : Fin cfg0.N) (h0 : t.val % 8 = 0) (h1 : ¬1 ≤ t.val) :
    (outsAt0 m c t.val t.isLt).2.2 = k0_pay1 (dhb (iblk m c 0 t) (iblk m c 1 t)) (k0_pay7 (iblk m c 2 t)) := by
  rw [outsAt0_A m c t h0 h1]
  unfold out0_A_7
  dsimp only
  unfold kernelRun0_A
  dsimp only
  sl_unfold_words
  rw [View.read_writes_full]
  simp only [View.readAt_eq_ld, (hs0_0 t).read_unread, (hs0_1 t).read_unread, (hs0_2 t).read_unread, (hs0_3 t).read_unread, (hs0_4 t).read_unread]
  exact congr (congrArg k0_pay1 rfl) (congrArg k0_pay7 (View.ld_unit_zero (S := S512x1024) hz2 _ _))
theorem outB5 (c : Dev nD) (t : Fin cfg0.N) (h0 : ¬t.val % 8 = 0) (h1 : 1 ≤ t.val) :
    (outsAt0 m c t.val t.isLt).1 = k0_pay3 (dhb (iblk m c 0 t) (iblk m c 1 t)) (k0_pay6 (iblk m c 2 t)) (k0_pay7 (iblk m c 2 t)) (iblk m c 3 t) (iblk m c 4 t) := by
  rw [outsAt0_B m c t h0 h1]
  unfold out0_B_5
  dsimp only
  unfold kernelRun0_B
  dsimp only
  sl_unfold_words
  rw [View.read_writes_full]
  simp only [View.readAt_eq_ld, (hs0_0 t).read_unread, (hs0_1 t).read_unread, (hs0_2 t).read_unread, (hs0_3 t).read_unread, (hs0_4 t).read_unread]
  exact congr (congr (congr (congr (congrArg k0_pay3 rfl) (congrArg k0_pay6 (View.ld_unit_zero (S := S512x1024) hz2 _ _))) (congrArg k0_pay7 (View.ld_unit_zero (S := S512x1024) hz2 _ _))) (View.ld_unit_zero (S := S1x1024) hz2 _ _)) (View.ld_unit_zero (S := S512x1024) hz2 _ _)
theorem outB6 (c : Dev nD) (t : Fin cfg0.N) (h0 : ¬t.val % 8 = 0) (h1 : 1 ≤ t.val) :
    (outsAt0 m c t.val t.isLt).2.1 = k0_pay4 (dhb (iblk m c 0 t) (iblk m c 1 t)) (k0_pay6 (iblk m c 2 t)) (k0_pay7 (iblk m c 2 t)) (iblk m c 3 t) (iblk m c 4 t) := by
  rw [outsAt0_B m c t h0 h1]
  unfold out0_B_6
  dsimp only
  unfold kernelRun0_B
  dsimp only
  sl_unfold_words
  rw [View.read_writes_full]
  simp only [View.readAt_eq_ld, (hs0_0 t).read_unread, (hs0_1 t).read_unread, (hs0_2 t).read_unread, (hs0_3 t).read_unread, (hs0_4 t).read_unread]
  exact congr (congr (congr (congr (congrArg k0_pay4 rfl) (congrArg k0_pay6 (View.ld_unit_zero (S := S512x1024) hz2 _ _))) (congrArg k0_pay7 (View.ld_unit_zero (S := S512x1024) hz2 _ _))) (View.ld_unit_zero (S := S1x1024) hz2 _ _)) (View.ld_unit_zero (S := S512x1024) hz2 _ _)
theorem outB7 (c : Dev nD) (t : Fin cfg0.N) (h0 : ¬t.val % 8 = 0) (h1 : 1 ≤ t.val) :
    (outsAt0 m c t.val t.isLt).2.2 = k0_pay2 (dhb (iblk m c 0 t) (iblk m c 1 t)) (k0_pay7 (iblk m c 2 t)) (outsAt0 m c (t.val - 1) (Nat.lt_of_le_of_lt (Nat.sub_le _ _) t.isLt)).2.2 := by
  rw [outsAt0_B m c t h0 h1]
  unfold out0_B_7
  dsimp only
  unfold kernelRun0_B
  dsimp only
  sl_unfold_words
  rw [View.read_writes_full]
  simp only [View.readAt_eq_ld, (hs0_0 t).read_unread, (hs0_1 t).read_unread, (hs0_2 t).read_unread, (hs0_3 t).read_unread, (hs0_4 t).read_unread]
  exact congr (congr (congrArg k0_pay2 rfl) (congrArg k0_pay7 (View.ld_unit_zero (S := S512x1024) hz2 _ _))) ((View.ld_unit_zero (S := S1x1024) hz2 _ _).trans ((hs0_7 t).read_unread _))

/-- What every point leaves in the two row results' buffers. -/
theorem out5 (c : Dev nD) (t : Fin cfg0.N) : (outsAt0 m c t.val t.isLt).1 = k0_pay3 (dhb (iblk m c 0 t) (iblk m c 1 t)) (k0_pay6 (iblk m c 2 t)) (k0_pay7 (iblk m c 2 t)) (iblk m c 3 t) (iblk m c 4 t) := by
  have hN : t.val < 8 := lt_of_lt_of_eq t.isLt N_0
  by_cases h : t.val = 0
  · exact outA5 m c t (by omega) (by omega)
  · exact outB5 m c t (by omega) (by omega)
theorem out6 (c : Dev nD) (t : Fin cfg0.N) : (outsAt0 m c t.val t.isLt).2.1 = k0_pay4 (dhb (iblk m c 0 t) (iblk m c 1 t)) (k0_pay6 (iblk m c 2 t)) (k0_pay7 (iblk m c 2 t)) (iblk m c 3 t) (iblk m c 4 t) := by
  have hN : t.val < 8 := lt_of_lt_of_eq t.isLt N_0
  by_cases h : t.val = 0
  · exact outA6 m c t (by omega) (by omega)
  · exact outB6 m c t (by omega) (by omega)

end

/-! ## The result arrays -/

section
variable (m : (ℓ : Loc nD τ sig) → Buf (Elt Ideal) ℓ)

theorem lt_N (t : Fin cfg0.N) : t.val < 8 := lt_of_lt_of_eq t.isLt N_0

/-- The device's arguments, by name. -/
abbrev aDu (c : Dev nD) : FVec Ideal S4096x1536 .bf16 := m ((c : Thread nD τ).loc main_arg0)
abbrev aW (c : Dev nD) : FVec Ideal S4x1024x384 .bf16 := m ((c : Thread nD τ).loc main_arg1)
abbrev aX (c : Dev nD) : FVec Ideal S4096x1024 .f32 := m ((c : Thread nD τ).loc main_arg2)
abbrev aGain (c : Dev nD) : FVec Ideal S1x1024 .f32 := m ((c : Thread nD τ).loc main_arg3)
abbrev aY (c : Dev nD) : FVec Ideal S4096x1024 .f32 := m ((c : Thread nD τ).loc main_arg4)

/-- One column block's product, of the whole arrays. -/
theorem block_sum (c : Dev nD) (t : Fin cfg0.N) (r : Fin 512) (d : Fin 1024) (l : Fin 4096) (hl : l.val = 512 * t.val + r.val)
    (o : Fin 2 → Nat) (p : Fin 3 → Nat) (i0) (i1) (g : Fin 4) (e0 : o 0 = 0) (e1 : o 1 = 384 * g.val) (p0 : p 0 = g.val) (p1 : p 1 = 0) (p2 : p 2 = 0) :
    (∑ f : Fin 384, (show Vec Ideal S512x384 .bf16 from View.ld (iblk m c 0 t) (Rect.unit (s := S512x1536) o S512x384.size i0)) (ix2 r f)
      * (show Vec Ideal S1x1024x384 .bf16 from View.ld (iblk m c 1 t) (Rect.unit (s := S4x1024x384) p S1x1024x384.size i1)) (ix3 0 d f))
      = ∑ f : Fin 384, aDu m c (ix2 l (col g f)) * aW m c (ix3 g d f) :=
  Finset.sum_congr rfl fun f _ => congr (congrArg _ ((ld_cols (iblk m c 0 t) o i0 g r f e0 e1).trans (iblk0 m c t r _ l hl)))
    ((ld_weights (iblk m c 1 t) p i1 g d f p0 p1 p2).trans (iblk1 m c t g d f))

/-- The device's gradient of the normed input. -/
abbrev dhc (c : Dev nD) : Fin 4096 → Fin 1024 → EReal := dhAt (aDu m c) (aW m c)
abbrev xc (c : Dev nD) : Fin 4096 → Fin 1024 → EReal := fun l k => aX m c (ix2 l k)
abbrev yc (c : Dev nD) : Fin 4096 → Fin 1024 → EReal := fun l k => aY m c (ix2 l k)

theorem dhb_apply (c : Dev nD) (t : Fin cfg0.N) (r : Fin 512) (d : Fin 1024) (l : Fin 4096) (hl : l.val = 512 * t.val + r.val) :
    dhb (iblk m c 0 t) (iblk m c 1 t) (ix2 r d) = dhc m c l d := by
  unfold dhb
  rw [pay5_apply]
  unfold dhc dhAt
  rw [Fin.sum_univ_four]
  have e := block_sum m c t r d l hl
  exact congr (congrArg _ (congr (congrArg _ (congr (congrArg _
    (e ![0, 0] ![0, 0, 0] inb_S512x1536_S512x384_0_0 inb_S4x1024x384_S1x1024x384_0_0_0 0 rfl rfl rfl rfl rfl))
    (e ![0, 384] ![1, 0, 0] inb_S512x1536_S512x384_0_384 inb_S4x1024x384_S1x1024x384_1_0_0 1 rfl rfl rfl rfl rfl)))
    (e ![0, 768] ![2, 0, 0] inb_S512x1536_S512x384_0_768 inb_S4x1024x384_S1x1024x384_2_0_0 2 rfl rfl rfl rfl rfl)))
    (e ![0, 1152] ![3, 0, 0] inb_S512x1536_S512x384_0_1152 inb_S4x1024x384_S1x1024x384_3_0_0 3 rfl rfl rfl rfl rfl)

/-- The rows that point `t` computes with, as functions of the column. -/
theorem dh_row (c : Dev nD) (t : Fin cfg0.N) (r : Fin 512) (l : Fin 4096) (hl : l.val = 512 * t.val + r.val) :
    (fun k : Fin 1024 => dhb (iblk m c 0 t) (iblk m c 1 t) (ix2 r k)) = dhc m c l :=
  funext fun k => dhb_apply m c t r k l hl
theorem x_row (c : Dev nD) (t : Fin cfg0.N) (r : Fin 512) (l : Fin 4096) (hl : l.val = 512 * t.val + r.val) :
    (fun k : Fin 1024 => iblk m c 2 t (ix2 r k)) = xc m c l := funext fun k => iblk2 m c t r k l hl
theorem y_row (c : Dev nD) (t : Fin cfg0.N) (r : Fin 512) (l : Fin 4096) (hl : l.val = 512 * t.val + r.val) :
    (fun k : Fin 1024 => iblk m c 4 t (ix2 r k)) = yc m c l := funext fun k => iblk4 m c t r k l hl
theorem g_row (c : Dev nD) (t : Fin cfg0.N) :
    (fun k : Fin 1024 => iblk m c 3 t (ix2 0 k)) = fun k => aGain m c (ix2 0 k) := funext fun k => iblk3 m c t k

theorem idx5 : ∀ t : Fin cfg0.N, win0_5.index t 0 * win0_5.size 0 = 512 * t.val ∧ win0_5.index t 1 * win0_5.size 1 = 0 :=
  (by decide +kernel : ∀ t : Fin grid0.N, win0_5.index t 0 * win0_5.size 0 = 512 * t.val ∧ win0_5.index t 1 * win0_5.size 1 = 0)
theorem idx6 : ∀ t : Fin cfg0.N, win0_6.index t 0 * win0_6.size 0 = 512 * t.val ∧ win0_6.index t 1 * win0_6.size 1 = 0 :=
  (by decide +kernel : ∀ t : Fin grid0.N, win0_6.index t 0 * win0_6.size 0 = 512 * t.val ∧ win0_6.index t 1 * win0_6.size 1 = 0)
theorem idx7 : ∀ t : Fin cfg0.N, win0_7.index t 0 * win0_7.size 0 = 0 ∧ win0_7.index t 1 * win0_7.size 1 = 0 :=
  (by decide +kernel : ∀ t : Fin grid0.N, win0_7.index t 0 * win0_7.size 0 = 0 ∧ win0_7.index t 1 * win0_7.size 1 = 0)
theorem emb5 (t : Fin cfg0.N) (r : Fin 512) (d : Fin 1024) (l : Fin 4096) (hl : l.val = 512 * t.val + r.val) :
    (win0_5.blk t).view.emb (ix2 r d) = (ix2 l d : S4096x1024.Idx) := by
  refine funext fun a => Fin.ext ?_
  match a with
  | ⟨0, _⟩ => show win0_5.index t 0 * win0_5.size 0 + 1 * r.val = l.val; rw [(idx5 t).1, hl]; omega
  | ⟨1, _⟩ => show win0_5.index t 1 * win0_5.size 1 + 1 * d.val = d.val; rw [(idx5 t).2]; omega
theorem emb6 (t : Fin cfg0.N) (r : Fin 512) (d : Fin 1024) (l : Fin 4096) (hl : l.val = 512 * t.val + r.val) :
    (win0_6.blk t).view.emb (ix2 r d) = (ix2 l d : S4096x1024.Idx) := by
  refine funext fun a => Fin.ext ?_
  match a with
  | ⟨0, _⟩ => show win0_6.index t 0 * win0_6.size 0 + 1 * r.val = l.val; rw [(idx6 t).1, hl]; omega
  | ⟨1, _⟩ => show win0_6.index t 1 * win0_6.size 1 + 1 * d.val = d.val; rw [(idx6 t).2]; omega
theorem emb7 (t : Fin cfg0.N) (d : Fin 1024)  :
    (win0_7.blk t).view.emb (ix2 0 d) = (ix2 0 d : S1x1024.Idx) := by
  refine funext fun a => Fin.ext ?_
  match a with
  | ⟨0, _⟩ => show win0_7.index t 0 * win0_7.size 0 + 1 * 0 = 0; rw [(idx7 t).1]
  | ⟨1, _⟩ => show win0_7.index t 1 * win0_7.size 1 + 1 * d.val = d.val; rw [(idx7 t).2]; omega

theorem flushed5 (c : Dev nD) (t : Fin cfg0.N) :
    (dats m 0 c).flushed 5 t = (win0_5.blk t).view.read (Elt Ideal) (dx (dhc m c) (xc m c) (aGain m c) (yc m c)) := by
  rw [Value.flushed5]
  funext y
  obtain ⟨r, d, rfl⟩ : ∃ (r : Fin 512) (d : Fin 1024), y = ix2 r d :=
    ⟨y 0, y 1, by funext a; match a with | ⟨0, _⟩ => rfl | ⟨1, _⟩ => rfl⟩
  have ht := lt_N t
  have hl : (⟨512 * t.val + r.val, by omega⟩ : Fin 4096).val = 512 * t.val + r.val := rfl
  rw [View.read_apply]
  refine Eq.trans ?_ (congrArg (dx (dhc m c) (xc m c) (aGain m c) (yc m c)) (emb5 t r d _ hl).symm)
  refine (congrFun (out5 m c t) (ix2 r d)).trans ((pay3_apply _ _ _ _ r d).trans ?_)
  exact congrFun (congr (congr (congr (congrArg rowAt (dh_row m c t r _ hl)) (x_row m c t r _ hl)) (g_row m c t)) (y_row m c t r _ hl)) d

/-- Every index of the result lies in the block of the point of its row block. -/
theorem cover5 (i : S4096x1024.Idx) : ∃ t : Fin cfg0.N, (cfg0.win 5).flush t = true ∧ i ∈ ((cfg0.win 5).blk t).view.set := by
  have h0 : (i 0 : Nat) < 4096 := (i 0).isLt
  have hN : cfg0.N = 8 := N_0
  have ht : (i 0 : Nat) / 512 < cfg0.N := by omega
  refine ⟨⟨_, ht⟩, flush0_5 _, ?_⟩
  have e : (win0_5.blk ⟨_, ht⟩).view.emb (ix2 ⟨(i 0 : Nat) % 512, by omega⟩ (i 1)) = i :=
    (emb5 ⟨_, ht⟩ ⟨(i 0 : Nat) % 512, by omega⟩ (i 1) (i 0) (by dsimp only; omega)).trans
      (by funext a; match a with | ⟨0, _⟩ => rfl | ⟨1, _⟩ => rfl)
  exact (congrArg (fun j => j ∈ ((cfg0.win 5).blk ⟨_, ht⟩).view.set) e).mp (Finset.mem_map_of_mem _ (Finset.mem_univ _))

theorem final5 (c : Dev nD) : (dats m 0 c).arrAt 5 cfg0.N = dx (dhc m c) (xc m c) (aGain m c) (yc m c) :=
  (dats m 0 c).arrAt_eq_of_cover 5 _ (fun t _ => flushed5 m c t) cover5

theorem flushed6 (c : Dev nD) (t : Fin cfg0.N) :
    (dats m 0 c).flushed 6 t = (win0_6.blk t).view.read (Elt Ideal) (dxb (dhc m c) (xc m c) (aGain m c) (yc m c)) := by
  rw [Value.flushed6]
  funext y
  obtain ⟨r, d, rfl⟩ : ∃ (r : Fin 512) (d : Fin 1024), y = ix2 r d :=
    ⟨y 0, y 1, by funext a; match a with | ⟨0, _⟩ => rfl | ⟨1, _⟩ => rfl⟩
  have ht := lt_N t
  have hl : (⟨512 * t.val + r.val, by omega⟩ : Fin 4096).val = 512 * t.val + r.val := rfl
  rw [View.read_apply]
  refine Eq.trans ?_ (congrArg (dxb (dhc m c) (xc m c) (aGain m c) (yc m c)) (emb6 t r d _ hl).symm)
  refine (congrFun (out6 m c t) (ix2 r d)).trans ((pay4_apply _ _ _ _ r d).trans ?_)
  exact congrFun (congr (congr (congr (congrArg rowAt (dh_row m c t r _ hl)) (x_row m c t r _ hl)) (g_row m c t)) (y_row m c t r _ hl)) d

/-- Every index of the result lies in the block of the point of its row block. -/
theorem cover6 (i : S4096x1024.Idx) : ∃ t : Fin cfg0.N, (cfg0.win 6).flush t = true ∧ i ∈ ((cfg0.win 6).blk t).view.set := by
  have h0 : (i 0 : Nat) < 4096 := (i 0).isLt
  have hN : cfg0.N = 8 := N_0
  have ht : (i 0 : Nat) / 512 < cfg0.N := by omega
  refine ⟨⟨_, ht⟩, flush0_6 _, ?_⟩
  have e : (win0_6.blk ⟨_, ht⟩).view.emb (ix2 ⟨(i 0 : Nat) % 512, by omega⟩ (i 1)) = i :=
    (emb6 ⟨_, ht⟩ ⟨(i 0 : Nat) % 512, by omega⟩ (i 1) (i 0) (by dsimp only; omega)).trans
      (by funext a; match a with | ⟨0, _⟩ => rfl | ⟨1, _⟩ => rfl)
  exact (congrArg (fun j => j ∈ ((cfg0.win 6).blk ⟨_, ht⟩).view.set) e).mp (Finset.mem_map_of_mem _ (Finset.mem_univ _))

theorem final6 (c : Dev nD) : (dats m 0 c).arrAt 6 cfg0.N = dxb (dhc m c) (xc m c) (aGain m c) (yc m c) :=
  (dats m 0 c).arrAt_eq_of_cover 6 _ (fun t _ => flushed6 m c t) cover6

/-! ## The gradient of the gain -/

/-- Row `l`'s share at column `d`; nothing past the last row. -/
def share (c : Dev nD) (d : Fin 1024) (l : ℕ) : EReal :=
  if h : l < 4096 then gainAt (dhc m c ⟨l, h⟩) (xc m c ⟨l, h⟩) d else 0

/-- A point's rows add up to their stretch of the shares. -/
theorem point_sum (c : Dev nD) (t : Fin cfg0.N) (d : Fin 1024) :
    (∑ r : Fin 512, gainAt (fun k : Fin 1024 => dhb (iblk m c 0 t) (iblk m c 1 t) (ix2 r k)) (fun k : Fin 1024 => iblk m c 2 t (ix2 r k)) d)
      = ∑ r ∈ Finset.range 512, share m c d (512 * t.val + r) := by
  have ht := lt_N t
  rw [Finset.sum_range]
  refine Finset.sum_congr rfl fun r _ => ?_
  have h : 512 * t.val + r.val < 4096 := by omega
  rw [dh_row m c t r ⟨_, h⟩ rfl, x_row m c t r ⟨_, h⟩ rfl]
  unfold share
  rw [dif_pos h]

/-- After point `n` the buffer holds the shares of all rows so far. -/
theorem acc_apply (c : Dev nD) (d : Fin 1024) : ∀ (n : ℕ) (hn : n < cfg0.N),
    (outsAt0 m c n hn).2.2 (ix2 0 d) = ∑ l ∈ Finset.range (512 * (n + 1)), share m c d l
  | 0, hn => by
    refine (congrFun (outA7 m c ⟨0, hn⟩ rfl (by dsimp only; omega)) (ix2 0 d)).trans ((pay1_apply _ _ d).trans ?_)
    rw [point_sum m c ⟨0, hn⟩ d]
    simp only [Nat.mul_zero, Nat.zero_add, Nat.mul_one]
  | n + 1, hn => by
    have h8 : n + 1 < 8 := lt_of_lt_of_eq hn N_0
    refine (congrFun (outB7 m c ⟨n + 1, hn⟩ (by dsimp only; omega) (by dsimp only; omega)) (ix2 0 d)).trans ((pay2_apply _ _ _ d).trans ?_)
    rw [point_sum m c ⟨n + 1, hn⟩ d]
    have e := acc_apply c d n (by omega)
    rw [show 512 * (n + 1 + 1) = 512 * (n + 1) + 512 by ring, Finset.sum_range_add]
    exact congrArg (· + _) e

theorem dgain_eq (c : Dev nD) (d : Fin 1024) :
    (∑ l ∈ Finset.range 4096, share m c d l) = ∑ l : Fin 4096, gainAt (dhc m c l) (xc m c l) d := by
  rw [Finset.sum_range]
  refine Finset.sum_congr rfl fun l _ => ?_
  unfold share
  rw [dif_pos l.isLt]

theorem flushed7 (c : Dev nD) (t : Fin cfg0.N) (hf : (cfg0.win 7).flush t = true) :
    (dats m 0 c).flushed 7 t = (win0_7.blk t).view.read (Elt Ideal) (dgain (dhc m c) (xc m c)) := by
  rw [Value.flushed7]
  funext y
  obtain ⟨z, d, rfl⟩ : ∃ (z : Fin 1) (d : Fin 1024), y = ix2 z d :=
    ⟨y 0, y 1, by funext a; match a with | ⟨0, _⟩ => rfl | ⟨1, _⟩ => rfl⟩
  obtain rfl : z = 0 := Subsingleton.elim _ _
  have ht := lt_N t
  have h7 : t.val % 8 = 7 := (flush0_7 t).mp hf
  rw [View.read_apply]
  refine Eq.trans ?_ (congrArg (dgain (dhc m c) (xc m c)) (emb7 t d).symm)
  refine (acc_apply m c d t.val t.isLt).trans ?_
  rw [show 512 * (t.val + 1) = 4096 by omega]
  exact dgain_eq m c d

theorem cover7 (i : S1x1024.Idx) : ∃ t : Fin cfg0.N, (cfg0.win 7).flush t = true ∧ i ∈ ((cfg0.win 7).blk t).view.set := by
  have hN : cfg0.N = 8 := N_0
  have ht : 7 < cfg0.N := by omega
  refine ⟨⟨7, ht⟩, (flush0_7 _).mpr rfl, ?_⟩
  have e : (win0_7.blk ⟨7, ht⟩).view.emb (ix2 0 (i 1)) = i :=
    (emb7 ⟨7, ht⟩ (i 1)).trans (by funext a; match a with | ⟨0, _⟩ => exact Subsingleton.elim (α := Fin 1) _ _ | ⟨1, _⟩ => rfl)
  exact (congrArg (fun j => j ∈ ((cfg0.win 7).blk ⟨7, ht⟩).view.set) e).mp (Finset.mem_map_of_mem _ (Finset.mem_univ _))

theorem final7 (c : Dev nD) : (dats m 0 c).arrAt 7 cfg0.N = dgain (dhc m c) (xc m c) :=
  (dats m 0 c).arrAt_eq_of_cover 7 _ (fun t hf => flushed7 m c t hf) cover7

end
end Cert.Kernel11Ideal.InProjBwd
end
-- ==== Proof.RmsRow.lean ====
/-
  The derivative of a row scaled to unit mean square.

  With `v` the mean square plus a positive constant and `r = 1 / √v`, the chain rule through square, mean, root and product
  gives the row's gradient as three terms; the closed form is one. Both are real numbers, and equal since `r² = 1 / v`.
-/
module

public import proofs.«01_k».proof.Proof.Rms

@[expose] public section

set_option maxRecDepth 16384

noncomputable section

namespace Cert.Hand

open Idealize.ShloMosaic
open Cert.Kernel4Ideal.Rms (rr rowAt)

theorem ofBits_width : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul, -EReal.coe_neg]; norm_num

/-- The small constant is a positive real number. -/
theorem ofBits_eps : ∃ e : ℝ, 0 < e ∧ Ideal.ofBits .f32 0x358637BD#32 = (e : EReal) := by
  refine ⟨_, ?_, by simp [Ideal.ofBits, Ideal.ieee, -EReal.coe_mul]; rfl⟩
  norm_num

/-- A row's mean square, kept off zero. -/
def msqAt (x : Fin 1024 → EReal) : EReal :=
  Ideal.div (∑ k : Fin 1024, x k * x k) (Ideal.ofBits .f32 0x44800000#32) + Ideal.ofBits .f32 0x358637BD#32

/-- The gradient of each element's square, by the chain rule. -/
def backAt (h x g : Fin 1024 → EReal) : EReal :=
  Ideal.div ((∑ k : Fin 1024, x k * (h k * g k)) * (Ideal.ofBits .f32 0xBF000000#32 * Ideal.div (rr x) (msqAt x))) (Ideal.ofBits .f32 0x44800000#32)

theorem coe_sum {ι : Type*} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- The mean square and one over its root, as real numbers. -/
theorem msq_real (x : Fin 1024 → ℝ) : ∃ v : ℝ, 0 < v ∧ msqAt (fun k => (x k : EReal)) = (v : EReal)
    ∧ rr (fun k => (x k : EReal)) = (((Real.sqrt v)⁻¹ : ℝ) : EReal) := by
  obtain ⟨e, he, hE⟩ := ofBits_eps
  have hs : (∑ k : Fin 1024, ((x k : EReal) * (x k : EReal))) = ((∑ k : Fin 1024, x k * x k : ℝ) : EReal) := by
    rw [← coe_sum]
    exact Finset.sum_congr rfl fun k _ => (EReal.coe_mul _ _).symm
  have hv : msqAt (fun k => (x k : EReal)) = (((∑ k : Fin 1024, x k * x k) * (1 / 1024) + e : ℝ) : EReal) := by
    unfold msqAt
    rw [hs, ofBits_width, hE, Ideal.div_coe (by norm_num), ← EReal.coe_mul, ← EReal.coe_add]
  have h0 : 0 < (∑ k : Fin 1024, x k * x k) * (1 / 1024) + e :=
    add_pos_of_nonneg_of_pos (mul_nonneg (Finset.sum_nonneg fun k _ => mul_self_nonneg _) (by norm_num)) he
  refine ⟨_, h0, hv, ?_⟩
  show Ideal.rsqrt (msqAt fun k => (x k : EReal)) = _
  rw [hv, Ideal.rsqrt_coe, if_neg (not_lt.mpr h0.le), if_neg h0.ne']

/-- The closed form of a row's gradient is the chain rule's. -/
theorem row_eq (h x g y : Fin 1024 → EReal) (hh : ∀ k, IsReal (h k)) (hx : ∀ k, IsReal (x k)) (hg : ∀ k, IsReal (g k)) (hy : ∀ k, IsReal (y k)) (d : Fin 1024) :
    rowAt h x g y d = y d + h d * g d * rr x + x d * backAt h x g + backAt h x g * x d := by
  choose h' eh using hh
  choose x' ex using hx
  choose g' eg using hg
  choose y' ey using hy
  obtain rfl : h = fun k => (h' k : EReal) := funext eh
  obtain rfl : x = fun k => (x' k : EReal) := funext ex
  obtain rfl : g = fun k => (g' k : EReal) := funext eg
  obtain rfl : y = fun k => (y' k : EReal) := funext ey
  obtain ⟨v, hv, em, er⟩ := msq_real x'
  have h1 : (∑ k : Fin 1024, ((x' k : EReal) * ((h' k : EReal) * (g' k : EReal)))) = ((∑ k : Fin 1024, x' k * (h' k * g' k) : ℝ) : EReal) := by
    rw [← coe_sum]
    exact Finset.sum_congr rfl fun k _ => by push_cast; rfl
  have h2 : (∑ k : Fin 1024, ((h' k : EReal) * (g' k : EReal) * ((x' k : EReal) * (((Real.sqrt v)⁻¹ : ℝ) : EReal))))
      = (((∑ k : Fin 1024, x' k * (h' k * g' k)) * (Real.sqrt v)⁻¹ : ℝ) : EReal) := by
    rw [Finset.sum_mul, ← coe_sum]
    refine Finset.sum_congr rfl fun k _ => ?_
    norm_cast
    ring
  unfold rowAt backAt
  rw [em, er]
  dsimp only
  rw [h1, h2, ofBits_width, ofBits_neg_half, Ideal.div_coe hv.ne', Ideal.div_coe (by norm_num), Ideal.div_coe (by norm_num)]
  generalize (∑ k : Fin 1024, x' k * (h' k * g' k)) = S
  norm_cast
  have hr : (Real.sqrt v)⁻¹ * (Real.sqrt v)⁻¹ = 1 / v := by
    rw [← mul_inv, Real.mul_self_sqrt hv.le, one_div]
  rw [← hr]
  ring

end Cert.Hand
end
-- ==== Proof.RmsClaim.lean ====
/-
  The gradient through the two projections of a gated block and the norm before them: the value of the reference, and the
  comparison.

  The reference's gradient is the chain rule through the norm's own lines (square, mean, root, product), the kernel's the
  closed form of that derivative. They agree by an identity of the real numbers, row by row (`row_eq`).
-/
module

public import proofs.«01_k».proof.Proof.Rms
public import proofs.«01_k».proof.Proof.RmsRow
public import proofs.«01_k».proof.Proof.Gen.Reference4Ideal.Run
public import proofs.«01_k».proof.Defs
public import proofs.«01_k».proof.Proof.Gen.Pre_finite4
public import Idealize.ShloMosaic.Lib.Quiescent

@[expose] public section

set_option maxRecDepth 16384

noncomputable section

namespace Cert.Reference4Ideal.Rms

open Cert.Reference4Ideal Cert.Reference4Ideal.Gen Idealize.ShloMosaic Idealize.ShloMosaic.TcCoe Idealize.SL.Sem
open Cert.Hand
open Cert.Kernel4Ideal.Rms (dhAt rr rowAt gainAt)

variable (dg du : FVec Ideal S4x4096x704 .bf16) (wg wu : FVec Ideal S4x704x1024 .bf16)
variable (h x : FVec Ideal S4096x1024 .f32) (gain : FVec Ideal S1x1024 .f32) (y : FVec Ideal S4096x1024 .f32)

/-- The gradient of the normed input. -/
def dh : FVec Ideal S4096x1024 .f32 :=
  (addf (Host.dotGeneral dot_S4x704x4096_S4x704x1024_S4096x1024_01_01_2_2_n_n none (transpose S4x704x4096 [0, 2, 1] (extf .f32 du bitsLt_bf16_f32) transposes_S4x4096x704_S4x704x4096_0_2_1) (extf .f32 wu bitsLt_bf16_f32)) (Host.dotGeneral dot_S4x704x4096_S4x704x1024_S4096x1024_01_01_2_2_n_n none (transpose S4x704x4096 [0, 2, 1] (extf .f32 dg bitsLt_bf16_f32) transposes_S4x4096x704_S4x704x4096_0_2_1) (extf .f32 wg bitsLt_bf16_f32)))

/-- A row's mean square, kept off zero. -/
def msq : FVec Ideal S4096x1 .f32 :=
  (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))

/-- One over its root. -/
def rstd : FVec Ideal S4096x1 .f32 := Host.rsqrt (msq x)

/-- The gradient of each element's square. -/
def back : FVec Ideal S4096x1024 .f32 :=
  (broadcastInDim S4096x1024 ![0] bcast_S4096_S4096x1024_0 (Host.reduceAdd (Host.divf (mulf (shapeCast _ (Host.reduceAdd (mulf x (mulf h (broadcastInDim S4096x1024 ![0, 1] bcast_S1x1024_S4096x1024_0_1 gain))) (constant S_ .f32 0x00000000#32) reducesTo_S4096x1024_S4096_d1 h_S_) shapeCasts_S4096_S4096x1) (mulf (broadcastInDim S4096x1 ![] bcast_S_S4096x1 (constant S_ .f32 0xBF000000#32)) (Host.divf (rstd x) (msq x)))) (broadcastInDim S4096x1 ![] bcast_S_S4096x1 (constant S_ .f32 0x44800000#32))) (constant S_ .f32 0x00000000#32) reducesTo_S4096x1_S4096_d1 h_S_))

/-- The gradient of the block's input. -/
def dx : FVec Ideal S4096x1024 .f32 :=
  addf (addf (addf y (mulf (mulf h (broadcastInDim S4096x1024 ![0, 1] bcast_S1x1024_S4096x1024_0_1 gain)) (broadcastInDim S4096x1024 ![0, 1] bcast_S4096x1_S4096x1024_0_1 (rstd x)))) (mulf x (back h x gain))) (mulf (back h x gain) x)

/-- The gradient of the gain. -/
def dgain : FVec Ideal S1x1024 .f32 :=
  shapeCast _ (Host.reduceAdd (mulf (mulf x (broadcastInDim S4096x1024 ![0, 1] bcast_S4096x1_S4096x1024_0_1 (rstd x))) h) (constant S_ .f32 0x00000000#32) reducesTo_S4096x1024_S1024_d0 h_S_) shapeCasts_S1024_S1x1024

theorem dh_apply (l : Fin 4096) (d : Fin 1024) : dh dg du wg wu (ix2 l d) = dhAt dg du wg wu l d := by
  pointwise [dh]
  unfold dhAt
  rw [add_comm]

theorem msq_apply (l : Fin 4096) : msq x (ix2 l 0)
    = Ideal.div (∑ k : Fin 1024, x (ix2 l k) * x (ix2 l k)) (Ideal.ofBits .f32 0x44800000#32) + Ideal.ofBits .f32 0x358637BD#32 := by
  pointwise [msq]

theorem rstd_apply (l : Fin 4096) : rstd x (ix2 l 0) = rr fun k => x (ix2 l k) := by
  pointwise [rstd, msq_apply]
  rfl

theorem dgain_apply (d : Fin 1024) : dgain h x (ix2 0 d) = ∑ l : Fin 4096, gainAt (fun k => h (ix2 l k)) (fun k => x (ix2 l k)) d := by
  pointwise [dgain, rstd_apply]
  refine Finset.sum_congr rfl fun l _ => ?_
  exact mul_comm _ _

theorem back_apply (l : Fin 4096) (d : Fin 1024) : back h x gain (ix2 l d) = backAt (fun k => h (ix2 l k)) (fun k => x (ix2 l k)) (fun k => gain (ix2 0 k)) := by
  pointwise [back, rstd_apply, msq_apply]
  rw [Fin.sum_univ_one, rstd_apply, msq_apply]
  rfl

theorem dx_apply (l : Fin 4096) (d : Fin 1024) : dx h x gain y (ix2 l d)
    = y (ix2 l d) + h (ix2 l d) * gain (ix2 0 d) * (rr fun k => x (ix2 l k))
      + x (ix2 l d) * backAt (fun k => h (ix2 l k)) (fun k => x (ix2 l k)) (fun k => gain (ix2 0 k))
      + backAt (fun k => h (ix2 l k)) (fun k => x (ix2 l k)) (fun k => gain (ix2 0 k)) * x (ix2 l d) := by
  pointwise [dx, rstd_apply, back_apply]

theorem dgain_eq : Cert.Kernel4Ideal.Rms.dgain (dhAt dg du wg wu) (fun l k => x (ix2 l k)) = dgain (dh dg du wg wu) x := by
  funext i
  obtain ⟨z, d, rfl⟩ : ∃ (z : Fin 1) (d : Fin 1024), i = ix2 z d :=
    ⟨i 0, i 1, by funext x; match x with | ⟨0, _⟩ => rfl | ⟨1, _⟩ => rfl⟩
  obtain rfl : z = 0 := Subsingleton.elim _ _
  rw [dgain_apply]
  simp only [dh_apply]
  rfl

theorem dh_real (hdg : ∀ i, IsReal (dg i)) (hdu : ∀ i, IsReal (du i)) (hwg : ∀ i, IsReal (wg i)) (hwu : ∀ i, IsReal (wu i)) (l : Fin 4096) (d : Fin 1024) :
    IsReal (dhAt dg du wg wu l d) :=
  (IsReal.sum _ fun g _ => IsReal.sum _ fun f _ => (hdg _).mul (hwg _)).add (IsReal.sum _ fun g _ => IsReal.sum _ fun f _ => (hdu _).mul (hwu _))

theorem dx_eq (hdg : ∀ i, IsReal (dg i)) (hdu : ∀ i, IsReal (du i)) (hwg : ∀ i, IsReal (wg i)) (hwu : ∀ i, IsReal (wu i))
    (hx : ∀ i, IsReal (x i)) (hg : ∀ i, IsReal (gain i)) (hy : ∀ i, IsReal (y i)) (l : Fin 4096) (d : Fin 1024) :
    rowAt (dhAt dg du wg wu l) (fun k => x (ix2 l k)) (fun k => gain (ix2 0 k)) (fun k => y (ix2 l k)) d = dx (dh dg du wg wu) x gain y (ix2 l d) := by
  rw [dx_apply]
  simp only [dh_apply]
  exact row_eq _ _ _ _ (dh_real dg du wg wu hdg hdu hwg hwu l) (fun k => hx _) (fun k => hg _) (fun k => hy _) d

end Cert.Reference4Ideal.Rms

namespace Cert.Proof.Rms

open Idealize.ShloMosaic Idealize.ShloMosaic.TcCoe Idealize.SL.Sem
open Cert.Hand
open Cert.Kernel4Ideal.Rms (aDg aDu aWg aWu aX aGain aY dhc xc yc)

/-- What the precondition says: every element of every argument is a real number. -/
theorem isReal_of_pre (m : (ℓ : Loc Cert.Kernel4Ideal.nD Cert.Kernel4Ideal.τ Cert.Kernel4Ideal.sig) → Buf (Elt Ideal) ℓ)
    (h : Cert.Pre_Kernel4Ideal_finite4 m) (c : Dev Cert.Kernel4Ideal.nD) :
    (∀ i, IsReal (aDg m c i)) ∧ (∀ i, IsReal (aDu m c i)) ∧ (∀ i, IsReal (aWg m c i)) ∧ (∀ i, IsReal (aWu m c i))
      ∧ (∀ i, IsReal (aX m c i)) ∧ (∀ i, IsReal (aGain m c i)) ∧ (∀ i, IsReal (aY m c i)) := by
  obtain ⟨h0, h1, h2, h3, h4, h5, h6⟩ := h c
  refine ⟨fun i => ?_, fun i => ?_, fun i => ?_, fun i => ?_, fun i => ?_, fun i => ?_, fun i => ?_⟩
  · exact isReal_of_cmp (by rw [← ofBits_inf]; exact congrFun h0 i)
  · exact isReal_of_cmp (by rw [← ofBits_inf]; exact congrFun h1 i)
  · exact isReal_of_cmp (by rw [← ofBits_inf]; exact congrFun h2 i)
  · exact isReal_of_cmp (by rw [← ofBits_inf]; exact congrFun h3 i)
  · exact isReal_of_cmp (by rw [← ofBits_inf]; exact congrFun h4 i)
  · exact isReal_of_cmp (by rw [← ofBits_inf]; exact congrFun h5 i)
  · exact isReal_of_cmp (by rw [← ofBits_inf]; exact congrFun h6 i)

theorem frame_reference : Cert.quiescent_Reference4Ideal := fun m ρ _ =>
  (θ_run Cert.Reference4Ideal.defs _ _).mono (fun r h => ⟨fun c => (h c).2.2.2,
      Idealize.ShloMosaic.sem_eq_zero_of_no_sems (by decide) r.2⟩)
    (Cert.Reference4Ideal.Value.run (F := Ideal) m ρ)

theorem dx_eq (m : (ℓ : Loc Cert.Kernel4Ideal.nD Cert.Kernel4Ideal.τ Cert.Kernel4Ideal.sig) → Buf (Elt Ideal) ℓ)
    (h : Cert.Pre_Kernel4Ideal_finite4 m) (c : Dev Cert.Kernel4Ideal.nD) (l : Fin 4096) (d : Fin 1024) :
    Cert.Kernel4Ideal.Rms.rowAt (dhc m c l) (xc m c l) (fun k => aGain m c (ix2 0 k)) (yc m c l) d
      = Cert.Reference4Ideal.Rms.dx (Cert.Reference4Ideal.Rms.dh (aDg m c) (aDu m c) (aWg m c) (aWu m c)) (aX m c) (aGain m c) (aY m c) (ix2 l d) := by
  obtain ⟨h0, h1, h2, h3, h4, h5, h6⟩ := isReal_of_pre m h c
  exact Cert.Reference4Ideal.Rms.dx_eq _ _ _ _ _ _ _ h0 h1 h2 h3 h4 h5 h6 l d

theorem algebraic : Cert.algebraic_Kernel4Ideal_Reference4Ideal_pre_finite4 := by
  intro m ρ m' ρ' hpre hagree
  refine ⟨fun c => Cert.Kernel4Ideal.Rms.dx (dhc m c) (xc m c) (aGain m c) (yc m c),
    fun c => Cert.Kernel4Ideal.Rms.dxb (dhc m c) (xc m c) (aGain m c) (yc m c),
    fun c => Cert.Kernel4Ideal.Rms.dgain (dhc m c) (xc m c), ?_, ?_⟩
  · exact (θ_run Cert.Kernel4Ideal.defs _ _).mono
      (fun _ h c => ⟨(h c).1.trans (Cert.Kernel4Ideal.Rms.final7 m c), (h c).2.1.trans (Cert.Kernel4Ideal.Rms.final8 m c),
        (h c).2.2.1.trans (Cert.Kernel4Ideal.Rms.final9 m c), (h c).2.2.2⟩)
      (Cert.Kernel4Ideal.Value.run_blocks (F := Ideal) m ρ)
  refine (θ_run Cert.Reference4Ideal.defs _ _).mono (fun _ h c => ⟨(h c).1.trans ?_, (h c).2.1.trans ?_, (h c).2.2.1.trans ?_, (h c).2.2.2⟩)
    (Cert.Reference4Ideal.Value.run (F := Ideal) m' ρ')
  · obtain ⟨e0, e1, e2, e3, e4, e5, e6⟩ := hagree c
    unfold Cert.Reference4Ideal.Value.res_main_v47
    rw [e0, e1, e2, e3, e4, e5, e6]
    funext i
    obtain ⟨l, d, rfl⟩ : ∃ (l : Fin 4096) (d : Fin 1024), i = ix2 l d :=
      ⟨i 0, i 1, by funext x; match x with | ⟨0, _⟩ => rfl | ⟨1, _⟩ => rfl⟩
    exact (dx_eq m hpre c l d).symm
  · obtain ⟨e0, e1, e2, e3, e4, e5, e6⟩ := hagree c
    unfold Cert.Reference4Ideal.Value.res_main_v48
    rw [e0, e1, e2, e3, e4, e5, e6]
    funext i
    obtain ⟨l, d, rfl⟩ : ∃ (l : Fin 4096) (d : Fin 1024), i = ix2 l d :=
      ⟨i 0, i 1, by funext x; match x with | ⟨0, _⟩ => rfl | ⟨1, _⟩ => rfl⟩
    exact (dx_eq m hpre c l d).symm
  · obtain ⟨e0, e1, e2, e3, e4, e5, e6⟩ := hagree c
    rw [e0, e1, e2, e3, e4]
    exact (Cert.Reference4Ideal.Rms.dgain_eq _ _ _ _ _).symm

end Cert.Proof.Rms
end
-- ==== Proof.InProjBwdClaim.lean ====
/-
  The gradient through the mixers' input projection and the norm before it: the value of the reference, and the comparison.

  The reference's gradient is the chain rule through the norm's own lines, the kernel's the closed form of that derivative,
  as in the gated block: the lines after the product are the same as there, and so are their values (`RmsClaim`).
-/
module

public import proofs.«01_k».proof.Proof.InProjBwd
public import proofs.«01_k».proof.Proof.RmsClaim
public import proofs.«01_k».proof.Proof.Gen.Reference11Ideal.Run
public import proofs.«01_k».proof.Defs
public import proofs.«01_k».proof.Proof.Gen.Pre_finite11
public import Idealize.ShloMosaic.Lib.Quiescent

@[expose] public section

set_option maxRecDepth 16384

noncomputable section

namespace Cert.Reference11Ideal.InProjBwd

open Cert.Reference11Ideal Cert.Reference11Ideal.Gen Idealize.ShloMosaic Idealize.ShloMosaic.TcCoe Idealize.SL.Sem
open Cert.Hand
open Cert.Kernel4Ideal.Rms (rr rowAt gainAt)
open Cert.Kernel11Ideal.InProjBwd (dhAt col)
open Cert.Reference4Ideal.Rms (dx dgain dx_apply dgain_apply)

variable (du : FVec Ideal S4096x1536 .bf16) (w : FVec Ideal S4x1024x384 .bf16)
variable (x : FVec Ideal S4096x1024 .f32) (gain : FVec Ideal S1x1024 .f32) (y : FVec Ideal S4096x1024 .f32)

/-- The gradient of the normed input. -/
def dh : FVec Ideal S4096x1024 .f32 :=
  Host.dotGeneral dot_S4096x4x384_S4x1024x384_S4096x1024_12_02_0_1_n_n none (shapeCast S4096x4x384 (extf .f32 du bitsLt_bf16_f32) shapeCasts_S4096x1536_S4096x4x384) (extf .f32 w bitsLt_bf16_f32)

theorem dh_apply (l : Fin 4096) (d : Fin 1024) : dh du w (ix2 l d) = dhAt du w l d := by
  pointwise [dh]
  unfold dhAt
  refine Finset.sum_congr rfl fun g _ => Finset.sum_congr rfl fun f _ => ?_
  rw [show (⟨g.val * 384 + f.val, _⟩ : Fin 1536) = col g f from Fin.ext (by show g.val * 384 + f.val = 384 * g.val + f.val; rw [Nat.mul_comm])]

theorem dgain_eq : Cert.Kernel4Ideal.Rms.dgain (dhAt du w) (fun l k => x (ix2 l k)) = dgain (dh du w) x := by
  funext i
  obtain ⟨z, d, rfl⟩ : ∃ (z : Fin 1) (d : Fin 1024), i = ix2 z d :=
    ⟨i 0, i 1, by funext x; match x with | ⟨0, _⟩ => rfl | ⟨1, _⟩ => rfl⟩
  obtain rfl : z = 0 := Subsingleton.elim _ _
  rw [dgain_apply]
  simp only [dh_apply]
  rfl

theorem dx_eq (hdu : ∀ i, IsReal (du i)) (hw : ∀ i, IsReal (w i))
    (hx : ∀ i, IsReal (x i)) (hg : ∀ i, IsReal (gain i)) (hy : ∀ i, IsReal (y i)) (l : Fin 4096) (d : Fin 1024) :
    rowAt (dhAt du w l) (fun k => x (ix2 l k)) (fun k => gain (ix2 0 k)) (fun k => y (ix2 l k)) d = dx (dh du w) x gain y (ix2 l d) := by
  rw [dx_apply]
  simp only [dh_apply]
  exact row_eq _ _ _ _ (fun k => IsReal.sum _ fun g _ => IsReal.sum _ fun f _ => (hdu _).mul (hw _)) (fun k => hx _) (fun k => hg _) (fun k => hy _) d

end Cert.Reference11Ideal.InProjBwd

namespace Cert.Proof.InProjBwd

open Idealize.ShloMosaic Idealize.ShloMosaic.TcCoe Idealize.SL.Sem
open Cert.Hand
open Cert.Kernel11Ideal.InProjBwd (aDu aW aX aGain aY dhc xc yc)

/-- What the precondition says: every element of every argument is a real number. -/
theorem isReal_of_pre (m : (ℓ : Loc Cert.Kernel11Ideal.nD Cert.Kernel11Ideal.τ Cert.Kernel11Ideal.sig) → Buf (Elt Ideal) ℓ)
    (h : Cert.Pre_Kernel11Ideal_finite11 m) (c : Dev Cert.Kernel11Ideal.nD) :
    (∀ i, IsReal (aDu m c i)) ∧ (∀ i, IsReal (aW m c i))
      ∧ (∀ i, IsReal (aX m c i)) ∧ (∀ i, IsReal (aGain m c i)) ∧ (∀ i, IsReal (aY m c i)) := by
  obtain ⟨h0, h1, h2, h3, h4⟩ := h c
  refine ⟨fun i => ?_, fun i => ?_, fun i => ?_, fun i => ?_, fun i => ?_⟩
  · exact isReal_of_cmp (by rw [← ofBits_inf]; exact congrFun h0 i)
  · exact isReal_of_cmp (by rw [← ofBits_inf]; exact congrFun h1 i)
  · exact isReal_of_cmp (by rw [← ofBits_inf]; exact congrFun h2 i)
  · exact isReal_of_cmp (by rw [← ofBits_inf]; exact congrFun h3 i)
  · exact isReal_of_cmp (by rw [← ofBits_inf]; exact congrFun h4 i)

theorem frame_reference : Cert.quiescent_Reference11Ideal := fun m ρ _ =>
  (θ_run Cert.Reference11Ideal.defs _ _).mono (fun r h => ⟨fun c => (h c).2.2.2,
      Idealize.ShloMosaic.sem_eq_zero_of_no_sems (by decide) r.2⟩)
    (Cert.Reference11Ideal.Value.run (F := Ideal) m ρ)

theorem dx_eq (m : (ℓ : Loc Cert.Kernel11Ideal.nD Cert.Kernel11Ideal.τ Cert.Kernel11Ideal.sig) → Buf (Elt Ideal) ℓ)
    (h : Cert.Pre_Kernel11Ideal_finite11 m) (c : Dev Cert.Kernel11Ideal.nD) (l : Fin 4096) (d : Fin 1024) :
    Cert.Kernel4Ideal.Rms.rowAt (dhc m c l) (xc m c l) (fun k => aGain m c (ix2 0 k)) (yc m c l) d
      = Cert.Reference4Ideal.Rms.dx (Cert.Reference11Ideal.InProjBwd.dh (aDu m c) (aW m c)) (aX m c) (aGain m c) (aY m c) (ix2 l d) := by
  obtain ⟨h0, h1, h2, h3, h4⟩ := isReal_of_pre m h c
  exact Cert.Reference11Ideal.InProjBwd.dx_eq _ _ _ _ _ h0 h1 h2 h3 h4 l d

theorem algebraic : Cert.algebraic_Kernel11Ideal_Reference11Ideal_pre_finite11 := by
  intro m ρ m' ρ' hpre hagree
  refine ⟨fun c => Cert.Kernel4Ideal.Rms.dx (dhc m c) (xc m c) (aGain m c) (yc m c),
    fun c => Cert.Kernel4Ideal.Rms.dxb (dhc m c) (xc m c) (aGain m c) (yc m c),
    fun c => Cert.Kernel4Ideal.Rms.dgain (dhc m c) (xc m c), ?_, ?_⟩
  · exact (θ_run Cert.Kernel11Ideal.defs _ _).mono
      (fun _ h c => ⟨(h c).1.trans (Cert.Kernel11Ideal.InProjBwd.final5 m c), (h c).2.1.trans (Cert.Kernel11Ideal.InProjBwd.final6 m c),
        (h c).2.2.1.trans (Cert.Kernel11Ideal.InProjBwd.final7 m c), (h c).2.2.2⟩)
      (Cert.Kernel11Ideal.Value.run_blocks (F := Ideal) m ρ)
  refine (θ_run Cert.Reference11Ideal.defs _ _).mono (fun _ h c => ⟨(h c).1.trans ?_, (h c).2.1.trans ?_, (h c).2.2.1.trans ?_, (h c).2.2.2⟩)
    (Cert.Reference11Ideal.Value.run (F := Ideal) m' ρ')
  · obtain ⟨e0, e1, e2, e3, e4⟩ := hagree c
    unfold Cert.Reference11Ideal.Value.res_main_v40
    rw [e0, e1, e2, e3, e4]
    funext i
    obtain ⟨l, d, rfl⟩ : ∃ (l : Fin 4096) (d : Fin 1024), i = ix2 l d :=
      ⟨i 0, i 1, by funext x; match x with | ⟨0, _⟩ => rfl | ⟨1, _⟩ => rfl⟩
    exact (dx_eq m hpre c l d).symm
  · obtain ⟨e0, e1, e2, e3, e4⟩ := hagree c
    unfold Cert.Reference11Ideal.Value.res_main_v41
    rw [e0, e1, e2, e3, e4]
    funext i
    obtain ⟨l, d, rfl⟩ : ∃ (l : Fin 4096) (d : Fin 1024), i = ix2 l d :=
      ⟨i 0, i 1, by funext x; match x with | ⟨0, _⟩ => rfl | ⟨1, _⟩ => rfl⟩
    exact (dx_eq m hpre c l d).symm
  · obtain ⟨e0, e1, e2, e3, e4⟩ := hagree c
    rw [e0, e1, e2]
    exact (Cert.Reference11Ideal.InProjBwd.dgain_eq _ _ _).symm

end Cert.Proof.InProjBwd
end
-- ==== Proof.InProj.lean ====
/-
  The input projection: the value of the pipelined kernel.

  The grid is four blocks of 1024 rows by four blocks of 384 columns, the column block the faster coordinate. Each point
  multiplies its rows by the weight matrix of its column block; the sixteen blocks tile the result.
-/
module

public import proofs.«01_k».proof.Proof.Gen.Kernel12Ideal.Value
public import Idealize.ShloMosaic.Lib.Pointwise
public import Idealize.ShloMosaic.Lib.VecWindow
public import proofs.«01_k».proof.Proof.Reals

@[expose] public section

set_option maxRecDepth 16384

noncomputable section

namespace Cert.Kernel12Ideal.InProj

open Cert.Kernel12Ideal Cert.Kernel12Ideal.Gen Idealize.ShloMosaic Idealize.ShloMosaic.TcCoe Idealize.SL.Sem
open Cert.Hand

def uAt (h : FVec Ideal S4096x1024 .bf16) (w : FVec Ideal S4x1024x384 .bf16) (l : Fin 4096) (g : Fin 4) (f : Fin 384) : EReal :=
  ∑ d : Fin 1024, h (ix2 l d) * w (ix3 g d f)
/-- The projection: column `384 g + f` is the product with column `f` of matrix `g`. -/
def u (h : FVec Ideal S4096x1024 .bf16) (w : FVec Ideal S4x1024x384 .bf16) : FVec Ideal S4096x1536 .f32 :=
  fun i => uAt h w (i 0) ⟨(i 1 : Nat) / 384, by have := (i 1).isLt; exact Nat.div_lt_of_lt_mul this⟩ ⟨(i 1 : Nat) % 384, Nat.mod_lt _ (by decide)⟩

theorem u_ix (h : FVec Ideal S4096x1024 .bf16) (w : FVec Ideal S4x1024x384 .bf16) (l : Fin 4096) (k : Fin 1536) (g : Fin 4) (f : Fin 384)
    (hk : k.val = 384 * g.val + f.val) : u h w (ix2 l k) = uAt h w l g f := by
  refine congr (congrArg (uAt h w l) (Fin.ext ?_)) (Fin.ext ?_)
  · show k.val / 384 = g.val; omega
  · show k.val % 384 = f.val; omega

theorem pay1_apply (v0 : Vec Ideal S1024x1024 .bf16) (v2 : Vec Ideal S1x1024x384 .bf16) (r : Fin 1024) (f : Fin 384) :
    k0_pay1 v0 v2 (ix2 r f) = ∑ d : Fin 1024, v0 (ix2 r d) * v2 (ix3 0 d f) := by
  pointwise [k0_pay1]

section
variable {F : FTy → Type} [FloatOps F]
variable (m : (ℓ : Loc nD τ sig) → Buf (Elt F) ℓ)

theorem idx0 : ∀ t : Fin cfg0.N, win0_0.index t 0 * win0_0.size 0 = 1024 * (t.val / 4) ∧ win0_0.index t 1 * win0_0.size 1 = 0 :=
  (by decide +kernel : ∀ t : Fin grid0.N, win0_0.index t 0 * win0_0.size 0 = 1024 * (t.val / 4) ∧ win0_0.index t 1 * win0_0.size 1 = 0)
theorem idx1 : ∀ t : Fin cfg0.N, win0_1.index t 0 * win0_1.size 0 = 0 ∧ win0_1.index t 1 * win0_1.size 1 = 0 ∧ win0_1.index t 2 * win0_1.size 2 = 0 :=
  (by decide +kernel : ∀ t : Fin grid0.N, win0_1.index t 0 * win0_1.size 0 = 0 ∧ win0_1.index t 1 * win0_1.size 1 = 0 ∧ win0_1.index t 2 * win0_1.size 2 = 0)
theorem idx2 : ∀ t : Fin cfg0.N, win0_2.index t 0 * win0_2.size 0 = 1024 * (t.val / 4) ∧ win0_2.index t 1 * win0_2.size 1 = 384 * (t.val % 4) :=
  (by decide +kernel : ∀ t : Fin grid0.N, win0_2.index t 0 * win0_2.size 0 = 1024 * (t.val / 4) ∧ win0_2.index t 1 * win0_2.size 1 = 384 * (t.val % 4))
theorem iblk0 (c : Dev nD) (t : Fin cfg0.N) (r : Fin 1024) (d : Fin 1024) (l : Fin 4096) (hl : l.val = 1024 * (t.val / 4) + r.val) :
    iblk m c 0 t (ix2 r d) = m ((c : Thread nD τ).loc main_arg0) (ix2 l d) := by
  unfold iblk
  rw [View.read_apply]
  refine congrArg (m ((c : Thread nD τ).loc main_arg0)) (funext fun a => Fin.ext ?_)
  match a with
  | ⟨0, _⟩ => show win0_0.index t 0 * win0_0.size 0 + 1 * r.val = l.val; rw [(idx0 t).1, hl]; omega
  | ⟨1, _⟩ => show win0_0.index t 1 * win0_0.size 1 + 1 * d.val = d.val; rw [(idx0 t).2]; omega
theorem iblk1 (c : Dev nD) (t : Fin cfg0.N) (g : Fin 4) (d : Fin 1024) (f : Fin 384)  :
    iblk m c 1 t (ix3 g d f) = m ((c : Thread nD τ).loc main_arg1) (ix3 g d f) := by
  unfold iblk
  rw [View.read_apply]
  refine congrArg (m ((c : Thread nD τ).loc main_arg1)) (funext fun a => Fin.ext ?_)
  match a with
  | ⟨0, _⟩ => show win0_1.index t 0 * win0_1.size 0 + 1 * g.val = g.val; rw [(idx1 t).1]; omega
  | ⟨1, _⟩ => show win0_1.index t 1 * win0_1.size 1 + 1 * d.val = d.val; rw [(idx1 t).2.1]; omega
  | ⟨2, _⟩ => show win0_1.index t 2 * win0_1.size 2 + 1 * f.val = f.val; rw [(idx1 t).2.2]; omega
theorem emb2 (t : Fin cfg0.N) (r : Fin 1024) (f : Fin 384) (l : Fin 4096) (k : Fin 1536) (hl : l.val = 1024 * (t.val / 4) + r.val) (hk : k.val = 384 * (t.val % 4) + f.val) :
    (win0_2.blk t).view.emb (ix2 r f) = (ix2 l k : S4096x1536.Idx) := by
  refine funext fun a => Fin.ext ?_
  match a with
  | ⟨0, _⟩ => show win0_2.index t 0 * win0_2.size 0 + 1 * r.val = l.val; rw [(idx2 t).1, hl]; omega
  | ⟨1, _⟩ => show win0_2.index t 1 * win0_2.size 1 + 1 * f.val = k.val; rw [(idx2 t).2, hk]; omega
theorem hz2 : (![0, 0] : Fin 2 → Nat) = fun _ => 0 := funext fun a => by fin_cases a <;> rfl

/-- A load of one matrix of the stack, at an index. -/
theorem ld_weights (x : Vec F S4x1024x384 .bf16) (o : Fin 3 → Nat) (inb) (g : Fin 4) (d : Fin 1024) (f : Fin 384) (h0 : o 0 = g.val) (h1 : o 1 = 0) (h2 : o 2 = 0) :
    View.ld x (Rect.unit (s := S4x1024x384) o S1x1024x384.size inb) (ix3 0 d f) = x (ix3 g d f) := by
  refine congrArg x (funext fun a => Fin.ext ?_)
  match a with
  | ⟨0, _⟩ => show o 0 + 1 * 0 = g.val; omega
  | ⟨1, _⟩ => show o 1 + 1 * d.val = d.val; omega
  | ⟨2, _⟩ => show o 2 + 1 * f.val = f.val; omega

/-- The point's second coordinate is the column block. -/
theorem coord1 : ∀ t : Fin cfg0.N, (grid0.coords t 1).val = t.val % 4 :=
  (by decide +kernel : ∀ t : Fin grid0.N, (grid0.coords t 1).val = t.val % 4)

theorem off1 (t : Fin cfg0.N) : (Scalar.indexCast (BitVec.ofNat 32 (grid0.coords t 1).val)).toNat = t.val % 4 := by
  rw [coord1]
  show (BitVec.ofNat 32 (t.val % 4)).toNat = t.val % 4
  rw [BitVec.toNat_ofNat]
  omega

/-- What a point leaves in the result's buffer: its row block times the matrix it picks. -/
theorem out2 (c : Dev nD) (t : Fin cfg0.N) : ∃ inb, outsAt0 m c t = k0_pay1 (iblk m c 0 t)
    (View.ld (iblk m c 1 t) (Rect.unit (s := S4x1024x384) ![(Scalar.indexCast (BitVec.ofNat 32 (grid0.coords t 1).val)).toNat, 0, 0] S1x1024x384.size inb)) := by
  refine ⟨?_, ?_⟩
  rotate_left
  · unfold outsAt0 out0_A_2
    dsimp only
    unfold kernelRun0_A
    dsimp only
    sl_unfold_words
    rw [View.read_writes_full]
    simp only [View.readAt_eq_ld, (hs0_0 t).read_unread, (hs0_1 t).read_unread]
    exact congr (congrArg k0_pay1 (View.ld_unit_zero (S := S1024x1024) hz2 _ _)) rfl
  · rw [off1 t]
    have h4 : t.val % 4 < 4 := Nat.mod_lt _ (by decide)
    intro a
    match a with
    | ⟨0, _⟩ => show t.val % 4 + 1 ≤ 4; omega
    | ⟨1, _⟩ => show 0 + 1024 ≤ 1024; omega
    | ⟨2, _⟩ => show 0 + 384 ≤ 384; omega

end

section
variable (m : (ℓ : Loc nD τ sig) → Buf (Elt Ideal) ℓ)

theorem lt_N (t : Fin cfg0.N) : t.val < 16 := lt_of_lt_of_eq t.isLt N_0

/-- The device's arguments, by name. -/
abbrev aH (c : Dev nD) : FVec Ideal S4096x1024 .bf16 := m ((c : Thread nD τ).loc main_arg0)
abbrev aW (c : Dev nD) : FVec Ideal S4x1024x384 .bf16 := m ((c : Thread nD τ).loc main_arg1)

theorem flushed2 (c : Dev nD) (t : Fin cfg0.N) :
    (dats m 0 c).flushed 2 t = (win0_2.blk t).view.read (Elt Ideal) (u (aH m c) (aW m c)) := by
  rw [Value.flushed2]
  obtain ⟨inb, e⟩ := out2 m c t
  rw [e]
  funext y
  obtain ⟨r, f, rfl⟩ : ∃ (r : Fin 1024) (f : Fin 384), y = ix2 r f :=
    ⟨y 0, y 1, by funext a; match a with | ⟨0, _⟩ => rfl | ⟨1, _⟩ => rfl⟩
  have ht := lt_N t
  have hl : (⟨1024 * (t.val / 4) + r.val, by omega⟩ : Fin 4096).val = 1024 * (t.val / 4) + r.val := rfl
  have hk : (⟨384 * (t.val % 4) + f.val, by omega⟩ : Fin 1536).val = 384 * (t.val % 4) + f.val := rfl
  rw [View.read_apply]
  refine Eq.trans ?_ (congrArg (u (aH m c) (aW m c)) (emb2 t r f _ _ hl hk).symm)
  refine (pay1_apply _ _ r f).trans (Eq.trans ?_ (u_ix (aH m c) (aW m c) _ _ ⟨t.val % 4, Nat.mod_lt _ (by decide)⟩ f hk).symm)
  unfold uAt
  exact Finset.sum_congr rfl fun d _ => congr (congrArg _ (iblk0 m c t r d _ hl))
    ((ld_weights (iblk m c 1 t) _ inb ⟨t.val % 4, Nat.mod_lt _ (by decide)⟩ d f (off1 t) rfl rfl).trans (iblk1 m c t _ d f))

/-- Every index of the result lies in the block of the point of its row and column block. -/
theorem cover2 (i : S4096x1536.Idx) : ∃ t : Fin cfg0.N, (cfg0.win 2).flush t = true ∧ i ∈ ((cfg0.win 2).blk t).view.set := by
  have h0 : (i 0 : Nat) < 4096 := (i 0).isLt
  have h1 : (i 1 : Nat) < 1536 := (i 1).isLt
  have hN : cfg0.N = 16 := N_0
  have ht : 4 * ((i 0 : Nat) / 1024) + (i 1 : Nat) / 384 < cfg0.N := by omega
  refine ⟨⟨_, ht⟩, flush0_2 _, ?_⟩
  have e : (win0_2.blk ⟨_, ht⟩).view.emb (ix2 ⟨(i 0 : Nat) % 1024, by omega⟩ ⟨(i 1 : Nat) % 384, by omega⟩) = i :=
    (emb2 ⟨_, ht⟩ ⟨(i 0 : Nat) % 1024, by omega⟩ ⟨(i 1 : Nat) % 384, by omega⟩ (i 0) (i 1) (by dsimp only; omega) (by dsimp only; omega)).trans
      (by funext a; match a with | ⟨0, _⟩ => rfl | ⟨1, _⟩ => rfl)
  exact (congrArg (fun j => j ∈ ((cfg0.win 2).blk ⟨_, ht⟩).view.set) e).mp (Finset.mem_map_of_mem _ (Finset.mem_univ _))

theorem final2 (c : Dev nD) : (dats m 0 c).arrAt 2 cfg0.N = u (aH m c) (aW m c) :=
  (dats m 0 c).arrAt_eq_of_cover 2 _ (fun t _ => flushed2 m c t) cover2

end
end Cert.Kernel12Ideal.InProj
end
-- ==== Proof.InProjClaim.lean ====
/-
  The input projection: the value of the reference, and the comparison.
-/
module

public import proofs.«01_k».proof.Proof.InProj
public import proofs.«01_k».proof.Proof.Gen.Reference12Ideal.Run
public import proofs.«01_k».proof.Defs
public import Idealize.ShloMosaic.Lib.Quiescent

@[expose] public section

set_option maxRecDepth 16384

noncomputable section

namespace Cert.Reference12Ideal.InProj

open Cert.Reference12Ideal Cert.Reference12Ideal.Gen Idealize.ShloMosaic Idealize.ShloMosaic.TcCoe Idealize.SL.Sem
open Cert.Hand

variable (h : FVec Ideal S4096x1024 .bf16) (w : FVec Ideal S4x1024x384 .bf16)

/-- The reference's result, of its arguments. -/
def u : FVec Ideal S4096x1536 .f32 :=
  shapeCast S4096x1536 (Host.dotGeneral dot_S4096x1024_S4x1024x384_S4096x4x384_1_1_0_02_n_n none (extf .f32 h bitsLt_bf16_f32) (extf .f32 w bitsLt_bf16_f32)) shapeCasts_S4096x4x384_S4096x1536

theorem u_eq : Cert.Kernel12Ideal.InProj.u h w = u h w := by
  funext i
  obtain ⟨l, k, rfl⟩ : ∃ (l : Fin 4096) (k : Fin 1536), i = ix2 l k :=
    ⟨i 0, i 1, by funext x; match x with | ⟨0, _⟩ => rfl | ⟨1, _⟩ => rfl⟩
  rw [Cert.Kernel12Ideal.InProj.u_ix h w l k ⟨k.val / 384, by omega⟩ ⟨k.val % 384, by omega⟩ (by dsimp only; omega)]
  symm
  pointwise [u]
  rfl

end Cert.Reference12Ideal.InProj

namespace Cert.Proof.InProj

open Idealize.ShloMosaic Idealize.ShloMosaic.TcCoe Idealize.SL.Sem
open Cert.Kernel12Ideal.InProj

theorem frame_reference : Cert.quiescent_Reference12Ideal := fun m ρ _ =>
  (θ_run Cert.Reference12Ideal.defs _ _).mono (fun r h => ⟨fun c => (h c).2,
      Idealize.ShloMosaic.sem_eq_zero_of_no_sems (by decide) r.2⟩)
    (Cert.Reference12Ideal.Value.run (F := Ideal) m ρ)

theorem algebraic : Cert.algebraic_Kernel12Ideal_Reference12Ideal := by
  intro m ρ m' ρ' _ hagree
  refine ⟨fun c => Cert.Kernel12Ideal.InProj.u (aH m c) (aW m c), ?_, ?_⟩
  · exact (θ_run Cert.Kernel12Ideal.defs _ _).mono
      (fun _ h c => ⟨(h c).1.trans (Cert.Kernel12Ideal.InProj.final2 m c), (h c).2⟩)
      (Cert.Kernel12Ideal.Value.run_blocks (F := Ideal) m ρ)
  refine (θ_run Cert.Reference12Ideal.defs _ _).mono (fun _ h c => ⟨(h c).1.trans ?_, (h c).2⟩)
    (Cert.Reference12Ideal.Value.run (F := Ideal) m' ρ')
  rw [(hagree c).1, (hagree c).2]
  exact (Cert.Reference12Ideal.InProj.u_eq _ _).symm

end Cert.Proof.InProj
end
-- ==== Proof.MixOut.lean ====
/-
  The output projection and the next block's normed input: the value of the pipelined kernel.

  Grid point `t` takes rows `1024 t` to `1024 t + 1023`. Its residual block is the input's plus the product with the
  output projection, its normed block the residual block scaled row by row; the four blocks tile the arrays.
-/
module

public import proofs.«01_k».proof.Proof.Gen.Kernel13Ideal.Value
public import Idealize.ShloMosaic.Lib.Pointwise
public import Idealize.ShloMosaic.Lib.VecWindow
public import proofs.«01_k».proof.Proof.Reals

@[expose] public section

set_option maxRecDepth 16384

noncomputable section

namespace Cert.Kernel13Ideal.MixOut

open Cert.Kernel13Ideal Cert.Kernel13Ideal.Gen Idealize.ShloMosaic Idealize.ShloMosaic.TcCoe Idealize.SL.Sem
open Cert.Hand

/-- The residual stream after the mixers. -/
def resAt (cat : FVec Ideal S4096x1024 .bf16) (w : FVec Ideal S1024x1024 .bf16) (x : FVec Ideal S4096x1024 .f32) (l : Fin 4096) (d : Fin 1024) : EReal :=
  x (ix2 l d) + ∑ e : Fin 1024, cat (ix2 l e) * w (ix2 e d)

/-- A row `y` scaled to unit mean square, at column `d`, times the gain. -/
def normAt (y : Fin 1024 → EReal) (gain : FVec Ideal S1x1024 .f32) (d : Fin 1024) : EReal :=
  y d * Ideal.rsqrt (Ideal.div (∑ k : Fin 1024, y k * y k) (Ideal.ofBits .f32 0x44800000#32) + Ideal.ofBits .f32 0x358637BD#32) * gain (ix2 0 d)

def res (cat : FVec Ideal S4096x1024 .bf16) (w : FVec Ideal S1024x1024 .bf16) (x : FVec Ideal S4096x1024 .f32) : FVec Ideal S4096x1024 .f32 :=
  fun i => resAt cat w x (i 0) (i 1)
def norm (cat : FVec Ideal S4096x1024 .bf16) (w : FVec Ideal S1024x1024 .bf16) (x : FVec Ideal S4096x1024 .f32) (gain : FVec Ideal S1x1024 .f32) :
    FVec Ideal S4096x1024 .bf16 :=
  fun i => normAt (resAt cat w x (i 0)) gain (i 1)

theorem pay1_apply (v0 : Vec Ideal S1024x1024 .f32) (v1 v2 : Vec Ideal S1024x1024 .bf16) (r : Fin 1024) (d : Fin 1024) :
    k0_pay1 v0 v1 v2 (ix2 r d) = v0 (ix2 r d) + ∑ e : Fin 1024, v1 (ix2 r e) * v2 (ix2 e d) := by
  pointwise [k0_pay1]

theorem pay2_apply (v0 : Vec Ideal S1024x1024 .f32) (v1 v2 : Vec Ideal S1024x1024 .bf16) (gain : Vec Ideal S1x1024 .f32) (r : Fin 1024) (d : Fin 1024) :
    k0_pay2 v0 v1 v2 gain (ix2 r d) = normAt (fun k => k0_pay1 v0 v1 v2 (ix2 r k)) gain d := by
  generalize hy : k0_pay1 v0 v1 v2 = y
  unfold k0_pay2
  rw [hy]
  pointwise []
  rfl

section
variable {F : FTy → Type} [FloatOps F]
variable (m : (ℓ : Loc nD τ sig) → Buf (Elt F) ℓ)

theorem idx0 : ∀ t : Fin cfg0.N, win0_0.index t 0 * win0_0.size 0 = 1024 * t.val ∧ win0_0.index t 1 * win0_0.size 1 = 0 :=
  (by decide +kernel : ∀ t : Fin grid0.N, win0_0.index t 0 * win0_0.size 0 = 1024 * t.val ∧ win0_0.index t 1 * win0_0.size 1 = 0)
theorem idx1 : ∀ t : Fin cfg0.N, win0_1.index t 0 * win0_1.size 0 = 0 ∧ win0_1.index t 1 * win0_1.size 1 = 0 :=
  (by decide +kernel : ∀ t : Fin grid0.N, win0_1.index t 0 * win0_1.size 0 = 0 ∧ win0_1.index t 1 * win0_1.size 1 = 0)
theorem idx2 : ∀ t : Fin cfg0.N, win0_2.index t 0 * win0_2.size 0 = 1024 * t.val ∧ win0_2.index t 1 * win0_2.size 1 = 0 :=
  (by decide +kernel : ∀ t : Fin grid0.N, win0_2.index t 0 * win0_2.size 0 = 1024 * t.val ∧ win0_2.index t 1 * win0_2.size 1 = 0)
theorem idx3 : ∀ t : Fin cfg0.N, win0_3.index t 0 * win0_3.size 0 = 0 ∧ win0_3.index t 1 * win0_3.size 1 = 0 :=
  (by decide +kernel : ∀ t : Fin grid0.N, win0_3.index t 0 * win0_3.size 0 = 0 ∧ win0_3.index t 1 * win0_3.size 1 = 0)
theorem iblk0 (c : Dev nD) (t : Fin cfg0.N) (r : Fin 1024) (d : Fin 1024) (l : Fin 4096) (hl : l.val = 1024 * t.val + r.val) :
    iblk m c 0 t (ix2 r d) = m ((c : Thread nD τ).loc main_arg0) (ix2 l d) := by
  unfold iblk
  rw [View.read_apply]
  refine congrArg (m ((c : Thread nD τ).loc main_arg0)) (funext fun a => Fin.ext ?_)
  match a with
  | ⟨0, _⟩ => show win0_0.index t 0 * win0_0.size 0 + 1 * r.val = l.val; rw [(idx0 t).1, hl]; omega
  | ⟨1, _⟩ => show win0_0.index t 1 * win0_0.size 1 + 1 * d.val = d.val; rw [(idx0 t).2]; omega
theorem iblk1 (c : Dev nD) (t : Fin cfg0.N) (e : Fin 1024) (d : Fin 1024)  :
    iblk m c 1 t (ix2 e d) = m ((c : Thread nD τ).loc main_arg1) (ix2 e d) := by
  unfold iblk
  rw [View.read_apply]
  refine congrArg (m ((c : Thread nD τ).loc main_arg1)) (funext fun a => Fin.ext ?_)
  match a with
  | ⟨0, _⟩ => show win0_1.index t 0 * win0_1.size 0 + 1 * e.val = e.val; rw [(idx1 t).1]; omega
  | ⟨1, _⟩ => show win0_1.index t 1 * win0_1.size 1 + 1 * d.val = d.val; rw [(idx1 t).2]; omega
theorem iblk2 (c : Dev nD) (t : Fin cfg0.N) (r : Fin 1024) (d : Fin 1024) (l : Fin 4096) (hl : l.val = 1024 * t.val + r.val) :
    iblk m c 2 t (ix2 r d) = m ((c : Thread nD τ).loc main_arg2) (ix2 l d) := by
  unfold iblk
  rw [View.read_apply]
  refine congrArg (m ((c : Thread nD τ).loc main_arg2)) (funext fun a => Fin.ext ?_)
  match a with
  | ⟨0, _⟩ => show win0_2.index t 0 * win0_2.size 0 + 1 * r.val = l.val; rw [(idx2 t).1, hl]; omega
  | ⟨1, _⟩ => show win0_2.index t 1 * win0_2.size 1 + 1 * d.val = d.val; rw [(idx2 t).2]; omega
theorem iblk3 (c : Dev nD) (t : Fin cfg0.N) (d : Fin 1024)  :
    iblk m c 3 t (ix2 0 d) = m ((c : Thread nD τ).loc main_arg3) (ix2 0 d) := by
  unfold iblk
  rw [View.read_apply]
  refine congrArg (m ((c : Thread nD τ).loc main_arg3)) (funext fun a => Fin.ext ?_)
  match a with
  | ⟨0, _⟩ => show win0_3.index t 0 * win0_3.size 0 + 1 * 0 = 0; rw [(idx3 t).1]
  | ⟨1, _⟩ => show win0_3.index t 1 * win0_3.size 1 + 1 * d.val = d.val; rw [(idx3 t).2]; omega
theorem idx4 : ∀ t : Fin cfg0.N, win0_4.index t 0 * win0_4.size 0 = 1024 * t.val ∧ win0_4.index t 1 * win0_4.size 1 = 0 :=
  (by decide +kernel : ∀ t : Fin grid0.N, win0_4.index t 0 * win0_4.size 0 = 1024 * t.val ∧ win0_4.index t 1 * win0_4.size 1 = 0)
theorem emb4 (t : Fin cfg0.N) (r : Fin 1024) (d : Fin 1024) (l : Fin 4096) (hl : l.val = 1024 * t.val + r.val) :
    (win0_4.blk t).view.emb (ix2 r d) = (ix2 l d : S4096x1024.Idx) := by
  refine funext fun a => Fin.ext ?_
  match a with
  | ⟨0, _⟩ => show win0_4.index t 0 * win0_4.size 0 + 1 * r.val = l.val; rw [(idx4 t).1, hl]; omega
  | ⟨1, _⟩ => show win0_4.index t 1 * win0_4.size 1 + 1 * d.val = d.val; rw [(idx4 t).2]; omega
theorem idx5 : ∀ t : Fin cfg0.N, win0_5.index t 0 * win0_5.size 0 = 1024 * t.val ∧ win0_5.index t 1 * win0_5.size 1 = 0 :=
  (by decide +kernel : ∀ t : Fin grid0.N, win0_5.index t 0 * win0_5.size 0 = 1024 * t.val ∧ win0_5.index t 1 * win0_5.size 1 = 0)
theorem emb5 (t : Fin cfg0.N) (r : Fin 1024) (d : Fin 1024) (l : Fin 4096) (hl : l.val = 1024 * t.val + r.val) :
    (win0_5.blk t).view.emb (ix2 r d) = (ix2 l d : S4096x1024.Idx) := by
  refine funext fun a => Fin.ext ?_
  match a with
  | ⟨0, _⟩ => show win0_5.index t 0 * win0_5.size 0 + 1 * r.val = l.val; rw [(idx5 t).1, hl]; omega
  | ⟨1, _⟩ => show win0_5.index t 1 * win0_5.size 1 + 1 * d.val = d.val; rw [(idx5 t).2]; omega
theorem hz2 : (![0, 0] : Fin 2 → Nat) = fun _ => 0 := funext fun a => by fin_cases a <;> rfl

theorem out4 (x0 : Vec F S1024x1024 .bf16) (x1 : Vec F S1024x1024 .bf16) (x2 : Vec F S1024x1024 .f32) (x3 : Vec F S1x1024 .f32) :
    out0_4 x0 x1 x2 x3 = k0_pay1 x2 x0 x1 := by
  unfold out0_4
  exact (View.canon_cons_unit_zero (S := S1024x1024) hz2 _ _ _).trans
    (congr (congr (congrArg k0_pay1 (View.ld_unit_zero (S := S1024x1024) hz2 _ _)) (View.ld_unit_zero (S := S1024x1024) hz2 _ _)) (View.ld_unit_zero (S := S1024x1024) hz2 _ _))
theorem out5 (x0 : Vec F S1024x1024 .bf16) (x1 : Vec F S1024x1024 .bf16) (x2 : Vec F S1024x1024 .f32) (x3 : Vec F S1x1024 .f32) :
    out0_5 x0 x1 x2 x3 = k0_pay2 x2 x0 x1 x3 := by
  unfold out0_5
  exact (View.canon_cons_unit_zero (S := S1024x1024) hz2 _ _ _).trans
    (congr (congr (congr (congrArg k0_pay2 (View.ld_unit_zero (S := S1024x1024) hz2 _ _)) (View.ld_unit_zero (S := S1024x1024) hz2 _ _)) (View.ld_unit_zero (S := S1024x1024) hz2 _ _)) (View.ld_unit_zero (S := S1x1024) hz2 _ _))

end

section
variable (m : (ℓ : Loc nD τ sig) → Buf (Elt Ideal) ℓ)

theorem lt_N (t : Fin cfg0.N) : t.val < 4 := lt_of_lt_of_eq t.isLt N_0

/-- The device's arguments, by name. -/
abbrev aCat (c : Dev nD) : FVec Ideal S4096x1024 .bf16 := m ((c : Thread nD τ).loc main_arg0)
abbrev aW (c : Dev nD) : FVec Ideal S1024x1024 .bf16 := m ((c : Thread nD τ).loc main_arg1)
abbrev aX (c : Dev nD) : FVec Ideal S4096x1024 .f32 := m ((c : Thread nD τ).loc main_arg2)
abbrev aGain (c : Dev nD) : FVec Ideal S1x1024 .f32 := m ((c : Thread nD τ).loc main_arg3)

/-- The residual block of point `t`, at an index. -/
theorem res_apply (c : Dev nD) (t : Fin cfg0.N) (r : Fin 1024) (d : Fin 1024) (l : Fin 4096) (hl : l.val = 1024 * t.val + r.val) :
    k0_pay1 (iblk m c 2 t) (iblk m c 0 t) (iblk m c 1 t) (ix2 r d) = resAt (aCat m c) (aW m c) (aX m c) l d :=
  (pay1_apply _ _ _ r d).trans (congr (congrArg _ (iblk2 m c t r d l hl))
    (Finset.sum_congr rfl fun e _ => congr (congrArg _ (iblk0 m c t r e l hl)) (iblk1 m c t e d)))

theorem flushed4 (c : Dev nD) (t : Fin cfg0.N) :
    (dats m 0 c).flushed 4 t = (win0_4.blk t).view.read (Elt Ideal) (res (aCat m c) (aW m c) (aX m c)) := by
  rw [Value.flushed4, out4]
  funext y
  obtain ⟨r, d, rfl⟩ : ∃ (r : Fin 1024) (d : Fin 1024), y = ix2 r d :=
    ⟨y 0, y 1, by funext a; match a with | ⟨0, _⟩ => rfl | ⟨1, _⟩ => rfl⟩
  have ht := lt_N t
  have hl : (⟨1024 * t.val + r.val, by omega⟩ : Fin 4096).val = 1024 * t.val + r.val := rfl
  rw [View.read_apply]
  refine Eq.trans ?_ (congrArg (res (aCat m c) (aW m c) (aX m c)) (emb4 t r d _ hl).symm)
  exact res_apply m c t r d _ hl

/-- Every index of the result lies in the block of the point of its row block. -/
theorem cover4 (i : S4096x1024.Idx) : ∃ t : Fin cfg0.N, (cfg0.win 4).flush t = true ∧ i ∈ ((cfg0.win 4).blk t).view.set := by
  have h0 : (i 0 : Nat) < 4096 := (i 0).isLt
  have hN : cfg0.N = 4 := N_0
  have ht : (i 0 : Nat) / 1024 < cfg0.N := by omega
  refine ⟨⟨_, ht⟩, flush0_4 _, ?_⟩
  have e : (win0_4.blk ⟨_, ht⟩).view.emb (ix2 ⟨(i 0 : Nat) % 1024, by omega⟩ (i 1)) = i :=
    (emb4 ⟨_, ht⟩ ⟨(i 0 : Nat) % 1024, by omega⟩ (i 1) (i 0) (by dsimp only; omega)).trans
      (by funext a; match a with | ⟨0, _⟩ => rfl | ⟨1, _⟩ => rfl)
  exact (congrArg (fun j => j ∈ ((cfg0.win 4).blk ⟨_, ht⟩).view.set) e).mp (Finset.mem_map_of_mem _ (Finset.mem_univ _))

theorem final4 (c : Dev nD) : (dats m 0 c).arrAt 4 cfg0.N = res (aCat m c) (aW m c) (aX m c) :=
  (dats m 0 c).arrAt_eq_of_cover 4 _ (fun t _ => flushed4 m c t) cover4

theorem flushed5 (c : Dev nD) (t : Fin cfg0.N) :
    (dats m 0 c).flushed 5 t = (win0_5.blk t).view.read (Elt Ideal) (norm (aCat m c) (aW m c) (aX m c) (aGain m c)) := by
  rw [Value.flushed5, out5]
  funext y
  obtain ⟨r, d, rfl⟩ : ∃ (r : Fin 1024) (d : Fin 1024), y = ix2 r d :=
    ⟨y 0, y 1, by funext a; match a with | ⟨0, _⟩ => rfl | ⟨1, _⟩ => rfl⟩
  have ht := lt_N t
  have hl : (⟨1024 * t.val + r.val, by omega⟩ : Fin 4096).val = 1024 * t.val + r.val := rfl
  rw [View.read_apply]
  refine Eq.trans ?_ (congrArg (norm (aCat m c) (aW m c) (aX m c) (aGain m c)) (emb5 t r d _ hl).symm)
  refine (pay2_apply _ _ _ _ r d).trans ?_
  have hy : (fun k => k0_pay1 (iblk m c 2 t) (iblk m c 0 t) (iblk m c 1 t) (ix2 r k)) = resAt (aCat m c) (aW m c) (aX m c) _ :=
    funext fun k => res_apply m c t r k _ hl
  rw [hy]
  exact congrArg (_ * ·) (iblk3 m c t d)

/-- Every index of the result lies in the block of the point of its row block. -/
theorem cover5 (i : S4096x1024.Idx) : ∃ t : Fin cfg0.N, (cfg0.win 5).flush t = true ∧ i ∈ ((cfg0.win 5).blk t).view.set := by
  have h0 : (i 0 : Nat) < 4096 := (i 0).isLt
  have hN : cfg0.N = 4 := N_0
  have ht : (i 0 : Nat) / 1024 < cfg0.N := by omega
  refine ⟨⟨_, ht⟩, flush0_5 _, ?_⟩
  have e : (win0_5.blk ⟨_, ht⟩).view.emb (ix2 ⟨(i 0 : Nat) % 1024, by omega⟩ (i 1)) = i :=
    (emb5 ⟨_, ht⟩ ⟨(i 0 : Nat) % 1024, by omega⟩ (i 1) (i 0) (by dsimp only; omega)).trans
      (by funext a; match a with | ⟨0, _⟩ => rfl | ⟨1, _⟩ => rfl)
  exact (congrArg (fun j => j ∈ ((cfg0.win 5).blk ⟨_, ht⟩).view.set) e).mp (Finset.mem_map_of_mem _ (Finset.mem_univ _))

theorem final5 (c : Dev nD) : (dats m 0 c).arrAt 5 cfg0.N = norm (aCat m c) (aW m c) (aX m c) (aGain m c) :=
  (dats m 0 c).arrAt_eq_of_cover 5 _ (fun t _ => flushed5 m c t) cover5

end
end Cert.Kernel13Ideal.MixOut
end
-- ==== Proof.MixOutClaim.lean ====
/-
  The output projection and the next block's normed input: the value of the reference, and the comparison.
-/
module

public import proofs.«01_k».proof.Proof.MixOut
public import proofs.«01_k».proof.Proof.Gen.Reference13Ideal.Run
public import proofs.«01_k».proof.Defs
public import Idealize.ShloMosaic.Lib.Quiescent

@[expose] public section

set_option maxRecDepth 16384

noncomputable section

namespace Cert.Reference13Ideal.MixOut

open Cert.Reference13Ideal Cert.Reference13Ideal.Gen Idealize.ShloMosaic Idealize.ShloMosaic.TcCoe Idealize.SL.Sem
open Cert.Hand

variable (cat : FVec Ideal S4096x1024 .bf16) (w : FVec Ideal S1024x1024 .bf16) (x : FVec Ideal S4096x1024 .f32) (gain : FVec Ideal S1x1024 .f32)

/-- The reference's residual stream, of its arguments. -/
def res : FVec Ideal S4096x1024 .f32 :=
  addf x (Host.dotGeneral dot_S4096x1024_S1024x1024_S4096x1024_1_0_0_1_n_n none (extf .f32 cat bitsLt_bf16_f32) (extf .f32 w bitsLt_bf16_f32))

/-- The reference's normed stream. -/
def norm : FVec Ideal S4096x1024 .bf16 :=
  truncf .bf16 (mulf (mulf (res cat w x) (broadcastInDim S4096x1024 ![0, 1] bcast_S4096x1_S4096x1024_0_1 (Host.rsqrt (addf (Host.divf (broadcastInDim S4096x1 ![0] bcast_S4096_S4096x1_0 (Host.reduceAdd (mulf (res cat w x) (res cat w x)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 gain)) bitsLt_bf16_f32

theorem res_apply (l : Fin 4096) (d : Fin 1024) : res cat w x (ix2 l d) = Cert.Kernel13Ideal.MixOut.resAt cat w x l d := by
  pointwise [res]
  rfl

theorem norm_apply (l : Fin 4096) (d : Fin 1024) :
    norm cat w x gain (ix2 l d) = Cert.Kernel13Ideal.MixOut.normAt (fun k => res cat w x (ix2 l k)) gain d := by
  generalize hy : res cat w x = y
  unfold norm
  rw [hy]
  pointwise []
  rfl

theorem res_eq : Cert.Kernel13Ideal.MixOut.res cat w x = res cat w x := by
  funext i
  obtain ⟨l, d, rfl⟩ : ∃ (l : Fin 4096) (d : Fin 1024), i = ix2 l d :=
    ⟨i 0, i 1, by funext x; match x with | ⟨0, _⟩ => rfl | ⟨1, _⟩ => rfl⟩
  rw [res_apply]
  rfl

theorem norm_eq : Cert.Kernel13Ideal.MixOut.norm cat w x gain = norm cat w x gain := by
  funext i
  obtain ⟨l, d, rfl⟩ : ∃ (l : Fin 4096) (d : Fin 1024), i = ix2 l d :=
    ⟨i 0, i 1, by funext x; match x with | ⟨0, _⟩ => rfl | ⟨1, _⟩ => rfl⟩
  rw [norm_apply]
  simp only [res_apply]
  rfl

end Cert.Reference13Ideal.MixOut

namespace Cert.Proof.MixOut

open Idealize.ShloMosaic Idealize.ShloMosaic.TcCoe Idealize.SL.Sem
open Cert.Kernel13Ideal.MixOut (aCat aW aX aGain)

theorem frame_reference : Cert.quiescent_Reference13Ideal := fun m ρ _ =>
  (θ_run Cert.Reference13Ideal.defs _ _).mono (fun r h => ⟨fun c => (h c).2.2,
      Idealize.ShloMosaic.sem_eq_zero_of_no_sems (by decide) r.2⟩)
    (Cert.Reference13Ideal.Value.run (F := Ideal) m ρ)

theorem algebraic : Cert.algebraic_Kernel13Ideal_Reference13Ideal := by
  intro m ρ m' ρ' _ hagree
  refine ⟨fun c => Cert.Kernel13Ideal.MixOut.res (aCat m c) (aW m c) (aX m c),
    fun c => Cert.Kernel13Ideal.MixOut.norm (aCat m c) (aW m c) (aX m c) (aGain m c), ?_, ?_⟩
  · exact (θ_run Cert.Kernel13Ideal.defs _ _).mono
      (fun _ h c => ⟨(h c).1.trans (Cert.Kernel13Ideal.MixOut.final4 m c), (h c).2.1.trans (Cert.Kernel13Ideal.MixOut.final5 m c), (h c).2.2⟩)
      (Cert.Kernel13Ideal.Value.run_blocks (F := Ideal) m ρ)
  refine (θ_run Cert.Reference13Ideal.defs _ _).mono (fun _ h c => ⟨(h c).1.trans ?_, (h c).2.1.trans ?_, (h c).2.2⟩)
    (Cert.Reference13Ideal.Value.run (F := Ideal) m' ρ')
  · rw [(hagree c).1, (hagree c).2.1, (hagree c).2.2.1]
    exact (Cert.Reference13Ideal.MixOut.res_eq _ _ _).symm
  · rw [(hagree c).1, (hagree c).2.1, (hagree c).2.2.1, (hagree c).2.2.2]
    exact (Cert.Reference13Ideal.MixOut.norm_eq _ _ _ _).symm

end Cert.Proof.MixOut
end
-- ==== Proof.Loss.lean ====
/-
  The second feed-forward block's way down with the loss at its end: the value of the pipelined kernel.

  Grid point `t` takes rows `512 t` to `512 t + 511`. It adds half of the four shards' products to the residual, norms each
  row and compares it with the row's target; of the differences it forms the loss and its gradient, and carries the gradient
  back through the norm in the closed form. The loss and the gradient of the gain stay in their buffers over all points and
  are written back after the last.
-/
module

public import proofs.«01_k».proof.Proof.Gen.Kernel14Ideal.Value
public import proofs.«01_k».proof.Proof.Rms

@[expose] public section

set_option maxRecDepth 16384

noncomputable section

namespace Cert.Kernel14Ideal.Loss

open Cert.Kernel14Ideal Cert.Kernel14Ideal.Gen Idealize.ShloMosaic Idealize.ShloMosaic.TcCoe Idealize.SL.Sem
open Cert.Hand
open Cert.Kernel4Ideal.Rms (rr rowAt gainAt dx dxb dgain)

/-! ## The formulas -/

/-- The block's output before the norm: the residual and half of the hidden rows' product with the weights. -/
def xnAt (hd : FVec Ideal S4x4096x704 .bf16) (w : FVec Ideal S4x704x1024 .bf16) (x : FVec Ideal S4096x1024 .f32) (l : Fin 4096) (d : Fin 1024) : EReal :=
  x (ix2 l d) + Ideal.ofBits .f32 0x3F000000#32 * ∑ g : Fin 4, ∑ f : Fin 704, hd (ix3 g l f) * w (ix3 g f d)

/-- A normed row less its target. -/
def errAt (x g t : Fin 1024 → EReal) (d : Fin 1024) : EReal := x d * rr x * g d - t d

/-- The gradient of the normed row: the difference over the width. -/
def ctAt (x g t : Fin 1024 → EReal) (d : Fin 1024) : EReal := Ideal.div (errAt x g t d) (Ideal.ofBits .f32 0x44800000#32)

/-- The loss of a block of rows: half the sum of the squared differences, over the width. -/
def partAt (e : Fin 512 → Fin 1024 → EReal) : EReal :=
  Ideal.div (Ideal.ofBits .f32 0x3F000000#32 * ∑ d : Fin 1024, ∑ r : Fin 512, e r d * e r d) (Ideal.ofBits .f32 0x44800000#32)

/-! ## The payloads at an index -/

theorem pay4_apply (v0 : Vec Ideal S512x1024 .f32) (v1 v6 v12 v18 : Vec Ideal S1x512x704 .bf16) (v3 v8 v14 v20 : Vec Ideal S1x704x1024 .bf16)
    (r : Fin 512) (d : Fin 1024) : k0_pay4 v0 v1 v3 v6 v8 v12 v14 v18 v20 (ix2 r d)
      = v0 (ix2 r d) + Ideal.ofBits .f32 0x3F000000#32 * ((∑ f : Fin 704, v1 (ix3 0 r f) * v3 (ix3 0 f d)) + (∑ f : Fin 704, v6 (ix3 0 r f) * v8 (ix3 0 f d))
        + (∑ f : Fin 704, v12 (ix3 0 r f) * v14 (ix3 0 f d)) + (∑ f : Fin 704, v18 (ix3 0 r f) * v20 (ix3 0 f d))) := by
  pointwise [k0_pay4]

variable (x : FVec Ideal S512x1024 .f32) (g : Vec Ideal S1x1024 .f32) (t : Vec Ideal S512x1024 .f32)

theorem pay6_apply (r : Fin 512) : k0_pay6 (mulf x x) (ix2 r 0) = rr fun k => x (ix2 r k) := by
  pointwise [k0_pay6]
  rfl

theorem pay7_apply (r : Fin 512) (d : Fin 1024) : k0_pay7 x (mulf x x) (ix2 r d) = x (ix2 r d) * rr fun k => x (ix2 r k) := by
  pointwise [k0_pay7, pay6_apply]

theorem pay8_apply (r : Fin 512) (d : Fin 1024) :
    k0_pay8 x (mulf x x) g t (ix2 r d) = errAt (fun k => x (ix2 r k)) (fun k => g (ix2 0 k)) (fun k => t (ix2 r k)) d := by
  pointwise [k0_pay8, pay7_apply]
  rfl

theorem pay9_apply (r : Fin 512) (d : Fin 1024) :
    k0_pay9 x (mulf x x) g t (ix2 r d) = ctAt (fun k => x (ix2 r k)) (fun k => g (ix2 0 k)) (fun k => t (ix2 r k)) d := by
  pointwise [k0_pay9, pay8_apply]
  rfl

theorem pay2_apply (r : Fin 512) (d : Fin 1024) :
    k0_pay2 (k0_pay6 (mulf x x)) (k0_pay7 x (mulf x x)) g (k0_pay9 x (mulf x x) g t) (ix2 r d)
      = rowAt (ctAt (fun k => x (ix2 r k)) (fun k => g (ix2 0 k)) (fun k => t (ix2 r k))) (fun k => x (ix2 r k)) (fun k => g (ix2 0 k)) (fun _ => 0) d := by
  unfold rowAt
  rw [zero_add]
  pointwise [k0_pay2, pay6_apply, pay7_apply, pay9_apply]

theorem pay3_apply (r : Fin 512) (d : Fin 1024) :
    k0_pay3 (k0_pay6 (mulf x x)) (k0_pay7 x (mulf x x)) g (k0_pay9 x (mulf x x) g t) (ix2 r d)
      = rowAt (ctAt (fun k => x (ix2 r k)) (fun k => g (ix2 0 k)) (fun k => t (ix2 r k))) (fun k => x (ix2 r k)) (fun k => g (ix2 0 k)) (fun _ => 0) d := by
  pointwise [k0_pay3]
  exact pay2_apply x g t r d

theorem pay10_apply (j : Fin 128) :
    k0_pay10 x (mulf x x) g t (ix2 0 j) = partAt fun r => errAt (fun k => x (ix2 r k)) (fun k => g (ix2 0 k)) (fun k => t (ix2 r k)) := by
  pointwise [k0_pay10, pay8_apply]
  rfl

theorem pay11_apply (old : Vec Ideal S1x128 .f32) (j : Fin 128) : k0_pay11 x (mulf x x) g t old (ix2 0 j)
      = old (ix2 0 j) + partAt fun r => errAt (fun k => x (ix2 r k)) (fun k => g (ix2 0 k)) (fun k => t (ix2 r k)) := by
  pointwise [k0_pay11, pay10_apply]

theorem pay12_apply (d : Fin 1024) : k0_pay12 x (mulf x x) g t (ix2 0 d)
      = ∑ r : Fin 512, gainAt (ctAt (fun k => x (ix2 r k)) (fun k => g (ix2 0 k)) (fun k => t (ix2 r k))) (fun k => x (ix2 r k)) d := by
  pointwise [k0_pay12, pay7_apply, pay9_apply]
  rfl

theorem pay1_apply (a : FVec Ideal S1x1024 .f32) (old : Vec Ideal S1x1024 .f32) (d : Fin 1024) :
    k0_pay1 a old (ix2 0 d) = old (ix2 0 d) + a (ix2 0 d) := by
  pointwise [k0_pay1]

/-! ## The blocks -/

section
variable {F : FTy → Type} [FloatOps F]
variable (m : (ℓ : Loc nD τ sig) → Buf (Elt F) ℓ)

theorem idx0 : ∀ t : Fin cfg0.N, win0_0.index t 0 * win0_0.size 0 = 0 ∧ win0_0.index t 1 * win0_0.size 1 = 512 * t.val ∧ win0_0.index t 2 * win0_0.size 2 = 0 :=
  (by decide +kernel : ∀ t : Fin grid0.N, win0_0.index t 0 * win0_0.size 0 = 0 ∧ win0_0.index t 1 * win0_0.size 1 = 512 * t.val ∧ win0_0.index t 2 * win0_0.size 2 = 0)
theorem idx1 : ∀ t : Fin cfg0.N, win0_1.index t 0 * win0_1.size 0 = 0 ∧ win0_1.index t 1 * win0_1.size 1 = 0 ∧ win0_1.index t 2 * win0_1.size 2 = 0 :=
  (by decide +kernel : ∀ t : Fin grid0.N, win0_1.index t 0 * win0_1.size 0 = 0 ∧ win0_1.index t 1 * win0_1.size 1 = 0 ∧ win0_1.index t 2 * win0_1.size 2 = 0)
theorem idx2 : ∀ t : Fin cfg0.N, win0_2.index t 0 * win0_2.size 0 = 512 * t.val ∧ win0_2.index t 1 * win0_2.size 1 = 0 :=
  (by decide +kernel : ∀ t : Fin grid0.N, win0_2.index t 0 * win0_2.size 0 = 512 * t.val ∧ win0_2.index t 1 * win0_2.size 1 = 0)
theorem idx3 : ∀ t : Fin cfg0.N, win0_3.index t 0 * win0_3.size 0 = 0 ∧ win0_3.index t 1 * win0_3.size 1 = 0 :=
  (by decide +kernel : ∀ t : Fin grid0.N, win0_3.index t 0 * win0_3.size 0 = 0 ∧ win0_3.index t 1 * win0_3.size 1 = 0)
theorem idx4 : ∀ t : Fin cfg0.N, win0_4.index t 0 * win0_4.size 0 = 512 * t.val ∧ win0_4.index t 1 * win0_4.size 1 = 0 :=
  (by decide +kernel : ∀ t : Fin grid0.N, win0_4.index t 0 * win0_4.size 0 = 512 * t.val ∧ win0_4.index t 1 * win0_4.size 1 = 0)
theorem iblk0 (c : Dev nD) (t : Fin cfg0.N) (r : Fin 512) (f : Fin 704) (g : Fin 4) (l : Fin 4096) (hl : l.val = 512 * t.val + r.val) :
    iblk m c 0 t (ix3 g r f) = m ((c : Thread nD τ).loc main_arg0) (ix3 g l f) := by
  unfold iblk
  rw [View.read_apply]
  refine congrArg (m ((c : Thread nD τ).loc main_arg0)) (funext fun a => Fin.ext ?_)
  match a with
  | ⟨0, _⟩ => show win0_0.index t 0 * win0_0.size 0 + 1 * g.val = g.val; rw [(idx0 t).1]; omega
  | ⟨1, _⟩ => show win0_0.index t 1 * win0_0.size 1 + 1 * r.val = l.val; rw [(idx0 t).2.1, hl]; omega
  | ⟨2, _⟩ => show win0_0.index t 2 * win0_0.size 2 + 1 * f.val = f.val; rw [(idx0 t).2.2]; omega
theorem iblk1 (c : Dev nD) (t : Fin cfg0.N) (g : Fin 4) (f : Fin 704) (d : Fin 1024)  :
    iblk m c 1 t (ix3 g f d) = m ((c : Thread nD τ).loc main_arg1) (ix3 g f d) := by
  unfold iblk
  rw [View.read_apply]
  refine congrArg (m ((c : Thread nD τ).loc main_arg1)) (funext fun a => Fin.ext ?_)
  match a with
  | ⟨0, _⟩ => show win0_1.index t 0 * win0_1.size 0 + 1 * g.val = g.val; rw [(idx1 t).1]; omega
  | ⟨1, _⟩ => show win0_1.index t 1 * win0_1.size 1 + 1 * f.val = f.val; rw [(idx1 t).2.1]; omega
  | ⟨2, _⟩ => show win0_1.index t 2 * win0_1.size 2 + 1 * d.val = d.val; rw [(idx1 t).2.2]; omega
theorem iblk2 (c : Dev nD) (t : Fin cfg0.N) (r : Fin 512) (d : Fin 1024) (l : Fin 4096) (hl : l.val = 512 * t.val + r.val) :
    iblk m c 2 t (ix2 r d) = m ((c : Thread nD τ).loc main_arg2) (ix2 l d) := by
  unfold iblk
  rw [View.read_apply]
  refine congrArg (m ((c : Thread nD τ).loc main_arg2)) (funext fun a => Fin.ext ?_)
  match a with
  | ⟨0, _⟩ => show win0_2.index t 0 * win0_2.size 0 + 1 * r.val = l.val; rw [(idx2 t).1, hl]; omega
  | ⟨1, _⟩ => show win0_2.index t 1 * win0_2.size 1 + 1 * d.val = d.val; rw [(idx2 t).2]; omega
theorem iblk4 (c : Dev nD) (t : Fin cfg0.N) (r : Fin 512) (d : Fin 1024) (l : Fin 4096) (hl : l.val = 512 * t.val + r.val) :
    iblk m c 4 t (ix2 r d) = m ((c : Thread nD τ).loc main_arg4) (ix2 l d) := by
  unfold iblk
  rw [View.read_apply]
  refine congrArg (m ((c : Thread nD τ).loc main_arg4)) (funext fun a => Fin.ext ?_)
  match a with
  | ⟨0, _⟩ => show win0_4.index t 0 * win0_4.size 0 + 1 * r.val = l.val; rw [(idx4 t).1, hl]; omega
  | ⟨1, _⟩ => show win0_4.index t 1 * win0_4.size 1 + 1 * d.val = d.val; rw [(idx4 t).2]; omega
theorem iblk3 (c : Dev nD) (t : Fin cfg0.N) (d : Fin 1024)  :
    iblk m c 3 t (ix2 0 d) = m ((c : Thread nD τ).loc main_arg3) (ix2 0 d) := by
  unfold iblk
  rw [View.read_apply]
  refine congrArg (m ((c : Thread nD τ).loc main_arg3)) (funext fun a => Fin.ext ?_)
  match a with
  | ⟨0, _⟩ => show win0_3.index t 0 * win0_3.size 0 + 1 * 0 = 0; rw [(idx3 t).1]
  | ⟨1, _⟩ => show win0_3.index t 1 * win0_3.size 1 + 1 * d.val = d.val; rw [(idx3 t).2]; omega

theorem hz2 : (![0, 0] : Fin 2 → Nat) = fun _ => 0 := funext fun a => by fin_cases a <;> rfl

/-- A load of one shard of a stack of rows, at an index. -/
theorem ld_rows (x : Vec F S4x512x704 .bf16) (o : Fin 3 → Nat) (inb) (g : Fin 4) (r : Fin 512) (f : Fin 704) (h0 : o 0 = g.val) (h1 : o 1 = 0) (h2 : o 2 = 0) :
    View.ld x (Rect.unit (s := S4x512x704) o S1x512x704.size inb) (ix3 0 r f) = x (ix3 g r f) := by
  refine congrArg x (funext fun a => Fin.ext ?_)
  match a with
  | ⟨0, _⟩ => show o 0 + 1 * 0 = g.val; omega
  | ⟨1, _⟩ => show o 1 + 1 * r.val = r.val; omega
  | ⟨2, _⟩ => show o 2 + 1 * f.val = f.val; omega
/-- and of a stack of weights. -/
theorem ld_weights (x : Vec F S4x704x1024 .bf16) (o : Fin 3 → Nat) (inb) (g : Fin 4) (f : Fin 704) (d : Fin 1024) (h0 : o 0 = g.val) (h1 : o 1 = 0) (h2 : o 2 = 0) :
    View.ld x (Rect.unit (s := S4x704x1024) o S1x704x1024.size inb) (ix3 0 f d) = x (ix3 g f d) := by
  refine congrArg x (funext fun a => Fin.ext ?_)
  match a with
  | ⟨0, _⟩ => show o 0 + 1 * 0 = g.val; omega
  | ⟨1, _⟩ => show o 1 + 1 * f.val = f.val; omega
  | ⟨2, _⟩ => show o 2 + 1 * d.val = d.val; omega

/-- The block's output before the norm, as the body forms it of its blocks. -/
def xnb (x0 : Vec F S4x512x704 .bf16) (x1 : Vec F S4x704x1024 .bf16) (x2 : Vec F S512x1024 .f32) : FVec F S512x1024 .f32 :=
  k0_pay4 (View.ld x2 (Rect.unit (s := S512x1024) ![0, 0] S512x1024.size inb_S512x1024_S512x1024_0_0))
    (View.ld x0 (Rect.unit (s := S4x512x704) ![0, 0, 0] S1x512x704.size inb_S4x512x704_S1x512x704_0_0_0)) (View.ld x1 (Rect.unit (s := S4x704x1024) ![0, 0, 0] S1x704x1024.size inb_S4x704x1024_S1x704x1024_0_0_0))
    (View.ld x0 (Rect.unit (s := S4x512x704) ![1, 0, 0] S1x512x704.size inb_S4x512x704_S1x512x704_1_0_0)) (View.ld x1 (Rect.unit (s := S4x704x1024) ![1, 0, 0] S1x704x1024.size inb_S4x704x1024_S1x704x1024_1_0_0))
    (View.ld x0 (Rect.unit (s := S4x512x704) ![2, 0, 0] S1x512x704.size inb_S4x512x704_S1x512x704_2_0_0)) (View.ld x1 (Rect.unit (s := S4x704x1024) ![2, 0, 0] S1x704x1024.size inb_S4x704x1024_S1x704x1024_2_0_0))
    (View.ld x0 (Rect.unit (s := S4x512x704) ![3, 0, 0] S1x512x704.size inb_S4x512x704_S1x512x704_3_0_0)) (View.ld x1 (Rect.unit (s := S4x704x1024) ![3, 0, 0] S1x704x1024.size inb_S4x704x1024_S1x704x1024_3_0_0))

/-- The same at point `t`, and its squares. -/
abbrev xp (c : Dev nD) (t : Fin cfg0.N) : FVec F S512x1024 .f32 := xnb (iblk m c 0 t) (iblk m c 1 t) (iblk m c 2 t)
abbrev qp (c : Dev nD) (t : Fin cfg0.N) : FVec F S512x1024 .f32 := mulf (xp m c t) (xp m c t)

theorem outA5 (c : Dev nD) (t : Fin cfg0.N) (h0 : t.val % 8 = 0) (h1 : ¬1 ≤ t.val) :
    (outsAt0 m c t.val t.isLt).1 = k0_pay2 (k0_pay6 (qp m c t)) (k0_pay7 (xp m c t) (qp m c t)) (iblk m c 3 t) (k0_pay9 (xp m c t) (qp m c t) (iblk m c 3 t) (iblk m c 4 t)) := by
  rw [outsAt0_A m c t h0 h1 h0 h1]
  unfold out0_A_5
  dsimp only
  unfold kernelRun0_A
  dsimp only
  sl_unfold_words
  rw [View.read_writes_full]
  simp only [View.readAt_eq_ld, (hs0_0 t).read_unread, (hs0_1 t).read_unread, (hs0_2 t).read_unread, (hs0_3 t).read_unread, (hs0_4 t).read_unread]
  exact congr (congrArg (k0_pay2 (k0_pay6 (qp m c t)) (k0_pay7 (xp m c t) (qp m c t))) (View.ld_unit_zero (S := S1x1024) hz2 _ _)) (congr (congrArg (k0_pay9 (xp m c t) (qp m c t)) (View.ld_unit_zero (S := S1x1024) hz2 _ _)) (View.ld_unit_zero (S := S512x1024) hz2 _ _))
theorem outA6 (c : Dev nD) (t : Fin cfg0.N) (h0 : t.val % 8 = 0) (h1 : ¬1 ≤ t.val) :
    (outsAt0 m c t.val t.isLt).2.1 = k0_pay3 (k0_pay6 (qp m c t)) (k0_pay7 (xp m c t) (qp m c t)) (iblk m c 3 t) (k0_pay9 (xp m c t) (qp m c t) (iblk m c 3 t) (iblk m c 4 t)) := by
  rw [outsAt0_A m c t h0 h1 h0 h1]
  unfold out0_A_6
  dsimp only
  unfold kernelRun0_A
  dsimp only
  sl_unfold_words
  rw [View.read_writes_full]
  simp only [View.readAt_eq_ld, (hs0_0 t).read_unread, (hs0_1 t).read_unread, (hs0_2 t).read_unread, (hs0_3 t).read_unread, (hs0_4 t).read_unread]
  exact congr (congrArg (k0_pay3 (k0_pay6 (qp m c t)) (k0_pay7 (xp m c t) (qp m c t))) (View.ld_unit_zero (S := S1x1024) hz2 _ _)) (congr (congrArg (k0_pay9 (xp m c t) (qp m c t)) (View.ld_unit_zero (S := S1x1024) hz2 _ _)) (View.ld_unit_zero (S := S512x1024) hz2 _ _))
theorem outA7 (c : Dev nD) (t : Fin cfg0.N) (h0 : t.val % 8 = 0) (h1 : ¬1 ≤ t.val) :
    (outsAt0 m c t.val t.isLt).2.2.1 = k0_pay10 (xp m c t) (qp m c t) (iblk m c 3 t) (iblk m c 4 t) := by
  rw [outsAt0_A m c t h0 h1 h0 h1]
  unfold out0_A_7
  dsimp only
  unfold kernelRun0_A
  dsimp only
  sl_unfold_words
  rw [View.read_writes_full]
  simp only [View.readAt_eq_ld, (hs0_0 t).read_unread, (hs0_1 t).read_unread, (hs0_2 t).read_unread, (hs0_3 t).read_unread, (hs0_4 t).read_unread]
  exact congr (congrArg (k0_pay10 (xp m c t) (qp m c t)) (View.ld_unit_zero (S := S1x1024) hz2 _ _)) (View.ld_unit_zero (S := S512x1024) hz2 _ _)
theorem outA8 (c : Dev nD) (t : Fin cfg0.N) (h0 : t.val % 8 = 0) (h1 : ¬1 ≤ t.val) :
    (outsAt0 m c t.val t.isLt).2.2.2 = k0_pay12 (xp m c t) (qp m c t) (iblk m c 3 t) (iblk m c 4 t) := by
  rw [outsAt0_A m c t h0 h1 h0 h1]
  unfold out0_A_8
  dsimp only
  unfold kernelRun0_A
  dsimp only
  sl_unfold_words
  rw [View.read_writes_full]
  simp only [View.readAt_eq_ld, (hs0_0 t).read_unread, (hs0_1 t).read_unread, (hs0_2 t).read_unread, (hs0_3 t).read_unread, (hs0_4 t).read_unread]
  exact congr (congrArg (k0_pay12 (xp m c t) (qp m c t)) (View.ld_unit_zero (S := S1x1024) hz2 _ _)) (View.ld_unit_zero (S := S512x1024) hz2 _ _)
theorem outB5 (c : Dev nD) (t : Fin cfg0.N) (h0 : ¬t.val % 8 = 0) (h1 : 1 ≤ t.val) :
    (outsAt0 m c t.val t.isLt).1 = k0_pay2 (k0_pay6 (qp m c t)) (k0_pay7 (xp m c t) (qp m c t)) (iblk m c 3 t) (k0_pay9 (xp m c t) (qp m c t) (iblk m c 3 t) (iblk m c 4 t)) := by
  rw [outsAt0_B m c t h0 h1 h0 h1]
  unfold out0_B_5
  dsimp only
  unfold kernelRun0_B
  dsimp only
  sl_unfold_words
  rw [View.read_writes_full]
  simp only [View.readAt_eq_ld, (hs0_0 t).read_unread, (hs0_1 t).read_unread, (hs0_2 t).read_unread, (hs0_3 t).read_unread, (hs0_4 t).read_unread]
  exact congr (congrArg (k0_pay2 (k0_pay6 (qp m c t)) (k0_pay7 (xp m c t) (qp m c t))) (View.ld_unit_zero (S := S1x1024) hz2 _ _)) (congr (congrArg (k0_pay9 (xp m c t) (qp m c t)) (View.ld_unit_zero (S := S1x1024) hz2 _ _)) (View.ld_unit_zero (S := S512x1024) hz2 _ _))
theorem outB6 (c : Dev nD) (t : Fin cfg0.N) (h0 : ¬t.val % 8 = 0) (h1 : 1 ≤ t.val) :
    (outsAt0 m c t.val t.isLt).2.1 = k0_pay3 (k0_pay6 (qp m c t)) (k0_pay7 (xp m c t) (qp m c t)) (iblk m c 3 t) (k0_pay9 (xp m c t) (qp m c t) (iblk m c 3 t) (iblk m c 4 t)) := by
  rw [outsAt0_B m c t h0 h1 h0 h1]
  unfold out0_B_6
  dsimp only
  unfold kernelRun0_B
  dsimp only
  sl_unfold_words
  rw [View.read_writes_full]
  simp only [View.readAt_eq_ld, (hs0_0 t).read_unread, (hs0_1 t).read_unread, (hs0_2 t).read_unread, (hs0_3 t).read_unread, (hs0_4 t).read_unread]
  exact congr (congrArg (k0_pay3 (k0_pay6 (qp m c t)) (k0_pay7 (xp m c t) (qp m c t))) (View.ld_unit_zero (S := S1x1024) hz2 _ _)) (congr (congrArg (k0_pay9 (xp m c t) (qp m c t)) (View.ld_unit_zero (S := S1x1024) hz2 _ _)) (View.ld_unit_zero (S := S512x1024) hz2 _ _))
theorem outB7 (c : Dev nD) (t : Fin cfg0.N) (h0 : ¬t.val % 8 = 0) (h1 : 1 ≤ t.val) :
    (outsAt0 m c t.val t.isLt).2.2.1 = k0_pay11 (xp m c t) (qp m c t) (iblk m c 3 t) (iblk m c 4 t) (outsAt0 m c (t.val - 1) (Nat.lt_of_le_of_lt (Nat.sub_le _ _) t.isLt)).2.2.1 := by
  rw [outsAt0_B m c t h0 h1 h0 h1]
  unfold out0_B_7
  dsimp only
  unfold kernelRun0_B
  dsimp only
  sl_unfold_words
  rw [View.read_writes_full]
  simp only [View.readAt_eq_ld, (hs0_0 t).read_unread, (hs0_1 t).read_unread, (hs0_2 t).read_unread, (hs0_3 t).read_unread, (hs0_4 t).read_unread]
  exact congr (congr (congrArg (k0_pay11 (xp m c t) (qp m c t)) (View.ld_unit_zero (S := S1x1024) hz2 _ _)) (View.ld_unit_zero (S := S512x1024) hz2 _ _)) ((View.ld_unit_zero (S := S1x128) hz2 _ _).trans ((hs0_7 t).read_unread _))
theorem outB8 (c : Dev nD) (t : Fin cfg0.N) (h0 : ¬t.val % 8 = 0) (h1 : 1 ≤ t.val) :
    (outsAt0 m c t.val t.isLt).2.2.2 = k0_pay1 (k0_pay12 (xp m c t) (qp m c t) (iblk m c 3 t) (iblk m c 4 t)) (outsAt0 m c (t.val - 1) (Nat.lt_of_le_of_lt (Nat.sub_le _ _) t.isLt)).2.2.2 := by
  rw [outsAt0_B m c t h0 h1 h0 h1]
  unfold out0_B_8
  dsimp only
  unfold kernelRun0_B
  dsimp only
  sl_unfold_words
  rw [View.read_writes_full]
  simp only [View.readAt_eq_ld, (hs0_0 t).read_unread, (hs0_1 t).read_unread, (hs0_2 t).read_unread, (hs0_3 t).read_unread, (hs0_4 t).read_unread]
  exact congr (congrArg k0_pay1 (congr (congrArg (k0_pay12 (xp m c t) (qp m c t)) (View.ld_unit_zero (S := S1x1024) hz2 _ _)) (View.ld_unit_zero (S := S512x1024) hz2 _ _))) ((View.ld_unit_zero (S := S1x1024) hz2 _ _).trans ((hs0_8 t).read_unread _))

/-- What every point leaves in the two row results' buffers. -/
theorem out5 (c : Dev nD) (t : Fin cfg0.N) : (outsAt0 m c t.val t.isLt).1 = k0_pay2 (k0_pay6 (qp m c t)) (k0_pay7 (xp m c t) (qp m c t)) (iblk m c 3 t) (k0_pay9 (xp m c t) (qp m c t) (iblk m c 3 t) (iblk m c 4 t)) := by
  have hN : t.val < 8 := lt_of_lt_of_eq t.isLt N_0
  by_cases h : t.val = 0
  · exact outA5 m c t (by omega) (by omega)
  · exact outB5 m c t (by omega) (by omega)
theorem out6 (c : Dev nD) (t : Fin cfg0.N) : (outsAt0 m c t.val t.isLt).2.1 = k0_pay3 (k0_pay6 (qp m c t)) (k0_pay7 (xp m c t) (qp m c t)) (iblk m c 3 t) (k0_pay9 (xp m c t) (qp m c t) (iblk m c 3 t) (iblk m c 4 t)) := by
  have hN : t.val < 8 := lt_of_lt_of_eq t.isLt N_0
  by_cases h : t.val = 0
  · exact outA6 m c t (by omega) (by omega)
  · exact outB6 m c t (by omega) (by omega)

end

/-! ## The result arrays -/

section
variable (m : (ℓ : Loc nD τ sig) → Buf (Elt Ideal) ℓ)

theorem lt_N (t : Fin cfg0.N) : t.val < 8 := lt_of_lt_of_eq t.isLt N_0

/-- The device's arguments, by name. -/
abbrev aHd (c : Dev nD) : FVec Ideal S4x4096x704 .bf16 := m ((c : Thread nD τ).loc main_arg0)
abbrev aW (c : Dev nD) : FVec Ideal S4x704x1024 .bf16 := m ((c : Thread nD τ).loc main_arg1)
abbrev aX (c : Dev nD) : FVec Ideal S4096x1024 .f32 := m ((c : Thread nD τ).loc main_arg2)
abbrev aGain (c : Dev nD) : FVec Ideal S1x1024 .f32 := m ((c : Thread nD τ).loc main_arg3)
abbrev aT (c : Dev nD) : FVec Ideal S4096x1024 .f32 := m ((c : Thread nD τ).loc main_arg4)

/-- One shard's product of the block, of the whole arrays. -/
theorem shard_sum (x0 : Vec Ideal S4x512x704 .bf16) (x1 : Vec Ideal S4x704x1024 .bf16) (hd : FVec Ideal S4x4096x704 .bf16) (w : FVec Ideal S4x704x1024 .bf16)
    (r : Fin 512) (d : Fin 1024) (l : Fin 4096) (h0 : ∀ f g, x0 (ix3 g r f) = hd (ix3 g l f)) (h1 : ∀ f g, x1 (ix3 g f d) = w (ix3 g f d))
    (o : Fin 3 → Nat) (i0) (i1) (g : Fin 4) (e0 : o 0 = g.val) (e1 : o 1 = 0) (e2 : o 2 = 0) :
    (∑ f : Fin 704, (show Vec Ideal S1x512x704 .bf16 from View.ld x0 (Rect.unit (s := S4x512x704) o S1x512x704.size i0)) (ix3 0 r f)
      * (show Vec Ideal S1x704x1024 .bf16 from View.ld x1 (Rect.unit (s := S4x704x1024) o S1x704x1024.size i1)) (ix3 0 f d))
      = ∑ f : Fin 704, hd (ix3 g l f) * w (ix3 g f d) :=
  Finset.sum_congr rfl fun f _ => congr (congrArg _ ((ld_rows x0 o i0 g r f e0 e1 e2).trans (h0 f g)))
    ((ld_weights x1 o i1 g f d e0 e1 e2).trans (h1 f g))

/-- The device's rows: before the norm, the gain, the targets, the differences, and the gradient of the normed row. -/
abbrev xc (c : Dev nD) : Fin 4096 → Fin 1024 → EReal := xnAt (aHd m c) (aW m c) (aX m c)
abbrev gc (c : Dev nD) : Fin 1024 → EReal := fun k => aGain m c (ix2 0 k)
abbrev tc (c : Dev nD) : Fin 4096 → Fin 1024 → EReal := fun l k => aT m c (ix2 l k)
abbrev ec (c : Dev nD) : Fin 4096 → Fin 1024 → EReal := fun l => errAt (xc m c l) (gc m c) (tc m c l)
abbrev dhc (c : Dev nD) : Fin 4096 → Fin 1024 → EReal := fun l => ctAt (xc m c l) (gc m c) (tc m c l)
/-- No gradient arrives past the block. -/
abbrev yc : Fin 4096 → Fin 1024 → EReal := fun _ _ => 0

theorem xnb_apply (c : Dev nD) (t : Fin cfg0.N) (r : Fin 512) (d : Fin 1024) (l : Fin 4096) (hl : l.val = 512 * t.val + r.val) :
    xnb (iblk m c 0 t) (iblk m c 1 t) (iblk m c 2 t) (ix2 r d) = xc m c l d := by
  unfold xnb
  rw [pay4_apply]
  unfold xc xnAt
  rw [Fin.sum_univ_four]
  refine congr (congrArg _ ?_) (congrArg _ ?_)
  · exact (congrFun (View.ld_unit_zero (S := S512x1024) hz2 _ _) _).trans (iblk2 m c t r d l hl)
  have e := shard_sum (iblk m c 0 t) (iblk m c 1 t) (aHd m c) (aW m c) r d l (fun f g => iblk0 m c t r f g l hl) (fun f g => iblk1 m c t g f d)
  exact congr (congrArg _ (congr (congrArg _ (congr (congrArg _ (e _ _ _ 0 rfl rfl rfl)) (e _ _ _ 1 rfl rfl rfl))) (e _ _ _ 2 rfl rfl rfl))) (e _ _ _ 3 rfl rfl rfl)

/-- The rows that point `t` computes with, as functions of the column. -/
theorem x_row (c : Dev nD) (t : Fin cfg0.N) (r : Fin 512) (l : Fin 4096) (hl : l.val = 512 * t.val + r.val) :
    (fun k : Fin 1024 => xp m c t (ix2 r k)) = xc m c l := funext fun k => xnb_apply m c t r k l hl
theorem t_row (c : Dev nD) (t : Fin cfg0.N) (r : Fin 512) (l : Fin 4096) (hl : l.val = 512 * t.val + r.val) :
    (fun k : Fin 1024 => iblk m c 4 t (ix2 r k)) = tc m c l := funext fun k => iblk4 m c t r k l hl
theorem g_row (c : Dev nD) (t : Fin cfg0.N) :
    (fun k : Fin 1024 => iblk m c 3 t (ix2 0 k)) = gc m c := funext fun k => iblk3 m c t k
theorem dh_row (c : Dev nD) (t : Fin cfg0.N) (r : Fin 512) (l : Fin 4096) (hl : l.val = 512 * t.val + r.val) :
    ctAt (fun k : Fin 1024 => xp m c t (ix2 r k)) (fun k : Fin 1024 => iblk m c 3 t (ix2 0 k)) (fun k : Fin 1024 => iblk m c 4 t (ix2 r k)) = dhc m c l :=
  congr (congr (congrArg ctAt (x_row m c t r l hl)) (g_row m c t)) (t_row m c t r l hl)
theorem e_row (c : Dev nD) (t : Fin cfg0.N) (r : Fin 512) (l : Fin 4096) (hl : l.val = 512 * t.val + r.val) :
    errAt (fun k : Fin 1024 => xp m c t (ix2 r k)) (fun k : Fin 1024 => iblk m c 3 t (ix2 0 k)) (fun k : Fin 1024 => iblk m c 4 t (ix2 r k)) = ec m c l :=
  congr (congr (congrArg errAt (x_row m c t r l hl)) (g_row m c t)) (t_row m c t r l hl)

theorem idx5 : ∀ t : Fin cfg0.N, win0_5.index t 0 * win0_5.size 0 = 512 * t.val ∧ win0_5.index t 1 * win0_5.size 1 = 0 :=
  (by decide +kernel : ∀ t : Fin grid0.N, win0_5.index t 0 * win0_5.size 0 = 512 * t.val ∧ win0_5.index t 1 * win0_5.size 1 = 0)
theorem idx6 : ∀ t : Fin cfg0.N, win0_6.index t 0 * win0_6.size 0 = 512 * t.val ∧ win0_6.index t 1 * win0_6.size 1 = 0 :=
  (by decide +kernel : ∀ t : Fin grid0.N, win0_6.index t 0 * win0_6.size 0 = 512 * t.val ∧ win0_6.index t 1 * win0_6.size 1 = 0)
theorem idx8 : ∀ t : Fin cfg0.N, win0_8.index t 0 * win0_8.size 0 = 0 ∧ win0_8.index t 1 * win0_8.size 1 = 0 :=
  (by decide +kernel : ∀ t : Fin grid0.N, win0_8.index t 0 * win0_8.size 0 = 0 ∧ win0_8.index t 1 * win0_8.size 1 = 0)
theorem emb5 (t : Fin cfg0.N) (r : Fin 512) (d : Fin 1024) (l : Fin 4096) (hl : l.val = 512 * t.val + r.val) :
    (win0_5.blk t).view.emb (ix2 r d) = (ix2 l d : S4096x1024.Idx) := by
  refine funext fun a => Fin.ext ?_
  match a with
  | ⟨0, _⟩ => show win0_5.index t 0 * win0_5.size 0 + 1 * r.val = l.val; rw [(idx5 t).1, hl]; omega
  | ⟨1, _⟩ => show win0_5.index t 1 * win0_5.size 1 + 1 * d.val = d.val; rw [(idx5 t).2]; omega
theorem emb6 (t : Fin cfg0.N) (r : Fin 512) (d : Fin 1024) (l : Fin 4096) (hl : l.val = 512 * t.val + r.val) :
    (win0_6.blk t).view.emb (ix2 r d) = (ix2 l d : S4096x1024.Idx) := by
  refine funext fun a => Fin.ext ?_
  match a with
  | ⟨0, _⟩ => show win0_6.index t 0 * win0_6.size 0 + 1 * r.val = l.val; rw [(idx6 t).1, hl]; omega
  | ⟨1, _⟩ => show win0_6.index t 1 * win0_6.size 1 + 1 * d.val = d.val; rw [(idx6 t).2]; omega
theorem emb8 (t : Fin cfg0.N) (d : Fin 1024)  :
    (win0_8.blk t).view.emb (ix2 0 d) = (ix2 0 d : S1x1024.Idx) := by
  refine funext fun a => Fin.ext ?_
  match a with
  | ⟨0, _⟩ => show win0_8.index t 0 * win0_8.size 0 + 1 * 0 = 0; rw [(idx8 t).1]
  | ⟨1, _⟩ => show win0_8.index t 1 * win0_8.size 1 + 1 * d.val = d.val; rw [(idx8 t).2]; omega

theorem flushed5 (c : Dev nD) (t : Fin cfg0.N) :
    (dats m 0 c).flushed 5 t = (win0_5.blk t).view.read (Elt Ideal) (dx (dhc m c) (xc m c) (aGain m c) yc) := by
  rw [Value.flushed5]
  funext y
  obtain ⟨r, d, rfl⟩ : ∃ (r : Fin 512) (d : Fin 1024), y = ix2 r d :=
    ⟨y 0, y 1, by funext a; match a with | ⟨0, _⟩ => rfl | ⟨1, _⟩ => rfl⟩
  have ht := lt_N t
  have hl : (⟨512 * t.val + r.val, by omega⟩ : Fin 4096).val = 512 * t.val + r.val := rfl
  rw [View.read_apply]
  refine Eq.trans ?_ (congrArg (dx (dhc m c) (xc m c) (aGain m c) yc) (emb5 t r d _ hl).symm)
  refine (congrFun (out5 m c t) (ix2 r d)).trans ((pay2_apply _ _ _ r d).trans ?_)
  exact congrFun (congr (congr (congr (congrArg rowAt (dh_row m c t r _ hl)) (x_row m c t r _ hl)) (g_row m c t)) rfl) d

/-- Every index of the result lies in the block of the point of its row block. -/
theorem cover5 (i : S4096x1024.Idx) : ∃ t : Fin cfg0.N, (cfg0.win 5).flush t = true ∧ i ∈ ((cfg0.win 5).blk t).view.set := by
  have h0 : (i 0 : Nat) < 4096 := (i 0).isLt
  have hN : cfg0.N = 8 := N_0
  have ht : (i 0 : Nat) / 512 < cfg0.N := by omega
  refine ⟨⟨_, ht⟩, flush0_5 _, ?_⟩
  have e : (win0_5.blk ⟨_, ht⟩).view.emb (ix2 ⟨(i 0 : Nat) % 512, by omega⟩ (i 1)) = i :=
    (emb5 ⟨_, ht⟩ ⟨(i 0 : Nat) % 512, by omega⟩ (i 1) (i 0) (by dsimp only; omega)).trans
      (by funext a; match a with | ⟨0, _⟩ => rfl | ⟨1, _⟩ => rfl)
  exact (congrArg (fun j => j ∈ ((cfg0.win 5).blk ⟨_, ht⟩).view.set) e).mp (Finset.mem_map_of_mem _ (Finset.mem_univ _))

theorem final5 (c : Dev nD) : (dats m 0 c).arrAt 5 cfg0.N = dx (dhc m c) (xc m c) (aGain m c) yc :=
  (dats m 0 c).arrAt_eq_of_cover 5 _ (fun t _ => flushed5 m c t) cover5

theorem flushed6 (c : Dev nD) (t : Fin cfg0.N) :
    (dats m 0 c).flushed 6 t = (win0_6.blk t).view.read (Elt Ideal) (dxb (dhc m c) (xc m c) (aGain m c) yc) := by
  rw [Value.flushed6]
  funext y
  obtain ⟨r, d, rfl⟩ : ∃ (r : Fin 512) (d : Fin 1024), y = ix2 r d :=
    ⟨y 0, y 1, by funext a; match a with | ⟨0, _⟩ => rfl | ⟨1, _⟩ => rfl⟩
  have ht := lt_N t
  have hl : (⟨512 * t.val + r.val, by omega⟩ : Fin 4096).val = 512 * t.val + r.val := rfl
  rw [View.read_apply]
  refine Eq.trans ?_ (congrArg (dxb (dhc m c) (xc m c) (aGain m c) yc) (emb6 t r d _ hl).symm)
  refine (congrFun (out6 m c t) (ix2 r d)).trans ((pay3_apply _ _ _ r d).trans ?_)
  exact congrFun (congr (congr (congr (congrArg rowAt (dh_row m c t r _ hl)) (x_row m c t r _ hl)) (g_row m c t)) rfl) d

/-- Every index of the result lies in the block of the point of its row block. -/
theorem cover6 (i : S4096x1024.Idx) : ∃ t : Fin cfg0.N, (cfg0.win 6).flush t = true ∧ i ∈ ((cfg0.win 6).blk t).view.set := by
  have h0 : (i 0 : Nat) < 4096 := (i 0).isLt
  have hN : cfg0.N = 8 := N_0
  have ht : (i 0 : Nat) / 512 < cfg0.N := by omega
  refine ⟨⟨_, ht⟩, flush0_6 _, ?_⟩
  have e : (win0_6.blk ⟨_, ht⟩).view.emb (ix2 ⟨(i 0 : Nat) % 512, by omega⟩ (i 1)) = i :=
    (emb6 ⟨_, ht⟩ ⟨(i 0 : Nat) % 512, by omega⟩ (i 1) (i 0) (by dsimp only; omega)).trans
      (by funext a; match a with | ⟨0, _⟩ => rfl | ⟨1, _⟩ => rfl)
  exact (congrArg (fun j => j ∈ ((cfg0.win 6).blk ⟨_, ht⟩).view.set) e).mp (Finset.mem_map_of_mem _ (Finset.mem_univ _))

theorem final6 (c : Dev nD) : (dats m 0 c).arrAt 6 cfg0.N = dxb (dhc m c) (xc m c) (aGain m c) yc :=
  (dats m 0 c).arrAt_eq_of_cover 6 _ (fun t _ => flushed6 m c t) cover6

/-! ## The gradient of the gain -/

/-- Row `l`'s share at column `d`; nothing past the last row. -/
def share (c : Dev nD) (d : Fin 1024) (l : ℕ) : EReal :=
  if h : l < 4096 then gainAt (dhc m c ⟨l, h⟩) (xc m c ⟨l, h⟩) d else 0

/-- A point's rows add up to their stretch of the shares. -/
theorem point_sum (c : Dev nD) (t : Fin cfg0.N) (d : Fin 1024) :
    (∑ r : Fin 512, gainAt (ctAt (fun k : Fin 1024 => xp m c t (ix2 r k)) (fun k : Fin 1024 => iblk m c 3 t (ix2 0 k)) (fun k : Fin 1024 => iblk m c 4 t (ix2 r k))) (fun k : Fin 1024 => xp m c t (ix2 r k)) d)
      = ∑ r ∈ Finset.range 512, share m c d (512 * t.val + r) := by
  have ht := lt_N t
  rw [Finset.sum_range]
  refine Finset.sum_congr rfl fun r _ => ?_
  have h : 512 * t.val + r.val < 4096 := by omega
  rw [dh_row m c t r ⟨_, h⟩ rfl, x_row m c t r ⟨_, h⟩ rfl]
  unfold share
  rw [dif_pos h]

/-- After point `n` the buffer holds the shares of all rows so far. -/
theorem acc_apply (c : Dev nD) (d : Fin 1024) : ∀ (n : ℕ) (hn : n < cfg0.N),
    (outsAt0 m c n hn).2.2.2 (ix2 0 d) = ∑ l ∈ Finset.range (512 * (n + 1)), share m c d l
  | 0, hn => by
    refine (congrFun (outA8 m c ⟨0, hn⟩ rfl (by dsimp only; omega)) (ix2 0 d)).trans ((pay12_apply _ _ _ d).trans ?_)
    rw [point_sum m c ⟨0, hn⟩ d]
    simp only [Nat.mul_zero, Nat.zero_add, Nat.mul_one]
  | n + 1, hn => by
    have h8 : n + 1 < 8 := lt_of_lt_of_eq hn N_0
    refine (congrFun (outB8 m c ⟨n + 1, hn⟩ (by dsimp only; omega) (by dsimp only; omega)) (ix2 0 d)).trans ((pay1_apply _ _ d).trans ((congrArg (_ + ·) (pay12_apply _ _ _ d)).trans ?_))
    rw [point_sum m c ⟨n + 1, hn⟩ d]
    have e := acc_apply c d n (by omega)
    rw [show 512 * (n + 1 + 1) = 512 * (n + 1) + 512 by ring, Finset.sum_range_add]
    exact congrArg (· + _) e

theorem dgain_eq (c : Dev nD) (d : Fin 1024) :
    (∑ l ∈ Finset.range 4096, share m c d l) = ∑ l : Fin 4096, gainAt (dhc m c l) (xc m c l) d := by
  rw [Finset.sum_range]
  refine Finset.sum_congr rfl fun l _ => ?_
  unfold share
  rw [dif_pos l.isLt]

theorem flushed8 (c : Dev nD) (t : Fin cfg0.N) (hf : (cfg0.win 8).flush t = true) :
    (dats m 0 c).flushed 8 t = (win0_8.blk t).view.read (Elt Ideal) (dgain (dhc m c) (xc m c)) := by
  rw [Value.flushed8]
  funext y
  obtain ⟨z, d, rfl⟩ : ∃ (z : Fin 1) (d : Fin 1024), y = ix2 z d :=
    ⟨y 0, y 1, by funext a; match a with | ⟨0, _⟩ => rfl | ⟨1, _⟩ => rfl⟩
  obtain rfl : z = 0 := Subsingleton.elim _ _
  have ht := lt_N t
  have h7 : t.val % 8 = 7 := (flush0_8 t).mp hf
  rw [View.read_apply]
  refine Eq.trans ?_ (congrArg (dgain (dhc m c) (xc m c)) (emb8 t d).symm)
  refine (acc_apply m c d t.val t.isLt).trans ?_
  rw [show 512 * (t.val + 1) = 4096 by omega]
  exact dgain_eq m c d

theorem cover8 (i : S1x1024.Idx) : ∃ t : Fin cfg0.N, (cfg0.win 8).flush t = true ∧ i ∈ ((cfg0.win 8).blk t).view.set := by
  have hN : cfg0.N = 8 := N_0
  have ht : 7 < cfg0.N := by omega
  refine ⟨⟨7, ht⟩, (flush0_8 _).mpr rfl, ?_⟩
  have e : (win0_8.blk ⟨7, ht⟩).view.emb (ix2 0 (i 1)) = i :=
    (emb8 ⟨7, ht⟩ (i 1)).trans (by funext a; match a with | ⟨0, _⟩ => exact Subsingleton.elim (α := Fin 1) _ _ | ⟨1, _⟩ => rfl)
  exact (congrArg (fun j => j ∈ ((cfg0.win 8).blk ⟨7, ht⟩).view.set) e).mp (Finset.mem_map_of_mem _ (Finset.mem_univ _))

theorem final8 (c : Dev nD) : (dats m 0 c).arrAt 8 cfg0.N = dgain (dhc m c) (xc m c) :=
  (dats m 0 c).arrAt_eq_of_cover 8 _ (fun t hf => flushed8 m c t hf) cover8

/-! ## The loss -/

/-- Point `p`'s share of the loss; nothing past the last. -/
def lossShare (c : Dev nD) (p : ℕ) : EReal :=
  if h : p < 8 then partAt fun r => ec m c ⟨512 * p + r.val, by omega⟩ else 0

/-- The loss, all points' shares, in every lane. -/
def loss (e : Fin 4096 → Fin 1024 → EReal) : FVec Ideal S1x128 .f32 :=
  fun _ => ∑ p : Fin 8, partAt fun r => e ⟨512 * p.val + r.val, by omega⟩

theorem point_loss (c : Dev nD) (t : Fin cfg0.N) :
    (partAt fun r => errAt (fun k : Fin 1024 => xp m c t (ix2 r k)) (fun k : Fin 1024 => iblk m c 3 t (ix2 0 k)) (fun k : Fin 1024 => iblk m c 4 t (ix2 r k)))
      = lossShare m c t.val := by
  have ht := lt_N t
  unfold lossShare
  rw [dif_pos ht]
  exact congrArg partAt (funext fun r => e_row m c t r ⟨512 * t.val + r.val, by omega⟩ rfl)

/-- After point `n` the buffer holds the shares of all points so far. -/
theorem acc_loss (c : Dev nD) (j : Fin 128) : ∀ (n : ℕ) (hn : n < cfg0.N),
    (outsAt0 m c n hn).2.2.1 (ix2 0 j) = ∑ p ∈ Finset.range (n + 1), lossShare m c p
  | 0, hn => by
    refine (congrFun (outA7 m c ⟨0, hn⟩ rfl (by dsimp only; omega)) (ix2 0 j)).trans ((pay10_apply _ _ _ j).trans ?_)
    rw [point_loss m c ⟨0, hn⟩, Finset.sum_range_one]
  | n + 1, hn => by
    have h8 : n + 1 < 8 := lt_of_lt_of_eq hn N_0
    refine (congrFun (outB7 m c ⟨n + 1, hn⟩ (by dsimp only; omega) (by dsimp only; omega)) (ix2 0 j)).trans ((pay11_apply _ _ _ _ j).trans ?_)
    rw [point_loss m c ⟨n + 1, hn⟩]
    have e := acc_loss c j n (by omega)
    rw [Finset.sum_range_succ]
    exact congrArg (· + _) e

theorem loss_eq (c : Dev nD) : (∑ p ∈ Finset.range 8, lossShare m c p) = ∑ p : Fin 8, partAt fun r => ec m c ⟨512 * p.val + r.val, by omega⟩ := by
  rw [Finset.sum_range]
  refine Finset.sum_congr rfl fun p _ => ?_
  unfold lossShare
  rw [dif_pos p.isLt]

theorem idx7 : ∀ t : Fin cfg0.N, win0_7.index t 0 * win0_7.size 0 = 0 ∧ win0_7.index t 1 * win0_7.size 1 = 0 :=
  (by decide +kernel : ∀ t : Fin grid0.N, win0_7.index t 0 * win0_7.size 0 = 0 ∧ win0_7.index t 1 * win0_7.size 1 = 0)
theorem emb7 (t : Fin cfg0.N) (j : Fin 128) : (win0_7.blk t).view.emb (ix2 0 j) = (ix2 0 j : S1x128.Idx) := by
  refine funext fun a => Fin.ext ?_
  match a with
  | ⟨0, _⟩ => show win0_7.index t 0 * win0_7.size 0 + 1 * 0 = 0; rw [(idx7 t).1]
  | ⟨1, _⟩ => show win0_7.index t 1 * win0_7.size 1 + 1 * j.val = j.val; rw [(idx7 t).2]; omega

theorem flushed7 (c : Dev nD) (t : Fin cfg0.N) (hf : (cfg0.win 7).flush t = true) :
    (dats m 0 c).flushed 7 t = (win0_7.blk t).view.read (Elt Ideal) (loss (ec m c)) := by
  rw [Value.flushed7]
  funext y
  obtain ⟨z, j, rfl⟩ : ∃ (z : Fin 1) (j : Fin 128), y = ix2 z j :=
    ⟨y 0, y 1, by funext a; match a with | ⟨0, _⟩ => rfl | ⟨1, _⟩ => rfl⟩
  obtain rfl : z = 0 := Subsingleton.elim _ _
  have ht := lt_N t
  have h7 : t.val % 8 = 7 := (flush0_7 t).mp hf
  rw [View.read_apply]
  refine (acc_loss m c j t.val t.isLt).trans ?_
  rw [show t.val + 1 = 8 by omega]
  exact loss_eq m c

theorem cover7 (i : S1x128.Idx) : ∃ t : Fin cfg0.N, (cfg0.win 7).flush t = true ∧ i ∈ ((cfg0.win 7).blk t).view.set := by
  have hN : cfg0.N = 8 := N_0
  have ht : 7 < cfg0.N := by omega
  refine ⟨⟨7, ht⟩, (flush0_7 _).mpr rfl, ?_⟩
  have e : (win0_7.blk ⟨7, ht⟩).view.emb (ix2 0 (i 1)) = i :=
    (emb7 ⟨7, ht⟩ (i 1)).trans (by funext a; match a with | ⟨0, _⟩ => exact Subsingleton.elim (α := Fin 1) _ _ | ⟨1, _⟩ => rfl)
  exact (congrArg (fun j => j ∈ ((cfg0.win 7).blk ⟨7, ht⟩).view.set) e).mp (Finset.mem_map_of_mem _ (Finset.mem_univ _))

theorem final7 (c : Dev nD) : (dats m 0 c).arrAt 7 cfg0.N = loss (ec m c) :=
  (dats m 0 c).arrAt_eq_of_cover 7 _ (fun t hf => flushed7 m c t hf) cover7

end
end Cert.Kernel14Ideal.Loss
end
-- ==== Proof.LossClaim.lean ====
/-
  The second feed-forward block's way down with the loss at its end: the value of the reference, and the comparison.

  The reference norms the rows, takes half the mean square of each row's difference from its target, adds the rows up, and
  differentiates that by the chain rule. Its lines through the norm are those of the gated block (`RmsClaim`); what is new
  is the loss, whose sum the kernel takes block by block, and its gradient.
-/
module

public import proofs.«01_k».proof.Proof.Loss
public import proofs.«01_k».proof.Proof.RmsClaim
public import proofs.«01_k».proof.Proof.Gen.Reference14Ideal.Run
public import proofs.«01_k».proof.Defs
public import proofs.«01_k».proof.Proof.Gen.Pre_finite14
public import Idealize.ShloMosaic.Lib.Quiescent

@[expose] public section

set_option maxRecDepth 16384

noncomputable section

namespace Cert.Hand

open Idealize.ShloMosaic
open Cert.Kernel4Ideal.Rms (rr)
open Cert.Kernel14Ideal.Loss (partAt)

theorem ofBits_two : Ideal.ofBits .f32 0x40000000#32 = ((2 : ℝ) : EReal) := by
  simp [Ideal.ofBits, Ideal.ieee, -EReal.coe_mul]; norm_num

/-- The gradient of half a mean square: twice the difference, times half over the width. -/
theorem ct_eq {e : EReal} (he : IsReal e) :
    Ideal.div (Ideal.ofBits .f32 0x3F000000#32) (Ideal.ofBits .f32 0x44800000#32) * (Ideal.ofBits .f32 0x40000000#32 * e)
      = Ideal.div e (Ideal.ofBits .f32 0x44800000#32) := by
  obtain ⟨a, rfl⟩ := he
  rw [ofBits_half, ofBits_width, ofBits_two, Ideal.div_coe (by norm_num), Ideal.div_coe (by norm_num)]
  norm_cast
  ring

/-- One over the root mean square of a row of real numbers is a real number. -/
theorem rr_real {x : Fin 1024 → EReal} (hx : ∀ k, IsReal (x k)) : IsReal (rr x) := by
  choose x' ex using hx
  obtain rfl : x = fun k => (x' k : EReal) := funext ex
  obtain ⟨v, _, _, er⟩ := msq_real x'
  exact ⟨_, er⟩

/-- A sum in blocks of 512 is the sum. -/
theorem sum_blocks (f : ℕ → ℝ) : ∀ n : ℕ, (∑ p ∈ Finset.range n, ∑ r ∈ Finset.range 512, f (512 * p + r)) = ∑ l ∈ Finset.range (512 * n), f l
  | 0 => by simp
  | n + 1 => by
    rw [Finset.sum_range_succ, sum_blocks f n, show 512 * (n + 1) = 512 * n + 512 by ring, Finset.sum_range_add]

theorem sum_blocks_fin (f : Fin 4096 → ℝ) : (∑ p : Fin 8, ∑ r : Fin 512, f ⟨512 * p.val + r.val, by omega⟩) = ∑ l : Fin 4096, f l := by
  have h := sum_blocks (fun l => if h : l < 4096 then f ⟨l, h⟩ else 0) 8
  rw [show 512 * 8 = 4096 by norm_num, Finset.sum_range, Finset.sum_range] at h
  refine Eq.trans ?_ (h.trans (Finset.sum_congr rfl fun l _ => dif_pos l.isLt))
  refine Finset.sum_congr rfl fun p _ => ?_
  rw [Finset.sum_range]
  refine Finset.sum_congr rfl fun r _ => ?_
  have h : 512 * p.val + r.val < 4096 := by omega
  show f ⟨512 * p.val + r.val, h⟩ = if h : 512 * p.val + r.val < 4096 then f ⟨512 * p.val + r.val, h⟩ else 0
  rw [dif_pos h]

/-- A sum of squares of real numbers, by rows or by columns. -/
theorem sq_sum (q : Fin 1024 → ℝ) : (∑ d : Fin 1024, (q d : EReal) * (q d : EReal)) = ((∑ d : Fin 1024, q d * q d : ℝ) : EReal) := by
  rw [← coe_sum]
  exact Finset.sum_congr rfl fun d _ => (EReal.coe_mul _ _).symm

theorem sq_sum_block (q : Fin 512 → Fin 1024 → ℝ) :
    (∑ d : Fin 1024, ∑ r : Fin 512, (q r d : EReal) * (q r d : EReal)) = ((∑ r : Fin 512, ∑ d : Fin 1024, q r d * q r d : ℝ) : EReal) := by
  rw [Finset.sum_comm, ← coe_sum]
  exact Finset.sum_congr rfl fun r _ => sq_sum (q r)

/-- The loss of a block of real differences, and a row's mean square. -/
theorem part_real (q : Fin 512 → Fin 1024 → ℝ) :
    (partAt fun r d => (q r d : EReal)) = ((1 / 2 * (∑ r : Fin 512, ∑ d : Fin 1024, q r d * q r d) * (1 / 1024) : ℝ) : EReal) := by
  unfold partAt
  rw [sq_sum_block, ofBits_half, ofBits_width, Ideal.div_coe (by norm_num)]
  generalize (∑ r : Fin 512, ∑ d : Fin 1024, q r d * q r d) = s
  norm_cast

theorem mean_real (q : Fin 1024 → ℝ) :
    Ideal.div (∑ d : Fin 1024, (q d : EReal) * (q d : EReal)) (Ideal.ofBits .f32 0x44800000#32) = (((∑ d : Fin 1024, q d * q d) * (1 / 1024) : ℝ) : EReal) := by
  rw [sq_sum, ofBits_width, Ideal.div_coe (by norm_num)]
  generalize (∑ d : Fin 1024, q d * q d) = s
  norm_cast

/-- Half the sum of the rows' means, block by block. -/
theorem mean_sum (s : Fin 4096 → ℝ) :
    (∑ p : Fin 8, ((1 / 2 * (∑ r : Fin 512, s ⟨512 * p.val + r.val, by omega⟩) * (1 / 1024) : ℝ) : EReal))
      = ((1 / 2 : ℝ) : EReal) * ∑ l : Fin 4096, ((s l * (1 / 1024) : ℝ) : EReal) := by
  rw [coe_sum, coe_sum, ← EReal.coe_mul]
  refine congrArg _ ?_
  rw [← Finset.sum_mul, ← Finset.mul_sum, ← Finset.sum_mul, sum_blocks_fin s]
  exact mul_assoc _ _ _

/-- The loss block by block is half the sum of the rows' mean squares. -/
theorem loss_sum (e : Fin 4096 → Fin 1024 → EReal) (he : ∀ l d, IsReal (e l d)) :
    (∑ p : Fin 8, partAt fun r => e ⟨512 * p.val + r.val, by omega⟩)
      = Ideal.ofBits .f32 0x3F000000#32 * ∑ l : Fin 4096, Ideal.div (∑ d : Fin 1024, e l d * e l d) (Ideal.ofBits .f32 0x44800000#32) := by
  choose e' ee using he
  obtain rfl : e = fun l d => (e' l d : EReal) := funext fun l => funext fun d => ee l d
  rw [ofBits_half]
  refine Eq.trans (Finset.sum_congr rfl fun p _ => part_real fun r => e' ⟨512 * p.val + r.val, by omega⟩) ?_
  refine Eq.trans (mean_sum fun l => ∑ d : Fin 1024, e' l d * e' l d) (congrArg (fun s => ((1 / 2 : ℝ) : EReal) * s) ?_)
  exact Finset.sum_congr rfl fun l _ => (mean_real (e' l)).symm

end Cert.Hand

namespace Cert.Reference14Ideal.Loss

open Cert.Reference14Ideal Cert.Reference14Ideal.Gen Idealize.ShloMosaic Idealize.ShloMosaic.TcCoe Idealize.SL.Sem
open Cert.Hand
open Cert.Kernel4Ideal.Rms (rr rowAt gainAt)
open Cert.Kernel14Ideal.Loss (xnAt errAt ctAt)
open Cert.Reference4Ideal.Rms (rstd back rstd_apply back_apply dgain dgain_apply)

variable (hd : FVec Ideal S4x4096x704 .bf16) (w : FVec Ideal S4x704x1024 .bf16)
variable (x : FVec Ideal S4096x1024 .f32) (gain : FVec Ideal S1x1024 .f32) (t : FVec Ideal S4096x1024 .f32)

/-- The block's output before the norm. -/
def xn : FVec Ideal S4096x1024 .f32 :=
  addf x (mulf (broadcastInDim S4096x1024 ![] bcast_S_S4096x1024 (constant S_ .f32 0x3F000000#32)) (Host.dotGeneral dot_S4x4096x704_S4x704x1024_S4096x1024_20_10_1_2_n_n none (extf .f32 hd bitsLt_bf16_f32) (extf .f32 w bitsLt_bf16_f32)))

/-- The normed rows less their targets, of the rows before the norm. -/
def err : FVec Ideal S4096x1024 .f32 :=
  subf (mulf (mulf x (broadcastInDim S4096x1024 ![0, 1] bcast_S4096x1_S4096x1024_0_1 (rstd x))) (broadcastInDim S4096x1024 ![0, 1] bcast_S1x1024_S4096x1024_0_1 gain)) t

/-- The gradient of the normed rows. -/
def ct : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (err x gain t))

/-- The gradient of the rows before the norm, of the normed rows' gradient `h`. -/
def dx (h : FVec Ideal S4096x1024 .f32) : FVec Ideal S4096x1024 .f32 :=
  addf (addf (mulf (mulf h (broadcastInDim S4096x1024 ![0, 1] bcast_S1x1024_S4096x1024_0_1 gain)) (broadcastInDim S4096x1024 ![0, 1] bcast_S4096x1_S4096x1024_0_1 (rstd x))) (mulf x (back h x gain))) (mulf (back h x gain) x)

/-- The loss, in every lane. -/
def loss : FVec Ideal S1x128 .f32 :=
  broadcastInDim S1x128 ![] bcast_S_S1x128 (mulf (constant S_ .f32 0x3F000000#32) (Host.reduceAdd (Host.divf (Host.reduceAdd (mulf (err x gain t) (err x gain t)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_))

theorem xn_apply (l : Fin 4096) (d : Fin 1024) : xn hd w x (ix2 l d) = xnAt hd w x l d := by
  pointwise [xn]
  unfold xnAt
  exact congrArg (fun s => x (ix2 l d) + Ideal.ofBits .f32 0x3F000000#32 * s) Finset.sum_comm

theorem err_apply (l : Fin 4096) (d : Fin 1024) :
    err x gain t (ix2 l d) = errAt (fun k => x (ix2 l k)) (fun k => gain (ix2 0 k)) (fun k => t (ix2 l k)) d := by
  pointwise [err, rstd_apply]
  rfl

theorem err_real (hx : ∀ i, IsReal (x i)) (hg : ∀ i, IsReal (gain i)) (ht : ∀ i, IsReal (t i)) (l : Fin 4096) (d : Fin 1024) :
    IsReal (errAt (fun k => x (ix2 l k)) (fun k => gain (ix2 0 k)) (fun k => t (ix2 l k)) d) :=
  (((hx _).mul (rr_real fun k => hx _)).mul (hg _)).sub (ht _)

theorem ct_apply (hx : ∀ i, IsReal (x i)) (hg : ∀ i, IsReal (gain i)) (ht : ∀ i, IsReal (t i)) (l : Fin 4096) (d : Fin 1024) :
    ct x gain t (ix2 l d) = ctAt (fun k => x (ix2 l k)) (fun k => gain (ix2 0 k)) (fun k => t (ix2 l k)) d := by
  pointwise [ct, err_apply]
  exact ct_eq (err_real x gain t hx hg ht l d)

theorem ct_real (hx : ∀ i, IsReal (x i)) (hg : ∀ i, IsReal (gain i)) (ht : ∀ i, IsReal (t i)) (l : Fin 4096) (d : Fin 1024) :
    IsReal (ctAt (fun k => x (ix2 l k)) (fun k => gain (ix2 0 k)) (fun k => t (ix2 l k)) d) := by
  unfold ctAt
  rw [ofBits_width, Ideal.div_coe (by norm_num)]
  exact (err_real x gain t hx hg ht l d).mul (IsReal.coe _)

theorem loss_apply (j : Fin 128) : loss x gain t (ix2 0 j)
    = Ideal.ofBits .f32 0x3F000000#32 * ∑ l : Fin 4096, Ideal.div (∑ d : Fin 1024, errAt (fun k => x (ix2 l k)) (fun k => gain (ix2 0 k)) (fun k => t (ix2 l k)) d
        * errAt (fun k => x (ix2 l k)) (fun k => gain (ix2 0 k)) (fun k => t (ix2 l k)) d) (Ideal.ofBits .f32 0x44800000#32) := by
  pointwise [loss, err_apply]

theorem dx_apply (h : FVec Ideal S4096x1024 .f32) (l : Fin 4096) (d : Fin 1024) : dx x gain h (ix2 l d)
    = h (ix2 l d) * gain (ix2 0 d) * (rr fun k => x (ix2 l k))
      + x (ix2 l d) * backAt (fun k => h (ix2 l k)) (fun k => x (ix2 l k)) (fun k => gain (ix2 0 k))
      + backAt (fun k => h (ix2 l k)) (fun k => x (ix2 l k)) (fun k => gain (ix2 0 k)) * x (ix2 l d) := by
  pointwise [dx, rstd_apply, back_apply]

theorem dx_eq (hx : ∀ i, IsReal (x i)) (hg : ∀ i, IsReal (gain i)) (ht : ∀ i, IsReal (t i)) (l : Fin 4096) (d : Fin 1024) :
    rowAt (ctAt (fun k => x (ix2 l k)) (fun k => gain (ix2 0 k)) (fun k => t (ix2 l k))) (fun k => x (ix2 l k)) (fun k => gain (ix2 0 k)) (fun _ => 0) d
      = dx x gain (ct x gain t) (ix2 l d) := by
  rw [dx_apply]
  simp only [ct_apply x gain t hx hg ht]
  refine (row_eq _ _ _ _ (ct_real x gain t hx hg ht l) (fun k => hx _) (fun k => hg _) (fun k => IsReal.zero) d).trans ?_
  rw [zero_add]

theorem dgain_eq (hx : ∀ i, IsReal (x i)) (hg : ∀ i, IsReal (gain i)) (ht : ∀ i, IsReal (t i)) :
    Cert.Kernel4Ideal.Rms.dgain (fun l => ctAt (fun k => x (ix2 l k)) (fun k => gain (ix2 0 k)) (fun k => t (ix2 l k))) (fun l k => x (ix2 l k)) = dgain (ct x gain t) x := by
  funext i
  obtain ⟨z, d, rfl⟩ : ∃ (z : Fin 1) (d : Fin 1024), i = ix2 z d :=
    ⟨i 0, i 1, by funext x; match x with | ⟨0, _⟩ => rfl | ⟨1, _⟩ => rfl⟩
  obtain rfl : z = 0 := Subsingleton.elim _ _
  rw [dgain_apply]
  simp only [ct_apply x gain t hx hg ht]
  rfl

theorem loss_of (e : Fin 4096 → Fin 1024 → EReal) (he : ∀ l d, IsReal (e l d)) (i : S1x128.Idx) : Cert.Kernel14Ideal.Loss.loss e i
    = Ideal.ofBits .f32 0x3F000000#32 * ∑ l : Fin 4096, Ideal.div (∑ d : Fin 1024, e l d * e l d) (Ideal.ofBits .f32 0x44800000#32) :=
  loss_sum e he

theorem loss_eq (hx : ∀ i, IsReal (x i)) (hg : ∀ i, IsReal (gain i)) (ht : ∀ i, IsReal (t i)) :
    Cert.Kernel14Ideal.Loss.loss (fun l => errAt (fun k => x (ix2 l k)) (fun k => gain (ix2 0 k)) (fun k => t (ix2 l k))) = loss x gain t := by
  funext i
  obtain ⟨z, j, rfl⟩ : ∃ (z : Fin 1) (j : Fin 128), i = ix2 z j :=
    ⟨i 0, i 1, by funext x; match x with | ⟨0, _⟩ => rfl | ⟨1, _⟩ => rfl⟩
  obtain rfl : z = 0 := Subsingleton.elim _ _
  rw [loss_apply, loss_of _ (err_real x gain t hx hg ht)]

end Cert.Reference14Ideal.Loss

namespace Cert.Proof.Loss

open Idealize.ShloMosaic Idealize.ShloMosaic.TcCoe Idealize.SL.Sem
open Cert.Hand
open Cert.Kernel14Ideal.Loss (aHd aW aX aGain aT xc gc tc ec dhc yc xnAt)

/-- What the precondition says: every element of every argument is a real number. -/
theorem isReal_of_pre (m : (ℓ : Loc Cert.Kernel14Ideal.nD Cert.Kernel14Ideal.τ Cert.Kernel14Ideal.sig) → Buf (Elt Ideal) ℓ)
    (h : Cert.Pre_Kernel14Ideal_finite14 m) (c : Dev Cert.Kernel14Ideal.nD) :
    (∀ i, IsReal (aHd m c i)) ∧ (∀ i, IsReal (aW m c i))
      ∧ (∀ i, IsReal (aX m c i)) ∧ (∀ i, IsReal (aGain m c i)) ∧ (∀ i, IsReal (aT m c i)) := by
  obtain ⟨h0, h1, h2, h3, h4⟩ := h c
  refine ⟨fun i => ?_, fun i => ?_, fun i => ?_, fun i => ?_, fun i => ?_⟩
  · exact isReal_of_cmp (by rw [← ofBits_inf]; exact congrFun h0 i)
  · exact isReal_of_cmp (by rw [← ofBits_inf]; exact congrFun h1 i)
  · exact isReal_of_cmp (by rw [← ofBits_inf]; exact congrFun h2 i)
  · exact isReal_of_cmp (by rw [← ofBits_inf]; exact congrFun h3 i)
  · exact isReal_of_cmp (by rw [← ofBits_inf]; exact congrFun h4 i)

theorem frame_reference : Cert.quiescent_Reference14Ideal := fun m ρ _ =>
  (θ_run Cert.Reference14Ideal.defs _ _).mono (fun r h => ⟨fun c => (h c).2.2.2.2,
      Idealize.ShloMosaic.sem_eq_zero_of_no_sems (by decide) r.2⟩)
    (Cert.Reference14Ideal.Value.run (F := Ideal) m ρ)

/-- The rows before the norm, of the device's arguments. -/
abbrev xnc (m : (ℓ : Loc Cert.Kernel14Ideal.nD Cert.Kernel14Ideal.τ Cert.Kernel14Ideal.sig) → Buf (Elt Ideal) ℓ) (c : Dev Cert.Kernel14Ideal.nD) :=
  Cert.Reference14Ideal.Loss.xn (aHd m c) (aW m c) (aX m c)

variable (m : (ℓ : Loc Cert.Kernel14Ideal.nD Cert.Kernel14Ideal.τ Cert.Kernel14Ideal.sig) → Buf (Elt Ideal) ℓ)

theorem xc_eq (c : Dev Cert.Kernel14Ideal.nD) : xc m c = fun l k => xnc m c (ix2 l k) :=
  funext fun l => funext fun k => (Cert.Reference14Ideal.Loss.xn_apply _ _ _ l k).symm

theorem xnc_real (h : Cert.Pre_Kernel14Ideal_finite14 m) (c : Dev Cert.Kernel14Ideal.nD) (i) : IsReal (xnc m c i) := by
  obtain ⟨h0, h1, h2, h3, h4⟩ := isReal_of_pre m h c
  obtain ⟨l, d, rfl⟩ : ∃ (l : Fin 4096) (d : Fin 1024), i = ix2 l d :=
    ⟨i 0, i 1, by funext x; match x with | ⟨0, _⟩ => rfl | ⟨1, _⟩ => rfl⟩
  show IsReal (Cert.Reference14Ideal.Loss.xn (aHd m c) (aW m c) (aX m c) (ix2 l d))
  rw [Cert.Reference14Ideal.Loss.xn_apply]
  refine (h2 _).add (IsReal.mul ?_ (IsReal.sum _ fun g _ => IsReal.sum _ fun f _ => (h0 _).mul (h1 _)))
  rw [ofBits_half]
  exact IsReal.coe _

theorem dx_eq (h : Cert.Pre_Kernel14Ideal_finite14 m) (c : Dev Cert.Kernel14Ideal.nD) (l : Fin 4096) (d : Fin 1024) :
    Cert.Kernel4Ideal.Rms.rowAt (dhc m c l) (xc m c l) (gc m c) (yc l) d
      = Cert.Reference14Ideal.Loss.dx (xnc m c) (aGain m c) (Cert.Reference14Ideal.Loss.ct (xnc m c) (aGain m c) (aT m c)) (ix2 l d) := by
  obtain ⟨h0, h1, h2, h3, h4⟩ := isReal_of_pre m h c
  unfold dhc
  rw [xc_eq m c]
  exact Cert.Reference14Ideal.Loss.dx_eq _ _ _ (xnc_real m h c) h3 h4 l d

theorem loss_eq (h : Cert.Pre_Kernel14Ideal_finite14 m) (c : Dev Cert.Kernel14Ideal.nD) :
    Cert.Kernel14Ideal.Loss.loss (ec m c) = Cert.Reference14Ideal.Loss.loss (xnc m c) (aGain m c) (aT m c) := by
  obtain ⟨h0, h1, h2, h3, h4⟩ := isReal_of_pre m h c
  unfold ec
  rw [xc_eq m c]
  exact Cert.Reference14Ideal.Loss.loss_eq _ _ _ (xnc_real m h c) h3 h4

theorem dgain_eq (h : Cert.Pre_Kernel14Ideal_finite14 m) (c : Dev Cert.Kernel14Ideal.nD) :
    Cert.Kernel4Ideal.Rms.dgain (dhc m c) (xc m c) = Cert.Reference4Ideal.Rms.dgain (Cert.Reference14Ideal.Loss.ct (xnc m c) (aGain m c) (aT m c)) (xnc m c) := by
  obtain ⟨h0, h1, h2, h3, h4⟩ := isReal_of_pre m h c
  unfold dhc
  rw [xc_eq m c]
  exact Cert.Reference14Ideal.Loss.dgain_eq _ _ _ (xnc_real m h c) h3 h4

theorem algebraic : Cert.algebraic_Kernel14Ideal_Reference14Ideal_pre_finite14 := by
  intro m ρ m' ρ' hpre hagree
  refine ⟨fun c => Cert.Kernel4Ideal.Rms.dx (dhc m c) (xc m c) (aGain m c) yc,
    fun c => Cert.Kernel4Ideal.Rms.dxb (dhc m c) (xc m c) (aGain m c) yc,
    fun c => Cert.Kernel14Ideal.Loss.loss (ec m c),
    fun c => Cert.Kernel4Ideal.Rms.dgain (dhc m c) (xc m c), ?_, ?_⟩
  · exact (θ_run Cert.Kernel14Ideal.defs _ _).mono
      (fun _ h c => ⟨(h c).1.trans (Cert.Kernel14Ideal.Loss.final5 m c), (h c).2.1.trans (Cert.Kernel14Ideal.Loss.final6 m c),
        (h c).2.2.1.trans (Cert.Kernel14Ideal.Loss.final7 m c), (h c).2.2.2.1.trans (Cert.Kernel14Ideal.Loss.final8 m c), (h c).2.2.2.2⟩)
      (Cert.Kernel14Ideal.Value.run_blocks (F := Ideal) m ρ)
  refine (θ_run Cert.Reference14Ideal.defs _ _).mono (fun _ h c => ⟨(h c).1.trans ?_, (h c).2.1.trans ?_, (h c).2.2.1.trans ?_, (h c).2.2.2.1.trans ?_, (h c).2.2.2.2⟩)
    (Cert.Reference14Ideal.Value.run (F := Ideal) m' ρ')
  · obtain ⟨e0, e1, e2, e3, e4⟩ := hagree c
    unfold Cert.Reference14Ideal.Value.res_main_v54
    rw [e0, e1, e2, e3, e4]
    funext i
    obtain ⟨l, d, rfl⟩ : ∃ (l : Fin 4096) (d : Fin 1024), i = ix2 l d :=
      ⟨i 0, i 1, by funext x; match x with | ⟨0, _⟩ => rfl | ⟨1, _⟩ => rfl⟩
    exact (dx_eq m hpre c l d).symm
  · obtain ⟨e0, e1, e2, e3, e4⟩ := hagree c
    unfold Cert.Reference14Ideal.Value.res_main_v55
    rw [e0, e1, e2, e3, e4]
    funext i
    obtain ⟨l, d, rfl⟩ : ∃ (l : Fin 4096) (d : Fin 1024), i = ix2 l d :=
      ⟨i 0, i 1, by funext x; match x with | ⟨0, _⟩ => rfl | ⟨1, _⟩ => rfl⟩
    exact (dx_eq m hpre c l d).symm
  · obtain ⟨e0, e1, e2, e3, e4⟩ := hagree c
    rw [e0, e1, e2, e3, e4]
    exact (loss_eq m hpre c).symm
  · obtain ⟨e0, e1, e2, e3, e4⟩ := hagree c
    rw [e0, e1, e2, e3, e4]
    exact (dgain_eq m hpre c).symm

end Cert.Proof.Loss
end
-- ==== Proof.Adam.lean ====
/-
  One step of the optimiser, of arrays of any shape.

  Every element of the new moments and of the weight's change is a function of the same element of the weight, the
  gradient and the old moments. The constants are the step's own, as the programs' texts have them: the decay rates and
  their complements, the two bias corrections of the tenth step, the small number in the denominator, the weight decay
  and the learning rate.
-/
module

public import Idealize.ShloMosaic.Lib.Pointwise
public import Idealize.ShloMosaic.Lib.IdealHost

@[expose] public section

noncomputable section

namespace Cert.Hand.Adam

open Idealize.ShloMosaic

/-- The new first moment. -/
def momAt (g m : EReal) : EReal := Ideal.ofBits .f32 0x3F666666#32 * m + Ideal.ofBits .f32 0x3DCCCCCD#32 * g

/-- The new second moment. -/
def varAt (g v : EReal) : EReal := Ideal.ofBits .f32 0x3F7FBE77#32 * v + Ideal.ofBits .f32 0x3A83126F#32 * (g * g)

/-- The weight's change. -/
def stepAt (w g m v : EReal) : EReal :=
  Ideal.ofBits .f32 0xBA83126F#32
    * (Ideal.div (Ideal.div (momAt g m) (Ideal.ofBits .f32 0x3F26BD02#32))
        (Ideal.sqrt (Ideal.div (varAt g v) (Ideal.ofBits .f32 0x3C231ACC#32)) + Ideal.ofBits .f32 0x322BCC77#32)
      + Ideal.ofBits .f32 0x3C23D70A#32 * w)

variable {S : Shape}

def mom (g m : FVec Ideal S .f32) : FVec Ideal S .f32 := fun i => momAt (g i) (m i)
def var (g v : FVec Ideal S .f32) : FVec Ideal S .f32 := fun i => varAt (g i) (v i)
def step (w g m v : FVec Ideal S .f32) : FVec Ideal S .f32 := fun i => stepAt (w i) (g i) (m i) (v i)

end Cert.Hand.Adam
end
-- ==== Proof.AdamFfn.lean ====
/-
  The optimiser's step of a shard of a feed-forward weight: kernel, reference, and the comparison.

  Grid point `t` takes rows `176 t` to `176 t + 175` of the four arrays, and the four blocks of each result tile it. A block
  is the step of the blocks read, because the step is elementwise and every window has the same blocks.
-/
module

public import proofs.«01_k».proof.Proof.Adam
public import proofs.«01_k».proof.Proof.Gen.Kernel15Ideal.Value
public import proofs.«01_k».proof.Proof.Gen.Reference15Ideal.Run
public import proofs.«01_k».proof.Defs
public import Idealize.ShloMosaic.Lib.VecWindow
public import Idealize.ShloMosaic.Lib.Quiescent

@[expose] public section

set_option maxRecDepth 16384

noncomputable section

namespace Cert.Kernel15Ideal.AdamFfn

open Cert.Kernel15Ideal Cert.Kernel15Ideal.Gen Idealize.ShloMosaic Idealize.ShloMosaic.TcCoe Idealize.SL.Sem
open Cert.Hand

theorem hz2 : (![0, 0] : Fin 2 → Nat) = fun _ => 0 := funext fun a => by fin_cases a <;> rfl

section
variable (x0 x1 x2 x3 : Vec Ideal S176x1024 .f32)

theorem pay3_eq (g w m v : Vec Ideal S176x1024 .f32) : k0_pay3 g w m v = Adam.step w g m v := by
  funext i
  rfl

/-- What the body leaves in its four blocks: the gradient, and the step of the blocks it reads. -/
theorem out4 : out0_4 x0 x1 x2 x3 = x1 :=
  (View.canon_cons_unit_zero (S := S176x1024) hz2 _ _ _).trans (View.ld_unit_zero (S := S176x1024) hz2 _ _)
theorem out5 : out0_5 x0 x1 x2 x3 = Adam.step x0 x1 x2 x3 :=
  (View.canon_cons_unit_zero (S := S176x1024) hz2 _ _ _).trans
    (Eq.trans (congr (congr (congr (congrArg k0_pay3 (View.ld_unit_zero (S := S176x1024) hz2 _ _)) (View.ld_unit_zero (S := S176x1024) hz2 _ _))
      (View.ld_unit_zero (S := S176x1024) hz2 _ _)) (View.ld_unit_zero (S := S176x1024) hz2 _ _)) (pay3_eq x1 x0 x2 x3))
theorem out6 : out0_6 x0 x1 x2 x3 = Adam.mom x1 x2 :=
  (View.canon_cons_unit_zero (S := S176x1024) hz2 _ _ _).trans
    (congr (congrArg k0_pay1 (View.ld_unit_zero (S := S176x1024) hz2 _ _)) (View.ld_unit_zero (S := S176x1024) hz2 _ _))
theorem out7 : out0_7 x0 x1 x2 x3 = Adam.var x1 x3 :=
  (View.canon_cons_unit_zero (S := S176x1024) hz2 _ _ _).trans
    (congr (congrArg k0_pay2 (View.ld_unit_zero (S := S176x1024) hz2 _ _)) (View.ld_unit_zero (S := S176x1024) hz2 _ _))

end

section
variable (m : (ℓ : Loc nD τ sig) → Buf (Elt Ideal) ℓ)

/-- The device's arguments, by name. -/
abbrev aW (c : Dev nD) : FVec Ideal S704x1024 .f32 := m ((c : Thread nD τ).loc main_arg0)
abbrev aG (c : Dev nD) : FVec Ideal S704x1024 .f32 := m ((c : Thread nD τ).loc main_arg1)
abbrev aM (c : Dev nD) : FVec Ideal S704x1024 .f32 := m ((c : Thread nD τ).loc main_arg2)
abbrev aV (c : Dev nD) : FVec Ideal S704x1024 .f32 := m ((c : Thread nD τ).loc main_arg3)

theorem idx4 : ∀ t : Fin cfg0.N, win0_4.index t 0 * win0_4.size 0 = 176 * t.val ∧ win0_4.index t 1 * win0_4.size 1 = 0 :=
  (by decide +kernel : ∀ t : Fin grid0.N, win0_4.index t 0 * win0_4.size 0 = 176 * t.val ∧ win0_4.index t 1 * win0_4.size 1 = 0)
/-- Every index of the result lies in the block of the point of its row block. -/
theorem cover4 (i : S704x1024.Idx) : ∃ t : Fin cfg0.N, (cfg0.win 4).flush t = true ∧ i ∈ ((cfg0.win 4).blk t).view.set := by
  have h0 : (i 0 : Nat) < 704 := (i 0).isLt
  have hN : cfg0.N = 4 := N_0
  have ht : (i 0 : Nat) / 176 < cfg0.N := by omega
  refine ⟨⟨_, ht⟩, flush0_4 _, ?_⟩
  have e : (win0_4.blk ⟨_, ht⟩).view.emb (ix2 ⟨(i 0 : Nat) % 176, by omega⟩ (i 1)) = i := by
    refine funext fun a => Fin.ext ?_
    match a with
    | ⟨0, _⟩ => show win0_4.index ⟨_, ht⟩ 0 * win0_4.size 0 + 1 * ((i 0 : Nat) % 176) = (i 0 : Nat); rw [(idx4 _).1]; dsimp only; omega
    | ⟨1, _⟩ => show win0_4.index ⟨_, ht⟩ 1 * win0_4.size 1 + 1 * (i 1 : Nat) = (i 1 : Nat); rw [(idx4 _).2]; omega
  exact (congrArg (fun j => j ∈ ((cfg0.win 4).blk ⟨_, ht⟩).view.set) e).mp (Finset.mem_map_of_mem _ (Finset.mem_univ _))
theorem final4 (c : Dev nD) : (dats m 0 c).arrAt 4 cfg0.N = aG m c :=
  (dats m 0 c).arrAt_eq_of_cover 4 _ (fun t _ => by rw [Value.flushed4, out4]; rfl) cover4

theorem idx5 : ∀ t : Fin cfg0.N, win0_5.index t 0 * win0_5.size 0 = 176 * t.val ∧ win0_5.index t 1 * win0_5.size 1 = 0 :=
  (by decide +kernel : ∀ t : Fin grid0.N, win0_5.index t 0 * win0_5.size 0 = 176 * t.val ∧ win0_5.index t 1 * win0_5.size 1 = 0)
/-- Every index of the result lies in the block of the point of its row block. -/
theorem cover5 (i : S704x1024.Idx) : ∃ t : Fin cfg0.N, (cfg0.win 5).flush t = true ∧ i ∈ ((cfg0.win 5).blk t).view.set := by
  have h0 : (i 0 : Nat) < 704 := (i 0).isLt
  have hN : cfg0.N = 4 := N_0
  have ht : (i 0 : Nat) / 176 < cfg0.N := by omega
  refine ⟨⟨_, ht⟩, flush0_5 _, ?_⟩
  have e : (win0_5.blk ⟨_, ht⟩).view.emb (ix2 ⟨(i 0 : Nat) % 176, by omega⟩ (i 1)) = i := by
    refine funext fun a => Fin.ext ?_
    match a with
    | ⟨0, _⟩ => show win0_5.index ⟨_, ht⟩ 0 * win0_5.size 0 + 1 * ((i 0 : Nat) % 176) = (i 0 : Nat); rw [(idx5 _).1]; dsimp only; omega
    | ⟨1, _⟩ => show win0_5.index ⟨_, ht⟩ 1 * win0_5.size 1 + 1 * (i 1 : Nat) = (i 1 : Nat); rw [(idx5 _).2]; omega
  exact (congrArg (fun j => j ∈ ((cfg0.win 5).blk ⟨_, ht⟩).view.set) e).mp (Finset.mem_map_of_mem _ (Finset.mem_univ _))
theorem final5 (c : Dev nD) : (dats m 0 c).arrAt 5 cfg0.N = Adam.step (aW m c) (aG m c) (aM m c) (aV m c) :=
  (dats m 0 c).arrAt_eq_of_cover 5 _ (fun t _ => by rw [Value.flushed5, out5]; rfl) cover5

theorem idx6 : ∀ t : Fin cfg0.N, win0_6.index t 0 * win0_6.size 0 = 176 * t.val ∧ win0_6.index t 1 * win0_6.size 1 = 0 :=
  (by decide +kernel : ∀ t : Fin grid0.N, win0_6.index t 0 * win0_6.size 0 = 176 * t.val ∧ win0_6.index t 1 * win0_6.size 1 = 0)
/-- Every index of the result lies in the block of the point of its row block. -/
theorem cover6 (i : S704x1024.Idx) : ∃ t : Fin cfg0.N, (cfg0.win 6).flush t = true ∧ i ∈ ((cfg0.win 6).blk t).view.set := by
  have h0 : (i 0 : Nat) < 704 := (i 0).isLt
  have hN : cfg0.N = 4 := N_0
  have ht : (i 0 : Nat) / 176 < cfg0.N := by omega
  refine ⟨⟨_, ht⟩, flush0_6 _, ?_⟩
  have e : (win0_6.blk ⟨_, ht⟩).view.emb (ix2 ⟨(i 0 : Nat) % 176, by omega⟩ (i 1)) = i := by
    refine funext fun a => Fin.ext ?_
    match a with
    | ⟨0, _⟩ => show win0_6.index ⟨_, ht⟩ 0 * win0_6.size 0 + 1 * ((i 0 : Nat) % 176) = (i 0 : Nat); rw [(idx6 _).1]; dsimp only; omega
    | ⟨1, _⟩ => show win0_6.index ⟨_, ht⟩ 1 * win0_6.size 1 + 1 * (i 1 : Nat) = (i 1 : Nat); rw [(idx6 _).2]; omega
  exact (congrArg (fun j => j ∈ ((cfg0.win 6).blk ⟨_, ht⟩).view.set) e).mp (Finset.mem_map_of_mem _ (Finset.mem_univ _))
theorem final6 (c : Dev nD) : (dats m 0 c).arrAt 6 cfg0.N = Adam.mom (aG m c) (aM m c) :=
  (dats m 0 c).arrAt_eq_of_cover 6 _ (fun t _ => by rw [Value.flushed6, out6]; rfl) cover6

theorem idx7 : ∀ t : Fin cfg0.N, win0_7.index t 0 * win0_7.size 0 = 176 * t.val ∧ win0_7.index t 1 * win0_7.size 1 = 0 :=
  (by decide +kernel : ∀ t : Fin grid0.N, win0_7.index t 0 * win0_7.size 0 = 176 * t.val ∧ win0_7.index t 1 * win0_7.size 1 = 0)
/-- Every index of the result lies in the block of the point of its row block. -/
theorem cover7 (i : S704x1024.Idx) : ∃ t : Fin cfg0.N, (cfg0.win 7).flush t = true ∧ i ∈ ((cfg0.win 7).blk t).view.set := by
  have h0 : (i 0 : Nat) < 704 := (i 0).isLt
  have hN : cfg0.N = 4 := N_0
  have ht : (i 0 : Nat) / 176 < cfg0.N := by omega
  refine ⟨⟨_, ht⟩, flush0_7 _, ?_⟩
  have e : (win0_7.blk ⟨_, ht⟩).view.emb (ix2 ⟨(i 0 : Nat) % 176, by omega⟩ (i 1)) = i := by
    refine funext fun a => Fin.ext ?_
    match a with
    | ⟨0, _⟩ => show win0_7.index ⟨_, ht⟩ 0 * win0_7.size 0 + 1 * ((i 0 : Nat) % 176) = (i 0 : Nat); rw [(idx7 _).1]; dsimp only; omega
    | ⟨1, _⟩ => show win0_7.index ⟨_, ht⟩ 1 * win0_7.size 1 + 1 * (i 1 : Nat) = (i 1 : Nat); rw [(idx7 _).2]; omega
  exact (congrArg (fun j => j ∈ ((cfg0.win 7).blk ⟨_, ht⟩).view.set) e).mp (Finset.mem_map_of_mem _ (Finset.mem_univ _))
theorem final7 (c : Dev nD) : (dats m 0 c).arrAt 7 cfg0.N = Adam.var (aG m c) (aV m c) :=
  (dats m 0 c).arrAt_eq_of_cover 7 _ (fun t _ => by rw [Value.flushed7, out7]; rfl) cover7

end

end Cert.Kernel15Ideal.AdamFfn

namespace Cert.Proof.AdamFfn

open Idealize.ShloMosaic Idealize.ShloMosaic.TcCoe Idealize.SL.Sem
open Cert.Hand
open Cert.Kernel15Ideal.AdamFfn (aW aG aM aV)

theorem frame_reference : Cert.quiescent_Reference15Ideal := fun m ρ _ =>
  (θ_run Cert.Reference15Ideal.defs _ _).mono (fun r h => ⟨fun c => (h c).2.2.2.2,
      Idealize.ShloMosaic.sem_eq_zero_of_no_sems (by decide) r.2⟩)
    (Cert.Reference15Ideal.Value.run (F := Ideal) m ρ)

theorem algebraic : Cert.algebraic_Kernel15Ideal_Reference15Ideal := by
  intro m ρ m' ρ' _ hagree
  refine ⟨fun c => aG m c,
    fun c => Adam.step (aW m c) (aG m c) (aM m c) (aV m c),
    fun c => Adam.mom (aG m c) (aM m c),
    fun c => Adam.var (aG m c) (aV m c), ?_, ?_⟩
  · exact (θ_run Cert.Kernel15Ideal.defs _ _).mono
      (fun _ h c => ⟨(h c).1.trans (Cert.Kernel15Ideal.AdamFfn.final4 m c), (h c).2.1.trans (Cert.Kernel15Ideal.AdamFfn.final5 m c),
        (h c).2.2.1.trans (Cert.Kernel15Ideal.AdamFfn.final6 m c), (h c).2.2.2.1.trans (Cert.Kernel15Ideal.AdamFfn.final7 m c), (h c).2.2.2.2⟩)
      (Cert.Kernel15Ideal.Value.run_blocks (F := Ideal) m ρ)
  refine (θ_run Cert.Reference15Ideal.defs _ _).mono
    (fun _ h c => ⟨(h c).1.trans ?_, (h c).2.1.trans ?_, (h c).2.2.1.trans ?_, (h c).2.2.2.1.trans ?_, (h c).2.2.2.2⟩)
    (Cert.Reference15Ideal.Value.run (F := Ideal) m' ρ')
  · rw [(hagree c).2.1]
  · rw [(hagree c).1, (hagree c).2.1, (hagree c).2.2.1, (hagree c).2.2.2]
    rfl
  · rw [(hagree c).2.1, (hagree c).2.2.1]
    rfl
  · rw [(hagree c).2.1, (hagree c).2.2.2]
    rfl

end Cert.Proof.AdamFfn
end
-- ==== Proof.AdamIn.lean ====
/-
  The optimiser's step of a shard of the input projection: kernel, reference, and the comparison.

  Grid point `t` takes rows `512 t` to `512 t + 511` of the four arrays; the two blocks of each result tile it.
-/
module

public import proofs.«01_k».proof.Proof.Adam
public import proofs.«01_k».proof.Proof.Gen.Kernel16Ideal.Value
public import proofs.«01_k».proof.Proof.Gen.Reference16Ideal.Run
public import proofs.«01_k».proof.Defs
public import Idealize.ShloMosaic.Lib.VecWindow
public import Idealize.ShloMosaic.Lib.Quiescent

@[expose] public section

set_option maxRecDepth 16384

noncomputable section

namespace Cert.Kernel16Ideal.AdamIn

open Cert.Kernel16Ideal Cert.Kernel16Ideal.Gen Idealize.ShloMosaic Idealize.ShloMosaic.TcCoe Idealize.SL.Sem
open Cert.Hand

theorem hz2 : (![0, 0] : Fin 2 → Nat) = fun _ => 0 := funext fun a => by fin_cases a <;> rfl

section
variable (x0 x1 x2 x3 : Vec Ideal S512x384 .f32)

theorem pay3_eq (g w m v : Vec Ideal S512x384 .f32) : k0_pay3 g w m v = Adam.step w g m v := by
  funext i
  rfl

/-- What the body leaves in its four blocks: the gradient, and the step of the blocks it reads. -/
theorem out4 : out0_4 x0 x1 x2 x3 = x1 :=
  (View.canon_cons_unit_zero (S := S512x384) hz2 _ _ _).trans (View.ld_unit_zero (S := S512x384) hz2 _ _)
theorem out5 : out0_5 x0 x1 x2 x3 = Adam.step x0 x1 x2 x3 :=
  (View.canon_cons_unit_zero (S := S512x384) hz2 _ _ _).trans
    (Eq.trans (congr (congr (congr (congrArg k0_pay3 (View.ld_unit_zero (S := S512x384) hz2 _ _)) (View.ld_unit_zero (S := S512x384) hz2 _ _))
      (View.ld_unit_zero (S := S512x384) hz2 _ _)) (View.ld_unit_zero (S := S512x384) hz2 _ _)) (pay3_eq x1 x0 x2 x3))
theorem out6 : out0_6 x0 x1 x2 x3 = Adam.mom x1 x2 :=
  (View.canon_cons_unit_zero (S := S512x384) hz2 _ _ _).trans
    (congr (congrArg k0_pay1 (View.ld_unit_zero (S := S512x384) hz2 _ _)) (View.ld_unit_zero (S := S512x384) hz2 _ _))
theorem out7 : out0_7 x0 x1 x2 x3 = Adam.var x1 x3 :=
  (View.canon_cons_unit_zero (S := S512x384) hz2 _ _ _).trans
    (congr (congrArg k0_pay2 (View.ld_unit_zero (S := S512x384) hz2 _ _)) (View.ld_unit_zero (S := S512x384) hz2 _ _))

end

section
variable (m : (ℓ : Loc nD τ sig) → Buf (Elt Ideal) ℓ)

/-- The device's arguments, by name. -/
abbrev aW (c : Dev nD) : FVec Ideal S1024x384 .f32 := m ((c : Thread nD τ).loc main_arg0)
abbrev aG (c : Dev nD) : FVec Ideal S1024x384 .f32 := m ((c : Thread nD τ).loc main_arg1)
abbrev aM (c : Dev nD) : FVec Ideal S1024x384 .f32 := m ((c : Thread nD τ).loc main_arg2)
abbrev aV (c : Dev nD) : FVec Ideal S1024x384 .f32 := m ((c : Thread nD τ).loc main_arg3)

theorem idx4 : ∀ t : Fin cfg0.N, win0_4.index t 0 * win0_4.size 0 = 512 * t.val ∧ win0_4.index t 1 * win0_4.size 1 = 0 :=
  (by decide +kernel : ∀ t : Fin grid0.N, win0_4.index t 0 * win0_4.size 0 = 512 * t.val ∧ win0_4.index t 1 * win0_4.size 1 = 0)
/-- Every index of the result lies in the block of the point of its row block. -/
theorem cover4 (i : S1024x384.Idx) : ∃ t : Fin cfg0.N, (cfg0.win 4).flush t = true ∧ i ∈ ((cfg0.win 4).blk t).view.set := by
  have h0 : (i 0 : Nat) < 1024 := (i 0).isLt
  have hN : cfg0.N = 2 := N_0
  have ht : (i 0 : Nat) / 512 < cfg0.N := by omega
  refine ⟨⟨_, ht⟩, flush0_4 _, ?_⟩
  have e : (win0_4.blk ⟨_, ht⟩).view.emb (ix2 ⟨(i 0 : Nat) % 512, by omega⟩ (i 1)) = i := by
    refine funext fun a => Fin.ext ?_
    match a with
    | ⟨0, _⟩ => show win0_4.index ⟨_, ht⟩ 0 * win0_4.size 0 + 1 * ((i 0 : Nat) % 512) = (i 0 : Nat); rw [(idx4 _).1]; dsimp only; omega
    | ⟨1, _⟩ => show win0_4.index ⟨_, ht⟩ 1 * win0_4.size 1 + 1 * (i 1 : Nat) = (i 1 : Nat); rw [(idx4 _).2]; omega
  exact (congrArg (fun j => j ∈ ((cfg0.win 4).blk ⟨_, ht⟩).view.set) e).mp (Finset.mem_map_of_mem _ (Finset.mem_univ _))
theorem final4 (c : Dev nD) : (dats m 0 c).arrAt 4 cfg0.N = aG m c :=
  (dats m 0 c).arrAt_eq_of_cover 4 _ (fun t _ => by rw [Value.flushed4, out4]; rfl) cover4

theorem idx5 : ∀ t : Fin cfg0.N, win0_5.index t 0 * win0_5.size 0 = 512 * t.val ∧ win0_5.index t 1 * win0_5.size 1 = 0 :=
  (by decide +kernel : ∀ t : Fin grid0.N, win0_5.index t 0 * win0_5.size 0 = 512 * t.val ∧ win0_5.index t 1 * win0_5.size 1 = 0)
/-- Every index of the result lies in the block of the point of its row block. -/
theorem cover5 (i : S1024x384.Idx) : ∃ t : Fin cfg0.N, (cfg0.win 5).flush t = true ∧ i ∈ ((cfg0.win 5).blk t).view.set := by
  have h0 : (i 0 : Nat) < 1024 := (i 0).isLt
  have hN : cfg0.N = 2 := N_0
  have ht : (i 0 : Nat) / 512 < cfg0.N := by omega
  refine ⟨⟨_, ht⟩, flush0_5 _, ?_⟩
  have e : (win0_5.blk ⟨_, ht⟩).view.emb (ix2 ⟨(i 0 : Nat) % 512, by omega⟩ (i 1)) = i := by
    refine funext fun a => Fin.ext ?_
    match a with
    | ⟨0, _⟩ => show win0_5.index ⟨_, ht⟩ 0 * win0_5.size 0 + 1 * ((i 0 : Nat) % 512) = (i 0 : Nat); rw [(idx5 _).1]; dsimp only; omega
    | ⟨1, _⟩ => show win0_5.index ⟨_, ht⟩ 1 * win0_5.size 1 + 1 * (i 1 : Nat) = (i 1 : Nat); rw [(idx5 _).2]; omega
  exact (congrArg (fun j => j ∈ ((cfg0.win 5).blk ⟨_, ht⟩).view.set) e).mp (Finset.mem_map_of_mem _ (Finset.mem_univ _))
theorem final5 (c : Dev nD) : (dats m 0 c).arrAt 5 cfg0.N = Adam.step (aW m c) (aG m c) (aM m c) (aV m c) :=
  (dats m 0 c).arrAt_eq_of_cover 5 _ (fun t _ => by rw [Value.flushed5, out5]; rfl) cover5

theorem idx6 : ∀ t : Fin cfg0.N, win0_6.index t 0 * win0_6.size 0 = 512 * t.val ∧ win0_6.index t 1 * win0_6.size 1 = 0 :=
  (by decide +kernel : ∀ t : Fin grid0.N, win0_6.index t 0 * win0_6.size 0 = 512 * t.val ∧ win0_6.index t 1 * win0_6.size 1 = 0)
/-- Every index of the result lies in the block of the point of its row block. -/
theorem cover6 (i : S1024x384.Idx) : ∃ t : Fin cfg0.N, (cfg0.win 6).flush t = true ∧ i ∈ ((cfg0.win 6).blk t).view.set := by
  have h0 : (i 0 : Nat) < 1024 := (i 0).isLt
  have hN : cfg0.N = 2 := N_0
  have ht : (i 0 : Nat) / 512 < cfg0.N := by omega
  refine ⟨⟨_, ht⟩, flush0_6 _, ?_⟩
  have e : (win0_6.blk ⟨_, ht⟩).view.emb (ix2 ⟨(i 0 : Nat) % 512, by omega⟩ (i 1)) = i := by
    refine funext fun a => Fin.ext ?_
    match a with
    | ⟨0, _⟩ => show win0_6.index ⟨_, ht⟩ 0 * win0_6.size 0 + 1 * ((i 0 : Nat) % 512) = (i 0 : Nat); rw [(idx6 _).1]; dsimp only; omega
    | ⟨1, _⟩ => show win0_6.index ⟨_, ht⟩ 1 * win0_6.size 1 + 1 * (i 1 : Nat) = (i 1 : Nat); rw [(idx6 _).2]; omega
  exact (congrArg (fun j => j ∈ ((cfg0.win 6).blk ⟨_, ht⟩).view.set) e).mp (Finset.mem_map_of_mem _ (Finset.mem_univ _))
theorem final6 (c : Dev nD) : (dats m 0 c).arrAt 6 cfg0.N = Adam.mom (aG m c) (aM m c) :=
  (dats m 0 c).arrAt_eq_of_cover 6 _ (fun t _ => by rw [Value.flushed6, out6]; rfl) cover6

theorem idx7 : ∀ t : Fin cfg0.N, win0_7.index t 0 * win0_7.size 0 = 512 * t.val ∧ win0_7.index t 1 * win0_7.size 1 = 0 :=
  (by decide +kernel : ∀ t : Fin grid0.N, win0_7.index t 0 * win0_7.size 0 = 512 * t.val ∧ win0_7.index t 1 * win0_7.size 1 = 0)
/-- Every index of the result lies in the block of the point of its row block. -/
theorem cover7 (i : S1024x384.Idx) : ∃ t : Fin cfg0.N, (cfg0.win 7).flush t = true ∧ i ∈ ((cfg0.win 7).blk t).view.set := by
  have h0 : (i 0 : Nat) < 1024 := (i 0).isLt
  have hN : cfg0.N = 2 := N_0
  have ht : (i 0 : Nat) / 512 < cfg0.N := by omega
  refine ⟨⟨_, ht⟩, flush0_7 _, ?_⟩
  have e : (win0_7.blk ⟨_, ht⟩).view.emb (ix2 ⟨(i 0 : Nat) % 512, by omega⟩ (i 1)) = i := by
    refine funext fun a => Fin.ext ?_
    match a with
    | ⟨0, _⟩ => show win0_7.index ⟨_, ht⟩ 0 * win0_7.size 0 + 1 * ((i 0 : Nat) % 512) = (i 0 : Nat); rw [(idx7 _).1]; dsimp only; omega
    | ⟨1, _⟩ => show win0_7.index ⟨_, ht⟩ 1 * win0_7.size 1 + 1 * (i 1 : Nat) = (i 1 : Nat); rw [(idx7 _).2]; omega
  exact (congrArg (fun j => j ∈ ((cfg0.win 7).blk ⟨_, ht⟩).view.set) e).mp (Finset.mem_map_of_mem _ (Finset.mem_univ _))
theorem final7 (c : Dev nD) : (dats m 0 c).arrAt 7 cfg0.N = Adam.var (aG m c) (aV m c) :=
  (dats m 0 c).arrAt_eq_of_cover 7 _ (fun t _ => by rw [Value.flushed7, out7]; rfl) cover7

end

end Cert.Kernel16Ideal.AdamIn

namespace Cert.Proof.AdamIn

open Idealize.ShloMosaic Idealize.ShloMosaic.TcCoe Idealize.SL.Sem
open Cert.Hand
open Cert.Kernel16Ideal.AdamIn (aW aG aM aV)

theorem frame_reference : Cert.quiescent_Reference16Ideal := fun m ρ _ =>
  (θ_run Cert.Reference16Ideal.defs _ _).mono (fun r h => ⟨fun c => (h c).2.2.2.2,
      Idealize.ShloMosaic.sem_eq_zero_of_no_sems (by decide) r.2⟩)
    (Cert.Reference16Ideal.Value.run (F := Ideal) m ρ)

theorem algebraic : Cert.algebraic_Kernel16Ideal_Reference16Ideal := by
  intro m ρ m' ρ' _ hagree
  refine ⟨fun c => aG m c,
    fun c => Adam.step (aW m c) (aG m c) (aM m c) (aV m c),
    fun c => Adam.mom (aG m c) (aM m c),
    fun c => Adam.var (aG m c) (aV m c), ?_, ?_⟩
  · exact (θ_run Cert.Kernel16Ideal.defs _ _).mono
      (fun _ h c => ⟨(h c).1.trans (Cert.Kernel16Ideal.AdamIn.final4 m c), (h c).2.1.trans (Cert.Kernel16Ideal.AdamIn.final5 m c),
        (h c).2.2.1.trans (Cert.Kernel16Ideal.AdamIn.final6 m c), (h c).2.2.2.1.trans (Cert.Kernel16Ideal.AdamIn.final7 m c), (h c).2.2.2.2⟩)
      (Cert.Kernel16Ideal.Value.run_blocks (F := Ideal) m ρ)
  refine (θ_run Cert.Reference16Ideal.defs _ _).mono
    (fun _ h c => ⟨(h c).1.trans ?_, (h c).2.1.trans ?_, (h c).2.2.1.trans ?_, (h c).2.2.2.1.trans ?_, (h c).2.2.2.2⟩)
    (Cert.Reference16Ideal.Value.run (F := Ideal) m' ρ')
  · rw [(hagree c).2.1]
  · rw [(hagree c).1, (hagree c).2.1, (hagree c).2.2.1, (hagree c).2.2.2]
    rfl
  · rw [(hagree c).2.1, (hagree c).2.2.1]
    rfl
  · rw [(hagree c).2.1, (hagree c).2.2.2]
    rfl

end Cert.Proof.AdamIn
end
-- ==== Proof.AdamGlu.lean ====
/-
  The optimiser's step of a shard of the gate projection: one block is the whole array.
-/
module

public import proofs.«01_k».proof.Proof.Adam
public import proofs.«01_k».proof.Proof.Gen.Kernel17Ideal.Value
public import proofs.«01_k».proof.Proof.Gen.Reference17Ideal.Run
public import proofs.«01_k».proof.Defs
public import Idealize.ShloMosaic.Lib.VecWindow
public import Idealize.ShloMosaic.Lib.Quiescent

@[expose] public section

set_option maxRecDepth 16384

noncomputable section

namespace Cert.Kernel17Ideal.AdamGlu

open Cert.Kernel17Ideal Idealize.ShloMosaic Idealize.ShloMosaic.TcCoe Idealize.SL.Sem

variable (m : (ℓ : Loc nD τ sig) → Buf (Elt Ideal) ℓ)

/-- The device's arguments, by name. -/
abbrev aW (c : Dev nD) : FVec Ideal S128x512 .f32 := m ((c : Thread nD τ).loc main_arg0)
abbrev aG (c : Dev nD) : FVec Ideal S128x512 .f32 := m ((c : Thread nD τ).loc main_arg1)
abbrev aM (c : Dev nD) : FVec Ideal S128x512 .f32 := m ((c : Thread nD τ).loc main_arg2)
abbrev aV (c : Dev nD) : FVec Ideal S128x512 .f32 := m ((c : Thread nD τ).loc main_arg3)

end Cert.Kernel17Ideal.AdamGlu

namespace Cert.Proof.AdamGlu

open Idealize.ShloMosaic Idealize.ShloMosaic.TcCoe Idealize.SL.Sem
open Cert.Hand
open Cert.Kernel17Ideal.AdamGlu (aW aG aM aV)

theorem frame_reference : Cert.quiescent_Reference17Ideal := fun m ρ _ =>
  (θ_run Cert.Reference17Ideal.defs _ _).mono (fun r h => ⟨fun c => (h c).2.2.2.2,
      Idealize.ShloMosaic.sem_eq_zero_of_no_sems (by decide) r.2⟩)
    (Cert.Reference17Ideal.Value.run (F := Ideal) m ρ)

theorem algebraic : Cert.algebraic_Kernel17Ideal_Reference17Ideal := by
  intro m ρ m' ρ' _ hagree
  refine ⟨fun c => aG m c,
    fun c => Adam.step (aW m c) (aG m c) (aM m c) (aV m c),
    fun c => Adam.mom (aG m c) (aM m c),
    fun c => Adam.var (aG m c) (aV m c), ?_, ?_⟩
  · exact Cert.Kernel17Ideal.Value.run (F := Ideal) m ρ
  refine (θ_run Cert.Reference17Ideal.defs _ _).mono
    (fun _ h c => ⟨(h c).1.trans ?_, (h c).2.1.trans ?_, (h c).2.2.1.trans ?_, (h c).2.2.2.1.trans ?_, (h c).2.2.2.2⟩)
    (Cert.Reference17Ideal.Value.run (F := Ideal) m' ρ')
  · rw [(hagree c).2.1]
  · rw [(hagree c).1, (hagree c).2.1, (hagree c).2.2.1, (hagree c).2.2.2]
    rfl
  · rw [(hagree c).2.1, (hagree c).2.2.1]
    rfl
  · rw [(hagree c).2.1, (hagree c).2.2.2]
    rfl

end Cert.Proof.AdamGlu
end
-- ==== Proof.AdamOut.lean ====
/-
  The optimiser's step of a shard of the output projection: one block is the whole array.
-/
module

public import proofs.«01_k».proof.Proof.Adam
public import proofs.«01_k».proof.Proof.Gen.Kernel18Ideal.Value
public import proofs.«01_k».proof.Proof.Gen.Reference18Ideal.Run
public import proofs.«01_k».proof.Defs
public import Idealize.ShloMosaic.Lib.VecWindow
public import Idealize.ShloMosaic.Lib.Quiescent

@[expose] public section

set_option maxRecDepth 16384

noncomputable section

namespace Cert.Kernel18Ideal.AdamOut

open Cert.Kernel18Ideal Idealize.ShloMosaic Idealize.ShloMosaic.TcCoe Idealize.SL.Sem

variable (m : (ℓ : Loc nD τ sig) → Buf (Elt Ideal) ℓ)

/-- The device's arguments, by name. -/
abbrev aW (c : Dev nD) : FVec Ideal S256x1024 .f32 := m ((c : Thread nD τ).loc main_arg0)
abbrev aG (c : Dev nD) : FVec Ideal S256x1024 .f32 := m ((c : Thread nD τ).loc main_arg1)
abbrev aM (c : Dev nD) : FVec Ideal S256x1024 .f32 := m ((c : Thread nD τ).loc main_arg2)
abbrev aV (c : Dev nD) : FVec Ideal S256x1024 .f32 := m ((c : Thread nD τ).loc main_arg3)

end Cert.Kernel18Ideal.AdamOut

namespace Cert.Proof.AdamOut

open Idealize.ShloMosaic Idealize.ShloMosaic.TcCoe Idealize.SL.Sem
open Cert.Hand
open Cert.Kernel18Ideal.AdamOut (aW aG aM aV)

theorem frame_reference : Cert.quiescent_Reference18Ideal := fun m ρ _ =>
  (θ_run Cert.Reference18Ideal.defs _ _).mono (fun r h => ⟨fun c => (h c).2.2.2.2,
      Idealize.ShloMosaic.sem_eq_zero_of_no_sems (by decide) r.2⟩)
    (Cert.Reference18Ideal.Value.run (F := Ideal) m ρ)

theorem algebraic : Cert.algebraic_Kernel18Ideal_Reference18Ideal := by
  intro m ρ m' ρ' _ hagree
  refine ⟨fun c => aG m c,
    fun c => Adam.step (aW m c) (aG m c) (aM m c) (aV m c),
    fun c => Adam.mom (aG m c) (aM m c),
    fun c => Adam.var (aG m c) (aV m c), ?_, ?_⟩
  · exact Cert.Kernel18Ideal.Value.run (F := Ideal) m ρ
  refine (θ_run Cert.Reference18Ideal.defs _ _).mono
    (fun _ h c => ⟨(h c).1.trans ?_, (h c).2.1.trans ?_, (h c).2.2.1.trans ?_, (h c).2.2.2.1.trans ?_, (h c).2.2.2.2⟩)
    (Cert.Reference18Ideal.Value.run (F := Ideal) m' ρ')
  · rw [(hagree c).2.1]
  · rw [(hagree c).1, (hagree c).2.1, (hagree c).2.2.1, (hagree c).2.2.2]
    rfl
  · rw [(hagree c).2.1, (hagree c).2.2.1]
    rfl
  · rw [(hagree c).2.1, (hagree c).2.2.2]
    rfl

end Cert.Proof.AdamOut
end
-- ==== Proof.AdamConv.lean ====
/-
  The optimiser's step of a shard of the convolution's taps: one block is the whole array, and the gradient is the sum of
  the two halves that arrive.
-/
module

public import proofs.«01_k».proof.Proof.Adam
public import proofs.«01_k».proof.Proof.Gen.Kernel19Ideal.Value
public import proofs.«01_k».proof.Proof.Gen.Reference19Ideal.Run
public import proofs.«01_k».proof.Defs
public import Idealize.ShloMosaic.Lib.VecWindow
public import Idealize.ShloMosaic.Lib.Quiescent

@[expose] public section

set_option maxRecDepth 16384

noncomputable section

namespace Cert.Kernel19Ideal.AdamConv

open Cert.Kernel19Ideal Idealize.ShloMosaic Idealize.ShloMosaic.TcCoe Idealize.SL.Sem

variable (m : (ℓ : Loc nD τ sig) → Buf (Elt Ideal) ℓ)

/-- The device's arguments, by name. -/
abbrev aW (c : Dev nD) : FVec Ideal S31x128 .f32 := m ((c : Thread nD τ).loc main_arg0)
abbrev aG (c : Dev nD) : FVec Ideal S31x128 .f32 := m ((c : Thread nD τ).loc main_arg1)
abbrev aH (c : Dev nD) : FVec Ideal S31x128 .f32 := m ((c : Thread nD τ).loc main_arg2)
abbrev aM (c : Dev nD) : FVec Ideal S31x128 .f32 := m ((c : Thread nD τ).loc main_arg3)
abbrev aV (c : Dev nD) : FVec Ideal S31x128 .f32 := m ((c : Thread nD τ).loc main_arg4)

end Cert.Kernel19Ideal.AdamConv

namespace Cert.Proof.AdamConv

open Idealize.ShloMosaic Idealize.ShloMosaic.TcCoe Idealize.SL.Sem
open Cert.Hand
open Cert.Kernel19Ideal.AdamConv (aW aG aH aM aV)

theorem frame_reference : Cert.quiescent_Reference19Ideal := fun m ρ _ =>
  (θ_run Cert.Reference19Ideal.defs _ _).mono (fun r h => ⟨fun c => (h c).2.2.2.2,
      Idealize.ShloMosaic.sem_eq_zero_of_no_sems (by decide) r.2⟩)
    (Cert.Reference19Ideal.Value.run (F := Ideal) m ρ)

theorem algebraic : Cert.algebraic_Kernel19Ideal_Reference19Ideal := by
  intro m ρ m' ρ' _ hagree
  refine ⟨fun c => addf (aG m c) (aH m c),
    fun c => Adam.step (aW m c) (addf (aG m c) (aH m c)) (aM m c) (aV m c),
    fun c => Adam.mom (addf (aG m c) (aH m c)) (aM m c),
    fun c => Adam.var (addf (aG m c) (aH m c)) (aV m c), ?_, ?_⟩
  · exact Cert.Kernel19Ideal.Value.run (F := Ideal) m ρ
  refine (θ_run Cert.Reference19Ideal.defs _ _).mono
    (fun _ h c => ⟨(h c).1.trans ?_, (h c).2.1.trans ?_, (h c).2.2.1.trans ?_, (h c).2.2.2.1.trans ?_, (h c).2.2.2.2⟩)
    (Cert.Reference19Ideal.Value.run (F := Ideal) m' ρ')
  · rw [(hagree c).2.1, (hagree c).2.2.1]
  · rw [(hagree c).1, (hagree c).2.1, (hagree c).2.2.1, (hagree c).2.2.2.1, (hagree c).2.2.2.2]
    rfl
  · rw [(hagree c).2.1, (hagree c).2.2.1, (hagree c).2.2.2.1]
    rfl
  · rw [(hagree c).2.1, (hagree c).2.2.1, (hagree c).2.2.2.2]
    rfl

end Cert.Proof.AdamConv
end
-- ==== Proof.AdamSmall.lean ====
/-
  The optimiser's step of the small weights, packed in rows of 128 lanes.

  The eight devices' shares of the gradients (and of the loss, which has a row of its own) lie one under the other; the
  kernel adds the eight row blocks one by one, the reference sums over the leading axis of the stack.
-/
module

public import proofs.«01_k».proof.Proof.Adam
public import proofs.«01_k».proof.Proof.Gen.Kernel20Ideal.Value
public import proofs.«01_k».proof.Proof.Gen.Reference20Ideal.Run
public import proofs.«01_k».proof.Defs
public import Idealize.ShloMosaic.Lib.VecWindow
public import Idealize.ShloMosaic.Lib.Quiescent

@[expose] public section

set_option maxRecDepth 16384

noncomputable section

namespace Cert.Kernel20Ideal.AdamSmall

open Cert.Kernel20Ideal Idealize.ShloMosaic Idealize.ShloMosaic.TcCoe Idealize.SL.Sem

variable (m : (ℓ : Loc nD τ sig) → Buf (Elt Ideal) ℓ)

/-- The device's arguments, by name. -/
abbrev aW (c : Dev nD) : FVec Ideal S1144x128 .f32 := m ((c : Thread nD τ).loc main_arg0)
abbrev aG (c : Dev nD) : FVec Ideal S9152x128 .f32 := m ((c : Thread nD τ).loc main_arg1)
abbrev aM (c : Dev nD) : FVec Ideal S1144x128 .f32 := m ((c : Thread nD τ).loc main_arg2)
abbrev aV (c : Dev nD) : FVec Ideal S1144x128 .f32 := m ((c : Thread nD τ).loc main_arg3)

/-- The sum of the eight row blocks. -/
def total (s : FVec Ideal S9152x128 .f32) : FVec Ideal S1144x128 .f32 := fun i =>
  ∑ k : Fin 8, s (ix2 ⟨1144 * k.val + (i 0).val, by have := (i 0).isLt; have h : (i 0 : Nat) < 1144 := this; omega⟩ (i 1))

open Cert.Kernel20Ideal.Gen

/-- A load of one row block, at an index. -/
theorem ld_rows (s : FVec Ideal S9152x128 .f32) (o : Fin 2 → Nat) (inb) (k : Fin 8) (i : S1144x128.Idx) (h0 : o 0 = 1144 * k.val) (h1 : o 1 = 0) :
    View.ld (Val := Elt Ideal) (e' := .f32) s (Rect.unit (s := S9152x128) o S1144x128.size inb) i
      = s (ix2 ⟨1144 * k.val + (i 0).val, by have := (i 0).isLt; have h : (i 0 : Nat) < 1144 := this; omega⟩ (i 1)) := by
  refine congrArg s (funext fun a => Fin.ext ?_)
  match a with
  | ⟨0, _⟩ => show o 0 + 1 * (i 0).val = 1144 * k.val + (i 0).val; omega
  | ⟨1, _⟩ => show o 1 + 1 * (i 1).val = (i 1).val; omega

theorem sum_eq (w m v : FVec Ideal S1144x128 .f32) (s : FVec Ideal S9152x128 .f32) : Value.G4 (F := Ideal) w s m v = total s := by
  funext i
  unfold total
  rw [Fin.sum_univ_eight]
  refine Eq.trans (b := (((((((View.ld (Val := Elt Ideal) (e' := .f32) s r0_0 i + View.ld (Val := Elt Ideal) (e' := .f32) s r0_1 i : EReal) + View.ld (Val := Elt Ideal) (e' := .f32) s r0_2 i : EReal) + View.ld (Val := Elt Ideal) (e' := .f32) s r0_3 i : EReal) + View.ld (Val := Elt Ideal) (e' := .f32) s r0_4 i : EReal) + View.ld (Val := Elt Ideal) (e' := .f32) s r0_5 i : EReal) + View.ld (Val := Elt Ideal) (e' := .f32) s r0_6 i : EReal) + View.ld (Val := Elt Ideal) (e' := .f32) s r0_7 i : EReal)) ?_ ?_
  · rfl
  exact (congrArg₂ (· + ·) (congrArg₂ (· + ·) (congrArg₂ (· + ·) (congrArg₂ (· + ·) (congrArg₂ (· + ·) (congrArg₂ (· + ·) (congrArg₂ (· + ·) (ld_rows s _ _ 0 i rfl rfl) (ld_rows s _ _ 1 i rfl rfl)) (ld_rows s _ _ 2 i rfl rfl)) (ld_rows s _ _ 3 i rfl rfl)) (ld_rows s _ _ 4 i rfl rfl)) (ld_rows s _ _ 5 i rfl rfl)) (ld_rows s _ _ 6 i rfl rfl)) (ld_rows s _ _ 7 i rfl rfl))

section
variable (w m v : FVec Ideal S1144x128 .f32) (s : FVec Ideal S9152x128 .f32)

theorem hz2 : (![0, 0] : Fin 2 → Nat) = fun _ => 0 := funext fun a => by fin_cases a <;> rfl

theorem pay5_eq : k0_pay5 w s m v = Cert.Hand.Adam.mom (total s) m := by
  rw [← sum_eq w m v s]
  unfold k0_pay5
  rw [show View.ld (Val := Elt Ideal) (e' := .f32) m r0_8 = m from View.ld_unit_zero (S := S1144x128) hz2 _ _]
  rfl
theorem pay6_eq : k0_pay6 w s m v = Cert.Hand.Adam.var (total s) v := by
  rw [← sum_eq w m v s]
  unfold k0_pay6
  rw [show View.ld (Val := Elt Ideal) (e' := .f32) v r0_8 = v from View.ld_unit_zero (S := S1144x128) hz2 _ _]
  rfl
theorem pay1_eq : k0_pay1 w (k0_pay5 w s m v) (k0_pay6 w s m v) (Scalar.ofBits .f32 0x3F26BD02#32) = Cert.Hand.Adam.step w (total s) m v := by
  rw [pay5_eq, pay6_eq]
  funext i
  rfl

end

end Cert.Kernel20Ideal.AdamSmall

namespace Cert.Reference20Ideal.AdamSmall

open Cert.Reference20Ideal Cert.Reference20Ideal.Gen Idealize.ShloMosaic

/-- The reference's sum over the devices. -/
theorem sum_eq (s : FVec Ideal S9152x128 .f32) :
    Host.reduceAdd (shapeCast S8x1144x128 s shapeCasts_S9152x128_S8x1144x128) (constant S_ .f32 0x00000000#32) reducesTo_S8x1144x128_S1144x128_d0 h_S_
      = Cert.Kernel20Ideal.AdamSmall.total s := by
  funext i
  obtain ⟨r, l, rfl⟩ : ∃ (r : Fin 1144) (l : Fin 128), i = ix2 r l :=
    ⟨i 0, i 1, by funext x; match x with | ⟨0, _⟩ => rfl | ⟨1, _⟩ => rfl⟩
  pointwise []
  rfl

end Cert.Reference20Ideal.AdamSmall

namespace Cert.Proof.AdamSmall

open Idealize.ShloMosaic Idealize.ShloMosaic.TcCoe Idealize.SL.Sem
open Cert.Hand
open Cert.Kernel20Ideal.AdamSmall (aW aG aM aV total)

theorem frame_reference : Cert.quiescent_Reference20Ideal := fun m ρ _ =>
  (θ_run Cert.Reference20Ideal.defs _ _).mono (fun r h => ⟨fun c => (h c).2.2.2.2,
      Idealize.ShloMosaic.sem_eq_zero_of_no_sems (by decide) r.2⟩)
    (Cert.Reference20Ideal.Value.run (F := Ideal) m ρ)

theorem algebraic : Cert.algebraic_Kernel20Ideal_Reference20Ideal := by
  intro m ρ m' ρ' _ hagree
  refine ⟨fun c => total (aG m c),
    fun c => Adam.step (aW m c) (total (aG m c)) (aM m c) (aV m c),
    fun c => Adam.mom (total (aG m c)) (aM m c),
    fun c => Adam.var (total (aG m c)) (aV m c), ?_, ?_⟩
  · exact (θ_run Cert.Kernel20Ideal.defs _ _).mono
      (fun _ h c => ⟨(h c).1.trans (Cert.Kernel20Ideal.AdamSmall.sum_eq _ _ _ _), (h c).2.1.trans (Cert.Kernel20Ideal.AdamSmall.pay1_eq _ _ _ _),
        (h c).2.2.1.trans (Cert.Kernel20Ideal.AdamSmall.pay5_eq _ _ _ _), (h c).2.2.2.1.trans (Cert.Kernel20Ideal.AdamSmall.pay6_eq _ _ _ _), (h c).2.2.2.2⟩)
      (Cert.Kernel20Ideal.Value.run (F := Ideal) m ρ)
  refine (θ_run Cert.Reference20Ideal.defs _ _).mono
    (fun _ h c => ⟨(h c).1.trans ?_, (h c).2.1.trans ?_, (h c).2.2.1.trans ?_, (h c).2.2.2.1.trans ?_, (h c).2.2.2.2⟩)
    (Cert.Reference20Ideal.Value.run (F := Ideal) m' ρ')
  · rw [(hagree c).2.1]
    exact Cert.Reference20Ideal.AdamSmall.sum_eq _
  · rw [(hagree c).1, (hagree c).2.1, (hagree c).2.2.1, (hagree c).2.2.2, Cert.Reference20Ideal.AdamSmall.sum_eq]
    rfl
  · rw [(hagree c).2.1, (hagree c).2.2.1, Cert.Reference20Ideal.AdamSmall.sum_eq]
    rfl
  · rw [(hagree c).2.1, (hagree c).2.2.2, Cert.Reference20Ideal.AdamSmall.sum_eq]
    rfl

end Cert.Proof.AdamSmall
end
-- ==== Proof.RmsFwd.lean ====
/-
  The first block's normed input: the pipelined kernel, the reference, and the comparison.

  Grid point `t` scales rows `1024 t` to `1024 t + 1023`; the four blocks tile the array.
-/
module

public import proofs.«01_k».proof.Proof.Gen.Kernel21Ideal.Value
public import Idealize.ShloMosaic.Lib.Pointwise
public import Idealize.ShloMosaic.Lib.VecWindow
public import proofs.«01_k».proof.Proof.Gen.Reference21Ideal.Run
public import proofs.«01_k».proof.Defs
public import Idealize.ShloMosaic.Lib.Quiescent

@[expose] public section

set_option maxRecDepth 16384

noncomputable section

namespace Cert.Kernel21Ideal.RmsFwd

open Cert.Kernel21Ideal Cert.Kernel21Ideal.Gen Idealize.ShloMosaic Idealize.ShloMosaic.TcCoe Idealize.SL.Sem

/-- A row `y` scaled to unit mean square, at column `d`, times the gain. -/
def normAt (y : Fin 1024 → EReal) (gain : FVec Ideal S1x1024 .f32) (d : Fin 1024) : EReal :=
  y d * Ideal.rsqrt (Ideal.div (∑ k : Fin 1024, y k * y k) (Ideal.ofBits .f32 0x44800000#32) + Ideal.ofBits .f32 0x358637BD#32) * gain (ix2 0 d)

def norm (x : FVec Ideal S4096x1024 .f32) (gain : FVec Ideal S1x1024 .f32) : FVec Ideal S4096x1024 .bf16 :=
  fun i => normAt (fun k => x (ix2 (i 0) k)) gain (i 1)

theorem pay1_apply (y : Vec Ideal S1024x1024 .f32) (gain : Vec Ideal S1x1024 .f32) (r : Fin 1024) (d : Fin 1024) :
    k0_pay1 y gain (ix2 r d) = normAt (fun k => y (ix2 r k)) gain d := by
  unfold k0_pay1
  pointwise []
  rfl

section
variable {F : FTy → Type} [FloatOps F]
variable (m : (ℓ : Loc nD τ sig) → Buf (Elt F) ℓ)

theorem idx0 : ∀ t : Fin cfg0.N, win0_0.index t 0 * win0_0.size 0 = 1024 * t.val ∧ win0_0.index t 1 * win0_0.size 1 = 0 :=
  (by decide +kernel : ∀ t : Fin grid0.N, win0_0.index t 0 * win0_0.size 0 = 1024 * t.val ∧ win0_0.index t 1 * win0_0.size 1 = 0)
theorem idx1 : ∀ t : Fin cfg0.N, win0_1.index t 0 * win0_1.size 0 = 0 ∧ win0_1.index t 1 * win0_1.size 1 = 0 :=
  (by decide +kernel : ∀ t : Fin grid0.N, win0_1.index t 0 * win0_1.size 0 = 0 ∧ win0_1.index t 1 * win0_1.size 1 = 0)
theorem iblk0 (c : Dev nD) (t : Fin cfg0.N) (r : Fin 1024) (d : Fin 1024) (l : Fin 4096) (hl : l.val = 1024 * t.val + r.val) :
    iblk m c 0 t (ix2 r d) = m ((c : Thread nD τ).loc main_arg0) (ix2 l d) := by
  unfold iblk
  rw [View.read_apply]
  refine congrArg (m ((c : Thread nD τ).loc main_arg0)) (funext fun a => Fin.ext ?_)
  match a with
  | ⟨0, _⟩ => show win0_0.index t 0 * win0_0.size 0 + 1 * r.val = l.val; rw [(idx0 t).1, hl]; omega
  | ⟨1, _⟩ => show win0_0.index t 1 * win0_0.size 1 + 1 * d.val = d.val; rw [(idx0 t).2]; omega
theorem iblk1 (c : Dev nD) (t : Fin cfg0.N) (d : Fin 1024) :
    iblk m c 1 t (ix2 0 d) = m ((c : Thread nD τ).loc main_arg1) (ix2 0 d) := by
  unfold iblk
  rw [View.read_apply]
  refine congrArg (m ((c : Thread nD τ).loc main_arg1)) (funext fun a => Fin.ext ?_)
  match a with
  | ⟨0, _⟩ => show win0_1.index t 0 * win0_1.size 0 + 1 * 0 = 0; rw [(idx1 t).1]
  | ⟨1, _⟩ => show win0_1.index t 1 * win0_1.size 1 + 1 * d.val = d.val; rw [(idx1 t).2]; omega
theorem idx2 : ∀ t : Fin cfg0.N, win0_2.index t 0 * win0_2.size 0 = 1024 * t.val ∧ win0_2.index t 1 * win0_2.size 1 = 0 :=
  (by decide +kernel : ∀ t : Fin grid0.N, win0_2.index t 0 * win0_2.size 0 = 1024 * t.val ∧ win0_2.index t 1 * win0_2.size 1 = 0)
theorem emb2 (t : Fin cfg0.N) (r : Fin 1024) (d : Fin 1024) (l : Fin 4096) (hl : l.val = 1024 * t.val + r.val) :
    (win0_2.blk t).view.emb (ix2 r d) = (ix2 l d : S4096x1024.Idx) := by
  refine funext fun a => Fin.ext ?_
  match a with
  | ⟨0, _⟩ => show win0_2.index t 0 * win0_2.size 0 + 1 * r.val = l.val; rw [(idx2 t).1, hl]; omega
  | ⟨1, _⟩ => show win0_2.index t 1 * win0_2.size 1 + 1 * d.val = d.val; rw [(idx2 t).2]; omega
theorem hz2 : (![0, 0] : Fin 2 → Nat) = fun _ => 0 := funext fun a => by fin_cases a <;> rfl

theorem out2 (x0 : Vec F S1024x1024 .f32) (x1 : Vec F S1x1024 .f32) : out0_2 x0 x1 = k0_pay1 x0 x1 := by
  unfold out0_2
  exact (View.canon_cons_unit_zero (S := S1024x1024) hz2 _ _ _).trans
    (congr (congrArg k0_pay1 (View.ld_unit_zero (S := S1024x1024) hz2 _ _)) (View.ld_unit_zero (S := S1x1024) hz2 _ _))

end

section
variable (m : (ℓ : Loc nD τ sig) → Buf (Elt Ideal) ℓ)

theorem lt_N (t : Fin cfg0.N) : t.val < 4 := lt_of_lt_of_eq t.isLt N_0

/-- The device's arguments, by name. -/
abbrev aX (c : Dev nD) : FVec Ideal S4096x1024 .f32 := m ((c : Thread nD τ).loc main_arg0)
abbrev aGain (c : Dev nD) : FVec Ideal S1x1024 .f32 := m ((c : Thread nD τ).loc main_arg1)

theorem flushed2 (c : Dev nD) (t : Fin cfg0.N) :
    (dats m 0 c).flushed 2 t = (win0_2.blk t).view.read (Elt Ideal) (norm (aX m c) (aGain m c)) := by
  rw [Value.flushed2, out2]
  funext y
  obtain ⟨r, d, rfl⟩ : ∃ (r : Fin 1024) (d : Fin 1024), y = ix2 r d :=
    ⟨y 0, y 1, by funext a; match a with | ⟨0, _⟩ => rfl | ⟨1, _⟩ => rfl⟩
  have ht := lt_N t
  have hl : (⟨1024 * t.val + r.val, by omega⟩ : Fin 4096).val = 1024 * t.val + r.val := rfl
  rw [View.read_apply]
  refine Eq.trans ?_ (congrArg (norm (aX m c) (aGain m c)) (emb2 t r d _ hl).symm)
  refine (pay1_apply _ _ r d).trans ?_
  have hy : (fun k => iblk m c 0 t (ix2 r k)) = fun k => aX m c (ix2 ⟨1024 * t.val + r.val, by omega⟩ k) :=
    funext fun k => iblk0 m c t r k _ hl
  refine (congrArg (fun y => normAt y _ d) hy).trans ?_
  exact congrArg (_ * ·) (iblk1 m c t d)

/-- Every index of the result lies in the block of the point of its row block. -/
theorem cover2 (i : S4096x1024.Idx) : ∃ t : Fin cfg0.N, (cfg0.win 2).flush t = true ∧ i ∈ ((cfg0.win 2).blk t).view.set := by
  have h0 : (i 0 : Nat) < 4096 := (i 0).isLt
  have hN : cfg0.N = 4 := N_0
  have ht : (i 0 : Nat) / 1024 < cfg0.N := by omega
  refine ⟨⟨_, ht⟩, flush0_2 _, ?_⟩
  have e : (win0_2.blk ⟨_, ht⟩).view.emb (ix2 ⟨(i 0 : Nat) % 1024, by omega⟩ (i 1)) = i :=
    (emb2 ⟨_, ht⟩ ⟨(i 0 : Nat) % 1024, by omega⟩ (i 1) (i 0) (by dsimp only; omega)).trans
      (by funext a; match a with | ⟨0, _⟩ => rfl | ⟨1, _⟩ => rfl)
  exact (congrArg (fun j => j ∈ ((cfg0.win 2).blk ⟨_, ht⟩).view.set) e).mp (Finset.mem_map_of_mem _ (Finset.mem_univ _))

theorem final2 (c : Dev nD) : (dats m 0 c).arrAt 2 cfg0.N = norm (aX m c) (aGain m c) :=
  (dats m 0 c).arrAt_eq_of_cover 2 _ (fun t _ => flushed2 m c t) cover2

end

end Cert.Kernel21Ideal.RmsFwd

namespace Cert.Reference21Ideal.RmsFwd

open Cert.Reference21Ideal Cert.Reference21Ideal.Gen Idealize.ShloMosaic Idealize.ShloMosaic.TcCoe Idealize.SL.Sem

variable (x : FVec Ideal S4096x1024 .f32) (gain : FVec Ideal S1x1024 .f32)

/-- The reference's normed stream. -/
def norm : FVec Ideal S4096x1024 .bf16 :=
  truncf .bf16 (mulf (mulf x (broadcastInDim S4096x1024 ![0, 1] bcast_S4096x1_S4096x1024_0_1 (Host.rsqrt (addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 gain)) bitsLt_bf16_f32

theorem norm_eq : Cert.Kernel21Ideal.RmsFwd.norm x gain = norm x gain := by
  funext i
  obtain ⟨l, d, rfl⟩ : ∃ (l : Fin 4096) (d : Fin 1024), i = ix2 l d :=
    ⟨i 0, i 1, by funext x; match x with | ⟨0, _⟩ => rfl | ⟨1, _⟩ => rfl⟩
  symm
  pointwise [norm]
  rfl

end Cert.Reference21Ideal.RmsFwd

namespace Cert.Proof.RmsFwd

open Idealize.ShloMosaic Idealize.ShloMosaic.TcCoe Idealize.SL.Sem
open Cert.Kernel21Ideal.RmsFwd (aX aGain)

theorem frame_reference : Cert.quiescent_Reference21Ideal := fun m ρ _ =>
  (θ_run Cert.Reference21Ideal.defs _ _).mono (fun r h => ⟨fun c => (h c).2,
      Idealize.ShloMosaic.sem_eq_zero_of_no_sems (by decide) r.2⟩)
    (Cert.Reference21Ideal.Value.run (F := Ideal) m ρ)

theorem algebraic : Cert.algebraic_Kernel21Ideal_Reference21Ideal := by
  intro m ρ m' ρ' _ hagree
  refine ⟨fun c => Cert.Kernel21Ideal.RmsFwd.norm (aX m c) (aGain m c), ?_, ?_⟩
  · exact (θ_run Cert.Kernel21Ideal.defs _ _).mono
      (fun _ h c => ⟨(h c).1.trans (Cert.Kernel21Ideal.RmsFwd.final2 m c), (h c).2⟩)
      (Cert.Kernel21Ideal.Value.run_blocks (F := Ideal) m ρ)
  refine (θ_run Cert.Reference21Ideal.defs _ _).mono (fun _ h c => ⟨(h c).1.trans ?_, (h c).2⟩)
    (Cert.Reference21Ideal.Value.run (F := Ideal) m' ρ')
  rw [(hagree c).1, (hagree c).2]
  exact (Cert.Reference21Ideal.RmsFwd.norm_eq _ _).symm

end Cert.Proof.RmsFwd
end
-- ==== Proof.S5Disc.lean ====
/-
  The discretisation of the S5 states: one block is the whole array, and every operation is elementwise or repeats a row
  of the states' parameters over the input channels.
-/
module

public import proofs.«01_k».proof.Proof.Gen.Kernel22Ideal.Value
public import proofs.«01_k».proof.Proof.Gen.Reference22Ideal.Run
public import proofs.«01_k».proof.Defs
public import Idealize.ShloMosaic.Lib.Pointwise
public import Idealize.ShloMosaic.Lib.Quiescent

@[expose] public section

set_option maxRecDepth 16384

noncomputable section

namespace Cert.Reference22Ideal.S5Disc

open Cert.Reference22Ideal Cert.Reference22Ideal.Gen Idealize.ShloMosaic Idealize.ShloMosaic.TcCoe Idealize.SL.Sem

/-- The parameters of the state in column `n`: real and imaginary part of the eigenvalue, and the logarithm of the step. -/
structure Row where
  lr : EReal
  li : EReal
  ldt : EReal

/-- The discretised eigenvalue of a state. -/
def Row.re (p : Row) : EReal := Ideal.exp (p.lr * Ideal.exp p.ldt) * Ideal.cos (p.li * Ideal.exp p.ldt)
def Row.im (p : Row) : EReal := Ideal.exp (p.lr * Ideal.exp p.ldt) * Ideal.sin (p.li * Ideal.exp p.ldt)
/-- The factor of its input weights, `(a - 1) / λ`. -/
def Row.fre (p : Row) : EReal :=
  Ideal.div ((p.re - 1) * p.lr + p.im * p.li) (p.lr * p.lr + p.li * p.li)
def Row.fim (p : Row) : EReal :=
  Ideal.div (p.im * p.lr - (p.re - 1) * p.li) (p.lr * p.lr + p.li * p.li)

variable (lr li ldt : FVec Ideal S1x2048 .f32) (br bi : FVec Ideal S128x2048 .f32)

def row (n : Fin 2048) : Row := ⟨lr (ix2 0 n), li (ix2 0 n), ldt (ix2 0 n)⟩

def bre : FVec Ideal S128x2048 .bf16 := fun i => (row lr li ldt (i 1)).fre * br i - (row lr li ldt (i 1)).fim * bi i
def bim : FVec Ideal S128x2048 .bf16 := fun i => (row lr li ldt (i 1)).fre * bi i + (row lr li ldt (i 1)).fim * br i
def are : FVec Ideal S1x2048 .f32 := fun i => (row lr li ldt (i 1)).re
def aim : FVec Ideal S1x2048 .f32 := fun i => (row lr li ldt (i 1)).im

theorem ix_row (i : S1x2048.Idx) : ∃ n : Fin 2048, i = ix2 0 n :=
  ⟨i 1, by funext a; match a with | ⟨0, _⟩ => exact Fin.ext (by have h : (i 0 : Nat) < 1 := (i 0).isLt; show (i 0 : Nat) = 0; omega) | ⟨1, _⟩ => rfl⟩
theorem ix_all (i : S128x2048.Idx) : ∃ (r : Fin 128) (n : Fin 2048), i = ix2 r n :=
  ⟨i 0, i 1, by funext a; match a with | ⟨0, _⟩ => rfl | ⟨1, _⟩ => rfl⟩

theorem kernel_are (cr ci : FVec Ideal S2048x128 .f32) : Cert.Kernel22Ideal.Value.G7 (F := Ideal) lr li ldt br bi cr ci = are lr li ldt := by
  funext i
  obtain ⟨n, rfl⟩ := ix_row i
  rfl
theorem kernel_aim (cr ci : FVec Ideal S2048x128 .f32) : Cert.Kernel22Ideal.Value.G8 (F := Ideal) lr li ldt br bi cr ci = aim lr li ldt := by
  funext i
  obtain ⟨n, rfl⟩ := ix_row i
  rfl
theorem kernel_bre (cr ci : FVec Ideal S2048x128 .f32) : Cert.Kernel22Ideal.Value.G9 (F := Ideal) lr li ldt br bi cr ci = bre lr li ldt br bi := by
  funext i
  obtain ⟨r, n, rfl⟩ := ix_all i
  pointwise [Cert.Kernel22Ideal.Gen.k0_pay1, Cert.Kernel22Ideal.Gen.k0_pay2, Cert.Kernel22Ideal.Gen.k0_pay3, Cert.Kernel22Ideal.Gen.k0_pay4, Cert.Kernel22Ideal.Gen.k0_pay5, Cert.Kernel22Ideal.Gen.k0_pay6, Cert.Kernel22Ideal.Gen.k0_pay7, Cert.Kernel22Ideal.Gen.k0_pay8, Cert.Kernel22Ideal.Gen.k0_pay9, Cert.Kernel22Ideal.Gen.k0_pay10, Cert.Kernel22Ideal.Gen.k0_pay11, Cert.Kernel22Ideal.Gen.k0_pay12, Cert.Kernel22Ideal.Gen.k0_pay13]
  rfl
theorem kernel_bim (cr ci : FVec Ideal S2048x128 .f32) : Cert.Kernel22Ideal.Value.G10 (F := Ideal) lr li ldt br bi cr ci = bim lr li ldt br bi := by
  funext i
  obtain ⟨r, n, rfl⟩ := ix_all i
  pointwise [Cert.Kernel22Ideal.Gen.k0_pay1, Cert.Kernel22Ideal.Gen.k0_pay2, Cert.Kernel22Ideal.Gen.k0_pay3, Cert.Kernel22Ideal.Gen.k0_pay4, Cert.Kernel22Ideal.Gen.k0_pay5, Cert.Kernel22Ideal.Gen.k0_pay6, Cert.Kernel22Ideal.Gen.k0_pay7, Cert.Kernel22Ideal.Gen.k0_pay8, Cert.Kernel22Ideal.Gen.k0_pay9, Cert.Kernel22Ideal.Gen.k0_pay10, Cert.Kernel22Ideal.Gen.k0_pay11, Cert.Kernel22Ideal.Gen.k0_pay12, Cert.Kernel22Ideal.Gen.k0_pay13]
  rfl

end Cert.Reference22Ideal.S5Disc

namespace Cert.Proof.S5Disc

open Idealize.ShloMosaic Idealize.ShloMosaic.TcCoe Idealize.SL.Sem
open Cert.Reference22Ideal.S5Disc

theorem frame_reference : Cert.quiescent_Reference22Ideal := fun m ρ _ =>
  (θ_run Cert.Reference22Ideal.defs _ _).mono (fun r h => ⟨fun c => (h c).2.2.2.2.2.2,
      Idealize.ShloMosaic.sem_eq_zero_of_no_sems (by decide) r.2⟩)
    (Cert.Reference22Ideal.Value.run (F := Ideal) m ρ)

section
open Cert.Kernel22Ideal
variable (m : (ℓ : Loc nD τ sig) → Buf (Elt Ideal) ℓ) (c : Dev nD)

/-- The device's arguments, by name. -/
abbrev aLr : FVec Ideal S1x2048 .f32 := m ((c : Thread nD τ).loc main_arg0)
abbrev aLi : FVec Ideal S1x2048 .f32 := m ((c : Thread nD τ).loc main_arg1)
abbrev aLdt : FVec Ideal S1x2048 .f32 := m ((c : Thread nD τ).loc main_arg2)
abbrev aBr : FVec Ideal S128x2048 .f32 := m ((c : Thread nD τ).loc main_arg3)
abbrev aBi : FVec Ideal S128x2048 .f32 := m ((c : Thread nD τ).loc main_arg4)
abbrev aCr : FVec Ideal S2048x128 .f32 := m ((c : Thread nD τ).loc main_arg5)
abbrev aCi : FVec Ideal S2048x128 .f32 := m ((c : Thread nD τ).loc main_arg6)
end

theorem algebraic : Cert.algebraic_Kernel22Ideal_Reference22Ideal := by
  intro m ρ m' ρ' _ hagree
  refine ⟨fun c => are (aLr m c) (aLi m c) (aLdt m c), fun c => aim (aLr m c) (aLi m c) (aLdt m c),
    fun c => bre (aLr m c) (aLi m c) (aLdt m c) (aBr m c) (aBi m c), fun c => bim (aLr m c) (aLi m c) (aLdt m c) (aBr m c) (aBi m c),
    fun c => aCr m c, fun c => aCi m c, ?_, ?_⟩
  · exact (θ_run Cert.Kernel22Ideal.defs _ _).mono
      (fun _ h c => ⟨(h c).1.trans (kernel_are _ _ _ _ _ _ _), (h c).2.1.trans (kernel_aim _ _ _ _ _ _ _),
        (h c).2.2.1.trans (kernel_bre _ _ _ _ _ _ _), (h c).2.2.2.1.trans (kernel_bim _ _ _ _ _ _ _), (h c).2.2.2.2⟩)
      (Cert.Kernel22Ideal.Value.run (F := Ideal) m ρ)
  refine (θ_run Cert.Reference22Ideal.defs _ _).mono (fun _ h c => ⟨(h c).1.trans ?_, (h c).2.1.trans ?_, (h c).2.2.1.trans ?_,
      (h c).2.2.2.1.trans ?_, (h c).2.2.2.2.1.trans ?_, (h c).2.2.2.2.2.1.trans ?_, (h c).2.2.2.2.2.2⟩)
    (Cert.Reference22Ideal.Value.run (F := Ideal) m' ρ')
  · rw [(hagree c).1, (hagree c).2.1, (hagree c).2.2.1]
    funext i
    obtain ⟨n, rfl⟩ := ix_row i
    rfl
  · rw [(hagree c).1, (hagree c).2.1, (hagree c).2.2.1]
    funext i
    obtain ⟨n, rfl⟩ := ix_row i
    rfl
  · rw [(hagree c).1, (hagree c).2.1, (hagree c).2.2.1, (hagree c).2.2.2.1, (hagree c).2.2.2.2.1]
    funext i
    obtain ⟨r, n, rfl⟩ := ix_all i
    pointwise []
    rfl
  · rw [(hagree c).1, (hagree c).2.1, (hagree c).2.2.1, (hagree c).2.2.2.1, (hagree c).2.2.2.2.1]
    funext i
    obtain ⟨r, n, rfl⟩ := ix_all i
    pointwise []
    rfl
  · rw [(hagree c).2.2.2.2.2.1]
    rfl
  · rw [(hagree c).2.2.2.2.2.2]
    rfl

end Cert.Proof.S5Disc
end
-- ==== Proof.SumFfn.lean ====
/-
  The gradient of half of a feed-forward weight's shard, summed over the four chips: the kernel adds the four slots one by one, the reference sums over
  their axis.
-/
module

public import proofs.«01_k».proof.Proof.Gen.Kernel23Ideal.Value
public import proofs.«01_k».proof.Proof.Gen.Reference23Ideal.Run
public import proofs.«01_k».proof.Defs
public import Idealize.ShloMosaic.Lib.Pointwise
public import Idealize.ShloMosaic.Lib.VecWindow
public import Idealize.ShloMosaic.Lib.Quiescent

@[expose] public section

set_option maxRecDepth 16384

noncomputable section

namespace Cert.Kernel23Ideal.SumFfn

open Cert.Kernel23Ideal Cert.Kernel23Ideal.Gen Idealize.ShloMosaic Idealize.ShloMosaic.TcCoe Idealize.SL.Sem

/-- The sum of the four slots. -/
def total (x : FVec Ideal S4x352x1024 .bf16) : FVec Ideal S352x1024 .f32 := fun i => ∑ k : Fin 4, x (ix3 k (i 0) (i 1))

variable (m : (ℓ : Loc nD τ sig) → Buf (Elt Ideal) ℓ)

/-- The device's argument. -/
abbrev aX (c : Dev nD) : FVec Ideal S4x352x1024 .bf16 := m ((c : Thread nD τ).loc main_arg0)

/-- A load of one slot, at an index. -/
theorem ld_slot (x : Vec Ideal S4x176x1024 .bf16) (o : Fin 3 → Nat) (inb) (k : Fin 4) (r : Fin 176) (d : Fin 1024) (h0 : o 0 = k.val) (h1 : o 1 = 0) (h2 : o 2 = 0) :
    View.ld (Val := Elt Ideal) (e' := .bf16) x (Rect.unit (s := S4x176x1024) o S1x176x1024.size inb) (ix3 0 r d) = x (ix3 k r d) := by
  refine congrArg x (funext fun a => Fin.ext ?_)
  match a with
  | ⟨0, _⟩ => show o 0 + 1 * 0 = k.val; omega
  | ⟨1, _⟩ => show o 1 + 1 * r.val = r.val; omega
  | ⟨2, _⟩ => show o 2 + 1 * d.val = d.val; omega

theorem pay_apply (v0 v1 v2 v3 : Vec Ideal S1x176x1024 .bf16) (r : Fin 176) (d : Fin 1024) :
    k0_pay1 v0 v1 v2 v3 (ix2 r d) = v0 (ix3 0 r d) + v1 (ix3 0 r d) + v2 (ix3 0 r d) + v3 (ix3 0 r d) := by
  pointwise [k0_pay1]

theorem pay_ld (x : Vec Ideal S4x176x1024 .bf16) (r : Fin 176) (d : Fin 1024) :
    k0_pay1 (View.ld x r0_0) (View.ld x r0_1) (View.ld x r0_2) (View.ld x r0_3) (ix2 r d) = ∑ k : Fin 4, x (ix3 k r d) := by
  rw [Fin.sum_univ_four]
  refine (pay_apply _ _ _ _ r d).trans ?_
  exact congrArg₂ (· + ·) (congrArg₂ (· + ·) (congrArg₂ (· + ·) (ld_slot x _ _ 0 r d rfl rfl rfl) (ld_slot x _ _ 1 r d rfl rfl rfl))
    (ld_slot x _ _ 2 r d rfl rfl rfl)) (ld_slot x _ _ 3 r d rfl rfl rfl)

theorem idx0 : ∀ t : Fin cfg0.N, win0_0.index t 0 * win0_0.size 0 = 0 ∧ win0_0.index t 1 * win0_0.size 1 = 176 * t.val ∧ win0_0.index t 2 * win0_0.size 2 = 0 :=
  (by decide +kernel : ∀ t : Fin grid0.N, win0_0.index t 0 * win0_0.size 0 = 0 ∧ win0_0.index t 1 * win0_0.size 1 = 176 * t.val ∧ win0_0.index t 2 * win0_0.size 2 = 0)
theorem idx1 : ∀ t : Fin cfg0.N, win0_1.index t 0 * win0_1.size 0 = 176 * t.val ∧ win0_1.index t 1 * win0_1.size 1 = 0 :=
  (by decide +kernel : ∀ t : Fin grid0.N, win0_1.index t 0 * win0_1.size 0 = 176 * t.val ∧ win0_1.index t 1 * win0_1.size 1 = 0)
theorem lt_N (t : Fin cfg0.N) : t.val < 2 := lt_of_lt_of_eq t.isLt N_0

theorem iblk0 (c : Dev nD) (t : Fin cfg0.N) (k : Fin 4) (r : Fin 176) (d : Fin 1024) (l : Fin 352) (hl : l.val = 176 * t.val + r.val) :
    iblk m c 0 t (ix3 k r d) = aX m c (ix3 k l d) := by
  unfold iblk
  rw [View.read_apply]
  refine congrArg (aX m c) (funext fun a => Fin.ext ?_)
  match a with
  | ⟨0, _⟩ => show win0_0.index t 0 * win0_0.size 0 + 1 * k.val = k.val; rw [(idx0 t).1]; omega
  | ⟨1, _⟩ => show win0_0.index t 1 * win0_0.size 1 + 1 * r.val = l.val; rw [(idx0 t).2.1, hl]; omega
  | ⟨2, _⟩ => show win0_0.index t 2 * win0_0.size 2 + 1 * d.val = d.val; rw [(idx0 t).2.2]; omega
theorem emb1 (t : Fin cfg0.N) (r : Fin 176) (d : Fin 1024) (l : Fin 352) (hl : l.val = 176 * t.val + r.val) :
    (win0_1.blk t).view.emb (ix2 r d) = (ix2 l d : S352x1024.Idx) := by
  refine funext fun a => Fin.ext ?_
  match a with
  | ⟨0, _⟩ => show win0_1.index t 0 * win0_1.size 0 + 1 * r.val = l.val; rw [(idx1 t).1, hl]; omega
  | ⟨1, _⟩ => show win0_1.index t 1 * win0_1.size 1 + 1 * d.val = d.val; rw [(idx1 t).2]; omega
theorem hz2 : (![0, 0] : Fin 2 → Nat) = fun _ => 0 := funext fun a => by fin_cases a <;> rfl

theorem flushed1 (c : Dev nD) (t : Fin cfg0.N) :
    (dats m 0 c).flushed 1 t = (win0_1.blk t).view.read (Elt Ideal) (total (aX m c)) := by
  rw [Value.flushed1]
  unfold out0_1
  funext y
  obtain ⟨r, d, rfl⟩ : ∃ (r : Fin 176) (d : Fin 1024), y = ix2 r d :=
    ⟨y 0, y 1, by funext a; match a with | ⟨0, _⟩ => rfl | ⟨1, _⟩ => rfl⟩
  have ht := lt_N t
  have hl : (⟨176 * t.val + r.val, by omega⟩ : Fin 352).val = 176 * t.val + r.val := rfl
  rw [View.read_apply]
  refine Eq.trans ?_ (congrArg (total (aX m c)) (emb1 t r d _ hl).symm)
  refine (congrFun (View.canon_cons_unit_zero (S := S176x1024) hz2 _ _ _) (ix2 r d)).trans ?_
  exact (pay_ld (iblk m c 0 t) r d).trans (Finset.sum_congr rfl fun k _ => iblk0 m c t k r d _ hl)

/-- Every index of the result lies in the block of the point of its row block. -/
theorem cover1 (i : S352x1024.Idx) : ∃ t : Fin cfg0.N, (cfg0.win 1).flush t = true ∧ i ∈ ((cfg0.win 1).blk t).view.set := by
  have h0 : (i 0 : Nat) < 352 := (i 0).isLt
  have hN : cfg0.N = 2 := N_0
  have ht : (i 0 : Nat) / 176 < cfg0.N := by omega
  refine ⟨⟨_, ht⟩, flush0_1 _, ?_⟩
  have e : (win0_1.blk ⟨_, ht⟩).view.emb (ix2 ⟨(i 0 : Nat) % 176, by omega⟩ (i 1)) = i :=
    (emb1 ⟨_, ht⟩ ⟨(i 0 : Nat) % 176, by omega⟩ (i 1) (i 0) (by dsimp only; omega)).trans
      (by funext a; match a with | ⟨0, _⟩ => rfl | ⟨1, _⟩ => rfl)
  exact (congrArg (fun j => j ∈ ((cfg0.win 1).blk ⟨_, ht⟩).view.set) e).mp (Finset.mem_map_of_mem _ (Finset.mem_univ _))

theorem final (c : Dev nD) : (dats m 0 c).arrAt 1 cfg0.N = total (aX m c) :=
  (dats m 0 c).arrAt_eq_of_cover 1 _ (fun t _ => flushed1 m c t) cover1

end Cert.Kernel23Ideal.SumFfn

namespace Cert.Reference23Ideal.SumFfn

open Cert.Reference23Ideal Cert.Reference23Ideal.Gen Idealize.ShloMosaic

theorem sum_eq (x : FVec Ideal S4x352x1024 .bf16) :
    Host.reduceAdd (extf .f32 x bitsLt_bf16_f32) (constant S_ .f32 0x00000000#32) reducesTo_S4x352x1024_S352x1024_d0 h_S_ = Cert.Kernel23Ideal.SumFfn.total x := by
  funext i
  obtain ⟨r, d, rfl⟩ : ∃ (r : Fin 352) (d : Fin 1024), i = ix2 r d :=
    ⟨i 0, i 1, by funext a; match a with | ⟨0, _⟩ => rfl | ⟨1, _⟩ => rfl⟩
  pointwise []
  rfl

end Cert.Reference23Ideal.SumFfn

namespace Cert.Proof.SumFfn

open Idealize.ShloMosaic Idealize.ShloMosaic.TcCoe Idealize.SL.Sem
open Cert.Kernel23Ideal.SumFfn (aX total)

theorem frame_reference : Cert.quiescent_Reference23Ideal := fun m ρ _ =>
  (θ_run Cert.Reference23Ideal.defs _ _).mono (fun r h => ⟨fun c => (h c).2,
      Idealize.ShloMosaic.sem_eq_zero_of_no_sems (by decide) r.2⟩)
    (Cert.Reference23Ideal.Value.run (F := Ideal) m ρ)

theorem algebraic : Cert.algebraic_Kernel23Ideal_Reference23Ideal := by
  intro m ρ m' ρ' _ hagree
  refine ⟨fun c => total (aX m c), ?_, ?_⟩
  · exact (θ_run Cert.Kernel23Ideal.defs _ _).mono
      (fun _ h c => ⟨(h c).1.trans (Cert.Kernel23Ideal.SumFfn.final m c), (h c).2⟩)
      (Cert.Kernel23Ideal.Value.run_blocks (F := Ideal) m ρ)
  refine (θ_run Cert.Reference23Ideal.defs _ _).mono (fun _ h c => ⟨(h c).1.trans ?_, (h c).2⟩)
    (Cert.Reference23Ideal.Value.run (F := Ideal) m' ρ')
  rw [hagree c]
  exact Cert.Reference23Ideal.SumFfn.sum_eq _

end Cert.Proof.SumFfn
end
-- ==== Proof.SumIn.lean ====
/-
  The gradient of half of the input projection's shard, summed over the four chips: the kernel adds the four slots one by one, the reference sums over
  their axis.
-/
module

public import proofs.«01_k».proof.Proof.Gen.Kernel24Ideal.Value
public import proofs.«01_k».proof.Proof.Gen.Reference24Ideal.Run
public import proofs.«01_k».proof.Defs
public import Idealize.ShloMosaic.Lib.Pointwise
public import Idealize.ShloMosaic.Lib.VecWindow
public import Idealize.ShloMosaic.Lib.Quiescent

@[expose] public section

set_option maxRecDepth 16384

noncomputable section

namespace Cert.Kernel24Ideal.SumIn

open Cert.Kernel24Ideal Cert.Kernel24Ideal.Gen Idealize.ShloMosaic Idealize.ShloMosaic.TcCoe Idealize.SL.Sem

/-- The sum of the four slots. -/
def total (x : FVec Ideal S4x512x384 .bf16) : FVec Ideal S512x384 .f32 := fun i => ∑ k : Fin 4, x (ix3 k (i 0) (i 1))

variable (m : (ℓ : Loc nD τ sig) → Buf (Elt Ideal) ℓ)

/-- The device's argument. -/
abbrev aX (c : Dev nD) : FVec Ideal S4x512x384 .bf16 := m ((c : Thread nD τ).loc main_arg0)

/-- A load of one slot, at an index. -/
theorem ld_slot (x : Vec Ideal S4x512x384 .bf16) (o : Fin 3 → Nat) (inb) (k : Fin 4) (r : Fin 512) (d : Fin 384) (h0 : o 0 = k.val) (h1 : o 1 = 0) (h2 : o 2 = 0) :
    View.ld (Val := Elt Ideal) (e' := .bf16) x (Rect.unit (s := S4x512x384) o S1x512x384.size inb) (ix3 0 r d) = x (ix3 k r d) := by
  refine congrArg x (funext fun a => Fin.ext ?_)
  match a with
  | ⟨0, _⟩ => show o 0 + 1 * 0 = k.val; omega
  | ⟨1, _⟩ => show o 1 + 1 * r.val = r.val; omega
  | ⟨2, _⟩ => show o 2 + 1 * d.val = d.val; omega

theorem pay_apply (v0 v1 v2 v3 : Vec Ideal S1x512x384 .bf16) (r : Fin 512) (d : Fin 384) :
    k0_pay1 v0 v1 v2 v3 (ix2 r d) = v0 (ix3 0 r d) + v1 (ix3 0 r d) + v2 (ix3 0 r d) + v3 (ix3 0 r d) := by
  pointwise [k0_pay1]

theorem pay_ld (x : Vec Ideal S4x512x384 .bf16) (r : Fin 512) (d : Fin 384) :
    k0_pay1 (View.ld x r0_0) (View.ld x r0_1) (View.ld x r0_2) (View.ld x r0_3) (ix2 r d) = ∑ k : Fin 4, x (ix3 k r d) := by
  rw [Fin.sum_univ_four]
  refine (pay_apply _ _ _ _ r d).trans ?_
  exact congrArg₂ (· + ·) (congrArg₂ (· + ·) (congrArg₂ (· + ·) (ld_slot x _ _ 0 r d rfl rfl rfl) (ld_slot x _ _ 1 r d rfl rfl rfl))
    (ld_slot x _ _ 2 r d rfl rfl rfl)) (ld_slot x _ _ 3 r d rfl rfl rfl)

theorem final (x : Vec Ideal S4x512x384 .bf16) : Value.G1 (F := Ideal) x = total x := by
  funext i
  obtain ⟨r, d, rfl⟩ : ∃ (r : Fin 512) (d : Fin 384), i = ix2 r d :=
    ⟨i 0, i 1, by funext a; match a with | ⟨0, _⟩ => rfl | ⟨1, _⟩ => rfl⟩
  exact pay_ld x r d

end Cert.Kernel24Ideal.SumIn

namespace Cert.Reference24Ideal.SumIn

open Cert.Reference24Ideal Cert.Reference24Ideal.Gen Idealize.ShloMosaic

theorem sum_eq (x : FVec Ideal S4x512x384 .bf16) :
    Host.reduceAdd (extf .f32 x bitsLt_bf16_f32) (constant S_ .f32 0x00000000#32) reducesTo_S4x512x384_S512x384_d0 h_S_ = Cert.Kernel24Ideal.SumIn.total x := by
  funext i
  obtain ⟨r, d, rfl⟩ : ∃ (r : Fin 512) (d : Fin 384), i = ix2 r d :=
    ⟨i 0, i 1, by funext a; match a with | ⟨0, _⟩ => rfl | ⟨1, _⟩ => rfl⟩
  pointwise []
  rfl

end Cert.Reference24Ideal.SumIn

namespace Cert.Proof.SumIn

open Idealize.ShloMosaic Idealize.ShloMosaic.TcCoe Idealize.SL.Sem
open Cert.Kernel24Ideal.SumIn (aX total)

theorem frame_reference : Cert.quiescent_Reference24Ideal := fun m ρ _ =>
  (θ_run Cert.Reference24Ideal.defs _ _).mono (fun r h => ⟨fun c => (h c).2,
      Idealize.ShloMosaic.sem_eq_zero_of_no_sems (by decide) r.2⟩)
    (Cert.Reference24Ideal.Value.run (F := Ideal) m ρ)

theorem algebraic : Cert.algebraic_Kernel24Ideal_Reference24Ideal := by
  intro m ρ m' ρ' _ hagree
  refine ⟨fun c => total (aX m c), ?_, ?_⟩
  · exact (θ_run Cert.Kernel24Ideal.defs _ _).mono
      (fun _ h c => ⟨(h c).1.trans (Cert.Kernel24Ideal.SumIn.final _), (h c).2⟩)
      (Cert.Kernel24Ideal.Value.run (F := Ideal) m ρ)
  refine (θ_run Cert.Reference24Ideal.defs _ _).mono (fun _ h c => ⟨(h c).1.trans ?_, (h c).2⟩)
    (Cert.Reference24Ideal.Value.run (F := Ideal) m' ρ')
  rw [hagree c]
  exact Cert.Reference24Ideal.SumIn.sum_eq _

end Cert.Proof.SumIn
end
-- ==== Proof.SumGlu.lean ====
/-
  The gradient of half of the gate projection's shard, summed over the four chips: the kernel adds the four slots one by one, the reference sums over
  their axis.
-/
module

public import proofs.«01_k».proof.Proof.Gen.Kernel25Ideal.Value
public import proofs.«01_k».proof.Proof.Gen.Reference25Ideal.Run
public import proofs.«01_k».proof.Defs
public import Idealize.ShloMosaic.Lib.Pointwise
public import Idealize.ShloMosaic.Lib.VecWindow
public import Idealize.ShloMosaic.Lib.Quiescent

@[expose] public section

set_option maxRecDepth 16384

noncomputable section

namespace Cert.Kernel25Ideal.SumGlu

open Cert.Kernel25Ideal Cert.Kernel25Ideal.Gen Idealize.ShloMosaic Idealize.ShloMosaic.TcCoe Idealize.SL.Sem

/-- The sum of the four slots. -/
def total (x : FVec Ideal S4x64x512 .bf16) : FVec Ideal S64x512 .f32 := fun i => ∑ k : Fin 4, x (ix3 k (i 0) (i 1))

variable (m : (ℓ : Loc nD τ sig) → Buf (Elt Ideal) ℓ)

/-- The device's argument. -/
abbrev aX (c : Dev nD) : FVec Ideal S4x64x512 .bf16 := m ((c : Thread nD τ).loc main_arg0)

/-- A load of one slot, at an index. -/
theorem ld_slot (x : Vec Ideal S4x64x512 .bf16) (o : Fin 3 → Nat) (inb) (k : Fin 4) (r : Fin 64) (d : Fin 512) (h0 : o 0 = k.val) (h1 : o 1 = 0) (h2 : o 2 = 0) :
    View.ld (Val := Elt Ideal) (e' := .bf16) x (Rect.unit (s := S4x64x512) o S1x64x512.size inb) (ix3 0 r d) = x (ix3 k r d) := by
  refine congrArg x (funext fun a => Fin.ext ?_)
  match a with
  | ⟨0, _⟩ => show o 0 + 1 * 0 = k.val; omega
  | ⟨1, _⟩ => show o 1 + 1 * r.val = r.val; omega
  | ⟨2, _⟩ => show o 2 + 1 * d.val = d.val; omega

theorem pay_apply (v0 v1 v2 v3 : Vec Ideal S1x64x512 .bf16) (r : Fin 64) (d : Fin 512) :
    k0_pay1 v0 v1 v2 v3 (ix2 r d) = v0 (ix3 0 r d) + v1 (ix3 0 r d) + v2 (ix3 0 r d) + v3 (ix3 0 r d) := by
  pointwise [k0_pay1]

theorem pay_ld (x : Vec Ideal S4x64x512 .bf16) (r : Fin 64) (d : Fin 512) :
    k0_pay1 (View.ld x r0_0) (View.ld x r0_1) (View.ld x r0_2) (View.ld x r0_3) (ix2 r d) = ∑ k : Fin 4, x (ix3 k r d) := by
  rw [Fin.sum_univ_four]
  refine (pay_apply _ _ _ _ r d).trans ?_
  exact congrArg₂ (· + ·) (congrArg₂ (· + ·) (congrArg₂ (· + ·) (ld_slot x _ _ 0 r d rfl rfl rfl) (ld_slot x _ _ 1 r d rfl rfl rfl))
    (ld_slot x _ _ 2 r d rfl rfl rfl)) (ld_slot x _ _ 3 r d rfl rfl rfl)

theorem final (x : Vec Ideal S4x64x512 .bf16) : Value.G1 (F := Ideal) x = total x := by
  funext i
  obtain ⟨r, d, rfl⟩ : ∃ (r : Fin 64) (d : Fin 512), i = ix2 r d :=
    ⟨i 0, i 1, by funext a; match a with | ⟨0, _⟩ => rfl | ⟨1, _⟩ => rfl⟩
  exact pay_ld x r d

end Cert.Kernel25Ideal.SumGlu

namespace Cert.Reference25Ideal.SumGlu

open Cert.Reference25Ideal Cert.Reference25Ideal.Gen Idealize.ShloMosaic

theorem sum_eq (x : FVec Ideal S4x64x512 .bf16) :
    Host.reduceAdd (extf .f32 x bitsLt_bf16_f32) (constant S_ .f32 0x00000000#32) reducesTo_S4x64x512_S64x512_d0 h_S_ = Cert.Kernel25Ideal.SumGlu.total x := by
  funext i
  obtain ⟨r, d, rfl⟩ : ∃ (r : Fin 64) (d : Fin 512), i = ix2 r d :=
    ⟨i 0, i 1, by funext a; match a with | ⟨0, _⟩ => rfl | ⟨1, _⟩ => rfl⟩
  pointwise []
  rfl

end Cert.Reference25Ideal.SumGlu

namespace Cert.Proof.SumGlu

open Idealize.ShloMosaic Idealize.ShloMosaic.TcCoe Idealize.SL.Sem
open Cert.Kernel25Ideal.SumGlu (aX total)

theorem frame_reference : Cert.quiescent_Reference25Ideal := fun m ρ _ =>
  (θ_run Cert.Reference25Ideal.defs _ _).mono (fun r h => ⟨fun c => (h c).2,
      Idealize.ShloMosaic.sem_eq_zero_of_no_sems (by decide) r.2⟩)
    (Cert.Reference25Ideal.Value.run (F := Ideal) m ρ)

theorem algebraic : Cert.algebraic_Kernel25Ideal_Reference25Ideal := by
  intro m ρ m' ρ' _ hagree
  refine ⟨fun c => total (aX m c), ?_, ?_⟩
  · exact (θ_run Cert.Kernel25Ideal.defs _ _).mono
      (fun _ h c => ⟨(h c).1.trans (Cert.Kernel25Ideal.SumGlu.final _), (h c).2⟩)
      (Cert.Kernel25Ideal.Value.run (F := Ideal) m ρ)
  refine (θ_run Cert.Reference25Ideal.defs _ _).mono (fun _ h c => ⟨(h c).1.trans ?_, (h c).2⟩)
    (Cert.Reference25Ideal.Value.run (F := Ideal) m' ρ')
  rw [hagree c]
  exact Cert.Reference25Ideal.SumGlu.sum_eq _

end Cert.Proof.SumGlu
end
-- ==== Proof.SumOut.lean ====
/-
  The gradient of half of the output projection's shard, summed over the four chips: the kernel adds the four slots one by one, the reference sums over
  their axis.
-/
module

public import proofs.«01_k».proof.Proof.Gen.Kernel26Ideal.Value
public import proofs.«01_k».proof.Proof.Gen.Reference26Ideal.Run
public import proofs.«01_k».proof.Defs
public import Idealize.ShloMosaic.Lib.Pointwise
public import Idealize.ShloMosaic.Lib.VecWindow
public import Idealize.ShloMosaic.Lib.Quiescent

@[expose] public section

set_option maxRecDepth 16384

noncomputable section

namespace Cert.Kernel26Ideal.SumOut

open Cert.Kernel26Ideal Cert.Kernel26Ideal.Gen Idealize.ShloMosaic Idealize.ShloMosaic.TcCoe Idealize.SL.Sem

/-- The sum of the four slots. -/
def total (x : FVec Ideal S4x128x1024 .bf16) : FVec Ideal S128x1024 .f32 := fun i => ∑ k : Fin 4, x (ix3 k (i 0) (i 1))

variable (m : (ℓ : Loc nD τ sig) → Buf (Elt Ideal) ℓ)

/-- The device's argument. -/
abbrev aX (c : Dev nD) : FVec Ideal S4x128x1024 .bf16 := m ((c : Thread nD τ).loc main_arg0)

/-- A load of one slot, at an index. -/
theorem ld_slot (x : Vec Ideal S4x128x1024 .bf16) (o : Fin 3 → Nat) (inb) (k : Fin 4) (r : Fin 128) (d : Fin 1024) (h0 : o 0 = k.val) (h1 : o 1 = 0) (h2 : o 2 = 0) :
    View.ld (Val := Elt Ideal) (e' := .bf16) x (Rect.unit (s := S4x128x1024) o S1x128x1024.size inb) (ix3 0 r d) = x (ix3 k r d) := by
  refine congrArg x (funext fun a => Fin.ext ?_)
  match a with
  | ⟨0, _⟩ => show o 0 + 1 * 0 = k.val; omega
  | ⟨1, _⟩ => show o 1 + 1 * r.val = r.val; omega
  | ⟨2, _⟩ => show o 2 + 1 * d.val = d.val; omega

theorem pay_apply (v0 v1 v2 v3 : Vec Ideal S1x128x1024 .bf16) (r : Fin 128) (d : Fin 1024) :
    k0_pay1 v0 v1 v2 v3 (ix2 r d) = v0 (ix3 0 r d) + v1 (ix3 0 r d) + v2 (ix3 0 r d) + v3 (ix3 0 r d) := by
  pointwise [k0_pay1]

theorem pay_ld (x : Vec Ideal S4x128x1024 .bf16) (r : Fin 128) (d : Fin 1024) :
    k0_pay1 (View.ld x r0_0) (View.ld x r0_1) (View.ld x r0_2) (View.ld x r0_3) (ix2 r d) = ∑ k : Fin 4, x (ix3 k r d) := by
  rw [Fin.sum_univ_four]
  refine (pay_apply _ _ _ _ r d).trans ?_
  exact congrArg₂ (· + ·) (congrArg₂ (· + ·) (congrArg₂ (· + ·) (ld_slot x _ _ 0 r d rfl rfl rfl) (ld_slot x _ _ 1 r d rfl rfl rfl))
    (ld_slot x _ _ 2 r d rfl rfl rfl)) (ld_slot x _ _ 3 r d rfl rfl rfl)

theorem final (x : Vec Ideal S4x128x1024 .bf16) : Value.G1 (F := Ideal) x = total x := by
  funext i
  obtain ⟨r, d, rfl⟩ : ∃ (r : Fin 128) (d : Fin 1024), i = ix2 r d :=
    ⟨i 0, i 1, by funext a; match a with | ⟨0, _⟩ => rfl | ⟨1, _⟩ => rfl⟩
  exact pay_ld x r d

end Cert.Kernel26Ideal.SumOut

namespace Cert.Reference26Ideal.SumOut

open Cert.Reference26Ideal Cert.Reference26Ideal.Gen Idealize.ShloMosaic

theorem sum_eq (x : FVec Ideal S4x128x1024 .bf16) :
    Host.reduceAdd (extf .f32 x bitsLt_bf16_f32) (constant S_ .f32 0x00000000#32) reducesTo_S4x128x1024_S128x1024_d0 h_S_ = Cert.Kernel26Ideal.SumOut.total x := by
  funext i
  obtain ⟨r, d, rfl⟩ : ∃ (r : Fin 128) (d : Fin 1024), i = ix2 r d :=
    ⟨i 0, i 1, by funext a; match a with | ⟨0, _⟩ => rfl | ⟨1, _⟩ => rfl⟩
  pointwise []
  rfl

end Cert.Reference26Ideal.SumOut

namespace Cert.Proof.SumOut

open Idealize.ShloMosaic Idealize.ShloMosaic.TcCoe Idealize.SL.Sem
open Cert.Kernel26Ideal.SumOut (aX total)

theorem frame_reference : Cert.quiescent_Reference26Ideal := fun m ρ _ =>
  (θ_run Cert.Reference26Ideal.defs _ _).mono (fun r h => ⟨fun c => (h c).2,
      Idealize.ShloMosaic.sem_eq_zero_of_no_sems (by decide) r.2⟩)
    (Cert.Reference26Ideal.Value.run (F := Ideal) m ρ)

theorem algebraic : Cert.algebraic_Kernel26Ideal_Reference26Ideal := by
  intro m ρ m' ρ' _ hagree
  refine ⟨fun c => total (aX m c), ?_, ?_⟩
  · exact (θ_run Cert.Kernel26Ideal.defs _ _).mono
      (fun _ h c => ⟨(h c).1.trans (Cert.Kernel26Ideal.SumOut.final _), (h c).2⟩)
      (Cert.Kernel26Ideal.Value.run (F := Ideal) m ρ)
  refine (θ_run Cert.Reference26Ideal.defs _ _).mono (fun _ h c => ⟨(h c).1.trans ?_, (h c).2⟩)
    (Cert.Reference26Ideal.Value.run (F := Ideal) m' ρ')
  rw [hagree c]
  exact Cert.Reference26Ideal.SumOut.sum_eq _

end Cert.Proof.SumOut
end
-- ==== Proof.SumConv.lean ====
/-
  The gradient of the convolution's taps' shard, summed over the four chips: the kernel adds the four slots one by one, the reference sums over
  their axis.
-/
module

public import proofs.«01_k».proof.Proof.Gen.Kernel27Ideal.Value
public import proofs.«01_k».proof.Proof.Gen.Reference27Ideal.Run
public import proofs.«01_k».proof.Defs
public import Idealize.ShloMosaic.Lib.Pointwise
public import Idealize.ShloMosaic.Lib.VecWindow
public import Idealize.ShloMosaic.Lib.Quiescent

@[expose] public section

set_option maxRecDepth 16384

noncomputable section

namespace Cert.Kernel27Ideal.SumConv

open Cert.Kernel27Ideal Cert.Kernel27Ideal.Gen Idealize.ShloMosaic Idealize.ShloMosaic.TcCoe Idealize.SL.Sem

/-- The sum of the four slots. -/
def total (x : FVec Ideal S4x31x128 .f32) : FVec Ideal S31x128 .f32 := fun i => ∑ k : Fin 4, x (ix3 k (i 0) (i 1))

variable (m : (ℓ : Loc nD τ sig) → Buf (Elt Ideal) ℓ)

/-- The device's argument. -/
abbrev aX (c : Dev nD) : FVec Ideal S4x31x128 .f32 := m ((c : Thread nD τ).loc main_arg0)

/-- A load of one slot, at an index. -/
theorem ld_slot (x : Vec Ideal S4x31x128 .f32) (o : Fin 3 → Nat) (inb) (k : Fin 4) (r : Fin 31) (d : Fin 128) (h0 : o 0 = k.val) (h1 : o 1 = 0) (h2 : o 2 = 0) :
    View.ld (Val := Elt Ideal) (e' := .f32) x (Rect.unit (s := S4x31x128) o S1x31x128.size inb) (ix3 0 r d) = x (ix3 k r d) := by
  refine congrArg x (funext fun a => Fin.ext ?_)
  match a with
  | ⟨0, _⟩ => show o 0 + 1 * 0 = k.val; omega
  | ⟨1, _⟩ => show o 1 + 1 * r.val = r.val; omega
  | ⟨2, _⟩ => show o 2 + 1 * d.val = d.val; omega

theorem pay_apply (v0 v1 v2 v3 : Vec Ideal S1x31x128 .f32) (r : Fin 31) (d : Fin 128) :
    k0_pay1 v0 v1 v2 v3 (ix2 r d) = v0 (ix3 0 r d) + v1 (ix3 0 r d) + v2 (ix3 0 r d) + v3 (ix3 0 r d) := by
  pointwise [k0_pay1]

theorem pay_ld (x : Vec Ideal S4x31x128 .f32) (r : Fin 31) (d : Fin 128) :
    k0_pay1 (View.ld x r0_0) (View.ld x r0_1) (View.ld x r0_2) (View.ld x r0_3) (ix2 r d) = ∑ k : Fin 4, x (ix3 k r d) := by
  rw [Fin.sum_univ_four]
  refine (pay_apply _ _ _ _ r d).trans ?_
  exact congrArg₂ (· + ·) (congrArg₂ (· + ·) (congrArg₂ (· + ·) (ld_slot x _ _ 0 r d rfl rfl rfl) (ld_slot x _ _ 1 r d rfl rfl rfl))
    (ld_slot x _ _ 2 r d rfl rfl rfl)) (ld_slot x _ _ 3 r d rfl rfl rfl)

theorem final (x : Vec Ideal S4x31x128 .f32) : Value.G1 (F := Ideal) x = total x := by
  funext i
  obtain ⟨r, d, rfl⟩ : ∃ (r : Fin 31) (d : Fin 128), i = ix2 r d :=
    ⟨i 0, i 1, by funext a; match a with | ⟨0, _⟩ => rfl | ⟨1, _⟩ => rfl⟩
  exact pay_ld x r d

end Cert.Kernel27Ideal.SumConv

namespace Cert.Reference27Ideal.SumConv

open Cert.Reference27Ideal Cert.Reference27Ideal.Gen Idealize.ShloMosaic

theorem sum_eq (x : FVec Ideal S4x31x128 .f32) :
    Host.reduceAdd x (constant S_ .f32 0x00000000#32) reducesTo_S4x31x128_S31x128_d0 h_S_ = Cert.Kernel27Ideal.SumConv.total x := by
  funext i
  obtain ⟨r, d, rfl⟩ : ∃ (r : Fin 31) (d : Fin 128), i = ix2 r d :=
    ⟨i 0, i 1, by funext a; match a with | ⟨0, _⟩ => rfl | ⟨1, _⟩ => rfl⟩
  pointwise []
  rfl

end Cert.Reference27Ideal.SumConv

namespace Cert.Proof.SumConv

open Idealize.ShloMosaic Idealize.ShloMosaic.TcCoe Idealize.SL.Sem
open Cert.Kernel27Ideal.SumConv (aX total)

theorem frame_reference : Cert.quiescent_Reference27Ideal := fun m ρ _ =>
  (θ_run Cert.Reference27Ideal.defs _ _).mono (fun r h => ⟨fun c => (h c).2,
      Idealize.ShloMosaic.sem_eq_zero_of_no_sems (by decide) r.2⟩)
    (Cert.Reference27Ideal.Value.run (F := Ideal) m ρ)

theorem algebraic : Cert.algebraic_Kernel27Ideal_Reference27Ideal := by
  intro m ρ m' ρ' _ hagree
  refine ⟨fun c => total (aX m c), ?_, ?_⟩
  · exact (θ_run Cert.Kernel27Ideal.defs _ _).mono
      (fun _ h c => ⟨(h c).1.trans (Cert.Kernel27Ideal.SumConv.final _), (h c).2⟩)
      (Cert.Kernel27Ideal.Value.run (F := Ideal) m ρ)
  refine (θ_run Cert.Reference27Ideal.defs _ _).mono (fun _ h c => ⟨(h c).1.trans ?_, (h c).2⟩)
    (Cert.Reference27Ideal.Value.run (F := Ideal) m' ρ')
  rw [hagree c]
  exact Cert.Reference27Ideal.SumConv.sum_eq _

end Cert.Proof.SumConv
end
-- ==== Proof.S5Adj.lean ====
/-
  The gradient of the S5 states' discretisation: one block is the whole array. Every operation is elementwise, repeats a row
  of the states' parameters over the input channels, or sums over the input channels.
-/
module

public import proofs.«01_k».proof.Proof.Gen.Kernel28Ideal.Value
public import proofs.«01_k».proof.Proof.Gen.Reference28Ideal.Run
public import proofs.«01_k».proof.Defs
public import Idealize.ShloMosaic.Lib.Pointwise
public import Idealize.ShloMosaic.Lib.Quiescent

@[expose] public section

set_option maxRecDepth 16384

noncomputable section

namespace Cert.Reference28Ideal.S5Adj

open Cert.Reference28Ideal Cert.Reference28Ideal.Gen Idealize.ShloMosaic Idealize.ShloMosaic.TcCoe Idealize.SL.Sem

theorem ix_row (i : S1x2048.Idx) : ∃ n : Fin 2048, i = ix2 0 n :=
  ⟨i 1, by funext a; match a with | ⟨0, _⟩ => exact Fin.ext (by have h : (i 0 : Nat) < 1 := (i 0).isLt; show (i 0 : Nat) = 0; omega) | ⟨1, _⟩ => rfl⟩
theorem ix_all (i : S128x2048.Idx) : ∃ (r : Fin 128) (n : Fin 2048), i = ix2 r n :=
  ⟨i 0, i 1, by funext a; match a with | ⟨0, _⟩ => rfl | ⟨1, _⟩ => rfl⟩

end Cert.Reference28Ideal.S5Adj

namespace Cert.Proof.S5Adj

open Idealize.ShloMosaic Idealize.ShloMosaic.TcCoe Idealize.SL.Sem
open Cert.Reference28Ideal.S5Adj

theorem frame_reference : Cert.quiescent_Reference28Ideal := fun m ρ _ =>
  (θ_run Cert.Reference28Ideal.defs _ _).mono (fun r h => ⟨fun c => (h c).2.2.2.2.2,
      Idealize.ShloMosaic.sem_eq_zero_of_no_sems (by decide) r.2⟩)
    (Cert.Reference28Ideal.Value.run (F := Ideal) m ρ)

section
open Cert.Kernel28Ideal
variable (m : (ℓ : Loc nD τ sig) → Buf (Elt Ideal) ℓ) (c : Dev nD)

/-- The device's arguments. -/
abbrev a0 : FVec Ideal S1x2048 .f32 := m ((c : Thread nD τ).loc main_arg0)
abbrev a1 : FVec Ideal S1x2048 .f32 := m ((c : Thread nD τ).loc main_arg1)
abbrev a2 : FVec Ideal S1x2048 .f32 := m ((c : Thread nD τ).loc main_arg2)
abbrev a3 : FVec Ideal S128x2048 .f32 := m ((c : Thread nD τ).loc main_arg3)
abbrev a4 : FVec Ideal S128x2048 .f32 := m ((c : Thread nD τ).loc main_arg4)
abbrev a5 : FVec Ideal S1x2048 .f32 := m ((c : Thread nD τ).loc main_arg5)
abbrev a6 : FVec Ideal S1x2048 .f32 := m ((c : Thread nD τ).loc main_arg6)
abbrev a7 : FVec Ideal S128x2048 .f32 := m ((c : Thread nD τ).loc main_arg7)
abbrev a8 : FVec Ideal S128x2048 .f32 := m ((c : Thread nD τ).loc main_arg8)
end

set_option maxHeartbeats 4000000 in
theorem algebraic : Cert.algebraic_Kernel28Ideal_Reference28Ideal := by
  intro m ρ m' ρ' _ hagree
  refine ⟨fun c => Cert.Kernel28Ideal.Value.G9 (F := Ideal) (a0 m c) (a1 m c) (a2 m c) (a3 m c) (a4 m c) (a5 m c) (a6 m c) (a7 m c) (a8 m c), fun c => Cert.Kernel28Ideal.Value.G10 (F := Ideal) (a0 m c) (a1 m c) (a2 m c) (a3 m c) (a4 m c) (a5 m c) (a6 m c) (a7 m c) (a8 m c), fun c => Cert.Kernel28Ideal.Value.G11 (F := Ideal) (a0 m c) (a1 m c) (a2 m c) (a3 m c) (a4 m c) (a5 m c) (a6 m c) (a7 m c) (a8 m c), fun c => Cert.Kernel28Ideal.Value.G12 (F := Ideal) (a0 m c) (a1 m c) (a2 m c) (a3 m c) (a4 m c) (a5 m c) (a6 m c) (a7 m c) (a8 m c), fun c => Cert.Kernel28Ideal.Value.G13 (F := Ideal) (a0 m c) (a1 m c) (a2 m c) (a3 m c) (a4 m c) (a5 m c) (a6 m c) (a7 m c) (a8 m c), ?_, ?_⟩
  · exact Cert.Kernel28Ideal.Value.run (F := Ideal) m ρ
  refine (θ_run Cert.Reference28Ideal.defs _ _).mono (fun _ h c => ⟨(h c).1.trans ?_, (h c).2.1.trans ?_, (h c).2.2.1.trans ?_, (h c).2.2.2.1.trans ?_, (h c).2.2.2.2.1.trans ?_, (h c).2.2.2.2.2⟩)
    (Cert.Reference28Ideal.Value.run (F := Ideal) m' ρ')
  · unfold Cert.Reference28Ideal.Value.res_main_v119
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    funext i
    obtain ⟨n, rfl⟩ := ix_row i
    pointwise [Cert.Kernel28Ideal.Gen.k0_pay1, Cert.Kernel28Ideal.Gen.k0_pay2, Cert.Kernel28Ideal.Gen.k0_pay3, Cert.Kernel28Ideal.Gen.k0_pay4, Cert.Kernel28Ideal.Gen.k0_pay5, Cert.Kernel28Ideal.Gen.k0_pay6, Cert.Kernel28Ideal.Gen.k0_pay7, Cert.Kernel28Ideal.Gen.k0_pay8, Cert.Kernel28Ideal.Gen.k0_pay9, Cert.Kernel28Ideal.Gen.k0_pay10, Cert.Kernel28Ideal.Gen.k0_pay11, Cert.Kernel28Ideal.Gen.k0_pay12, Cert.Kernel28Ideal.Gen.k0_pay13, Cert.Kernel28Ideal.Gen.k0_pay14, Cert.Kernel28Ideal.Gen.k0_pay15, Cert.Kernel28Ideal.Gen.k0_pay16, Cert.Kernel28Ideal.Gen.k0_pay17, Cert.Kernel28Ideal.Gen.k0_pay18, Cert.Kernel28Ideal.Gen.k0_pay19, Cert.Kernel28Ideal.Gen.k0_pay20, Cert.Kernel28Ideal.Gen.k0_pay21, Cert.Kernel28Ideal.Gen.k0_pay22, Cert.Kernel28Ideal.Gen.k0_pay23, Cert.Kernel28Ideal.Gen.k0_pay24, Cert.Kernel28Ideal.Gen.k0_pay25, Cert.Kernel28Ideal.Gen.k0_pay26, Cert.Kernel28Ideal.Gen.k0_pay27, Cert.Kernel28Ideal.Gen.k0_pay28, Cert.Kernel28Ideal.Gen.k0_pay29, Cert.Kernel28Ideal.Gen.k0_pay30, Cert.Kernel28Ideal.Gen.k0_pay31, Cert.Kernel28Ideal.Gen.k0_pay32, Cert.Kernel28Ideal.Gen.k0_pay33, Cert.Kernel28Ideal.Gen.k0_pay34, Cert.Kernel28Ideal.Gen.k0_pay35, Cert.Kernel28Ideal.Gen.k0_pay36, Cert.Kernel28Ideal.Gen.k0_pay37, Cert.Kernel28Ideal.Gen.k0_pay38, Cert.Kernel28Ideal.Gen.k0_pay39, Cert.Kernel28Ideal.Gen.k0_pay40, Cert.Kernel28Ideal.Gen.k0_pay41, Cert.Kernel28Ideal.Gen.k0_pay42, Cert.Kernel28Ideal.Gen.k0_pay43, Cert.Kernel28Ideal.Gen.k0_pay44, Cert.Kernel28Ideal.Gen.k0_pay45, Cert.Kernel28Ideal.Gen.k0_pay46, Cert.Kernel28Ideal.Gen.k0_pay47, Cert.Kernel28Ideal.Gen.k0_pay48, Cert.Kernel28Ideal.Gen.k0_pay49, Cert.Kernel28Ideal.Gen.k0_pay50, Cert.Kernel28Ideal.Gen.k0_pay51, Cert.Kernel28Ideal.Gen.k0_pay52, Cert.Kernel28Ideal.Gen.k0_pay53, Cert.Kernel28Ideal.Gen.k0_pay54, Cert.Kernel28Ideal.Gen.k0_pay55, zero_sub]
  · unfold Cert.Reference28Ideal.Value.res_main_v114
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    funext i
    obtain ⟨n, rfl⟩ := ix_row i
    pointwise [Cert.Kernel28Ideal.Gen.k0_pay1, Cert.Kernel28Ideal.Gen.k0_pay2, Cert.Kernel28Ideal.Gen.k0_pay3, Cert.Kernel28Ideal.Gen.k0_pay4, Cert.Kernel28Ideal.Gen.k0_pay5, Cert.Kernel28Ideal.Gen.k0_pay6, Cert.Kernel28Ideal.Gen.k0_pay7, Cert.Kernel28Ideal.Gen.k0_pay8, Cert.Kernel28Ideal.Gen.k0_pay9, Cert.Kernel28Ideal.Gen.k0_pay10, Cert.Kernel28Ideal.Gen.k0_pay11, Cert.Kernel28Ideal.Gen.k0_pay12, Cert.Kernel28Ideal.Gen.k0_pay13, Cert.Kernel28Ideal.Gen.k0_pay14, Cert.Kernel28Ideal.Gen.k0_pay15, Cert.Kernel28Ideal.Gen.k0_pay16, Cert.Kernel28Ideal.Gen.k0_pay17, Cert.Kernel28Ideal.Gen.k0_pay18, Cert.Kernel28Ideal.Gen.k0_pay19, Cert.Kernel28Ideal.Gen.k0_pay20, Cert.Kernel28Ideal.Gen.k0_pay21, Cert.Kernel28Ideal.Gen.k0_pay22, Cert.Kernel28Ideal.Gen.k0_pay23, Cert.Kernel28Ideal.Gen.k0_pay24, Cert.Kernel28Ideal.Gen.k0_pay25, Cert.Kernel28Ideal.Gen.k0_pay26, Cert.Kernel28Ideal.Gen.k0_pay27, Cert.Kernel28Ideal.Gen.k0_pay28, Cert.Kernel28Ideal.Gen.k0_pay29, Cert.Kernel28Ideal.Gen.k0_pay30, Cert.Kernel28Ideal.Gen.k0_pay31, Cert.Kernel28Ideal.Gen.k0_pay32, Cert.Kernel28Ideal.Gen.k0_pay33, Cert.Kernel28Ideal.Gen.k0_pay34, Cert.Kernel28Ideal.Gen.k0_pay35, Cert.Kernel28Ideal.Gen.k0_pay36, Cert.Kernel28Ideal.Gen.k0_pay37, Cert.Kernel28Ideal.Gen.k0_pay38, Cert.Kernel28Ideal.Gen.k0_pay39, Cert.Kernel28Ideal.Gen.k0_pay40, Cert.Kernel28Ideal.Gen.k0_pay41, Cert.Kernel28Ideal.Gen.k0_pay42, Cert.Kernel28Ideal.Gen.k0_pay43, Cert.Kernel28Ideal.Gen.k0_pay44, Cert.Kernel28Ideal.Gen.k0_pay45, Cert.Kernel28Ideal.Gen.k0_pay46, Cert.Kernel28Ideal.Gen.k0_pay47, Cert.Kernel28Ideal.Gen.k0_pay48, Cert.Kernel28Ideal.Gen.k0_pay49, Cert.Kernel28Ideal.Gen.k0_pay50, Cert.Kernel28Ideal.Gen.k0_pay51, Cert.Kernel28Ideal.Gen.k0_pay52, Cert.Kernel28Ideal.Gen.k0_pay53, Cert.Kernel28Ideal.Gen.k0_pay54, Cert.Kernel28Ideal.Gen.k0_pay55, zero_sub]
  · unfold Cert.Reference28Ideal.Value.res_main_v120
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]
    funext i
    obtain ⟨n, rfl⟩ := ix_row i
    pointwise [Cert.Kernel28Ideal.Gen.k0_pay1, Cert.Kernel28Ideal.Gen.k0_pay2, Cert.Kernel28Ideal.Gen.k0_pay3, Cert.Kernel28Ideal.Gen.k0_pay4, Cert.Kernel28Ideal.Gen.k0_pay5, Cert.Kernel28Ideal.Gen.k0_pay6, Cert.Kernel28Ideal.Gen.k0_pay7, Cert.Kernel28Ideal.Gen.k0_pay8, Cert.Kernel28Ideal.Gen.k0_pay9, Cert.Kernel28Ideal.Gen.k0_pay10, Cert.Kernel28Ideal.Gen.k0_pay11, Cert.Kernel28Ideal.Gen.k0_pay12, Cert.Kernel28Ideal.Gen.k0_pay13, Cert.Kernel28Ideal.Gen.k0_pay14, Cert.Kernel28Ideal.Gen.k0_pay15, Cert.Kernel28Ideal.Gen.k0_pay16, Cert.Kernel28Ideal.Gen.k0_pay17, Cert.Kernel28Ideal.Gen.k0_pay18, Cert.Kernel28Ideal.Gen.k0_pay19, Cert.Kernel28Ideal.Gen.k0_pay20, Cert.Kernel28Ideal.Gen.k0_pay21, Cert.Kernel28Ideal.Gen.k0_pay22, Cert.Kernel28Ideal.Gen.k0_pay23, Cert.Kernel28Ideal.Gen.k0_pay24, Cert.Kernel28Ideal.Gen.k0_pay25, Cert.Kernel28Ideal.Gen.k0_pay26, Cert.Kernel28Ideal.Gen.k0_pay27, Cert.Kernel28Ideal.Gen.k0_pay28, Cert.Kernel28Ideal.Gen.k0_pay29, Cert.Kernel28Ideal.Gen.k0_pay30, Cert.Kernel28Ideal.Gen.k0_pay31, Cert.Kernel28Ideal.Gen.k0_pay32, Cert.Kernel28Ideal.Gen.k0_pay33, Cert.Kernel28Ideal.Gen.k0_pay34, Cert.Kernel28Ideal.Gen.k0_pay35, Cert.Kernel28Ideal.Gen.k0_pay36, Cert.Kernel28Ideal.Gen.k0_pay37, Cert.Kernel28Ideal.Gen.k0_pay38, Cert.Kernel28Ideal.Gen.k0_pay39, Cert.Kernel28Ideal.Gen.k0_pay40, Cert.Kernel28Ideal.Gen.k0_pay41, Cert.Kernel28Ideal.Gen.k0_pay42, Cert.Kernel28Ideal.Gen.k0_pay43, Cert.Kernel28Ideal.Gen.k0_pay44, Cert.Kernel28Ideal.Gen.k0_pay45, Cert.Kernel28Ideal.Gen.k0_pay46, Cert.Kernel28Ideal.Gen.k0_pay47, Cert.Kernel28Ideal.Gen.k0_pay48, Cert.Kernel28Ideal.Gen.k0_pay49, Cert.Kernel28Ideal.Gen.k0_pay50, Cert.Kernel28Ideal.Gen.k0_pay51, Cert.Kernel28Ideal.Gen.k0_pay52, Cert.Kernel28Ideal.Gen.k0_pay53, Cert.Kernel28Ideal.Gen.k0_pay54, Cert.Kernel28Ideal.Gen.k0_pay55, zero_sub]
  · rw [(hagree c).1, (hagree c).2.1, (hagree c).2.2.1, (hagree c).2.2.2.2.2.2.2.1, (hagree c).2.2.2.2.2.2.2.2]
    funext i
    obtain ⟨r, n, rfl⟩ := ix_all i
    pointwise [Cert.Kernel28Ideal.Gen.k0_pay1, Cert.Kernel28Ideal.Gen.k0_pay2, Cert.Kernel28Ideal.Gen.k0_pay3, Cert.Kernel28Ideal.Gen.k0_pay4, Cert.Kernel28Ideal.Gen.k0_pay5, Cert.Kernel28Ideal.Gen.k0_pay6, Cert.Kernel28Ideal.Gen.k0_pay7, Cert.Kernel28Ideal.Gen.k0_pay8, Cert.Kernel28Ideal.Gen.k0_pay9, Cert.Kernel28Ideal.Gen.k0_pay10, Cert.Kernel28Ideal.Gen.k0_pay11, Cert.Kernel28Ideal.Gen.k0_pay12, Cert.Kernel28Ideal.Gen.k0_pay13, Cert.Kernel28Ideal.Gen.k0_pay14, Cert.Kernel28Ideal.Gen.k0_pay15, Cert.Kernel28Ideal.Gen.k0_pay16, Cert.Kernel28Ideal.Gen.k0_pay17, Cert.Kernel28Ideal.Gen.k0_pay18, Cert.Kernel28Ideal.Gen.k0_pay19, Cert.Kernel28Ideal.Gen.k0_pay20, Cert.Kernel28Ideal.Gen.k0_pay21, Cert.Kernel28Ideal.Gen.k0_pay22, Cert.Kernel28Ideal.Gen.k0_pay23, Cert.Kernel28Ideal.Gen.k0_pay24, Cert.Kernel28Ideal.Gen.k0_pay25, Cert.Kernel28Ideal.Gen.k0_pay26, Cert.Kernel28Ideal.Gen.k0_pay27, Cert.Kernel28Ideal.Gen.k0_pay28, Cert.Kernel28Ideal.Gen.k0_pay29, Cert.Kernel28Ideal.Gen.k0_pay30, Cert.Kernel28Ideal.Gen.k0_pay31, Cert.Kernel28Ideal.Gen.k0_pay32, Cert.Kernel28Ideal.Gen.k0_pay33, Cert.Kernel28Ideal.Gen.k0_pay34, Cert.Kernel28Ideal.Gen.k0_pay35, Cert.Kernel28Ideal.Gen.k0_pay36, Cert.Kernel28Ideal.Gen.k0_pay37, Cert.Kernel28Ideal.Gen.k0_pay38, Cert.Kernel28Ideal.Gen.k0_pay39, Cert.Kernel28Ideal.Gen.k0_pay40, Cert.Kernel28Ideal.Gen.k0_pay41, Cert.Kernel28Ideal.Gen.k0_pay42, Cert.Kernel28Ideal.Gen.k0_pay43, Cert.Kernel28Ideal.Gen.k0_pay44, Cert.Kernel28Ideal.Gen.k0_pay45, Cert.Kernel28Ideal.Gen.k0_pay46, Cert.Kernel28Ideal.Gen.k0_pay47, Cert.Kernel28Ideal.Gen.k0_pay48, Cert.Kernel28Ideal.Gen.k0_pay49, Cert.Kernel28Ideal.Gen.k0_pay50, Cert.Kernel28Ideal.Gen.k0_pay51, Cert.Kernel28Ideal.Gen.k0_pay52, Cert.Kernel28Ideal.Gen.k0_pay53, Cert.Kernel28Ideal.Gen.k0_pay54, Cert.Kernel28Ideal.Gen.k0_pay55, zero_sub]
  · rw [(hagree c).1, (hagree c).2.1, (hagree c).2.2.1, (hagree c).2.2.2.2.2.2.2.1, (hagree c).2.2.2.2.2.2.2.2]
    funext i
    obtain ⟨r, n, rfl⟩ := ix_all i
    pointwise [Cert.Kernel28Ideal.Gen.k0_pay1, Cert.Kernel28Ideal.Gen.k0_pay2, Cert.Kernel28Ideal.Gen.k0_pay3, Cert.Kernel28Ideal.Gen.k0_pay4, Cert.Kernel28Ideal.Gen.k0_pay5, Cert.Kernel28Ideal.Gen.k0_pay6, Cert.Kernel28Ideal.Gen.k0_pay7, Cert.Kernel28Ideal.Gen.k0_pay8, Cert.Kernel28Ideal.Gen.k0_pay9, Cert.Kernel28Ideal.Gen.k0_pay10, Cert.Kernel28Ideal.Gen.k0_pay11, Cert.Kernel28Ideal.Gen.k0_pay12, Cert.Kernel28Ideal.Gen.k0_pay13, Cert.Kernel28Ideal.Gen.k0_pay14, Cert.Kernel28Ideal.Gen.k0_pay15, Cert.Kernel28Ideal.Gen.k0_pay16, Cert.Kernel28Ideal.Gen.k0_pay17, Cert.Kernel28Ideal.Gen.k0_pay18, Cert.Kernel28Ideal.Gen.k0_pay19, Cert.Kernel28Ideal.Gen.k0_pay20, Cert.Kernel28Ideal.Gen.k0_pay21, Cert.Kernel28Ideal.Gen.k0_pay22, Cert.Kernel28Ideal.Gen.k0_pay23, Cert.Kernel28Ideal.Gen.k0_pay24, Cert.Kernel28Ideal.Gen.k0_pay25, Cert.Kernel28Ideal.Gen.k0_pay26, Cert.Kernel28Ideal.Gen.k0_pay27, Cert.Kernel28Ideal.Gen.k0_pay28, Cert.Kernel28Ideal.Gen.k0_pay29, Cert.Kernel28Ideal.Gen.k0_pay30, Cert.Kernel28Ideal.Gen.k0_pay31, Cert.Kernel28Ideal.Gen.k0_pay32, Cert.Kernel28Ideal.Gen.k0_pay33, Cert.Kernel28Ideal.Gen.k0_pay34, Cert.Kernel28Ideal.Gen.k0_pay35, Cert.Kernel28Ideal.Gen.k0_pay36, Cert.Kernel28Ideal.Gen.k0_pay37, Cert.Kernel28Ideal.Gen.k0_pay38, Cert.Kernel28Ideal.Gen.k0_pay39, Cert.Kernel28Ideal.Gen.k0_pay40, Cert.Kernel28Ideal.Gen.k0_pay41, Cert.Kernel28Ideal.Gen.k0_pay42, Cert.Kernel28Ideal.Gen.k0_pay43, Cert.Kernel28Ideal.Gen.k0_pay44, Cert.Kernel28Ideal.Gen.k0_pay45, Cert.Kernel28Ideal.Gen.k0_pay46, Cert.Kernel28Ideal.Gen.k0_pay47, Cert.Kernel28Ideal.Gen.k0_pay48, Cert.Kernel28Ideal.Gen.k0_pay49, Cert.Kernel28Ideal.Gen.k0_pay50, Cert.Kernel28Ideal.Gen.k0_pay51, Cert.Kernel28Ideal.Gen.k0_pay52, Cert.Kernel28Ideal.Gen.k0_pay53, Cert.Kernel28Ideal.Gen.k0_pay54, Cert.Kernel28Ideal.Gen.k0_pay55, zero_sub]

end Cert.Proof.S5Adj
end
-- ==== Proof.Dwd.lean ====
/-
  The gradient of the down projection: the value of the pipelined kernel.

  Grid point `t` takes hidden shard `t / 2` and half `t % 2` of the rows. The first half's product goes into the scratch
  accumulator, the second half's is added to it, and the sum, scaled, is the shard's gradient: at every index the sum
  over all rows.
-/
module

public import proofs.«01_k».proof.Proof.Gen.Kernel2Ideal.Value
public import Idealize.ShloMosaic.Lib.Pointwise
public import Idealize.ShloMosaic.Lib.VecWindow
public import Idealize.ShloMosaic.Lib.StableHlo.ReadAt
public import proofs.«01_k».proof.Proof.Reals

@[expose] public section

set_option maxRecDepth 16384

noncomputable section

namespace Cert.Kernel2Ideal.Dwd

open Cert.Kernel2Ideal Cert.Kernel2Ideal.Gen Idealize.ShloMosaic Idealize.ShloMosaic.TcCoe Idealize.SL.Sem
open Cert.Hand

/-! ## The payloads at an index -/

theorem pay2_apply (v0 : Vec Ideal S1x2048x704 .bf16) (v2 : Vec Ideal S1x2048x1024 .bf16) (f : Fin 704) (d : Fin 1024) :
    k0_pay2 v0 v2 (ix2 f d) = ∑ k : Fin 2048, v0 (ix3 0 k f) * v2 (ix3 0 k d) := by
  pointwise [k0_pay2, k0_pay1]

theorem pay3_apply (v0 : Vec Ideal S1x2048x704 .bf16) (v2 : Vec Ideal S1x2048x1024 .bf16) (acc : Vec Ideal S704x1024 .f32) (f : Fin 704) (d : Fin 1024) :
    k0_pay3 v0 v2 acc (ix2 f d) = acc (ix2 f d) + ∑ k : Fin 2048, v0 (ix3 0 k f) * v2 (ix3 0 k d) := by
  pointwise [k0_pay3, k0_pay1]

theorem pay4_apply (acc : Vec Ideal S704x1024 .f32) (f : Fin 704) (d : Fin 1024) :
    k0_pay4 acc (ix3 0 f d) = acc (ix2 f d) * Ideal.ofBits .f32 0x3F000000#32 := by
  pointwise [k0_pay4]

/-! ## The blocks -/

section
variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator after a first half. -/
theorem accA (c : Dev nD) (t : Fin cfg0.N) (h0 : t.val % 2 = 0) (h1 : ¬t.val % 2 = 1) :
    (outsAt0 m c t.val t.isLt).2 = k0_pay2 (iblk m c 0 t) (iblk m c 1 t) := by
  rw [outsAt0_A m c t h0 h1 h1]
  unfold sout0_A_0
  dsimp only
  unfold kernelRun0_A
  dsimp only
  sl_unfold_words
  rw [View.read_writes_full]
  simp only [View.readAt_eq_ld, (hs0_0 t).read_unread, (hs0_1 t).read_unread]
  exact congr (congrArg k0_pay2 (View.ld_unit_zero (S := S1x2048x704) hz3 _ _)) (View.ld_unit_zero (S := S1x2048x1024) hz3 _ _)

/-- The result's buffer after a second half. -/
theorem outB (c : Dev nD) (t : Fin cfg0.N) (h0 : ¬t.val % 2 = 0) (h1 : t.val % 2 = 1) :
    (outsAt0 m c t.val t.isLt).1 = k0_pay4 (k0_pay3 (iblk m c 0 t) (iblk m c 1 t) (outsAt0 m c (t.val - 1) (Nat.lt_of_le_of_lt (Nat.sub_le _ _) t.isLt)).2) := by
  rw [outsAt0_B m c t h0 h1 h1]
  unfold out0_B_2
  dsimp only
  unfold kernelRun0_B
  dsimp only
  sl_unfold_words
  rw [View.read_writes_full]
  simp only [View.readAt_eq_ld, (hs0_0 t).read_unread, (hs0_1 t).read_unread]
  rw [View.readCov_full]
  exact congrArg k0_pay4 (congr (congr (congrArg k0_pay3 (View.ld_unit_zero (S := S1x2048x704) hz3 _ _)) (View.ld_unit_zero (S := S1x2048x1024) hz3 _ _))
    ((View.ld_unit_zero (S := S704x1024) hz2 _ _).trans ((Memref.isWhole_whole _).read_unread _)))

theorem idx0 : ∀ t : Fin cfg0.N, win0_0.index t 0 * win0_0.size 0 = t.val / 2 ∧ win0_0.index t 1 * win0_0.size 1 = 2048 * (t.val % 2) ∧ win0_0.index t 2 * win0_0.size 2 = 0 :=
  (by decide +kernel : ∀ t : Fin grid0.N, win0_0.index t 0 * win0_0.size 0 = t.val / 2 ∧ win0_0.index t 1 * win0_0.size 1 = 2048 * (t.val % 2) ∧ win0_0.index t 2 * win0_0.size 2 = 0)
theorem idx1 : ∀ t : Fin cfg0.N, win0_1.index t 0 * win0_1.size 0 = 0 ∧ win0_1.index t 1 * win0_1.size 1 = 2048 * (t.val % 2) ∧ win0_1.index t 2 * win0_1.size 2 = 0 :=
  (by decide +kernel : ∀ t : Fin grid0.N, win0_1.index t 0 * win0_1.size 0 = 0 ∧ win0_1.index t 1 * win0_1.size 1 = 2048 * (t.val % 2) ∧ win0_1.index t 2 * win0_1.size 2 = 0)
theorem idx2 : ∀ t : Fin cfg0.N, win0_2.index t 0 * win0_2.size 0 = t.val / 2 ∧ win0_2.index t 1 * win0_2.size 1 = 0 ∧ win0_2.index t 2 * win0_2.size 2 = 0 :=
  (by decide +kernel : ∀ t : Fin grid0.N, win0_2.index t 0 * win0_2.size 0 = t.val / 2 ∧ win0_2.index t 1 * win0_2.size 1 = 0 ∧ win0_2.index t 2 * win0_2.size 2 = 0)

theorem iblk0 (c : Dev nD) (t : Fin cfg0.N) (k : Fin 2048) (f : Fin 704) (g : Fin 4) (l : Fin 4096)
    (hg : g.val = t.val / 2) (hl : l.val = 2048 * (t.val % 2) + k.val) :
    iblk m c 0 t (ix3 0 k f) = m ((c : Thread nD τ).loc main_arg0) (ix3 g l f) := by
  unfold iblk
  rw [View.read_apply]
  refine congrArg (m ((c : Thread nD τ).loc main_arg0)) (funext fun a => Fin.ext ?_)
  match a with
  | ⟨0, _⟩ => show win0_0.index t 0 * win0_0.size 0 + 1 * 0 = g.val; rw [(idx0 t).1, hg]; omega
  | ⟨1, _⟩ => show win0_0.index t 1 * win0_0.size 1 + 1 * k.val = l.val; rw [(idx0 t).2.1, hl]; omega
  | ⟨2, _⟩ => show win0_0.index t 2 * win0_0.size 2 + 1 * f.val = f.val; rw [(idx0 t).2.2]; omega

/-- The one-matrix stack that the kernel's second operand is. -/
theorem stack_apply (c : Dev nD) (l : Fin 4096) (d : Fin 1024) :
    V m c main_v0 (ix3 0 l d) = m ((c : Thread nD τ).loc main_arg1) (ix2 l d) := by
  unfold V
  after_reads_at

theorem iblk1 (c : Dev nD) (t : Fin cfg0.N) (k : Fin 2048) (d : Fin 1024) (l : Fin 4096) (hl : l.val = 2048 * (t.val % 2) + k.val) :
    iblk m c 1 t (ix3 0 k d) = m ((c : Thread nD τ).loc main_arg1) (ix2 l d) := by
  refine Eq.trans ?_ (stack_apply m c l d)
  unfold iblk
  rw [View.read_apply]
  refine congrArg (V m c main_v0) (funext fun a => Fin.ext ?_)
  match a with
  | ⟨0, _⟩ => show win0_1.index t 0 * win0_1.size 0 + 1 * 0 = 0; rw [(idx1 t).1]
  | ⟨1, _⟩ => show win0_1.index t 1 * win0_1.size 1 + 1 * k.val = l.val; rw [(idx1 t).2.1, hl]; omega
  | ⟨2, _⟩ => show win0_1.index t 2 * win0_1.size 2 + 1 * d.val = d.val; rw [(idx1 t).2.2]; omega

end

/-! ## The result array -/

section
variable (m : (ℓ : Loc nD τ sig) → Buf (Elt Ideal) ℓ)

theorem lt_N (t : Fin cfg0.N) : t.val < 8 := lt_of_lt_of_eq t.isLt N_0

/-- The device's arguments, by name. -/
abbrev aX (c : Dev nD) : FVec Ideal S4x4096x704 .bf16 := m ((c : Thread nD τ).loc main_arg0)
abbrev aDx (c : Dev nD) : FVec Ideal S4096x1024 .bf16 := m ((c : Thread nD τ).loc main_arg1)

/-- The gradient: the product over all rows, scaled. -/
def dwAt (x : FVec Ideal S4x4096x704 .bf16) (dx : FVec Ideal S4096x1024 .bf16) (g : Fin 4) (f : Fin 704) (d : Fin 1024) : EReal :=
  (∑ l : Fin 4096, x (ix3 g l f) * dx (ix2 l d)) * Ideal.ofBits .f32 0x3F000000#32
def dw (x : FVec Ideal S4x4096x704 .bf16) (dx : FVec Ideal S4096x1024 .bf16) : FVec Ideal S4x704x1024 .bf16 :=
  fun i => dwAt x dx (i 0) (i 1) (i 2)

/-- What a second half leaves in the result's buffer, at an index. -/
theorem out_apply (c : Dev nD) (t : Fin cfg0.N) (h1 : t.val % 2 = 1) (f : Fin 704) (d : Fin 1024) (g : Fin 4) (hg : g.val = t.val / 2) :
    (outsAt0 m c t.val t.isLt).1 (ix3 0 f d) = dwAt (aX m c) (aDx m c) g f d := by
  have ht := lt_N t
  have hN : cfg0.N = 8 := N_0
  have hp : t.val - 1 < cfg0.N := by omega
  rw [outB m c t (by omega) h1, pay4_apply, pay3_apply]
  have hA : (outsAt0 m c (t.val - 1) (Nat.lt_of_le_of_lt (Nat.sub_le _ _) t.isLt)).2
      = k0_pay2 (iblk m c 0 ⟨t.val - 1, hp⟩) (iblk m c 1 ⟨t.val - 1, hp⟩) :=
    accA m c ⟨t.val - 1, hp⟩ (by dsimp only; omega) (by dsimp only; omega)
  rw [hA, pay2_apply]
  unfold dwAt
  refine congrArg (· * Ideal.ofBits .f32 0x3F000000#32) ?_
  rw [show (∑ l : Fin 4096, aX m c (ix3 g l f) * aDx m c (ix2 l d)) = _ from
    Fin.sum_univ_add (a := 2048) (b := 2048) fun l => aX m c (ix3 g l f) * aDx m c (ix2 l d)]
  refine congr (congrArg _ (Finset.sum_congr rfl fun k _ => ?_)) (Finset.sum_congr rfl fun k _ => ?_)
  · rw [iblk0 m c ⟨t.val - 1, hp⟩ k f g (Fin.castAdd 2048 k) (by dsimp only; omega) (by simp only [Fin.val_castAdd]; omega),
      iblk1 m c ⟨t.val - 1, hp⟩ k d (Fin.castAdd 2048 k) (by simp only [Fin.val_castAdd]; omega)]
  · rw [iblk0 m c t k f g (Fin.natAdd 2048 k) hg (by simp only [Fin.val_natAdd]; omega),
      iblk1 m c t k d (Fin.natAdd 2048 k) (by simp only [Fin.val_natAdd]; omega)]

/-- The array index that block index `(0, f, d)` of point `t` is. -/
theorem emb2 (t : Fin cfg0.N) (f : Fin 704) (d : Fin 1024) (g : Fin 4) (hg : g.val = t.val / 2) :
    (win0_2.blk t).view.emb (ix3 0 f d) = (ix3 g f d : S4x704x1024.Idx) := by
  refine funext fun a => Fin.ext ?_
  match a with
  | ⟨0, _⟩ => show win0_2.index t 0 * win0_2.size 0 + 1 * 0 = g.val; rw [(idx2 t).1, hg]; omega
  | ⟨1, _⟩ => show win0_2.index t 1 * win0_2.size 1 + 1 * f.val = f.val; rw [(idx2 t).2.1]; omega
  | ⟨2, _⟩ => show win0_2.index t 2 * win0_2.size 2 + 1 * d.val = d.val; rw [(idx2 t).2.2]; omega

theorem flushed2 (c : Dev nD) (t : Fin cfg0.N) (hf : (cfg0.win 2).flush t = true) :
    (dats m 0 c).flushed 2 t = (win0_2.blk t).view.read (Elt Ideal) (dw (aX m c) (aDx m c)) := by
  rw [Value.flushed2]
  funext y
  obtain ⟨z, f, d, rfl⟩ : ∃ (z : Fin 1) (f : Fin 704) (d : Fin 1024), y = ix3 z f d :=
    ⟨y 0, y 1, y 2, by funext a; match a with | ⟨0, _⟩ => rfl | ⟨1, _⟩ => rfl | ⟨2, _⟩ => rfl⟩
  obtain rfl : z = 0 := Subsingleton.elim _ _
  have ht := lt_N t
  have hg : (⟨t.val / 2, by omega⟩ : Fin 4).val = t.val / 2 := rfl
  rw [View.read_apply]
  refine Eq.trans ?_ (congrArg (dw (aX m c) (aDx m c)) (emb2 t f d _ hg).symm)
  exact out_apply m c t ((flush0_2 t).mp hf) f d _ hg

/-- Every index of the result lies in the block written after its shard's second half. -/
theorem cover2 (i : S4x704x1024.Idx) : ∃ t : Fin cfg0.N, (cfg0.win 2).flush t = true ∧ i ∈ ((cfg0.win 2).blk t).view.set := by
  have h0 : (i 0 : Nat) < 4 := (i 0).isLt
  have hN : cfg0.N = 8 := N_0
  have ht : 2 * (i 0 : Nat) + 1 < cfg0.N := by omega
  refine ⟨⟨_, ht⟩, (flush0_2 _).mpr (by dsimp only; omega), ?_⟩
  have e : (win0_2.blk ⟨_, ht⟩).view.emb (ix3 0 (i 1) (i 2)) = i :=
    (emb2 ⟨_, ht⟩ (i 1) (i 2) (i 0) (by dsimp only; omega)).trans
      (by funext a; match a with | ⟨0, _⟩ => rfl | ⟨1, _⟩ => rfl | ⟨2, _⟩ => rfl)
  exact (congrArg (fun j => j ∈ ((cfg0.win 2).blk ⟨_, ht⟩).view.set) e).mp (Finset.mem_map_of_mem _ (Finset.mem_univ _))

theorem final2 (c : Dev nD) : (dats m 0 c).arrAt 2 cfg0.N = dw (aX m c) (aDx m c) :=
  (dats m 0 c).arrAt_eq_of_cover 2 _ (fun t hf => flushed2 m c t hf) cover2

end
end Cert.Kernel2Ideal.Dwd
end
-- ==== Proof.DwdClaim.lean ====
/-
  The gradient of the down projection: the value of the reference, and the comparison.

  The reference scales the cotangent by one half and then sums over all rows; the kernel scales the sum. A half is a
  nonnegative real number, so it distributes over any sum of extended reals and the two agree everywhere.
-/
module

public import proofs.«01_k».proof.Proof.Dwd
public import proofs.«01_k».proof.Proof.Gen.Reference2Ideal.Run
public import proofs.«01_k».proof.Defs
public import Idealize.ShloMosaic.Lib.Quiescent

@[expose] public section

set_option maxRecDepth 16384

noncomputable section

namespace Cert.Reference2Ideal.Dwd

open Cert.Reference2Ideal Cert.Reference2Ideal.Gen Idealize.ShloMosaic Idealize.ShloMosaic.TcCoe Idealize.SL.Sem
open Cert.Hand

variable (x : FVec Ideal S4x4096x704 .bf16) (dx : FVec Ideal S4096x1024 .bf16)

/-- The reference's result, of its arguments. -/
def dw : FVec Ideal S4x704x1024 .bf16 :=
  truncf .bf16 (transpose S4x704x1024 [1,2,0] (Host.dotGeneral dot_S4096x1024_S4x4096x704_S1024x4x704_0_1_1_02_n_n none (mulf (broadcastInDim S4096x1024 ![] bcast_S_S4096x1024 (constant S_ .f32 0x3F000000#32)) (extf .f32 dx bitsLt_bf16_f32)) (extf .f32 x bitsLt_bf16_f32)) transposes_S1024x4x704_S4x704x1024_1_2_0) bitsLt_bf16_f32

theorem dw_apply (g : Fin 4) (f : Fin 704) (d : Fin 1024) :
    dw x dx (ix3 g f d) = ∑ l : Fin 4096, Ideal.ofBits .f32 0x3F000000#32 * dx (ix2 l d) * x (ix3 g l f) := by
  pointwise [dw]

/-- The half in front of the sum or inside it. -/
theorem dw_eq : Cert.Kernel2Ideal.Dwd.dw x dx = dw x dx := by
  funext i
  obtain ⟨g, f, d, rfl⟩ : ∃ (g : Fin 4) (f : Fin 704) (d : Fin 1024), i = ix3 g f d :=
    ⟨i 0, i 1, i 2, by funext x; match x with | ⟨0, _⟩ => rfl | ⟨1, _⟩ => rfl | ⟨2, _⟩ => rfl⟩
  rw [dw_apply]
  show (∑ l : Fin 4096, x (ix3 g l f) * dx (ix2 l d)) * Ideal.ofBits .f32 0x3F000000#32 = _
  rw [mul_comm, half_mul_sum]
  exact Finset.sum_congr rfl fun l _ => by rw [mul_comm (x (ix3 g l f)), mul_assoc]

end Cert.Reference2Ideal.Dwd

namespace Cert.Proof.Dwd

open Idealize.ShloMosaic Idealize.ShloMosaic.TcCoe Idealize.SL.Sem

theorem frame_reference : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem algebraic : Cert.algebraic_Kernel2Ideal_Reference2Ideal := by
  intro m ρ m' ρ' _ hagree
  refine ⟨fun c => Cert.Kernel2Ideal.Dwd.dw (Cert.Kernel2Ideal.Dwd.aX m c) (Cert.Kernel2Ideal.Dwd.aDx m c), ?_, ?_⟩
  · exact (θ_run Cert.Kernel2Ideal.defs _ _).mono
      (fun _ h c => ⟨(h c).1.trans (Cert.Kernel2Ideal.Dwd.final2 m c), (h c).2⟩)
      (Cert.Kernel2Ideal.Value.run_blocks (F := Ideal) m ρ)
  refine (θ_run Cert.Reference2Ideal.defs _ _).mono (fun _ h c => ⟨(h c).1.trans ?_, (h c).2⟩)
    (Cert.Reference2Ideal.Value.run (F := Ideal) m' ρ')
  rw [(hagree c).1, (hagree c).2]
  exact (Cert.Reference2Ideal.Dwd.dw_eq _ _).symm

end Cert.Proof.Dwd
end
-- ==== Proof.Dwg.lean ====
/-
  The gradient of the gate and up projections: the value of the pipelined kernel.

  Grid point `t` takes hidden shard `t / 2` and half `t % 2` of the rows. The first half's product goes into the scratch
  accumulator, the second half's is added to it, and the sum, scaled, is the shard's gradient: at every index the sum
  over all rows.
-/
module

public import proofs.«01_k».proof.Proof.Gen.Kernel3Ideal.Value
public import Idealize.ShloMosaic.Lib.Pointwise
public import Idealize.ShloMosaic.Lib.VecWindow
public import Idealize.ShloMosaic.Lib.StableHlo.ReadAt
public import proofs.«01_k».proof.Proof.Reals

@[expose] public section

set_option maxRecDepth 16384

noncomputable section

namespace Cert.Kernel3Ideal.Dwg

open Cert.Kernel3Ideal Cert.Kernel3Ideal.Gen Idealize.ShloMosaic Idealize.ShloMosaic.TcCoe Idealize.SL.Sem
open Cert.Hand

/-! ## The payloads at an index -/

theorem pay2_apply (v0 : Vec Ideal S1x2048x704 .bf16) (v2 : Vec Ideal S1x2048x1024 .bf16) (f : Fin 704) (d : Fin 1024) :
    k0_pay2 v0 v2 (ix2 f d) = ∑ k : Fin 2048, v0 (ix3 0 k f) * v2 (ix3 0 k d) := by
  pointwise [k0_pay2, k0_pay1]

theorem pay3_apply (v0 : Vec Ideal S1x2048x704 .bf16) (v2 : Vec Ideal S1x2048x1024 .bf16) (acc : Vec Ideal S704x1024 .f32) (f : Fin 704) (d : Fin 1024) :
    k0_pay3 v0 v2 acc (ix2 f d) = acc (ix2 f d) + ∑ k : Fin 2048, v0 (ix3 0 k f) * v2 (ix3 0 k d) := by
  pointwise [k0_pay3, k0_pay1]

theorem pay4_apply (acc : Vec Ideal S704x1024 .f32) (f : Fin 704) (d : Fin 1024) :
    k0_pay4 acc (ix3 0 f d) = acc (ix2 f d) * Ideal.ofBits .f32 0x3F800000#32 := by
  pointwise [k0_pay4]

/-! ## The blocks -/

section
variable {F : FTy → Type} [FloatOps F]
variable (m : (ℓ : Loc nD τ sig) → Buf (Elt F) ℓ)

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator after a first half. -/
theorem accA (c : Dev nD) (t : Fin cfg0.N) (h0 : t.val % 2 = 0) (h1 : ¬t.val % 2 = 1) :
    (outsAt0 m c t.val t.isLt).2 = k0_pay2 (iblk m c 0 t) (iblk m c 1 t) := by
  rw [outsAt0_A m c t h0 h1 h1]
  unfold sout0_A_0
  dsimp only
  unfold kernelRun0_A
  dsimp only
  sl_unfold_words
  rw [View.read_writes_full]
  simp only [View.readAt_eq_ld, (hs0_0 t).read_unread, (hs0_1 t).read_unread]
  exact congr (congrArg k0_pay2 (View.ld_unit_zero (S := S1x2048x704) hz3 _ _)) (View.ld_unit_zero (S := S1x2048x1024) hz3 _ _)

/-- The result's buffer after a second half. -/
theorem outB (c : Dev nD) (t : Fin cfg0.N) (h0 : ¬t.val % 2 = 0) (h1 : t.val % 2 = 1) :
    (outsAt0 m c t.val t.isLt).1 = k0_pay4 (k0_pay3 (iblk m c 0 t) (iblk m c 1 t) (outsAt0 m c (t.val - 1) (Nat.lt_of_le_of_lt (Nat.sub_le _ _) t.isLt)).2) := by
  rw [outsAt0_B m c t h0 h1 h1]
  unfold out0_B_2
  dsimp only
  unfold kernelRun0_B
  dsimp only
  sl_unfold_words
  rw [View.read_writes_full]
  simp only [View.readAt_eq_ld, (hs0_0 t).read_unread, (hs0_1 t).read_unread]
  rw [View.readCov_full]
  exact congrArg k0_pay4 (congr (congr (congrArg k0_pay3 (View.ld_unit_zero (S := S1x2048x704) hz3 _ _)) (View.ld_unit_zero (S := S1x2048x1024) hz3 _ _))
    ((View.ld_unit_zero (S := S704x1024) hz2 _ _).trans ((Memref.isWhole_whole _).read_unread _)))

theorem idx0 : ∀ t : Fin cfg0.N, win0_0.index t 0 * win0_0.size 0 = t.val / 2 ∧ win0_0.index t 1 * win0_0.size 1 = 2048 * (t.val % 2) ∧ win0_0.index t 2 * win0_0.size 2 = 0 :=
  (by decide +kernel : ∀ t : Fin grid0.N, win0_0.index t 0 * win0_0.size 0 = t.val / 2 ∧ win0_0.index t 1 * win0_0.size 1 = 2048 * (t.val % 2) ∧ win0_0.index t 2 * win0_0.size 2 = 0)
theorem idx1 : ∀ t : Fin cfg0.N, win0_1.index t 0 * win0_1.size 0 = 0 ∧ win0_1.index t 1 * win0_1.size 1 = 2048 * (t.val % 2) ∧ win0_1.index t 2 * win0_1.size 2 = 0 :=
  (by decide +kernel : ∀ t : Fin grid0.N, win0_1.index t 0 * win0_1.size 0 = 0 ∧ win0_1.index t 1 * win0_1.size 1 = 2048 * (t.val % 2) ∧ win0_1.index t 2 * win0_1.size 2 = 0)
theorem idx2 : ∀ t : Fin cfg0.N, win0_2.index t 0 * win0_2.size 0 = t.val / 2 ∧ win0_2.index t 1 * win0_2.size 1 = 0 ∧ win0_2.index t 2 * win0_2.size 2 = 0 :=
  (by decide +kernel : ∀ t : Fin grid0.N, win0_2.index t 0 * win0_2.size 0 = t.val / 2 ∧ win0_2.index t 1 * win0_2.size 1 = 0 ∧ win0_2.index t 2 * win0_2.size 2 = 0)

theorem iblk0 (c : Dev nD) (t : Fin cfg0.N) (k : Fin 2048) (f : Fin 704) (g : Fin 4) (l : Fin 4096)
    (hg : g.val = t.val / 2) (hl : l.val = 2048 * (t.val % 2) + k.val) :
    iblk m c 0 t (ix3 0 k f) = m ((c : Thread nD τ).loc main_arg0) (ix3 g l f) := by
  unfold iblk
  rw [View.read_apply]
  refine congrArg (m ((c : Thread nD τ).loc main_arg0)) (funext fun a => Fin.ext ?_)
  match a with
  | ⟨0, _⟩ => show win0_0.index t 0 * win0_0.size 0 + 1 * 0 = g.val; rw [(idx0 t).1, hg]; omega
  | ⟨1, _⟩ => show win0_0.index t 1 * win0_0.size 1 + 1 * k.val = l.val; rw [(idx0 t).2.1, hl]; omega
  | ⟨2, _⟩ => show win0_0.index t 2 * win0_0.size 2 + 1 * f.val = f.val; rw [(idx0 t).2.2]; omega

/-- The one-matrix stack that the kernel's second operand is. -/
theorem stack_apply (c : Dev nD) (l : Fin 4096) (d : Fin 1024) :
    V m c main_v0 (ix3 0 l d) = m ((c : Thread nD τ).loc main_arg1) (ix2 l d) := by
  unfold V
  after_reads_at

theorem iblk1 (c : Dev nD) (t : Fin cfg0.N) (k : Fin 2048) (d : Fin 1024) (l : Fin 4096) (hl : l.val = 2048 * (t.val % 2) + k.val) :
    iblk m c 1 t (ix3 0 k d) = m ((c : Thread nD τ).loc main_arg1) (ix2 l d) := by
  refine Eq.trans ?_ (stack_apply m c l d)
  unfold iblk
  rw [View.read_apply]
  refine congrArg (V m c main_v0) (funext fun a => Fin.ext ?_)
  match a with
  | ⟨0, _⟩ => show win0_1.index t 0 * win0_1.size 0 + 1 * 0 = 0; rw [(idx1 t).1]
  | ⟨1, _⟩ => show win0_1.index t 1 * win0_1.size 1 + 1 * k.val = l.val; rw [(idx1 t).2.1, hl]; omega
  | ⟨2, _⟩ => show win0_1.index t 2 * win0_1.size 2 + 1 * d.val = d.val; rw [(idx1 t).2.2]; omega

end

/-! ## The result array -/

section
variable (m : (ℓ : Loc nD τ sig) → Buf (Elt Ideal) ℓ)

theorem lt_N (t : Fin cfg0.N) : t.val < 8 := lt_of_lt_of_eq t.isLt N_0

/-- The device's arguments, by name. -/
abbrev aX (c : Dev nD) : FVec Ideal S4x4096x704 .bf16 := m ((c : Thread nD τ).loc main_arg0)
abbrev aDx (c : Dev nD) : FVec Ideal S4096x1024 .bf16 := m ((c : Thread nD τ).loc main_arg1)

/-- The gradient: the product over all rows, scaled. -/
def dwAt (x : FVec Ideal S4x4096x704 .bf16) (dx : FVec Ideal S4096x1024 .bf16) (g : Fin 4) (f : Fin 704) (d : Fin 1024) : EReal :=
  (∑ l : Fin 4096, x (ix3 g l f) * dx (ix2 l d)) * Ideal.ofBits .f32 0x3F800000#32
def dw (x : FVec Ideal S4x4096x704 .bf16) (dx : FVec Ideal S4096x1024 .bf16) : FVec Ideal S4x704x1024 .bf16 :=
  fun i => dwAt x dx (i 0) (i 1) (i 2)

/-- What a second half leaves in the result's buffer, at an index. -/
theorem out_apply (c : Dev nD) (t : Fin cfg0.N) (h1 : t.val % 2 = 1) (f : Fin 704) (d : Fin 1024) (g : Fin 4) (hg : g.val = t.val / 2) :
    (outsAt0 m c t.val t.isLt).1 (ix3 0 f d) = dwAt (aX m c) (aDx m c) g f d := by
  have ht := lt_N t
  have hN : cfg0.N = 8 := N_0
  have hp : t.val - 1 < cfg0.N := by omega
  rw [outB m c t (by omega) h1, pay4_apply, pay3_apply]
  have hA : (outsAt0 m c (t.val - 1) (Nat.lt_of_le_of_lt (Nat.sub_le _ _) t.isLt)).2
      = k0_pay2 (iblk m c 0 ⟨t.val - 1, hp⟩) (iblk m c 1 ⟨t.val - 1, hp⟩) :=
    accA m c ⟨t.val - 1, hp⟩ (by dsimp only; omega) (by dsimp only; omega)
  rw [hA, pay2_apply]
  unfold dwAt
  refine congrArg (· * Ideal.ofBits .f32 0x3F800000#32) ?_
  rw [show (∑ l : Fin 4096, aX m c (ix3 g l f) * aDx m c (ix2 l d)) = _ from
    Fin.sum_univ_add (a := 2048) (b := 2048) fun l => aX m c (ix3 g l f) * aDx m c (ix2 l d)]
  refine congr (congrArg _ (Finset.sum_congr rfl fun k _ => ?_)) (Finset.sum_congr rfl fun k _ => ?_)
  · rw [iblk0 m c ⟨t.val - 1, hp⟩ k f g (Fin.castAdd 2048 k) (by dsimp only; omega) (by simp only [Fin.val_castAdd]; omega),
      iblk1 m c ⟨t.val - 1, hp⟩ k d (Fin.castAdd 2048 k) (by simp only [Fin.val_castAdd]; omega)]
  · rw [iblk0 m c t k f g (Fin.natAdd 2048 k) hg (by simp only [Fin.val_natAdd]; omega),
      iblk1 m c t k d (Fin.natAdd 2048 k) (by simp only [Fin.val_natAdd]; omega)]

/-- The array index that block index `(0, f, d)` of point `t` is. -/
theorem emb2 (t : Fin cfg0.N) (f : Fin 704) (d : Fin 1024) (g : Fin 4) (hg : g.val = t.val / 2) :
    (win0_2.blk t).view.emb (ix3 0 f d) = (ix3 g f d : S4x704x1024.Idx) := by
  refine funext fun a => Fin.ext ?_
  match a with
  | ⟨0, _⟩ => show win0_2.index t 0 * win0_2.size 0 + 1 * 0 = g.val; rw [(idx2 t).1, hg]; omega
  | ⟨1, _⟩ => show win0_2.index t 1 * win0_2.size 1 + 1 * f.val = f.val; rw [(idx2 t).2.1]; omega
  | ⟨2, _⟩ => show win0_2.index t 2 * win0_2.size 2 + 1 * d.val = d.val; rw [(idx2 t).2.2]; omega

theorem flushed2 (c : Dev nD) (t : Fin cfg0.N) (hf : (cfg0.win 2).flush t = true) :
    (dats m 0 c).flushed 2 t = (win0_2.blk t).view.read (Elt Ideal) (dw (aX m c) (aDx m c)) := by
  rw [Value.flushed2]
  funext y
  obtain ⟨z, f, d, rfl⟩ : ∃ (z : Fin 1) (f : Fin 704) (d : Fin 1024), y = ix3 z f d :=
    ⟨y 0, y 1, y 2, by funext a; match a with | ⟨0, _⟩ => rfl | ⟨1, _⟩ => rfl | ⟨2, _⟩ => rfl⟩
  obtain rfl : z = 0 := Subsingleton.elim _ _
  have ht := lt_N t
  have hg : (⟨t.val / 2, by omega⟩ : Fin 4).val = t.val / 2 := rfl
  rw [View.read_apply]
  refine Eq.trans ?_ (congrArg (dw (aX m c) (aDx m c)) (emb2 t f d _ hg).symm)
  exact out_apply m c t ((flush0_2 t).mp hf) f d _ hg

/-- Every index of the result lies in the block written after its shard's second half. -/
theorem cover2 (i : S4x704x1024.Idx) : ∃ t : Fin cfg0.N, (cfg0.win 2).flush t = true ∧ i ∈ ((cfg0.win 2).blk t).view.set := by
  have h0 : (i 0 : Nat) < 4 := (i 0).isLt
  have hN : cfg0.N = 8 := N_0
  have ht : 2 * (i 0 : Nat) + 1 < cfg0.N := by omega
  refine ⟨⟨_, ht⟩, (flush0_2 _).mpr (by dsimp only; omega), ?_⟩
  have e : (win0_2.blk ⟨_, ht⟩).view.emb (ix3 0 (i 1) (i 2)) = i :=
    (emb2 ⟨_, ht⟩ (i 1) (i 2) (i 0) (by dsimp only; omega)).trans
      (by funext a; match a with | ⟨0, _⟩ => rfl | ⟨1, _⟩ => rfl | ⟨2, _⟩ => rfl)
  exact (congrArg (fun j => j ∈ ((cfg0.win 2).blk ⟨_, ht⟩).view.set) e).mp (Finset.mem_map_of_mem _ (Finset.mem_univ _))

theorem final2 (c : Dev nD) : (dats m 0 c).arrAt 2 cfg0.N = dw (aX m c) (aDx m c) :=
  (dats m 0 c).arrAt_eq_of_cover 2 _ (fun t hf => flushed2 m c t hf) cover2

end
end Cert.Kernel3Ideal.Dwg
end
-- ==== Proof.DwgClaim.lean ====
/-
  The gradient of the gate and up projections: the value of the reference, and the comparison. Both are the product over
  all rows; the kernel also multiplies by one.
-/
module

public import proofs.«01_k».proof.Proof.Dwg
public import proofs.«01_k».proof.Proof.Gen.Reference3Ideal.Run
public import proofs.«01_k».proof.Defs
public import Idealize.ShloMosaic.Lib.Quiescent

@[expose] public section

set_option maxRecDepth 16384

noncomputable section

namespace Cert.Reference3Ideal.Dwg

open Cert.Reference3Ideal Cert.Reference3Ideal.Gen Idealize.ShloMosaic Idealize.ShloMosaic.TcCoe Idealize.SL.Sem
open Cert.Hand

variable (x : FVec Ideal S4x4096x704 .bf16) (dx : FVec Ideal S4096x1024 .bf16)

/-- The reference's result, of its arguments. -/
def dw : FVec Ideal S4x704x1024 .bf16 :=
  truncf .bf16 (Host.dotGeneral dot_S4x704x4096_S4096x1024_S4x704x1024_2_0_01_1_n_n none (transpose S4x704x4096 [0,2,1] (extf .f32 x bitsLt_bf16_f32) transposes_S4x4096x704_S4x704x4096_0_2_1) (extf .f32 dx bitsLt_bf16_f32)) bitsLt_bf16_f32

theorem dw_apply (g : Fin 4) (f : Fin 704) (d : Fin 1024) :
    dw x dx (ix3 g f d) = ∑ l : Fin 4096, x (ix3 g l f) * dx (ix2 l d) := by
  pointwise [dw]

/-- The kernel multiplies the product by one. -/
theorem dw_eq : Cert.Kernel3Ideal.Dwg.dw x dx = dw x dx := by
  funext i
  obtain ⟨g, f, d, rfl⟩ : ∃ (g : Fin 4) (f : Fin 704) (d : Fin 1024), i = ix3 g f d :=
    ⟨i 0, i 1, i 2, by funext x; match x with | ⟨0, _⟩ => rfl | ⟨1, _⟩ => rfl | ⟨2, _⟩ => rfl⟩
  rw [dw_apply]
  show (∑ l : Fin 4096, x (ix3 g l f) * dx (ix2 l d)) * Ideal.ofBits .f32 0x3F800000#32 = _
  rw [ofBits_one, mul_one]

end Cert.Reference3Ideal.Dwg

namespace Cert.Proof.Dwg

open Idealize.ShloMosaic Idealize.ShloMosaic.TcCoe Idealize.SL.Sem

theorem frame_reference : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

theorem algebraic : Cert.algebraic_Kernel3Ideal_Reference3Ideal := by
  intro m ρ m' ρ' _ hagree
  refine ⟨fun c => Cert.Kernel3Ideal.Dwg.dw (Cert.Kernel3Ideal.Dwg.aX m c) (Cert.Kernel3Ideal.Dwg.aDx m c), ?_, ?_⟩
  · exact (θ_run Cert.Kernel3Ideal.defs _ _).mono
      (fun _ h c => ⟨(h c).1.trans (Cert.Kernel3Ideal.Dwg.final2 m c), (h c).2⟩)
      (Cert.Kernel3Ideal.Value.run_blocks (F := Ideal) m ρ)
  refine (θ_run Cert.Reference3Ideal.defs _ _).mono (fun _ h c => ⟨(h c).1.trans ?_, (h c).2⟩)
    (Cert.Reference3Ideal.Value.run (F := Ideal) m' ρ')
  rw [(hagree c).1, (hagree c).2]
  exact (Cert.Reference3Ideal.Dwg.dw_eq _ _).symm

end Cert.Proof.Dwg
end
-- ==== Proof.Up.lean ====
/-
  The gated hidden units: the value of the pipelined kernel.

  Grid point `t` takes row block `t / 4` and hidden shard `t % 4`. Its block of each of the three results is the payload
  of its input blocks; read at an index, that is one formula of the arguments at the array's own index, and the sixteen
  blocks tile the arrays.
-/
module

public import proofs.«01_k».proof.Proof.Gen.Kernel5Ideal.Value
public import Idealize.ShloMosaic.Lib.Pointwise
public import Idealize.ShloMosaic.Lib.VecWindow
public import proofs.«01_k».proof.Proof.Reals

@[expose] public section

set_option maxRecDepth 16384

noncomputable section

namespace Cert.Kernel5Ideal.Up

open Cert.Kernel5Ideal Cert.Kernel5Ideal.Gen Idealize.ShloMosaic Idealize.ShloMosaic.TcCoe Idealize.SL.Sem
open Cert.Hand

/-! ## The formulas -/

/-- One branch: `h · wᵀ`, shard by shard. -/
def brAt (h : FVec Ideal S4096x1024 .bf16) (w : FVec Ideal S4x704x1024 .bf16) (g : Fin 4) (l : Fin 4096) (f : Fin 704) : EReal :=
  ∑ k : Fin 1024, h (ix2 l k) * w (ix3 g f k)

/-- The logistic function. -/
def sg (x : EReal) : EReal := Ideal.div 1 (1 + Ideal.exp (0 - x))

def br (h : FVec Ideal S4096x1024 .bf16) (w : FVec Ideal S4x704x1024 .bf16) : FVec Ideal S4x4096x704 .bf16 :=
  fun i => brAt h w (i 0) (i 1) (i 2)
def hid (h : FVec Ideal S4096x1024 .bf16) (wg wu : FVec Ideal S4x704x1024 .bf16) : FVec Ideal S4x4096x704 .bf16 :=
  fun i => brAt h wg (i 0) (i 1) (i 2) * sg (brAt h wg (i 0) (i 1) (i 2)) * brAt h wu (i 0) (i 1) (i 2)

/-! ## The payloads at an index -/

theorem pay3_apply (v0 : Vec Ideal S1024x1024 .bf16) (v2 : Vec Ideal S1x704x1024 .bf16) (r : Fin 1024) (f : Fin 704) :
    k0_pay3 v0 v2 (ix3 0 r f) = ∑ k : Fin 1024, v0 (ix2 r k) * v2 (ix3 0 f k) := by
  pointwise [k0_pay3, k0_pay1]
theorem pay4_apply (v0 : Vec Ideal S1024x1024 .bf16) (v2 : Vec Ideal S1x704x1024 .bf16) (r : Fin 1024) (f : Fin 704) :
    k0_pay4 v0 v2 (ix3 0 r f) = ∑ k : Fin 1024, v0 (ix2 r k) * v2 (ix3 0 f k) := by
  pointwise [k0_pay4, k0_pay2]
theorem pay5_apply (v0 : Vec Ideal S1024x1024 .bf16) (v2 v6 : Vec Ideal S1x704x1024 .bf16) (r : Fin 1024) (f : Fin 704) :
    k0_pay5 v0 v2 v6 (ix3 0 r f) = (∑ k : Fin 1024, v0 (ix2 r k) * v2 (ix3 0 f k)) * sg (∑ k : Fin 1024, v0 (ix2 r k) * v2 (ix3 0 f k))
      * ∑ k : Fin 1024, v0 (ix2 r k) * v6 (ix3 0 f k) := by
  pointwise [k0_pay5, k0_pay1, k0_pay2]
  rfl

/-! ## The blocks -/

section
variable {F : FTy → Type} [FloatOps F]
variable (m : (ℓ : Loc nD τ sig) → Buf (Elt F) ℓ)

theorem idx0 : ∀ t : Fin cfg0.N, win0_0.index t 0 * win0_0.size 0 = 1024 * (t.val / 4) ∧ win0_0.index t 1 * win0_0.size 1 = 0 :=
  (by decide +kernel : ∀ t : Fin grid0.N, win0_0.index t 0 * win0_0.size 0 = 1024 * (t.val / 4) ∧ win0_0.index t 1 * win0_0.size 1 = 0)
theorem idx1 : ∀ t : Fin cfg0.N, win0_1.index t 0 * win0_1.size 0 = 0 ∧ win0_1.index t 1 * win0_1.size 1 = 0 ∧ win0_1.index t 2 * win0_1.size 2 = 0 :=
  (by decide +kernel : ∀ t : Fin grid0.N, win0_1.index t 0 * win0_1.size 0 = 0 ∧ win0_1.index t 1 * win0_1.size 1 = 0 ∧ win0_1.index t 2 * win0_1.size 2 = 0)
theorem idx2 : ∀ t : Fin cfg0.N, win0_2.index t 0 * win0_2.size 0 = 0 ∧ win0_2.index t 1 * win0_2.size 1 = 0 ∧ win0_2.index t 2 * win0_2.size 2 = 0 :=
  (by decide +kernel : ∀ t : Fin grid0.N, win0_2.index t 0 * win0_2.size 0 = 0 ∧ win0_2.index t 1 * win0_2.size 1 = 0 ∧ win0_2.index t 2 * win0_2.size 2 = 0)
/-- The shard the body reads at point `t`. -/
theorem off1 : ∀ t : Fin cfg0.N, k0_off1 (grid0.coords t) 0 = t.val % 4 ∧ k0_off1 (grid0.coords t) 1 = 0 ∧ k0_off1 (grid0.coords t) 2 = 0 :=
  (by decide +kernel : ∀ t : Fin grid0.N, k0_off1 (grid0.coords t) 0 = t.val % 4 ∧ k0_off1 (grid0.coords t) 1 = 0 ∧ k0_off1 (grid0.coords t) 2 = 0)

theorem iblk0 (c : Dev nD) (t : Fin cfg0.N) (r k : Fin 1024) (l : Fin 4096) (hl : l.val = 1024 * (t.val / 4) + r.val) :
    iblk m c 0 t (ix2 r k) = m ((c : Thread nD τ).loc main_arg0) (ix2 l k) := by
  unfold iblk
  rw [View.read_apply]
  refine congrArg (m ((c : Thread nD τ).loc main_arg0)) (funext fun a => Fin.ext ?_)
  match a with
  | ⟨0, _⟩ => show win0_0.index t 0 * win0_0.size 0 + 1 * r.val = l.val; rw [(idx0 t).1, hl]; omega
  | ⟨1, _⟩ => show win0_0.index t 1 * win0_0.size 1 + 1 * k.val = k.val; rw [(idx0 t).2]; omega

/-- The shard of projection 1 that point `t` loads. -/
def wblk1 (c : Dev nD) (t : Fin cfg0.N) : Vec F S1x704x1024 .bf16 :=
  View.ld (S := S4x704x1024) (iblk m c 1 t) (Rect.unit (s := S4x704x1024) (k0_off1 (grid0.coords t)) S1x704x1024.size (k0_off1_inb (grid0.coords t)))

theorem wblk1_apply (c : Dev nD) (t : Fin cfg0.N) (f : Fin 704) (k : Fin 1024) (g : Fin 4) (hg : g.val = t.val % 4) :
    wblk1 m c t (ix3 0 f k) = m ((c : Thread nD τ).loc main_arg1) (ix3 g f k) := by
  unfold wblk1
  show iblk m c 1 t ((Rect.unit (s := S4x704x1024) (k0_off1 (grid0.coords t)) S1x704x1024.size (k0_off1_inb (grid0.coords t))).emb (ix3 0 f k)) = _
  unfold iblk
  rw [View.read_apply]
  refine congrArg (m ((c : Thread nD τ).loc main_arg1)) (funext fun a => Fin.ext ?_)
  match a with
  | ⟨0, _⟩ => show win0_1.index t 0 * win0_1.size 0 + 1 * (k0_off1 (grid0.coords t) 0 + 1 * 0) = g.val; rw [(idx1 t).1, (off1 t).1, hg]; omega
  | ⟨1, _⟩ => show win0_1.index t 1 * win0_1.size 1 + 1 * (k0_off1 (grid0.coords t) 1 + 1 * f.val) = f.val; rw [(idx1 t).2.1, (off1 t).2.1]; omega
  | ⟨2, _⟩ => show win0_1.index t 2 * win0_1.size 2 + 1 * (k0_off1 (grid0.coords t) 2 + 1 * k.val) = k.val; rw [(idx1 t).2.2, (off1 t).2.2]; omega

/-- The shard of projection 2 that point `t` loads. -/
def wblk2 (c : Dev nD) (t : Fin cfg0.N) : Vec F S1x704x1024 .bf16 :=
  View.ld (S := S4x704x1024) (iblk m c 2 t) (Rect.unit (s := S4x704x1024) (k0_off1 (grid0.coords t)) S1x704x1024.size (k0_off1_inb (grid0.coords t)))

theorem wblk2_apply (c : Dev nD) (t : Fin cfg0.N) (f : Fin 704) (k : Fin 1024) (g : Fin 4) (hg : g.val = t.val % 4) :
    wblk2 m c t (ix3 0 f k) = m ((c : Thread nD τ).loc main_arg2) (ix3 g f k) := by
  unfold wblk2
  show iblk m c 2 t ((Rect.unit (s := S4x704x1024) (k0_off1 (grid0.coords t)) S1x704x1024.size (k0_off1_inb (grid0.coords t))).emb (ix3 0 f k)) = _
  unfold iblk
  rw [View.read_apply]
  refine congrArg (m ((c : Thread nD τ).loc main_arg2)) (funext fun a => Fin.ext ?_)
  match a with
  | ⟨0, _⟩ => show win0_2.index t 0 * win0_2.size 0 + 1 * (k0_off1 (grid0.coords t) 0 + 1 * 0) = g.val; rw [(idx2 t).1, (off1 t).1, hg]; omega
  | ⟨1, _⟩ => show win0_2.index t 1 * win0_2.size 1 + 1 * (k0_off1 (grid0.coords t) 1 + 1 * f.val) = f.val; rw [(idx2 t).2.1, (off1 t).2.1]; omega
  | ⟨2, _⟩ => show win0_2.index t 2 * win0_2.size 2 + 1 * (k0_off1 (grid0.coords t) 2 + 1 * k.val) = k.val; rw [(idx2 t).2.2, (off1 t).2.2]; omega

theorem hz2 : (![0, 0] : Fin 2 → Nat) = fun _ => 0 := funext fun a => by fin_cases a <;> rfl

/-- What point `t` leaves in the gate result's buffer. -/
theorem out3 (c : Dev nD) (t : Fin cfg0.N) : (outsAt0 m c t).1 = k0_pay3 (iblk m c 0 t) (wblk1 m c t) := by
  unfold outsAt0 out0_A_3
  dsimp only
  unfold kernelRun0_A
  dsimp only
  sl_unfold_words
  rw [View.read_writes_full]
  simp only [View.readAt_eq_ld, (hs0_0 t).read_unread, (hs0_1 t).read_unread, (hs0_2 t).read_unread]
  exact congr (congrArg k0_pay3 (View.ld_unit_zero (S := S1024x1024) hz2 _ _)) rfl

/-- What point `t` leaves in the up result's buffer. -/
theorem out4 (c : Dev nD) (t : Fin cfg0.N) : (outsAt0 m c t).2.1 = k0_pay4 (iblk m c 0 t) (wblk2 m c t) := by
  unfold outsAt0 out0_A_4
  dsimp only
  unfold kernelRun0_A
  dsimp only
  sl_unfold_words
  rw [View.read_writes_full]
  simp only [View.readAt_eq_ld, (hs0_0 t).read_unread, (hs0_1 t).read_unread, (hs0_2 t).read_unread]
  exact congr (congrArg k0_pay4 (View.ld_unit_zero (S := S1024x1024) hz2 _ _)) rfl

/-- What point `t` leaves in the hidden result's buffer. -/
theorem out5 (c : Dev nD) (t : Fin cfg0.N) : (outsAt0 m c t).2.2 = k0_pay5 (iblk m c 0 t) (wblk1 m c t) (wblk2 m c t) := by
  unfold outsAt0 out0_A_5
  dsimp only
  unfold kernelRun0_A
  dsimp only
  sl_unfold_words
  rw [View.read_writes_full]
  simp only [View.readAt_eq_ld, (hs0_0 t).read_unread, (hs0_1 t).read_unread, (hs0_2 t).read_unread]
  exact congr (congr (congrArg k0_pay5 (View.ld_unit_zero (S := S1024x1024) hz2 _ _)) rfl) rfl

end

/-! ## The result arrays -/

section
variable (m : (ℓ : Loc nD τ sig) → Buf (Elt Ideal) ℓ)

theorem lt_N (t : Fin cfg0.N) : t.val < 16 := lt_of_lt_of_eq t.isLt N_0

/-- The device's arguments, by name. -/
abbrev aH (c : Dev nD) : FVec Ideal S4096x1024 .bf16 := m ((c : Thread nD τ).loc main_arg0)
abbrev aWg (c : Dev nD) : FVec Ideal S4x704x1024 .bf16 := m ((c : Thread nD τ).loc main_arg1)
abbrev aWu (c : Dev nD) : FVec Ideal S4x704x1024 .bf16 := m ((c : Thread nD τ).loc main_arg2)

theorem idx3 : ∀ t : Fin cfg0.N, win0_3.index t 0 * win0_3.size 0 = t.val % 4 ∧ win0_3.index t 1 * win0_3.size 1 = 1024 * (t.val / 4) ∧ win0_3.index t 2 * win0_3.size 2 = 0 :=
  (by decide +kernel : ∀ t : Fin grid0.N, win0_3.index t 0 * win0_3.size 0 = t.val % 4 ∧ win0_3.index t 1 * win0_3.size 1 = 1024 * (t.val / 4) ∧ win0_3.index t 2 * win0_3.size 2 = 0)
theorem idx4 : ∀ t : Fin cfg0.N, win0_4.index t 0 * win0_4.size 0 = t.val % 4 ∧ win0_4.index t 1 * win0_4.size 1 = 1024 * (t.val / 4) ∧ win0_4.index t 2 * win0_4.size 2 = 0 :=
  (by decide +kernel : ∀ t : Fin grid0.N, win0_4.index t 0 * win0_4.size 0 = t.val % 4 ∧ win0_4.index t 1 * win0_4.size 1 = 1024 * (t.val / 4) ∧ win0_4.index t 2 * win0_4.size 2 = 0)
theorem idx5 : ∀ t : Fin cfg0.N, win0_5.index t 0 * win0_5.size 0 = t.val % 4 ∧ win0_5.index t 1 * win0_5.size 1 = 1024 * (t.val / 4) ∧ win0_5.index t 2 * win0_5.size 2 = 0 :=
  (by decide +kernel : ∀ t : Fin grid0.N, win0_5.index t 0 * win0_5.size 0 = t.val % 4 ∧ win0_5.index t 1 * win0_5.size 1 = 1024 * (t.val / 4) ∧ win0_5.index t 2 * win0_5.size 2 = 0)
theorem emb3 (t : Fin cfg0.N) (r : Fin 1024) (f : Fin 704) (g : Fin 4) (l : Fin 4096) (hg : g.val = t.val % 4) (hl : l.val = 1024 * (t.val / 4) + r.val) :
    (win0_3.blk t).view.emb (ix3 0 r f) = (ix3 g l f : S4x4096x704.Idx) := by
  refine funext fun a => Fin.ext ?_
  match a with
  | ⟨0, _⟩ => show win0_3.index t 0 * win0_3.size 0 + 1 * 0 = g.val; rw [(idx3 t).1, hg]; omega
  | ⟨1, _⟩ => show win0_3.index t 1 * win0_3.size 1 + 1 * r.val = l.val; rw [(idx3 t).2.1, hl]; omega
  | ⟨2, _⟩ => show win0_3.index t 2 * win0_3.size 2 + 1 * f.val = f.val; rw [(idx3 t).2.2]; omega
theorem emb4 (t : Fin cfg0.N) (r : Fin 1024) (f : Fin 704) (g : Fin 4) (l : Fin 4096) (hg : g.val = t.val % 4) (hl : l.val = 1024 * (t.val / 4) + r.val) :
    (win0_4.blk t).view.emb (ix3 0 r f) = (ix3 g l f : S4x4096x704.Idx) := by
  refine funext fun a => Fin.ext ?_
  match a with
  | ⟨0, _⟩ => show win0_4.index t 0 * win0_4.size 0 + 1 * 0 = g.val; rw [(idx4 t).1, hg]; omega
  | ⟨1, _⟩ => show win0_4.index t 1 * win0_4.size 1 + 1 * r.val = l.val; rw [(idx4 t).2.1, hl]; omega
  | ⟨2, _⟩ => show win0_4.index t 2 * win0_4.size 2 + 1 * f.val = f.val; rw [(idx4 t).2.2]; omega
theorem emb5 (t : Fin cfg0.N) (r : Fin 1024) (f : Fin 704) (g : Fin 4) (l : Fin 4096) (hg : g.val = t.val % 4) (hl : l.val = 1024 * (t.val / 4) + r.val) :
    (win0_5.blk t).view.emb (ix3 0 r f) = (ix3 g l f : S4x4096x704.Idx) := by
  refine funext fun a => Fin.ext ?_
  match a with
  | ⟨0, _⟩ => show win0_5.index t 0 * win0_5.size 0 + 1 * 0 = g.val; rw [(idx5 t).1, hg]; omega
  | ⟨1, _⟩ => show win0_5.index t 1 * win0_5.size 1 + 1 * r.val = l.val; rw [(idx5 t).2.1, hl]; omega
  | ⟨2, _⟩ => show win0_5.index t 2 * win0_5.size 2 + 1 * f.val = f.val; rw [(idx5 t).2.2]; omega

theorem flushed3 (c : Dev nD) (t : Fin cfg0.N) :
    (dats m 0 c).flushed 3 t = (win0_3.blk t).view.read (Elt Ideal) (br (aH m c) (aWg m c)) := by
  rw [Value.flushed3, out3]
  funext y
  obtain ⟨z, r, f, rfl⟩ : ∃ (z : Fin 1) (r : Fin 1024) (f : Fin 704), y = ix3 z r f :=
    ⟨y 0, y 1, y 2, by funext a; match a with | ⟨0, _⟩ => rfl | ⟨1, _⟩ => rfl | ⟨2, _⟩ => rfl⟩
  obtain rfl : z = 0 := Subsingleton.elim _ _
  have ht := lt_N t
  have hg : (⟨t.val % 4, by omega⟩ : Fin 4).val = t.val % 4 := rfl
  have hl : (⟨1024 * (t.val / 4) + r.val, by omega⟩ : Fin 4096).val = 1024 * (t.val / 4) + r.val := rfl
  rw [View.read_apply]
  refine Eq.trans ?_ (congrArg (br (aH m c) (aWg m c)) (emb3 t r f _ _ hg hl).symm)
  show k0_pay3 _ _ (ix3 0 r f) = _
  rw [pay3_apply]
  simp only [iblk0 m c t r _ _ hl, wblk1_apply m c t f _ _ hg]
  rfl

/-- Every index of the result lies in the block of the point of its row block and shard. -/
theorem cover3 (i : S4x4096x704.Idx) : ∃ t : Fin cfg0.N, (cfg0.win 3).flush t = true ∧ i ∈ ((cfg0.win 3).blk t).view.set := by
  have h0 : (i 0 : Nat) < 4 := (i 0).isLt
  have h1 : (i 1 : Nat) < 4096 := (i 1).isLt
  have hN : cfg0.N = 16 := N_0
  have ht : 4 * ((i 1 : Nat) / 1024) + (i 0 : Nat) < cfg0.N := by omega
  refine ⟨⟨_, ht⟩, flush0_3 _, ?_⟩
  have e : (win0_3.blk ⟨_, ht⟩).view.emb (ix3 0 ⟨(i 1 : Nat) % 1024, by omega⟩ (i 2)) = i :=
    (emb3 ⟨_, ht⟩ ⟨(i 1 : Nat) % 1024, by omega⟩ (i 2) (i 0) (i 1) (by dsimp only; omega) (by dsimp only; omega)).trans
      (by funext a; match a with | ⟨0, _⟩ => rfl | ⟨1, _⟩ => rfl | ⟨2, _⟩ => rfl)
  exact (congrArg (fun j => j ∈ ((cfg0.win 3).blk ⟨_, ht⟩).view.set) e).mp (Finset.mem_map_of_mem _ (Finset.mem_univ _))

theorem final3 (c : Dev nD) : (dats m 0 c).arrAt 3 cfg0.N = br (aH m c) (aWg m c) :=
  (dats m 0 c).arrAt_eq_of_cover 3 _ (fun t _ => flushed3 m c t) cover3

theorem flushed4 (c : Dev nD) (t : Fin cfg0.N) :
    (dats m 0 c).flushed 4 t = (win0_4.blk t).view.read (Elt Ideal) (br (aH m c) (aWu m c)) := by
  rw [Value.flushed4, out4]
  funext y
  obtain ⟨z, r, f, rfl⟩ : ∃ (z : Fin 1) (r : Fin 1024) (f : Fin 704), y = ix3 z r f :=
    ⟨y 0, y 1, y 2, by funext a; match a with | ⟨0, _⟩ => rfl | ⟨1, _⟩ => rfl | ⟨2, _⟩ => rfl⟩
  obtain rfl : z = 0 := Subsingleton.elim _ _
  have ht := lt_N t
  have hg : (⟨t.val % 4, by omega⟩ : Fin 4).val = t.val % 4 := rfl
  have hl : (⟨1024 * (t.val / 4) + r.val, by omega⟩ : Fin 4096).val = 1024 * (t.val / 4) + r.val := rfl
  rw [View.read_apply]
  refine Eq.trans ?_ (congrArg (br (aH m c) (aWu m c)) (emb4 t r f _ _ hg hl).symm)
  show k0_pay4 _ _ (ix3 0 r f) = _
  rw [pay4_apply]
  simp only [iblk0 m c t r _ _ hl, wblk2_apply m c t f _ _ hg]
  rfl

/-- Every index of the result lies in the block of the point of its row block and shard. -/
theorem cover4 (i : S4x4096x704.Idx) : ∃ t : Fin cfg0.N, (cfg0.win 4).flush t = true ∧ i ∈ ((cfg0.win 4).blk t).view.set := by
  have h0 : (i 0 : Nat) < 4 := (i 0).isLt
  have h1 : (i 1 : Nat) < 4096 := (i 1).isLt
  have hN : cfg0.N = 16 := N_0
  have ht : 4 * ((i 1 : Nat) / 1024) + (i 0 : Nat) < cfg0.N := by omega
  refine ⟨⟨_, ht⟩, flush0_4 _, ?_⟩
  have e : (win0_4.blk ⟨_, ht⟩).view.emb (ix3 0 ⟨(i 1 : Nat) % 1024, by omega⟩ (i 2)) = i :=
    (emb4 ⟨_, ht⟩ ⟨(i 1 : Nat) % 1024, by omega⟩ (i 2) (i 0) (i 1) (by dsimp only; omega) (by dsimp only; omega)).trans
      (by funext a; match a with | ⟨0, _⟩ => rfl | ⟨1, _⟩ => rfl | ⟨2, _⟩ => rfl)
  exact (congrArg (fun j => j ∈ ((cfg0.win 4).blk ⟨_, ht⟩).view.set) e).mp (Finset.mem_map_of_mem _ (Finset.mem_univ _))

theorem final4 (c : Dev nD) : (dats m 0 c).arrAt 4 cfg0.N = br (aH m c) (aWu m c) :=
  (dats m 0 c).arrAt_eq_of_cover 4 _ (fun t _ => flushed4 m c t) cover4

theorem flushed5 (c : Dev nD) (t : Fin cfg0.N) :
    (dats m 0 c).flushed 5 t = (win0_5.blk t).view.read (Elt Ideal) (hid (aH m c) (aWg m c) (aWu m c)) := by
  rw [Value.flushed5, out5]
  funext y
  obtain ⟨z, r, f, rfl⟩ : ∃ (z : Fin 1) (r : Fin 1024) (f : Fin 704), y = ix3 z r f :=
    ⟨y 0, y 1, y 2, by funext a; match a with | ⟨0, _⟩ => rfl | ⟨1, _⟩ => rfl | ⟨2, _⟩ => rfl⟩
  obtain rfl : z = 0 := Subsingleton.elim _ _
  have ht := lt_N t
  have hg : (⟨t.val % 4, by omega⟩ : Fin 4).val = t.val % 4 := rfl
  have hl : (⟨1024 * (t.val / 4) + r.val, by omega⟩ : Fin 4096).val = 1024 * (t.val / 4) + r.val := rfl
  rw [View.read_apply]
  refine Eq.trans ?_ (congrArg (hid (aH m c) (aWg m c) (aWu m c)) (emb5 t r f _ _ hg hl).symm)
  show k0_pay5 _ _ _ (ix3 0 r f) = _
  rw [pay5_apply]
  simp only [iblk0 m c t r _ _ hl, wblk1_apply m c t f _ _ hg, wblk2_apply m c t f _ _ hg]
  rfl

/-- Every index of the result lies in the block of the point of its row block and shard. -/
theorem cover5 (i : S4x4096x704.Idx) : ∃ t : Fin cfg0.N, (cfg0.win 5).flush t = true ∧ i ∈ ((cfg0.win 5).blk t).view.set := by
  have h0 : (i 0 : Nat) < 4 := (i 0).isLt
  have h1 : (i 1 : Nat) < 4096 := (i 1).isLt
  have hN : cfg0.N = 16 := N_0
  have ht : 4 * ((i 1 : Nat) / 1024) + (i 0 : Nat) < cfg0.N := by omega
  refine ⟨⟨_, ht⟩, flush0_5 _, ?_⟩
  have e : (win0_5.blk ⟨_, ht⟩).view.emb (ix3 0 ⟨(i 1 : Nat) % 1024, by omega⟩ (i 2)) = i :=
    (emb5 ⟨_, ht⟩ ⟨(i 1 : Nat) % 1024, by omega⟩ (i 2) (i 0) (i 1) (by dsimp only; omega) (by dsimp only; omega)).trans
      (by funext a; match a with | ⟨0, _⟩ => rfl | ⟨1, _⟩ => rfl | ⟨2, _⟩ => rfl)
  exact (congrArg (fun j => j ∈ ((cfg0.win 5).blk ⟨_, ht⟩).view.set) e).mp (Finset.mem_map_of_mem _ (Finset.mem_univ _))

theorem final5 (c : Dev nD) : (dats m 0 c).arrAt 5 cfg0.N = hid (aH m c) (aWg m c) (aWu m c) :=
  (dats m 0 c).arrAt_eq_of_cover 5 _ (fun t _ => flushed5 m c t) cover5

end
end Cert.Kernel5Ideal.Up
end
-- ==== Proof.UpClaim.lean ====
/-
  The gated hidden units: the value of the reference, and the comparison. The two write the products' factors in a
  different order, and nothing else.
-/
module

public import proofs.«01_k».proof.Proof.Up
public import proofs.«01_k».proof.Proof.Gen.Reference5Ideal.Run
public import proofs.«01_k».proof.Defs
public import Idealize.ShloMosaic.Lib.Quiescent

@[expose] public section

set_option maxRecDepth 16384

noncomputable section

namespace Cert.Reference5Ideal.Up

open Cert.Reference5Ideal Cert.Reference5Ideal.Gen Idealize.ShloMosaic Idealize.ShloMosaic.TcCoe Idealize.SL.Sem
open Cert.Hand

variable (h : FVec Ideal S4096x1024 .bf16) (wg wu : FVec Ideal S4x704x1024 .bf16)

/-- The reference's branches, of its arguments. -/
def br : FVec Ideal S4x4096x704 .bf16 :=
  truncf .bf16 (transpose S4x4096x704 [0, 2, 1] (Host.dotGeneral dot_S4x704x1024_S4096x1024_S4x704x4096_2_1_01_0_n_n none (extf .f32 (wg) bitsLt_bf16_f32) (extf .f32 (h) bitsLt_bf16_f32)) transposes_S4x704x4096_S4x4096x704_0_2_1) bitsLt_bf16_f32

/-- The reference's hidden units. -/
def hid : FVec Ideal S4x4096x704 .bf16 :=
  truncf .bf16 (mulf (mulf (transpose S4x4096x704 [0, 2, 1] (Host.dotGeneral dot_S4x704x1024_S4096x1024_S4x704x4096_2_1_01_0_n_n none (extf .f32 (wg) bitsLt_bf16_f32) (extf .f32 (h) bitsLt_bf16_f32)) transposes_S4x704x4096_S4x4096x704_0_2_1) (Host.divf (broadcastInDim S4x4096x704 ![] bcast_S_S4x4096x704 (constant S_ .f32 0x3F800000#32)) (addf (broadcastInDim S4x4096x704 ![] bcast_S_S4x4096x704 (constant S_ .f32 0x3F800000#32)) (Host.exp (Host.negf (transpose S4x4096x704 [0, 2, 1] (Host.dotGeneral dot_S4x704x1024_S4096x1024_S4x704x4096_2_1_01_0_n_n none (extf .f32 (wg) bitsLt_bf16_f32) (extf .f32 (h) bitsLt_bf16_f32)) transposes_S4x704x4096_S4x4096x704_0_2_1)))))) (transpose S4x4096x704 [0, 2, 1] (Host.dotGeneral dot_S4x704x1024_S4096x1024_S4x704x4096_2_1_01_0_n_n none (extf .f32 (wu) bitsLt_bf16_f32) (extf .f32 (h) bitsLt_bf16_f32)) transposes_S4x704x4096_S4x4096x704_0_2_1)) bitsLt_bf16_f32

/-- One branch as the reference sums it. -/
def brAt (g : Fin 4) (l : Fin 4096) (f : Fin 704) : EReal := ∑ k : Fin 1024, wg (ix3 g f k) * h (ix2 l k)

/-- The logistic function. -/
def sg (x : EReal) : EReal := Ideal.div 1 (1 + Ideal.exp (-x))

theorem br_apply (g : Fin 4) (l : Fin 4096) (f : Fin 704) : br h wg (ix3 g l f) = brAt h wg g l f := by
  pointwise [br]
  rfl

theorem hid_apply (g : Fin 4) (l : Fin 4096) (f : Fin 704) :
    hid h wg wu (ix3 g l f) = brAt h wg g l f * sg (brAt h wg g l f) * brAt h wu g l f := by
  pointwise [hid]
  rfl

theorem brAt_eq (g : Fin 4) (l : Fin 4096) (f : Fin 704) : Cert.Kernel5Ideal.Up.brAt h wg g l f = brAt h wg g l f :=
  Finset.sum_congr rfl fun _ _ => mul_comm _ _

theorem sg_eq (x : EReal) : Cert.Kernel5Ideal.Up.sg x = sg x := by
  unfold Cert.Kernel5Ideal.Up.sg sg
  rw [zero_sub]

theorem br_eq : Cert.Kernel5Ideal.Up.br h wg = br h wg := by
  funext i
  obtain ⟨g, l, f, rfl⟩ : ∃ (g : Fin 4) (l : Fin 4096) (f : Fin 704), i = ix3 g l f :=
    ⟨i 0, i 1, i 2, by funext x; match x with | ⟨0, _⟩ => rfl | ⟨1, _⟩ => rfl | ⟨2, _⟩ => rfl⟩
  rw [br_apply]
  exact brAt_eq h wg g l f

theorem hid_eq : Cert.Kernel5Ideal.Up.hid h wg wu = hid h wg wu := by
  funext i
  obtain ⟨g, l, f, rfl⟩ : ∃ (g : Fin 4) (l : Fin 4096) (f : Fin 704), i = ix3 g l f :=
    ⟨i 0, i 1, i 2, by funext x; match x with | ⟨0, _⟩ => rfl | ⟨1, _⟩ => rfl | ⟨2, _⟩ => rfl⟩
  rw [hid_apply, ← brAt_eq, ← brAt_eq, ← sg_eq]
  rfl

end Cert.Reference5Ideal.Up

namespace Cert.Proof.Up

open Idealize.ShloMosaic Idealize.ShloMosaic.TcCoe Idealize.SL.Sem
open Cert.Kernel5Ideal.Up (aH aWg aWu)

theorem frame_reference : Cert.quiescent_Reference5Ideal := fun m ρ _ =>
  (θ_run Cert.Reference5Ideal.defs _ _).mono (fun r h => ⟨fun c => (h c).2.2.2,
      Idealize.ShloMosaic.sem_eq_zero_of_no_sems (by decide) r.2⟩)
    (Cert.Reference5Ideal.Value.run (F := Ideal) m ρ)

theorem algebraic : Cert.algebraic_Kernel5Ideal_Reference5Ideal := by
  intro m ρ m' ρ' _ hagree
  refine ⟨fun c => Cert.Kernel5Ideal.Up.br (aH m c) (aWg m c), fun c => Cert.Kernel5Ideal.Up.br (aH m c) (aWu m c),
    fun c => Cert.Kernel5Ideal.Up.hid (aH m c) (aWg m c) (aWu m c), ?_, ?_⟩
  · exact (θ_run Cert.Kernel5Ideal.defs _ _).mono
      (fun _ h c => ⟨(h c).1.trans (Cert.Kernel5Ideal.Up.final3 m c), (h c).2.1.trans (Cert.Kernel5Ideal.Up.final4 m c),
        (h c).2.2.1.trans (Cert.Kernel5Ideal.Up.final5 m c), (h c).2.2.2⟩)
      (Cert.Kernel5Ideal.Value.run_blocks (F := Ideal) m ρ)
  refine (θ_run Cert.Reference5Ideal.defs _ _).mono (fun _ h c => ⟨(h c).1.trans ?_, (h c).2.1.trans ?_, (h c).2.2.1.trans ?_, (h c).2.2.2⟩)
    (Cert.Reference5Ideal.Value.run (F := Ideal) m' ρ')
  · rw [(hagree c).1, (hagree c).2.1]
    exact (Cert.Reference5Ideal.Up.br_eq _ _).symm
  · rw [(hagree c).1, (hagree c).2.2]
    exact (Cert.Reference5Ideal.Up.br_eq _ _).symm
  · rw [(hagree c).1, (hagree c).2.1, (hagree c).2.2]
    exact (Cert.Reference5Ideal.Up.hid_eq _ _ _).symm

end Cert.Proof.Up
end
-- ==== Proof.Down.lean ====
/-
  The block's output and the next block's normed input: the value of the pipelined kernel.

  Grid point `t` takes rows `512 t` to `512 t + 511`. Its residual block is the input's plus a half of the four shards'
  products, its normed block the residual block scaled row by row; read at an index, each is one formula of the
  arguments at the array's own index, and the eight blocks tile the arrays.
-/
module

public import proofs.«01_k».proof.Proof.Gen.Kernel6Ideal.Value
public import Idealize.ShloMosaic.Lib.Pointwise
public import Idealize.ShloMosaic.Lib.VecWindow
public import proofs.«01_k».proof.Proof.Reals

@[expose] public section

set_option maxRecDepth 16384

noncomputable section

namespace Cert.Kernel6Ideal.Down

open Cert.Kernel6Ideal Cert.Kernel6Ideal.Gen Idealize.ShloMosaic Idealize.ShloMosaic.TcCoe Idealize.SL.Sem
open Cert.Hand

/-! ## The formulas -/

/-- The residual stream after the block. -/
def resAt (hd : FVec Ideal S4x4096x704 .bf16) (w : FVec Ideal S4x704x1024 .bf16) (x : FVec Ideal S4096x1024 .f32) (l : Fin 4096) (d : Fin 1024) : EReal :=
  x (ix2 l d) + Ideal.ofBits .f32 0x3F000000#32 * ∑ g : Fin 4, ∑ f : Fin 704, hd (ix3 g l f) * w (ix3 g f d)

/-- A row `y` scaled to unit mean square, at column `d`, times the gain. -/
def normAt (y : Fin 1024 → EReal) (gain : FVec Ideal S1x1024 .f32) (d : Fin 1024) : EReal :=
  y d * Ideal.rsqrt (Ideal.div (∑ k : Fin 1024, y k * y k) (Ideal.ofBits .f32 0x44800000#32) + Ideal.ofBits .f32 0x358637BD#32) * gain (ix2 0 d)

def res (hd : FVec Ideal S4x4096x704 .bf16) (w : FVec Ideal S4x704x1024 .bf16) (x : FVec Ideal S4096x1024 .f32) : FVec Ideal S4096x1024 .f32 :=
  fun i => resAt hd w x (i 0) (i 1)
def norm (hd : FVec Ideal S4x4096x704 .bf16) (w : FVec Ideal S4x704x1024 .bf16) (x : FVec Ideal S4096x1024 .f32) (gain : FVec Ideal S1x1024 .f32) :
    FVec Ideal S4096x1024 .bf16 :=
  fun i => normAt (resAt hd w x (i 0)) gain (i 1)

/-! ## The payloads at an index -/

theorem pay2_apply (v0 : Vec Ideal S512x1024 .f32) (v1 v6 v12 v18 : Vec Ideal S1x512x704 .bf16) (v3 v8 v14 v20 : Vec Ideal S1x704x1024 .bf16)
    (r : Fin 512) (d : Fin 1024) : k0_pay2 v0 v1 v3 v6 v8 v12 v14 v18 v20 (ix2 r d)
      = v0 (ix2 r d) + Ideal.ofBits .f32 0x3F000000#32 * ((∑ f : Fin 704, v1 (ix3 0 r f) * v3 (ix3 0 f d)) + (∑ f : Fin 704, v6 (ix3 0 r f) * v8 (ix3 0 f d))
        + (∑ f : Fin 704, v12 (ix3 0 r f) * v14 (ix3 0 f d)) + (∑ f : Fin 704, v18 (ix3 0 r f) * v20 (ix3 0 f d))) := by
  pointwise [k0_pay2]

theorem pay1_apply (y : FVec Ideal S512x1024 .f32) (gain : Vec Ideal S1x1024 .f32) (r : Fin 512) (d : Fin 1024) :
    k0_pay1 y gain (ix2 r d) = normAt (fun k => y (ix2 r k)) gain d := by
  pointwise [k0_pay1]
  rfl

/-! ## The blocks -/

section
variable {F : FTy → Type} [FloatOps F]
variable (m : (ℓ : Loc nD τ sig) → Buf (Elt F) ℓ)

theorem idx0 : ∀ t : Fin cfg0.N, win0_0.index t 0 * win0_0.size 0 = 0 ∧ win0_0.index t 1 * win0_0.size 1 = 512 * t.val ∧ win0_0.index t 2 * win0_0.size 2 = 0 :=
  (by decide +kernel : ∀ t : Fin grid0.N, win0_0.index t 0 * win0_0.size 0 = 0 ∧ win0_0.index t 1 * win0_0.size 1 = 512 * t.val ∧ win0_0.index t 2 * win0_0.size 2 = 0)
theorem idx1 : ∀ t : Fin cfg0.N, win0_1.index t 0 * win0_1.size 0 = 0 ∧ win0_1.index t 1 * win0_1.size 1 = 0 ∧ win0_1.index t 2 * win0_1.size 2 = 0 :=
  (by decide +kernel : ∀ t : Fin grid0.N, win0_1.index t 0 * win0_1.size 0 = 0 ∧ win0_1.index t 1 * win0_1.size 1 = 0 ∧ win0_1.index t 2 * win0_1.size 2 = 0)
theorem idx2 : ∀ t : Fin cfg0.N, win0_2.index t 0 * win0_2.size 0 = 512 * t.val ∧ win0_2.index t 1 * win0_2.size 1 = 0 :=
  (by decide +kernel : ∀ t : Fin grid0.N, win0_2.index t 0 * win0_2.size 0 = 512 * t.val ∧ win0_2.index t 1 * win0_2.size 1 = 0)
theorem idx3 : ∀ t : Fin cfg0.N, win0_3.index t 0 * win0_3.size 0 = 0 ∧ win0_3.index t 1 * win0_3.size 1 = 0 :=
  (by decide +kernel : ∀ t : Fin grid0.N, win0_3.index t 0 * win0_3.size 0 = 0 ∧ win0_3.index t 1 * win0_3.size 1 = 0)
theorem iblk0 (c : Dev nD) (t : Fin cfg0.N) (r : Fin 512) (f : Fin 704) (g : Fin 4) (l : Fin 4096) (hl : l.val = 512 * t.val + r.val) :
    iblk m c 0 t (ix3 g r f) = m ((c : Thread nD τ).loc main_arg0) (ix3 g l f) := by
  unfold iblk
  rw [View.read_apply]
  refine congrArg (m ((c : Thread nD τ).loc main_arg0)) (funext fun a => Fin.ext ?_)
  match a with
  | ⟨0, _⟩ => show win0_0.index t 0 * win0_0.size 0 + 1 * g.val = g.val; rw [(idx0 t).1]; omega
  | ⟨1, _⟩ => show win0_0.index t 1 * win0_0.size 1 + 1 * r.val = l.val; rw [(idx0 t).2.1, hl]; omega
  | ⟨2, _⟩ => show win0_0.index t 2 * win0_0.size 2 + 1 * f.val = f.val; rw [(idx0 t).2.2]; omega
theorem iblk1 (c : Dev nD) (t : Fin cfg0.N) (g : Fin 4) (f : Fin 704) (d : Fin 1024)  :
    iblk m c 1 t (ix3 g f d) = m ((c : Thread nD τ).loc main_arg1) (ix3 g f d) := by
  unfold iblk
  rw [View.read_apply]
  refine congrArg (m ((c : Thread nD τ).loc main_arg1)) (funext fun a => Fin.ext ?_)
  match a with
  | ⟨0, _⟩ => show win0_1.index t 0 * win0_1.size 0 + 1 * g.val = g.val; rw [(idx1 t).1]; omega
  | ⟨1, _⟩ => show win0_1.index t 1 * win0_1.size 1 + 1 * f.val = f.val; rw [(idx1 t).2.1]; omega
  | ⟨2, _⟩ => show win0_1.index t 2 * win0_1.size 2 + 1 * d.val = d.val; rw [(idx1 t).2.2]; omega
theorem iblk2 (c : Dev nD) (t : Fin cfg0.N) (r : Fin 512) (d : Fin 1024) (l : Fin 4096) (hl : l.val = 512 * t.val + r.val) :
    iblk m c 2 t (ix2 r d) = m ((c : Thread nD τ).loc main_arg2) (ix2 l d) := by
  unfold iblk
  rw [View.read_apply]
  refine congrArg (m ((c : Thread nD τ).loc main_arg2)) (funext fun a => Fin.ext ?_)
  match a with
  | ⟨0, _⟩ => show win0_2.index t 0 * win0_2.size 0 + 1 * r.val = l.val; rw [(idx2 t).1, hl]; omega
  | ⟨1, _⟩ => show win0_2.index t 1 * win0_2.size 1 + 1 * d.val = d.val; rw [(idx2 t).2]; omega
theorem iblk3 (c : Dev nD) (t : Fin cfg0.N) (d : Fin 1024)  :
    iblk m c 3 t (ix2 0 d) = m ((c : Thread nD τ).loc main_arg3) (ix2 0 d) := by
  unfold iblk
  rw [View.read_apply]
  refine congrArg (m ((c : Thread nD τ).loc main_arg3)) (funext fun a => Fin.ext ?_)
  match a with
  | ⟨0, _⟩ => show win0_3.index t 0 * win0_3.size 0 + 1 * 0 = 0; rw [(idx3 t).1]
  | ⟨1, _⟩ => show win0_3.index t 1 * win0_3.size 1 + 1 * d.val = d.val; rw [(idx3 t).2]; omega

theorem hz2 : (![0, 0] : Fin 2 → Nat) = fun _ => 0 := funext fun a => by fin_cases a <;> rfl

/-- A load of one shard of a stack of rows, at an index. -/
theorem ld_rows (x : Vec F S4x512x704 .bf16) (o : Fin 3 → Nat) (inb) (g : Fin 4) (r : Fin 512) (f : Fin 704) (h0 : o 0 = g.val) (h1 : o 1 = 0) (h2 : o 2 = 0) :
    View.ld x (Rect.unit (s := S4x512x704) o S1x512x704.size inb) (ix3 0 r f) = x (ix3 g r f) := by
  refine congrArg x (funext fun a => Fin.ext ?_)
  match a with
  | ⟨0, _⟩ => show o 0 + 1 * 0 = g.val; omega
  | ⟨1, _⟩ => show o 1 + 1 * r.val = r.val; omega
  | ⟨2, _⟩ => show o 2 + 1 * f.val = f.val; omega
/-- and of a stack of weights. -/
theorem ld_weights (x : Vec F S4x704x1024 .bf16) (o : Fin 3 → Nat) (inb) (g : Fin 4) (f : Fin 704) (d : Fin 1024) (h0 : o 0 = g.val) (h1 : o 1 = 0) (h2 : o 2 = 0) :
    View.ld x (Rect.unit (s := S4x704x1024) o S1x704x1024.size inb) (ix3 0 f d) = x (ix3 g f d) := by
  refine congrArg x (funext fun a => Fin.ext ?_)
  match a with
  | ⟨0, _⟩ => show o 0 + 1 * 0 = g.val; omega
  | ⟨1, _⟩ => show o 1 + 1 * f.val = f.val; omega
  | ⟨2, _⟩ => show o 2 + 1 * d.val = d.val; omega

theorem out4 (x0 : Vec F S4x512x704 .bf16) (x1 : Vec F S4x704x1024 .bf16) (x2 : Vec F S512x1024 .f32) (x3 : Vec F S1x1024 .f32) :
    out0_4 x0 x1 x2 x3 = k0_pay3 x0 x1 x2 x3 := by
  unfold out0_4
  exact View.canon_cons_unit_zero (S := S512x1024) hz2 _ _ _
theorem out5 (x0 : Vec F S4x512x704 .bf16) (x1 : Vec F S4x704x1024 .bf16) (x2 : Vec F S512x1024 .f32) (x3 : Vec F S1x1024 .f32) :
    out0_5 x0 x1 x2 x3 = k0_pay1 (k0_pay3 x0 x1 x2 x3) x3 := by
  unfold out0_5
  exact (View.canon_cons_unit_zero (S := S512x1024) hz2 _ _ _).trans (congrArg (k0_pay1 _) (View.ld_unit_zero (S := S1x1024) hz2 _ _))

end

/-! ## The result arrays -/

section
variable (m : (ℓ : Loc nD τ sig) → Buf (Elt Ideal) ℓ)

theorem lt_N (t : Fin cfg0.N) : t.val < 8 := lt_of_lt_of_eq t.isLt N_0

/-- The device's arguments, by name. -/
abbrev aHd (c : Dev nD) : FVec Ideal S4x4096x704 .bf16 := m ((c : Thread nD τ).loc main_arg0)
abbrev aW (c : Dev nD) : FVec Ideal S4x704x1024 .bf16 := m ((c : Thread nD τ).loc main_arg1)
abbrev aX (c : Dev nD) : FVec Ideal S4096x1024 .f32 := m ((c : Thread nD τ).loc main_arg2)
abbrev aGain (c : Dev nD) : FVec Ideal S1x1024 .f32 := m ((c : Thread nD τ).loc main_arg3)

/-- One shard's product of the block, of the whole arrays. -/
theorem shard_sum (x0 : Vec Ideal S4x512x704 .bf16) (x1 : Vec Ideal S4x704x1024 .bf16) (hd : FVec Ideal S4x4096x704 .bf16) (w : FVec Ideal S4x704x1024 .bf16)
    (r : Fin 512) (d : Fin 1024) (l : Fin 4096) (h0 : ∀ f g, x0 (ix3 g r f) = hd (ix3 g l f)) (h1 : ∀ f g, x1 (ix3 g f d) = w (ix3 g f d))
    (o : Fin 3 → Nat) (i0) (i1) (g : Fin 4) (e0 : o 0 = g.val) (e1 : o 1 = 0) (e2 : o 2 = 0) :
    (∑ f : Fin 704, (show Vec Ideal S1x512x704 .bf16 from View.ld x0 (Rect.unit (s := S4x512x704) o S1x512x704.size i0)) (ix3 0 r f)
      * (show Vec Ideal S1x704x1024 .bf16 from View.ld x1 (Rect.unit (s := S4x704x1024) o S1x704x1024.size i1)) (ix3 0 f d))
      = ∑ f : Fin 704, hd (ix3 g l f) * w (ix3 g f d) :=
  Finset.sum_congr rfl fun f _ => congr (congrArg _ ((ld_rows x0 o i0 g r f e0 e1 e2).trans (h0 f g)))
    ((ld_weights x1 o i1 g f d e0 e1 e2).trans (h1 f g))

/-- The residual block of point `t`, at an index. -/
theorem res_apply (c : Dev nD) (t : Fin cfg0.N) (r : Fin 512) (d : Fin 1024) (l : Fin 4096) (hl : l.val = 512 * t.val + r.val) :
    k0_pay3 (iblk m c 0 t) (iblk m c 1 t) (iblk m c 2 t) (iblk m c 3 t) (ix2 r d) = resAt (aHd m c) (aW m c) (aX m c) l d := by
  unfold k0_pay3
  rw [pay2_apply]
  unfold resAt
  rw [Fin.sum_univ_four]
  refine congr (congrArg _ ?_) (congrArg _ ?_)
  · exact (congrFun (View.ld_unit_zero (S := S512x1024) hz2 _ _) _).trans (iblk2 m c t r d l hl)
  have h0 := fun f g => iblk0 m c t r f g l hl
  have h1 := fun f g => iblk1 m c t g f d
  have e := shard_sum (iblk m c 0 t) (iblk m c 1 t) (aHd m c) (aW m c) r d l h0 h1
  exact congr (congrArg _ (congr (congrArg _ (congr (congrArg _ (e _ _ _ 0 rfl rfl rfl)) (e _ _ _ 1 rfl rfl rfl))) (e _ _ _ 2 rfl rfl rfl))) (e _ _ _ 3 rfl rfl rfl)

theorem idx4 : ∀ t : Fin cfg0.N, win0_4.index t 0 * win0_4.size 0 = 512 * t.val ∧ win0_4.index t 1 * win0_4.size 1 = 0 :=
  (by decide +kernel : ∀ t : Fin grid0.N, win0_4.index t 0 * win0_4.size 0 = 512 * t.val ∧ win0_4.index t 1 * win0_4.size 1 = 0)
theorem idx5 : ∀ t : Fin cfg0.N, win0_5.index t 0 * win0_5.size 0 = 512 * t.val ∧ win0_5.index t 1 * win0_5.size 1 = 0 :=
  (by decide +kernel : ∀ t : Fin grid0.N, win0_5.index t 0 * win0_5.size 0 = 512 * t.val ∧ win0_5.index t 1 * win0_5.size 1 = 0)
theorem emb4 (t : Fin cfg0.N) (r : Fin 512) (d : Fin 1024) (l : Fin 4096) (hl : l.val = 512 * t.val + r.val) :
    (win0_4.blk t).view.emb (ix2 r d) = (ix2 l d : S4096x1024.Idx) := by
  refine funext fun a => Fin.ext ?_
  match a with
  | ⟨0, _⟩ => show win0_4.index t 0 * win0_4.size 0 + 1 * r.val = l.val; rw [(idx4 t).1, hl]; omega
  | ⟨1, _⟩ => show win0_4.index t 1 * win0_4.size 1 + 1 * d.val = d.val; rw [(idx4 t).2]; omega
theorem emb5 (t : Fin cfg0.N) (r : Fin 512) (d : Fin 1024) (l : Fin 4096) (hl : l.val = 512 * t.val + r.val) :
    (win0_5.blk t).view.emb (ix2 r d) = (ix2 l d : S4096x1024.Idx) := by
  refine funext fun a => Fin.ext ?_
  match a with
  | ⟨0, _⟩ => show win0_5.index t 0 * win0_5.size 0 + 1 * r.val = l.val; rw [(idx5 t).1, hl]; omega
  | ⟨1, _⟩ => show win0_5.index t 1 * win0_5.size 1 + 1 * d.val = d.val; rw [(idx5 t).2]; omega

theorem flushed4 (c : Dev nD) (t : Fin cfg0.N) :
    (dats m 0 c).flushed 4 t = (win0_4.blk t).view.read (Elt Ideal) (res (aHd m c) (aW m c) (aX m c)) := by
  rw [Value.flushed4, out4]
  funext y
  obtain ⟨r, d, rfl⟩ : ∃ (r : Fin 512) (d : Fin 1024), y = ix2 r d :=
    ⟨y 0, y 1, by funext a; match a with | ⟨0, _⟩ => rfl | ⟨1, _⟩ => rfl⟩
  have ht := lt_N t
  have hl : (⟨512 * t.val + r.val, by omega⟩ : Fin 4096).val = 512 * t.val + r.val := rfl
  rw [View.read_apply]
  refine Eq.trans ?_ (congrArg (res (aHd m c) (aW m c) (aX m c)) (emb4 t r d _ hl).symm)
  exact res_apply m c t r d _ hl

/-- Every index of the result lies in the block of the point of its row block. -/
theorem cover4 (i : S4096x1024.Idx) : ∃ t : Fin cfg0.N, (cfg0.win 4).flush t = true ∧ i ∈ ((cfg0.win 4).blk t).view.set := by
  have h0 : (i 0 : Nat) < 4096 := (i 0).isLt
  have hN : cfg0.N = 8 := N_0
  have ht : (i 0 : Nat) / 512 < cfg0.N := by omega
  refine ⟨⟨_, ht⟩, flush0_4 _, ?_⟩
  have e : (win0_4.blk ⟨_, ht⟩).view.emb (ix2 ⟨(i 0 : Nat) % 512, by omega⟩ (i 1)) = i :=
    (emb4 ⟨_, ht⟩ ⟨(i 0 : Nat) % 512, by omega⟩ (i 1) (i 0) (by dsimp only; omega)).trans
      (by funext a; match a with | ⟨0, _⟩ => rfl | ⟨1, _⟩ => rfl)
  exact (congrArg (fun j => j ∈ ((cfg0.win 4).blk ⟨_, ht⟩).view.set) e).mp (Finset.mem_map_of_mem _ (Finset.mem_univ _))

theorem final4 (c : Dev nD) : (dats m 0 c).arrAt 4 cfg0.N = res (aHd m c) (aW m c) (aX m c) :=
  (dats m 0 c).arrAt_eq_of_cover 4 _ (fun t _ => flushed4 m c t) cover4

theorem flushed5 (c : Dev nD) (t : Fin cfg0.N) :
    (dats m 0 c).flushed 5 t = (win0_5.blk t).view.read (Elt Ideal) (norm (aHd m c) (aW m c) (aX m c) (aGain m c)) := by
  rw [Value.flushed5, out5]
  funext y
  obtain ⟨r, d, rfl⟩ : ∃ (r : Fin 512) (d : Fin 1024), y = ix2 r d :=
    ⟨y 0, y 1, by funext a; match a with | ⟨0, _⟩ => rfl | ⟨1, _⟩ => rfl⟩
  have ht := lt_N t
  have hl : (⟨512 * t.val + r.val, by omega⟩ : Fin 4096).val = 512 * t.val + r.val := rfl
  rw [View.read_apply]
  refine Eq.trans ?_ (congrArg (norm (aHd m c) (aW m c) (aX m c) (aGain m c)) (emb5 t r d _ hl).symm)
  refine (pay1_apply _ _ r d).trans ?_
  have hy : (fun k => k0_pay3 (iblk m c 0 t) (iblk m c 1 t) (iblk m c 2 t) (iblk m c 3 t) (ix2 r k)) = resAt (aHd m c) (aW m c) (aX m c) _ :=
    funext fun k => res_apply m c t r k _ hl
  rw [hy]
  exact congrArg (_ * ·) (iblk3 m c t d)

/-- Every index of the result lies in the block of the point of its row block. -/
theorem cover5 (i : S4096x1024.Idx) : ∃ t : Fin cfg0.N, (cfg0.win 5).flush t = true ∧ i ∈ ((cfg0.win 5).blk t).view.set := by
  have h0 : (i 0 : Nat) < 4096 := (i 0).isLt
  have hN : cfg0.N = 8 := N_0
  have ht : (i 0 : Nat) / 512 < cfg0.N := by omega
  refine ⟨⟨_, ht⟩, flush0_5 _, ?_⟩
  have e : (win0_5.blk ⟨_, ht⟩).view.emb (ix2 ⟨(i 0 : Nat) % 512, by omega⟩ (i 1)) = i :=
    (emb5 ⟨_, ht⟩ ⟨(i 0 : Nat) % 512, by omega⟩ (i 1) (i 0) (by dsimp only; omega)).trans
      (by funext a; match a with | ⟨0, _⟩ => rfl | ⟨1, _⟩ => rfl)
  exact (congrArg (fun j => j ∈ ((cfg0.win 5).blk ⟨_, ht⟩).view.set) e).mp (Finset.mem_map_of_mem _ (Finset.mem_univ _))

theorem final5 (c : Dev nD) : (dats m 0 c).arrAt 5 cfg0.N = norm (aHd m c) (aW m c) (aX m c) (aGain m c) :=
  (dats m 0 c).arrAt_eq_of_cover 5 _ (fun t _ => flushed5 m c t) cover5

end
end Cert.Kernel6Ideal.Down
end
-- ==== Proof.DownClaim.lean ====
/-
  The block's output and the next block's normed input: the value of the reference, and the comparison. The reference
  sums over hidden unit and shard at once, the kernel shard by shard.
-/
module

public import proofs.«01_k».proof.Proof.Down
public import proofs.«01_k».proof.Proof.Gen.Reference6Ideal.Run
public import proofs.«01_k».proof.Defs
public import Idealize.ShloMosaic.Lib.Quiescent

@[expose] public section

set_option maxRecDepth 16384

noncomputable section

namespace Cert.Reference6Ideal.Down

open Cert.Reference6Ideal Cert.Reference6Ideal.Gen Idealize.ShloMosaic Idealize.ShloMosaic.TcCoe Idealize.SL.Sem
open Cert.Hand

variable (hd : FVec Ideal S4x4096x704 .bf16) (w : FVec Ideal S4x704x1024 .bf16) (x : FVec Ideal S4096x1024 .f32) (gain : FVec Ideal S1x1024 .f32)

/-- The reference's residual stream, of its arguments. -/
def res : FVec Ideal S4096x1024 .f32 :=
  (addf (x) (mulf (broadcastInDim S4096x1024 ![] bcast_S_S4096x1024 (constant S_ .f32 0x3F000000#32)) (Host.dotGeneral dot_S4x4096x704_S4x704x1024_S4096x1024_20_10_1_2_n_n none (extf .f32 (hd) bitsLt_bf16_f32) (extf .f32 (w) bitsLt_bf16_f32))))

/-- The reference's normed stream. -/
def norm : FVec Ideal S4096x1024 .bf16 :=
  truncf .bf16 (mulf (mulf (res hd w x) (broadcastInDim S4096x1024 ![0, 1] bcast_S4096x1_S4096x1024_0_1 (Host.rsqrt (addf (Host.divf (broadcastInDim S4096x1 ![0] bcast_S4096_S4096x1_0 (Host.reduceAdd (mulf (res hd w x) (res hd w x)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (gain))) bitsLt_bf16_f32

theorem res_apply (l : Fin 4096) (d : Fin 1024) : res hd w x (ix2 l d) = Cert.Kernel6Ideal.Down.resAt hd w x l d := by
  pointwise [res]
  rw [Finset.sum_comm]
  rfl

theorem norm_apply (l : Fin 4096) (d : Fin 1024) :
    norm hd w x gain (ix2 l d) = Cert.Kernel6Ideal.Down.normAt (fun k => res hd w x (ix2 l k)) gain d := by
  generalize hy : res hd w x = y
  unfold norm
  rw [hy]
  pointwise []
  rfl

theorem res_eq : Cert.Kernel6Ideal.Down.res hd w x = res hd w x := by
  funext i
  obtain ⟨l, d, rfl⟩ : ∃ (l : Fin 4096) (d : Fin 1024), i = ix2 l d :=
    ⟨i 0, i 1, by funext x; match x with | ⟨0, _⟩ => rfl | ⟨1, _⟩ => rfl⟩
  rw [res_apply]
  rfl

theorem norm_eq : Cert.Kernel6Ideal.Down.norm hd w x gain = norm hd w x gain := by
  funext i
  obtain ⟨l, d, rfl⟩ : ∃ (l : Fin 4096) (d : Fin 1024), i = ix2 l d :=
    ⟨i 0, i 1, by funext x; match x with | ⟨0, _⟩ => rfl | ⟨1, _⟩ => rfl⟩
  rw [norm_apply]
  simp only [res_apply]
  rfl

end Cert.Reference6Ideal.Down

namespace Cert.Proof.Down

open Idealize.ShloMosaic Idealize.ShloMosaic.TcCoe Idealize.SL.Sem
open Cert.Kernel6Ideal.Down (aHd aW aX aGain)

theorem frame_reference : Cert.quiescent_Reference6Ideal := fun m ρ _ =>
  (θ_run Cert.Reference6Ideal.defs _ _).mono (fun r h => ⟨fun c => (h c).2.2,
      Idealize.ShloMosaic.sem_eq_zero_of_no_sems (by decide) r.2⟩)
    (Cert.Reference6Ideal.Value.run (F := Ideal) m ρ)

theorem algebraic : Cert.algebraic_Kernel6Ideal_Reference6Ideal := by
  intro m ρ m' ρ' _ hagree
  refine ⟨fun c => Cert.Kernel6Ideal.Down.res (aHd m c) (aW m c) (aX m c),
    fun c => Cert.Kernel6Ideal.Down.norm (aHd m c) (aW m c) (aX m c) (aGain m c), ?_, ?_⟩
  · exact (θ_run Cert.Kernel6Ideal.defs _ _).mono
      (fun _ h c => ⟨(h c).1.trans (Cert.Kernel6Ideal.Down.final4 m c), (h c).2.1.trans (Cert.Kernel6Ideal.Down.final5 m c), (h c).2.2⟩)
      (Cert.Kernel6Ideal.Value.run_blocks (F := Ideal) m ρ)
  refine (θ_run Cert.Reference6Ideal.defs _ _).mono (fun _ h c => ⟨(h c).1.trans ?_, (h c).2.1.trans ?_, (h c).2.2⟩)
    (Cert.Reference6Ideal.Value.run (F := Ideal) m' ρ')
  · rw [(hagree c).1, (hagree c).2.1, (hagree c).2.2.1]
    exact (Cert.Reference6Ideal.Down.res_eq _ _ _).symm
  · rw [(hagree c).1, (hagree c).2.1, (hagree c).2.2.1, (hagree c).2.2.2]
    exact (Cert.Reference6Ideal.Down.norm_eq _ _ _ _).symm

end Cert.Proof.Down
end
-- ==== Proof.lean ====
module

public import proofs.«01_k».proof.Proof.Gen.KernelIdeal.Value
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Pre_finite4
public import proofs.«01_k».proof.Proof.ActClaim
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Reference7Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7.Loops
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Loops
public import proofs.«01_k».proof.Proof.Gen.Reference7Ideal
public import proofs.«01_k».proof.Proof.Gen.Kernel8Ideal.Value
public import proofs.«01_k».proof.Proof.Gen.Reference8Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9Ideal.Value
public import proofs.«01_k».proof.Proof.Gen.Reference9Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10Ideal.Value
public import proofs.«01_k».proof.Proof.Gen.Reference10Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11Ideal.Value
public import proofs.«01_k».proof.Proof.Gen.Reference11Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12Ideal.Value
public import proofs.«01_k».proof.Proof.Gen.Reference12Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.Kernel13Ideal.Value
public import proofs.«01_k».proof.Proof.Gen.Reference13Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Kernel14Ideal.Value
public import proofs.«01_k».proof.Proof.Gen.Reference14Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Kernel15Ideal.Value
public import proofs.«01_k».proof.Proof.Gen.Reference15Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Reference15Ideal
public import proofs.«01_k».proof.Proof.Gen.Kernel16Ideal.Value
public import proofs.«01_k».proof.Proof.Gen.Reference16Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Reference16Ideal
public import proofs.«01_k».proof.Proof.Gen.Kernel17Ideal.Value
public import proofs.«01_k».proof.Proof.Gen.Reference17Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Reference17Ideal
public import proofs.«01_k».proof.Proof.Gen.Kernel18Ideal.Value
public import proofs.«01_k».proof.Proof.Gen.Reference18Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Reference18Ideal
public import proofs.«01_k».proof.Proof.Gen.Kernel19Ideal.Value
public import proofs.«01_k».proof.Proof.Gen.Reference19Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Reference19Ideal
public import proofs.«01_k».proof.Proof.Gen.Kernel20Ideal.Value
public import proofs.«01_k».proof.Proof.Gen.Reference20Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Reference20Ideal
public import proofs.«01_k».proof.Proof.Gen.Kernel21Ideal.Value
public import proofs.«01_k».proof.Proof.Gen.Reference21Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Reference21Ideal
public import proofs.«01_k».proof.Proof.Gen.Kernel22Ideal.Value
public import proofs.«01_k».proof.Proof.Gen.Reference22Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Reference22Ideal
public import proofs.«01_k».proof.Proof.Gen.Kernel23Ideal.Value
public import proofs.«01_k».proof.Proof.Gen.Reference23Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Reference23Ideal
public import proofs.«01_k».proof.Proof.Gen.Kernel24Ideal.Value
public import proofs.«01_k».proof.Proof.Gen.Reference24Ideal.Run
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Reference24Ideal
public import proofs.«01_k».proof.Proof.Gen.Kernel25Ideal.Value
public import proofs.«01_k».proof.Proof.Gen.Reference25Ideal.Run
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Reference25Ideal
public import proofs.«01_k».proof.Proof.Gen.Kernel26Ideal.Value
public import proofs.«01_k».proof.Proof.Gen.Reference26Ideal.Run
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Reference26Ideal
public import proofs.«01_k».proof.Proof.Gen.Kernel27Ideal.Value
public import proofs.«01_k».proof.Proof.Gen.Reference27Ideal.Run
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Reference27Ideal
public import proofs.«01_k».proof.Proof.Gen.Kernel28Ideal.Value
public import proofs.«01_k».proof.Proof.Gen.Reference28Ideal.Run
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Reference28Ideal
public import proofs.«01_k».proof.Proof.Gen.Pre_finite11
public import proofs.«01_k».proof.Proof.Gen.Pre_finite14
public import proofs.«01_k».proof.Proof.S5GateClaim
public import proofs.«01_k».proof.Proof.MixBwdClaim
public import proofs.«01_k».proof.Proof.DwOutClaim
public import proofs.«01_k».proof.Proof.DwInClaim
public import proofs.«01_k».proof.Proof.InProjBwdClaim
public import proofs.«01_k».proof.Proof.InProjClaim
public import proofs.«01_k».proof.Proof.MixOutClaim
public import proofs.«01_k».proof.Proof.LossClaim
public import proofs.«01_k».proof.Proof.AdamFfn
public import proofs.«01_k».proof.Proof.AdamIn
public import proofs.«01_k».proof.Proof.AdamGlu
public import proofs.«01_k».proof.Proof.AdamOut
public import proofs.«01_k».proof.Proof.AdamConv
public import proofs.«01_k».proof.Proof.AdamSmall
public import proofs.«01_k».proof.Proof.RmsFwd
public import proofs.«01_k».proof.Proof.S5Disc
public import proofs.«01_k».proof.Proof.SumFfn
public import proofs.«01_k».proof.Proof.SumIn
public import proofs.«01_k».proof.Proof.SumGlu
public import proofs.«01_k».proof.Proof.SumOut
public import proofs.«01_k».proof.Proof.SumConv
public import proofs.«01_k».proof.Proof.S5Adj
public import Idealize.ShloMosaic.Adequacy
public import Idealize.ShloMosaic.Init
public import proofs.«01_k».proof.Proof.DwdClaim
public import proofs.«01_k».proof.Proof.DwgClaim
public import proofs.«01_k».proof.Proof.RmsClaim
public import proofs.«01_k».proof.Proof.UpClaim
public import proofs.«01_k».proof.Proof.DownClaim

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Pre_finite.Gen.facts, Cert.Pre_finite4.Gen.facts, Cert.Pre_finite11.Gen.facts, Cert.Pre_finite14.Gen.facts,
  fun m ρ _ => Cert.Kernel.Gen.frame m ρ,
  fun m ρ _ => Cert.KernelIdeal.Gen.frame m ρ,
  fun m ρ _ => Cert.KernelIdeal.Gen.frame m ρ,
  Act.frame_reference,
  fun m ρ _ => Act.frame_reference m ρ trivial,
  fun m ρ _ => Cert.Kernel2.Gen.frame m ρ,
  fun m ρ _ => Cert.Kernel2Ideal.Gen.frame m ρ,
  Dwd.frame_reference,
  fun m ρ _ => Cert.Kernel3.Gen.frame m ρ,
  fun m ρ _ => Cert.Kernel3Ideal.Gen.frame m ρ,
  Dwg.frame_reference,
  fun m ρ _ => Cert.Kernel4.Gen.frame m ρ,
  fun m ρ _ => Cert.Kernel4Ideal.Gen.frame m ρ,
  fun m ρ _ => Cert.Kernel4Ideal.Gen.frame m ρ,
  Rms.frame_reference,
  fun m ρ _ => Rms.frame_reference m ρ trivial,
  fun m ρ _ => Cert.Kernel5.Gen.frame m ρ,
  fun m ρ _ => Cert.Kernel5Ideal.Gen.frame m ρ,
  Up.frame_reference,
  fun m ρ _ => Cert.Kernel6.Gen.frame m ρ,
  fun m ρ _ => Cert.Kernel6Ideal.Gen.frame m ρ,
  Down.frame_reference,
  S5.frame_kernel,
  S5.frame_ideal,
  S5.frame_reference,
  fun m ρ _ => Cert.Kernel8.Gen.frame m ρ,
  fun m ρ _ => Cert.Kernel8Ideal.Gen.frame m ρ,
  MixBwd.frame_reference,
  fun m ρ _ => Cert.Kernel9.Gen.frame m ρ,
  fun m ρ _ => Cert.Kernel9Ideal.Gen.frame m ρ,
  DwOut.frame_reference,
  fun m ρ _ => Cert.Kernel10.Gen.frame m ρ,
  fun m ρ _ => Cert.Kernel10Ideal.Gen.frame m ρ,
  DwIn.frame_reference,
  fun m ρ _ => Cert.Kernel11.Gen.frame m ρ,
  fun m ρ _ => Cert.Kernel11Ideal.Gen.frame m ρ,
  fun m ρ _ => Cert.Kernel11Ideal.Gen.frame m ρ,
  InProjBwd.frame_reference,
  fun m ρ _ => InProjBwd.frame_reference m ρ trivial,
  fun m ρ _ => Cert.Kernel12.Gen.frame m ρ,
  fun m ρ _ => Cert.Kernel12Ideal.Gen.frame m ρ,
  InProj.frame_reference,
  fun m ρ _ => Cert.Kernel13.Gen.frame m ρ,
  fun m ρ _ => Cert.Kernel13Ideal.Gen.frame m ρ,
  MixOut.frame_reference,
  fun m ρ _ => Cert.Kernel14.Gen.frame m ρ,
  fun m ρ _ => Cert.Kernel14Ideal.Gen.frame m ρ,
  fun m ρ _ => Cert.Kernel14Ideal.Gen.frame m ρ,
  Loss.frame_reference,
  fun m ρ _ => Loss.frame_reference m ρ trivial,
  fun m ρ _ => Cert.Kernel15.Gen.frame m ρ,
  fun m ρ _ => Cert.Kernel15Ideal.Gen.frame m ρ,
  AdamFfn.frame_reference,
  fun m ρ _ => Cert.Kernel16.Gen.frame m ρ,
  fun m ρ _ => Cert.Kernel16Ideal.Gen.frame m ρ,
  AdamIn.frame_reference,
  fun m ρ _ => Cert.Kernel17.Gen.frame m ρ,
  fun m ρ _ => Cert.Kernel17Ideal.Gen.frame m ρ,
  AdamGlu.frame_reference,
  fun m ρ _ => Cert.Kernel18.Gen.frame m ρ,
  fun m ρ _ => Cert.Kernel18Ideal.Gen.frame m ρ,
  AdamOut.frame_reference,
  fun m ρ _ => Cert.Kernel19.Gen.frame m ρ,
  fun m ρ _ => Cert.Kernel19Ideal.Gen.frame m ρ,
  AdamConv.frame_reference,
  fun m ρ _ => Cert.Kernel20.Gen.frame m ρ,
  fun m ρ _ => Cert.Kernel20Ideal.Gen.frame m ρ,
  AdamSmall.frame_reference,
  fun m ρ _ => Cert.Kernel21.Gen.frame m ρ,
  fun m ρ _ => Cert.Kernel21Ideal.Gen.frame m ρ,
  RmsFwd.frame_reference,
  fun m ρ _ => Cert.Kernel22.Gen.frame m ρ,
  fun m ρ _ => Cert.Kernel22Ideal.Gen.frame m ρ,
  S5Disc.frame_reference,
  fun m ρ _ => Cert.Kernel23.Gen.frame m ρ,
  fun m ρ _ => Cert.Kernel23Ideal.Gen.frame m ρ,
  SumFfn.frame_reference,
  fun m ρ _ => Cert.Kernel24.Gen.frame m ρ,
  fun m ρ _ => Cert.Kernel24Ideal.Gen.frame m ρ,
  SumIn.frame_reference,
  fun m ρ _ => Cert.Kernel25.Gen.frame m ρ,
  fun m ρ _ => Cert.Kernel25Ideal.Gen.frame m ρ,
  SumGlu.frame_reference,
  fun m ρ _ => Cert.Kernel26.Gen.frame m ρ,
  fun m ρ _ => Cert.Kernel26Ideal.Gen.frame m ρ,
  SumOut.frame_reference,
  fun m ρ _ => Cert.Kernel27.Gen.frame m ρ,
  fun m ρ _ => Cert.Kernel27Ideal.Gen.frame m ρ,
  SumConv.frame_reference,
  fun m ρ _ => Cert.Kernel28.Gen.frame m ρ,
  fun m ρ _ => Cert.Kernel28Ideal.Gen.frame m ρ,
  S5Adj.frame_reference,
  trivial,
  Act.algebraic,
  trivial,
  Dwd.algebraic,
  trivial,
  Dwg.algebraic,
  trivial,
  Rms.algebraic,
  trivial,
  Up.algebraic,
  trivial,
  Down.algebraic,
  trivial,
  S5.algebraic,
  trivial,
  MixBwd.algebraic,
  trivial,
  DwOut.algebraic,
  trivial,
  DwIn.algebraic,
  trivial,
  InProjBwd.algebraic,
  trivial,
  InProj.algebraic,
  trivial,
  MixOut.algebraic,
  trivial,
  Loss.algebraic,
  trivial,
  AdamFfn.algebraic,
  trivial,
  AdamIn.algebraic,
  trivial,
  AdamGlu.algebraic,
  trivial,
  AdamOut.algebraic,
  trivial,
  AdamConv.algebraic,
  trivial,
  AdamSmall.algebraic,
  trivial,
  RmsFwd.algebraic,
  trivial,
  S5Disc.algebraic,
  trivial,
  SumFfn.algebraic,
  trivial,
  SumIn.algebraic,
  trivial,
  SumGlu.algebraic,
  trivial,
  SumOut.algebraic,
  trivial,
  SumConv.algebraic,
  trivial,
  S5Adj.algebraic⟩

end Cert.Proof

end
